-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_Scores [hPre_words_in_table : Cert.Pre_words_in_table.Facts] (m : (ℓ : Loc Cert.Scores.nD Cert.Scores.τ Cert.Scores.sig) → Buf (Elt Bits) ℓ) : Prop :=
  ∀ c : Dev Cert.Scores.nD,
    (Cert.Pre_words_in_table.fn (F := Bits) (m ((c.tc : Thread Cert.Scores.nD Cert.Scores.τ).loc Cert.Scores.main_arg0)) (m ((c.tc : Thread Cert.Scores.nD Cert.Scores.τ).loc Cert.Scores.main_arg1)) (m ((c.tc : Thread Cert.Scores.nD Cert.Scores.τ).loc Cert.Scores.main_arg2)) (m ((c.tc : Thread Cert.Scores.nD Cert.Scores.τ).loc Cert.Scores.main_arg3))) = (fun _ => 1#1)

def Pre_ScoresIdeal [hPre_words_in_table : Cert.Pre_words_in_table.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_words_in_table.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3))) = (fun _ => 1#1)

def Pre_ScoresRefIdeal (m : (ℓ : Loc Cert.ScoresRefIdeal.nD Cert.ScoresRefIdeal.τ Cert.ScoresRefIdeal.sig) → Buf (Elt Ideal) ℓ) : Prop :=
  True

def Pre_ScoresRefIdeal_words_in_table [hPre_words_in_table : Cert.Pre_words_in_table.Facts] (m : (ℓ : Loc Cert.ScoresRefIdeal.nD Cert.ScoresRefIdeal.τ Cert.ScoresRefIdeal.sig) → Buf (Elt Ideal) ℓ) : Prop :=
  ∀ c : Dev Cert.ScoresRefIdeal.nD,
    (Cert.Pre_words_in_table.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2)) (m ((c.tc : Thread Cert.ScoresRefIdeal.nD Cert.ScoresRefIdeal.τ).loc Cert.ScoresRefIdeal.main_arg3))) = (fun _ => 1#1)

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_Attn (m : (ℓ : Loc Cert.Attn.nD Cert.Attn.τ Cert.Attn.sig) → Buf (Elt Bits) ℓ) : Prop :=
  True

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_Scores [hScores : Cert.Scores.Facts] [hPre_words_in_table : Cert.Pre_words_in_table.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3))
      ∧ r.2.sem = fun _ => 0)

def quiescent_ScoresIdeal [hScoresIdeal : Cert.ScoresIdeal.Facts] [hPre_words_in_table : Cert.Pre_words_in_table.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2)
      ∧ r.2.mem ((c.tc : Thread Cert.ScoresRefIdeal.nD Cert.ScoresRefIdeal.τ).loc Cert.ScoresRefIdeal.main_arg3) = m ((c.tc : Thread Cert.ScoresRefIdeal.nD Cert.ScoresRefIdeal.τ).loc Cert.ScoresRefIdeal.main_arg3))
      ∧ r.2.sem = fun _ => 0)

def quiescent_ScoresRefIdeal_pre_words_in_table [hScoresRefIdeal : Cert.ScoresRefIdeal.Facts] [hPre_words_in_table : Cert.Pre_words_in_table.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal_words_in_table m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2)
      ∧ r.2.mem ((c.tc : Thread Cert.ScoresRefIdeal.nD Cert.ScoresRefIdeal.τ).loc Cert.ScoresRefIdeal.main_arg3) = m ((c.tc : Thread Cert.ScoresRefIdeal.nD Cert.ScoresRefIdeal.τ).loc Cert.ScoresRefIdeal.main_arg3))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3)
      ∧ r.2.mem ((c.tc : Thread Cert.Delta.nD Cert.Delta.τ).loc Cert.Delta.main_arg4) = m ((c.tc : Thread Cert.Delta.nD Cert.Delta.τ).loc Cert.Delta.main_arg4))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v9_0)) (v1 : (c : Dev Cert.MergeIdeal.nD) → Buf (Elt Ideal) ((c.tc : Thread Cert.MergeIdeal.nD Cert.MergeIdeal.τ).loc Cert.MergeIdeal.main_v9_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9_0) = v0 c
          ∧ r.2.mem ((c.tc : Thread Cert.MergeIdeal.nD Cert.MergeIdeal.τ).loc Cert.MergeIdeal.main_v9_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_v50) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v17) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v39_0)) (v1 : (c : Dev Cert.InProjIdeal.nD) → Buf (Elt Ideal) ((c.tc : Thread Cert.InProjIdeal.nD Cert.InProjIdeal.τ).loc Cert.InProjIdeal.main_v39_1)) (v2 : (c : Dev Cert.InProjIdeal.nD) → Buf (Elt Ideal) ((c.tc : Thread Cert.InProjIdeal.nD Cert.InProjIdeal.τ).loc Cert.InProjIdeal.main_v39_2)) (v3 : (c : Dev Cert.InProjIdeal.nD) → Buf (Elt Ideal) ((c.tc : Thread Cert.InProjIdeal.nD Cert.InProjIdeal.τ).loc Cert.InProjIdeal.main_v39_3)) (v4 : (c : Dev Cert.InProjIdeal.nD) → Buf (Elt Ideal) ((c.tc : Thread Cert.InProjIdeal.nD Cert.InProjIdeal.τ).loc Cert.InProjIdeal.main_v39_4)) (v5 : (c : Dev Cert.InProjIdeal.nD) → Buf (Elt Ideal) ((c.tc : Thread Cert.InProjIdeal.nD Cert.InProjIdeal.τ).loc Cert.InProjIdeal.main_v39_5)) (v6 : (c : Dev Cert.InProjIdeal.nD) → Buf (Elt Ideal) ((c.tc : Thread Cert.InProjIdeal.nD Cert.InProjIdeal.τ).loc Cert.InProjIdeal.main_v39_6)) (v7 : (c : Dev Cert.InProjIdeal.nD) → Buf (Elt Ideal) ((c.tc : Thread Cert.InProjIdeal.nD Cert.InProjIdeal.τ).loc Cert.InProjIdeal.main_v39_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v39_0) = v0 c
          ∧ r.2.mem ((c.tc : Thread Cert.InProjIdeal.nD Cert.InProjIdeal.τ).loc Cert.InProjIdeal.main_v39_1) = v1 c
          ∧ r.2.mem ((c.tc : Thread Cert.InProjIdeal.nD Cert.InProjIdeal.τ).loc Cert.InProjIdeal.main_v39_2) = v2 c
          ∧ r.2.mem ((c.tc : Thread Cert.InProjIdeal.nD Cert.InProjIdeal.τ).loc Cert.InProjIdeal.main_v39_3) = v3 c
          ∧ r.2.mem ((c.tc : Thread Cert.InProjIdeal.nD Cert.InProjIdeal.τ).loc Cert.InProjIdeal.main_v39_4) = v4 c
          ∧ r.2.mem ((c.tc : Thread Cert.InProjIdeal.nD Cert.InProjIdeal.τ).loc Cert.InProjIdeal.main_v39_5) = v5 c
          ∧ r.2.mem ((c.tc : Thread Cert.InProjIdeal.nD Cert.InProjIdeal.τ).loc Cert.InProjIdeal.main_v39_6) = v6 c
          ∧ r.2.mem ((c.tc : Thread Cert.InProjIdeal.nD Cert.InProjIdeal.τ).loc Cert.InProjIdeal.main_v39_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v188) = v0 c
          ∧ r.2.mem ((c.tc : Thread Cert.InProjRefIdeal.nD Cert.InProjRefIdeal.τ).loc Cert.InProjRefIdeal.main_v189) = v1 c
          ∧ r.2.mem ((c.tc : Thread Cert.InProjRefIdeal.nD Cert.InProjRefIdeal.τ).loc Cert.InProjRefIdeal.main_v190) = v2 c
          ∧ r.2.mem ((c.tc : Thread Cert.InProjRefIdeal.nD Cert.InProjRefIdeal.τ).loc Cert.InProjRefIdeal.main_v168) = v3 c
          ∧ r.2.mem ((c.tc : Thread Cert.InProjRefIdeal.nD Cert.InProjRefIdeal.τ).loc Cert.InProjRefIdeal.main_v191) = v4 c
          ∧ r.2.mem ((c.tc : Thread Cert.InProjRefIdeal.nD Cert.InProjRefIdeal.τ).loc Cert.InProjRefIdeal.main_v192) = v5 c
          ∧ r.2.mem ((c.tc : Thread Cert.InProjRefIdeal.nD Cert.InProjRefIdeal.τ).loc Cert.InProjRefIdeal.main_v193) = v6 c
          ∧ r.2.mem ((c.tc : Thread Cert.InProjRefIdeal.nD Cert.InProjRefIdeal.τ).loc Cert.InProjRefIdeal.main_v194) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Route_RouteIdeal : Prop :=
  True

def preserves_Scores_ScoresIdeal : Prop :=
  True

def algebraic_ScoresIdeal_ScoresRefIdeal [hScoresIdeal : Cert.ScoresIdeal.Facts] [hScoresRefIdeal : Cert.ScoresRefIdeal.Facts] [hPre_words_in_table : Cert.Pre_words_in_table.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)
      ∧ m' ((c.tc : Thread Cert.ScoresRefIdeal.nD Cert.ScoresRefIdeal.τ).loc Cert.ScoresRefIdeal.main_arg3) = m ((c.tc : Thread Cert.ScoresIdeal.nD Cert.ScoresIdeal.τ).loc Cert.ScoresIdeal.main_arg3)) →
    ∃ (v0 : (c : Dev Cert.ScoresIdeal.nD) → Buf (Elt Ideal) ((c.tc : Thread Cert.ScoresIdeal.nD Cert.ScoresIdeal.τ).loc Cert.ScoresIdeal.main_v18)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v18) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v20) = v0 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2)
          ∧ r.2.mem ((c.tc : Thread Cert.ScoresRefIdeal.nD Cert.ScoresRefIdeal.τ).loc Cert.ScoresRefIdeal.main_arg3) = m' ((c.tc : Thread Cert.ScoresRefIdeal.nD Cert.ScoresRefIdeal.τ).loc Cert.ScoresRefIdeal.main_arg3))

def preserves_Delta_DeltaIdeal : Prop :=
  True

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hFinal : Cert.Final.Facts) (hFinalIdeal : Cert.FinalIdeal.Facts) (hFinalRefIdeal : Cert.FinalRefIdeal.Facts) (hInProj : Cert.InProj.Facts) (hInProjIdeal : Cert.InProjIdeal.Facts) (hInProjRefIdeal : Cert.InProjRefIdeal.Facts) (hAda : Cert.Ada.Facts) (hAdaIdeal : Cert.AdaIdeal.Facts) (hAdaRefIdeal : Cert.AdaRefIdeal.Facts) (hRoute : Cert.Route.Facts) (hRouteIdeal : Cert.RouteIdeal.Facts) (hScores : Cert.Scores.Facts) (hScoresIdeal : Cert.ScoresIdeal.Facts) (hScoresRefIdeal : Cert.ScoresRefIdeal.Facts) (hDelta : Cert.Delta.Facts) (hDeltaIdeal : Cert.DeltaIdeal.Facts) (hAttn : Cert.Attn.Facts) (hPre_in_table : Cert.Pre_in_table.Facts) (hPre_words_in_table : Cert.Pre_words_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ quiescent_Merge (hMerge := hMerge)
    ∧ quiescent_MergeIdeal (hMergeIdeal := hMergeIdeal)
    ∧ quiescent_MergeRefIdeal (hMergeRefIdeal := hMergeRefIdeal)
    ∧ quiescent_Final (hFinal := hFinal)
    ∧ quiescent_FinalIdeal (hFinalIdeal := hFinalIdeal)
    ∧ quiescent_FinalRefIdeal (hFinalRefIdeal := hFinalRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ada (hAda := hAda)
    ∧ quiescent_AdaIdeal (hAdaIdeal := hAdaIdeal)
    ∧ quiescent_AdaRefIdeal (hAdaRefIdeal := hAdaRefIdeal)
    ∧ quiescent_Route (hRoute := hRoute)
    ∧ quiescent_RouteIdeal (hRouteIdeal := hRouteIdeal)
    ∧ quiescent_Scores (hScores := hScores) (hPre_words_in_table := hPre_words_in_table)
    ∧ quiescent_ScoresIdeal (hScoresIdeal := hScoresIdeal) (hPre_words_in_table := hPre_words_in_table)
    ∧ quiescent_ScoresRefIdeal (hScoresRefIdeal := hScoresRefIdeal)
    ∧ quiescent_ScoresRefIdeal_pre_words_in_table (hScoresRefIdeal := hScoresRefIdeal) (hPre_words_in_table := hPre_words_in_table)
    ∧ quiescent_Delta (hDelta := hDelta)
    ∧ quiescent_DeltaIdeal (hDeltaIdeal := hDeltaIdeal)
    ∧ quiescent_Attn (hAttn := hAttn)
    ∧ preserves_Kernel_KernelIdeal
    ∧ algebraic_KernelIdeal_ReferenceIdeal (hKernelIdeal := hKernelIdeal) (hReferenceIdeal := hReferenceIdeal) (hPre_in_table := hPre_in_table)
    ∧ preserves_Merge_MergeIdeal
    ∧ algebraic_MergeIdeal_MergeRefIdeal (hMergeIdeal := hMergeIdeal) (hMergeRefIdeal := hMergeRefIdeal)
    ∧ preserves_Final_FinalIdeal
    ∧ algebraic_FinalIdeal_FinalRefIdeal (hFinalIdeal := hFinalIdeal) (hFinalRefIdeal := hFinalRefIdeal)
    ∧ preserves_InProj_InProjIdeal
    ∧ algebraic_InProjIdeal_InProjRefIdeal (hInProjIdeal := hInProjIdeal) (hInProjRefIdeal := hInProjRefIdeal)
    ∧ preserves_Ada_AdaIdeal
    ∧ algebraic_AdaIdeal_AdaRefIdeal (hAdaIdeal := hAdaIdeal) (hAdaRefIdeal := hAdaRefIdeal)
    ∧ preserves_Route_RouteIdeal
    ∧ preserves_Scores_ScoresIdeal
    ∧ algebraic_ScoresIdeal_ScoresRefIdeal (hScoresIdeal := hScoresIdeal) (hScoresRefIdeal := hScoresRefIdeal) (hPre_words_in_table := hPre_words_in_table)
    ∧ preserves_Delta_DeltaIdeal
-- ==== Pre_in_table.lean ====
abbrev S32768x128 : Shape := ⟨2, ![32768, 128]⟩
abbrev S16384x1024 : Shape := ⟨2, ![16384, 1024]⟩
abbrev S_ : Shape := ⟨0, ![]⟩

class Facts : Prop where
  bcast_S_S32768x128 : S_.BroadcastsInDim S32768x128 (![] : Fin 0 → Fin S32768x128.rank)

variable [Facts]

def fn {F : FTy → Type} [FloatOps F] (main_arg0 : IVec S32768x128 32) (main_arg1 : FVec F S32768x128 .f32) (main_arg2 : IVec S16384x1024 16) : IVec S32768x128 1 :=
  let main_c : IVec S_ 32 := constantI S_ 32 0#32
  let main_v0 : IVec S32768x128 32 := broadcastInDim S32768x128 ![] bcast_S_S32768x128 main_c
  let main_v1 : IVec S32768x128 1 := cmpi .sge main_arg0 main_v0
  let main_c_0 : IVec S_ 32 := constantI S_ 32 65536#32
  let main_v2 : IVec S32768x128 32 := broadcastInDim S32768x128 ![] bcast_S_S32768x128 main_c_0
  let main_v3 : IVec S32768x128 1 := cmpi .slt main_arg0 main_v2
  let main_v4 : IVec S32768x128 1 := andi main_v1 main_v3
  let main_c_1 : IVec S_ 32 := constantI S_ 32 3#32
  let main_v5 : IVec S32768x128 32 := broadcastInDim S32768x128 ![] bcast_S_S32768x128 main_c_1
  let main_v6 : IVec S32768x128 32 := andi main_arg0 main_v5
  let main_c_2 : IVec S_ 32 := constantI S_ 32 0#32
  let main_v7 : IVec S32768x128 32 := broadcastInDim S32768x128 ![] bcast_S_S32768x128 main_c_2
  let main_v8 : IVec S32768x128 1 := cmpi .eq main_v6 main_v7
  let main_v9 : IVec S32768x128 1 := andi main_v4 main_v8
  main_v9
-- ==== Pre_words_in_table.lean ====
abbrev S32768x128 : Shape := ⟨2, ![32768, 128]⟩
abbrev S32768x1024 : Shape := ⟨2, ![32768, 1024]⟩
abbrev S16384x1024 : Shape := ⟨2, ![16384, 1024]⟩
abbrev S_ : Shape := ⟨0, ![]⟩

class Facts : Prop where
  bcast_S_S32768x128 : S_.BroadcastsInDim S32768x128 (![] : Fin 0 → Fin S32768x128.rank)

variable [Facts]

def fn {F : FTy → Type} [FloatOps F] (main_arg0 : IVec S32768x128 32) (main_arg1 : FVec F S32768x1024 .f32) (main_arg2 : FVec F S32768x128 .f32) (main_arg3 : IVec S16384x1024 16) : IVec S32768x128 1 :=
  let main_c : IVec S_ 32 := constantI S_ 32 0#32
  let main_v0 : IVec S32768x128 32 := broadcastInDim S32768x128 ![] bcast_S_S32768x128 main_c
  let main_v1 : IVec S32768x128 1 := cmpi .sge main_arg0 main_v0
  let main_c_0 : IVec S_ 32 := constantI S_ 32 65536#32
  let main_v2 : IVec S32768x128 32 := broadcastInDim S32768x128 ![] bcast_S_S32768x128 main_c_0
  let main_v3 : IVec S32768x128 1 := cmpi .slt main_arg0 main_v2
  let main_v4 : IVec S32768x128 1 := andi main_v1 main_v3
  let main_c_1 : IVec S_ 32 := constantI S_ 32 3#32
  let main_v5 : IVec S32768x128 32 := broadcastInDim S32768x128 ![] bcast_S_S32768x128 main_c_1
  let main_v6 : IVec S32768x128 32 := andi main_arg0 main_v5
  let main_c_2 : IVec S_ 32 := constantI S_ 32 0#32
  let main_v7 : IVec S32768x128 32 := broadcastInDim S32768x128 ![] bcast_S_S32768x128 main_c_2
  let main_v8 : IVec S32768x128 1 := cmpi .eq main_v6 main_v7
  let main_v9 : IVec S32768x128 1 := andi main_v4 main_v8
  main_v9
-- ==== Kernel.lean ====
abbrev S32768x128 : Shape := ⟨2, ![32768, 128]⟩
abbrev S16384x1024 : Shape := ⟨2, ![16384, 1024]⟩
abbrev S16384x512 : Shape := ⟨2, ![16384, 512]⟩
abbrev S_ : Shape := ⟨0, ![]⟩
abbrev S65536x128 : Shape := ⟨2, ![65536, 128]⟩
abbrev S32768x1024 : Shape := ⟨2, ![32768, 1024]⟩
abbrev S128x128 : Shape := ⟨2, ![128, 128]⟩
abbrev S128x1024 : Shape := ⟨2, ![128, 1024]⟩
abbrev S1x128 : Shape := ⟨2, ![1, 128]⟩
abbrev S4x128 : Shape := ⟨2, ![4, 128]⟩
abbrev S128 : Shape := ⟨1, ![128]⟩
abbrev S1 : Shape := ⟨1, ![1]⟩
abbrev S1x512 : Shape := ⟨2, ![1, 512]⟩

abbrev nBuf : Space → Nat
  | .hbm => 13
  | .vmem => 6
  | .smem => 2
  | _ => 0

abbrev bufTy : (tb : Table) → Fin (tcTables nBuf tb) → BufTy
  | .hbm, ⟨0, _⟩ => ⟨S32768x128, .i32⟩
  | .hbm, ⟨1, _⟩ => ⟨S32768x128, .f32⟩
  | .hbm, ⟨2, _⟩ => ⟨S16384x1024, .i16⟩
  | .hbm, ⟨3, _⟩ => ⟨S16384x1024, .i32⟩
  | .hbm, ⟨4, _⟩ => ⟨S16384x512, .i32⟩
  | .hbm, ⟨5, _⟩ => ⟨S16384x512, .i32⟩
  | .hbm, ⟨6, _⟩ => ⟨S_, .i32⟩
  | .hbm, ⟨7, _⟩ => ⟨S16384x512, .i32⟩
  | .hbm, ⟨8, _⟩ => ⟨S16384x512, .i32⟩
  | .hbm, ⟨9, _⟩ => ⟨S16384x512, .i32⟩
  | .hbm, ⟨10, _⟩ => ⟨S16384x512, .i32⟩
  | .hbm, ⟨11, _⟩ => ⟨S65536x128, .i32⟩
  | .hbm, ⟨12, _⟩ => ⟨S32768x1024, .f32⟩
  | .local _ .vmem, ⟨0, _⟩ => ⟨S128x128, .f32⟩
  | .local _ .vmem, ⟨1, _⟩ => ⟨S128x128, .f32⟩
  | .local _ .vmem, ⟨2, _⟩ => ⟨S65536x128, .i32⟩
  | .local _ .vmem, ⟨3, _⟩ => ⟨S128x1024, .f32⟩
  | .local _ .vmem, ⟨4, _⟩ => ⟨S128x1024, .f32⟩
  | .local _ .vmem, ⟨5, _⟩ => ⟨S128x128, .f32⟩
  | .local _ .smem, ⟨0, _⟩ => ⟨S128x128, .i32⟩
  | .local _ .smem, ⟨1, _⟩ => ⟨S128x128, .i32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32 : BitVec 32 := 0#32
  let c128_i32 : BitVec 32 := 128#32
  let v4 : BitVec 32 := Scalar.addi c0_i32 c128_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1_i32_2 : BitVec 32 := 1#32
  let v6 : BitVec 32 := Scalar.addi arg6 c1_i32_2
  let c127_i32 : BitVec 32 := 127#32
  let v7 : BitVec 32 := Scalar.minsi v6 c127_i32
  let v8 : Index := Scalar.indexCast v7
  let c0_3 : Index := 0#32
  ![v8.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_9 : BitVec 32 := 0#32
  ![arg6.toNat, 0]
def k0_mult1 (v22 : BitVec 32) : BitVec 32 :=
  v22

def k0_off3 (v22 : BitVec 32) : Fin 2 → Nat :=
  let v23 : BitVec 32 := v22
  let v24 : Index := Scalar.indexCast v23
  let c0_11 : Index := 0#32
  ![v24.toNat, 0]

def k0_chk1 (v22 : BitVec 32) : Prop :=
  (4 ∣ (k0_mult1 v22).toNat) ∧
  (∀ a, (k0_off3 v22) a + S4x128.size a ≤ S65536x128.size a)
theorem k0_mult1_dvd : ∀ (v22 : BitVec 32) (k0_hw1 : k0_chk1 v22), 4 ∣ (k0_mult1 v22).toNat := fun v22 k0_hw1 => k0_hw1.1
theorem k0_off3_inb : ∀ (v22 : BitVec 32) (k0_hw1 : k0_chk1 v22), ∀ a, (k0_off3 v22) a + S4x128.size a ≤ S65536x128.size a := fun v22 k0_hw1 => k0_hw1.2

def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_14 : BitVec 32 := 0#32
  ![arg6.toNat, 0]
def k0_mult2 (v42 : BitVec 32) : BitVec 32 :=
  v42

def k0_off5 (v42 : BitVec 32) : Fin 2 → Nat :=
  let v43 : BitVec 32 := v42
  let v44 : Index := Scalar.indexCast v43
  let c0_15 : Index := 0#32
  ![v44.toNat, 0]

def k0_chk2 (v42 : BitVec 32) : Prop :=
  (4 ∣ (k0_mult2 v42).toNat) ∧
  (∀ a, (k0_off5 v42) a + S4x128.size a ≤ S65536x128.size a)
theorem k0_mult2_dvd : ∀ (v42 : BitVec 32) (k0_hw2 : k0_chk2 v42), 4 ∣ (k0_mult2 v42).toNat := fun v42 k0_hw2 => k0_hw2.1
theorem k0_off5_inb : ∀ (v42 : BitVec 32) (k0_hw2 : k0_chk2 v42), ∀ a, (k0_off5 v42) a + S4x128.size a ≤ S65536x128.size a := fun v42 k0_hw2 => k0_hw2.2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_20 : BitVec 32 := 0#32
  ![arg6.toNat, 0]
def k0_mult3 (v62 : BitVec 32) : BitVec 32 :=
  v62

def k0_off7 (v62 : BitVec 32) : Fin 2 → Nat :=
  let v63 : BitVec 32 := v62
  let v64 : Index := Scalar.indexCast v63
  let c0_21 : Index := 0#32
  ![v64.toNat, 0]

def k0_chk3 (v62 : BitVec 32) : Prop :=
  (4 ∣ (k0_mult3 v62).toNat) ∧
  (∀ a, (k0_off7 v62) a + S4x128.size a ≤ S65536x128.size a)
theorem k0_mult3_dvd : ∀ (v62 : BitVec 32) (k0_hw3 : k0_chk3 v62), 4 ∣ (k0_mult3 v62).toNat := fun v62 k0_hw3 => k0_hw3.1
theorem k0_off7_inb : ∀ (v62 : BitVec 32) (k0_hw3 : k0_chk3 v62), ∀ a, (k0_off7 v62) a + S4x128.size a ≤ S65536x128.size a := fun v62 k0_hw3 => k0_hw3.2

def k0_off8 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_26 : BitVec 32 := 0#32
  ![arg6.toNat, 0]
def k0_mult4 (v82 : BitVec 32) : BitVec 32 :=
  v82

def k0_off9 (v82 : BitVec 32) : Fin 2 → Nat :=
  let v83 : BitVec 32 := v82
  let v84 : Index := Scalar.indexCast v83
  let c0_27 : Index := 0#32
  ![v84.toNat, 0]

def k0_chk4 (v82 : BitVec 32) : Prop :=
  (4 ∣ (k0_mult4 v82).toNat) ∧
  (∀ a, (k0_off9 v82) a + S4x128.size a ≤ S65536x128.size a)
theorem k0_mult4_dvd : ∀ (v82 : BitVec 32) (k0_hw4 : k0_chk4 v82), 4 ∣ (k0_mult4 v82).toNat := fun v82 k0_hw4 => k0_hw4.1
theorem k0_off9_inb : ∀ (v82 : BitVec 32) (k0_hw4 : k0_chk4 v82), ∀ a, (k0_off9 v82) a + S4x128.size a ≤ S65536x128.size a := fun v82 k0_hw4 => k0_hw4.2

def k0_off10 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_32 : BitVec 32 := 0#32
  ![arg6.toNat, 0]
def k0_mult5 (v102 : BitVec 32) : BitVec 32 :=
  v102

def k0_off11 (v102 : BitVec 32) : Fin 2 → Nat :=
  let v103 : BitVec 32 := v102
  let v104 : Index := Scalar.indexCast v103
  let c0_33 : Index := 0#32
  ![v104.toNat, 0]

def k0_chk5 (v102 : BitVec 32) : Prop :=
  (4 ∣ (k0_mult5 v102).toNat) ∧
  (∀ a, (k0_off11 v102) a + S4x128.size a ≤ S65536x128.size a)
theorem k0_mult5_dvd : ∀ (v102 : BitVec 32) (k0_hw5 : k0_chk5 v102), 4 ∣ (k0_mult5 v102).toNat := fun v102 k0_hw5 => k0_hw5.1
theorem k0_off11_inb : ∀ (v102 : BitVec 32) (k0_hw5 : k0_chk5 v102), ∀ a, (k0_off11 v102) a + S4x128.size a ≤ S65536x128.size a := fun v102 k0_hw5 => k0_hw5.2

def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_38 : BitVec 32 := 0#32
  ![arg6.toNat, 0]
def k0_mult6 (v122 : BitVec 32) : BitVec 32 :=
  v122

def k0_off13 (v122 : BitVec 32) : Fin 2 → Nat :=
  let v123 : BitVec 32 := v122
  let v124 : Index := Scalar.indexCast v123
  let c0_39 : Index := 0#32
  ![v124.toNat, 0]

def k0_chk6 (v122 : BitVec 32) : Prop :=
  (4 ∣ (k0_mult6 v122).toNat) ∧
  (∀ a, (k0_off13 v122) a + S4x128.size a ≤ S65536x128.size a)
theorem k0_mult6_dvd : ∀ (v122 : BitVec 32) (k0_hw6 : k0_chk6 v122), 4 ∣ (k0_mult6 v122).toNat := fun v122 k0_hw6 => k0_hw6.1
theorem k0_off13_inb : ∀ (v122 : BitVec 32) (k0_hw6 : k0_chk6 v122), ∀ a, (k0_off13 v122) a + S4x128.size a ≤ S65536x128.size a := fun v122 k0_hw6 => k0_hw6.2

def k0_off14 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_44 : BitVec 32 := 0#32
  ![arg6.toNat, 0]
def k0_mult7 (v142 : BitVec 32) : BitVec 32 :=
  v142

def k0_off15 (v142 : BitVec 32) : Fin 2 → Nat :=
  let v143 : BitVec 32 := v142
  let v144 : Index := Scalar.indexCast v143
  let c0_45 : Index := 0#32
  ![v144.toNat, 0]

def k0_chk7 (v142 : BitVec 32) : Prop :=
  (4 ∣ (k0_mult7 v142).toNat) ∧
  (∀ a, (k0_off15 v142) a + S4x128.size a ≤ S65536x128.size a)
theorem k0_mult7_dvd : ∀ (v142 : BitVec 32) (k0_hw7 : k0_chk7 v142), 4 ∣ (k0_mult7 v142).toNat := fun v142 k0_hw7 => k0_hw7.1
theorem k0_off15_inb : ∀ (v142 : BitVec 32) (k0_hw7 : k0_chk7 v142), ∀ a, (k0_off15 v142) a + S4x128.size a ≤ S65536x128.size a := fun v142 k0_hw7 => k0_hw7.2

def k0_off16 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_50 : BitVec 32 := 0#32
  ![arg6.toNat, 0]
def k0_mult8 (v162 : BitVec 32) : BitVec 32 :=
  v162

def k0_off17 (v162 : BitVec 32) : Fin 2 → Nat :=
  let v163 : BitVec 32 := v162
  let v164 : Index := Scalar.indexCast v163
  let c0_51 : Index := 0#32
  ![v164.toNat, 0]

def k0_chk8 (v162 : BitVec 32) : Prop :=
  (4 ∣ (k0_mult8 v162).toNat) ∧
  (∀ a, (k0_off17 v162) a + S4x128.size a ≤ S65536x128.size a)
theorem k0_mult8_dvd : ∀ (v162 : BitVec 32) (k0_hw8 : k0_chk8 v162), 4 ∣ (k0_mult8 v162).toNat := fun v162 k0_hw8 => k0_hw8.1
theorem k0_off17_inb : ∀ (v162 : BitVec 32) (k0_hw8 : k0_chk8 v162), ∀ a, (k0_off17 v162) a + S4x128.size a ≤ S65536x128.size a := fun v162 k0_hw8 => k0_hw8.2

def k0_off18 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_56 : BitVec 32 := 0#32
  ![arg6.toNat, 0]
def k0_mult9 (v182 : BitVec 32) : BitVec 32 :=
  v182

def k0_off19 (v182 : BitVec 32) : Fin 2 → Nat :=
  let v183 : BitVec 32 := v182
  let v184 : Index := Scalar.indexCast v183
  let c0_57 : Index := 0#32
  ![v184.toNat, 0]

def k0_chk9 (v182 : BitVec 32) : Prop :=
  (4 ∣ (k0_mult9 v182).toNat) ∧
  (∀ a, (k0_off19 v182) a + S4x128.size a ≤ S65536x128.size a)
theorem k0_mult9_dvd : ∀ (v182 : BitVec 32) (k0_hw9 : k0_chk9 v182), 4 ∣ (k0_mult9 v182).toNat := fun v182 k0_hw9 => k0_hw9.1
theorem k0_off19_inb : ∀ (v182 : BitVec 32) (k0_hw9 : k0_chk9 v182), ∀ a, (k0_off19 v182) a + S4x128.size a ≤ S65536x128.size a := fun v182 k0_hw9 => k0_hw9.2

def k0_off20 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_62 : BitVec 32 := 0#32
  ![arg6.toNat, 0]
def k0_mult10 (v202 : BitVec 32) : BitVec 32 :=
  v202

def k0_off21 (v202 : BitVec 32) : Fin 2 → Nat :=
  let v203 : BitVec 32 := v202
  let v204 : Index := Scalar.indexCast v203
  let c0_63 : Index := 0#32
  ![v204.toNat, 0]

def k0_chk10 (v202 : BitVec 32) : Prop :=
  (4 ∣ (k0_mult10 v202).toNat) ∧
  (∀ a, (k0_off21 v202) a + S4x128.size a ≤ S65536x128.size a)
theorem k0_mult10_dvd : ∀ (v202 : BitVec 32) (k0_hw10 : k0_chk10 v202), 4 ∣ (k0_mult10 v202).toNat := fun v202 k0_hw10 => k0_hw10.1
theorem k0_off21_inb : ∀ (v202 : BitVec 32) (k0_hw10 : k0_chk10 v202), ∀ a, (k0_off21 v202) a + S4x128.size a ≤ S65536x128.size a := fun v202 k0_hw10 => k0_hw10.2

def k0_off22 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_68 : BitVec 32 := 0#32
  ![arg6.toNat, 0]
def k0_mult11 (v222 : BitVec 32) : BitVec 32 :=
  v222

def k0_off23 (v222 : BitVec 32) : Fin 2 → Nat :=
  let v223 : BitVec 32 := v222
  let v224 : Index := Scalar.indexCast v223
  let c0_69 : Index := 0#32
  ![v224.toNat, 0]

def k0_chk11 (v222 : BitVec 32) : Prop :=
  (4 ∣ (k0_mult11 v222).toNat) ∧
  (∀ a, (k0_off23 v222) a + S4x128.size a ≤ S65536x128.size a)
theorem k0_mult11_dvd : ∀ (v222 : BitVec 32) (k0_hw11 : k0_chk11 v222), 4 ∣ (k0_mult11 v222).toNat := fun v222 k0_hw11 => k0_hw11.1
theorem k0_off23_inb : ∀ (v222 : BitVec 32) (k0_hw11 : k0_chk11 v222), ∀ a, (k0_off23 v222) a + S4x128.size a ≤ S65536x128.size a := fun v222 k0_hw11 => k0_hw11.2

def k0_off24 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_74 : BitVec 32 := 0#32
  ![arg6.toNat, 0]
def k0_mult12 (v242 : BitVec 32) : BitVec 32 :=
  v242

def k0_off25 (v242 : BitVec 32) : Fin 2 → Nat :=
  let v243 : BitVec 32 := v242
  let v244 : Index := Scalar.indexCast v243
  let c0_75 : Index := 0#32
  ![v244.toNat, 0]

def k0_chk12 (v242 : BitVec 32) : Prop :=
  (4 ∣ (k0_mult12 v242).toNat) ∧
  (∀ a, (k0_off25 v242) a + S4x128.size a ≤ S65536x128.size a)
theorem k0_mult12_dvd : ∀ (v242 : BitVec 32) (k0_hw12 : k0_chk12 v242), 4 ∣ (k0_mult12 v242).toNat := fun v242 k0_hw12 => k0_hw12.1
theorem k0_off25_inb : ∀ (v242 : BitVec 32) (k0_hw12 : k0_chk12 v242), ∀ a, (k0_off25 v242) a + S4x128.size a ≤ S65536x128.size a := fun v242 k0_hw12 => k0_hw12.2

def k0_off26 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_80 : BitVec 32 := 0#32
  ![arg6.toNat, 0]
def k0_mult13 (v262 : BitVec 32) : BitVec 32 :=
  v262

def k0_off27 (v262 : BitVec 32) : Fin 2 → Nat :=
  let v263 : BitVec 32 := v262
  let v264 : Index := Scalar.indexCast v263
  let c0_81 : Index := 0#32
  ![v264.toNat, 0]

def k0_chk13 (v262 : BitVec 32) : Prop :=
  (4 ∣ (k0_mult13 v262).toNat) ∧
  (∀ a, (k0_off27 v262) a + S4x128.size a ≤ S65536x128.size a)
theorem k0_mult13_dvd : ∀ (v262 : BitVec 32) (k0_hw13 : k0_chk13 v262), 4 ∣ (k0_mult13 v262).toNat := fun v262 k0_hw13 => k0_hw13.1
theorem k0_off27_inb : ∀ (v262 : BitVec 32) (k0_hw13 : k0_chk13 v262), ∀ a, (k0_off27 v262) a + S4x128.size a ≤ S65536x128.size a := fun v262 k0_hw13 => k0_hw13.2

def k0_off28 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_86 : BitVec 32 := 0#32
  ![arg6.toNat, 0]
def k0_mult14 (v282 : BitVec 32) : BitVec 32 :=
  v282

def k0_off29 (v282 : BitVec 32) : Fin 2 → Nat :=
  let v283 : BitVec 32 := v282
  let v284 : Index := Scalar.indexCast v283
  let c0_87 : Index := 0#32
  ![v284.toNat, 0]

def k0_chk14 (v282 : BitVec 32) : Prop :=
  (4 ∣ (k0_mult14 v282).toNat) ∧
  (∀ a, (k0_off29 v282) a + S4x128.size a ≤ S65536x128.size a)
theorem k0_mult14_dvd : ∀ (v282 : BitVec 32) (k0_hw14 : k0_chk14 v282), 4 ∣ (k0_mult14 v282).toNat := fun v282 k0_hw14 => k0_hw14.1
theorem k0_off29_inb : ∀ (v282 : BitVec 32) (k0_hw14 : k0_chk14 v282), ∀ a, (k0_off29 v282) a + S4x128.size a ≤ S65536x128.size a := fun v282 k0_hw14 => k0_hw14.2

def k0_off30 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_92 : BitVec 32 := 0#32
  ![arg6.toNat, 0]
def k0_mult15 (v302 : BitVec 32) : BitVec 32 :=
  v302

def k0_off31 (v302 : BitVec 32) : Fin 2 → Nat :=
  let v303 : BitVec 32 := v302
  let v304 : Index := Scalar.indexCast v303
  let c0_93 : Index := 0#32
  ![v304.toNat, 0]

def k0_chk15 (v302 : BitVec 32) : Prop :=
  (4 ∣ (k0_mult15 v302).toNat) ∧
  (∀ a, (k0_off31 v302) a + S4x128.size a ≤ S65536x128.size a)
theorem k0_mult15_dvd : ∀ (v302 : BitVec 32) (k0_hw15 : k0_chk15 v302), 4 ∣ (k0_mult15 v302).toNat := fun v302 k0_hw15 => k0_hw15.1
theorem k0_off31_inb : ∀ (v302 : BitVec 32) (k0_hw15 : k0_chk15 v302), ∀ a, (k0_off31 v302) a + S4x128.size a ≤ S65536x128.size a := fun v302 k0_hw15 => k0_hw15.2

def k0_off32 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_98 : BitVec 32 := 0#32
  ![arg6.toNat, 0]
def k0_mult16 (v322 : BitVec 32) : BitVec 32 :=
  v322

def k0_off33 (v322 : BitVec 32) : Fin 2 → Nat :=
  let v323 : BitVec 32 := v322
  let v324 : Index := Scalar.indexCast v323
  let c0_99 : Index := 0#32
  ![v324.toNat, 0]

def k0_chk16 (v322 : BitVec 32) : Prop :=
  (4 ∣ (k0_mult16 v322).toNat) ∧
  (∀ a, (k0_off33 v322) a + S4x128.size a ≤ S65536x128.size a)
theorem k0_mult16_dvd : ∀ (v322 : BitVec 32) (k0_hw16 : k0_chk16 v322), 4 ∣ (k0_mult16 v322).toNat := fun v322 k0_hw16 => k0_hw16.1
theorem k0_off33_inb : ∀ (v322 : BitVec 32) (k0_hw16 : k0_chk16 v322), ∀ a, (k0_off33 v322) a + S4x128.size a ≤ S65536x128.size a := fun v322 k0_hw16 => k0_hw16.2

def k0_off34 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_104 : BitVec 32 := 0#32
  ![arg6.toNat, 0]
def k0_mult17 (v342 : BitVec 32) : BitVec 32 :=
  v342

def k0_off35 (v342 : BitVec 32) : Fin 2 → Nat :=
  let v343 : BitVec 32 := v342
  let v344 : Index := Scalar.indexCast v343
  let c0_105 : Index := 0#32
  ![v344.toNat, 0]

def k0_chk17 (v342 : BitVec 32) : Prop :=
  (4 ∣ (k0_mult17 v342).toNat) ∧
  (∀ a, (k0_off35 v342) a + S4x128.size a ≤ S65536x128.size a)
theorem k0_mult17_dvd : ∀ (v342 : BitVec 32) (k0_hw17 : k0_chk17 v342), 4 ∣ (k0_mult17 v342).toNat := fun v342 k0_hw17 => k0_hw17.1
theorem k0_off35_inb : ∀ (v342 : BitVec 32) (k0_hw17 : k0_chk17 v342), ∀ a, (k0_off35 v342) a + S4x128.size a ≤ S65536x128.size a := fun v342 k0_hw17 => k0_hw17.2

def k0_off36 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_110 : BitVec 32 := 0#32
  ![arg6.toNat, 0]
def k0_mult18 (v362 : BitVec 32) : BitVec 32 :=
  v362

def k0_off37 (v362 : BitVec 32) : Fin 2 → Nat :=
  let v363 : BitVec 32 := v362
  let v364 : Index := Scalar.indexCast v363
  let c0_111 : Index := 0#32
  ![v364.toNat, 0]

def k0_chk18 (v362 : BitVec 32) : Prop :=
  (4 ∣ (k0_mult18 v362).toNat) ∧
  (∀ a, (k0_off37 v362) a + S4x128.size a ≤ S65536x128.size a)
theorem k0_mult18_dvd : ∀ (v362 : BitVec 32) (k0_hw18 : k0_chk18 v362), 4 ∣ (k0_mult18 v362).toNat := fun v362 k0_hw18 => k0_hw18.1
theorem k0_off37_inb : ∀ (v362 : BitVec 32) (k0_hw18 : k0_chk18 v362), ∀ a, (k0_off37 v362) a + S4x128.size a ≤ S65536x128.size a := fun v362 k0_hw18 => k0_hw18.2

def k0_off38 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_116 : BitVec 32 := 0#32
  ![arg6.toNat, 0]
def k0_mult19 (v382 : BitVec 32) : BitVec 32 :=
  v382

def k0_off39 (v382 : BitVec 32) : Fin 2 → Nat :=
  let v383 : BitVec 32 := v382
  let v384 : Index := Scalar.indexCast v383
  let c0_117 : Index := 0#32
  ![v384.toNat, 0]

def k0_chk19 (v382 : BitVec 32) : Prop :=
  (4 ∣ (k0_mult19 v382).toNat) ∧
  (∀ a, (k0_off39 v382) a + S4x128.size a ≤ S65536x128.size a)
theorem k0_mult19_dvd : ∀ (v382 : BitVec 32) (k0_hw19 : k0_chk19 v382), 4 ∣ (k0_mult19 v382).toNat := fun v382 k0_hw19 => k0_hw19.1
theorem k0_off39_inb : ∀ (v382 : BitVec 32) (k0_hw19 : k0_chk19 v382), ∀ a, (k0_off39 v382) a + S4x128.size a ≤ S65536x128.size a := fun v382 k0_hw19 => k0_hw19.2

def k0_off40 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_122 : BitVec 32 := 0#32
  ![arg6.toNat, 0]
def k0_mult20 (v402 : BitVec 32) : BitVec 32 :=
  v402

def k0_off41 (v402 : BitVec 32) : Fin 2 → Nat :=
  let v403 : BitVec 32 := v402
  let v404 : Index := Scalar.indexCast v403
  let c0_123 : Index := 0#32
  ![v404.toNat, 0]

def k0_chk20 (v402 : BitVec 32) : Prop :=
  (4 ∣ (k0_mult20 v402).toNat) ∧
  (∀ a, (k0_off41 v402) a + S4x128.size a ≤ S65536x128.size a)
theorem k0_mult20_dvd : ∀ (v402 : BitVec 32) (k0_hw20 : k0_chk20 v402), 4 ∣ (k0_mult20 v402).toNat := fun v402 k0_hw20 => k0_hw20.1
theorem k0_off41_inb : ∀ (v402 : BitVec 32) (k0_hw20 : k0_chk20 v402), ∀ a, (k0_off41 v402) a + S4x128.size a ≤ S65536x128.size a := fun v402 k0_hw20 => k0_hw20.2

def k0_off42 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_128 : BitVec 32 := 0#32
  ![arg6.toNat, 0]
def k0_mult21 (v422 : BitVec 32) : BitVec 32 :=
  v422

def k0_off43 (v422 : BitVec 32) : Fin 2 → Nat :=
  let v423 : BitVec 32 := v422
  let v424 : Index := Scalar.indexCast v423
  let c0_129 : Index := 0#32
  ![v424.toNat, 0]

def k0_chk21 (v422 : BitVec 32) : Prop :=
  (4 ∣ (k0_mult21 v422).toNat) ∧
  (∀ a, (k0_off43 v422) a + S4x128.size a ≤ S65536x128.size a)
theorem k0_mult21_dvd : ∀ (v422 : BitVec 32) (k0_hw21 : k0_chk21 v422), 4 ∣ (k0_mult21 v422).toNat := fun v422 k0_hw21 => k0_hw21.1
theorem k0_off43_inb : ∀ (v422 : BitVec 32) (k0_hw21 : k0_chk21 v422), ∀ a, (k0_off43 v422) a + S4x128.size a ≤ S65536x128.size a := fun v422 k0_hw21 => k0_hw21.2

def k0_off44 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_134 : BitVec 32 := 0#32
  ![arg6.toNat, 0]
def k0_mult22 (v442 : BitVec 32) : BitVec 32 :=
  v442

def k0_off45 (v442 : BitVec 32) : Fin 2 → Nat :=
  let v443 : BitVec 32 := v442
  let v444 : Index := Scalar.indexCast v443
  let c0_135 : Index := 0#32
  ![v444.toNat, 0]

def k0_chk22 (v442 : BitVec 32) : Prop :=
  (4 ∣ (k0_mult22 v442).toNat) ∧
  (∀ a, (k0_off45 v442) a + S4x128.size a ≤ S65536x128.size a)
theorem k0_mult22_dvd : ∀ (v442 : BitVec 32) (k0_hw22 : k0_chk22 v442), 4 ∣ (k0_mult22 v442).toNat := fun v442 k0_hw22 => k0_hw22.1
theorem k0_off45_inb : ∀ (v442 : BitVec 32) (k0_hw22 : k0_chk22 v442), ∀ a, (k0_off45 v442) a + S4x128.size a ≤ S65536x128.size a := fun v442 k0_hw22 => k0_hw22.2

def k0_off46 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_140 : BitVec 32 := 0#32
  ![arg6.toNat, 0]
def k0_mult23 (v462 : BitVec 32) : BitVec 32 :=
  v462

def k0_off47 (v462 : BitVec 32) : Fin 2 → Nat :=
  let v463 : BitVec 32 := v462
  let v464 : Index := Scalar.indexCast v463
  let c0_141 : Index := 0#32
  ![v464.toNat, 0]

def k0_chk23 (v462 : BitVec 32) : Prop :=
  (4 ∣ (k0_mult23 v462).toNat) ∧
  (∀ a, (k0_off47 v462) a + S4x128.size a ≤ S65536x128.size a)
theorem k0_mult23_dvd : ∀ (v462 : BitVec 32) (k0_hw23 : k0_chk23 v462), 4 ∣ (k0_mult23 v462).toNat := fun v462 k0_hw23 => k0_hw23.1
theorem k0_off47_inb : ∀ (v462 : BitVec 32) (k0_hw23 : k0_chk23 v462), ∀ a, (k0_off47 v462) a + S4x128.size a ≤ S65536x128.size a := fun v462 k0_hw23 => k0_hw23.2

def k0_off48 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_146 : BitVec 32 := 0#32
  ![arg6.toNat, 0]
def k0_mult24 (v482 : BitVec 32) : BitVec 32 :=
  v482

def k0_off49 (v482 : BitVec 32) : Fin 2 → Nat :=
  let v483 : BitVec 32 := v482
  let v484 : Index := Scalar.indexCast v483
  let c0_147 : Index := 0#32
  ![v484.toNat, 0]

def k0_chk24 (v482 : BitVec 32) : Prop :=
  (4 ∣ (k0_mult24 v482).toNat) ∧
  (∀ a, (k0_off49 v482) a + S4x128.size a ≤ S65536x128.size a)
theorem k0_mult24_dvd : ∀ (v482 : BitVec 32) (k0_hw24 : k0_chk24 v482), 4 ∣ (k0_mult24 v482).toNat := fun v482 k0_hw24 => k0_hw24.1
theorem k0_off49_inb : ∀ (v482 : BitVec 32) (k0_hw24 : k0_chk24 v482), ∀ a, (k0_off49 v482) a + S4x128.size a ≤ S65536x128.size a := fun v482 k0_hw24 => k0_hw24.2

def k0_off50 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_152 : BitVec 32 := 0#32
  ![arg6.toNat, 0]
def k0_mult25 (v502 : BitVec 32) : BitVec 32 :=
  v502

def k0_off51 (v502 : BitVec 32) : Fin 2 → Nat :=
  let v503 : BitVec 32 := v502
  let v504 : Index := Scalar.indexCast v503
  let c0_153 : Index := 0#32
  ![v504.toNat, 0]

def k0_chk25 (v502 : BitVec 32) : Prop :=
  (4 ∣ (k0_mult25 v502).toNat) ∧
  (∀ a, (k0_off51 v502) a + S4x128.size a ≤ S65536x128.size a)
theorem k0_mult25_dvd : ∀ (v502 : BitVec 32) (k0_hw25 : k0_chk25 v502), 4 ∣ (k0_mult25 v502).toNat := fun v502 k0_hw25 => k0_hw25.1
theorem k0_off51_inb : ∀ (v502 : BitVec 32) (k0_hw25 : k0_chk25 v502), ∀ a, (k0_off51 v502) a + S4x128.size a ≤ S65536x128.size a := fun v502 k0_hw25 => k0_hw25.2

def k0_off52 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_158 : BitVec 32 := 0#32
  ![arg6.toNat, 0]
def k0_mult26 (v522 : BitVec 32) : BitVec 32 :=
  v522

def k0_off53 (v522 : BitVec 32) : Fin 2 → Nat :=
  let v523 : BitVec 32 := v522
  let v524 : Index := Scalar.indexCast v523
  let c0_159 : Index := 0#32
  ![v524.toNat, 0]

def k0_chk26 (v522 : BitVec 32) : Prop :=
  (4 ∣ (k0_mult26 v522).toNat) ∧
  (∀ a, (k0_off53 v522) a + S4x128.size a ≤ S65536x128.size a)
theorem k0_mult26_dvd : ∀ (v522 : BitVec 32) (k0_hw26 : k0_chk26 v522), 4 ∣ (k0_mult26 v522).toNat := fun v522 k0_hw26 => k0_hw26.1
theorem k0_off53_inb : ∀ (v522 : BitVec 32) (k0_hw26 : k0_chk26 v522), ∀ a, (k0_off53 v522) a + S4x128.size a ≤ S65536x128.size a := fun v522 k0_hw26 => k0_hw26.2

def k0_off54 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_164 : BitVec 32 := 0#32
  ![arg6.toNat, 0]
def k0_mult27 (v542 : BitVec 32) : BitVec 32 :=
  v542

def k0_off55 (v542 : BitVec 32) : Fin 2 → Nat :=
  let v543 : BitVec 32 := v542
  let v544 : Index := Scalar.indexCast v543
  let c0_165 : Index := 0#32
  ![v544.toNat, 0]

def k0_chk27 (v542 : BitVec 32) : Prop :=
  (4 ∣ (k0_mult27 v542).toNat) ∧
  (∀ a, (k0_off55 v542) a + S4x128.size a ≤ S65536x128.size a)
theorem k0_mult27_dvd : ∀ (v542 : BitVec 32) (k0_hw27 : k0_chk27 v542), 4 ∣ (k0_mult27 v542).toNat := fun v542 k0_hw27 => k0_hw27.1
theorem k0_off55_inb : ∀ (v542 : BitVec 32) (k0_hw27 : k0_chk27 v542), ∀ a, (k0_off55 v542) a + S4x128.size a ≤ S65536x128.size a := fun v542 k0_hw27 => k0_hw27.2

def k0_off56 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_170 : BitVec 32 := 0#32
  ![arg6.toNat, 0]
def k0_mult28 (v562 : BitVec 32) : BitVec 32 :=
  v562

def k0_off57 (v562 : BitVec 32) : Fin 2 → Nat :=
  let v563 : BitVec 32 := v562
  let v564 : Index := Scalar.indexCast v563
  let c0_171 : Index := 0#32
  ![v564.toNat, 0]

def k0_chk28 (v562 : BitVec 32) : Prop :=
  (4 ∣ (k0_mult28 v562).toNat) ∧
  (∀ a, (k0_off57 v562) a + S4x128.size a ≤ S65536x128.size a)
theorem k0_mult28_dvd : ∀ (v562 : BitVec 32) (k0_hw28 : k0_chk28 v562), 4 ∣ (k0_mult28 v562).toNat := fun v562 k0_hw28 => k0_hw28.1
theorem k0_off57_inb : ∀ (v562 : BitVec 32) (k0_hw28 : k0_chk28 v562), ∀ a, (k0_off57 v562) a + S4x128.size a ≤ S65536x128.size a := fun v562 k0_hw28 => k0_hw28.2

def k0_off58 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_176 : BitVec 32 := 0#32
  ![arg6.toNat, 0]
def k0_mult29 (v582 : BitVec 32) : BitVec 32 :=
  v582

def k0_off59 (v582 : BitVec 32) : Fin 2 → Nat :=
  let v583 : BitVec 32 := v582
  let v584 : Index := Scalar.indexCast v583
  let c0_177 : Index := 0#32
  ![v584.toNat, 0]

def k0_chk29 (v582 : BitVec 32) : Prop :=
  (4 ∣ (k0_mult29 v582).toNat) ∧
  (∀ a, (k0_off59 v582) a + S4x128.size a ≤ S65536x128.size a)
theorem k0_mult29_dvd : ∀ (v582 : BitVec 32) (k0_hw29 : k0_chk29 v582), 4 ∣ (k0_mult29 v582).toNat := fun v582 k0_hw29 => k0_hw29.1
theorem k0_off59_inb : ∀ (v582 : BitVec 32) (k0_hw29 : k0_chk29 v582), ∀ a, (k0_off59 v582) a + S4x128.size a ≤ S65536x128.size a := fun v582 k0_hw29 => k0_hw29.2

def k0_off60 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_182 : BitVec 32 := 0#32
  ![arg6.toNat, 0]
def k0_mult30 (v602 : BitVec 32) : BitVec 32 :=
  v602

def k0_off61 (v602 : BitVec 32) : Fin 2 → Nat :=
  let v603 : BitVec 32 := v602
  let v604 : Index := Scalar.indexCast v603
  let c0_183 : Index := 0#32
  ![v604.toNat, 0]

def k0_chk30 (v602 : BitVec 32) : Prop :=
  (4 ∣ (k0_mult30 v602).toNat) ∧
  (∀ a, (k0_off61 v602) a + S4x128.size a ≤ S65536x128.size a)
theorem k0_mult30_dvd : ∀ (v602 : BitVec 32) (k0_hw30 : k0_chk30 v602), 4 ∣ (k0_mult30 v602).toNat := fun v602 k0_hw30 => k0_hw30.1
theorem k0_off61_inb : ∀ (v602 : BitVec 32) (k0_hw30 : k0_chk30 v602), ∀ a, (k0_off61 v602) a + S4x128.size a ≤ S65536x128.size a := fun v602 k0_hw30 => k0_hw30.2

def k0_off62 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_188 : BitVec 32 := 0#32
  ![arg6.toNat, 0]
def k0_mult31 (v622 : BitVec 32) : BitVec 32 :=
  v622

def k0_off63 (v622 : BitVec 32) : Fin 2 → Nat :=
  let v623 : BitVec 32 := v622
  let v624 : Index := Scalar.indexCast v623
  let c0_189 : Index := 0#32
  ![v624.toNat, 0]

def k0_chk31 (v622 : BitVec 32) : Prop :=
  (4 ∣ (k0_mult31 v622).toNat) ∧
  (∀ a, (k0_off63 v622) a + S4x128.size a ≤ S65536x128.size a)
theorem k0_mult31_dvd : ∀ (v622 : BitVec 32) (k0_hw31 : k0_chk31 v622), 4 ∣ (k0_mult31 v622).toNat := fun v622 k0_hw31 => k0_hw31.1
theorem k0_off63_inb : ∀ (v622 : BitVec 32) (k0_hw31 : k0_chk31 v622), ∀ a, (k0_off63 v622) a + S4x128.size a ≤ S65536x128.size a := fun v622 k0_hw31 => k0_hw31.2

def k0_off64 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_194 : BitVec 32 := 0#32
  ![arg6.toNat, 0]
def k0_mult32 (v642 : BitVec 32) : BitVec 32 :=
  v642

def k0_off65 (v642 : BitVec 32) : Fin 2 → Nat :=
  let v643 : BitVec 32 := v642
  let v644 : Index := Scalar.indexCast v643
  let c0_195 : Index := 0#32
  ![v644.toNat, 0]

def k0_chk32 (v642 : BitVec 32) : Prop :=
  (4 ∣ (k0_mult32 v642).toNat) ∧
  (∀ a, (k0_off65 v642) a + S4x128.size a ≤ S65536x128.size a)
theorem k0_mult32_dvd : ∀ (v642 : BitVec 32) (k0_hw32 : k0_chk32 v642), 4 ∣ (k0_mult32 v642).toNat := fun v642 k0_hw32 => k0_hw32.1
theorem k0_off65_inb : ∀ (v642 : BitVec 32) (k0_hw32 : k0_chk32 v642), ∀ a, (k0_off65 v642) a + S4x128.size a ≤ S65536x128.size a := fun v642 k0_hw32 => k0_hw32.2

def k0_off66 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_200 : BitVec 32 := 0#32
  ![arg6.toNat, 0]
def k0_mult33 (v662 : BitVec 32) : BitVec 32 :=
  v662

def k0_off67 (v662 : BitVec 32) : Fin 2 → Nat :=
  let v663 : BitVec 32 := v662
  let v664 : Index := Scalar.indexCast v663
  let c0_201 : Index := 0#32
  ![v664.toNat, 0]

def k0_chk33 (v662 : BitVec 32) : Prop :=
  (4 ∣ (k0_mult33 v662).toNat) ∧
  (∀ a, (k0_off67 v662) a + S4x128.size a ≤ S65536x128.size a)
theorem k0_mult33_dvd : ∀ (v662 : BitVec 32) (k0_hw33 : k0_chk33 v662), 4 ∣ (k0_mult33 v662).toNat := fun v662 k0_hw33 => k0_hw33.1
theorem k0_off67_inb : ∀ (v662 : BitVec 32) (k0_hw33 : k0_chk33 v662), ∀ a, (k0_off67 v662) a + S4x128.size a ≤ S65536x128.size a := fun v662 k0_hw33 => k0_hw33.2

def k0_off68 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_206 : BitVec 32 := 0#32
  ![arg6.toNat, 0]
def k0_mult34 (v682 : BitVec 32) : BitVec 32 :=
  v682

def k0_off69 (v682 : BitVec 32) : Fin 2 → Nat :=
  let v683 : BitVec 32 := v682
  let v684 : Index := Scalar.indexCast v683
  let c0_207 : Index := 0#32
  ![v684.toNat, 0]

def k0_chk34 (v682 : BitVec 32) : Prop :=
  (4 ∣ (k0_mult34 v682).toNat) ∧
  (∀ a, (k0_off69 v682) a + S4x128.size a ≤ S65536x128.size a)
theorem k0_mult34_dvd : ∀ (v682 : BitVec 32) (k0_hw34 : k0_chk34 v682), 4 ∣ (k0_mult34 v682).toNat := fun v682 k0_hw34 => k0_hw34.1
theorem k0_off69_inb : ∀ (v682 : BitVec 32) (k0_hw34 : k0_chk34 v682), ∀ a, (k0_off69 v682) a + S4x128.size a ≤ S65536x128.size a := fun v682 k0_hw34 => k0_hw34.2

def k0_off70 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_212 : BitVec 32 := 0#32
  ![arg6.toNat, 0]
def k0_mult35 (v702 : BitVec 32) : BitVec 32 :=
  v702

def k0_off71 (v702 : BitVec 32) : Fin 2 → Nat :=
  let v703 : BitVec 32 := v702
  let v704 : Index := Scalar.indexCast v703
  let c0_213 : Index := 0#32
  ![v704.toNat, 0]

def k0_chk35 (v702 : BitVec 32) : Prop :=
  (4 ∣ (k0_mult35 v702).toNat) ∧
  (∀ a, (k0_off71 v702) a + S4x128.size a ≤ S65536x128.size a)
theorem k0_mult35_dvd : ∀ (v702 : BitVec 32) (k0_hw35 : k0_chk35 v702), 4 ∣ (k0_mult35 v702).toNat := fun v702 k0_hw35 => k0_hw35.1
theorem k0_off71_inb : ∀ (v702 : BitVec 32) (k0_hw35 : k0_chk35 v702), ∀ a, (k0_off71 v702) a + S4x128.size a ≤ S65536x128.size a := fun v702 k0_hw35 => k0_hw35.2

def k0_off72 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_218 : BitVec 32 := 0#32
  ![arg6.toNat, 0]
def k0_mult36 (v722 : BitVec 32) : BitVec 32 :=
  v722

def k0_off73 (v722 : BitVec 32) : Fin 2 → Nat :=
  let v723 : BitVec 32 := v722
  let v724 : Index := Scalar.indexCast v723
  let c0_219 : Index := 0#32
  ![v724.toNat, 0]

def k0_chk36 (v722 : BitVec 32) : Prop :=
  (4 ∣ (k0_mult36 v722).toNat) ∧
  (∀ a, (k0_off73 v722) a + S4x128.size a ≤ S65536x128.size a)
theorem k0_mult36_dvd : ∀ (v722 : BitVec 32) (k0_hw36 : k0_chk36 v722), 4 ∣ (k0_mult36 v722).toNat := fun v722 k0_hw36 => k0_hw36.1
theorem k0_off73_inb : ∀ (v722 : BitVec 32) (k0_hw36 : k0_chk36 v722), ∀ a, (k0_off73 v722) a + S4x128.size a ≤ S65536x128.size a := fun v722 k0_hw36 => k0_hw36.2

def k0_off74 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_224 : BitVec 32 := 0#32
  ![arg6.toNat, 0]
def k0_mult37 (v742 : BitVec 32) : BitVec 32 :=
  v742

def k0_off75 (v742 : BitVec 32) : Fin 2 → Nat :=
  let v743 : BitVec 32 := v742
  let v744 : Index := Scalar.indexCast v743
  let c0_225 : Index := 0#32
  ![v744.toNat, 0]

def k0_chk37 (v742 : BitVec 32) : Prop :=
  (4 ∣ (k0_mult37 v742).toNat) ∧
  (∀ a, (k0_off75 v742) a + S4x128.size a ≤ S65536x128.size a)
theorem k0_mult37_dvd : ∀ (v742 : BitVec 32) (k0_hw37 : k0_chk37 v742), 4 ∣ (k0_mult37 v742).toNat := fun v742 k0_hw37 => k0_hw37.1
theorem k0_off75_inb : ∀ (v742 : BitVec 32) (k0_hw37 : k0_chk37 v742), ∀ a, (k0_off75 v742) a + S4x128.size a ≤ S65536x128.size a := fun v742 k0_hw37 => k0_hw37.2

def k0_off76 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_230 : BitVec 32 := 0#32
  ![arg6.toNat, 0]
def k0_mult38 (v762 : BitVec 32) : BitVec 32 :=
  v762

def k0_off77 (v762 : BitVec 32) : Fin 2 → Nat :=
  let v763 : BitVec 32 := v762
  let v764 : Index := Scalar.indexCast v763
  let c0_231 : Index := 0#32
  ![v764.toNat, 0]

def k0_chk38 (v762 : BitVec 32) : Prop :=
  (4 ∣ (k0_mult38 v762).toNat) ∧
  (∀ a, (k0_off77 v762) a + S4x128.size a ≤ S65536x128.size a)
theorem k0_mult38_dvd : ∀ (v762 : BitVec 32) (k0_hw38 : k0_chk38 v762), 4 ∣ (k0_mult38 v762).toNat := fun v762 k0_hw38 => k0_hw38.1
theorem k0_off77_inb : ∀ (v762 : BitVec 32) (k0_hw38 : k0_chk38 v762), ∀ a, (k0_off77 v762) a + S4x128.size a ≤ S65536x128.size a := fun v762 k0_hw38 => k0_hw38.2

def k0_off78 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_236 : BitVec 32 := 0#32
  ![arg6.toNat, 0]
def k0_mult39 (v782 : BitVec 32) : BitVec 32 :=
  v782

def k0_off79 (v782 : BitVec 32) : Fin 2 → Nat :=
  let v783 : BitVec 32 := v782
  let v784 : Index := Scalar.indexCast v783
  let c0_237 : Index := 0#32
  ![v784.toNat, 0]

def k0_chk39 (v782 : BitVec 32) : Prop :=
  (4 ∣ (k0_mult39 v782).toNat) ∧
  (∀ a, (k0_off79 v782) a + S4x128.size a ≤ S65536x128.size a)
theorem k0_mult39_dvd : ∀ (v782 : BitVec 32) (k0_hw39 : k0_chk39 v782), 4 ∣ (k0_mult39 v782).toNat := fun v782 k0_hw39 => k0_hw39.1
theorem k0_off79_inb : ∀ (v782 : BitVec 32) (k0_hw39 : k0_chk39 v782), ∀ a, (k0_off79 v782) a + S4x128.size a ≤ S65536x128.size a := fun v782 k0_hw39 => k0_hw39.2

def k0_off80 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_242 : BitVec 32 := 0#32
  ![arg6.toNat, 0]
def k0_mult40 (v802 : BitVec 32) : BitVec 32 :=
  v802

def k0_off81 (v802 : BitVec 32) : Fin 2 → Nat :=
  let v803 : BitVec 32 := v802
  let v804 : Index := Scalar.indexCast v803
  let c0_243 : Index := 0#32
  ![v804.toNat, 0]

def k0_chk40 (v802 : BitVec 32) : Prop :=
  (4 ∣ (k0_mult40 v802).toNat) ∧
  (∀ a, (k0_off81 v802) a + S4x128.size a ≤ S65536x128.size a)
theorem k0_mult40_dvd : ∀ (v802 : BitVec 32) (k0_hw40 : k0_chk40 v802), 4 ∣ (k0_mult40 v802).toNat := fun v802 k0_hw40 => k0_hw40.1
theorem k0_off81_inb : ∀ (v802 : BitVec 32) (k0_hw40 : k0_chk40 v802), ∀ a, (k0_off81 v802) a + S4x128.size a ≤ S65536x128.size a := fun v802 k0_hw40 => k0_hw40.2

def k0_off82 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_248 : BitVec 32 := 0#32
  ![arg6.toNat, 0]
def k0_mult41 (v822 : BitVec 32) : BitVec 32 :=
  v822

def k0_off83 (v822 : BitVec 32) : Fin 2 → Nat :=
  let v823 : BitVec 32 := v822
  let v824 : Index := Scalar.indexCast v823
  let c0_249 : Index := 0#32
  ![v824.toNat, 0]

def k0_chk41 (v822 : BitVec 32) : Prop :=
  (4 ∣ (k0_mult41 v822).toNat) ∧
  (∀ a, (k0_off83 v822) a + S4x128.size a ≤ S65536x128.size a)
theorem k0_mult41_dvd : ∀ (v822 : BitVec 32) (k0_hw41 : k0_chk41 v822), 4 ∣ (k0_mult41 v822).toNat := fun v822 k0_hw41 => k0_hw41.1
theorem k0_off83_inb : ∀ (v822 : BitVec 32) (k0_hw41 : k0_chk41 v822), ∀ a, (k0_off83 v822) a + S4x128.size a ≤ S65536x128.size a := fun v822 k0_hw41 => k0_hw41.2

def k0_off84 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_254 : BitVec 32 := 0#32
  ![arg6.toNat, 0]
def k0_mult42 (v842 : BitVec 32) : BitVec 32 :=
  v842

def k0_off85 (v842 : BitVec 32) : Fin 2 → Nat :=
  let v843 : BitVec 32 := v842
  let v844 : Index := Scalar.indexCast v843
  let c0_255 : Index := 0#32
  ![v844.toNat, 0]

def k0_chk42 (v842 : BitVec 32) : Prop :=
  (4 ∣ (k0_mult42 v842).toNat) ∧
  (∀ a, (k0_off85 v842) a + S4x128.size a ≤ S65536x128.size a)
theorem k0_mult42_dvd : ∀ (v842 : BitVec 32) (k0_hw42 : k0_chk42 v842), 4 ∣ (k0_mult42 v842).toNat := fun v842 k0_hw42 => k0_hw42.1
theorem k0_off85_inb : ∀ (v842 : BitVec 32) (k0_hw42 : k0_chk42 v842), ∀ a, (k0_off85 v842) a + S4x128.size a ≤ S65536x128.size a := fun v842 k0_hw42 => k0_hw42.2

def k0_off86 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_260 : BitVec 32 := 0#32
  ![arg6.toNat, 0]
def k0_mult43 (v862 : BitVec 32) : BitVec 32 :=
  v862

def k0_off87 (v862 : BitVec 32) : Fin 2 → Nat :=
  let v863 : BitVec 32 := v862
  let v864 : Index := Scalar.indexCast v863
  let c0_261 : Index := 0#32
  ![v864.toNat, 0]

def k0_chk43 (v862 : BitVec 32) : Prop :=
  (4 ∣ (k0_mult43 v862).toNat) ∧
  (∀ a, (k0_off87 v862) a + S4x128.size a ≤ S65536x128.size a)
theorem k0_mult43_dvd : ∀ (v862 : BitVec 32) (k0_hw43 : k0_chk43 v862), 4 ∣ (k0_mult43 v862).toNat := fun v862 k0_hw43 => k0_hw43.1
theorem k0_off87_inb : ∀ (v862 : BitVec 32) (k0_hw43 : k0_chk43 v862), ∀ a, (k0_off87 v862) a + S4x128.size a ≤ S65536x128.size a := fun v862 k0_hw43 => k0_hw43.2

def k0_off88 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_266 : BitVec 32 := 0#32
  ![arg6.toNat, 0]
def k0_mult44 (v882 : BitVec 32) : BitVec 32 :=
  v882

def k0_off89 (v882 : BitVec 32) : Fin 2 → Nat :=
  let v883 : BitVec 32 := v882
  let v884 : Index := Scalar.indexCast v883
  let c0_267 : Index := 0#32
  ![v884.toNat, 0]

def k0_chk44 (v882 : BitVec 32) : Prop :=
  (4 ∣ (k0_mult44 v882).toNat) ∧
  (∀ a, (k0_off89 v882) a + S4x128.size a ≤ S65536x128.size a)
theorem k0_mult44_dvd : ∀ (v882 : BitVec 32) (k0_hw44 : k0_chk44 v882), 4 ∣ (k0_mult44 v882).toNat := fun v882 k0_hw44 => k0_hw44.1
theorem k0_off89_inb : ∀ (v882 : BitVec 32) (k0_hw44 : k0_chk44 v882), ∀ a, (k0_off89 v882) a + S4x128.size a ≤ S65536x128.size a := fun v882 k0_hw44 => k0_hw44.2

def k0_off90 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_272 : BitVec 32 := 0#32
  ![arg6.toNat, 0]
def k0_mult45 (v902 : BitVec 32) : BitVec 32 :=
  v902

def k0_off91 (v902 : BitVec 32) : Fin 2 → Nat :=
  let v903 : BitVec 32 := v902
  let v904 : Index := Scalar.indexCast v903
  let c0_273 : Index := 0#32
  ![v904.toNat, 0]

def k0_chk45 (v902 : BitVec 32) : Prop :=
  (4 ∣ (k0_mult45 v902).toNat) ∧
  (∀ a, (k0_off91 v902) a + S4x128.size a ≤ S65536x128.size a)
theorem k0_mult45_dvd : ∀ (v902 : BitVec 32) (k0_hw45 : k0_chk45 v902), 4 ∣ (k0_mult45 v902).toNat := fun v902 k0_hw45 => k0_hw45.1
theorem k0_off91_inb : ∀ (v902 : BitVec 32) (k0_hw45 : k0_chk45 v902), ∀ a, (k0_off91 v902) a + S4x128.size a ≤ S65536x128.size a := fun v902 k0_hw45 => k0_hw45.2

def k0_off92 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_278 : BitVec 32 := 0#32
  ![arg6.toNat, 0]
def k0_mult46 (v922 : BitVec 32) : BitVec 32 :=
  v922

def k0_off93 (v922 : BitVec 32) : Fin 2 → Nat :=
  let v923 : BitVec 32 := v922
  let v924 : Index := Scalar.indexCast v923
  let c0_279 : Index := 0#32
  ![v924.toNat, 0]

def k0_chk46 (v922 : BitVec 32) : Prop :=
  (4 ∣ (k0_mult46 v922).toNat) ∧
  (∀ a, (k0_off93 v922) a + S4x128.size a ≤ S65536x128.size a)
theorem k0_mult46_dvd : ∀ (v922 : BitVec 32) (k0_hw46 : k0_chk46 v922), 4 ∣ (k0_mult46 v922).toNat := fun v922 k0_hw46 => k0_hw46.1
theorem k0_off93_inb : ∀ (v922 : BitVec 32) (k0_hw46 : k0_chk46 v922), ∀ a, (k0_off93 v922) a + S4x128.size a ≤ S65536x128.size a := fun v922 k0_hw46 => k0_hw46.2

def k0_off94 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_284 : BitVec 32 := 0#32
  ![arg6.toNat, 0]
def k0_mult47 (v942 : BitVec 32) : BitVec 32 :=
  v942

def k0_off95 (v942 : BitVec 32) : Fin 2 → Nat :=
  let v943 : BitVec 32 := v942
  let v944 : Index := Scalar.indexCast v943
  let c0_285 : Index := 0#32
  ![v944.toNat, 0]

def k0_chk47 (v942 : BitVec 32) : Prop :=
  (4 ∣ (k0_mult47 v942).toNat) ∧
  (∀ a, (k0_off95 v942) a + S4x128.size a ≤ S65536x128.size a)
theorem k0_mult47_dvd : ∀ (v942 : BitVec 32) (k0_hw47 : k0_chk47 v942), 4 ∣ (k0_mult47 v942).toNat := fun v942 k0_hw47 => k0_hw47.1
theorem k0_off95_inb : ∀ (v942 : BitVec 32) (k0_hw47 : k0_chk47 v942), ∀ a, (k0_off95 v942) a + S4x128.size a ≤ S65536x128.size a := fun v942 k0_hw47 => k0_hw47.2

def k0_off96 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_290 : BitVec 32 := 0#32
  ![arg6.toNat, 0]
def k0_mult48 (v962 : BitVec 32) : BitVec 32 :=
  v962

def k0_off97 (v962 : BitVec 32) : Fin 2 → Nat :=
  let v963 : BitVec 32 := v962
  let v964 : Index := Scalar.indexCast v963
  let c0_291 : Index := 0#32
  ![v964.toNat, 0]

def k0_chk48 (v962 : BitVec 32) : Prop :=
  (4 ∣ (k0_mult48 v962).toNat) ∧
  (∀ a, (k0_off97 v962) a + S4x128.size a ≤ S65536x128.size a)
theorem k0_mult48_dvd : ∀ (v962 : BitVec 32) (k0_hw48 : k0_chk48 v962), 4 ∣ (k0_mult48 v962).toNat := fun v962 k0_hw48 => k0_hw48.1
theorem k0_off97_inb : ∀ (v962 : BitVec 32) (k0_hw48 : k0_chk48 v962), ∀ a, (k0_off97 v962) a + S4x128.size a ≤ S65536x128.size a := fun v962 k0_hw48 => k0_hw48.2

def k0_off98 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_296 : BitVec 32 := 0#32
  ![arg6.toNat, 0]
def k0_mult49 (v982 : BitVec 32) : BitVec 32 :=
  v982

def k0_off99 (v982 : BitVec 32) : Fin 2 → Nat :=
  let v983 : BitVec 32 := v982
  let v984 : Index := Scalar.indexCast v983
  let c0_297 : Index := 0#32
  ![v984.toNat, 0]

def k0_chk49 (v982 : BitVec 32) : Prop :=
  (4 ∣ (k0_mult49 v982).toNat) ∧
  (∀ a, (k0_off99 v982) a + S4x128.size a ≤ S65536x128.size a)
theorem k0_mult49_dvd : ∀ (v982 : BitVec 32) (k0_hw49 : k0_chk49 v982), 4 ∣ (k0_mult49 v982).toNat := fun v982 k0_hw49 => k0_hw49.1
theorem k0_off99_inb : ∀ (v982 : BitVec 32) (k0_hw49 : k0_chk49 v982), ∀ a, (k0_off99 v982) a + S4x128.size a ≤ S65536x128.size a := fun v982 k0_hw49 => k0_hw49.2

def k0_off100 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_302 : BitVec 32 := 0#32
  ![arg6.toNat, 0]
def k0_mult50 (v1002 : BitVec 32) : BitVec 32 :=
  v1002

def k0_off101 (v1002 : BitVec 32) : Fin 2 → Nat :=
  let v1003 : BitVec 32 := v1002
  let v1004 : Index := Scalar.indexCast v1003
  let c0_303 : Index := 0#32
  ![v1004.toNat, 0]

def k0_chk50 (v1002 : BitVec 32) : Prop :=
  (4 ∣ (k0_mult50 v1002).toNat) ∧
  (∀ a, (k0_off101 v1002) a + S4x128.size a ≤ S65536x128.size a)
theorem k0_mult50_dvd : ∀ (v1002 : BitVec 32) (k0_hw50 : k0_chk50 v1002), 4 ∣ (k0_mult50 v1002).toNat := fun v1002 k0_hw50 => k0_hw50.1
theorem k0_off101_inb : ∀ (v1002 : BitVec 32) (k0_hw50 : k0_chk50 v1002), ∀ a, (k0_off101 v1002) a + S4x128.size a ≤ S65536x128.size a := fun v1002 k0_hw50 => k0_hw50.2

def k0_off102 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_308 : BitVec 32 := 0#32
  ![arg6.toNat, 0]
def k0_mult51 (v1022 : BitVec 32) : BitVec 32 :=
  v1022

def k0_off103 (v1022 : BitVec 32) : Fin 2 → Nat :=
  let v1023 : BitVec 32 := v1022
  let v1024 : Index := Scalar.indexCast v1023
  let c0_309 : Index := 0#32
  ![v1024.toNat, 0]

def k0_chk51 (v1022 : BitVec 32) : Prop :=
  (4 ∣ (k0_mult51 v1022).toNat) ∧
  (∀ a, (k0_off103 v1022) a + S4x128.size a ≤ S65536x128.size a)
theorem k0_mult51_dvd : ∀ (v1022 : BitVec 32) (k0_hw51 : k0_chk51 v1022), 4 ∣ (k0_mult51 v1022).toNat := fun v1022 k0_hw51 => k0_hw51.1
theorem k0_off103_inb : ∀ (v1022 : BitVec 32) (k0_hw51 : k0_chk51 v1022), ∀ a, (k0_off103 v1022) a + S4x128.size a ≤ S65536x128.size a := fun v1022 k0_hw51 => k0_hw51.2

def k0_off104 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_314 : BitVec 32 := 0#32
  ![arg6.toNat, 0]
def k0_mult52 (v1042 : BitVec 32) : BitVec 32 :=
  v1042

def k0_off105 (v1042 : BitVec 32) : Fin 2 → Nat :=
  let v1043 : BitVec 32 := v1042
  let v1044 : Index := Scalar.indexCast v1043
  let c0_315 : Index := 0#32
  ![v1044.toNat, 0]

def k0_chk52 (v1042 : BitVec 32) : Prop :=
  (4 ∣ (k0_mult52 v1042).toNat) ∧
  (∀ a, (k0_off105 v1042) a + S4x128.size a ≤ S65536x128.size a)
theorem k0_mult52_dvd : ∀ (v1042 : BitVec 32) (k0_hw52 : k0_chk52 v1042), 4 ∣ (k0_mult52 v1042).toNat := fun v1042 k0_hw52 => k0_hw52.1
theorem k0_off105_inb : ∀ (v1042 : BitVec 32) (k0_hw52 : k0_chk52 v1042), ∀ a, (k0_off105 v1042) a + S4x128.size a ≤ S65536x128.size a := fun v1042 k0_hw52 => k0_hw52.2

def k0_off106 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_320 : BitVec 32 := 0#32
  ![arg6.toNat, 0]
def k0_mult53 (v1062 : BitVec 32) : BitVec 32 :=
  v1062

def k0_off107 (v1062 : BitVec 32) : Fin 2 → Nat :=
  let v1063 : BitVec 32 := v1062
  let v1064 : Index := Scalar.indexCast v1063
  let c0_321 : Index := 0#32
  ![v1064.toNat, 0]

def k0_chk53 (v1062 : BitVec 32) : Prop :=
  (4 ∣ (k0_mult53 v1062).toNat) ∧
  (∀ a, (k0_off107 v1062) a + S4x128.size a ≤ S65536x128.size a)
theorem k0_mult53_dvd : ∀ (v1062 : BitVec 32) (k0_hw53 : k0_chk53 v1062), 4 ∣ (k0_mult53 v1062).toNat := fun v1062 k0_hw53 => k0_hw53.1
theorem k0_off107_inb : ∀ (v1062 : BitVec 32) (k0_hw53 : k0_chk53 v1062), ∀ a, (k0_off107 v1062) a + S4x128.size a ≤ S65536x128.size a := fun v1062 k0_hw53 => k0_hw53.2

def k0_off108 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_326 : BitVec 32 := 0#32
  ![arg6.toNat, 0]
def k0_mult54 (v1082 : BitVec 32) : BitVec 32 :=
  v1082

def k0_off109 (v1082 : BitVec 32) : Fin 2 → Nat :=
  let v1083 : BitVec 32 := v1082
  let v1084 : Index := Scalar.indexCast v1083
  let c0_327 : Index := 0#32
  ![v1084.toNat, 0]

def k0_chk54 (v1082 : BitVec 32) : Prop :=
  (4 ∣ (k0_mult54 v1082).toNat) ∧
  (∀ a, (k0_off109 v1082) a + S4x128.size a ≤ S65536x128.size a)
theorem k0_mult54_dvd : ∀ (v1082 : BitVec 32) (k0_hw54 : k0_chk54 v1082), 4 ∣ (k0_mult54 v1082).toNat := fun v1082 k0_hw54 => k0_hw54.1
theorem k0_off109_inb : ∀ (v1082 : BitVec 32) (k0_hw54 : k0_chk54 v1082), ∀ a, (k0_off109 v1082) a + S4x128.size a ≤ S65536x128.size a := fun v1082 k0_hw54 => k0_hw54.2

def k0_off110 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_332 : BitVec 32 := 0#32
  ![arg6.toNat, 0]
def k0_mult55 (v1102 : BitVec 32) : BitVec 32 :=
  v1102

def k0_off111 (v1102 : BitVec 32) : Fin 2 → Nat :=
  let v1103 : BitVec 32 := v1102
  let v1104 : Index := Scalar.indexCast v1103
  let c0_333 : Index := 0#32
  ![v1104.toNat, 0]

def k0_chk55 (v1102 : BitVec 32) : Prop :=
  (4 ∣ (k0_mult55 v1102).toNat) ∧
  (∀ a, (k0_off111 v1102) a + S4x128.size a ≤ S65536x128.size a)
theorem k0_mult55_dvd : ∀ (v1102 : BitVec 32) (k0_hw55 : k0_chk55 v1102), 4 ∣ (k0_mult55 v1102).toNat := fun v1102 k0_hw55 => k0_hw55.1
theorem k0_off111_inb : ∀ (v1102 : BitVec 32) (k0_hw55 : k0_chk55 v1102), ∀ a, (k0_off111 v1102) a + S4x128.size a ≤ S65536x128.size a := fun v1102 k0_hw55 => k0_hw55.2

def k0_off112 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_338 : BitVec 32 := 0#32
  ![arg6.toNat, 0]
def k0_mult56 (v1122 : BitVec 32) : BitVec 32 :=
  v1122

def k0_off113 (v1122 : BitVec 32) : Fin 2 → Nat :=
  let v1123 : BitVec 32 := v1122
  let v1124 : Index := Scalar.indexCast v1123
  let c0_339 : Index := 0#32
  ![v1124.toNat, 0]

def k0_chk56 (v1122 : BitVec 32) : Prop :=
  (4 ∣ (k0_mult56 v1122).toNat) ∧
  (∀ a, (k0_off113 v1122) a + S4x128.size a ≤ S65536x128.size a)
theorem k0_mult56_dvd : ∀ (v1122 : BitVec 32) (k0_hw56 : k0_chk56 v1122), 4 ∣ (k0_mult56 v1122).toNat := fun v1122 k0_hw56 => k0_hw56.1
theorem k0_off113_inb : ∀ (v1122 : BitVec 32) (k0_hw56 : k0_chk56 v1122), ∀ a, (k0_off113 v1122) a + S4x128.size a ≤ S65536x128.size a := fun v1122 k0_hw56 => k0_hw56.2

def k0_off114 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_344 : BitVec 32 := 0#32
  ![arg6.toNat, 0]
def k0_mult57 (v1142 : BitVec 32) : BitVec 32 :=
  v1142

def k0_off115 (v1142 : BitVec 32) : Fin 2 → Nat :=
  let v1143 : BitVec 32 := v1142
  let v1144 : Index := Scalar.indexCast v1143
  let c0_345 : Index := 0#32
  ![v1144.toNat, 0]

def k0_chk57 (v1142 : BitVec 32) : Prop :=
  (4 ∣ (k0_mult57 v1142).toNat) ∧
  (∀ a, (k0_off115 v1142) a + S4x128.size a ≤ S65536x128.size a)
theorem k0_mult57_dvd : ∀ (v1142 : BitVec 32) (k0_hw57 : k0_chk57 v1142), 4 ∣ (k0_mult57 v1142).toNat := fun v1142 k0_hw57 => k0_hw57.1
theorem k0_off115_inb : ∀ (v1142 : BitVec 32) (k0_hw57 : k0_chk57 v1142), ∀ a, (k0_off115 v1142) a + S4x128.size a ≤ S65536x128.size a := fun v1142 k0_hw57 => k0_hw57.2

def k0_off116 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_350 : BitVec 32 := 0#32
  ![arg6.toNat, 0]
def k0_mult58 (v1162 : BitVec 32) : BitVec 32 :=
  v1162

def k0_off117 (v1162 : BitVec 32) : Fin 2 → Nat :=
  let v1163 : BitVec 32 := v1162
  let v1164 : Index := Scalar.indexCast v1163
  let c0_351 : Index := 0#32
  ![v1164.toNat, 0]

def k0_chk58 (v1162 : BitVec 32) : Prop :=
  (4 ∣ (k0_mult58 v1162).toNat) ∧
  (∀ a, (k0_off117 v1162) a + S4x128.size a ≤ S65536x128.size a)
theorem k0_mult58_dvd : ∀ (v1162 : BitVec 32) (k0_hw58 : k0_chk58 v1162), 4 ∣ (k0_mult58 v1162).toNat := fun v1162 k0_hw58 => k0_hw58.1
theorem k0_off117_inb : ∀ (v1162 : BitVec 32) (k0_hw58 : k0_chk58 v1162), ∀ a, (k0_off117 v1162) a + S4x128.size a ≤ S65536x128.size a := fun v1162 k0_hw58 => k0_hw58.2

def k0_off118 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_356 : BitVec 32 := 0#32
  ![arg6.toNat, 0]
def k0_mult59 (v1182 : BitVec 32) : BitVec 32 :=
  v1182

def k0_off119 (v1182 : BitVec 32) : Fin 2 → Nat :=
  let v1183 : BitVec 32 := v1182
  let v1184 : Index := Scalar.indexCast v1183
  let c0_357 : Index := 0#32
  ![v1184.toNat, 0]

def k0_chk59 (v1182 : BitVec 32) : Prop :=
  (4 ∣ (k0_mult59 v1182).toNat) ∧
  (∀ a, (k0_off119 v1182) a + S4x128.size a ≤ S65536x128.size a)
theorem k0_mult59_dvd : ∀ (v1182 : BitVec 32) (k0_hw59 : k0_chk59 v1182), 4 ∣ (k0_mult59 v1182).toNat := fun v1182 k0_hw59 => k0_hw59.1
theorem k0_off119_inb : ∀ (v1182 : BitVec 32) (k0_hw59 : k0_chk59 v1182), ∀ a, (k0_off119 v1182) a + S4x128.size a ≤ S65536x128.size a := fun v1182 k0_hw59 => k0_hw59.2

def k0_off120 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_362 : BitVec 32 := 0#32
  ![arg6.toNat, 0]
def k0_mult60 (v1202 : BitVec 32) : BitVec 32 :=
  v1202

def k0_off121 (v1202 : BitVec 32) : Fin 2 → Nat :=
  let v1203 : BitVec 32 := v1202
  let v1204 : Index := Scalar.indexCast v1203
  let c0_363 : Index := 0#32
  ![v1204.toNat, 0]

def k0_chk60 (v1202 : BitVec 32) : Prop :=
  (4 ∣ (k0_mult60 v1202).toNat) ∧
  (∀ a, (k0_off121 v1202) a + S4x128.size a ≤ S65536x128.size a)
theorem k0_mult60_dvd : ∀ (v1202 : BitVec 32) (k0_hw60 : k0_chk60 v1202), 4 ∣ (k0_mult60 v1202).toNat := fun v1202 k0_hw60 => k0_hw60.1
theorem k0_off121_inb : ∀ (v1202 : BitVec 32) (k0_hw60 : k0_chk60 v1202), ∀ a, (k0_off121 v1202) a + S4x128.size a ≤ S65536x128.size a := fun v1202 k0_hw60 => k0_hw60.2

def k0_off122 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_368 : BitVec 32 := 0#32
  ![arg6.toNat, 0]
def k0_mult61 (v1222 : BitVec 32) : BitVec 32 :=
  v1222

def k0_off123 (v1222 : BitVec 32) : Fin 2 → Nat :=
  let v1223 : BitVec 32 := v1222
  let v1224 : Index := Scalar.indexCast v1223
  let c0_369 : Index := 0#32
  ![v1224.toNat, 0]

def k0_chk61 (v1222 : BitVec 32) : Prop :=
  (4 ∣ (k0_mult61 v1222).toNat) ∧
  (∀ a, (k0_off123 v1222) a + S4x128.size a ≤ S65536x128.size a)
theorem k0_mult61_dvd : ∀ (v1222 : BitVec 32) (k0_hw61 : k0_chk61 v1222), 4 ∣ (k0_mult61 v1222).toNat := fun v1222 k0_hw61 => k0_hw61.1
theorem k0_off123_inb : ∀ (v1222 : BitVec 32) (k0_hw61 : k0_chk61 v1222), ∀ a, (k0_off123 v1222) a + S4x128.size a ≤ S65536x128.size a := fun v1222 k0_hw61 => k0_hw61.2

def k0_off124 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_374 : BitVec 32 := 0#32
  ![arg6.toNat, 0]
def k0_mult62 (v1242 : BitVec 32) : BitVec 32 :=
  v1242

def k0_off125 (v1242 : BitVec 32) : Fin 2 → Nat :=
  let v1243 : BitVec 32 := v1242
  let v1244 : Index := Scalar.indexCast v1243
  let c0_375 : Index := 0#32
  ![v1244.toNat, 0]

def k0_chk62 (v1242 : BitVec 32) : Prop :=
  (4 ∣ (k0_mult62 v1242).toNat) ∧
  (∀ a, (k0_off125 v1242) a + S4x128.size a ≤ S65536x128.size a)
theorem k0_mult62_dvd : ∀ (v1242 : BitVec 32) (k0_hw62 : k0_chk62 v1242), 4 ∣ (k0_mult62 v1242).toNat := fun v1242 k0_hw62 => k0_hw62.1
theorem k0_off125_inb : ∀ (v1242 : BitVec 32) (k0_hw62 : k0_chk62 v1242), ∀ a, (k0_off125 v1242) a + S4x128.size a ≤ S65536x128.size a := fun v1242 k0_hw62 => k0_hw62.2

def k0_off126 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_380 : BitVec 32 := 0#32
  ![arg6.toNat, 0]
def k0_mult63 (v1262 : BitVec 32) : BitVec 32 :=
  v1262

def k0_off127 (v1262 : BitVec 32) : Fin 2 → Nat :=
  let v1263 : BitVec 32 := v1262
  let v1264 : Index := Scalar.indexCast v1263
  let c0_381 : Index := 0#32
  ![v1264.toNat, 0]

def k0_chk63 (v1262 : BitVec 32) : Prop :=
  (4 ∣ (k0_mult63 v1262).toNat) ∧
  (∀ a, (k0_off127 v1262) a + S4x128.size a ≤ S65536x128.size a)
theorem k0_mult63_dvd : ∀ (v1262 : BitVec 32) (k0_hw63 : k0_chk63 v1262), 4 ∣ (k0_mult63 v1262).toNat := fun v1262 k0_hw63 => k0_hw63.1
theorem k0_off127_inb : ∀ (v1262 : BitVec 32) (k0_hw63 : k0_chk63 v1262), ∀ a, (k0_off127 v1262) a + S4x128.size a ≤ S65536x128.size a := fun v1262 k0_hw63 => k0_hw63.2

def k0_off128 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_386 : BitVec 32 := 0#32
  ![arg6.toNat, 0]
def k0_mult64 (v1282 : BitVec 32) : BitVec 32 :=
  v1282

def k0_off129 (v1282 : BitVec 32) : Fin 2 → Nat :=
  let v1283 : BitVec 32 := v1282
  let v1284 : Index := Scalar.indexCast v1283
  let c0_387 : Index := 0#32
  ![v1284.toNat, 0]

def k0_chk64 (v1282 : BitVec 32) : Prop :=
  (4 ∣ (k0_mult64 v1282).toNat) ∧
  (∀ a, (k0_off129 v1282) a + S4x128.size a ≤ S65536x128.size a)
theorem k0_mult64_dvd : ∀ (v1282 : BitVec 32) (k0_hw64 : k0_chk64 v1282), 4 ∣ (k0_mult64 v1282).toNat := fun v1282 k0_hw64 => k0_hw64.1
theorem k0_off129_inb : ∀ (v1282 : BitVec 32) (k0_hw64 : k0_chk64 v1282), ∀ a, (k0_off129 v1282) a + S4x128.size a ≤ S65536x128.size a := fun v1282 k0_hw64 => k0_hw64.2

def k0_off130 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_392 : BitVec 32 := 0#32
  ![arg6.toNat, 0]
def k0_mult65 (v1302 : BitVec 32) : BitVec 32 :=
  v1302

def k0_off131 (v1302 : BitVec 32) : Fin 2 → Nat :=
  let v1303 : BitVec 32 := v1302
  let v1304 : Index := Scalar.indexCast v1303
  let c0_393 : Index := 0#32
  ![v1304.toNat, 0]

def k0_chk65 (v1302 : BitVec 32) : Prop :=
  (4 ∣ (k0_mult65 v1302).toNat) ∧
  (∀ a, (k0_off131 v1302) a + S4x128.size a ≤ S65536x128.size a)
theorem k0_mult65_dvd : ∀ (v1302 : BitVec 32) (k0_hw65 : k0_chk65 v1302), 4 ∣ (k0_mult65 v1302).toNat := fun v1302 k0_hw65 => k0_hw65.1
theorem k0_off131_inb : ∀ (v1302 : BitVec 32) (k0_hw65 : k0_chk65 v1302), ∀ a, (k0_off131 v1302) a + S4x128.size a ≤ S65536x128.size a := fun v1302 k0_hw65 => k0_hw65.2

def k0_off132 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_398 : BitVec 32 := 0#32
  ![arg6.toNat, 0]
def k0_mult66 (v1322 : BitVec 32) : BitVec 32 :=
  v1322

def k0_off133 (v1322 : BitVec 32) : Fin 2 → Nat :=
  let v1323 : BitVec 32 := v1322
  let v1324 : Index := Scalar.indexCast v1323
  let c0_399 : Index := 0#32
  ![v1324.toNat, 0]

def k0_chk66 (v1322 : BitVec 32) : Prop :=
  (4 ∣ (k0_mult66 v1322).toNat) ∧
  (∀ a, (k0_off133 v1322) a + S4x128.size a ≤ S65536x128.size a)
theorem k0_mult66_dvd : ∀ (v1322 : BitVec 32) (k0_hw66 : k0_chk66 v1322), 4 ∣ (k0_mult66 v1322).toNat := fun v1322 k0_hw66 => k0_hw66.1
theorem k0_off133_inb : ∀ (v1322 : BitVec 32) (k0_hw66 : k0_chk66 v1322), ∀ a, (k0_off133 v1322) a + S4x128.size a ≤ S65536x128.size a := fun v1322 k0_hw66 => k0_hw66.2

def k0_off134 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_404 : BitVec 32 := 0#32
  ![arg6.toNat, 0]
def k0_mult67 (v1342 : BitVec 32) : BitVec 32 :=
  v1342

def k0_off135 (v1342 : BitVec 32) : Fin 2 → Nat :=
  let v1343 : BitVec 32 := v1342
  let v1344 : Index := Scalar.indexCast v1343
  let c0_405 : Index := 0#32
  ![v1344.toNat, 0]

def k0_chk67 (v1342 : BitVec 32) : Prop :=
  (4 ∣ (k0_mult67 v1342).toNat) ∧
  (∀ a, (k0_off135 v1342) a + S4x128.size a ≤ S65536x128.size a)
theorem k0_mult67_dvd : ∀ (v1342 : BitVec 32) (k0_hw67 : k0_chk67 v1342), 4 ∣ (k0_mult67 v1342).toNat := fun v1342 k0_hw67 => k0_hw67.1
theorem k0_off135_inb : ∀ (v1342 : BitVec 32) (k0_hw67 : k0_chk67 v1342), ∀ a, (k0_off135 v1342) a + S4x128.size a ≤ S65536x128.size a := fun v1342 k0_hw67 => k0_hw67.2

def k0_off136 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_410 : BitVec 32 := 0#32
  ![arg6.toNat, 0]
def k0_mult68 (v1362 : BitVec 32) : BitVec 32 :=
  v1362

def k0_off137 (v1362 : BitVec 32) : Fin 2 → Nat :=
  let v1363 : BitVec 32 := v1362
  let v1364 : Index := Scalar.indexCast v1363
  let c0_411 : Index := 0#32
  ![v1364.toNat, 0]

def k0_chk68 (v1362 : BitVec 32) : Prop :=
  (4 ∣ (k0_mult68 v1362).toNat) ∧
  (∀ a, (k0_off137 v1362) a + S4x128.size a ≤ S65536x128.size a)
theorem k0_mult68_dvd : ∀ (v1362 : BitVec 32) (k0_hw68 : k0_chk68 v1362), 4 ∣ (k0_mult68 v1362).toNat := fun v1362 k0_hw68 => k0_hw68.1
theorem k0_off137_inb : ∀ (v1362 : BitVec 32) (k0_hw68 : k0_chk68 v1362), ∀ a, (k0_off137 v1362) a + S4x128.size a ≤ S65536x128.size a := fun v1362 k0_hw68 => k0_hw68.2

def k0_off138 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_416 : BitVec 32 := 0#32
  ![arg6.toNat, 0]
def k0_mult69 (v1382 : BitVec 32) : BitVec 32 :=
  v1382

def k0_off139 (v1382 : BitVec 32) : Fin 2 → Nat :=
  let v1383 : BitVec 32 := v1382
  let v1384 : Index := Scalar.indexCast v1383
  let c0_417 : Index := 0#32
  ![v1384.toNat, 0]

def k0_chk69 (v1382 : BitVec 32) : Prop :=
  (4 ∣ (k0_mult69 v1382).toNat) ∧
  (∀ a, (k0_off139 v1382) a + S4x128.size a ≤ S65536x128.size a)
theorem k0_mult69_dvd : ∀ (v1382 : BitVec 32) (k0_hw69 : k0_chk69 v1382), 4 ∣ (k0_mult69 v1382).toNat := fun v1382 k0_hw69 => k0_hw69.1
theorem k0_off139_inb : ∀ (v1382 : BitVec 32) (k0_hw69 : k0_chk69 v1382), ∀ a, (k0_off139 v1382) a + S4x128.size a ≤ S65536x128.size a := fun v1382 k0_hw69 => k0_hw69.2

def k0_off140 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_422 : BitVec 32 := 0#32
  ![arg6.toNat, 0]
def k0_mult70 (v1402 : BitVec 32) : BitVec 32 :=
  v1402

def k0_off141 (v1402 : BitVec 32) : Fin 2 → Nat :=
  let v1403 : BitVec 32 := v1402
  let v1404 : Index := Scalar.indexCast v1403
  let c0_423 : Index := 0#32
  ![v1404.toNat, 0]

def k0_chk70 (v1402 : BitVec 32) : Prop :=
  (4 ∣ (k0_mult70 v1402).toNat) ∧
  (∀ a, (k0_off141 v1402) a + S4x128.size a ≤ S65536x128.size a)
theorem k0_mult70_dvd : ∀ (v1402 : BitVec 32) (k0_hw70 : k0_chk70 v1402), 4 ∣ (k0_mult70 v1402).toNat := fun v1402 k0_hw70 => k0_hw70.1
theorem k0_off141_inb : ∀ (v1402 : BitVec 32) (k0_hw70 : k0_chk70 v1402), ∀ a, (k0_off141 v1402) a + S4x128.size a ≤ S65536x128.size a := fun v1402 k0_hw70 => k0_hw70.2

def k0_off142 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_428 : BitVec 32 := 0#32
  ![arg6.toNat, 0]
def k0_mult71 (v1422 : BitVec 32) : BitVec 32 :=
  v1422

def k0_off143 (v1422 : BitVec 32) : Fin 2 → Nat :=
  let v1423 : BitVec 32 := v1422
  let v1424 : Index := Scalar.indexCast v1423
  let c0_429 : Index := 0#32
  ![v1424.toNat, 0]

def k0_chk71 (v1422 : BitVec 32) : Prop :=
  (4 ∣ (k0_mult71 v1422).toNat) ∧
  (∀ a, (k0_off143 v1422) a + S4x128.size a ≤ S65536x128.size a)
theorem k0_mult71_dvd : ∀ (v1422 : BitVec 32) (k0_hw71 : k0_chk71 v1422), 4 ∣ (k0_mult71 v1422).toNat := fun v1422 k0_hw71 => k0_hw71.1
theorem k0_off143_inb : ∀ (v1422 : BitVec 32) (k0_hw71 : k0_chk71 v1422), ∀ a, (k0_off143 v1422) a + S4x128.size a ≤ S65536x128.size a := fun v1422 k0_hw71 => k0_hw71.2

def k0_off144 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_434 : BitVec 32 := 0#32
  ![arg6.toNat, 0]
def k0_mult72 (v1442 : BitVec 32) : BitVec 32 :=
  v1442

def k0_off145 (v1442 : BitVec 32) : Fin 2 → Nat :=
  let v1443 : BitVec 32 := v1442
  let v1444 : Index := Scalar.indexCast v1443
  let c0_435 : Index := 0#32
  ![v1444.toNat, 0]

def k0_chk72 (v1442 : BitVec 32) : Prop :=
  (4 ∣ (k0_mult72 v1442).toNat) ∧
  (∀ a, (k0_off145 v1442) a + S4x128.size a ≤ S65536x128.size a)
theorem k0_mult72_dvd : ∀ (v1442 : BitVec 32) (k0_hw72 : k0_chk72 v1442), 4 ∣ (k0_mult72 v1442).toNat := fun v1442 k0_hw72 => k0_hw72.1
theorem k0_off145_inb : ∀ (v1442 : BitVec 32) (k0_hw72 : k0_chk72 v1442), ∀ a, (k0_off145 v1442) a + S4x128.size a ≤ S65536x128.size a := fun v1442 k0_hw72 => k0_hw72.2

def k0_off146 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_440 : BitVec 32 := 0#32
  ![arg6.toNat, 0]
def k0_mult73 (v1462 : BitVec 32) : BitVec 32 :=
  v1462

def k0_off147 (v1462 : BitVec 32) : Fin 2 → Nat :=
  let v1463 : BitVec 32 := v1462
  let v1464 : Index := Scalar.indexCast v1463
  let c0_441 : Index := 0#32
  ![v1464.toNat, 0]

def k0_chk73 (v1462 : BitVec 32) : Prop :=
  (4 ∣ (k0_mult73 v1462).toNat) ∧
  (∀ a, (k0_off147 v1462) a + S4x128.size a ≤ S65536x128.size a)
theorem k0_mult73_dvd : ∀ (v1462 : BitVec 32) (k0_hw73 : k0_chk73 v1462), 4 ∣ (k0_mult73 v1462).toNat := fun v1462 k0_hw73 => k0_hw73.1
theorem k0_off147_inb : ∀ (v1462 : BitVec 32) (k0_hw73 : k0_chk73 v1462), ∀ a, (k0_off147 v1462) a + S4x128.size a ≤ S65536x128.size a := fun v1462 k0_hw73 => k0_hw73.2

def k0_off148 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_446 : BitVec 32 := 0#32
  ![arg6.toNat, 0]
def k0_mult74 (v1482 : BitVec 32) : BitVec 32 :=
  v1482

def k0_off149 (v1482 : BitVec 32) : Fin 2 → Nat :=
  let v1483 : BitVec 32 := v1482
  let v1484 : Index := Scalar.indexCast v1483
  let c0_447 : Index := 0#32
  ![v1484.toNat, 0]

def k0_chk74 (v1482 : BitVec 32) : Prop :=
  (4 ∣ (k0_mult74 v1482).toNat) ∧
  (∀ a, (k0_off149 v1482) a + S4x128.size a ≤ S65536x128.size a)
theorem k0_mult74_dvd : ∀ (v1482 : BitVec 32) (k0_hw74 : k0_chk74 v1482), 4 ∣ (k0_mult74 v1482).toNat := fun v1482 k0_hw74 => k0_hw74.1
theorem k0_off149_inb : ∀ (v1482 : BitVec 32) (k0_hw74 : k0_chk74 v1482), ∀ a, (k0_off149 v1482) a + S4x128.size a ≤ S65536x128.size a := fun v1482 k0_hw74 => k0_hw74.2

def k0_off150 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_452 : BitVec 32 := 0#32
  ![arg6.toNat, 0]
def k0_mult75 (v1502 : BitVec 32) : BitVec 32 :=
  v1502

def k0_off151 (v1502 : BitVec 32) : Fin 2 → Nat :=
  let v1503 : BitVec 32 := v1502
  let v1504 : Index := Scalar.indexCast v1503
  let c0_453 : Index := 0#32
  ![v1504.toNat, 0]

def k0_chk75 (v1502 : BitVec 32) : Prop :=
  (4 ∣ (k0_mult75 v1502).toNat) ∧
  (∀ a, (k0_off151 v1502) a + S4x128.size a ≤ S65536x128.size a)
theorem k0_mult75_dvd : ∀ (v1502 : BitVec 32) (k0_hw75 : k0_chk75 v1502), 4 ∣ (k0_mult75 v1502).toNat := fun v1502 k0_hw75 => k0_hw75.1
theorem k0_off151_inb : ∀ (v1502 : BitVec 32) (k0_hw75 : k0_chk75 v1502), ∀ a, (k0_off151 v1502) a + S4x128.size a ≤ S65536x128.size a := fun v1502 k0_hw75 => k0_hw75.2

def k0_off152 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_458 : BitVec 32 := 0#32
  ![arg6.toNat, 0]
def k0_mult76 (v1522 : BitVec 32) : BitVec 32 :=
  v1522

def k0_off153 (v1522 : BitVec 32) : Fin 2 → Nat :=
  let v1523 : BitVec 32 := v1522
  let v1524 : Index := Scalar.indexCast v1523
  let c0_459 : Index := 0#32
  ![v1524.toNat, 0]

def k0_chk76 (v1522 : BitVec 32) : Prop :=
  (4 ∣ (k0_mult76 v1522).toNat) ∧
  (∀ a, (k0_off153 v1522) a + S4x128.size a ≤ S65536x128.size a)
theorem k0_mult76_dvd : ∀ (v1522 : BitVec 32) (k0_hw76 : k0_chk76 v1522), 4 ∣ (k0_mult76 v1522).toNat := fun v1522 k0_hw76 => k0_hw76.1
theorem k0_off153_inb : ∀ (v1522 : BitVec 32) (k0_hw76 : k0_chk76 v1522), ∀ a, (k0_off153 v1522) a + S4x128.size a ≤ S65536x128.size a := fun v1522 k0_hw76 => k0_hw76.2

def k0_off154 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_464 : BitVec 32 := 0#32
  ![arg6.toNat, 0]
def k0_mult77 (v1542 : BitVec 32) : BitVec 32 :=
  v1542

def k0_off155 (v1542 : BitVec 32) : Fin 2 → Nat :=
  let v1543 : BitVec 32 := v1542
  let v1544 : Index := Scalar.indexCast v1543
  let c0_465 : Index := 0#32
  ![v1544.toNat, 0]

def k0_chk77 (v1542 : BitVec 32) : Prop :=
  (4 ∣ (k0_mult77 v1542).toNat) ∧
  (∀ a, (k0_off155 v1542) a + S4x128.size a ≤ S65536x128.size a)
theorem k0_mult77_dvd : ∀ (v1542 : BitVec 32) (k0_hw77 : k0_chk77 v1542), 4 ∣ (k0_mult77 v1542).toNat := fun v1542 k0_hw77 => k0_hw77.1
theorem k0_off155_inb : ∀ (v1542 : BitVec 32) (k0_hw77 : k0_chk77 v1542), ∀ a, (k0_off155 v1542) a + S4x128.size a ≤ S65536x128.size a := fun v1542 k0_hw77 => k0_hw77.2

def k0_off156 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_470 : BitVec 32 := 0#32
  ![arg6.toNat, 0]
def k0_mult78 (v1562 : BitVec 32) : BitVec 32 :=
  v1562

def k0_off157 (v1562 : BitVec 32) : Fin 2 → Nat :=
  let v1563 : BitVec 32 := v1562
  let v1564 : Index := Scalar.indexCast v1563
  let c0_471 : Index := 0#32
  ![v1564.toNat, 0]

def k0_chk78 (v1562 : BitVec 32) : Prop :=
  (4 ∣ (k0_mult78 v1562).toNat) ∧
  (∀ a, (k0_off157 v1562) a + S4x128.size a ≤ S65536x128.size a)
theorem k0_mult78_dvd : ∀ (v1562 : BitVec 32) (k0_hw78 : k0_chk78 v1562), 4 ∣ (k0_mult78 v1562).toNat := fun v1562 k0_hw78 => k0_hw78.1
theorem k0_off157_inb : ∀ (v1562 : BitVec 32) (k0_hw78 : k0_chk78 v1562), ∀ a, (k0_off157 v1562) a + S4x128.size a ≤ S65536x128.size a := fun v1562 k0_hw78 => k0_hw78.2

def k0_off158 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_476 : BitVec 32 := 0#32
  ![arg6.toNat, 0]
def k0_mult79 (v1582 : BitVec 32) : BitVec 32 :=
  v1582

def k0_off159 (v1582 : BitVec 32) : Fin 2 → Nat :=
  let v1583 : BitVec 32 := v1582
  let v1584 : Index := Scalar.indexCast v1583
  let c0_477 : Index := 0#32
  ![v1584.toNat, 0]

def k0_chk79 (v1582 : BitVec 32) : Prop :=
  (4 ∣ (k0_mult79 v1582).toNat) ∧
  (∀ a, (k0_off159 v1582) a + S4x128.size a ≤ S65536x128.size a)
theorem k0_mult79_dvd : ∀ (v1582 : BitVec 32) (k0_hw79 : k0_chk79 v1582), 4 ∣ (k0_mult79 v1582).toNat := fun v1582 k0_hw79 => k0_hw79.1
theorem k0_off159_inb : ∀ (v1582 : BitVec 32) (k0_hw79 : k0_chk79 v1582), ∀ a, (k0_off159 v1582) a + S4x128.size a ≤ S65536x128.size a := fun v1582 k0_hw79 => k0_hw79.2

def k0_off160 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_482 : BitVec 32 := 0#32
  ![arg6.toNat, 0]
def k0_mult80 (v1602 : BitVec 32) : BitVec 32 :=
  v1602

def k0_off161 (v1602 : BitVec 32) : Fin 2 → Nat :=
  let v1603 : BitVec 32 := v1602
  let v1604 : Index := Scalar.indexCast v1603
  let c0_483 : Index := 0#32
  ![v1604.toNat, 0]

def k0_chk80 (v1602 : BitVec 32) : Prop :=
  (4 ∣ (k0_mult80 v1602).toNat) ∧
  (∀ a, (k0_off161 v1602) a + S4x128.size a ≤ S65536x128.size a)
theorem k0_mult80_dvd : ∀ (v1602 : BitVec 32) (k0_hw80 : k0_chk80 v1602), 4 ∣ (k0_mult80 v1602).toNat := fun v1602 k0_hw80 => k0_hw80.1
theorem k0_off161_inb : ∀ (v1602 : BitVec 32) (k0_hw80 : k0_chk80 v1602), ∀ a, (k0_off161 v1602) a + S4x128.size a ≤ S65536x128.size a := fun v1602 k0_hw80 => k0_hw80.2

def k0_off162 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_488 : BitVec 32 := 0#32
  ![arg6.toNat, 0]
def k0_mult81 (v1622 : BitVec 32) : BitVec 32 :=
  v1622

def k0_off163 (v1622 : BitVec 32) : Fin 2 → Nat :=
  let v1623 : BitVec 32 := v1622
  let v1624 : Index := Scalar.indexCast v1623
  let c0_489 : Index := 0#32
  ![v1624.toNat, 0]

def k0_chk81 (v1622 : BitVec 32) : Prop :=
  (4 ∣ (k0_mult81 v1622).toNat) ∧
  (∀ a, (k0_off163 v1622) a + S4x128.size a ≤ S65536x128.size a)
theorem k0_mult81_dvd : ∀ (v1622 : BitVec 32) (k0_hw81 : k0_chk81 v1622), 4 ∣ (k0_mult81 v1622).toNat := fun v1622 k0_hw81 => k0_hw81.1
theorem k0_off163_inb : ∀ (v1622 : BitVec 32) (k0_hw81 : k0_chk81 v1622), ∀ a, (k0_off163 v1622) a + S4x128.size a ≤ S65536x128.size a := fun v1622 k0_hw81 => k0_hw81.2

def k0_off164 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_494 : BitVec 32 := 0#32
  ![arg6.toNat, 0]
def k0_mult82 (v1642 : BitVec 32) : BitVec 32 :=
  v1642

def k0_off165 (v1642 : BitVec 32) : Fin 2 → Nat :=
  let v1643 : BitVec 32 := v1642
  let v1644 : Index := Scalar.indexCast v1643
  let c0_495 : Index := 0#32
  ![v1644.toNat, 0]

def k0_chk82 (v1642 : BitVec 32) : Prop :=
  (4 ∣ (k0_mult82 v1642).toNat) ∧
  (∀ a, (k0_off165 v1642) a + S4x128.size a ≤ S65536x128.size a)
theorem k0_mult82_dvd : ∀ (v1642 : BitVec 32) (k0_hw82 : k0_chk82 v1642), 4 ∣ (k0_mult82 v1642).toNat := fun v1642 k0_hw82 => k0_hw82.1
theorem k0_off165_inb : ∀ (v1642 : BitVec 32) (k0_hw82 : k0_chk82 v1642), ∀ a, (k0_off165 v1642) a + S4x128.size a ≤ S65536x128.size a := fun v1642 k0_hw82 => k0_hw82.2

def k0_off166 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_500 : BitVec 32 := 0#32
  ![arg6.toNat, 0]
def k0_mult83 (v1662 : BitVec 32) : BitVec 32 :=
  v1662

def k0_off167 (v1662 : BitVec 32) : Fin 2 → Nat :=
  let v1663 : BitVec 32 := v1662
  let v1664 : Index := Scalar.indexCast v1663
  let c0_501 : Index := 0#32
  ![v1664.toNat, 0]

def k0_chk83 (v1662 : BitVec 32) : Prop :=
  (4 ∣ (k0_mult83 v1662).toNat) ∧
  (∀ a, (k0_off167 v1662) a + S4x128.size a ≤ S65536x128.size a)
theorem k0_mult83_dvd : ∀ (v1662 : BitVec 32) (k0_hw83 : k0_chk83 v1662), 4 ∣ (k0_mult83 v1662).toNat := fun v1662 k0_hw83 => k0_hw83.1
theorem k0_off167_inb : ∀ (v1662 : BitVec 32) (k0_hw83 : k0_chk83 v1662), ∀ a, (k0_off167 v1662) a + S4x128.size a ≤ S65536x128.size a := fun v1662 k0_hw83 => k0_hw83.2

def k0_off168 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_506 : BitVec 32 := 0#32
  ![arg6.toNat, 0]
def k0_mult84 (v1682 : BitVec 32) : BitVec 32 :=
  v1682

def k0_off169 (v1682 : BitVec 32) : Fin 2 → Nat :=
  let v1683 : BitVec 32 := v1682
  let v1684 : Index := Scalar.indexCast v1683
  let c0_507 : Index := 0#32
  ![v1684.toNat, 0]

def k0_chk84 (v1682 : BitVec 32) : Prop :=
  (4 ∣ (k0_mult84 v1682).toNat) ∧
  (∀ a, (k0_off169 v1682) a + S4x128.size a ≤ S65536x128.size a)
theorem k0_mult84_dvd : ∀ (v1682 : BitVec 32) (k0_hw84 : k0_chk84 v1682), 4 ∣ (k0_mult84 v1682).toNat := fun v1682 k0_hw84 => k0_hw84.1
theorem k0_off169_inb : ∀ (v1682 : BitVec 32) (k0_hw84 : k0_chk84 v1682), ∀ a, (k0_off169 v1682) a + S4x128.size a ≤ S65536x128.size a := fun v1682 k0_hw84 => k0_hw84.2

def k0_off170 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_512 : BitVec 32 := 0#32
  ![arg6.toNat, 0]
def k0_mult85 (v1702 : BitVec 32) : BitVec 32 :=
  v1702

def k0_off171 (v1702 : BitVec 32) : Fin 2 → Nat :=
  let v1703 : BitVec 32 := v1702
  let v1704 : Index := Scalar.indexCast v1703
  let c0_513 : Index := 0#32
  ![v1704.toNat, 0]

def k0_chk85 (v1702 : BitVec 32) : Prop :=
  (4 ∣ (k0_mult85 v1702).toNat) ∧
  (∀ a, (k0_off171 v1702) a + S4x128.size a ≤ S65536x128.size a)
theorem k0_mult85_dvd : ∀ (v1702 : BitVec 32) (k0_hw85 : k0_chk85 v1702), 4 ∣ (k0_mult85 v1702).toNat := fun v1702 k0_hw85 => k0_hw85.1
theorem k0_off171_inb : ∀ (v1702 : BitVec 32) (k0_hw85 : k0_chk85 v1702), ∀ a, (k0_off171 v1702) a + S4x128.size a ≤ S65536x128.size a := fun v1702 k0_hw85 => k0_hw85.2

def k0_off172 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_518 : BitVec 32 := 0#32
  ![arg6.toNat, 0]
def k0_mult86 (v1722 : BitVec 32) : BitVec 32 :=
  v1722

def k0_off173 (v1722 : BitVec 32) : Fin 2 → Nat :=
  let v1723 : BitVec 32 := v1722
  let v1724 : Index := Scalar.indexCast v1723
  let c0_519 : Index := 0#32
  ![v1724.toNat, 0]

def k0_chk86 (v1722 : BitVec 32) : Prop :=
  (4 ∣ (k0_mult86 v1722).toNat) ∧
  (∀ a, (k0_off173 v1722) a + S4x128.size a ≤ S65536x128.size a)
theorem k0_mult86_dvd : ∀ (v1722 : BitVec 32) (k0_hw86 : k0_chk86 v1722), 4 ∣ (k0_mult86 v1722).toNat := fun v1722 k0_hw86 => k0_hw86.1
theorem k0_off173_inb : ∀ (v1722 : BitVec 32) (k0_hw86 : k0_chk86 v1722), ∀ a, (k0_off173 v1722) a + S4x128.size a ≤ S65536x128.size a := fun v1722 k0_hw86 => k0_hw86.2

def k0_off174 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_524 : BitVec 32 := 0#32
  ![arg6.toNat, 0]
def k0_mult87 (v1742 : BitVec 32) : BitVec 32 :=
  v1742

def k0_off175 (v1742 : BitVec 32) : Fin 2 → Nat :=
  let v1743 : BitVec 32 := v1742
  let v1744 : Index := Scalar.indexCast v1743
  let c0_525 : Index := 0#32
  ![v1744.toNat, 0]

def k0_chk87 (v1742 : BitVec 32) : Prop :=
  (4 ∣ (k0_mult87 v1742).toNat) ∧
  (∀ a, (k0_off175 v1742) a + S4x128.size a ≤ S65536x128.size a)
theorem k0_mult87_dvd : ∀ (v1742 : BitVec 32) (k0_hw87 : k0_chk87 v1742), 4 ∣ (k0_mult87 v1742).toNat := fun v1742 k0_hw87 => k0_hw87.1
theorem k0_off175_inb : ∀ (v1742 : BitVec 32) (k0_hw87 : k0_chk87 v1742), ∀ a, (k0_off175 v1742) a + S4x128.size a ≤ S65536x128.size a := fun v1742 k0_hw87 => k0_hw87.2

def k0_off176 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_530 : BitVec 32 := 0#32
  ![arg6.toNat, 0]
def k0_mult88 (v1762 : BitVec 32) : BitVec 32 :=
  v1762

def k0_off177 (v1762 : BitVec 32) : Fin 2 → Nat :=
  let v1763 : BitVec 32 := v1762
  let v1764 : Index := Scalar.indexCast v1763
  let c0_531 : Index := 0#32
  ![v1764.toNat, 0]

def k0_chk88 (v1762 : BitVec 32) : Prop :=
  (4 ∣ (k0_mult88 v1762).toNat) ∧
  (∀ a, (k0_off177 v1762) a + S4x128.size a ≤ S65536x128.size a)
theorem k0_mult88_dvd : ∀ (v1762 : BitVec 32) (k0_hw88 : k0_chk88 v1762), 4 ∣ (k0_mult88 v1762).toNat := fun v1762 k0_hw88 => k0_hw88.1
theorem k0_off177_inb : ∀ (v1762 : BitVec 32) (k0_hw88 : k0_chk88 v1762), ∀ a, (k0_off177 v1762) a + S4x128.size a ≤ S65536x128.size a := fun v1762 k0_hw88 => k0_hw88.2

def k0_off178 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_536 : BitVec 32 := 0#32
  ![arg6.toNat, 0]
def k0_mult89 (v1782 : BitVec 32) : BitVec 32 :=
  v1782

def k0_off179 (v1782 : BitVec 32) : Fin 2 → Nat :=
  let v1783 : BitVec 32 := v1782
  let v1784 : Index := Scalar.indexCast v1783
  let c0_537 : Index := 0#32
  ![v1784.toNat, 0]

def k0_chk89 (v1782 : BitVec 32) : Prop :=
  (4 ∣ (k0_mult89 v1782).toNat) ∧
  (∀ a, (k0_off179 v1782) a + S4x128.size a ≤ S65536x128.size a)
theorem k0_mult89_dvd : ∀ (v1782 : BitVec 32) (k0_hw89 : k0_chk89 v1782), 4 ∣ (k0_mult89 v1782).toNat := fun v1782 k0_hw89 => k0_hw89.1
theorem k0_off179_inb : ∀ (v1782 : BitVec 32) (k0_hw89 : k0_chk89 v1782), ∀ a, (k0_off179 v1782) a + S4x128.size a ≤ S65536x128.size a := fun v1782 k0_hw89 => k0_hw89.2

def k0_off180 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_542 : BitVec 32 := 0#32
  ![arg6.toNat, 0]
def k0_mult90 (v1802 : BitVec 32) : BitVec 32 :=
  v1802

def k0_off181 (v1802 : BitVec 32) : Fin 2 → Nat :=
  let v1803 : BitVec 32 := v1802
  let v1804 : Index := Scalar.indexCast v1803
  let c0_543 : Index := 0#32
  ![v1804.toNat, 0]

def k0_chk90 (v1802 : BitVec 32) : Prop :=
  (4 ∣ (k0_mult90 v1802).toNat) ∧
  (∀ a, (k0_off181 v1802) a + S4x128.size a ≤ S65536x128.size a)
theorem k0_mult90_dvd : ∀ (v1802 : BitVec 32) (k0_hw90 : k0_chk90 v1802), 4 ∣ (k0_mult90 v1802).toNat := fun v1802 k0_hw90 => k0_hw90.1
theorem k0_off181_inb : ∀ (v1802 : BitVec 32) (k0_hw90 : k0_chk90 v1802), ∀ a, (k0_off181 v1802) a + S4x128.size a ≤ S65536x128.size a := fun v1802 k0_hw90 => k0_hw90.2

def k0_off182 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_548 : BitVec 32 := 0#32
  ![arg6.toNat, 0]
def k0_mult91 (v1822 : BitVec 32) : BitVec 32 :=
  v1822

def k0_off183 (v1822 : BitVec 32) : Fin 2 → Nat :=
  let v1823 : BitVec 32 := v1822
  let v1824 : Index := Scalar.indexCast v1823
  let c0_549 : Index := 0#32
  ![v1824.toNat, 0]

def k0_chk91 (v1822 : BitVec 32) : Prop :=
  (4 ∣ (k0_mult91 v1822).toNat) ∧
  (∀ a, (k0_off183 v1822) a + S4x128.size a ≤ S65536x128.size a)
theorem k0_mult91_dvd : ∀ (v1822 : BitVec 32) (k0_hw91 : k0_chk91 v1822), 4 ∣ (k0_mult91 v1822).toNat := fun v1822 k0_hw91 => k0_hw91.1
theorem k0_off183_inb : ∀ (v1822 : BitVec 32) (k0_hw91 : k0_chk91 v1822), ∀ a, (k0_off183 v1822) a + S4x128.size a ≤ S65536x128.size a := fun v1822 k0_hw91 => k0_hw91.2

def k0_off184 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_554 : BitVec 32 := 0#32
  ![arg6.toNat, 0]
def k0_mult92 (v1842 : BitVec 32) : BitVec 32 :=
  v1842

def k0_off185 (v1842 : BitVec 32) : Fin 2 → Nat :=
  let v1843 : BitVec 32 := v1842
  let v1844 : Index := Scalar.indexCast v1843
  let c0_555 : Index := 0#32
  ![v1844.toNat, 0]

def k0_chk92 (v1842 : BitVec 32) : Prop :=
  (4 ∣ (k0_mult92 v1842).toNat) ∧
  (∀ a, (k0_off185 v1842) a + S4x128.size a ≤ S65536x128.size a)
theorem k0_mult92_dvd : ∀ (v1842 : BitVec 32) (k0_hw92 : k0_chk92 v1842), 4 ∣ (k0_mult92 v1842).toNat := fun v1842 k0_hw92 => k0_hw92.1
theorem k0_off185_inb : ∀ (v1842 : BitVec 32) (k0_hw92 : k0_chk92 v1842), ∀ a, (k0_off185 v1842) a + S4x128.size a ≤ S65536x128.size a := fun v1842 k0_hw92 => k0_hw92.2

def k0_off186 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_560 : BitVec 32 := 0#32
  ![arg6.toNat, 0]
def k0_mult93 (v1862 : BitVec 32) : BitVec 32 :=
  v1862

def k0_off187 (v1862 : BitVec 32) : Fin 2 → Nat :=
  let v1863 : BitVec 32 := v1862
  let v1864 : Index := Scalar.indexCast v1863
  let c0_561 : Index := 0#32
  ![v1864.toNat, 0]

def k0_chk93 (v1862 : BitVec 32) : Prop :=
  (4 ∣ (k0_mult93 v1862).toNat) ∧
  (∀ a, (k0_off187 v1862) a + S4x128.size a ≤ S65536x128.size a)
theorem k0_mult93_dvd : ∀ (v1862 : BitVec 32) (k0_hw93 : k0_chk93 v1862), 4 ∣ (k0_mult93 v1862).toNat := fun v1862 k0_hw93 => k0_hw93.1
theorem k0_off187_inb : ∀ (v1862 : BitVec 32) (k0_hw93 : k0_chk93 v1862), ∀ a, (k0_off187 v1862) a + S4x128.size a ≤ S65536x128.size a := fun v1862 k0_hw93 => k0_hw93.2

def k0_off188 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_566 : BitVec 32 := 0#32
  ![arg6.toNat, 0]
def k0_mult94 (v1882 : BitVec 32) : BitVec 32 :=
  v1882

def k0_off189 (v1882 : BitVec 32) : Fin 2 → Nat :=
  let v1883 : BitVec 32 := v1882
  let v1884 : Index := Scalar.indexCast v1883
  let c0_567 : Index := 0#32
  ![v1884.toNat, 0]

def k0_chk94 (v1882 : BitVec 32) : Prop :=
  (4 ∣ (k0_mult94 v1882).toNat) ∧
  (∀ a, (k0_off189 v1882) a + S4x128.size a ≤ S65536x128.size a)
theorem k0_mult94_dvd : ∀ (v1882 : BitVec 32) (k0_hw94 : k0_chk94 v1882), 4 ∣ (k0_mult94 v1882).toNat := fun v1882 k0_hw94 => k0_hw94.1
theorem k0_off189_inb : ∀ (v1882 : BitVec 32) (k0_hw94 : k0_chk94 v1882), ∀ a, (k0_off189 v1882) a + S4x128.size a ≤ S65536x128.size a := fun v1882 k0_hw94 => k0_hw94.2

def k0_off190 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_572 : BitVec 32 := 0#32
  ![arg6.toNat, 0]
def k0_mult95 (v1902 : BitVec 32) : BitVec 32 :=
  v1902

def k0_off191 (v1902 : BitVec 32) : Fin 2 → Nat :=
  let v1903 : BitVec 32 := v1902
  let v1904 : Index := Scalar.indexCast v1903
  let c0_573 : Index := 0#32
  ![v1904.toNat, 0]

def k0_chk95 (v1902 : BitVec 32) : Prop :=
  (4 ∣ (k0_mult95 v1902).toNat) ∧
  (∀ a, (k0_off191 v1902) a + S4x128.size a ≤ S65536x128.size a)
theorem k0_mult95_dvd : ∀ (v1902 : BitVec 32) (k0_hw95 : k0_chk95 v1902), 4 ∣ (k0_mult95 v1902).toNat := fun v1902 k0_hw95 => k0_hw95.1
theorem k0_off191_inb : ∀ (v1902 : BitVec 32) (k0_hw95 : k0_chk95 v1902), ∀ a, (k0_off191 v1902) a + S4x128.size a ≤ S65536x128.size a := fun v1902 k0_hw95 => k0_hw95.2

def k0_off192 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_578 : BitVec 32 := 0#32
  ![arg6.toNat, 0]
def k0_mult96 (v1922 : BitVec 32) : BitVec 32 :=
  v1922

def k0_off193 (v1922 : BitVec 32) : Fin 2 → Nat :=
  let v1923 : BitVec 32 := v1922
  let v1924 : Index := Scalar.indexCast v1923
  let c0_579 : Index := 0#32
  ![v1924.toNat, 0]

def k0_chk96 (v1922 : BitVec 32) : Prop :=
  (4 ∣ (k0_mult96 v1922).toNat) ∧
  (∀ a, (k0_off193 v1922) a + S4x128.size a ≤ S65536x128.size a)
theorem k0_mult96_dvd : ∀ (v1922 : BitVec 32) (k0_hw96 : k0_chk96 v1922), 4 ∣ (k0_mult96 v1922).toNat := fun v1922 k0_hw96 => k0_hw96.1
theorem k0_off193_inb : ∀ (v1922 : BitVec 32) (k0_hw96 : k0_chk96 v1922), ∀ a, (k0_off193 v1922) a + S4x128.size a ≤ S65536x128.size a := fun v1922 k0_hw96 => k0_hw96.2

def k0_off194 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_584 : BitVec 32 := 0#32
  ![arg6.toNat, 0]
def k0_mult97 (v1942 : BitVec 32) : BitVec 32 :=
  v1942

def k0_off195 (v1942 : BitVec 32) : Fin 2 → Nat :=
  let v1943 : BitVec 32 := v1942
  let v1944 : Index := Scalar.indexCast v1943
  let c0_585 : Index := 0#32
  ![v1944.toNat, 0]

def k0_chk97 (v1942 : BitVec 32) : Prop :=
  (4 ∣ (k0_mult97 v1942).toNat) ∧
  (∀ a, (k0_off195 v1942) a + S4x128.size a ≤ S65536x128.size a)
theorem k0_mult97_dvd : ∀ (v1942 : BitVec 32) (k0_hw97 : k0_chk97 v1942), 4 ∣ (k0_mult97 v1942).toNat := fun v1942 k0_hw97 => k0_hw97.1
theorem k0_off195_inb : ∀ (v1942 : BitVec 32) (k0_hw97 : k0_chk97 v1942), ∀ a, (k0_off195 v1942) a + S4x128.size a ≤ S65536x128.size a := fun v1942 k0_hw97 => k0_hw97.2

def k0_off196 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_590 : BitVec 32 := 0#32
  ![arg6.toNat, 0]
def k0_mult98 (v1962 : BitVec 32) : BitVec 32 :=
  v1962

def k0_off197 (v1962 : BitVec 32) : Fin 2 → Nat :=
  let v1963 : BitVec 32 := v1962
  let v1964 : Index := Scalar.indexCast v1963
  let c0_591 : Index := 0#32
  ![v1964.toNat, 0]

def k0_chk98 (v1962 : BitVec 32) : Prop :=
  (4 ∣ (k0_mult98 v1962).toNat) ∧
  (∀ a, (k0_off197 v1962) a + S4x128.size a ≤ S65536x128.size a)
theorem k0_mult98_dvd : ∀ (v1962 : BitVec 32) (k0_hw98 : k0_chk98 v1962), 4 ∣ (k0_mult98 v1962).toNat := fun v1962 k0_hw98 => k0_hw98.1
theorem k0_off197_inb : ∀ (v1962 : BitVec 32) (k0_hw98 : k0_chk98 v1962), ∀ a, (k0_off197 v1962) a + S4x128.size a ≤ S65536x128.size a := fun v1962 k0_hw98 => k0_hw98.2

def k0_off198 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_596 : BitVec 32 := 0#32
  ![arg6.toNat, 0]
def k0_mult99 (v1982 : BitVec 32) : BitVec 32 :=
  v1982

def k0_off199 (v1982 : BitVec 32) : Fin 2 → Nat :=
  let v1983 : BitVec 32 := v1982
  let v1984 : Index := Scalar.indexCast v1983
  let c0_597 : Index := 0#32
  ![v1984.toNat, 0]

def k0_chk99 (v1982 : BitVec 32) : Prop :=
  (4 ∣ (k0_mult99 v1982).toNat) ∧
  (∀ a, (k0_off199 v1982) a + S4x128.size a ≤ S65536x128.size a)
theorem k0_mult99_dvd : ∀ (v1982 : BitVec 32) (k0_hw99 : k0_chk99 v1982), 4 ∣ (k0_mult99 v1982).toNat := fun v1982 k0_hw99 => k0_hw99.1
theorem k0_off199_inb : ∀ (v1982 : BitVec 32) (k0_hw99 : k0_chk99 v1982), ∀ a, (k0_off199 v1982) a + S4x128.size a ≤ S65536x128.size a := fun v1982 k0_hw99 => k0_hw99.2

def k0_off200 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_602 : BitVec 32 := 0#32
  ![arg6.toNat, 0]
def k0_mult100 (v2002 : BitVec 32) : BitVec 32 :=
  v2002

def k0_off201 (v2002 : BitVec 32) : Fin 2 → Nat :=
  let v2003 : BitVec 32 := v2002
  let v2004 : Index := Scalar.indexCast v2003
  let c0_603 : Index := 0#32
  ![v2004.toNat, 0]

def k0_chk100 (v2002 : BitVec 32) : Prop :=
  (4 ∣ (k0_mult100 v2002).toNat) ∧
  (∀ a, (k0_off201 v2002) a + S4x128.size a ≤ S65536x128.size a)
theorem k0_mult100_dvd : ∀ (v2002 : BitVec 32) (k0_hw100 : k0_chk100 v2002), 4 ∣ (k0_mult100 v2002).toNat := fun v2002 k0_hw100 => k0_hw100.1
theorem k0_off201_inb : ∀ (v2002 : BitVec 32) (k0_hw100 : k0_chk100 v2002), ∀ a, (k0_off201 v2002) a + S4x128.size a ≤ S65536x128.size a := fun v2002 k0_hw100 => k0_hw100.2

def k0_off202 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_608 : BitVec 32 := 0#32
  ![arg6.toNat, 0]
def k0_mult101 (v2022 : BitVec 32) : BitVec 32 :=
  v2022

def k0_off203 (v2022 : BitVec 32) : Fin 2 → Nat :=
  let v2023 : BitVec 32 := v2022
  let v2024 : Index := Scalar.indexCast v2023
  let c0_609 : Index := 0#32
  ![v2024.toNat, 0]

def k0_chk101 (v2022 : BitVec 32) : Prop :=
  (4 ∣ (k0_mult101 v2022).toNat) ∧
  (∀ a, (k0_off203 v2022) a + S4x128.size a ≤ S65536x128.size a)
theorem k0_mult101_dvd : ∀ (v2022 : BitVec 32) (k0_hw101 : k0_chk101 v2022), 4 ∣ (k0_mult101 v2022).toNat := fun v2022 k0_hw101 => k0_hw101.1
theorem k0_off203_inb : ∀ (v2022 : BitVec 32) (k0_hw101 : k0_chk101 v2022), ∀ a, (k0_off203 v2022) a + S4x128.size a ≤ S65536x128.size a := fun v2022 k0_hw101 => k0_hw101.2

def k0_off204 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_614 : BitVec 32 := 0#32
  ![arg6.toNat, 0]
def k0_mult102 (v2042 : BitVec 32) : BitVec 32 :=
  v2042

def k0_off205 (v2042 : BitVec 32) : Fin 2 → Nat :=
  let v2043 : BitVec 32 := v2042
  let v2044 : Index := Scalar.indexCast v2043
  let c0_615 : Index := 0#32
  ![v2044.toNat, 0]

def k0_chk102 (v2042 : BitVec 32) : Prop :=
  (4 ∣ (k0_mult102 v2042).toNat) ∧
  (∀ a, (k0_off205 v2042) a + S4x128.size a ≤ S65536x128.size a)
theorem k0_mult102_dvd : ∀ (v2042 : BitVec 32) (k0_hw102 : k0_chk102 v2042), 4 ∣ (k0_mult102 v2042).toNat := fun v2042 k0_hw102 => k0_hw102.1
theorem k0_off205_inb : ∀ (v2042 : BitVec 32) (k0_hw102 : k0_chk102 v2042), ∀ a, (k0_off205 v2042) a + S4x128.size a ≤ S65536x128.size a := fun v2042 k0_hw102 => k0_hw102.2

def k0_off206 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_620 : BitVec 32 := 0#32
  ![arg6.toNat, 0]
def k0_mult103 (v2062 : BitVec 32) : BitVec 32 :=
  v2062

def k0_off207 (v2062 : BitVec 32) : Fin 2 → Nat :=
  let v2063 : BitVec 32 := v2062
  let v2064 : Index := Scalar.indexCast v2063
  let c0_621 : Index := 0#32
  ![v2064.toNat, 0]

def k0_chk103 (v2062 : BitVec 32) : Prop :=
  (4 ∣ (k0_mult103 v2062).toNat) ∧
  (∀ a, (k0_off207 v2062) a + S4x128.size a ≤ S65536x128.size a)
theorem k0_mult103_dvd : ∀ (v2062 : BitVec 32) (k0_hw103 : k0_chk103 v2062), 4 ∣ (k0_mult103 v2062).toNat := fun v2062 k0_hw103 => k0_hw103.1
theorem k0_off207_inb : ∀ (v2062 : BitVec 32) (k0_hw103 : k0_chk103 v2062), ∀ a, (k0_off207 v2062) a + S4x128.size a ≤ S65536x128.size a := fun v2062 k0_hw103 => k0_hw103.2

def k0_off208 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_626 : BitVec 32 := 0#32
  ![arg6.toNat, 0]
def k0_mult104 (v2082 : BitVec 32) : BitVec 32 :=
  v2082

def k0_off209 (v2082 : BitVec 32) : Fin 2 → Nat :=
  let v2083 : BitVec 32 := v2082
  let v2084 : Index := Scalar.indexCast v2083
  let c0_627 : Index := 0#32
  ![v2084.toNat, 0]

def k0_chk104 (v2082 : BitVec 32) : Prop :=
  (4 ∣ (k0_mult104 v2082).toNat) ∧
  (∀ a, (k0_off209 v2082) a + S4x128.size a ≤ S65536x128.size a)
theorem k0_mult104_dvd : ∀ (v2082 : BitVec 32) (k0_hw104 : k0_chk104 v2082), 4 ∣ (k0_mult104 v2082).toNat := fun v2082 k0_hw104 => k0_hw104.1
theorem k0_off209_inb : ∀ (v2082 : BitVec 32) (k0_hw104 : k0_chk104 v2082), ∀ a, (k0_off209 v2082) a + S4x128.size a ≤ S65536x128.size a := fun v2082 k0_hw104 => k0_hw104.2

def k0_off210 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_632 : BitVec 32 := 0#32
  ![arg6.toNat, 0]
def k0_mult105 (v2102 : BitVec 32) : BitVec 32 :=
  v2102

def k0_off211 (v2102 : BitVec 32) : Fin 2 → Nat :=
  let v2103 : BitVec 32 := v2102
  let v2104 : Index := Scalar.indexCast v2103
  let c0_633 : Index := 0#32
  ![v2104.toNat, 0]

def k0_chk105 (v2102 : BitVec 32) : Prop :=
  (4 ∣ (k0_mult105 v2102).toNat) ∧
  (∀ a, (k0_off211 v2102) a + S4x128.size a ≤ S65536x128.size a)
theorem k0_mult105_dvd : ∀ (v2102 : BitVec 32) (k0_hw105 : k0_chk105 v2102), 4 ∣ (k0_mult105 v2102).toNat := fun v2102 k0_hw105 => k0_hw105.1
theorem k0_off211_inb : ∀ (v2102 : BitVec 32) (k0_hw105 : k0_chk105 v2102), ∀ a, (k0_off211 v2102) a + S4x128.size a ≤ S65536x128.size a := fun v2102 k0_hw105 => k0_hw105.2

def k0_off212 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_638 : BitVec 32 := 0#32
  ![arg6.toNat, 0]
def k0_mult106 (v2122 : BitVec 32) : BitVec 32 :=
  v2122

def k0_off213 (v2122 : BitVec 32) : Fin 2 → Nat :=
  let v2123 : BitVec 32 := v2122
  let v2124 : Index := Scalar.indexCast v2123
  let c0_639 : Index := 0#32
  ![v2124.toNat, 0]

def k0_chk106 (v2122 : BitVec 32) : Prop :=
  (4 ∣ (k0_mult106 v2122).toNat) ∧
  (∀ a, (k0_off213 v2122) a + S4x128.size a ≤ S65536x128.size a)
theorem k0_mult106_dvd : ∀ (v2122 : BitVec 32) (k0_hw106 : k0_chk106 v2122), 4 ∣ (k0_mult106 v2122).toNat := fun v2122 k0_hw106 => k0_hw106.1
theorem k0_off213_inb : ∀ (v2122 : BitVec 32) (k0_hw106 : k0_chk106 v2122), ∀ a, (k0_off213 v2122) a + S4x128.size a ≤ S65536x128.size a := fun v2122 k0_hw106 => k0_hw106.2

def k0_off214 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_644 : BitVec 32 := 0#32
  ![arg6.toNat, 0]
def k0_mult107 (v2142 : BitVec 32) : BitVec 32 :=
  v2142

def k0_off215 (v2142 : BitVec 32) : Fin 2 → Nat :=
  let v2143 : BitVec 32 := v2142
  let v2144 : Index := Scalar.indexCast v2143
  let c0_645 : Index := 0#32
  ![v2144.toNat, 0]

def k0_chk107 (v2142 : BitVec 32) : Prop :=
  (4 ∣ (k0_mult107 v2142).toNat) ∧
  (∀ a, (k0_off215 v2142) a + S4x128.size a ≤ S65536x128.size a)
theorem k0_mult107_dvd : ∀ (v2142 : BitVec 32) (k0_hw107 : k0_chk107 v2142), 4 ∣ (k0_mult107 v2142).toNat := fun v2142 k0_hw107 => k0_hw107.1
theorem k0_off215_inb : ∀ (v2142 : BitVec 32) (k0_hw107 : k0_chk107 v2142), ∀ a, (k0_off215 v2142) a + S4x128.size a ≤ S65536x128.size a := fun v2142 k0_hw107 => k0_hw107.2

def k0_off216 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_650 : BitVec 32 := 0#32
  ![arg6.toNat, 0]
def k0_mult108 (v2162 : BitVec 32) : BitVec 32 :=
  v2162

def k0_off217 (v2162 : BitVec 32) : Fin 2 → Nat :=
  let v2163 : BitVec 32 := v2162
  let v2164 : Index := Scalar.indexCast v2163
  let c0_651 : Index := 0#32
  ![v2164.toNat, 0]

def k0_chk108 (v2162 : BitVec 32) : Prop :=
  (4 ∣ (k0_mult108 v2162).toNat) ∧
  (∀ a, (k0_off217 v2162) a + S4x128.size a ≤ S65536x128.size a)
theorem k0_mult108_dvd : ∀ (v2162 : BitVec 32) (k0_hw108 : k0_chk108 v2162), 4 ∣ (k0_mult108 v2162).toNat := fun v2162 k0_hw108 => k0_hw108.1
theorem k0_off217_inb : ∀ (v2162 : BitVec 32) (k0_hw108 : k0_chk108 v2162), ∀ a, (k0_off217 v2162) a + S4x128.size a ≤ S65536x128.size a := fun v2162 k0_hw108 => k0_hw108.2

def k0_off218 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_656 : BitVec 32 := 0#32
  ![arg6.toNat, 0]
def k0_mult109 (v2182 : BitVec 32) : BitVec 32 :=
  v2182

def k0_off219 (v2182 : BitVec 32) : Fin 2 → Nat :=
  let v2183 : BitVec 32 := v2182
  let v2184 : Index := Scalar.indexCast v2183
  let c0_657 : Index := 0#32
  ![v2184.toNat, 0]

def k0_chk109 (v2182 : BitVec 32) : Prop :=
  (4 ∣ (k0_mult109 v2182).toNat) ∧
  (∀ a, (k0_off219 v2182) a + S4x128.size a ≤ S65536x128.size a)
theorem k0_mult109_dvd : ∀ (v2182 : BitVec 32) (k0_hw109 : k0_chk109 v2182), 4 ∣ (k0_mult109 v2182).toNat := fun v2182 k0_hw109 => k0_hw109.1
theorem k0_off219_inb : ∀ (v2182 : BitVec 32) (k0_hw109 : k0_chk109 v2182), ∀ a, (k0_off219 v2182) a + S4x128.size a ≤ S65536x128.size a := fun v2182 k0_hw109 => k0_hw109.2

def k0_off220 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_662 : BitVec 32 := 0#32
  ![arg6.toNat, 0]
def k0_mult110 (v2202 : BitVec 32) : BitVec 32 :=
  v2202

def k0_off221 (v2202 : BitVec 32) : Fin 2 → Nat :=
  let v2203 : BitVec 32 := v2202
  let v2204 : Index := Scalar.indexCast v2203
  let c0_663 : Index := 0#32
  ![v2204.toNat, 0]

def k0_chk110 (v2202 : BitVec 32) : Prop :=
  (4 ∣ (k0_mult110 v2202).toNat) ∧
  (∀ a, (k0_off221 v2202) a + S4x128.size a ≤ S65536x128.size a)
theorem k0_mult110_dvd : ∀ (v2202 : BitVec 32) (k0_hw110 : k0_chk110 v2202), 4 ∣ (k0_mult110 v2202).toNat := fun v2202 k0_hw110 => k0_hw110.1
theorem k0_off221_inb : ∀ (v2202 : BitVec 32) (k0_hw110 : k0_chk110 v2202), ∀ a, (k0_off221 v2202) a + S4x128.size a ≤ S65536x128.size a := fun v2202 k0_hw110 => k0_hw110.2

def k0_off222 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_668 : BitVec 32 := 0#32
  ![arg6.toNat, 0]
def k0_mult111 (v2222 : BitVec 32) : BitVec 32 :=
  v2222

def k0_off223 (v2222 : BitVec 32) : Fin 2 → Nat :=
  let v2223 : BitVec 32 := v2222
  let v2224 : Index := Scalar.indexCast v2223
  let c0_669 : Index := 0#32
  ![v2224.toNat, 0]

def k0_chk111 (v2222 : BitVec 32) : Prop :=
  (4 ∣ (k0_mult111 v2222).toNat) ∧
  (∀ a, (k0_off223 v2222) a + S4x128.size a ≤ S65536x128.size a)
theorem k0_mult111_dvd : ∀ (v2222 : BitVec 32) (k0_hw111 : k0_chk111 v2222), 4 ∣ (k0_mult111 v2222).toNat := fun v2222 k0_hw111 => k0_hw111.1
theorem k0_off223_inb : ∀ (v2222 : BitVec 32) (k0_hw111 : k0_chk111 v2222), ∀ a, (k0_off223 v2222) a + S4x128.size a ≤ S65536x128.size a := fun v2222 k0_hw111 => k0_hw111.2

def k0_off224 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_674 : BitVec 32 := 0#32
  ![arg6.toNat, 0]
def k0_mult112 (v2242 : BitVec 32) : BitVec 32 :=
  v2242

def k0_off225 (v2242 : BitVec 32) : Fin 2 → Nat :=
  let v2243 : BitVec 32 := v2242
  let v2244 : Index := Scalar.indexCast v2243
  let c0_675 : Index := 0#32
  ![v2244.toNat, 0]

def k0_chk112 (v2242 : BitVec 32) : Prop :=
  (4 ∣ (k0_mult112 v2242).toNat) ∧
  (∀ a, (k0_off225 v2242) a + S4x128.size a ≤ S65536x128.size a)
theorem k0_mult112_dvd : ∀ (v2242 : BitVec 32) (k0_hw112 : k0_chk112 v2242), 4 ∣ (k0_mult112 v2242).toNat := fun v2242 k0_hw112 => k0_hw112.1
theorem k0_off225_inb : ∀ (v2242 : BitVec 32) (k0_hw112 : k0_chk112 v2242), ∀ a, (k0_off225 v2242) a + S4x128.size a ≤ S65536x128.size a := fun v2242 k0_hw112 => k0_hw112.2

def k0_off226 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_680 : BitVec 32 := 0#32
  ![arg6.toNat, 0]
def k0_mult113 (v2262 : BitVec 32) : BitVec 32 :=
  v2262

def k0_off227 (v2262 : BitVec 32) : Fin 2 → Nat :=
  let v2263 : BitVec 32 := v2262
  let v2264 : Index := Scalar.indexCast v2263
  let c0_681 : Index := 0#32
  ![v2264.toNat, 0]

def k0_chk113 (v2262 : BitVec 32) : Prop :=
  (4 ∣ (k0_mult113 v2262).toNat) ∧
  (∀ a, (k0_off227 v2262) a + S4x128.size a ≤ S65536x128.size a)
theorem k0_mult113_dvd : ∀ (v2262 : BitVec 32) (k0_hw113 : k0_chk113 v2262), 4 ∣ (k0_mult113 v2262).toNat := fun v2262 k0_hw113 => k0_hw113.1
theorem k0_off227_inb : ∀ (v2262 : BitVec 32) (k0_hw113 : k0_chk113 v2262), ∀ a, (k0_off227 v2262) a + S4x128.size a ≤ S65536x128.size a := fun v2262 k0_hw113 => k0_hw113.2

def k0_off228 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_686 : BitVec 32 := 0#32
  ![arg6.toNat, 0]
def k0_mult114 (v2282 : BitVec 32) : BitVec 32 :=
  v2282

def k0_off229 (v2282 : BitVec 32) : Fin 2 → Nat :=
  let v2283 : BitVec 32 := v2282
  let v2284 : Index := Scalar.indexCast v2283
  let c0_687 : Index := 0#32
  ![v2284.toNat, 0]

def k0_chk114 (v2282 : BitVec 32) : Prop :=
  (4 ∣ (k0_mult114 v2282).toNat) ∧
  (∀ a, (k0_off229 v2282) a + S4x128.size a ≤ S65536x128.size a)
theorem k0_mult114_dvd : ∀ (v2282 : BitVec 32) (k0_hw114 : k0_chk114 v2282), 4 ∣ (k0_mult114 v2282).toNat := fun v2282 k0_hw114 => k0_hw114.1
theorem k0_off229_inb : ∀ (v2282 : BitVec 32) (k0_hw114 : k0_chk114 v2282), ∀ a, (k0_off229 v2282) a + S4x128.size a ≤ S65536x128.size a := fun v2282 k0_hw114 => k0_hw114.2

def k0_off230 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_692 : BitVec 32 := 0#32
  ![arg6.toNat, 0]
def k0_mult115 (v2302 : BitVec 32) : BitVec 32 :=
  v2302

def k0_off231 (v2302 : BitVec 32) : Fin 2 → Nat :=
  let v2303 : BitVec 32 := v2302
  let v2304 : Index := Scalar.indexCast v2303
  let c0_693 : Index := 0#32
  ![v2304.toNat, 0]

def k0_chk115 (v2302 : BitVec 32) : Prop :=
  (4 ∣ (k0_mult115 v2302).toNat) ∧
  (∀ a, (k0_off231 v2302) a + S4x128.size a ≤ S65536x128.size a)
theorem k0_mult115_dvd : ∀ (v2302 : BitVec 32) (k0_hw115 : k0_chk115 v2302), 4 ∣ (k0_mult115 v2302).toNat := fun v2302 k0_hw115 => k0_hw115.1
theorem k0_off231_inb : ∀ (v2302 : BitVec 32) (k0_hw115 : k0_chk115 v2302), ∀ a, (k0_off231 v2302) a + S4x128.size a ≤ S65536x128.size a := fun v2302 k0_hw115 => k0_hw115.2

def k0_off232 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_698 : BitVec 32 := 0#32
  ![arg6.toNat, 0]
def k0_mult116 (v2322 : BitVec 32) : BitVec 32 :=
  v2322

def k0_off233 (v2322 : BitVec 32) : Fin 2 → Nat :=
  let v2323 : BitVec 32 := v2322
  let v2324 : Index := Scalar.indexCast v2323
  let c0_699 : Index := 0#32
  ![v2324.toNat, 0]

def k0_chk116 (v2322 : BitVec 32) : Prop :=
  (4 ∣ (k0_mult116 v2322).toNat) ∧
  (∀ a, (k0_off233 v2322) a + S4x128.size a ≤ S65536x128.size a)
theorem k0_mult116_dvd : ∀ (v2322 : BitVec 32) (k0_hw116 : k0_chk116 v2322), 4 ∣ (k0_mult116 v2322).toNat := fun v2322 k0_hw116 => k0_hw116.1
theorem k0_off233_inb : ∀ (v2322 : BitVec 32) (k0_hw116 : k0_chk116 v2322), ∀ a, (k0_off233 v2322) a + S4x128.size a ≤ S65536x128.size a := fun v2322 k0_hw116 => k0_hw116.2

def k0_off234 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_704 : BitVec 32 := 0#32
  ![arg6.toNat, 0]
def k0_mult117 (v2342 : BitVec 32) : BitVec 32 :=
  v2342

def k0_off235 (v2342 : BitVec 32) : Fin 2 → Nat :=
  let v2343 : BitVec 32 := v2342
  let v2344 : Index := Scalar.indexCast v2343
  let c0_705 : Index := 0#32
  ![v2344.toNat, 0]

def k0_chk117 (v2342 : BitVec 32) : Prop :=
  (4 ∣ (k0_mult117 v2342).toNat) ∧
  (∀ a, (k0_off235 v2342) a + S4x128.size a ≤ S65536x128.size a)
theorem k0_mult117_dvd : ∀ (v2342 : BitVec 32) (k0_hw117 : k0_chk117 v2342), 4 ∣ (k0_mult117 v2342).toNat := fun v2342 k0_hw117 => k0_hw117.1
theorem k0_off235_inb : ∀ (v2342 : BitVec 32) (k0_hw117 : k0_chk117 v2342), ∀ a, (k0_off235 v2342) a + S4x128.size a ≤ S65536x128.size a := fun v2342 k0_hw117 => k0_hw117.2

def k0_off236 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_710 : BitVec 32 := 0#32
  ![arg6.toNat, 0]
def k0_mult118 (v2362 : BitVec 32) : BitVec 32 :=
  v2362

def k0_off237 (v2362 : BitVec 32) : Fin 2 → Nat :=
  let v2363 : BitVec 32 := v2362
  let v2364 : Index := Scalar.indexCast v2363
  let c0_711 : Index := 0#32
  ![v2364.toNat, 0]

def k0_chk118 (v2362 : BitVec 32) : Prop :=
  (4 ∣ (k0_mult118 v2362).toNat) ∧
  (∀ a, (k0_off237 v2362) a + S4x128.size a ≤ S65536x128.size a)
theorem k0_mult118_dvd : ∀ (v2362 : BitVec 32) (k0_hw118 : k0_chk118 v2362), 4 ∣ (k0_mult118 v2362).toNat := fun v2362 k0_hw118 => k0_hw118.1
theorem k0_off237_inb : ∀ (v2362 : BitVec 32) (k0_hw118 : k0_chk118 v2362), ∀ a, (k0_off237 v2362) a + S4x128.size a ≤ S65536x128.size a := fun v2362 k0_hw118 => k0_hw118.2

def k0_off238 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_716 : BitVec 32 := 0#32
  ![arg6.toNat, 0]
def k0_mult119 (v2382 : BitVec 32) : BitVec 32 :=
  v2382

def k0_off239 (v2382 : BitVec 32) : Fin 2 → Nat :=
  let v2383 : BitVec 32 := v2382
  let v2384 : Index := Scalar.indexCast v2383
  let c0_717 : Index := 0#32
  ![v2384.toNat, 0]

def k0_chk119 (v2382 : BitVec 32) : Prop :=
  (4 ∣ (k0_mult119 v2382).toNat) ∧
  (∀ a, (k0_off239 v2382) a + S4x128.size a ≤ S65536x128.size a)
theorem k0_mult119_dvd : ∀ (v2382 : BitVec 32) (k0_hw119 : k0_chk119 v2382), 4 ∣ (k0_mult119 v2382).toNat := fun v2382 k0_hw119 => k0_hw119.1
theorem k0_off239_inb : ∀ (v2382 : BitVec 32) (k0_hw119 : k0_chk119 v2382), ∀ a, (k0_off239 v2382) a + S4x128.size a ≤ S65536x128.size a := fun v2382 k0_hw119 => k0_hw119.2

def k0_off240 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_722 : BitVec 32 := 0#32
  ![arg6.toNat, 0]
def k0_mult120 (v2402 : BitVec 32) : BitVec 32 :=
  v2402

def k0_off241 (v2402 : BitVec 32) : Fin 2 → Nat :=
  let v2403 : BitVec 32 := v2402
  let v2404 : Index := Scalar.indexCast v2403
  let c0_723 : Index := 0#32
  ![v2404.toNat, 0]

def k0_chk120 (v2402 : BitVec 32) : Prop :=
  (4 ∣ (k0_mult120 v2402).toNat) ∧
  (∀ a, (k0_off241 v2402) a + S4x128.size a ≤ S65536x128.size a)
theorem k0_mult120_dvd : ∀ (v2402 : BitVec 32) (k0_hw120 : k0_chk120 v2402), 4 ∣ (k0_mult120 v2402).toNat := fun v2402 k0_hw120 => k0_hw120.1
theorem k0_off241_inb : ∀ (v2402 : BitVec 32) (k0_hw120 : k0_chk120 v2402), ∀ a, (k0_off241 v2402) a + S4x128.size a ≤ S65536x128.size a := fun v2402 k0_hw120 => k0_hw120.2

def k0_off242 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_728 : BitVec 32 := 0#32
  ![arg6.toNat, 0]
def k0_mult121 (v2422 : BitVec 32) : BitVec 32 :=
  v2422

def k0_off243 (v2422 : BitVec 32) : Fin 2 → Nat :=
  let v2423 : BitVec 32 := v2422
  let v2424 : Index := Scalar.indexCast v2423
  let c0_729 : Index := 0#32
  ![v2424.toNat, 0]

def k0_chk121 (v2422 : BitVec 32) : Prop :=
  (4 ∣ (k0_mult121 v2422).toNat) ∧
  (∀ a, (k0_off243 v2422) a + S4x128.size a ≤ S65536x128.size a)
theorem k0_mult121_dvd : ∀ (v2422 : BitVec 32) (k0_hw121 : k0_chk121 v2422), 4 ∣ (k0_mult121 v2422).toNat := fun v2422 k0_hw121 => k0_hw121.1
theorem k0_off243_inb : ∀ (v2422 : BitVec 32) (k0_hw121 : k0_chk121 v2422), ∀ a, (k0_off243 v2422) a + S4x128.size a ≤ S65536x128.size a := fun v2422 k0_hw121 => k0_hw121.2

def k0_off244 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_734 : BitVec 32 := 0#32
  ![arg6.toNat, 0]
def k0_mult122 (v2442 : BitVec 32) : BitVec 32 :=
  v2442

def k0_off245 (v2442 : BitVec 32) : Fin 2 → Nat :=
  let v2443 : BitVec 32 := v2442
  let v2444 : Index := Scalar.indexCast v2443
  let c0_735 : Index := 0#32
  ![v2444.toNat, 0]

def k0_chk122 (v2442 : BitVec 32) : Prop :=
  (4 ∣ (k0_mult122 v2442).toNat) ∧
  (∀ a, (k0_off245 v2442) a + S4x128.size a ≤ S65536x128.size a)
theorem k0_mult122_dvd : ∀ (v2442 : BitVec 32) (k0_hw122 : k0_chk122 v2442), 4 ∣ (k0_mult122 v2442).toNat := fun v2442 k0_hw122 => k0_hw122.1
theorem k0_off245_inb : ∀ (v2442 : BitVec 32) (k0_hw122 : k0_chk122 v2442), ∀ a, (k0_off245 v2442) a + S4x128.size a ≤ S65536x128.size a := fun v2442 k0_hw122 => k0_hw122.2

def k0_off246 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_740 : BitVec 32 := 0#32
  ![arg6.toNat, 0]
def k0_mult123 (v2462 : BitVec 32) : BitVec 32 :=
  v2462

def k0_off247 (v2462 : BitVec 32) : Fin 2 → Nat :=
  let v2463 : BitVec 32 := v2462
  let v2464 : Index := Scalar.indexCast v2463
  let c0_741 : Index := 0#32
  ![v2464.toNat, 0]

def k0_chk123 (v2462 : BitVec 32) : Prop :=
  (4 ∣ (k0_mult123 v2462).toNat) ∧
  (∀ a, (k0_off247 v2462) a + S4x128.size a ≤ S65536x128.size a)
theorem k0_mult123_dvd : ∀ (v2462 : BitVec 32) (k0_hw123 : k0_chk123 v2462), 4 ∣ (k0_mult123 v2462).toNat := fun v2462 k0_hw123 => k0_hw123.1
theorem k0_off247_inb : ∀ (v2462 : BitVec 32) (k0_hw123 : k0_chk123 v2462), ∀ a, (k0_off247 v2462) a + S4x128.size a ≤ S65536x128.size a := fun v2462 k0_hw123 => k0_hw123.2

def k0_off248 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_746 : BitVec 32 := 0#32
  ![arg6.toNat, 0]
def k0_mult124 (v2482 : BitVec 32) : BitVec 32 :=
  v2482

def k0_off249 (v2482 : BitVec 32) : Fin 2 → Nat :=
  let v2483 : BitVec 32 := v2482
  let v2484 : Index := Scalar.indexCast v2483
  let c0_747 : Index := 0#32
  ![v2484.toNat, 0]

def k0_chk124 (v2482 : BitVec 32) : Prop :=
  (4 ∣ (k0_mult124 v2482).toNat) ∧
  (∀ a, (k0_off249 v2482) a + S4x128.size a ≤ S65536x128.size a)
theorem k0_mult124_dvd : ∀ (v2482 : BitVec 32) (k0_hw124 : k0_chk124 v2482), 4 ∣ (k0_mult124 v2482).toNat := fun v2482 k0_hw124 => k0_hw124.1
theorem k0_off249_inb : ∀ (v2482 : BitVec 32) (k0_hw124 : k0_chk124 v2482), ∀ a, (k0_off249 v2482) a + S4x128.size a ≤ S65536x128.size a := fun v2482 k0_hw124 => k0_hw124.2

def k0_off250 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_752 : BitVec 32 := 0#32
  ![arg6.toNat, 0]
def k0_mult125 (v2502 : BitVec 32) : BitVec 32 :=
  v2502

def k0_off251 (v2502 : BitVec 32) : Fin 2 → Nat :=
  let v2503 : BitVec 32 := v2502
  let v2504 : Index := Scalar.indexCast v2503
  let c0_753 : Index := 0#32
  ![v2504.toNat, 0]

def k0_chk125 (v2502 : BitVec 32) : Prop :=
  (4 ∣ (k0_mult125 v2502).toNat) ∧
  (∀ a, (k0_off251 v2502) a + S4x128.size a ≤ S65536x128.size a)
theorem k0_mult125_dvd : ∀ (v2502 : BitVec 32) (k0_hw125 : k0_chk125 v2502), 4 ∣ (k0_mult125 v2502).toNat := fun v2502 k0_hw125 => k0_hw125.1
theorem k0_off251_inb : ∀ (v2502 : BitVec 32) (k0_hw125 : k0_chk125 v2502), ∀ a, (k0_off251 v2502) a + S4x128.size a ≤ S65536x128.size a := fun v2502 k0_hw125 => k0_hw125.2

def k0_off252 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_758 : BitVec 32 := 0#32
  ![arg6.toNat, 0]
def k0_mult126 (v2522 : BitVec 32) : BitVec 32 :=
  v2522

def k0_off253 (v2522 : BitVec 32) : Fin 2 → Nat :=
  let v2523 : BitVec 32 := v2522
  let v2524 : Index := Scalar.indexCast v2523
  let c0_759 : Index := 0#32
  ![v2524.toNat, 0]

def k0_chk126 (v2522 : BitVec 32) : Prop :=
  (4 ∣ (k0_mult126 v2522).toNat) ∧
  (∀ a, (k0_off253 v2522) a + S4x128.size a ≤ S65536x128.size a)
theorem k0_mult126_dvd : ∀ (v2522 : BitVec 32) (k0_hw126 : k0_chk126 v2522), 4 ∣ (k0_mult126 v2522).toNat := fun v2522 k0_hw126 => k0_hw126.1
theorem k0_off253_inb : ∀ (v2522 : BitVec 32) (k0_hw126 : k0_chk126 v2522), ∀ a, (k0_off253 v2522) a + S4x128.size a ≤ S65536x128.size a := fun v2522 k0_hw126 => k0_hw126.2

def k0_off254 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_764 : BitVec 32 := 0#32
  ![arg6.toNat, 0]
def k0_mult127 (v2542 : BitVec 32) : BitVec 32 :=
  v2542

def k0_off255 (v2542 : BitVec 32) : Fin 2 → Nat :=
  let v2543 : BitVec 32 := v2542
  let v2544 : Index := Scalar.indexCast v2543
  let c0_765 : Index := 0#32
  ![v2544.toNat, 0]

def k0_chk127 (v2542 : BitVec 32) : Prop :=
  (4 ∣ (k0_mult127 v2542).toNat) ∧
  (∀ a, (k0_off255 v2542) a + S4x128.size a ≤ S65536x128.size a)
theorem k0_mult127_dvd : ∀ (v2542 : BitVec 32) (k0_hw127 : k0_chk127 v2542), 4 ∣ (k0_mult127 v2542).toNat := fun v2542 k0_hw127 => k0_hw127.1
theorem k0_off255_inb : ∀ (v2542 : BitVec 32) (k0_hw127 : k0_chk127 v2542), ∀ a, (k0_off255 v2542) a + S4x128.size a ≤ S65536x128.size a := fun v2542 k0_hw127 => k0_hw127.2

def k0_off256 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_770 : BitVec 32 := 0#32
  ![arg6.toNat, 0]
def k0_mult128 (v2562 : BitVec 32) : BitVec 32 :=
  v2562

def k0_off257 (v2562 : BitVec 32) : Fin 2 → Nat :=
  let v2563 : BitVec 32 := v2562
  let v2564 : Index := Scalar.indexCast v2563
  let c0_771 : Index := 0#32
  ![v2564.toNat, 0]

def k0_chk128 (v2562 : BitVec 32) : Prop :=
  (4 ∣ (k0_mult128 v2562).toNat) ∧
  (∀ a, (k0_off257 v2562) a + S4x128.size a ≤ S65536x128.size a)
theorem k0_mult128_dvd : ∀ (v2562 : BitVec 32) (k0_hw128 : k0_chk128 v2562), 4 ∣ (k0_mult128 v2562).toNat := fun v2562 k0_hw128 => k0_hw128.1
theorem k0_off257_inb : ∀ (v2562 : BitVec 32) (k0_hw128 : k0_chk128 v2562), ∀ a, (k0_off257 v2562) a + S4x128.size a ≤ S65536x128.size a := fun v2562 k0_hw128 => k0_hw128.2

def k0_off258 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2582 : Index := Scalar.indexCast arg6
  let c0_776 : Index := 0#32
  ![v2582.toNat, 0]
def k0_off259 (k0_t1 : Fin k0_t1_loop.trips) : Fin 2 → Nat :=
  let c0_i32 : BitVec 32 := 0#32
  let c1_i32 : BitVec 32 := 1#32
  let arg6 : BitVec 32 := Scf.iv c0_i32 c1_i32 k0_t1
  let v2586 : Index := Scalar.indexCast arg6
  let c512 : Index := 512#32
  ![v2586.toNat, 512]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S65536x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x128 : Shape := ⟨2, ![32768, 128]⟩
abbrev S16384x1024 : Shape := ⟨2, ![16384, 1024]⟩
abbrev S_ : Shape := ⟨0, ![]⟩
abbrev S32768x128x1 : Shape := ⟨3, ![32768, 128, 1]⟩
abbrev S32768x128x1024 : Shape := ⟨3, ![32768, 128, 1024]⟩
abbrev S32768x1024 : Shape := ⟨2, ![32768, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S32768x128, .f32⟩
  | .hbm, ⟨2, _⟩ => ⟨S16384x1024, .i16⟩
  | .hbm, ⟨3, _⟩ => ⟨S16384x1024, .bf16⟩
  | .hbm, ⟨4, _⟩ => ⟨S16384x1024, .f32⟩
  | .hbm, ⟨5, _⟩ => ⟨S_, .i32⟩
  | .hbm, ⟨6, _⟩ => ⟨S32768x128, .i32⟩
  | .hbm, ⟨7, _⟩ => ⟨S32768x128, .i32⟩
  | .hbm, ⟨8, _⟩ => ⟨S_, .i32⟩
  | .hbm, ⟨9, _⟩ => ⟨S32768x128, .i32⟩
  | .hbm, ⟨10, _⟩ => ⟨S32768x128, .i1⟩
  | .hbm, ⟨11, _⟩ => ⟨S_, .i32⟩
  | .hbm, ⟨12, _⟩ => ⟨S32768x128, .i32⟩
  | .hbm, ⟨13, _⟩ => ⟨S32768x128, .i32⟩
  | .hbm, ⟨14, _⟩ => ⟨S32768x128, .i32⟩
  | .hbm, ⟨15, _⟩ => ⟨S32768x128x1, .i32⟩
  | .hbm, ⟨16, _⟩ => ⟨S32768x128x1024, .f32⟩
  | .hbm, ⟨17, _⟩ => ⟨S32768x1024, .f32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Merge.lean ====
abbrev S8x8x64x4096 : Shape := ⟨4, ![8, 8, 64, 4096]⟩
abbrev S32768x512 : Shape := ⟨2, ![32768, 512]⟩
abbrev S32768x4096 : Shape := ⟨2, ![32768, 4096]⟩
abbrev S8x4096x1024 : Shape := ⟨3, ![8, 4096, 1024]⟩
abbrev S8x1024 : Shape := ⟨2, ![8, 1024]⟩
abbrev S512x1024 : Shape := ⟨2, ![512, 1024]⟩
abbrev S1024x1024 : Shape := ⟨2, ![1024, 1024]⟩
abbrev S32768x1024 : Shape := ⟨2, ![32768, 1024]⟩
abbrev S8x1x1024 : Shape := ⟨3, ![8, 1, 1024]⟩
abbrev S_ : Shape := ⟨0, ![]⟩
abbrev S1x8x64x512 : Shape := ⟨4, ![1, 8, 64, 512]⟩
abbrev S512x512 : Shape := ⟨2, ![512, 512]⟩
abbrev S1x1x1024 : Shape := ⟨3, ![1, 1, 1024]⟩
abbrev S8x64x512 : Shape := ⟨3, ![8, 64, 512]⟩
abbrev S1x1024 : Shape := ⟨2, ![1, 1024]⟩
abbrev S512 : Shape := ⟨1, ![512]⟩
abbrev S512x1 : Shape := ⟨2, ![512, 1]⟩

abbrev nBuf : Space → Nat
  | .hbm => 22
  | .vmem => 25
  | .smem => 0
  | _ => 0

abbrev bufTy : (tb : Table) → Fin (tcTables nBuf tb) → BufTy
  | .hbm, ⟨0, _⟩ => ⟨S8x8x64x4096, .f32⟩
  | .hbm, ⟨1, _⟩ => ⟨S32768x512, .f32⟩
  | .hbm, ⟨2, _⟩ => ⟨S32768x4096, .f32⟩
  | .hbm, ⟨3, _⟩ => ⟨S8x4096x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S32768x1024, .f32⟩
  | .hbm, ⟨11, _⟩ => ⟨S8x1x1024, .f32⟩
  | .hbm, ⟨12, _⟩ => ⟨S8x1x1024, .f32⟩
  | .hbm, ⟨13, _⟩ => ⟨S_, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S512x1024, .bf16⟩
  | .hbm, ⟨18, _⟩ => ⟨S512x1024, .bf16⟩
  | .hbm, ⟨19, _⟩ => ⟨S1024x1024, .bf16⟩
  | .hbm, ⟨20, _⟩ => ⟨S32768x1024, .f32⟩
  | .hbm, ⟨21, _⟩ => ⟨S32768x1024, .f32⟩
  | .local _ .vmem, ⟨0, _⟩ => ⟨S1x8x64x512, .f32⟩
  | .local _ .vmem, ⟨1, _⟩ => ⟨S1x8x64x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | _, _ => ⟨S8x8x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S8x8x64x4096 : Shape := ⟨4, ![8, 8, 64, 4096]⟩
abbrev S32768x512 : Shape := ⟨2, ![32768, 512]⟩
abbrev S32768x4096 : Shape := ⟨2, ![32768, 4096]⟩
abbrev S8x4096x1024 : Shape := ⟨3, ![8, 4096, 1024]⟩
abbrev S8x1024 : Shape := ⟨2, ![8, 1024]⟩
abbrev S512x1024 : Shape := ⟨2, ![512, 1024]⟩
abbrev S1024x1024 : Shape := ⟨2, ![1024, 1024]⟩
abbrev S32768x1024 : Shape := ⟨2, ![32768, 1024]⟩
abbrev S8x4096x8x64 : Shape := ⟨4, ![8, 4096, 8, 64]⟩
abbrev S_ : Shape := ⟨0, ![]⟩
abbrev S8x1x1024 : Shape := ⟨3, ![8, 1, 1024]⟩
abbrev S32768 : Shape := ⟨1, ![32768]⟩
abbrev S32768x1 : Shape := ⟨2, ![32768, 1]⟩

abbrev nBuf : Space → Nat
  | .hbm => 77
  | .vmem => 0
  | .smem => 0
  | _ => 0

abbrev bufTy : (tb : Table) → Fin (tcTables nBuf tb) → BufTy
  | .hbm, ⟨0, _⟩ => ⟨S8x8x64x4096, .f32⟩
  | .hbm, ⟨1, _⟩ => ⟨S32768x512, .f32⟩
  | .hbm, ⟨2, _⟩ => ⟨S32768x4096, .f32⟩
  | .hbm, ⟨3, _⟩ => ⟨S8x4096x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S32768x1024, .f32⟩
  | .hbm, ⟨11, _⟩ => ⟨S32768x1024, .f32⟩
  | .hbm, ⟨12, _⟩ => ⟨S32768x512, .f32⟩
  | .hbm, ⟨13, _⟩ => ⟨S8x4096x8x64, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S_, .f32⟩
  | .hbm, ⟨18, _⟩ => ⟨S32768x512, .f32⟩
  | .hbm, ⟨19, _⟩ => ⟨S32768x512, .f32⟩
  | .hbm, ⟨20, _⟩ => ⟨S_, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S8x1x1024, .f32⟩
  | .hbm, ⟨48, _⟩ => ⟨S8x4096x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S32768x1, .f32⟩
  | .hbm, ⟨64, _⟩ => ⟨S32768x1024, .f32⟩
  | .hbm, ⟨65, _⟩ => ⟨S32768x1024, .f32⟩
  | .hbm, ⟨66, _⟩ => ⟨S8x1x1024, .f32⟩
  | .hbm, ⟨67, _⟩ => ⟨S8x4096x1024, .f32⟩
  | .hbm, ⟨68, _⟩ => ⟨S32768x1024, .f32⟩
  | .hbm, ⟨69, _⟩ => ⟨S_, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S8x1x1024, .f32⟩
  | .hbm, ⟨74, _⟩ => ⟨S8x4096x1024, .f32⟩
  | .hbm, ⟨75, _⟩ => ⟨S32768x1024, .f32⟩
  | .hbm, ⟨76, _⟩ => ⟨S32768x1024, .f32⟩
  | _, _ => ⟨S8x8x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Final.lean ====
abbrev S32768x1024 : Shape := ⟨2, ![32768, 1024]⟩
abbrev S8x1024 : Shape := ⟨2, ![8, 1024]⟩
abbrev S1024 : Shape := ⟨1, ![1024]⟩
abbrev S8x1x1024 : Shape := ⟨3, ![8, 1, 1024]⟩
abbrev S1x1024 : Shape := ⟨2, ![1, 1024]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S8x1024, .f32⟩
  | .hbm, ⟨3, _⟩ => ⟨S1024, .f32⟩
  | .hbm, ⟨4, _⟩ => ⟨S8x1x1024, .f32⟩
  | .hbm, ⟨5, _⟩ => ⟨S1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S32768x1024 : Shape := ⟨2, ![32768, 1024]⟩
abbrev S8x1024 : Shape := ⟨2, ![8, 1024]⟩
abbrev S1024 : Shape := ⟨1, ![1024]⟩
abbrev S8x1x1024 : Shape := ⟨3, ![8, 1, 1024]⟩
abbrev S8x4096x1024 : Shape := ⟨3, ![8, 4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S8x1024, .f32⟩
  | .hbm, ⟨3, _⟩ => ⟨S1024, .f32⟩
  | .hbm, ⟨4, _⟩ => ⟨S8x1x1024, .f32⟩
  | .hbm, ⟨5, _⟩ => ⟨S8x4096x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InProj.lean ====
abbrev S8x4096x1024 : Shape := ⟨3, ![8, 4096, 1024]⟩
abbrev S8x1024 : Shape := ⟨2, ![8, 1024]⟩
abbrev S1024x5984 : Shape := ⟨2, ![1024, 5984]⟩
abbrev S8x4096 : Shape := ⟨2, ![8, 4096]⟩
abbrev S8 : Shape := ⟨1, ![8]⟩
abbrev S32768x1024 : Shape := ⟨2, ![32768, 1024]⟩
abbrev S8x1x1024 : Shape := ⟨3, ![8, 1, 1024]⟩
abbrev S_ : Shape := ⟨0, ![]⟩
abbrev S1024x1024 : Shape := ⟨2, ![1024, 1024]⟩
abbrev S1024x512 : Shape := ⟨2, ![1024, 512]⟩
abbrev S1024x128 : Shape := ⟨2, ![1024, 128]⟩
abbrev S1024x64 : Shape := ⟨2, ![1024, 64]⟩
abbrev S1024x16 : Shape := ⟨2, ![1024, 16]⟩
abbrev S1024x8 : Shape := ⟨2, ![1024, 8]⟩
abbrev S1024x32 : Shape := ⟨2, ![1024, 32]⟩
abbrev S1024x6016 : Shape := ⟨2, ![1024, 6016]⟩
abbrev S8x1x4096 : Shape := ⟨3, ![8, 1, 4096]⟩
abbrev S1x8x1 : Shape := ⟨3, ![1, 8, 1]⟩
abbrev S8x8x4096 : Shape := ⟨3, ![8, 8, 4096]⟩
abbrev S8x1 : Shape := ⟨2, ![8, 1]⟩
abbrev S8x2 : Shape := ⟨2, ![8, 2]⟩
abbrev S32768x4096 : Shape := ⟨2, ![32768, 4096]⟩
abbrev S8x16x64x4096 : Shape := ⟨4, ![8, 16, 64, 4096]⟩
abbrev S8x8x64x4096 : Shape := ⟨4, ![8, 8, 64, 4096]⟩
abbrev S8x16x4096 : Shape := ⟨3, ![8, 16, 4096]⟩
abbrev S8x16x256x64 : Shape := ⟨4, ![8, 16, 256, 64]⟩
abbrev S8x2x16x256x64 : Shape := ⟨5, ![8, 2, 16, 256, 64]⟩
abbrev S8x2x16x64x256 : Shape := ⟨5, ![8, 2, 16, 64, 256]⟩
abbrev S512x1024 : Shape := ⟨2, ![512, 1024]⟩
abbrev S1x1x1024 : Shape := ⟨3, ![1, 1, 1024]⟩
abbrev S1x8x512 : Shape := ⟨3, ![1, 8, 512]⟩
abbrev S512x4096 : Shape := ⟨2, ![512, 4096]⟩
abbrev S1x16x64x512 : Shape := ⟨4, ![1, 16, 64, 512]⟩
abbrev S1x8x64x512 : Shape := ⟨4, ![1, 8, 64, 512]⟩
abbrev S1x16x512 : Shape := ⟨3, ![1, 16, 512]⟩
abbrev S1x2x256x64 : Shape := ⟨4, ![1, 2, 256, 64]⟩
abbrev S1x2x2x256x64 : Shape := ⟨5, ![1, 2, 2, 256, 64]⟩
abbrev S1x2x2x64x256 : Shape := ⟨5, ![1, 2, 2, 64, 256]⟩
abbrev S1x1024 : Shape := ⟨2, ![1, 1024]⟩
abbrev S512 : Shape := ⟨1, ![512]⟩
abbrev S512x1 : Shape := ⟨2, ![512, 1]⟩
abbrev S1024x4096 : Shape := ⟨2, ![1024, 4096]⟩
abbrev S1024x1920 : Shape := ⟨2, ![1024, 1920]⟩
abbrev S512x1920 : Shape := ⟨2, ![512, 1920]⟩
abbrev S8x512 : Shape := ⟨2, ![8, 512]⟩
abbrev S48x512 : Shape := ⟨2, ![48, 512]⟩
abbrev S64x512 : Shape := ⟨2, ![64, 512]⟩
abbrev S1x1x64x512 : Shape := ⟨4, ![1, 1, 64, 512]⟩
abbrev S512x512 : Shape := ⟨2, ![512, 512]⟩
abbrev S512x128 : Shape := ⟨2, ![512, 128]⟩
abbrev S128x512 : Shape := ⟨2, ![128, 512]⟩
abbrev S64x256 : Shape := ⟨2, ![64, 256]⟩
abbrev S256x64 : Shape := ⟨2, ![256, 64]⟩
abbrev S1x1x1x256x64 : Shape := ⟨5, ![1, 1, 1, 256, 64]⟩
abbrev S1x1x1x64x256 : Shape := ⟨5, ![1, 1, 1, 64, 256]⟩
abbrev S1x1x256x64 : Shape := ⟨4, ![1, 1, 256, 64]⟩
abbrev S16x512 : Shape := ⟨2, ![16, 512]⟩

abbrev nBuf : Space → Nat
  | .hbm => 58
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S1024x5984, .f32⟩
  | .hbm, ⟨4, _⟩ => ⟨S8x4096, .i32⟩
  | .hbm, ⟨5, _⟩ => ⟨S8, .f32⟩
  | .hbm, ⟨6, _⟩ => ⟨S8, .f32⟩
  | .hbm, ⟨7, _⟩ => ⟨S32768x1024, .f32⟩
  | .hbm, ⟨8, _⟩ => ⟨S8x1x1024, .f32⟩
  | .hbm, ⟨9, _⟩ => ⟨S_, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S1024x1024, .f32⟩
  | .hbm, ⟨14, _⟩ => ⟨S1024x1024, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x1024, .f32⟩
  | .hbm, ⟨20, _⟩ => ⟨S1024x512, .f32⟩
  | .hbm, ⟨21, _⟩ => ⟨S1024x128, .f32⟩
  | .hbm, ⟨22, _⟩ => ⟨S1024x128, .f32⟩
  | .hbm, ⟨23, _⟩ => ⟨S1024x64, .f32⟩
  | .hbm, ⟨24, _⟩ => ⟨S1024x16, .f32⟩
  | .hbm, ⟨25, _⟩ => ⟨S1024x8, .f32⟩
  | .hbm, ⟨26, _⟩ => ⟨S1024x8, .f32⟩
  | .hbm, ⟨27, _⟩ => ⟨S_, .f32⟩
  | .hbm, ⟨28, _⟩ => ⟨S1024x32, .f32⟩
  | .hbm, ⟨29, _⟩ => ⟨S1024x6016, .f32⟩
  | .hbm, ⟨30, _⟩ => ⟨S1024x6016, .bf16⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8x4096, .f32⟩
  | .hbm, ⟨40, _⟩ => ⟨S8x1x4096, .f32⟩
  | .hbm, ⟨41, _⟩ => ⟨S1x8x1, .f32⟩
  | .hbm, ⟨42, _⟩ => ⟨S8x8x4096, .f32⟩
  | .hbm, ⟨43, _⟩ => ⟨S8x8x4096, .f32⟩
  | .hbm, ⟨44, _⟩ => ⟨S8x8x4096, .f32⟩
  | .hbm, ⟨45, _⟩ => ⟨S8x8x4096, .f32⟩
  | .hbm, ⟨46, _⟩ => ⟨S8x8x4096, .f32⟩
  | .hbm, ⟨47, _⟩ => ⟨S8x1, .f32⟩
  | .hbm, ⟨48, _⟩ => ⟨S8x1, .f32⟩
  | .hbm, ⟨49, _⟩ => ⟨S8x2, .f32⟩
  | .hbm, ⟨50, _⟩ => ⟨S32768x4096, .f32⟩
  | .hbm, ⟨51, _⟩ => ⟨S8x16x64x4096, .bf16⟩
  | .hbm, ⟨52, _⟩ => ⟨S8x8x64x4096, .bf16⟩
  | .hbm, ⟨53, _⟩ => ⟨S8x16x4096, .f32⟩
  | .hbm, ⟨54, _⟩ => ⟨S8x16x256x64, .bf16⟩
  | .hbm, ⟨55, _⟩ => ⟨S8x2x16x256x64, .bf16⟩
  | .hbm, ⟨56, _⟩ => ⟨S8x2x16x64x256, .bf16⟩
  | .hbm, ⟨57, _⟩ => ⟨S8x16x4096, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x6016, .bf16⟩
  | .local _ .vmem, ⟨7, _⟩ => ⟨S1x8x512, .f32⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S8x2, .f32⟩
  | .local _ .vmem, ⟨12, _⟩ => ⟨S512x4096, .f32⟩
  | .local _ .vmem, ⟨13, _⟩ => ⟨S512x4096, .f32⟩
  | .local _ .vmem, ⟨14, _⟩ => ⟨S1x16x64x512, .bf16⟩
  | .local _ .vmem, ⟨15, _⟩ => ⟨S1x16x64x512, .bf16⟩
  | .local _ .vmem, ⟨16, _⟩ => ⟨S1x8x64x512, .bf16⟩
  | .local _ .vmem, ⟨17, _⟩ => ⟨S1x8x64x512, .bf16⟩
  | .local _ .vmem, ⟨18, _⟩ => ⟨S1x16x512, .f32⟩
  | .local _ .vmem, ⟨19, _⟩ => ⟨S1x16x512, .f32⟩
  | .local _ .vmem, ⟨20, _⟩ => ⟨S1x2x256x64, .bf16⟩
  | .local _ .vmem, ⟨21, _⟩ => ⟨S1x2x256x64, .bf16⟩
  | .local _ .vmem, ⟨22, _⟩ => ⟨S1x2x2x256x64, .bf16⟩
  | .local _ .vmem, ⟨23, _⟩ => ⟨S1x2x2x256x64, .bf16⟩
  | .local _ .vmem, ⟨24, _⟩ => ⟨S1x2x2x64x256, .bf16⟩
  | .local _ .vmem, ⟨25, _⟩ => ⟨S1x2x2x64x256, .bf16⟩
  | .local _ .vmem, ⟨26, _⟩ => ⟨S1x16x512, .f32⟩
  | .local _ .vmem, ⟨27, _⟩ => ⟨S1x16x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39_0 : Ref sig .tc := ⟨.hbm, 50, rfl⟩
abbrev main_v39_1 : Ref sig .tc := ⟨.hbm, 51, rfl⟩
abbrev main_v39_2 : Ref sig .tc := ⟨.hbm, 52, rfl⟩
abbrev main_v39_3 : Ref sig .tc := ⟨.hbm, 53, rfl⟩
abbrev main_v39_4 : Ref sig .tc := ⟨.hbm, 54, rfl⟩
abbrev main_v39_5 : Ref sig .tc := ⟨.hbm, 55, rfl⟩
abbrev main_v39_6 : Ref sig .tc := ⟨.hbm, 56, rfl⟩
abbrev main_v39_7 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_13 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6016 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x256x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x2x256x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x2x64x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InProjRefIdeal.lean ====
abbrev S8x4096x1024 : Shape := ⟨3, ![8, 4096, 1024]⟩
abbrev S8x1024 : Shape := ⟨2, ![8, 1024]⟩
abbrev S1024x5984 : Shape := ⟨2, ![1024, 5984]⟩
abbrev S8x4096 : Shape := ⟨2, ![8, 4096]⟩
abbrev S8 : Shape := ⟨1, ![8]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S8x1x1024 : Shape := ⟨3, ![8, 1, 1024]⟩
abbrev S32768x5984 : Shape := ⟨2, ![32768, 5984]⟩
abbrev S32768x512 : Shape := ⟨2, ![32768, 512]⟩
abbrev S32768x128 : Shape := ⟨2, ![32768, 128]⟩
abbrev S32768x64 : Shape := ⟨2, ![32768, 64]⟩
abbrev S32768x16 : Shape := ⟨2, ![32768, 16]⟩
abbrev S32768x8 : Shape := ⟨2, ![32768, 8]⟩
abbrev S8x4096x16x64 : Shape := ⟨4, ![8, 4096, 16, 64]⟩
abbrev S8x4096x1 : Shape := ⟨3, ![8, 4096, 1]⟩
abbrev S1x1x8 : Shape := ⟨3, ![1, 1, 8]⟩
abbrev S8x4096x8 : Shape := ⟨3, ![8, 4096, 8]⟩
abbrev S8x4096x1x8 : Shape := ⟨4, ![8, 4096, 1, 8]⟩
abbrev S8x4096x16x8 : Shape := ⟨4, ![8, 4096, 16, 8]⟩
abbrev S8x4096x16x48 : Shape := ⟨4, ![8, 4096, 16, 48]⟩
abbrev S8x16x64x4096 : Shape := ⟨4, ![8, 16, 64, 4096]⟩
abbrev S8x4096x8x64 : Shape := ⟨4, ![8, 4096, 8, 64]⟩
abbrev S8x4096x8x8 : Shape := ⟨4, ![8, 4096, 8, 8]⟩
abbrev S8x4096x8x48 : Shape := ⟨4, ![8, 4096, 8, 48]⟩
abbrev S8x8x64x4096 : Shape := ⟨4, ![8, 8, 64, 4096]⟩
abbrev S8x4096x1x64 : Shape := ⟨4, ![8, 4096, 1, 64]⟩
abbrev S8x4096x1x48 : Shape := ⟨4, ![8, 4096, 1, 48]⟩
abbrev S8x16x256x64 : Shape := ⟨4, ![8, 16, 256, 64]⟩
abbrev S8x4096x2x64 : Shape := ⟨4, ![8, 4096, 2, 64]⟩
abbrev S8x4096x2x8 : Shape := ⟨4, ![8, 4096, 2, 8]⟩
abbrev S8x4096x2x48 : Shape := ⟨4, ![8, 4096, 2, 48]⟩
abbrev S8x16x256x2x64 : Shape := ⟨5, ![8, 16, 256, 2, 64]⟩
abbrev S8x2x16x256x64 : Shape := ⟨5, ![8, 2, 16, 256, 64]⟩
abbrev S8x2x16x64x256 : Shape := ⟨5, ![8, 2, 16, 64, 256]⟩
abbrev S8x4096x16 : Shape := ⟨3, ![8, 4096, 16]⟩
abbrev S8x16x4096 : Shape := ⟨3, ![8, 16, 4096]⟩
abbrev S8x8x4096 : Shape := ⟨3, ![8, 8, 4096]⟩
abbrev S1x8 : Shape := ⟨2, ![1, 8]⟩
abbrev S32768x4096 : Shape := ⟨2, ![32768, 4096]⟩

abbrev nBuf : Space → Nat
  | .hbm => 231
  | .vmem => 0
  | .smem => 0
  | _ => 0

abbrev hbmTy0_0 (i : Nat) : BufTy := match i % 128 with
  | 0 => ⟨S8x4096x1024, .f32⟩
  | 1 => ⟨S8x1024, .f32⟩
  | 2 => ⟨S8x1024, .f32⟩
  | 3 => ⟨S1024x5984, .f32⟩
  | 4 => ⟨S8x4096, .i32⟩
  | 5 => ⟨S8, .f32⟩
  | 6 => ⟨S8, .f32⟩
  | 7 => ⟨S32768x1024, .f32⟩
  | 8 => ⟨S32768x1024, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1024, .f32⟩
  | 20 => ⟨S32768x1024, .f32⟩
  | 21 => ⟨S8x1x1024, .f32⟩
  | 22 => ⟨S8x4096x1024, .f32⟩
  | 23 => ⟨S32768x1024, .f32⟩
  | 24 => ⟨S_, .f32⟩
  | 25 => ⟨S32768x1024, .f32⟩
  | 26 => ⟨S32768x1024, .f32⟩
  | 27 => ⟨S32768x1024, .f32⟩
  | 28 => ⟨S8x1x1024, .f32⟩
  | 29 => ⟨S8x4096x1024, .f32⟩
  | 30 => ⟨S32768x1024, .f32⟩
  | 31 => ⟨S32768x1024, .f32⟩
  | 32 => ⟨S32768x5984, .f32⟩
  | 33 => ⟨S32768x512, .f32⟩
  | 34 => ⟨S32768x128, .f32⟩
  | 35 => ⟨S32768x128, .f32⟩
  | 36 => ⟨S32768x1024, .f32⟩
  | 37 => ⟨S32768x64, .f32⟩
  | 38 => ⟨S32768x16, .f32⟩
  | 39 => ⟨S32768x512, .f32⟩
  | 40 => ⟨S32768x512, .f32⟩
  | 41 => ⟨S32768x512, .f32⟩
  | 42 => ⟨S32768x512, .f32⟩
  | 43 => ⟨S32768x8, .f32⟩
  | 44 => ⟨S32768x8, .f32⟩
  | 45 => ⟨S32768x1024, .f32⟩
  | 46 => ⟨S32768x1024, .f32⟩
  | 47 => ⟨S8x4096x16x64, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S8x4096, .f32⟩
  | 57 => ⟨S8x4096x1, .f32⟩
  | 58 => ⟨S1x1x8, .f32⟩
  | 59 => ⟨S8x4096x8, .f32⟩
  | 60 => ⟨S8x4096x8, .f32⟩
  | 61 => ⟨S8x4096x8, .f32⟩
  | 62 => ⟨S8x4096x8, .f32⟩
  | 63 => ⟨S8x4096x1x8, .f32⟩
  | 64 => ⟨S8x4096x8, .f32⟩
  | 65 => ⟨S8x4096x1x8, .f32⟩
  | 66 => ⟨S8x4096x16x8, .f32⟩
  | 67 => ⟨S8x4096x16x8, .f32⟩
  | 68 => ⟨S8x4096x16x8, .f32⟩
  | 69 => ⟨S8x4096x16x8, .f32⟩
  | 70 => ⟨S8x4096x16x8, .f32⟩
  | 71 => ⟨S8x4096x16x8, .f32⟩
  | 72 => ⟨S8x4096x16x8, .f32⟩
  | 73 => ⟨S8x4096x16x8, .f32⟩
  | 74 => ⟨S8x4096x16x8, .f32⟩
  | 75 => ⟨S8x4096x16x8, .f32⟩
  | 76 => ⟨S8x4096x16x8, .f32⟩
  | 77 => ⟨S8x4096x16x8, .f32⟩
  | 78 => ⟨S8x4096x16x48, .f32⟩
  | 79 => ⟨S8x4096x16x64, .f32⟩
  | 80 => ⟨S8x16x64x4096, .f32⟩
  | 81 => ⟨S8x4096x8x64, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S8x4096, .f32⟩
  | 91 => ⟨S8x4096x1, .f32⟩
  | 92 => ⟨S1x1x8, .f32⟩
  | 93 => ⟨S8x4096x8, .f32⟩
  | 94 => ⟨S8x4096x8, .f32⟩
  | 95 => ⟨S8x4096x8, .f32⟩
  | 96 => ⟨S8x4096x8, .f32⟩
  | 97 => ⟨S8x4096x1x8, .f32⟩
  | 98 => ⟨S8x4096x8, .f32⟩
  | 99 => ⟨S8x4096x1x8, .f32⟩
  | 100 => ⟨S8x4096x8x8, .f32⟩
  | 101 => ⟨S8x4096x8x8, .f32⟩
  | 102 => ⟨S8x4096x8x8, .f32⟩
  | 103 => ⟨S8x4096x8x8, .f32⟩
  | 104 => ⟨S8x4096x8x8, .f32⟩
  | 105 => ⟨S8x4096x8x8, .f32⟩
  | 106 => ⟨S8x4096x8x8, .f32⟩
  | 107 => ⟨S8x4096x8x8, .f32⟩
  | 108 => ⟨S8x4096x8x8, .f32⟩
  | 109 => ⟨S8x4096x8x8, .f32⟩
  | 110 => ⟨S8x4096x8x8, .f32⟩
  | 111 => ⟨S8x4096x8x8, .f32⟩
  | 112 => ⟨S8x4096x8x48, .f32⟩
  | 113 => ⟨S8x4096x8x64, .f32⟩
  | 114 => ⟨S_, .f32⟩
  | 115 => ⟨S8x4096x8x64, .f32⟩
  | 116 => ⟨S8x4096x8x64, .f32⟩
  | 117 => ⟨S8x8x64x4096, .f32⟩
  | 118 => ⟨S8x4096x1x64, .f32⟩
  | 119 => ⟨S8, .f32⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S8x4096, .f32⟩
  | _ => ⟨S8x4096x1024, .f32⟩

abbrev hbmTy0_1 (i : Nat) : BufTy := match i % 128 with
  | 0 => ⟨S8x4096x1, .f32⟩
  | 1 => ⟨S1x1x8, .f32⟩
  | 2 => ⟨S8x4096x8, .f32⟩
  | 3 => ⟨S8x4096x8, .f32⟩
  | 4 => ⟨S8x4096x8, .f32⟩
  | 5 => ⟨S8x4096x8, .f32⟩
  | 6 => ⟨S8x4096x1x8, .f32⟩
  | 7 => ⟨S8x4096x8, .f32⟩
  | 8 => ⟨S8x4096x1x8, .f32⟩
  | 9 => ⟨S8x4096x1x8, .f32⟩
  | 10 => ⟨S8x4096x1x8, .f32⟩
  | 11 => ⟨S8x4096x1x8, .f32⟩
  | 12 => ⟨S8x4096x1x8, .f32⟩
  | 13 => ⟨S8x4096x1x8, .f32⟩
  | 14 => ⟨S8x4096x1x8, .f32⟩
  | 15 => ⟨S8x4096x1x8, .f32⟩
  | 16 => ⟨S8x4096x1x8, .f32⟩
  | 17 => ⟨S8x4096x1x48, .f32⟩
  | 18 => ⟨S8x4096x1x64, .f32⟩
  | 19 => ⟨S8x16x256x64, .f32⟩
  | 20 => ⟨S8x4096x2x64, .f32⟩
  | 21 => ⟨S8, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S8x4096, .f32⟩
  | 30 => ⟨S8x4096x1, .f32⟩
  | 31 => ⟨S1x1x8, .f32⟩
  | 32 => ⟨S8x4096x8, .f32⟩
  | 33 => ⟨S8x4096x8, .f32⟩
  | 34 => ⟨S8x4096x8, .f32⟩
  | 35 => ⟨S8x4096x8, .f32⟩
  | 36 => ⟨S8x4096x1x8, .f32⟩
  | 37 => ⟨S8x4096x8, .f32⟩
  | 38 => ⟨S8x4096x1x8, .f32⟩
  | 39 => ⟨S8x4096x2x8, .f32⟩
  | 40 => ⟨S8x4096x2x8, .f32⟩
  | 41 => ⟨S8x4096x2x8, .f32⟩
  | 42 => ⟨S8x4096x2x8, .f32⟩
  | 43 => ⟨S8x4096x2x8, .f32⟩
  | 44 => ⟨S8x4096x2x8, .f32⟩
  | 45 => ⟨S8x4096x2x8, .f32⟩
  | 46 => ⟨S8x4096x2x8, .f32⟩
  | 47 => ⟨S8x4096x2x8, .f32⟩
  | 48 => ⟨S8x4096x2x8, .f32⟩
  | 49 => ⟨S8x4096x2x8, .f32⟩
  | 50 => ⟨S8x4096x2x8, .f32⟩
  | 51 => ⟨S8x4096x2x48, .f32⟩
  | 52 => ⟨S8x4096x2x64, .f32⟩
  | 53 => ⟨S8x16x256x2x64, .f32⟩
  | 54 => ⟨S8x2x16x256x64, .f32⟩
  | 55 => ⟨S8x16x256x2x64, .f32⟩
  | 56 => ⟨S8x2x16x64x256, .f32⟩
  | 57 => ⟨S_, .f32⟩
  | 58 => ⟨S32768x16, .f32⟩
  | 59 => ⟨S32768x16, .f32⟩
  | 60 => ⟨S8x4096x16, .f32⟩
  | 61 => ⟨S8x16x4096, .f32⟩
  | 62 => ⟨S32768x8, .f32⟩
  | 63 => ⟨S32768x8, .f32⟩
  | 64 => ⟨S_, .f32⟩
  | 65 => ⟨S32768x8, .f32⟩
  | 66 => ⟨S32768x8, .f32⟩
  | 67 => ⟨S_, .f32⟩
  | 68 => ⟨S32768x8, .f32⟩
  | 69 => ⟨S32768x8, .f32⟩
  | 70 => ⟨S8x4096x8, .f32⟩
  | 71 => ⟨S8x8x4096, .f32⟩
  | 72 => ⟨S8, .f32⟩
  | 73 => ⟨S8, .f32⟩
  | 74 => ⟨S1x8, .f32⟩
  | 75 => ⟨S32768x8, .f32⟩
  | 76 => ⟨S32768x8, .f32⟩
  | 77 => ⟨S_, .f32⟩
  | 78 => ⟨S32768x8, .f32⟩
  | 79 => ⟨S32768x8, .f32⟩
  | 80 => ⟨S32768x8, .f32⟩
  | 81 => ⟨S32768x8, .f32⟩
  | 82 => ⟨S32768x8, .i1⟩
  | 83 => ⟨S32768x8, .f32⟩
  | 84 => ⟨S32768x8, .f32⟩
  | 85 => ⟨S32768x8, .f32⟩
  | 86 => ⟨S32768x8, .f32⟩
  | 87 => ⟨S32768x8, .f32⟩
  | 88 => ⟨S32768x8, .f32⟩
  | 89 => ⟨S32768x8, .f32⟩
  | 90 => ⟨S32768x8, .f32⟩
  | 91 => ⟨S1x8, .f32⟩
  | 92 => ⟨S32768x8, .f32⟩
  | 93 => ⟨S32768x8, .f32⟩
  | 94 => ⟨S8x4096x8, .f32⟩
  | 95 => ⟨S8x8x4096, .f32⟩
  | 96 => ⟨S32768x4096, .f32⟩
  | 97 => ⟨S8x16x64x4096, .bf16⟩
  | 98 => ⟨S8x8x64x4096, .bf16⟩
  | 99 => ⟨S8x16x256x64, .bf16⟩
  | 100 => ⟨S8x2x16x256x64, .bf16⟩
  | 101 => ⟨S8x2x16x64x256, .bf16⟩
  | 102 => ⟨S8x16x4096, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_5 : Ref sig .tc := ⟨.hbm, 84, rfl⟩
abbrev main_v71 : Ref sig .tc := ⟨.hbm, 85, rfl⟩
abbrev main_v72 : Ref sig .tc := ⟨.hbm, 86, rfl⟩
abbrev main_cst_6 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_7 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_cst_8 : Ref sig .tc := ⟨.hbm, 121, rfl⟩
abbrev main_v105 : Ref sig .tc := ⟨.hbm, 122, rfl⟩
abbrev main_v106 : Ref sig .tc := ⟨.hbm, 123, rfl⟩
abbrev main_cst_9 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_cst_10 : Ref sig .tc := ⟨.hbm, 151, rfl⟩
abbrev main_v133 : Ref sig .tc := ⟨.hbm, 152, rfl⟩
abbrev main_v134 : Ref sig .tc := ⟨.hbm, 153, rfl⟩
abbrev main_cst_11 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_cst_12 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_cst_13 : Ref sig .tc := ⟨.hbm, 192, rfl⟩
abbrev main_v171 : Ref sig .tc := ⟨.hbm, 193, rfl⟩
abbrev main_v172 : Ref sig .tc := ⟨.hbm, 194, rfl⟩
abbrev main_cst_14 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_call0_cst : Ref sig .tc := ⟨.hbm, 205, rfl⟩
abbrev main_call0_v0 : Ref sig .tc := ⟨.hbm, 206, rfl⟩
abbrev main_call0_v1 : Ref sig .tc := ⟨.hbm, 207, rfl⟩
abbrev main_call0_v2 : Ref sig .tc := ⟨.hbm, 208, rfl⟩
abbrev main_call0_v3 : Ref sig .tc := ⟨.hbm, 209, rfl⟩
abbrev main_call0_v4 : Ref sig .tc := ⟨.hbm, 210, rfl⟩
abbrev main_call0_v5 : Ref sig .tc := ⟨.hbm, 211, rfl⟩
abbrev main_call0_v6 : Ref sig .tc := ⟨.hbm, 212, rfl⟩
abbrev main_call0_v7 : Ref sig .tc := ⟨.hbm, 213, rfl⟩
abbrev main_call0_v8 : Ref sig .tc := ⟨.hbm, 214, rfl⟩
abbrev main_call0_v9 : Ref sig .tc := ⟨.hbm, 215, rfl⟩
abbrev main_call0_v10 : Ref sig .tc := ⟨.hbm, 216, rfl⟩
abbrev main_call0_v11 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩

abbrev nD : Nat := 1
abbrev τ : Topo := Topo.v7x

variable {F : FTy → Type} [FloatOps F]
-- ==== Ada.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Route.lean ====
abbrev S32768x1024 : Shape := ⟨2, ![32768, 1024]⟩
abbrev S1024x1024 : Shape := ⟨2, ![1024, 1024]⟩
abbrev S8x2x128x64 : Shape := ⟨4, ![8, 2, 128, 64]⟩
abbrev S56 : Shape := ⟨1, ![56]⟩
abbrev S56x1 : Shape := ⟨2, ![56, 1]⟩
abbrev S56x512 : Shape := ⟨2, ![56, 512]⟩
abbrev S_ : Shape := ⟨0, ![]⟩
abbrev S8x128x64 : Shape := ⟨3, ![8, 128, 64]⟩
abbrev S8x1x128x64 : Shape := ⟨4, ![8, 1, 128, 64]⟩
abbrev S8x128x128 : Shape := ⟨3, ![8, 128, 128]⟩
abbrev S8x256x128 : Shape := ⟨3, ![8, 256, 128]⟩
abbrev S32768x128 : Shape := ⟨2, ![32768, 128]⟩
abbrev S512x1024 : Shape := ⟨2, ![512, 1024]⟩
abbrev S512x128 : Shape := ⟨2, ![512, 128]⟩
abbrev S256x512 : Shape := ⟨2, ![256, 512]⟩
abbrev S2x16x512 : Shape := ⟨3, ![2, 16, 512]⟩
abbrev S128x512 : Shape := ⟨2, ![128, 512]⟩
abbrev S16x512 : Shape := ⟨2, ![16, 512]⟩
abbrev S1x256x128 : Shape := ⟨3, ![1, 256, 128]⟩
abbrev S256x128 : Shape := ⟨2, ![256, 128]⟩
abbrev S512 : Shape := ⟨1, ![512]⟩
abbrev S1x512 : Shape := ⟨2, ![1, 512]⟩
abbrev S1x1x512 : Shape := ⟨3, ![1, 1, 512]⟩
abbrev S1x16x512 : Shape := ⟨3, ![1, 16, 512]⟩
abbrev S1x8x512 : Shape := ⟨3, ![1, 8, 512]⟩
abbrev S8x512 : Shape := ⟨2, ![8, 512]⟩
abbrev S1x5x512 : Shape := ⟨3, ![1, 5, 512]⟩
abbrev S5x512 : Shape := ⟨2, ![5, 512]⟩
abbrev S1x4x512 : Shape := ⟨3, ![1, 4, 512]⟩
abbrev S4x512 : Shape := ⟨2, ![4, 512]⟩
abbrev S1x3x512 : Shape := ⟨3, ![1, 3, 512]⟩
abbrev S3x512 : Shape := ⟨2, ![3, 512]⟩
abbrev S1x2x512 : Shape := ⟨3, ![1, 2, 512]⟩
abbrev S2x512 : Shape := ⟨2, ![2, 512]⟩
abbrev S6x512 : Shape := ⟨2, ![6, 512]⟩

abbrev nBuf : Space → Nat
  | .hbm => 19
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S8x2x128x64, .f32⟩
  | .hbm, ⟨3, _⟩ => ⟨S56, .i32⟩
  | .hbm, ⟨4, _⟩ => ⟨S56x1, .i32⟩
  | .hbm, ⟨5, _⟩ => ⟨S56x512, .i32⟩
  | .hbm, ⟨6, _⟩ => ⟨S_, .f32⟩
  | .hbm, ⟨7, _⟩ => ⟨S8x128x64, .f32⟩
  | .hbm, ⟨8, _⟩ => ⟨S8x1x128x64, .f32⟩
  | .hbm, ⟨9, _⟩ => ⟨S8x128x64, .f32⟩
  | .hbm, ⟨10, _⟩ => ⟨S8x128x128, .f32⟩
  | .hbm, ⟨11, _⟩ => ⟨S8x1x128x64, .f32⟩
  | .hbm, ⟨12, _⟩ => ⟨S8x128x64, .f32⟩
  | .hbm, ⟨13, _⟩ => ⟨S8x128x128, .f32⟩
  | .hbm, ⟨14, _⟩ => ⟨S8x256x128, .f32⟩
  | .hbm, ⟨15, _⟩ => ⟨S8x256x128, .bf16⟩
  | .hbm, ⟨16, _⟩ => ⟨S1024x1024, .bf16⟩
  | .hbm, ⟨17, _⟩ => ⟨S32768x128, .i32⟩
  | .hbm, ⟨18, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S8x256x128, .bf16⟩
  | .local _ .vmem, ⟨4, _⟩ => ⟨S56x512, .i32⟩
  | .local _ .vmem, ⟨5, _⟩ => ⟨S512x128, .i32⟩
  | .local _ .vmem, ⟨6, _⟩ => ⟨S512x128, .i32⟩
  | .local _ .vmem, ⟨7, _⟩ => ⟨S512x128, .f32⟩
  | .local _ .vmem, ⟨8, _⟩ => ⟨S512x128, .f32⟩
  | .local _ .vmem, ⟨9, _⟩ => ⟨S256x512, .f32⟩
  | .local _ .vmem, ⟨10, _⟩ => ⟨S56x512, .f32⟩
  | .local _ .vmem, ⟨11, _⟩ => ⟨S2x16x512, .f32⟩
  | .local _ .vmem, ⟨12, _⟩ => ⟨S2x16x512, .i32⟩
  | .local _ .vmem, ⟨13, _⟩ => ⟨S128x512, .i32⟩
  | .local _ .vmem, ⟨14, _⟩ => ⟨S128x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S56x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Scores.lean ====
abbrev S32768x128 : Shape := ⟨2, ![32768, 128]⟩
abbrev S32768x1024 : Shape := ⟨2, ![32768, 1024]⟩
abbrev S16384x1024 : Shape := ⟨2, ![16384, 1024]⟩
abbrev S128 : Shape := ⟨1, ![128]⟩
abbrev S_ : Shape := ⟨0, ![]⟩
abbrev S1x128 : Shape := ⟨2, ![1, 128]⟩
abbrev S16384x512 : Shape := ⟨2, ![16384, 512]⟩
abbrev S65536x128 : Shape := ⟨2, ![65536, 128]⟩
abbrev S65544x128 : Shape := ⟨2, ![65544, 128]⟩
abbrev S128x128 : Shape := ⟨2, ![128, 128]⟩
abbrev S128x1024 : Shape := ⟨2, ![128, 1024]⟩
abbrev S512x128 : Shape := ⟨2, ![512, 128]⟩
abbrev S128x128x128 : Shape := ⟨3, ![128, 128, 128]⟩
abbrev S1x128x128 : Shape := ⟨3, ![1, 128, 128]⟩
abbrev S1x1024 : Shape := ⟨2, ![1, 1024]⟩
abbrev S8x128 : Shape := ⟨2, ![8, 128]⟩
abbrev S4x128 : Shape := ⟨2, ![4, 128]⟩
abbrev S1 : Shape := ⟨1, ![1]⟩

abbrev nBuf : Space → Nat
  | .hbm => 49
  | .vmem => 9
  | .smem => 2
  | _ => 0

abbrev bufTy : (tb : Table) → Fin (tcTables nBuf tb) → BufTy
  | .hbm, ⟨0, _⟩ => ⟨S32768x128, .i32⟩
  | .hbm, ⟨1, _⟩ => ⟨S32768x1024, .f32⟩
  | .hbm, ⟨2, _⟩ => ⟨S32768x128, .f32⟩
  | .hbm, ⟨3, _⟩ => ⟨S16384x1024, .i16⟩
  | .hbm, ⟨4, _⟩ => ⟨S128, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S_, .i1⟩
  | .hbm, ⟨21, _⟩ => ⟨S128, .i1⟩
  | .hbm, ⟨22, _⟩ => ⟨S128, .i1⟩
  | .hbm, ⟨23, _⟩ => ⟨S128, .i1⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S1x128, .i32⟩
  | .hbm, ⟨31, _⟩ => ⟨S_, .i32⟩
  | .hbm, ⟨32, _⟩ => ⟨S1x128, .i32⟩
  | .hbm, ⟨33, _⟩ => ⟨S1x128, .i32⟩
  | .hbm, ⟨34, _⟩ => ⟨S32768x128, .i32⟩
  | .hbm, ⟨35, _⟩ => ⟨S32768x128, .i32⟩
  | .hbm, ⟨36, _⟩ => ⟨S16384x1024, .i32⟩
  | .hbm, ⟨37, _⟩ => ⟨S16384x512, .i32⟩
  | .hbm, ⟨38, _⟩ => ⟨S16384x512, .i32⟩
  | .hbm, ⟨39, _⟩ => ⟨S_, .i32⟩
  | .hbm, ⟨40, _⟩ => ⟨S16384x512, .i32⟩
  | .hbm, ⟨41, _⟩ => ⟨S16384x512, .i32⟩
  | .hbm, ⟨42, _⟩ => ⟨S16384x512, .i32⟩
  | .hbm, ⟨43, _⟩ => ⟨S16384x512, .i32⟩
  | .hbm, ⟨44, _⟩ => ⟨S65536x128, .i32⟩
  | .hbm, ⟨45, _⟩ => ⟨S_, .i32⟩
  | .hbm, ⟨46, _⟩ => ⟨S_, .i32⟩
  | .hbm, ⟨47, _⟩ => ⟨S65544x128, .i32⟩
  | .hbm, ⟨48, _⟩ => ⟨S32768x128, .f32⟩
  | .local _ .vmem, ⟨0, _⟩ => ⟨S128x1024, .f32⟩
  | .local _ .vmem, ⟨1, _⟩ => ⟨S128x1024, .f32⟩
  | .local _ .vmem, ⟨2, _⟩ => ⟨S128x128, .f32⟩
  | .local _ .vmem, ⟨3, _⟩ => ⟨S128x128, .f32⟩
  | .local _ .vmem, ⟨4, _⟩ => ⟨S65544x128, .i32⟩
  | .local _ .vmem, ⟨5, _⟩ => ⟨S128x128, .f32⟩
  | .local _ .vmem, ⟨6, _⟩ => ⟨S128x128, .f32⟩
  | .local _ .vmem, ⟨7, _⟩ => ⟨S512x128, .f32⟩
  | .local _ .vmem, ⟨8, _⟩ => ⟨S128x128x128, .f32⟩
  | .local _ .smem, ⟨0, _⟩ => ⟨S128x128, .i32⟩
  | .local _ .smem, ⟨1, _⟩ => ⟨S128x128, .i32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_3 : Ref sig .tc := ⟨.hbm, 45, rfl⟩
abbrev main_call1_v0 : Ref sig .tc := ⟨.hbm, 46, rfl⟩
abbrev main_v17 : Ref sig .tc := ⟨.hbm, 47, rfl⟩
abbrev main_v18 : Ref sig .tc := ⟨.hbm, 48, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32 : BitVec 32 := 0#32
  let c128_i32 : BitVec 32 := 128#32
  let v4 : BitVec 32 := Scalar.addi c0_i32 c128_i32
  let c1_i32 : BitVec 32 := 1#32
  ⟨c0_i32, v4, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let c1_i32_13 : BitVec 32 := 1#32
  let v21 : BitVec 32 := Scalar.subi arg8 c1_i32_13
  let c0_i32_14 : BitVec 32 := 0#32
  let v22 : BitVec 32 := Scalar.maxsi v21 c0_i32_14
  let v23 : Index := Scalar.indexCast v22
  let c0_15 : Index := 0#32
  let c0_16 : Index := 0#32
  ![v23.toNat, 0, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c1_i32_13 : BitVec 32 := 1#32
  let v21 : BitVec 32 := Scalar.subi arg8 c1_i32_13
  let c0_i32_14 : BitVec 32 := 0#32
  let v22 : BitVec 32 := Scalar.maxsi v21 c0_i32_14
  let v37 : Index := Scalar.indexCast v22
  let c0_21 : Index := 0#32
  ![v37.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let v42 : Index := Scalar.indexCast arg8
  let c0_23 : Index := 0#32
  ![v42.toNat, 0]
def k0_off4 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_24 : BitVec 32 := 0#32
  ![arg8.toNat, 0]
def k0_mult1 (v51 : BitVec 32) : BitVec 32 :=
  v51

def k0_off5 (v51 : BitVec 32) : Fin 2 → Nat :=
  let v52 : BitVec 32 := v51
  let v53 : Index := Scalar.indexCast v52
  let c0_26 : Index := 0#32
  ![v53.toNat, 0]

def k0_chk1 (v51 : BitVec 32) : Prop :=
  (4 ∣ (k0_mult1 v51).toNat) ∧
  (∀ a, (k0_off5 v51) a + S8x128.size a ≤ S65544x128.size a)
theorem k0_mult1_dvd : ∀ (v51 : BitVec 32) (k0_hw1 : k0_chk1 v51), 4 ∣ (k0_mult1 v51).toNat := fun v51 k0_hw1 => k0_hw1.1
theorem k0_off5_inb : ∀ (v51 : BitVec 32) (k0_hw1 : k0_chk1 v51), ∀ a, (k0_off5 v51) a + S8x128.size a ≤ S65544x128.size a := fun v51 k0_hw1 => k0_hw1.2

def k0_off6 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_27 : BitVec 32 := 0#32
  ![arg8.toNat, 0]
def k0_mult2 (v58 : BitVec 32) : BitVec 32 :=
  v58

def k0_off7 (v58 : BitVec 32) : Fin 2 → Nat :=
  let v59 : BitVec 32 := v58
  let v60 : Index := Scalar.indexCast v59
  let c0_28 : Index := 0#32
  ![v60.toNat, 0]

def k0_chk2 (v58 : BitVec 32) : Prop :=
  (4 ∣ (k0_mult2 v58).toNat) ∧
  (∀ a, (k0_off7 v58) a + S8x128.size a ≤ S65544x128.size a)
theorem k0_mult2_dvd : ∀ (v58 : BitVec 32) (k0_hw2 : k0_chk2 v58), 4 ∣ (k0_mult2 v58).toNat := fun v58 k0_hw2 => k0_hw2.1
theorem k0_off7_inb : ∀ (v58 : BitVec 32) (k0_hw2 : k0_chk2 v58), ∀ a, (k0_off7 v58) a + S8x128.size a ≤ S65544x128.size a := fun v58 k0_hw2 => k0_hw2.2

def k0_off8 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_31 : BitVec 32 := 0#32
  ![arg8.toNat, 0]
def k0_mult3 (v81 : BitVec 32) : BitVec 32 :=
  v81

def k0_off9 (v81 : BitVec 32) : Fin 2 → Nat :=
  let v82 : BitVec 32 := v81
  let v83 : Index := Scalar.indexCast v82
  let c0_32 : Index := 0#32
  ![v83.toNat, 0]

def k0_chk3 (v81 : BitVec 32) : Prop :=
  (4 ∣ (k0_mult3 v81).toNat) ∧
  (∀ a, (k0_off9 v81) a + S8x128.size a ≤ S65544x128.size a)
theorem k0_mult3_dvd : ∀ (v81 : BitVec 32) (k0_hw3 : k0_chk3 v81), 4 ∣ (k0_mult3 v81).toNat := fun v81 k0_hw3 => k0_hw3.1
theorem k0_off9_inb : ∀ (v81 : BitVec 32) (k0_hw3 : k0_chk3 v81), ∀ a, (k0_off9 v81) a + S8x128.size a ≤ S65544x128.size a := fun v81 k0_hw3 => k0_hw3.2

def k0_off10 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_33 : BitVec 32 := 0#32
  ![arg8.toNat, 0]
def k0_mult4 (v88 : BitVec 32) : BitVec 32 :=
  v88

def k0_off11 (v88 : BitVec 32) : Fin 2 → Nat :=
  let v89 : BitVec 32 := v88
  let v90 : Index := Scalar.indexCast v89
  let c0_34 : Index := 0#32
  ![v90.toNat, 0]

def k0_chk4 (v88 : BitVec 32) : Prop :=
  (4 ∣ (k0_mult4 v88).toNat) ∧
  (∀ a, (k0_off11 v88) a + S8x128.size a ≤ S65544x128.size a)
theorem k0_mult4_dvd : ∀ (v88 : BitVec 32) (k0_hw4 : k0_chk4 v88), 4 ∣ (k0_mult4 v88).toNat := fun v88 k0_hw4 => k0_hw4.1
theorem k0_off11_inb : ∀ (v88 : BitVec 32) (k0_hw4 : k0_chk4 v88), ∀ a, (k0_off11 v88) a + S8x128.size a ≤ S65544x128.size a := fun v88 k0_hw4 => k0_hw4.2

def k0_off12 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_39 : BitVec 32 := 0#32
  ![arg8.toNat, 0]
def k0_mult5 (v111 : BitVec 32) : BitVec 32 :=
  v111

def k0_off13 (v111 : BitVec 32) : Fin 2 → Nat :=
  let v112 : BitVec 32 := v111
  let v113 : Index := Scalar.indexCast v112
  let c0_40 : Index := 0#32
  ![v113.toNat, 0]

def k0_chk5 (v111 : BitVec 32) : Prop :=
  (4 ∣ (k0_mult5 v111).toNat) ∧
  (∀ a, (k0_off13 v111) a + S8x128.size a ≤ S65544x128.size a)
theorem k0_mult5_dvd : ∀ (v111 : BitVec 32) (k0_hw5 : k0_chk5 v111), 4 ∣ (k0_mult5 v111).toNat := fun v111 k0_hw5 => k0_hw5.1
theorem k0_off13_inb : ∀ (v111 : BitVec 32) (k0_hw5 : k0_chk5 v111), ∀ a, (k0_off13 v111) a + S8x128.size a ≤ S65544x128.size a := fun v111 k0_hw5 => k0_hw5.2

def k0_off14 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_41 : BitVec 32 := 0#32
  ![arg8.toNat, 0]
def k0_mult6 (v118 : BitVec 32) : BitVec 32 :=
  v118

def k0_off15 (v118 : BitVec 32) : Fin 2 → Nat :=
  let v119 : BitVec 32 := v118
  let v120 : Index := Scalar.indexCast v119
  let c0_42 : Index := 0#32
  ![v120.toNat, 0]

def k0_chk6 (v118 : BitVec 32) : Prop :=
  (4 ∣ (k0_mult6 v118).toNat) ∧
  (∀ a, (k0_off15 v118) a + S8x128.size a ≤ S65544x128.size a)
theorem k0_mult6_dvd : ∀ (v118 : BitVec 32) (k0_hw6 : k0_chk6 v118), 4 ∣ (k0_mult6 v118).toNat := fun v118 k0_hw6 => k0_hw6.1
theorem k0_off15_inb : ∀ (v118 : BitVec 32) (k0_hw6 : k0_chk6 v118), ∀ a, (k0_off15 v118) a + S8x128.size a ≤ S65544x128.size a := fun v118 k0_hw6 => k0_hw6.2

def k0_off16 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_47 : BitVec 32 := 0#32
  ![arg8.toNat, 0]
def k0_mult7 (v141 : BitVec 32) : BitVec 32 :=
  v141

def k0_off17 (v141 : BitVec 32) : Fin 2 → Nat :=
  let v142 : BitVec 32 := v141
  let v143 : Index := Scalar.indexCast v142
  let c0_48 : Index := 0#32
  ![v143.toNat, 0]

def k0_chk7 (v141 : BitVec 32) : Prop :=
  (4 ∣ (k0_mult7 v141).toNat) ∧
  (∀ a, (k0_off17 v141) a + S8x128.size a ≤ S65544x128.size a)
theorem k0_mult7_dvd : ∀ (v141 : BitVec 32) (k0_hw7 : k0_chk7 v141), 4 ∣ (k0_mult7 v141).toNat := fun v141 k0_hw7 => k0_hw7.1
theorem k0_off17_inb : ∀ (v141 : BitVec 32) (k0_hw7 : k0_chk7 v141), ∀ a, (k0_off17 v141) a + S8x128.size a ≤ S65544x128.size a := fun v141 k0_hw7 => k0_hw7.2

def k0_off18 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_49 : BitVec 32 := 0#32
  ![arg8.toNat, 0]
def k0_mult8 (v148 : BitVec 32) : BitVec 32 :=
  v148

def k0_off19 (v148 : BitVec 32) : Fin 2 → Nat :=
  let v149 : BitVec 32 := v148
  let v150 : Index := Scalar.indexCast v149
  let c0_50 : Index := 0#32
  ![v150.toNat, 0]

def k0_chk8 (v148 : BitVec 32) : Prop :=
  (4 ∣ (k0_mult8 v148).toNat) ∧
  (∀ a, (k0_off19 v148) a + S8x128.size a ≤ S65544x128.size a)
theorem k0_mult8_dvd : ∀ (v148 : BitVec 32) (k0_hw8 : k0_chk8 v148), 4 ∣ (k0_mult8 v148).toNat := fun v148 k0_hw8 => k0_hw8.1
theorem k0_off19_inb : ∀ (v148 : BitVec 32) (k0_hw8 : k0_chk8 v148), ∀ a, (k0_off19 v148) a + S8x128.size a ≤ S65544x128.size a := fun v148 k0_hw8 => k0_hw8.2

def k0_off20 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_55 : BitVec 32 := 0#32
  ![arg8.toNat, 0]
def k0_mult9 (v171 : BitVec 32) : BitVec 32 :=
  v171

def k0_off21 (v171 : BitVec 32) : Fin 2 → Nat :=
  let v172 : BitVec 32 := v171
  let v173 : Index := Scalar.indexCast v172
  let c0_57 : Index := 0#32
  ![v173.toNat, 0]

def k0_chk9 (v171 : BitVec 32) : Prop :=
  (4 ∣ (k0_mult9 v171).toNat) ∧
  (∀ a, (k0_off21 v171) a + S8x128.size a ≤ S65544x128.size a)
theorem k0_mult9_dvd : ∀ (v171 : BitVec 32) (k0_hw9 : k0_chk9 v171), 4 ∣ (k0_mult9 v171).toNat := fun v171 k0_hw9 => k0_hw9.1
theorem k0_off21_inb : ∀ (v171 : BitVec 32) (k0_hw9 : k0_chk9 v171), ∀ a, (k0_off21 v171) a + S8x128.size a ≤ S65544x128.size a := fun v171 k0_hw9 => k0_hw9.2

def k0_off22 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_58 : BitVec 32 := 0#32
  ![arg8.toNat, 0]
def k0_mult10 (v178 : BitVec 32) : BitVec 32 :=
  v178

def k0_off23 (v178 : BitVec 32) : Fin 2 → Nat :=
  let v179 : BitVec 32 := v178
  let v180 : Index := Scalar.indexCast v179
  let c0_59 : Index := 0#32
  ![v180.toNat, 0]

def k0_chk10 (v178 : BitVec 32) : Prop :=
  (4 ∣ (k0_mult10 v178).toNat) ∧
  (∀ a, (k0_off23 v178) a + S8x128.size a ≤ S65544x128.size a)
theorem k0_mult10_dvd : ∀ (v178 : BitVec 32) (k0_hw10 : k0_chk10 v178), 4 ∣ (k0_mult10 v178).toNat := fun v178 k0_hw10 => k0_hw10.1
theorem k0_off23_inb : ∀ (v178 : BitVec 32) (k0_hw10 : k0_chk10 v178), ∀ a, (k0_off23 v178) a + S8x128.size a ≤ S65544x128.size a := fun v178 k0_hw10 => k0_hw10.2

def k0_off24 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_64 : BitVec 32 := 0#32
  ![arg8.toNat, 0]
def k0_mult11 (v201 : BitVec 32) : BitVec 32 :=
  v201

def k0_off25 (v201 : BitVec 32) : Fin 2 → Nat :=
  let v202 : BitVec 32 := v201
  let v203 : Index := Scalar.indexCast v202
  let c0_65 : Index := 0#32
  ![v203.toNat, 0]

def k0_chk11 (v201 : BitVec 32) : Prop :=
  (4 ∣ (k0_mult11 v201).toNat) ∧
  (∀ a, (k0_off25 v201) a + S8x128.size a ≤ S65544x128.size a)
theorem k0_mult11_dvd : ∀ (v201 : BitVec 32) (k0_hw11 : k0_chk11 v201), 4 ∣ (k0_mult11 v201).toNat := fun v201 k0_hw11 => k0_hw11.1
theorem k0_off25_inb : ∀ (v201 : BitVec 32) (k0_hw11 : k0_chk11 v201), ∀ a, (k0_off25 v201) a + S8x128.size a ≤ S65544x128.size a := fun v201 k0_hw11 => k0_hw11.2

def k0_off26 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_66 : BitVec 32 := 0#32
  ![arg8.toNat, 0]
def k0_mult12 (v208 : BitVec 32) : BitVec 32 :=
  v208

def k0_off27 (v208 : BitVec 32) : Fin 2 → Nat :=
  let v209 : BitVec 32 := v208
  let v210 : Index := Scalar.indexCast v209
  let c0_67 : Index := 0#32
  ![v210.toNat, 0]

def k0_chk12 (v208 : BitVec 32) : Prop :=
  (4 ∣ (k0_mult12 v208).toNat) ∧
  (∀ a, (k0_off27 v208) a + S8x128.size a ≤ S65544x128.size a)
theorem k0_mult12_dvd : ∀ (v208 : BitVec 32) (k0_hw12 : k0_chk12 v208), 4 ∣ (k0_mult12 v208).toNat := fun v208 k0_hw12 => k0_hw12.1
theorem k0_off27_inb : ∀ (v208 : BitVec 32) (k0_hw12 : k0_chk12 v208), ∀ a, (k0_off27 v208) a + S8x128.size a ≤ S65544x128.size a := fun v208 k0_hw12 => k0_hw12.2

def k0_off28 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_72 : BitVec 32 := 0#32
  ![arg8.toNat, 0]
def k0_mult13 (v231 : BitVec 32) : BitVec 32 :=
  v231

def k0_off29 (v231 : BitVec 32) : Fin 2 → Nat :=
  let v232 : BitVec 32 := v231
  let v233 : Index := Scalar.indexCast v232
  let c0_73 : Index := 0#32
  ![v233.toNat, 0]

def k0_chk13 (v231 : BitVec 32) : Prop :=
  (4 ∣ (k0_mult13 v231).toNat) ∧
  (∀ a, (k0_off29 v231) a + S8x128.size a ≤ S65544x128.size a)
theorem k0_mult13_dvd : ∀ (v231 : BitVec 32) (k0_hw13 : k0_chk13 v231), 4 ∣ (k0_mult13 v231).toNat := fun v231 k0_hw13 => k0_hw13.1
theorem k0_off29_inb : ∀ (v231 : BitVec 32) (k0_hw13 : k0_chk13 v231), ∀ a, (k0_off29 v231) a + S8x128.size a ≤ S65544x128.size a := fun v231 k0_hw13 => k0_hw13.2

def k0_off30 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_74 : BitVec 32 := 0#32
  ![arg8.toNat, 0]
def k0_mult14 (v238 : BitVec 32) : BitVec 32 :=
  v238

def k0_off31 (v238 : BitVec 32) : Fin 2 → Nat :=
  let v239 : BitVec 32 := v238
  let v240 : Index := Scalar.indexCast v239
  let c0_75 : Index := 0#32
  ![v240.toNat, 0]

def k0_chk14 (v238 : BitVec 32) : Prop :=
  (4 ∣ (k0_mult14 v238).toNat) ∧
  (∀ a, (k0_off31 v238) a + S8x128.size a ≤ S65544x128.size a)
theorem k0_mult14_dvd : ∀ (v238 : BitVec 32) (k0_hw14 : k0_chk14 v238), 4 ∣ (k0_mult14 v238).toNat := fun v238 k0_hw14 => k0_hw14.1
theorem k0_off31_inb : ∀ (v238 : BitVec 32) (k0_hw14 : k0_chk14 v238), ∀ a, (k0_off31 v238) a + S8x128.size a ≤ S65544x128.size a := fun v238 k0_hw14 => k0_hw14.2

def k0_off32 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_80 : BitVec 32 := 0#32
  ![arg8.toNat, 0]
def k0_mult15 (v261 : BitVec 32) : BitVec 32 :=
  v261

def k0_off33 (v261 : BitVec 32) : Fin 2 → Nat :=
  let v262 : BitVec 32 := v261
  let v263 : Index := Scalar.indexCast v262
  let c0_81 : Index := 0#32
  ![v263.toNat, 0]

def k0_chk15 (v261 : BitVec 32) : Prop :=
  (4 ∣ (k0_mult15 v261).toNat) ∧
  (∀ a, (k0_off33 v261) a + S8x128.size a ≤ S65544x128.size a)
theorem k0_mult15_dvd : ∀ (v261 : BitVec 32) (k0_hw15 : k0_chk15 v261), 4 ∣ (k0_mult15 v261).toNat := fun v261 k0_hw15 => k0_hw15.1
theorem k0_off33_inb : ∀ (v261 : BitVec 32) (k0_hw15 : k0_chk15 v261), ∀ a, (k0_off33 v261) a + S8x128.size a ≤ S65544x128.size a := fun v261 k0_hw15 => k0_hw15.2

def k0_off34 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_82 : BitVec 32 := 0#32
  ![arg8.toNat, 0]
def k0_mult16 (v268 : BitVec 32) : BitVec 32 :=
  v268

def k0_off35 (v268 : BitVec 32) : Fin 2 → Nat :=
  let v269 : BitVec 32 := v268
  let v270 : Index := Scalar.indexCast v269
  let c0_83 : Index := 0#32
  ![v270.toNat, 0]

def k0_chk16 (v268 : BitVec 32) : Prop :=
  (4 ∣ (k0_mult16 v268).toNat) ∧
  (∀ a, (k0_off35 v268) a + S8x128.size a ≤ S65544x128.size a)
theorem k0_mult16_dvd : ∀ (v268 : BitVec 32) (k0_hw16 : k0_chk16 v268), 4 ∣ (k0_mult16 v268).toNat := fun v268 k0_hw16 => k0_hw16.1
theorem k0_off35_inb : ∀ (v268 : BitVec 32) (k0_hw16 : k0_chk16 v268), ∀ a, (k0_off35 v268) a + S8x128.size a ≤ S65544x128.size a := fun v268 k0_hw16 => k0_hw16.2

def k0_off36 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_88 : BitVec 32 := 0#32
  ![arg8.toNat, 0]
def k0_mult17 (v291 : BitVec 32) : BitVec 32 :=
  v291

def k0_off37 (v291 : BitVec 32) : Fin 2 → Nat :=
  let v292 : BitVec 32 := v291
  let v293 : Index := Scalar.indexCast v292
  let c0_90 : Index := 0#32
  ![v293.toNat, 0]

def k0_chk17 (v291 : BitVec 32) : Prop :=
  (4 ∣ (k0_mult17 v291).toNat) ∧
  (∀ a, (k0_off37 v291) a + S8x128.size a ≤ S65544x128.size a)
theorem k0_mult17_dvd : ∀ (v291 : BitVec 32) (k0_hw17 : k0_chk17 v291), 4 ∣ (k0_mult17 v291).toNat := fun v291 k0_hw17 => k0_hw17.1
theorem k0_off37_inb : ∀ (v291 : BitVec 32) (k0_hw17 : k0_chk17 v291), ∀ a, (k0_off37 v291) a + S8x128.size a ≤ S65544x128.size a := fun v291 k0_hw17 => k0_hw17.2

def k0_off38 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_91 : BitVec 32 := 0#32
  ![arg8.toNat, 0]
def k0_mult18 (v298 : BitVec 32) : BitVec 32 :=
  v298

def k0_off39 (v298 : BitVec 32) : Fin 2 → Nat :=
  let v299 : BitVec 32 := v298
  let v300 : Index := Scalar.indexCast v299
  let c0_92 : Index := 0#32
  ![v300.toNat, 0]

def k0_chk18 (v298 : BitVec 32) : Prop :=
  (4 ∣ (k0_mult18 v298).toNat) ∧
  (∀ a, (k0_off39 v298) a + S8x128.size a ≤ S65544x128.size a)
theorem k0_mult18_dvd : ∀ (v298 : BitVec 32) (k0_hw18 : k0_chk18 v298), 4 ∣ (k0_mult18 v298).toNat := fun v298 k0_hw18 => k0_hw18.1
theorem k0_off39_inb : ∀ (v298 : BitVec 32) (k0_hw18 : k0_chk18 v298), ∀ a, (k0_off39 v298) a + S8x128.size a ≤ S65544x128.size a := fun v298 k0_hw18 => k0_hw18.2

def k0_off40 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_97 : BitVec 32 := 0#32
  ![arg8.toNat, 0]
def k0_mult19 (v321 : BitVec 32) : BitVec 32 :=
  v321

def k0_off41 (v321 : BitVec 32) : Fin 2 → Nat :=
  let v322 : BitVec 32 := v321
  let v323 : Index := Scalar.indexCast v322
  let c0_98 : Index := 0#32
  ![v323.toNat, 0]

def k0_chk19 (v321 : BitVec 32) : Prop :=
  (4 ∣ (k0_mult19 v321).toNat) ∧
  (∀ a, (k0_off41 v321) a + S8x128.size a ≤ S65544x128.size a)
theorem k0_mult19_dvd : ∀ (v321 : BitVec 32) (k0_hw19 : k0_chk19 v321), 4 ∣ (k0_mult19 v321).toNat := fun v321 k0_hw19 => k0_hw19.1
theorem k0_off41_inb : ∀ (v321 : BitVec 32) (k0_hw19 : k0_chk19 v321), ∀ a, (k0_off41 v321) a + S8x128.size a ≤ S65544x128.size a := fun v321 k0_hw19 => k0_hw19.2

def k0_off42 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_99 : BitVec 32 := 0#32
  ![arg8.toNat, 0]
def k0_mult20 (v328 : BitVec 32) : BitVec 32 :=
  v328

def k0_off43 (v328 : BitVec 32) : Fin 2 → Nat :=
  let v329 : BitVec 32 := v328
  let v330 : Index := Scalar.indexCast v329
  let c0_100 : Index := 0#32
  ![v330.toNat, 0]

def k0_chk20 (v328 : BitVec 32) : Prop :=
  (4 ∣ (k0_mult20 v328).toNat) ∧
  (∀ a, (k0_off43 v328) a + S8x128.size a ≤ S65544x128.size a)
theorem k0_mult20_dvd : ∀ (v328 : BitVec 32) (k0_hw20 : k0_chk20 v328), 4 ∣ (k0_mult20 v328).toNat := fun v328 k0_hw20 => k0_hw20.1
theorem k0_off43_inb : ∀ (v328 : BitVec 32) (k0_hw20 : k0_chk20 v328), ∀ a, (k0_off43 v328) a + S8x128.size a ≤ S65544x128.size a := fun v328 k0_hw20 => k0_hw20.2

def k0_off44 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_105 : BitVec 32 := 0#32
  ![arg8.toNat, 0]
def k0_mult21 (v351 : BitVec 32) : BitVec 32 :=
  v351

def k0_off45 (v351 : BitVec 32) : Fin 2 → Nat :=
  let v352 : BitVec 32 := v351
  let v353 : Index := Scalar.indexCast v352
  let c0_106 : Index := 0#32
  ![v353.toNat, 0]

def k0_chk21 (v351 : BitVec 32) : Prop :=
  (4 ∣ (k0_mult21 v351).toNat) ∧
  (∀ a, (k0_off45 v351) a + S8x128.size a ≤ S65544x128.size a)
theorem k0_mult21_dvd : ∀ (v351 : BitVec 32) (k0_hw21 : k0_chk21 v351), 4 ∣ (k0_mult21 v351).toNat := fun v351 k0_hw21 => k0_hw21.1
theorem k0_off45_inb : ∀ (v351 : BitVec 32) (k0_hw21 : k0_chk21 v351), ∀ a, (k0_off45 v351) a + S8x128.size a ≤ S65544x128.size a := fun v351 k0_hw21 => k0_hw21.2

def k0_off46 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_107 : BitVec 32 := 0#32
  ![arg8.toNat, 0]
def k0_mult22 (v358 : BitVec 32) : BitVec 32 :=
  v358

def k0_off47 (v358 : BitVec 32) : Fin 2 → Nat :=
  let v359 : BitVec 32 := v358
  let v360 : Index := Scalar.indexCast v359
  let c0_108 : Index := 0#32
  ![v360.toNat, 0]

def k0_chk22 (v358 : BitVec 32) : Prop :=
  (4 ∣ (k0_mult22 v358).toNat) ∧
  (∀ a, (k0_off47 v358) a + S8x128.size a ≤ S65544x128.size a)
theorem k0_mult22_dvd : ∀ (v358 : BitVec 32) (k0_hw22 : k0_chk22 v358), 4 ∣ (k0_mult22 v358).toNat := fun v358 k0_hw22 => k0_hw22.1
theorem k0_off47_inb : ∀ (v358 : BitVec 32) (k0_hw22 : k0_chk22 v358), ∀ a, (k0_off47 v358) a + S8x128.size a ≤ S65544x128.size a := fun v358 k0_hw22 => k0_hw22.2

def k0_off48 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_113 : BitVec 32 := 0#32
  ![arg8.toNat, 0]
def k0_mult23 (v381 : BitVec 32) : BitVec 32 :=
  v381

def k0_off49 (v381 : BitVec 32) : Fin 2 → Nat :=
  let v382 : BitVec 32 := v381
  let v383 : Index := Scalar.indexCast v382
  let c0_114 : Index := 0#32
  ![v383.toNat, 0]

def k0_chk23 (v381 : BitVec 32) : Prop :=
  (4 ∣ (k0_mult23 v381).toNat) ∧
  (∀ a, (k0_off49 v381) a + S8x128.size a ≤ S65544x128.size a)
theorem k0_mult23_dvd : ∀ (v381 : BitVec 32) (k0_hw23 : k0_chk23 v381), 4 ∣ (k0_mult23 v381).toNat := fun v381 k0_hw23 => k0_hw23.1
theorem k0_off49_inb : ∀ (v381 : BitVec 32) (k0_hw23 : k0_chk23 v381), ∀ a, (k0_off49 v381) a + S8x128.size a ≤ S65544x128.size a := fun v381 k0_hw23 => k0_hw23.2

def k0_off50 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_115 : BitVec 32 := 0#32
  ![arg8.toNat, 0]
def k0_mult24 (v388 : BitVec 32) : BitVec 32 :=
  v388

def k0_off51 (v388 : BitVec 32) : Fin 2 → Nat :=
  let v389 : BitVec 32 := v388
  let v390 : Index := Scalar.indexCast v389
  let c0_116 : Index := 0#32
  ![v390.toNat, 0]

def k0_chk24 (v388 : BitVec 32) : Prop :=
  (4 ∣ (k0_mult24 v388).toNat) ∧
  (∀ a, (k0_off51 v388) a + S8x128.size a ≤ S65544x128.size a)
theorem k0_mult24_dvd : ∀ (v388 : BitVec 32) (k0_hw24 : k0_chk24 v388), 4 ∣ (k0_mult24 v388).toNat := fun v388 k0_hw24 => k0_hw24.1
theorem k0_off51_inb : ∀ (v388 : BitVec 32) (k0_hw24 : k0_chk24 v388), ∀ a, (k0_off51 v388) a + S8x128.size a ≤ S65544x128.size a := fun v388 k0_hw24 => k0_hw24.2

def k0_off52 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_121 : BitVec 32 := 0#32
  ![arg8.toNat, 0]
def k0_mult25 (v411 : BitVec 32) : BitVec 32 :=
  v411

def k0_off53 (v411 : BitVec 32) : Fin 2 → Nat :=
  let v412 : BitVec 32 := v411
  let v413 : Index := Scalar.indexCast v412
  let c0_123 : Index := 0#32
  ![v413.toNat, 0]

def k0_chk25 (v411 : BitVec 32) : Prop :=
  (4 ∣ (k0_mult25 v411).toNat) ∧
  (∀ a, (k0_off53 v411) a + S8x128.size a ≤ S65544x128.size a)
theorem k0_mult25_dvd : ∀ (v411 : BitVec 32) (k0_hw25 : k0_chk25 v411), 4 ∣ (k0_mult25 v411).toNat := fun v411 k0_hw25 => k0_hw25.1
theorem k0_off53_inb : ∀ (v411 : BitVec 32) (k0_hw25 : k0_chk25 v411), ∀ a, (k0_off53 v411) a + S8x128.size a ≤ S65544x128.size a := fun v411 k0_hw25 => k0_hw25.2

def k0_off54 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_124 : BitVec 32 := 0#32
  ![arg8.toNat, 0]
def k0_mult26 (v418 : BitVec 32) : BitVec 32 :=
  v418

def k0_off55 (v418 : BitVec 32) : Fin 2 → Nat :=
  let v419 : BitVec 32 := v418
  let v420 : Index := Scalar.indexCast v419
  let c0_125 : Index := 0#32
  ![v420.toNat, 0]

def k0_chk26 (v418 : BitVec 32) : Prop :=
  (4 ∣ (k0_mult26 v418).toNat) ∧
  (∀ a, (k0_off55 v418) a + S8x128.size a ≤ S65544x128.size a)
theorem k0_mult26_dvd : ∀ (v418 : BitVec 32) (k0_hw26 : k0_chk26 v418), 4 ∣ (k0_mult26 v418).toNat := fun v418 k0_hw26 => k0_hw26.1
theorem k0_off55_inb : ∀ (v418 : BitVec 32) (k0_hw26 : k0_chk26 v418), ∀ a, (k0_off55 v418) a + S8x128.size a ≤ S65544x128.size a := fun v418 k0_hw26 => k0_hw26.2

def k0_off56 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_130 : BitVec 32 := 0#32
  ![arg8.toNat, 0]
def k0_mult27 (v441 : BitVec 32) : BitVec 32 :=
  v441

def k0_off57 (v441 : BitVec 32) : Fin 2 → Nat :=
  let v442 : BitVec 32 := v441
  let v443 : Index := Scalar.indexCast v442
  let c0_131 : Index := 0#32
  ![v443.toNat, 0]

def k0_chk27 (v441 : BitVec 32) : Prop :=
  (4 ∣ (k0_mult27 v441).toNat) ∧
  (∀ a, (k0_off57 v441) a + S8x128.size a ≤ S65544x128.size a)
theorem k0_mult27_dvd : ∀ (v441 : BitVec 32) (k0_hw27 : k0_chk27 v441), 4 ∣ (k0_mult27 v441).toNat := fun v441 k0_hw27 => k0_hw27.1
theorem k0_off57_inb : ∀ (v441 : BitVec 32) (k0_hw27 : k0_chk27 v441), ∀ a, (k0_off57 v441) a + S8x128.size a ≤ S65544x128.size a := fun v441 k0_hw27 => k0_hw27.2

def k0_off58 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_132 : BitVec 32 := 0#32
  ![arg8.toNat, 0]
def k0_mult28 (v448 : BitVec 32) : BitVec 32 :=
  v448

def k0_off59 (v448 : BitVec 32) : Fin 2 → Nat :=
  let v449 : BitVec 32 := v448
  let v450 : Index := Scalar.indexCast v449
  let c0_133 : Index := 0#32
  ![v450.toNat, 0]

def k0_chk28 (v448 : BitVec 32) : Prop :=
  (4 ∣ (k0_mult28 v448).toNat) ∧
  (∀ a, (k0_off59 v448) a + S8x128.size a ≤ S65544x128.size a)
theorem k0_mult28_dvd : ∀ (v448 : BitVec 32) (k0_hw28 : k0_chk28 v448), 4 ∣ (k0_mult28 v448).toNat := fun v448 k0_hw28 => k0_hw28.1
theorem k0_off59_inb : ∀ (v448 : BitVec 32) (k0_hw28 : k0_chk28 v448), ∀ a, (k0_off59 v448) a + S8x128.size a ≤ S65544x128.size a := fun v448 k0_hw28 => k0_hw28.2

def k0_off60 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_138 : BitVec 32 := 0#32
  ![arg8.toNat, 0]
def k0_mult29 (v471 : BitVec 32) : BitVec 32 :=
  v471

def k0_off61 (v471 : BitVec 32) : Fin 2 → Nat :=
  let v472 : BitVec 32 := v471
  let v473 : Index := Scalar.indexCast v472
  let c0_139 : Index := 0#32
  ![v473.toNat, 0]

def k0_chk29 (v471 : BitVec 32) : Prop :=
  (4 ∣ (k0_mult29 v471).toNat) ∧
  (∀ a, (k0_off61 v471) a + S8x128.size a ≤ S65544x128.size a)
theorem k0_mult29_dvd : ∀ (v471 : BitVec 32) (k0_hw29 : k0_chk29 v471), 4 ∣ (k0_mult29 v471).toNat := fun v471 k0_hw29 => k0_hw29.1
theorem k0_off61_inb : ∀ (v471 : BitVec 32) (k0_hw29 : k0_chk29 v471), ∀ a, (k0_off61 v471) a + S8x128.size a ≤ S65544x128.size a := fun v471 k0_hw29 => k0_hw29.2

def k0_off62 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_140 : BitVec 32 := 0#32
  ![arg8.toNat, 0]
def k0_mult30 (v478 : BitVec 32) : BitVec 32 :=
  v478

def k0_off63 (v478 : BitVec 32) : Fin 2 → Nat :=
  let v479 : BitVec 32 := v478
  let v480 : Index := Scalar.indexCast v479
  let c0_141 : Index := 0#32
  ![v480.toNat, 0]

def k0_chk30 (v478 : BitVec 32) : Prop :=
  (4 ∣ (k0_mult30 v478).toNat) ∧
  (∀ a, (k0_off63 v478) a + S8x128.size a ≤ S65544x128.size a)
theorem k0_mult30_dvd : ∀ (v478 : BitVec 32) (k0_hw30 : k0_chk30 v478), 4 ∣ (k0_mult30 v478).toNat := fun v478 k0_hw30 => k0_hw30.1
theorem k0_off63_inb : ∀ (v478 : BitVec 32) (k0_hw30 : k0_chk30 v478), ∀ a, (k0_off63 v478) a + S8x128.size a ≤ S65544x128.size a := fun v478 k0_hw30 => k0_hw30.2

def k0_off64 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_146 : BitVec 32 := 0#32
  ![arg8.toNat, 0]
def k0_mult31 (v501 : BitVec 32) : BitVec 32 :=
  v501

def k0_off65 (v501 : BitVec 32) : Fin 2 → Nat :=
  let v502 : BitVec 32 := v501
  let v503 : Index := Scalar.indexCast v502
  let c0_147 : Index := 0#32
  ![v503.toNat, 0]

def k0_chk31 (v501 : BitVec 32) : Prop :=
  (4 ∣ (k0_mult31 v501).toNat) ∧
  (∀ a, (k0_off65 v501) a + S8x128.size a ≤ S65544x128.size a)
theorem k0_mult31_dvd : ∀ (v501 : BitVec 32) (k0_hw31 : k0_chk31 v501), 4 ∣ (k0_mult31 v501).toNat := fun v501 k0_hw31 => k0_hw31.1
theorem k0_off65_inb : ∀ (v501 : BitVec 32) (k0_hw31 : k0_chk31 v501), ∀ a, (k0_off65 v501) a + S8x128.size a ≤ S65544x128.size a := fun v501 k0_hw31 => k0_hw31.2

def k0_off66 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_148 : BitVec 32 := 0#32
  ![arg8.toNat, 0]
def k0_mult32 (v508 : BitVec 32) : BitVec 32 :=
  v508

def k0_off67 (v508 : BitVec 32) : Fin 2 → Nat :=
  let v509 : BitVec 32 := v508
  let v510 : Index := Scalar.indexCast v509
  let c0_149 : Index := 0#32
  ![v510.toNat, 0]

def k0_chk32 (v508 : BitVec 32) : Prop :=
  (4 ∣ (k0_mult32 v508).toNat) ∧
  (∀ a, (k0_off67 v508) a + S8x128.size a ≤ S65544x128.size a)
theorem k0_mult32_dvd : ∀ (v508 : BitVec 32) (k0_hw32 : k0_chk32 v508), 4 ∣ (k0_mult32 v508).toNat := fun v508 k0_hw32 => k0_hw32.1
theorem k0_off67_inb : ∀ (v508 : BitVec 32) (k0_hw32 : k0_chk32 v508), ∀ a, (k0_off67 v508) a + S8x128.size a ≤ S65544x128.size a := fun v508 k0_hw32 => k0_hw32.2

def k0_off68 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_154 : BitVec 32 := 0#32
  ![arg8.toNat, 0]
def k0_mult33 (v531 : BitVec 32) : BitVec 32 :=
  v531

def k0_off69 (v531 : BitVec 32) : Fin 2 → Nat :=
  let v532 : BitVec 32 := v531
  let v533 : Index := Scalar.indexCast v532
  let c0_156 : Index := 0#32
  ![v533.toNat, 0]

def k0_chk33 (v531 : BitVec 32) : Prop :=
  (4 ∣ (k0_mult33 v531).toNat) ∧
  (∀ a, (k0_off69 v531) a + S8x128.size a ≤ S65544x128.size a)
theorem k0_mult33_dvd : ∀ (v531 : BitVec 32) (k0_hw33 : k0_chk33 v531), 4 ∣ (k0_mult33 v531).toNat := fun v531 k0_hw33 => k0_hw33.1
theorem k0_off69_inb : ∀ (v531 : BitVec 32) (k0_hw33 : k0_chk33 v531), ∀ a, (k0_off69 v531) a + S8x128.size a ≤ S65544x128.size a := fun v531 k0_hw33 => k0_hw33.2

def k0_off70 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_157 : BitVec 32 := 0#32
  ![arg8.toNat, 0]
def k0_mult34 (v538 : BitVec 32) : BitVec 32 :=
  v538

def k0_off71 (v538 : BitVec 32) : Fin 2 → Nat :=
  let v539 : BitVec 32 := v538
  let v540 : Index := Scalar.indexCast v539
  let c0_158 : Index := 0#32
  ![v540.toNat, 0]

def k0_chk34 (v538 : BitVec 32) : Prop :=
  (4 ∣ (k0_mult34 v538).toNat) ∧
  (∀ a, (k0_off71 v538) a + S8x128.size a ≤ S65544x128.size a)
theorem k0_mult34_dvd : ∀ (v538 : BitVec 32) (k0_hw34 : k0_chk34 v538), 4 ∣ (k0_mult34 v538).toNat := fun v538 k0_hw34 => k0_hw34.1
theorem k0_off71_inb : ∀ (v538 : BitVec 32) (k0_hw34 : k0_chk34 v538), ∀ a, (k0_off71 v538) a + S8x128.size a ≤ S65544x128.size a := fun v538 k0_hw34 => k0_hw34.2

def k0_off72 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_163 : BitVec 32 := 0#32
  ![arg8.toNat, 0]
def k0_mult35 (v561 : BitVec 32) : BitVec 32 :=
  v561

def k0_off73 (v561 : BitVec 32) : Fin 2 → Nat :=
  let v562 : BitVec 32 := v561
  let v563 : Index := Scalar.indexCast v562
  let c0_164 : Index := 0#32
  ![v563.toNat, 0]

def k0_chk35 (v561 : BitVec 32) : Prop :=
  (4 ∣ (k0_mult35 v561).toNat) ∧
  (∀ a, (k0_off73 v561) a + S8x128.size a ≤ S65544x128.size a)
theorem k0_mult35_dvd : ∀ (v561 : BitVec 32) (k0_hw35 : k0_chk35 v561), 4 ∣ (k0_mult35 v561).toNat := fun v561 k0_hw35 => k0_hw35.1
theorem k0_off73_inb : ∀ (v561 : BitVec 32) (k0_hw35 : k0_chk35 v561), ∀ a, (k0_off73 v561) a + S8x128.size a ≤ S65544x128.size a := fun v561 k0_hw35 => k0_hw35.2

def k0_off74 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_165 : BitVec 32 := 0#32
  ![arg8.toNat, 0]
def k0_mult36 (v568 : BitVec 32) : BitVec 32 :=
  v568

def k0_off75 (v568 : BitVec 32) : Fin 2 → Nat :=
  let v569 : BitVec 32 := v568
  let v570 : Index := Scalar.indexCast v569
  let c0_166 : Index := 0#32
  ![v570.toNat, 0]

def k0_chk36 (v568 : BitVec 32) : Prop :=
  (4 ∣ (k0_mult36 v568).toNat) ∧
  (∀ a, (k0_off75 v568) a + S8x128.size a ≤ S65544x128.size a)
theorem k0_mult36_dvd : ∀ (v568 : BitVec 32) (k0_hw36 : k0_chk36 v568), 4 ∣ (k0_mult36 v568).toNat := fun v568 k0_hw36 => k0_hw36.1
theorem k0_off75_inb : ∀ (v568 : BitVec 32) (k0_hw36 : k0_chk36 v568), ∀ a, (k0_off75 v568) a + S8x128.size a ≤ S65544x128.size a := fun v568 k0_hw36 => k0_hw36.2

def k0_off76 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_171 : BitVec 32 := 0#32
  ![arg8.toNat, 0]
def k0_mult37 (v591 : BitVec 32) : BitVec 32 :=
  v591

def k0_off77 (v591 : BitVec 32) : Fin 2 → Nat :=
  let v592 : BitVec 32 := v591
  let v593 : Index := Scalar.indexCast v592
  let c0_172 : Index := 0#32
  ![v593.toNat, 0]

def k0_chk37 (v591 : BitVec 32) : Prop :=
  (4 ∣ (k0_mult37 v591).toNat) ∧
  (∀ a, (k0_off77 v591) a + S8x128.size a ≤ S65544x128.size a)
theorem k0_mult37_dvd : ∀ (v591 : BitVec 32) (k0_hw37 : k0_chk37 v591), 4 ∣ (k0_mult37 v591).toNat := fun v591 k0_hw37 => k0_hw37.1
theorem k0_off77_inb : ∀ (v591 : BitVec 32) (k0_hw37 : k0_chk37 v591), ∀ a, (k0_off77 v591) a + S8x128.size a ≤ S65544x128.size a := fun v591 k0_hw37 => k0_hw37.2

def k0_off78 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_173 : BitVec 32 := 0#32
  ![arg8.toNat, 0]
def k0_mult38 (v598 : BitVec 32) : BitVec 32 :=
  v598

def k0_off79 (v598 : BitVec 32) : Fin 2 → Nat :=
  let v599 : BitVec 32 := v598
  let v600 : Index := Scalar.indexCast v599
  let c0_174 : Index := 0#32
  ![v600.toNat, 0]

def k0_chk38 (v598 : BitVec 32) : Prop :=
  (4 ∣ (k0_mult38 v598).toNat) ∧
  (∀ a, (k0_off79 v598) a + S8x128.size a ≤ S65544x128.size a)
theorem k0_mult38_dvd : ∀ (v598 : BitVec 32) (k0_hw38 : k0_chk38 v598), 4 ∣ (k0_mult38 v598).toNat := fun v598 k0_hw38 => k0_hw38.1
theorem k0_off79_inb : ∀ (v598 : BitVec 32) (k0_hw38 : k0_chk38 v598), ∀ a, (k0_off79 v598) a + S8x128.size a ≤ S65544x128.size a := fun v598 k0_hw38 => k0_hw38.2

def k0_off80 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_179 : BitVec 32 := 0#32
  ![arg8.toNat, 0]
def k0_mult39 (v621 : BitVec 32) : BitVec 32 :=
  v621

def k0_off81 (v621 : BitVec 32) : Fin 2 → Nat :=
  let v622 : BitVec 32 := v621
  let v623 : Index := Scalar.indexCast v622
  let c0_180 : Index := 0#32
  ![v623.toNat, 0]

def k0_chk39 (v621 : BitVec 32) : Prop :=
  (4 ∣ (k0_mult39 v621).toNat) ∧
  (∀ a, (k0_off81 v621) a + S8x128.size a ≤ S65544x128.size a)
theorem k0_mult39_dvd : ∀ (v621 : BitVec 32) (k0_hw39 : k0_chk39 v621), 4 ∣ (k0_mult39 v621).toNat := fun v621 k0_hw39 => k0_hw39.1
theorem k0_off81_inb : ∀ (v621 : BitVec 32) (k0_hw39 : k0_chk39 v621), ∀ a, (k0_off81 v621) a + S8x128.size a ≤ S65544x128.size a := fun v621 k0_hw39 => k0_hw39.2

def k0_off82 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_181 : BitVec 32 := 0#32
  ![arg8.toNat, 0]
def k0_mult40 (v628 : BitVec 32) : BitVec 32 :=
  v628

def k0_off83 (v628 : BitVec 32) : Fin 2 → Nat :=
  let v629 : BitVec 32 := v628
  let v630 : Index := Scalar.indexCast v629
  let c0_182 : Index := 0#32
  ![v630.toNat, 0]

def k0_chk40 (v628 : BitVec 32) : Prop :=
  (4 ∣ (k0_mult40 v628).toNat) ∧
  (∀ a, (k0_off83 v628) a + S8x128.size a ≤ S65544x128.size a)
theorem k0_mult40_dvd : ∀ (v628 : BitVec 32) (k0_hw40 : k0_chk40 v628), 4 ∣ (k0_mult40 v628).toNat := fun v628 k0_hw40 => k0_hw40.1
theorem k0_off83_inb : ∀ (v628 : BitVec 32) (k0_hw40 : k0_chk40 v628), ∀ a, (k0_off83 v628) a + S8x128.size a ≤ S65544x128.size a := fun v628 k0_hw40 => k0_hw40.2

def k0_off84 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_187 : BitVec 32 := 0#32
  ![arg8.toNat, 0]
def k0_mult41 (v651 : BitVec 32) : BitVec 32 :=
  v651

def k0_off85 (v651 : BitVec 32) : Fin 2 → Nat :=
  let v652 : BitVec 32 := v651
  let v653 : Index := Scalar.indexCast v652
  let c0_189 : Index := 0#32
  ![v653.toNat, 0]

def k0_chk41 (v651 : BitVec 32) : Prop :=
  (4 ∣ (k0_mult41 v651).toNat) ∧
  (∀ a, (k0_off85 v651) a + S8x128.size a ≤ S65544x128.size a)
theorem k0_mult41_dvd : ∀ (v651 : BitVec 32) (k0_hw41 : k0_chk41 v651), 4 ∣ (k0_mult41 v651).toNat := fun v651 k0_hw41 => k0_hw41.1
theorem k0_off85_inb : ∀ (v651 : BitVec 32) (k0_hw41 : k0_chk41 v651), ∀ a, (k0_off85 v651) a + S8x128.size a ≤ S65544x128.size a := fun v651 k0_hw41 => k0_hw41.2

def k0_off86 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_190 : BitVec 32 := 0#32
  ![arg8.toNat, 0]
def k0_mult42 (v658 : BitVec 32) : BitVec 32 :=
  v658

def k0_off87 (v658 : BitVec 32) : Fin 2 → Nat :=
  let v659 : BitVec 32 := v658
  let v660 : Index := Scalar.indexCast v659
  let c0_191 : Index := 0#32
  ![v660.toNat, 0]

def k0_chk42 (v658 : BitVec 32) : Prop :=
  (4 ∣ (k0_mult42 v658).toNat) ∧
  (∀ a, (k0_off87 v658) a + S8x128.size a ≤ S65544x128.size a)
theorem k0_mult42_dvd : ∀ (v658 : BitVec 32) (k0_hw42 : k0_chk42 v658), 4 ∣ (k0_mult42 v658).toNat := fun v658 k0_hw42 => k0_hw42.1
theorem k0_off87_inb : ∀ (v658 : BitVec 32) (k0_hw42 : k0_chk42 v658), ∀ a, (k0_off87 v658) a + S8x128.size a ≤ S65544x128.size a := fun v658 k0_hw42 => k0_hw42.2

def k0_off88 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_196 : BitVec 32 := 0#32
  ![arg8.toNat, 0]
def k0_mult43 (v681 : BitVec 32) : BitVec 32 :=
  v681

def k0_off89 (v681 : BitVec 32) : Fin 2 → Nat :=
  let v682 : BitVec 32 := v681
  let v683 : Index := Scalar.indexCast v682
  let c0_197 : Index := 0#32
  ![v683.toNat, 0]

def k0_chk43 (v681 : BitVec 32) : Prop :=
  (4 ∣ (k0_mult43 v681).toNat) ∧
  (∀ a, (k0_off89 v681) a + S8x128.size a ≤ S65544x128.size a)
theorem k0_mult43_dvd : ∀ (v681 : BitVec 32) (k0_hw43 : k0_chk43 v681), 4 ∣ (k0_mult43 v681).toNat := fun v681 k0_hw43 => k0_hw43.1
theorem k0_off89_inb : ∀ (v681 : BitVec 32) (k0_hw43 : k0_chk43 v681), ∀ a, (k0_off89 v681) a + S8x128.size a ≤ S65544x128.size a := fun v681 k0_hw43 => k0_hw43.2

def k0_off90 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_198 : BitVec 32 := 0#32
  ![arg8.toNat, 0]
def k0_mult44 (v688 : BitVec 32) : BitVec 32 :=
  v688

def k0_off91 (v688 : BitVec 32) : Fin 2 → Nat :=
  let v689 : BitVec 32 := v688
  let v690 : Index := Scalar.indexCast v689
  let c0_199 : Index := 0#32
  ![v690.toNat, 0]

def k0_chk44 (v688 : BitVec 32) : Prop :=
  (4 ∣ (k0_mult44 v688).toNat) ∧
  (∀ a, (k0_off91 v688) a + S8x128.size a ≤ S65544x128.size a)
theorem k0_mult44_dvd : ∀ (v688 : BitVec 32) (k0_hw44 : k0_chk44 v688), 4 ∣ (k0_mult44 v688).toNat := fun v688 k0_hw44 => k0_hw44.1
theorem k0_off91_inb : ∀ (v688 : BitVec 32) (k0_hw44 : k0_chk44 v688), ∀ a, (k0_off91 v688) a + S8x128.size a ≤ S65544x128.size a := fun v688 k0_hw44 => k0_hw44.2

def k0_off92 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_204 : BitVec 32 := 0#32
  ![arg8.toNat, 0]
def k0_mult45 (v711 : BitVec 32) : BitVec 32 :=
  v711

def k0_off93 (v711 : BitVec 32) : Fin 2 → Nat :=
  let v712 : BitVec 32 := v711
  let v713 : Index := Scalar.indexCast v712
  let c0_205 : Index := 0#32
  ![v713.toNat, 0]

def k0_chk45 (v711 : BitVec 32) : Prop :=
  (4 ∣ (k0_mult45 v711).toNat) ∧
  (∀ a, (k0_off93 v711) a + S8x128.size a ≤ S65544x128.size a)
theorem k0_mult45_dvd : ∀ (v711 : BitVec 32) (k0_hw45 : k0_chk45 v711), 4 ∣ (k0_mult45 v711).toNat := fun v711 k0_hw45 => k0_hw45.1
theorem k0_off93_inb : ∀ (v711 : BitVec 32) (k0_hw45 : k0_chk45 v711), ∀ a, (k0_off93 v711) a + S8x128.size a ≤ S65544x128.size a := fun v711 k0_hw45 => k0_hw45.2

def k0_off94 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_206 : BitVec 32 := 0#32
  ![arg8.toNat, 0]
def k0_mult46 (v718 : BitVec 32) : BitVec 32 :=
  v718

def k0_off95 (v718 : BitVec 32) : Fin 2 → Nat :=
  let v719 : BitVec 32 := v718
  let v720 : Index := Scalar.indexCast v719
  let c0_207 : Index := 0#32
  ![v720.toNat, 0]

def k0_chk46 (v718 : BitVec 32) : Prop :=
  (4 ∣ (k0_mult46 v718).toNat) ∧
  (∀ a, (k0_off95 v718) a + S8x128.size a ≤ S65544x128.size a)
theorem k0_mult46_dvd : ∀ (v718 : BitVec 32) (k0_hw46 : k0_chk46 v718), 4 ∣ (k0_mult46 v718).toNat := fun v718 k0_hw46 => k0_hw46.1
theorem k0_off95_inb : ∀ (v718 : BitVec 32) (k0_hw46 : k0_chk46 v718), ∀ a, (k0_off95 v718) a + S8x128.size a ≤ S65544x128.size a := fun v718 k0_hw46 => k0_hw46.2

def k0_off96 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_212 : BitVec 32 := 0#32
  ![arg8.toNat, 0]
def k0_mult47 (v741 : BitVec 32) : BitVec 32 :=
  v741

def k0_off97 (v741 : BitVec 32) : Fin 2 → Nat :=
  let v742 : BitVec 32 := v741
  let v743 : Index := Scalar.indexCast v742
  let c0_213 : Index := 0#32
  ![v743.toNat, 0]

def k0_chk47 (v741 : BitVec 32) : Prop :=
  (4 ∣ (k0_mult47 v741).toNat) ∧
  (∀ a, (k0_off97 v741) a + S8x128.size a ≤ S65544x128.size a)
theorem k0_mult47_dvd : ∀ (v741 : BitVec 32) (k0_hw47 : k0_chk47 v741), 4 ∣ (k0_mult47 v741).toNat := fun v741 k0_hw47 => k0_hw47.1
theorem k0_off97_inb : ∀ (v741 : BitVec 32) (k0_hw47 : k0_chk47 v741), ∀ a, (k0_off97 v741) a + S8x128.size a ≤ S65544x128.size a := fun v741 k0_hw47 => k0_hw47.2

def k0_off98 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_214 : BitVec 32 := 0#32
  ![arg8.toNat, 0]
def k0_mult48 (v748 : BitVec 32) : BitVec 32 :=
  v748

def k0_off99 (v748 : BitVec 32) : Fin 2 → Nat :=
  let v749 : BitVec 32 := v748
  let v750 : Index := Scalar.indexCast v749
  let c0_215 : Index := 0#32
  ![v750.toNat, 0]

def k0_chk48 (v748 : BitVec 32) : Prop :=
  (4 ∣ (k0_mult48 v748).toNat) ∧
  (∀ a, (k0_off99 v748) a + S8x128.size a ≤ S65544x128.size a)
theorem k0_mult48_dvd : ∀ (v748 : BitVec 32) (k0_hw48 : k0_chk48 v748), 4 ∣ (k0_mult48 v748).toNat := fun v748 k0_hw48 => k0_hw48.1
theorem k0_off99_inb : ∀ (v748 : BitVec 32) (k0_hw48 : k0_chk48 v748), ∀ a, (k0_off99 v748) a + S8x128.size a ≤ S65544x128.size a := fun v748 k0_hw48 => k0_hw48.2

def k0_off100 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_220 : BitVec 32 := 0#32
  ![arg8.toNat, 0]
def k0_mult49 (v771 : BitVec 32) : BitVec 32 :=
  v771

def k0_off101 (v771 : BitVec 32) : Fin 2 → Nat :=
  let v772 : BitVec 32 := v771
  let v773 : Index := Scalar.indexCast v772
  let c0_222 : Index := 0#32
  ![v773.toNat, 0]

def k0_chk49 (v771 : BitVec 32) : Prop :=
  (4 ∣ (k0_mult49 v771).toNat) ∧
  (∀ a, (k0_off101 v771) a + S8x128.size a ≤ S65544x128.size a)
theorem k0_mult49_dvd : ∀ (v771 : BitVec 32) (k0_hw49 : k0_chk49 v771), 4 ∣ (k0_mult49 v771).toNat := fun v771 k0_hw49 => k0_hw49.1
theorem k0_off101_inb : ∀ (v771 : BitVec 32) (k0_hw49 : k0_chk49 v771), ∀ a, (k0_off101 v771) a + S8x128.size a ≤ S65544x128.size a := fun v771 k0_hw49 => k0_hw49.2

def k0_off102 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_223 : BitVec 32 := 0#32
  ![arg8.toNat, 0]
def k0_mult50 (v778 : BitVec 32) : BitVec 32 :=
  v778

def k0_off103 (v778 : BitVec 32) : Fin 2 → Nat :=
  let v779 : BitVec 32 := v778
  let v780 : Index := Scalar.indexCast v779
  let c0_224 : Index := 0#32
  ![v780.toNat, 0]

def k0_chk50 (v778 : BitVec 32) : Prop :=
  (4 ∣ (k0_mult50 v778).toNat) ∧
  (∀ a, (k0_off103 v778) a + S8x128.size a ≤ S65544x128.size a)
theorem k0_mult50_dvd : ∀ (v778 : BitVec 32) (k0_hw50 : k0_chk50 v778), 4 ∣ (k0_mult50 v778).toNat := fun v778 k0_hw50 => k0_hw50.1
theorem k0_off103_inb : ∀ (v778 : BitVec 32) (k0_hw50 : k0_chk50 v778), ∀ a, (k0_off103 v778) a + S8x128.size a ≤ S65544x128.size a := fun v778 k0_hw50 => k0_hw50.2

def k0_off104 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_229 : BitVec 32 := 0#32
  ![arg8.toNat, 0]
def k0_mult51 (v801 : BitVec 32) : BitVec 32 :=
  v801

def k0_off105 (v801 : BitVec 32) : Fin 2 → Nat :=
  let v802 : BitVec 32 := v801
  let v803 : Index := Scalar.indexCast v802
  let c0_230 : Index := 0#32
  ![v803.toNat, 0]

def k0_chk51 (v801 : BitVec 32) : Prop :=
  (4 ∣ (k0_mult51 v801).toNat) ∧
  (∀ a, (k0_off105 v801) a + S8x128.size a ≤ S65544x128.size a)
theorem k0_mult51_dvd : ∀ (v801 : BitVec 32) (k0_hw51 : k0_chk51 v801), 4 ∣ (k0_mult51 v801).toNat := fun v801 k0_hw51 => k0_hw51.1
theorem k0_off105_inb : ∀ (v801 : BitVec 32) (k0_hw51 : k0_chk51 v801), ∀ a, (k0_off105 v801) a + S8x128.size a ≤ S65544x128.size a := fun v801 k0_hw51 => k0_hw51.2

def k0_off106 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_231 : BitVec 32 := 0#32
  ![arg8.toNat, 0]
def k0_mult52 (v808 : BitVec 32) : BitVec 32 :=
  v808

def k0_off107 (v808 : BitVec 32) : Fin 2 → Nat :=
  let v809 : BitVec 32 := v808
  let v810 : Index := Scalar.indexCast v809
  let c0_232 : Index := 0#32
  ![v810.toNat, 0]

def k0_chk52 (v808 : BitVec 32) : Prop :=
  (4 ∣ (k0_mult52 v808).toNat) ∧
  (∀ a, (k0_off107 v808) a + S8x128.size a ≤ S65544x128.size a)
theorem k0_mult52_dvd : ∀ (v808 : BitVec 32) (k0_hw52 : k0_chk52 v808), 4 ∣ (k0_mult52 v808).toNat := fun v808 k0_hw52 => k0_hw52.1
theorem k0_off107_inb : ∀ (v808 : BitVec 32) (k0_hw52 : k0_chk52 v808), ∀ a, (k0_off107 v808) a + S8x128.size a ≤ S65544x128.size a := fun v808 k0_hw52 => k0_hw52.2

def k0_off108 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_237 : BitVec 32 := 0#32
  ![arg8.toNat, 0]
def k0_mult53 (v831 : BitVec 32) : BitVec 32 :=
  v831

def k0_off109 (v831 : BitVec 32) : Fin 2 → Nat :=
  let v832 : BitVec 32 := v831
  let v833 : Index := Scalar.indexCast v832
  let c0_238 : Index := 0#32
  ![v833.toNat, 0]

def k0_chk53 (v831 : BitVec 32) : Prop :=
  (4 ∣ (k0_mult53 v831).toNat) ∧
  (∀ a, (k0_off109 v831) a + S8x128.size a ≤ S65544x128.size a)
theorem k0_mult53_dvd : ∀ (v831 : BitVec 32) (k0_hw53 : k0_chk53 v831), 4 ∣ (k0_mult53 v831).toNat := fun v831 k0_hw53 => k0_hw53.1
theorem k0_off109_inb : ∀ (v831 : BitVec 32) (k0_hw53 : k0_chk53 v831), ∀ a, (k0_off109 v831) a + S8x128.size a ≤ S65544x128.size a := fun v831 k0_hw53 => k0_hw53.2

def k0_off110 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_239 : BitVec 32 := 0#32
  ![arg8.toNat, 0]
def k0_mult54 (v838 : BitVec 32) : BitVec 32 :=
  v838

def k0_off111 (v838 : BitVec 32) : Fin 2 → Nat :=
  let v839 : BitVec 32 := v838
  let v840 : Index := Scalar.indexCast v839
  let c0_240 : Index := 0#32
  ![v840.toNat, 0]

def k0_chk54 (v838 : BitVec 32) : Prop :=
  (4 ∣ (k0_mult54 v838).toNat) ∧
  (∀ a, (k0_off111 v838) a + S8x128.size a ≤ S65544x128.size a)
theorem k0_mult54_dvd : ∀ (v838 : BitVec 32) (k0_hw54 : k0_chk54 v838), 4 ∣ (k0_mult54 v838).toNat := fun v838 k0_hw54 => k0_hw54.1
theorem k0_off111_inb : ∀ (v838 : BitVec 32) (k0_hw54 : k0_chk54 v838), ∀ a, (k0_off111 v838) a + S8x128.size a ≤ S65544x128.size a := fun v838 k0_hw54 => k0_hw54.2

def k0_off112 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_245 : BitVec 32 := 0#32
  ![arg8.toNat, 0]
def k0_mult55 (v861 : BitVec 32) : BitVec 32 :=
  v861

def k0_off113 (v861 : BitVec 32) : Fin 2 → Nat :=
  let v862 : BitVec 32 := v861
  let v863 : Index := Scalar.indexCast v862
  let c0_246 : Index := 0#32
  ![v863.toNat, 0]

def k0_chk55 (v861 : BitVec 32) : Prop :=
  (4 ∣ (k0_mult55 v861).toNat) ∧
  (∀ a, (k0_off113 v861) a + S8x128.size a ≤ S65544x128.size a)
theorem k0_mult55_dvd : ∀ (v861 : BitVec 32) (k0_hw55 : k0_chk55 v861), 4 ∣ (k0_mult55 v861).toNat := fun v861 k0_hw55 => k0_hw55.1
theorem k0_off113_inb : ∀ (v861 : BitVec 32) (k0_hw55 : k0_chk55 v861), ∀ a, (k0_off113 v861) a + S8x128.size a ≤ S65544x128.size a := fun v861 k0_hw55 => k0_hw55.2

def k0_off114 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_247 : BitVec 32 := 0#32
  ![arg8.toNat, 0]
def k0_mult56 (v868 : BitVec 32) : BitVec 32 :=
  v868

def k0_off115 (v868 : BitVec 32) : Fin 2 → Nat :=
  let v869 : BitVec 32 := v868
  let v870 : Index := Scalar.indexCast v869
  let c0_248 : Index := 0#32
  ![v870.toNat, 0]

def k0_chk56 (v868 : BitVec 32) : Prop :=
  (4 ∣ (k0_mult56 v868).toNat) ∧
  (∀ a, (k0_off115 v868) a + S8x128.size a ≤ S65544x128.size a)
theorem k0_mult56_dvd : ∀ (v868 : BitVec 32) (k0_hw56 : k0_chk56 v868), 4 ∣ (k0_mult56 v868).toNat := fun v868 k0_hw56 => k0_hw56.1
theorem k0_off115_inb : ∀ (v868 : BitVec 32) (k0_hw56 : k0_chk56 v868), ∀ a, (k0_off115 v868) a + S8x128.size a ≤ S65544x128.size a := fun v868 k0_hw56 => k0_hw56.2

def k0_off116 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_253 : BitVec 32 := 0#32
  ![arg8.toNat, 0]
def k0_mult57 (v891 : BitVec 32) : BitVec 32 :=
  v891

def k0_off117 (v891 : BitVec 32) : Fin 2 → Nat :=
  let v892 : BitVec 32 := v891
  let v893 : Index := Scalar.indexCast v892
  let c0_255 : Index := 0#32
  ![v893.toNat, 0]

def k0_chk57 (v891 : BitVec 32) : Prop :=
  (4 ∣ (k0_mult57 v891).toNat) ∧
  (∀ a, (k0_off117 v891) a + S8x128.size a ≤ S65544x128.size a)
theorem k0_mult57_dvd : ∀ (v891 : BitVec 32) (k0_hw57 : k0_chk57 v891), 4 ∣ (k0_mult57 v891).toNat := fun v891 k0_hw57 => k0_hw57.1
theorem k0_off117_inb : ∀ (v891 : BitVec 32) (k0_hw57 : k0_chk57 v891), ∀ a, (k0_off117 v891) a + S8x128.size a ≤ S65544x128.size a := fun v891 k0_hw57 => k0_hw57.2

def k0_off118 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_256 : BitVec 32 := 0#32
  ![arg8.toNat, 0]
def k0_mult58 (v898 : BitVec 32) : BitVec 32 :=
  v898

def k0_off119 (v898 : BitVec 32) : Fin 2 → Nat :=
  let v899 : BitVec 32 := v898
  let v900 : Index := Scalar.indexCast v899
  let c0_257 : Index := 0#32
  ![v900.toNat, 0]

def k0_chk58 (v898 : BitVec 32) : Prop :=
  (4 ∣ (k0_mult58 v898).toNat) ∧
  (∀ a, (k0_off119 v898) a + S8x128.size a ≤ S65544x128.size a)
theorem k0_mult58_dvd : ∀ (v898 : BitVec 32) (k0_hw58 : k0_chk58 v898), 4 ∣ (k0_mult58 v898).toNat := fun v898 k0_hw58 => k0_hw58.1
theorem k0_off119_inb : ∀ (v898 : BitVec 32) (k0_hw58 : k0_chk58 v898), ∀ a, (k0_off119 v898) a + S8x128.size a ≤ S65544x128.size a := fun v898 k0_hw58 => k0_hw58.2

def k0_off120 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_262 : BitVec 32 := 0#32
  ![arg8.toNat, 0]
def k0_mult59 (v921 : BitVec 32) : BitVec 32 :=
  v921

def k0_off121 (v921 : BitVec 32) : Fin 2 → Nat :=
  let v922 : BitVec 32 := v921
  let v923 : Index := Scalar.indexCast v922
  let c0_263 : Index := 0#32
  ![v923.toNat, 0]

def k0_chk59 (v921 : BitVec 32) : Prop :=
  (4 ∣ (k0_mult59 v921).toNat) ∧
  (∀ a, (k0_off121 v921) a + S8x128.size a ≤ S65544x128.size a)
theorem k0_mult59_dvd : ∀ (v921 : BitVec 32) (k0_hw59 : k0_chk59 v921), 4 ∣ (k0_mult59 v921).toNat := fun v921 k0_hw59 => k0_hw59.1
theorem k0_off121_inb : ∀ (v921 : BitVec 32) (k0_hw59 : k0_chk59 v921), ∀ a, (k0_off121 v921) a + S8x128.size a ≤ S65544x128.size a := fun v921 k0_hw59 => k0_hw59.2

def k0_off122 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_264 : BitVec 32 := 0#32
  ![arg8.toNat, 0]
def k0_mult60 (v928 : BitVec 32) : BitVec 32 :=
  v928

def k0_off123 (v928 : BitVec 32) : Fin 2 → Nat :=
  let v929 : BitVec 32 := v928
  let v930 : Index := Scalar.indexCast v929
  let c0_265 : Index := 0#32
  ![v930.toNat, 0]

def k0_chk60 (v928 : BitVec 32) : Prop :=
  (4 ∣ (k0_mult60 v928).toNat) ∧
  (∀ a, (k0_off123 v928) a + S8x128.size a ≤ S65544x128.size a)
theorem k0_mult60_dvd : ∀ (v928 : BitVec 32) (k0_hw60 : k0_chk60 v928), 4 ∣ (k0_mult60 v928).toNat := fun v928 k0_hw60 => k0_hw60.1
theorem k0_off123_inb : ∀ (v928 : BitVec 32) (k0_hw60 : k0_chk60 v928), ∀ a, (k0_off123 v928) a + S8x128.size a ≤ S65544x128.size a := fun v928 k0_hw60 => k0_hw60.2

def k0_off124 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_270 : BitVec 32 := 0#32
  ![arg8.toNat, 0]
def k0_mult61 (v951 : BitVec 32) : BitVec 32 :=
  v951

def k0_off125 (v951 : BitVec 32) : Fin 2 → Nat :=
  let v952 : BitVec 32 := v951
  let v953 : Index := Scalar.indexCast v952
  let c0_271 : Index := 0#32
  ![v953.toNat, 0]

def k0_chk61 (v951 : BitVec 32) : Prop :=
  (4 ∣ (k0_mult61 v951).toNat) ∧
  (∀ a, (k0_off125 v951) a + S8x128.size a ≤ S65544x128.size a)
theorem k0_mult61_dvd : ∀ (v951 : BitVec 32) (k0_hw61 : k0_chk61 v951), 4 ∣ (k0_mult61 v951).toNat := fun v951 k0_hw61 => k0_hw61.1
theorem k0_off125_inb : ∀ (v951 : BitVec 32) (k0_hw61 : k0_chk61 v951), ∀ a, (k0_off125 v951) a + S8x128.size a ≤ S65544x128.size a := fun v951 k0_hw61 => k0_hw61.2

def k0_off126 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_272 : BitVec 32 := 0#32
  ![arg8.toNat, 0]
def k0_mult62 (v958 : BitVec 32) : BitVec 32 :=
  v958

def k0_off127 (v958 : BitVec 32) : Fin 2 → Nat :=
  let v959 : BitVec 32 := v958
  let v960 : Index := Scalar.indexCast v959
  let c0_273 : Index := 0#32
  ![v960.toNat, 0]

def k0_chk62 (v958 : BitVec 32) : Prop :=
  (4 ∣ (k0_mult62 v958).toNat) ∧
  (∀ a, (k0_off127 v958) a + S8x128.size a ≤ S65544x128.size a)
theorem k0_mult62_dvd : ∀ (v958 : BitVec 32) (k0_hw62 : k0_chk62 v958), 4 ∣ (k0_mult62 v958).toNat := fun v958 k0_hw62 => k0_hw62.1
theorem k0_off127_inb : ∀ (v958 : BitVec 32) (k0_hw62 : k0_chk62 v958), ∀ a, (k0_off127 v958) a + S8x128.size a ≤ S65544x128.size a := fun v958 k0_hw62 => k0_hw62.2

def k0_off128 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_278 : BitVec 32 := 0#32
  ![arg8.toNat, 0]
def k0_mult63 (v981 : BitVec 32) : BitVec 32 :=
  v981

def k0_off129 (v981 : BitVec 32) : Fin 2 → Nat :=
  let v982 : BitVec 32 := v981
  let v983 : Index := Scalar.indexCast v982
  let c0_279 : Index := 0#32
  ![v983.toNat, 0]

def k0_chk63 (v981 : BitVec 32) : Prop :=
  (4 ∣ (k0_mult63 v981).toNat) ∧
  (∀ a, (k0_off129 v981) a + S8x128.size a ≤ S65544x128.size a)
theorem k0_mult63_dvd : ∀ (v981 : BitVec 32) (k0_hw63 : k0_chk63 v981), 4 ∣ (k0_mult63 v981).toNat := fun v981 k0_hw63 => k0_hw63.1
theorem k0_off129_inb : ∀ (v981 : BitVec 32) (k0_hw63 : k0_chk63 v981), ∀ a, (k0_off129 v981) a + S8x128.size a ≤ S65544x128.size a := fun v981 k0_hw63 => k0_hw63.2

def k0_off130 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_280 : BitVec 32 := 0#32
  ![arg8.toNat, 0]
def k0_mult64 (v988 : BitVec 32) : BitVec 32 :=
  v988

def k0_off131 (v988 : BitVec 32) : Fin 2 → Nat :=
  let v989 : BitVec 32 := v988
  let v990 : Index := Scalar.indexCast v989
  let c0_281 : Index := 0#32
  ![v990.toNat, 0]

def k0_chk64 (v988 : BitVec 32) : Prop :=
  (4 ∣ (k0_mult64 v988).toNat) ∧
  (∀ a, (k0_off131 v988) a + S8x128.size a ≤ S65544x128.size a)
theorem k0_mult64_dvd : ∀ (v988 : BitVec 32) (k0_hw64 : k0_chk64 v988), 4 ∣ (k0_mult64 v988).toNat := fun v988 k0_hw64 => k0_hw64.1
theorem k0_off131_inb : ∀ (v988 : BitVec 32) (k0_hw64 : k0_chk64 v988), ∀ a, (k0_off131 v988) a + S8x128.size a ≤ S65544x128.size a := fun v988 k0_hw64 => k0_hw64.2

def k0_off132 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_286 : BitVec 32 := 0#32
  ![arg8.toNat, 0]
def k0_mult65 (v1011 : BitVec 32) : BitVec 32 :=
  v1011

def k0_off133 (v1011 : BitVec 32) : Fin 2 → Nat :=
  let v1012 : BitVec 32 := v1011
  let v1013 : Index := Scalar.indexCast v1012
  let c0_288 : Index := 0#32
  ![v1013.toNat, 0]

def k0_chk65 (v1011 : BitVec 32) : Prop :=
  (4 ∣ (k0_mult65 v1011).toNat) ∧
  (∀ a, (k0_off133 v1011) a + S8x128.size a ≤ S65544x128.size a)
theorem k0_mult65_dvd : ∀ (v1011 : BitVec 32) (k0_hw65 : k0_chk65 v1011), 4 ∣ (k0_mult65 v1011).toNat := fun v1011 k0_hw65 => k0_hw65.1
theorem k0_off133_inb : ∀ (v1011 : BitVec 32) (k0_hw65 : k0_chk65 v1011), ∀ a, (k0_off133 v1011) a + S8x128.size a ≤ S65544x128.size a := fun v1011 k0_hw65 => k0_hw65.2

def k0_off134 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_289 : BitVec 32 := 0#32
  ![arg8.toNat, 0]
def k0_mult66 (v1018 : BitVec 32) : BitVec 32 :=
  v1018

def k0_off135 (v1018 : BitVec 32) : Fin 2 → Nat :=
  let v1019 : BitVec 32 := v1018
  let v1020 : Index := Scalar.indexCast v1019
  let c0_290 : Index := 0#32
  ![v1020.toNat, 0]

def k0_chk66 (v1018 : BitVec 32) : Prop :=
  (4 ∣ (k0_mult66 v1018).toNat) ∧
  (∀ a, (k0_off135 v1018) a + S8x128.size a ≤ S65544x128.size a)
theorem k0_mult66_dvd : ∀ (v1018 : BitVec 32) (k0_hw66 : k0_chk66 v1018), 4 ∣ (k0_mult66 v1018).toNat := fun v1018 k0_hw66 => k0_hw66.1
theorem k0_off135_inb : ∀ (v1018 : BitVec 32) (k0_hw66 : k0_chk66 v1018), ∀ a, (k0_off135 v1018) a + S8x128.size a ≤ S65544x128.size a := fun v1018 k0_hw66 => k0_hw66.2

def k0_off136 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_295 : BitVec 32 := 0#32
  ![arg8.toNat, 0]
def k0_mult67 (v1041 : BitVec 32) : BitVec 32 :=
  v1041

def k0_off137 (v1041 : BitVec 32) : Fin 2 → Nat :=
  let v1042 : BitVec 32 := v1041
  let v1043 : Index := Scalar.indexCast v1042
  let c0_296 : Index := 0#32
  ![v1043.toNat, 0]

def k0_chk67 (v1041 : BitVec 32) : Prop :=
  (4 ∣ (k0_mult67 v1041).toNat) ∧
  (∀ a, (k0_off137 v1041) a + S8x128.size a ≤ S65544x128.size a)
theorem k0_mult67_dvd : ∀ (v1041 : BitVec 32) (k0_hw67 : k0_chk67 v1041), 4 ∣ (k0_mult67 v1041).toNat := fun v1041 k0_hw67 => k0_hw67.1
theorem k0_off137_inb : ∀ (v1041 : BitVec 32) (k0_hw67 : k0_chk67 v1041), ∀ a, (k0_off137 v1041) a + S8x128.size a ≤ S65544x128.size a := fun v1041 k0_hw67 => k0_hw67.2

def k0_off138 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_297 : BitVec 32 := 0#32
  ![arg8.toNat, 0]
def k0_mult68 (v1048 : BitVec 32) : BitVec 32 :=
  v1048

def k0_off139 (v1048 : BitVec 32) : Fin 2 → Nat :=
  let v1049 : BitVec 32 := v1048
  let v1050 : Index := Scalar.indexCast v1049
  let c0_298 : Index := 0#32
  ![v1050.toNat, 0]

def k0_chk68 (v1048 : BitVec 32) : Prop :=
  (4 ∣ (k0_mult68 v1048).toNat) ∧
  (∀ a, (k0_off139 v1048) a + S8x128.size a ≤ S65544x128.size a)
theorem k0_mult68_dvd : ∀ (v1048 : BitVec 32) (k0_hw68 : k0_chk68 v1048), 4 ∣ (k0_mult68 v1048).toNat := fun v1048 k0_hw68 => k0_hw68.1
theorem k0_off139_inb : ∀ (v1048 : BitVec 32) (k0_hw68 : k0_chk68 v1048), ∀ a, (k0_off139 v1048) a + S8x128.size a ≤ S65544x128.size a := fun v1048 k0_hw68 => k0_hw68.2

def k0_off140 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_303 : BitVec 32 := 0#32
  ![arg8.toNat, 0]
def k0_mult69 (v1071 : BitVec 32) : BitVec 32 :=
  v1071

def k0_off141 (v1071 : BitVec 32) : Fin 2 → Nat :=
  let v1072 : BitVec 32 := v1071
  let v1073 : Index := Scalar.indexCast v1072
  let c0_304 : Index := 0#32
  ![v1073.toNat, 0]

def k0_chk69 (v1071 : BitVec 32) : Prop :=
  (4 ∣ (k0_mult69 v1071).toNat) ∧
  (∀ a, (k0_off141 v1071) a + S8x128.size a ≤ S65544x128.size a)
theorem k0_mult69_dvd : ∀ (v1071 : BitVec 32) (k0_hw69 : k0_chk69 v1071), 4 ∣ (k0_mult69 v1071).toNat := fun v1071 k0_hw69 => k0_hw69.1
theorem k0_off141_inb : ∀ (v1071 : BitVec 32) (k0_hw69 : k0_chk69 v1071), ∀ a, (k0_off141 v1071) a + S8x128.size a ≤ S65544x128.size a := fun v1071 k0_hw69 => k0_hw69.2

def k0_off142 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_305 : BitVec 32 := 0#32
  ![arg8.toNat, 0]
def k0_mult70 (v1078 : BitVec 32) : BitVec 32 :=
  v1078

def k0_off143 (v1078 : BitVec 32) : Fin 2 → Nat :=
  let v1079 : BitVec 32 := v1078
  let v1080 : Index := Scalar.indexCast v1079
  let c0_306 : Index := 0#32
  ![v1080.toNat, 0]

def k0_chk70 (v1078 : BitVec 32) : Prop :=
  (4 ∣ (k0_mult70 v1078).toNat) ∧
  (∀ a, (k0_off143 v1078) a + S8x128.size a ≤ S65544x128.size a)
theorem k0_mult70_dvd : ∀ (v1078 : BitVec 32) (k0_hw70 : k0_chk70 v1078), 4 ∣ (k0_mult70 v1078).toNat := fun v1078 k0_hw70 => k0_hw70.1
theorem k0_off143_inb : ∀ (v1078 : BitVec 32) (k0_hw70 : k0_chk70 v1078), ∀ a, (k0_off143 v1078) a + S8x128.size a ≤ S65544x128.size a := fun v1078 k0_hw70 => k0_hw70.2

def k0_off144 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_311 : BitVec 32 := 0#32
  ![arg8.toNat, 0]
def k0_mult71 (v1101 : BitVec 32) : BitVec 32 :=
  v1101

def k0_off145 (v1101 : BitVec 32) : Fin 2 → Nat :=
  let v1102 : BitVec 32 := v1101
  let v1103 : Index := Scalar.indexCast v1102
  let c0_312 : Index := 0#32
  ![v1103.toNat, 0]

def k0_chk71 (v1101 : BitVec 32) : Prop :=
  (4 ∣ (k0_mult71 v1101).toNat) ∧
  (∀ a, (k0_off145 v1101) a + S8x128.size a ≤ S65544x128.size a)
theorem k0_mult71_dvd : ∀ (v1101 : BitVec 32) (k0_hw71 : k0_chk71 v1101), 4 ∣ (k0_mult71 v1101).toNat := fun v1101 k0_hw71 => k0_hw71.1
theorem k0_off145_inb : ∀ (v1101 : BitVec 32) (k0_hw71 : k0_chk71 v1101), ∀ a, (k0_off145 v1101) a + S8x128.size a ≤ S65544x128.size a := fun v1101 k0_hw71 => k0_hw71.2

def k0_off146 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_313 : BitVec 32 := 0#32
  ![arg8.toNat, 0]
def k0_mult72 (v1108 : BitVec 32) : BitVec 32 :=
  v1108

def k0_off147 (v1108 : BitVec 32) : Fin 2 → Nat :=
  let v1109 : BitVec 32 := v1108
  let v1110 : Index := Scalar.indexCast v1109
  let c0_314 : Index := 0#32
  ![v1110.toNat, 0]

def k0_chk72 (v1108 : BitVec 32) : Prop :=
  (4 ∣ (k0_mult72 v1108).toNat) ∧
  (∀ a, (k0_off147 v1108) a + S8x128.size a ≤ S65544x128.size a)
theorem k0_mult72_dvd : ∀ (v1108 : BitVec 32) (k0_hw72 : k0_chk72 v1108), 4 ∣ (k0_mult72 v1108).toNat := fun v1108 k0_hw72 => k0_hw72.1
theorem k0_off147_inb : ∀ (v1108 : BitVec 32) (k0_hw72 : k0_chk72 v1108), ∀ a, (k0_off147 v1108) a + S8x128.size a ≤ S65544x128.size a := fun v1108 k0_hw72 => k0_hw72.2

def k0_off148 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_319 : BitVec 32 := 0#32
  ![arg8.toNat, 0]
def k0_mult73 (v1131 : BitVec 32) : BitVec 32 :=
  v1131

def k0_off149 (v1131 : BitVec 32) : Fin 2 → Nat :=
  let v1132 : BitVec 32 := v1131
  let v1133 : Index := Scalar.indexCast v1132
  let c0_321 : Index := 0#32
  ![v1133.toNat, 0]

def k0_chk73 (v1131 : BitVec 32) : Prop :=
  (4 ∣ (k0_mult73 v1131).toNat) ∧
  (∀ a, (k0_off149 v1131) a + S8x128.size a ≤ S65544x128.size a)
theorem k0_mult73_dvd : ∀ (v1131 : BitVec 32) (k0_hw73 : k0_chk73 v1131), 4 ∣ (k0_mult73 v1131).toNat := fun v1131 k0_hw73 => k0_hw73.1
theorem k0_off149_inb : ∀ (v1131 : BitVec 32) (k0_hw73 : k0_chk73 v1131), ∀ a, (k0_off149 v1131) a + S8x128.size a ≤ S65544x128.size a := fun v1131 k0_hw73 => k0_hw73.2

def k0_off150 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_322 : BitVec 32 := 0#32
  ![arg8.toNat, 0]
def k0_mult74 (v1138 : BitVec 32) : BitVec 32 :=
  v1138

def k0_off151 (v1138 : BitVec 32) : Fin 2 → Nat :=
  let v1139 : BitVec 32 := v1138
  let v1140 : Index := Scalar.indexCast v1139
  let c0_323 : Index := 0#32
  ![v1140.toNat, 0]

def k0_chk74 (v1138 : BitVec 32) : Prop :=
  (4 ∣ (k0_mult74 v1138).toNat) ∧
  (∀ a, (k0_off151 v1138) a + S8x128.size a ≤ S65544x128.size a)
theorem k0_mult74_dvd : ∀ (v1138 : BitVec 32) (k0_hw74 : k0_chk74 v1138), 4 ∣ (k0_mult74 v1138).toNat := fun v1138 k0_hw74 => k0_hw74.1
theorem k0_off151_inb : ∀ (v1138 : BitVec 32) (k0_hw74 : k0_chk74 v1138), ∀ a, (k0_off151 v1138) a + S8x128.size a ≤ S65544x128.size a := fun v1138 k0_hw74 => k0_hw74.2

def k0_off152 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_328 : BitVec 32 := 0#32
  ![arg8.toNat, 0]
def k0_mult75 (v1161 : BitVec 32) : BitVec 32 :=
  v1161

def k0_off153 (v1161 : BitVec 32) : Fin 2 → Nat :=
  let v1162 : BitVec 32 := v1161
  let v1163 : Index := Scalar.indexCast v1162
  let c0_329 : Index := 0#32
  ![v1163.toNat, 0]

def k0_chk75 (v1161 : BitVec 32) : Prop :=
  (4 ∣ (k0_mult75 v1161).toNat) ∧
  (∀ a, (k0_off153 v1161) a + S8x128.size a ≤ S65544x128.size a)
theorem k0_mult75_dvd : ∀ (v1161 : BitVec 32) (k0_hw75 : k0_chk75 v1161), 4 ∣ (k0_mult75 v1161).toNat := fun v1161 k0_hw75 => k0_hw75.1
theorem k0_off153_inb : ∀ (v1161 : BitVec 32) (k0_hw75 : k0_chk75 v1161), ∀ a, (k0_off153 v1161) a + S8x128.size a ≤ S65544x128.size a := fun v1161 k0_hw75 => k0_hw75.2

def k0_off154 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_330 : BitVec 32 := 0#32
  ![arg8.toNat, 0]
def k0_mult76 (v1168 : BitVec 32) : BitVec 32 :=
  v1168

def k0_off155 (v1168 : BitVec 32) : Fin 2 → Nat :=
  let v1169 : BitVec 32 := v1168
  let v1170 : Index := Scalar.indexCast v1169
  let c0_331 : Index := 0#32
  ![v1170.toNat, 0]

def k0_chk76 (v1168 : BitVec 32) : Prop :=
  (4 ∣ (k0_mult76 v1168).toNat) ∧
  (∀ a, (k0_off155 v1168) a + S8x128.size a ≤ S65544x128.size a)
theorem k0_mult76_dvd : ∀ (v1168 : BitVec 32) (k0_hw76 : k0_chk76 v1168), 4 ∣ (k0_mult76 v1168).toNat := fun v1168 k0_hw76 => k0_hw76.1
theorem k0_off155_inb : ∀ (v1168 : BitVec 32) (k0_hw76 : k0_chk76 v1168), ∀ a, (k0_off155 v1168) a + S8x128.size a ≤ S65544x128.size a := fun v1168 k0_hw76 => k0_hw76.2

def k0_off156 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_336 : BitVec 32 := 0#32
  ![arg8.toNat, 0]
def k0_mult77 (v1191 : BitVec 32) : BitVec 32 :=
  v1191

def k0_off157 (v1191 : BitVec 32) : Fin 2 → Nat :=
  let v1192 : BitVec 32 := v1191
  let v1193 : Index := Scalar.indexCast v1192
  let c0_337 : Index := 0#32
  ![v1193.toNat, 0]

def k0_chk77 (v1191 : BitVec 32) : Prop :=
  (4 ∣ (k0_mult77 v1191).toNat) ∧
  (∀ a, (k0_off157 v1191) a + S8x128.size a ≤ S65544x128.size a)
theorem k0_mult77_dvd : ∀ (v1191 : BitVec 32) (k0_hw77 : k0_chk77 v1191), 4 ∣ (k0_mult77 v1191).toNat := fun v1191 k0_hw77 => k0_hw77.1
theorem k0_off157_inb : ∀ (v1191 : BitVec 32) (k0_hw77 : k0_chk77 v1191), ∀ a, (k0_off157 v1191) a + S8x128.size a ≤ S65544x128.size a := fun v1191 k0_hw77 => k0_hw77.2

def k0_off158 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_338 : BitVec 32 := 0#32
  ![arg8.toNat, 0]
def k0_mult78 (v1198 : BitVec 32) : BitVec 32 :=
  v1198

def k0_off159 (v1198 : BitVec 32) : Fin 2 → Nat :=
  let v1199 : BitVec 32 := v1198
  let v1200 : Index := Scalar.indexCast v1199
  let c0_339 : Index := 0#32
  ![v1200.toNat, 0]

def k0_chk78 (v1198 : BitVec 32) : Prop :=
  (4 ∣ (k0_mult78 v1198).toNat) ∧
  (∀ a, (k0_off159 v1198) a + S8x128.size a ≤ S65544x128.size a)
theorem k0_mult78_dvd : ∀ (v1198 : BitVec 32) (k0_hw78 : k0_chk78 v1198), 4 ∣ (k0_mult78 v1198).toNat := fun v1198 k0_hw78 => k0_hw78.1
theorem k0_off159_inb : ∀ (v1198 : BitVec 32) (k0_hw78 : k0_chk78 v1198), ∀ a, (k0_off159 v1198) a + S8x128.size a ≤ S65544x128.size a := fun v1198 k0_hw78 => k0_hw78.2

def k0_off160 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_344 : BitVec 32 := 0#32
  ![arg8.toNat, 0]
def k0_mult79 (v1221 : BitVec 32) : BitVec 32 :=
  v1221

def k0_off161 (v1221 : BitVec 32) : Fin 2 → Nat :=
  let v1222 : BitVec 32 := v1221
  let v1223 : Index := Scalar.indexCast v1222
  let c0_345 : Index := 0#32
  ![v1223.toNat, 0]

def k0_chk79 (v1221 : BitVec 32) : Prop :=
  (4 ∣ (k0_mult79 v1221).toNat) ∧
  (∀ a, (k0_off161 v1221) a + S8x128.size a ≤ S65544x128.size a)
theorem k0_mult79_dvd : ∀ (v1221 : BitVec 32) (k0_hw79 : k0_chk79 v1221), 4 ∣ (k0_mult79 v1221).toNat := fun v1221 k0_hw79 => k0_hw79.1
theorem k0_off161_inb : ∀ (v1221 : BitVec 32) (k0_hw79 : k0_chk79 v1221), ∀ a, (k0_off161 v1221) a + S8x128.size a ≤ S65544x128.size a := fun v1221 k0_hw79 => k0_hw79.2

def k0_off162 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_346 : BitVec 32 := 0#32
  ![arg8.toNat, 0]
def k0_mult80 (v1228 : BitVec 32) : BitVec 32 :=
  v1228

def k0_off163 (v1228 : BitVec 32) : Fin 2 → Nat :=
  let v1229 : BitVec 32 := v1228
  let v1230 : Index := Scalar.indexCast v1229
  let c0_347 : Index := 0#32
  ![v1230.toNat, 0]

def k0_chk80 (v1228 : BitVec 32) : Prop :=
  (4 ∣ (k0_mult80 v1228).toNat) ∧
  (∀ a, (k0_off163 v1228) a + S8x128.size a ≤ S65544x128.size a)
theorem k0_mult80_dvd : ∀ (v1228 : BitVec 32) (k0_hw80 : k0_chk80 v1228), 4 ∣ (k0_mult80 v1228).toNat := fun v1228 k0_hw80 => k0_hw80.1
theorem k0_off163_inb : ∀ (v1228 : BitVec 32) (k0_hw80 : k0_chk80 v1228), ∀ a, (k0_off163 v1228) a + S8x128.size a ≤ S65544x128.size a := fun v1228 k0_hw80 => k0_hw80.2

def k0_off164 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_352 : BitVec 32 := 0#32
  ![arg8.toNat, 0]
def k0_mult81 (v1251 : BitVec 32) : BitVec 32 :=
  v1251

def k0_off165 (v1251 : BitVec 32) : Fin 2 → Nat :=
  let v1252 : BitVec 32 := v1251
  let v1253 : Index := Scalar.indexCast v1252
  let c0_354 : Index := 0#32
  ![v1253.toNat, 0]

def k0_chk81 (v1251 : BitVec 32) : Prop :=
  (4 ∣ (k0_mult81 v1251).toNat) ∧
  (∀ a, (k0_off165 v1251) a + S8x128.size a ≤ S65544x128.size a)
theorem k0_mult81_dvd : ∀ (v1251 : BitVec 32) (k0_hw81 : k0_chk81 v1251), 4 ∣ (k0_mult81 v1251).toNat := fun v1251 k0_hw81 => k0_hw81.1
theorem k0_off165_inb : ∀ (v1251 : BitVec 32) (k0_hw81 : k0_chk81 v1251), ∀ a, (k0_off165 v1251) a + S8x128.size a ≤ S65544x128.size a := fun v1251 k0_hw81 => k0_hw81.2

def k0_off166 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_355 : BitVec 32 := 0#32
  ![arg8.toNat, 0]
def k0_mult82 (v1258 : BitVec 32) : BitVec 32 :=
  v1258

def k0_off167 (v1258 : BitVec 32) : Fin 2 → Nat :=
  let v1259 : BitVec 32 := v1258
  let v1260 : Index := Scalar.indexCast v1259
  let c0_356 : Index := 0#32
  ![v1260.toNat, 0]

def k0_chk82 (v1258 : BitVec 32) : Prop :=
  (4 ∣ (k0_mult82 v1258).toNat) ∧
  (∀ a, (k0_off167 v1258) a + S8x128.size a ≤ S65544x128.size a)
theorem k0_mult82_dvd : ∀ (v1258 : BitVec 32) (k0_hw82 : k0_chk82 v1258), 4 ∣ (k0_mult82 v1258).toNat := fun v1258 k0_hw82 => k0_hw82.1
theorem k0_off167_inb : ∀ (v1258 : BitVec 32) (k0_hw82 : k0_chk82 v1258), ∀ a, (k0_off167 v1258) a + S8x128.size a ≤ S65544x128.size a := fun v1258 k0_hw82 => k0_hw82.2

def k0_off168 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_361 : BitVec 32 := 0#32
  ![arg8.toNat, 0]
def k0_mult83 (v1281 : BitVec 32) : BitVec 32 :=
  v1281

def k0_off169 (v1281 : BitVec 32) : Fin 2 → Nat :=
  let v1282 : BitVec 32 := v1281
  let v1283 : Index := Scalar.indexCast v1282
  let c0_362 : Index := 0#32
  ![v1283.toNat, 0]

def k0_chk83 (v1281 : BitVec 32) : Prop :=
  (4 ∣ (k0_mult83 v1281).toNat) ∧
  (∀ a, (k0_off169 v1281) a + S8x128.size a ≤ S65544x128.size a)
theorem k0_mult83_dvd : ∀ (v1281 : BitVec 32) (k0_hw83 : k0_chk83 v1281), 4 ∣ (k0_mult83 v1281).toNat := fun v1281 k0_hw83 => k0_hw83.1
theorem k0_off169_inb : ∀ (v1281 : BitVec 32) (k0_hw83 : k0_chk83 v1281), ∀ a, (k0_off169 v1281) a + S8x128.size a ≤ S65544x128.size a := fun v1281 k0_hw83 => k0_hw83.2

def k0_off170 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_363 : BitVec 32 := 0#32
  ![arg8.toNat, 0]
def k0_mult84 (v1288 : BitVec 32) : BitVec 32 :=
  v1288

def k0_off171 (v1288 : BitVec 32) : Fin 2 → Nat :=
  let v1289 : BitVec 32 := v1288
  let v1290 : Index := Scalar.indexCast v1289
  let c0_364 : Index := 0#32
  ![v1290.toNat, 0]

def k0_chk84 (v1288 : BitVec 32) : Prop :=
  (4 ∣ (k0_mult84 v1288).toNat) ∧
  (∀ a, (k0_off171 v1288) a + S8x128.size a ≤ S65544x128.size a)
theorem k0_mult84_dvd : ∀ (v1288 : BitVec 32) (k0_hw84 : k0_chk84 v1288), 4 ∣ (k0_mult84 v1288).toNat := fun v1288 k0_hw84 => k0_hw84.1
theorem k0_off171_inb : ∀ (v1288 : BitVec 32) (k0_hw84 : k0_chk84 v1288), ∀ a, (k0_off171 v1288) a + S8x128.size a ≤ S65544x128.size a := fun v1288 k0_hw84 => k0_hw84.2

def k0_off172 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_369 : BitVec 32 := 0#32
  ![arg8.toNat, 0]
def k0_mult85 (v1311 : BitVec 32) : BitVec 32 :=
  v1311

def k0_off173 (v1311 : BitVec 32) : Fin 2 → Nat :=
  let v1312 : BitVec 32 := v1311
  let v1313 : Index := Scalar.indexCast v1312
  let c0_370 : Index := 0#32
  ![v1313.toNat, 0]

def k0_chk85 (v1311 : BitVec 32) : Prop :=
  (4 ∣ (k0_mult85 v1311).toNat) ∧
  (∀ a, (k0_off173 v1311) a + S8x128.size a ≤ S65544x128.size a)
theorem k0_mult85_dvd : ∀ (v1311 : BitVec 32) (k0_hw85 : k0_chk85 v1311), 4 ∣ (k0_mult85 v1311).toNat := fun v1311 k0_hw85 => k0_hw85.1
theorem k0_off173_inb : ∀ (v1311 : BitVec 32) (k0_hw85 : k0_chk85 v1311), ∀ a, (k0_off173 v1311) a + S8x128.size a ≤ S65544x128.size a := fun v1311 k0_hw85 => k0_hw85.2

def k0_off174 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_371 : BitVec 32 := 0#32
  ![arg8.toNat, 0]
def k0_mult86 (v1318 : BitVec 32) : BitVec 32 :=
  v1318

def k0_off175 (v1318 : BitVec 32) : Fin 2 → Nat :=
  let v1319 : BitVec 32 := v1318
  let v1320 : Index := Scalar.indexCast v1319
  let c0_372 : Index := 0#32
  ![v1320.toNat, 0]

def k0_chk86 (v1318 : BitVec 32) : Prop :=
  (4 ∣ (k0_mult86 v1318).toNat) ∧
  (∀ a, (k0_off175 v1318) a + S8x128.size a ≤ S65544x128.size a)
theorem k0_mult86_dvd : ∀ (v1318 : BitVec 32) (k0_hw86 : k0_chk86 v1318), 4 ∣ (k0_mult86 v1318).toNat := fun v1318 k0_hw86 => k0_hw86.1
theorem k0_off175_inb : ∀ (v1318 : BitVec 32) (k0_hw86 : k0_chk86 v1318), ∀ a, (k0_off175 v1318) a + S8x128.size a ≤ S65544x128.size a := fun v1318 k0_hw86 => k0_hw86.2

def k0_off176 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_377 : BitVec 32 := 0#32
  ![arg8.toNat, 0]
def k0_mult87 (v1341 : BitVec 32) : BitVec 32 :=
  v1341

def k0_off177 (v1341 : BitVec 32) : Fin 2 → Nat :=
  let v1342 : BitVec 32 := v1341
  let v1343 : Index := Scalar.indexCast v1342
  let c0_378 : Index := 0#32
  ![v1343.toNat, 0]

def k0_chk87 (v1341 : BitVec 32) : Prop :=
  (4 ∣ (k0_mult87 v1341).toNat) ∧
  (∀ a, (k0_off177 v1341) a + S8x128.size a ≤ S65544x128.size a)
theorem k0_mult87_dvd : ∀ (v1341 : BitVec 32) (k0_hw87 : k0_chk87 v1341), 4 ∣ (k0_mult87 v1341).toNat := fun v1341 k0_hw87 => k0_hw87.1
theorem k0_off177_inb : ∀ (v1341 : BitVec 32) (k0_hw87 : k0_chk87 v1341), ∀ a, (k0_off177 v1341) a + S8x128.size a ≤ S65544x128.size a := fun v1341 k0_hw87 => k0_hw87.2

def k0_off178 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_379 : BitVec 32 := 0#32
  ![arg8.toNat, 0]
def k0_mult88 (v1348 : BitVec 32) : BitVec 32 :=
  v1348

def k0_off179 (v1348 : BitVec 32) : Fin 2 → Nat :=
  let v1349 : BitVec 32 := v1348
  let v1350 : Index := Scalar.indexCast v1349
  let c0_380 : Index := 0#32
  ![v1350.toNat, 0]

def k0_chk88 (v1348 : BitVec 32) : Prop :=
  (4 ∣ (k0_mult88 v1348).toNat) ∧
  (∀ a, (k0_off179 v1348) a + S8x128.size a ≤ S65544x128.size a)
theorem k0_mult88_dvd : ∀ (v1348 : BitVec 32) (k0_hw88 : k0_chk88 v1348), 4 ∣ (k0_mult88 v1348).toNat := fun v1348 k0_hw88 => k0_hw88.1
theorem k0_off179_inb : ∀ (v1348 : BitVec 32) (k0_hw88 : k0_chk88 v1348), ∀ a, (k0_off179 v1348) a + S8x128.size a ≤ S65544x128.size a := fun v1348 k0_hw88 => k0_hw88.2

def k0_off180 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_385 : BitVec 32 := 0#32
  ![arg8.toNat, 0]
def k0_mult89 (v1371 : BitVec 32) : BitVec 32 :=
  v1371

def k0_off181 (v1371 : BitVec 32) : Fin 2 → Nat :=
  let v1372 : BitVec 32 := v1371
  let v1373 : Index := Scalar.indexCast v1372
  let c0_387 : Index := 0#32
  ![v1373.toNat, 0]

def k0_chk89 (v1371 : BitVec 32) : Prop :=
  (4 ∣ (k0_mult89 v1371).toNat) ∧
  (∀ a, (k0_off181 v1371) a + S8x128.size a ≤ S65544x128.size a)
theorem k0_mult89_dvd : ∀ (v1371 : BitVec 32) (k0_hw89 : k0_chk89 v1371), 4 ∣ (k0_mult89 v1371).toNat := fun v1371 k0_hw89 => k0_hw89.1
theorem k0_off181_inb : ∀ (v1371 : BitVec 32) (k0_hw89 : k0_chk89 v1371), ∀ a, (k0_off181 v1371) a + S8x128.size a ≤ S65544x128.size a := fun v1371 k0_hw89 => k0_hw89.2

def k0_off182 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_388 : BitVec 32 := 0#32
  ![arg8.toNat, 0]
def k0_mult90 (v1378 : BitVec 32) : BitVec 32 :=
  v1378

def k0_off183 (v1378 : BitVec 32) : Fin 2 → Nat :=
  let v1379 : BitVec 32 := v1378
  let v1380 : Index := Scalar.indexCast v1379
  let c0_389 : Index := 0#32
  ![v1380.toNat, 0]

def k0_chk90 (v1378 : BitVec 32) : Prop :=
  (4 ∣ (k0_mult90 v1378).toNat) ∧
  (∀ a, (k0_off183 v1378) a + S8x128.size a ≤ S65544x128.size a)
theorem k0_mult90_dvd : ∀ (v1378 : BitVec 32) (k0_hw90 : k0_chk90 v1378), 4 ∣ (k0_mult90 v1378).toNat := fun v1378 k0_hw90 => k0_hw90.1
theorem k0_off183_inb : ∀ (v1378 : BitVec 32) (k0_hw90 : k0_chk90 v1378), ∀ a, (k0_off183 v1378) a + S8x128.size a ≤ S65544x128.size a := fun v1378 k0_hw90 => k0_hw90.2

def k0_off184 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_394 : BitVec 32 := 0#32
  ![arg8.toNat, 0]
def k0_mult91 (v1401 : BitVec 32) : BitVec 32 :=
  v1401

def k0_off185 (v1401 : BitVec 32) : Fin 2 → Nat :=
  let v1402 : BitVec 32 := v1401
  let v1403 : Index := Scalar.indexCast v1402
  let c0_395 : Index := 0#32
  ![v1403.toNat, 0]

def k0_chk91 (v1401 : BitVec 32) : Prop :=
  (4 ∣ (k0_mult91 v1401).toNat) ∧
  (∀ a, (k0_off185 v1401) a + S8x128.size a ≤ S65544x128.size a)
theorem k0_mult91_dvd : ∀ (v1401 : BitVec 32) (k0_hw91 : k0_chk91 v1401), 4 ∣ (k0_mult91 v1401).toNat := fun v1401 k0_hw91 => k0_hw91.1
theorem k0_off185_inb : ∀ (v1401 : BitVec 32) (k0_hw91 : k0_chk91 v1401), ∀ a, (k0_off185 v1401) a + S8x128.size a ≤ S65544x128.size a := fun v1401 k0_hw91 => k0_hw91.2

def k0_off186 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_396 : BitVec 32 := 0#32
  ![arg8.toNat, 0]
def k0_mult92 (v1408 : BitVec 32) : BitVec 32 :=
  v1408

def k0_off187 (v1408 : BitVec 32) : Fin 2 → Nat :=
  let v1409 : BitVec 32 := v1408
  let v1410 : Index := Scalar.indexCast v1409
  let c0_397 : Index := 0#32
  ![v1410.toNat, 0]

def k0_chk92 (v1408 : BitVec 32) : Prop :=
  (4 ∣ (k0_mult92 v1408).toNat) ∧
  (∀ a, (k0_off187 v1408) a + S8x128.size a ≤ S65544x128.size a)
theorem k0_mult92_dvd : ∀ (v1408 : BitVec 32) (k0_hw92 : k0_chk92 v1408), 4 ∣ (k0_mult92 v1408).toNat := fun v1408 k0_hw92 => k0_hw92.1
theorem k0_off187_inb : ∀ (v1408 : BitVec 32) (k0_hw92 : k0_chk92 v1408), ∀ a, (k0_off187 v1408) a + S8x128.size a ≤ S65544x128.size a := fun v1408 k0_hw92 => k0_hw92.2

def k0_off188 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_402 : BitVec 32 := 0#32
  ![arg8.toNat, 0]
def k0_mult93 (v1431 : BitVec 32) : BitVec 32 :=
  v1431

def k0_off189 (v1431 : BitVec 32) : Fin 2 → Nat :=
  let v1432 : BitVec 32 := v1431
  let v1433 : Index := Scalar.indexCast v1432
  let c0_403 : Index := 0#32
  ![v1433.toNat, 0]

def k0_chk93 (v1431 : BitVec 32) : Prop :=
  (4 ∣ (k0_mult93 v1431).toNat) ∧
  (∀ a, (k0_off189 v1431) a + S8x128.size a ≤ S65544x128.size a)
theorem k0_mult93_dvd : ∀ (v1431 : BitVec 32) (k0_hw93 : k0_chk93 v1431), 4 ∣ (k0_mult93 v1431).toNat := fun v1431 k0_hw93 => k0_hw93.1
theorem k0_off189_inb : ∀ (v1431 : BitVec 32) (k0_hw93 : k0_chk93 v1431), ∀ a, (k0_off189 v1431) a + S8x128.size a ≤ S65544x128.size a := fun v1431 k0_hw93 => k0_hw93.2

def k0_off190 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_404 : BitVec 32 := 0#32
  ![arg8.toNat, 0]
def k0_mult94 (v1438 : BitVec 32) : BitVec 32 :=
  v1438

def k0_off191 (v1438 : BitVec 32) : Fin 2 → Nat :=
  let v1439 : BitVec 32 := v1438
  let v1440 : Index := Scalar.indexCast v1439
  let c0_405 : Index := 0#32
  ![v1440.toNat, 0]

def k0_chk94 (v1438 : BitVec 32) : Prop :=
  (4 ∣ (k0_mult94 v1438).toNat) ∧
  (∀ a, (k0_off191 v1438) a + S8x128.size a ≤ S65544x128.size a)
theorem k0_mult94_dvd : ∀ (v1438 : BitVec 32) (k0_hw94 : k0_chk94 v1438), 4 ∣ (k0_mult94 v1438).toNat := fun v1438 k0_hw94 => k0_hw94.1
theorem k0_off191_inb : ∀ (v1438 : BitVec 32) (k0_hw94 : k0_chk94 v1438), ∀ a, (k0_off191 v1438) a + S8x128.size a ≤ S65544x128.size a := fun v1438 k0_hw94 => k0_hw94.2

def k0_off192 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_410 : BitVec 32 := 0#32
  ![arg8.toNat, 0]
def k0_mult95 (v1461 : BitVec 32) : BitVec 32 :=
  v1461

def k0_off193 (v1461 : BitVec 32) : Fin 2 → Nat :=
  let v1462 : BitVec 32 := v1461
  let v1463 : Index := Scalar.indexCast v1462
  let c0_411 : Index := 0#32
  ![v1463.toNat, 0]

def k0_chk95 (v1461 : BitVec 32) : Prop :=
  (4 ∣ (k0_mult95 v1461).toNat) ∧
  (∀ a, (k0_off193 v1461) a + S8x128.size a ≤ S65544x128.size a)
theorem k0_mult95_dvd : ∀ (v1461 : BitVec 32) (k0_hw95 : k0_chk95 v1461), 4 ∣ (k0_mult95 v1461).toNat := fun v1461 k0_hw95 => k0_hw95.1
theorem k0_off193_inb : ∀ (v1461 : BitVec 32) (k0_hw95 : k0_chk95 v1461), ∀ a, (k0_off193 v1461) a + S8x128.size a ≤ S65544x128.size a := fun v1461 k0_hw95 => k0_hw95.2

def k0_off194 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_412 : BitVec 32 := 0#32
  ![arg8.toNat, 0]
def k0_mult96 (v1468 : BitVec 32) : BitVec 32 :=
  v1468

def k0_off195 (v1468 : BitVec 32) : Fin 2 → Nat :=
  let v1469 : BitVec 32 := v1468
  let v1470 : Index := Scalar.indexCast v1469
  let c0_413 : Index := 0#32
  ![v1470.toNat, 0]

def k0_chk96 (v1468 : BitVec 32) : Prop :=
  (4 ∣ (k0_mult96 v1468).toNat) ∧
  (∀ a, (k0_off195 v1468) a + S8x128.size a ≤ S65544x128.size a)
theorem k0_mult96_dvd : ∀ (v1468 : BitVec 32) (k0_hw96 : k0_chk96 v1468), 4 ∣ (k0_mult96 v1468).toNat := fun v1468 k0_hw96 => k0_hw96.1
theorem k0_off195_inb : ∀ (v1468 : BitVec 32) (k0_hw96 : k0_chk96 v1468), ∀ a, (k0_off195 v1468) a + S8x128.size a ≤ S65544x128.size a := fun v1468 k0_hw96 => k0_hw96.2

def k0_off196 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_418 : BitVec 32 := 0#32
  ![arg8.toNat, 0]
def k0_mult97 (v1491 : BitVec 32) : BitVec 32 :=
  v1491

def k0_off197 (v1491 : BitVec 32) : Fin 2 → Nat :=
  let v1492 : BitVec 32 := v1491
  let v1493 : Index := Scalar.indexCast v1492
  let c0_420 : Index := 0#32
  ![v1493.toNat, 0]

def k0_chk97 (v1491 : BitVec 32) : Prop :=
  (4 ∣ (k0_mult97 v1491).toNat) ∧
  (∀ a, (k0_off197 v1491) a + S8x128.size a ≤ S65544x128.size a)
theorem k0_mult97_dvd : ∀ (v1491 : BitVec 32) (k0_hw97 : k0_chk97 v1491), 4 ∣ (k0_mult97 v1491).toNat := fun v1491 k0_hw97 => k0_hw97.1
theorem k0_off197_inb : ∀ (v1491 : BitVec 32) (k0_hw97 : k0_chk97 v1491), ∀ a, (k0_off197 v1491) a + S8x128.size a ≤ S65544x128.size a := fun v1491 k0_hw97 => k0_hw97.2

def k0_off198 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_421 : BitVec 32 := 0#32
  ![arg8.toNat, 0]
def k0_mult98 (v1498 : BitVec 32) : BitVec 32 :=
  v1498

def k0_off199 (v1498 : BitVec 32) : Fin 2 → Nat :=
  let v1499 : BitVec 32 := v1498
  let v1500 : Index := Scalar.indexCast v1499
  let c0_422 : Index := 0#32
  ![v1500.toNat, 0]

def k0_chk98 (v1498 : BitVec 32) : Prop :=
  (4 ∣ (k0_mult98 v1498).toNat) ∧
  (∀ a, (k0_off199 v1498) a + S8x128.size a ≤ S65544x128.size a)
theorem k0_mult98_dvd : ∀ (v1498 : BitVec 32) (k0_hw98 : k0_chk98 v1498), 4 ∣ (k0_mult98 v1498).toNat := fun v1498 k0_hw98 => k0_hw98.1
theorem k0_off199_inb : ∀ (v1498 : BitVec 32) (k0_hw98 : k0_chk98 v1498), ∀ a, (k0_off199 v1498) a + S8x128.size a ≤ S65544x128.size a := fun v1498 k0_hw98 => k0_hw98.2

def k0_off200 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_427 : BitVec 32 := 0#32
  ![arg8.toNat, 0]
def k0_mult99 (v1521 : BitVec 32) : BitVec 32 :=
  v1521

def k0_off201 (v1521 : BitVec 32) : Fin 2 → Nat :=
  let v1522 : BitVec 32 := v1521
  let v1523 : Index := Scalar.indexCast v1522
  let c0_428 : Index := 0#32
  ![v1523.toNat, 0]

def k0_chk99 (v1521 : BitVec 32) : Prop :=
  (4 ∣ (k0_mult99 v1521).toNat) ∧
  (∀ a, (k0_off201 v1521) a + S8x128.size a ≤ S65544x128.size a)
theorem k0_mult99_dvd : ∀ (v1521 : BitVec 32) (k0_hw99 : k0_chk99 v1521), 4 ∣ (k0_mult99 v1521).toNat := fun v1521 k0_hw99 => k0_hw99.1
theorem k0_off201_inb : ∀ (v1521 : BitVec 32) (k0_hw99 : k0_chk99 v1521), ∀ a, (k0_off201 v1521) a + S8x128.size a ≤ S65544x128.size a := fun v1521 k0_hw99 => k0_hw99.2

def k0_off202 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_429 : BitVec 32 := 0#32
  ![arg8.toNat, 0]
def k0_mult100 (v1528 : BitVec 32) : BitVec 32 :=
  v1528

def k0_off203 (v1528 : BitVec 32) : Fin 2 → Nat :=
  let v1529 : BitVec 32 := v1528
  let v1530 : Index := Scalar.indexCast v1529
  let c0_430 : Index := 0#32
  ![v1530.toNat, 0]

def k0_chk100 (v1528 : BitVec 32) : Prop :=
  (4 ∣ (k0_mult100 v1528).toNat) ∧
  (∀ a, (k0_off203 v1528) a + S8x128.size a ≤ S65544x128.size a)
theorem k0_mult100_dvd : ∀ (v1528 : BitVec 32) (k0_hw100 : k0_chk100 v1528), 4 ∣ (k0_mult100 v1528).toNat := fun v1528 k0_hw100 => k0_hw100.1
theorem k0_off203_inb : ∀ (v1528 : BitVec 32) (k0_hw100 : k0_chk100 v1528), ∀ a, (k0_off203 v1528) a + S8x128.size a ≤ S65544x128.size a := fun v1528 k0_hw100 => k0_hw100.2

def k0_off204 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_435 : BitVec 32 := 0#32
  ![arg8.toNat, 0]
def k0_mult101 (v1551 : BitVec 32) : BitVec 32 :=
  v1551

def k0_off205 (v1551 : BitVec 32) : Fin 2 → Nat :=
  let v1552 : BitVec 32 := v1551
  let v1553 : Index := Scalar.indexCast v1552
  let c0_436 : Index := 0#32
  ![v1553.toNat, 0]

def k0_chk101 (v1551 : BitVec 32) : Prop :=
  (4 ∣ (k0_mult101 v1551).toNat) ∧
  (∀ a, (k0_off205 v1551) a + S8x128.size a ≤ S65544x128.size a)
theorem k0_mult101_dvd : ∀ (v1551 : BitVec 32) (k0_hw101 : k0_chk101 v1551), 4 ∣ (k0_mult101 v1551).toNat := fun v1551 k0_hw101 => k0_hw101.1
theorem k0_off205_inb : ∀ (v1551 : BitVec 32) (k0_hw101 : k0_chk101 v1551), ∀ a, (k0_off205 v1551) a + S8x128.size a ≤ S65544x128.size a := fun v1551 k0_hw101 => k0_hw101.2

def k0_off206 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_437 : BitVec 32 := 0#32
  ![arg8.toNat, 0]
def k0_mult102 (v1558 : BitVec 32) : BitVec 32 :=
  v1558

def k0_off207 (v1558 : BitVec 32) : Fin 2 → Nat :=
  let v1559 : BitVec 32 := v1558
  let v1560 : Index := Scalar.indexCast v1559
  let c0_438 : Index := 0#32
  ![v1560.toNat, 0]

def k0_chk102 (v1558 : BitVec 32) : Prop :=
  (4 ∣ (k0_mult102 v1558).toNat) ∧
  (∀ a, (k0_off207 v1558) a + S8x128.size a ≤ S65544x128.size a)
theorem k0_mult102_dvd : ∀ (v1558 : BitVec 32) (k0_hw102 : k0_chk102 v1558), 4 ∣ (k0_mult102 v1558).toNat := fun v1558 k0_hw102 => k0_hw102.1
theorem k0_off207_inb : ∀ (v1558 : BitVec 32) (k0_hw102 : k0_chk102 v1558), ∀ a, (k0_off207 v1558) a + S8x128.size a ≤ S65544x128.size a := fun v1558 k0_hw102 => k0_hw102.2

def k0_off208 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_443 : BitVec 32 := 0#32
  ![arg8.toNat, 0]
def k0_mult103 (v1581 : BitVec 32) : BitVec 32 :=
  v1581

def k0_off209 (v1581 : BitVec 32) : Fin 2 → Nat :=
  let v1582 : BitVec 32 := v1581
  let v1583 : Index := Scalar.indexCast v1582
  let c0_444 : Index := 0#32
  ![v1583.toNat, 0]

def k0_chk103 (v1581 : BitVec 32) : Prop :=
  (4 ∣ (k0_mult103 v1581).toNat) ∧
  (∀ a, (k0_off209 v1581) a + S8x128.size a ≤ S65544x128.size a)
theorem k0_mult103_dvd : ∀ (v1581 : BitVec 32) (k0_hw103 : k0_chk103 v1581), 4 ∣ (k0_mult103 v1581).toNat := fun v1581 k0_hw103 => k0_hw103.1
theorem k0_off209_inb : ∀ (v1581 : BitVec 32) (k0_hw103 : k0_chk103 v1581), ∀ a, (k0_off209 v1581) a + S8x128.size a ≤ S65544x128.size a := fun v1581 k0_hw103 => k0_hw103.2

def k0_off210 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_445 : BitVec 32 := 0#32
  ![arg8.toNat, 0]
def k0_mult104 (v1588 : BitVec 32) : BitVec 32 :=
  v1588

def k0_off211 (v1588 : BitVec 32) : Fin 2 → Nat :=
  let v1589 : BitVec 32 := v1588
  let v1590 : Index := Scalar.indexCast v1589
  let c0_446 : Index := 0#32
  ![v1590.toNat, 0]

def k0_chk104 (v1588 : BitVec 32) : Prop :=
  (4 ∣ (k0_mult104 v1588).toNat) ∧
  (∀ a, (k0_off211 v1588) a + S8x128.size a ≤ S65544x128.size a)
theorem k0_mult104_dvd : ∀ (v1588 : BitVec 32) (k0_hw104 : k0_chk104 v1588), 4 ∣ (k0_mult104 v1588).toNat := fun v1588 k0_hw104 => k0_hw104.1
theorem k0_off211_inb : ∀ (v1588 : BitVec 32) (k0_hw104 : k0_chk104 v1588), ∀ a, (k0_off211 v1588) a + S8x128.size a ≤ S65544x128.size a := fun v1588 k0_hw104 => k0_hw104.2

def k0_off212 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_451 : BitVec 32 := 0#32
  ![arg8.toNat, 0]
def k0_mult105 (v1611 : BitVec 32) : BitVec 32 :=
  v1611

def k0_off213 (v1611 : BitVec 32) : Fin 2 → Nat :=
  let v1612 : BitVec 32 := v1611
  let v1613 : Index := Scalar.indexCast v1612
  let c0_453 : Index := 0#32
  ![v1613.toNat, 0]

def k0_chk105 (v1611 : BitVec 32) : Prop :=
  (4 ∣ (k0_mult105 v1611).toNat) ∧
  (∀ a, (k0_off213 v1611) a + S8x128.size a ≤ S65544x128.size a)
theorem k0_mult105_dvd : ∀ (v1611 : BitVec 32) (k0_hw105 : k0_chk105 v1611), 4 ∣ (k0_mult105 v1611).toNat := fun v1611 k0_hw105 => k0_hw105.1
theorem k0_off213_inb : ∀ (v1611 : BitVec 32) (k0_hw105 : k0_chk105 v1611), ∀ a, (k0_off213 v1611) a + S8x128.size a ≤ S65544x128.size a := fun v1611 k0_hw105 => k0_hw105.2

def k0_off214 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_454 : BitVec 32 := 0#32
  ![arg8.toNat, 0]
def k0_mult106 (v1618 : BitVec 32) : BitVec 32 :=
  v1618

def k0_off215 (v1618 : BitVec 32) : Fin 2 → Nat :=
  let v1619 : BitVec 32 := v1618
  let v1620 : Index := Scalar.indexCast v1619
  let c0_455 : Index := 0#32
  ![v1620.toNat, 0]

def k0_chk106 (v1618 : BitVec 32) : Prop :=
  (4 ∣ (k0_mult106 v1618).toNat) ∧
  (∀ a, (k0_off215 v1618) a + S8x128.size a ≤ S65544x128.size a)
theorem k0_mult106_dvd : ∀ (v1618 : BitVec 32) (k0_hw106 : k0_chk106 v1618), 4 ∣ (k0_mult106 v1618).toNat := fun v1618 k0_hw106 => k0_hw106.1
theorem k0_off215_inb : ∀ (v1618 : BitVec 32) (k0_hw106 : k0_chk106 v1618), ∀ a, (k0_off215 v1618) a + S8x128.size a ≤ S65544x128.size a := fun v1618 k0_hw106 => k0_hw106.2

def k0_off216 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_460 : BitVec 32 := 0#32
  ![arg8.toNat, 0]
def k0_mult107 (v1641 : BitVec 32) : BitVec 32 :=
  v1641

def k0_off217 (v1641 : BitVec 32) : Fin 2 → Nat :=
  let v1642 : BitVec 32 := v1641
  let v1643 : Index := Scalar.indexCast v1642
  let c0_461 : Index := 0#32
  ![v1643.toNat, 0]

def k0_chk107 (v1641 : BitVec 32) : Prop :=
  (4 ∣ (k0_mult107 v1641).toNat) ∧
  (∀ a, (k0_off217 v1641) a + S8x128.size a ≤ S65544x128.size a)
theorem k0_mult107_dvd : ∀ (v1641 : BitVec 32) (k0_hw107 : k0_chk107 v1641), 4 ∣ (k0_mult107 v1641).toNat := fun v1641 k0_hw107 => k0_hw107.1
theorem k0_off217_inb : ∀ (v1641 : BitVec 32) (k0_hw107 : k0_chk107 v1641), ∀ a, (k0_off217 v1641) a + S8x128.size a ≤ S65544x128.size a := fun v1641 k0_hw107 => k0_hw107.2

def k0_off218 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_462 : BitVec 32 := 0#32
  ![arg8.toNat, 0]
def k0_mult108 (v1648 : BitVec 32) : BitVec 32 :=
  v1648

def k0_off219 (v1648 : BitVec 32) : Fin 2 → Nat :=
  let v1649 : BitVec 32 := v1648
  let v1650 : Index := Scalar.indexCast v1649
  let c0_463 : Index := 0#32
  ![v1650.toNat, 0]

def k0_chk108 (v1648 : BitVec 32) : Prop :=
  (4 ∣ (k0_mult108 v1648).toNat) ∧
  (∀ a, (k0_off219 v1648) a + S8x128.size a ≤ S65544x128.size a)
theorem k0_mult108_dvd : ∀ (v1648 : BitVec 32) (k0_hw108 : k0_chk108 v1648), 4 ∣ (k0_mult108 v1648).toNat := fun v1648 k0_hw108 => k0_hw108.1
theorem k0_off219_inb : ∀ (v1648 : BitVec 32) (k0_hw108 : k0_chk108 v1648), ∀ a, (k0_off219 v1648) a + S8x128.size a ≤ S65544x128.size a := fun v1648 k0_hw108 => k0_hw108.2

def k0_off220 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_468 : BitVec 32 := 0#32
  ![arg8.toNat, 0]
def k0_mult109 (v1671 : BitVec 32) : BitVec 32 :=
  v1671

def k0_off221 (v1671 : BitVec 32) : Fin 2 → Nat :=
  let v1672 : BitVec 32 := v1671
  let v1673 : Index := Scalar.indexCast v1672
  let c0_469 : Index := 0#32
  ![v1673.toNat, 0]

def k0_chk109 (v1671 : BitVec 32) : Prop :=
  (4 ∣ (k0_mult109 v1671).toNat) ∧
  (∀ a, (k0_off221 v1671) a + S8x128.size a ≤ S65544x128.size a)
theorem k0_mult109_dvd : ∀ (v1671 : BitVec 32) (k0_hw109 : k0_chk109 v1671), 4 ∣ (k0_mult109 v1671).toNat := fun v1671 k0_hw109 => k0_hw109.1
theorem k0_off221_inb : ∀ (v1671 : BitVec 32) (k0_hw109 : k0_chk109 v1671), ∀ a, (k0_off221 v1671) a + S8x128.size a ≤ S65544x128.size a := fun v1671 k0_hw109 => k0_hw109.2

def k0_off222 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_470 : BitVec 32 := 0#32
  ![arg8.toNat, 0]
def k0_mult110 (v1678 : BitVec 32) : BitVec 32 :=
  v1678

def k0_off223 (v1678 : BitVec 32) : Fin 2 → Nat :=
  let v1679 : BitVec 32 := v1678
  let v1680 : Index := Scalar.indexCast v1679
  let c0_471 : Index := 0#32
  ![v1680.toNat, 0]

def k0_chk110 (v1678 : BitVec 32) : Prop :=
  (4 ∣ (k0_mult110 v1678).toNat) ∧
  (∀ a, (k0_off223 v1678) a + S8x128.size a ≤ S65544x128.size a)
theorem k0_mult110_dvd : ∀ (v1678 : BitVec 32) (k0_hw110 : k0_chk110 v1678), 4 ∣ (k0_mult110 v1678).toNat := fun v1678 k0_hw110 => k0_hw110.1
theorem k0_off223_inb : ∀ (v1678 : BitVec 32) (k0_hw110 : k0_chk110 v1678), ∀ a, (k0_off223 v1678) a + S8x128.size a ≤ S65544x128.size a := fun v1678 k0_hw110 => k0_hw110.2

def k0_off224 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_476 : BitVec 32 := 0#32
  ![arg8.toNat, 0]
def k0_mult111 (v1701 : BitVec 32) : BitVec 32 :=
  v1701

def k0_off225 (v1701 : BitVec 32) : Fin 2 → Nat :=
  let v1702 : BitVec 32 := v1701
  let v1703 : Index := Scalar.indexCast v1702
  let c0_477 : Index := 0#32
  ![v1703.toNat, 0]

def k0_chk111 (v1701 : BitVec 32) : Prop :=
  (4 ∣ (k0_mult111 v1701).toNat) ∧
  (∀ a, (k0_off225 v1701) a + S8x128.size a ≤ S65544x128.size a)
theorem k0_mult111_dvd : ∀ (v1701 : BitVec 32) (k0_hw111 : k0_chk111 v1701), 4 ∣ (k0_mult111 v1701).toNat := fun v1701 k0_hw111 => k0_hw111.1
theorem k0_off225_inb : ∀ (v1701 : BitVec 32) (k0_hw111 : k0_chk111 v1701), ∀ a, (k0_off225 v1701) a + S8x128.size a ≤ S65544x128.size a := fun v1701 k0_hw111 => k0_hw111.2

def k0_off226 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_478 : BitVec 32 := 0#32
  ![arg8.toNat, 0]
def k0_mult112 (v1708 : BitVec 32) : BitVec 32 :=
  v1708

def k0_off227 (v1708 : BitVec 32) : Fin 2 → Nat :=
  let v1709 : BitVec 32 := v1708
  let v1710 : Index := Scalar.indexCast v1709
  let c0_479 : Index := 0#32
  ![v1710.toNat, 0]

def k0_chk112 (v1708 : BitVec 32) : Prop :=
  (4 ∣ (k0_mult112 v1708).toNat) ∧
  (∀ a, (k0_off227 v1708) a + S8x128.size a ≤ S65544x128.size a)
theorem k0_mult112_dvd : ∀ (v1708 : BitVec 32) (k0_hw112 : k0_chk112 v1708), 4 ∣ (k0_mult112 v1708).toNat := fun v1708 k0_hw112 => k0_hw112.1
theorem k0_off227_inb : ∀ (v1708 : BitVec 32) (k0_hw112 : k0_chk112 v1708), ∀ a, (k0_off227 v1708) a + S8x128.size a ≤ S65544x128.size a := fun v1708 k0_hw112 => k0_hw112.2

def k0_off228 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_484 : BitVec 32 := 0#32
  ![arg8.toNat, 0]
def k0_mult113 (v1731 : BitVec 32) : BitVec 32 :=
  v1731

def k0_off229 (v1731 : BitVec 32) : Fin 2 → Nat :=
  let v1732 : BitVec 32 := v1731
  let v1733 : Index := Scalar.indexCast v1732
  let c0_486 : Index := 0#32
  ![v1733.toNat, 0]

def k0_chk113 (v1731 : BitVec 32) : Prop :=
  (4 ∣ (k0_mult113 v1731).toNat) ∧
  (∀ a, (k0_off229 v1731) a + S8x128.size a ≤ S65544x128.size a)
theorem k0_mult113_dvd : ∀ (v1731 : BitVec 32) (k0_hw113 : k0_chk113 v1731), 4 ∣ (k0_mult113 v1731).toNat := fun v1731 k0_hw113 => k0_hw113.1
theorem k0_off229_inb : ∀ (v1731 : BitVec 32) (k0_hw113 : k0_chk113 v1731), ∀ a, (k0_off229 v1731) a + S8x128.size a ≤ S65544x128.size a := fun v1731 k0_hw113 => k0_hw113.2

def k0_off230 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_487 : BitVec 32 := 0#32
  ![arg8.toNat, 0]
def k0_mult114 (v1738 : BitVec 32) : BitVec 32 :=
  v1738

def k0_off231 (v1738 : BitVec 32) : Fin 2 → Nat :=
  let v1739 : BitVec 32 := v1738
  let v1740 : Index := Scalar.indexCast v1739
  let c0_488 : Index := 0#32
  ![v1740.toNat, 0]

def k0_chk114 (v1738 : BitVec 32) : Prop :=
  (4 ∣ (k0_mult114 v1738).toNat) ∧
  (∀ a, (k0_off231 v1738) a + S8x128.size a ≤ S65544x128.size a)
theorem k0_mult114_dvd : ∀ (v1738 : BitVec 32) (k0_hw114 : k0_chk114 v1738), 4 ∣ (k0_mult114 v1738).toNat := fun v1738 k0_hw114 => k0_hw114.1
theorem k0_off231_inb : ∀ (v1738 : BitVec 32) (k0_hw114 : k0_chk114 v1738), ∀ a, (k0_off231 v1738) a + S8x128.size a ≤ S65544x128.size a := fun v1738 k0_hw114 => k0_hw114.2

def k0_off232 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_493 : BitVec 32 := 0#32
  ![arg8.toNat, 0]
def k0_mult115 (v1761 : BitVec 32) : BitVec 32 :=
  v1761

def k0_off233 (v1761 : BitVec 32) : Fin 2 → Nat :=
  let v1762 : BitVec 32 := v1761
  let v1763 : Index := Scalar.indexCast v1762
  let c0_494 : Index := 0#32
  ![v1763.toNat, 0]

def k0_chk115 (v1761 : BitVec 32) : Prop :=
  (4 ∣ (k0_mult115 v1761).toNat) ∧
  (∀ a, (k0_off233 v1761) a + S8x128.size a ≤ S65544x128.size a)
theorem k0_mult115_dvd : ∀ (v1761 : BitVec 32) (k0_hw115 : k0_chk115 v1761), 4 ∣ (k0_mult115 v1761).toNat := fun v1761 k0_hw115 => k0_hw115.1
theorem k0_off233_inb : ∀ (v1761 : BitVec 32) (k0_hw115 : k0_chk115 v1761), ∀ a, (k0_off233 v1761) a + S8x128.size a ≤ S65544x128.size a := fun v1761 k0_hw115 => k0_hw115.2

def k0_off234 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_495 : BitVec 32 := 0#32
  ![arg8.toNat, 0]
def k0_mult116 (v1768 : BitVec 32) : BitVec 32 :=
  v1768

def k0_off235 (v1768 : BitVec 32) : Fin 2 → Nat :=
  let v1769 : BitVec 32 := v1768
  let v1770 : Index := Scalar.indexCast v1769
  let c0_496 : Index := 0#32
  ![v1770.toNat, 0]

def k0_chk116 (v1768 : BitVec 32) : Prop :=
  (4 ∣ (k0_mult116 v1768).toNat) ∧
  (∀ a, (k0_off235 v1768) a + S8x128.size a ≤ S65544x128.size a)
theorem k0_mult116_dvd : ∀ (v1768 : BitVec 32) (k0_hw116 : k0_chk116 v1768), 4 ∣ (k0_mult116 v1768).toNat := fun v1768 k0_hw116 => k0_hw116.1
theorem k0_off235_inb : ∀ (v1768 : BitVec 32) (k0_hw116 : k0_chk116 v1768), ∀ a, (k0_off235 v1768) a + S8x128.size a ≤ S65544x128.size a := fun v1768 k0_hw116 => k0_hw116.2

def k0_off236 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_501 : BitVec 32 := 0#32
  ![arg8.toNat, 0]
def k0_mult117 (v1791 : BitVec 32) : BitVec 32 :=
  v1791

def k0_off237 (v1791 : BitVec 32) : Fin 2 → Nat :=
  let v1792 : BitVec 32 := v1791
  let v1793 : Index := Scalar.indexCast v1792
  let c0_502 : Index := 0#32
  ![v1793.toNat, 0]

def k0_chk117 (v1791 : BitVec 32) : Prop :=
  (4 ∣ (k0_mult117 v1791).toNat) ∧
  (∀ a, (k0_off237 v1791) a + S8x128.size a ≤ S65544x128.size a)
theorem k0_mult117_dvd : ∀ (v1791 : BitVec 32) (k0_hw117 : k0_chk117 v1791), 4 ∣ (k0_mult117 v1791).toNat := fun v1791 k0_hw117 => k0_hw117.1
theorem k0_off237_inb : ∀ (v1791 : BitVec 32) (k0_hw117 : k0_chk117 v1791), ∀ a, (k0_off237 v1791) a + S8x128.size a ≤ S65544x128.size a := fun v1791 k0_hw117 => k0_hw117.2

def k0_off238 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_503 : BitVec 32 := 0#32
  ![arg8.toNat, 0]
def k0_mult118 (v1798 : BitVec 32) : BitVec 32 :=
  v1798

def k0_off239 (v1798 : BitVec 32) : Fin 2 → Nat :=
  let v1799 : BitVec 32 := v1798
  let v1800 : Index := Scalar.indexCast v1799
  let c0_504 : Index := 0#32
  ![v1800.toNat, 0]

def k0_chk118 (v1798 : BitVec 32) : Prop :=
  (4 ∣ (k0_mult118 v1798).toNat) ∧
  (∀ a, (k0_off239 v1798) a + S8x128.size a ≤ S65544x128.size a)
theorem k0_mult118_dvd : ∀ (v1798 : BitVec 32) (k0_hw118 : k0_chk118 v1798), 4 ∣ (k0_mult118 v1798).toNat := fun v1798 k0_hw118 => k0_hw118.1
theorem k0_off239_inb : ∀ (v1798 : BitVec 32) (k0_hw118 : k0_chk118 v1798), ∀ a, (k0_off239 v1798) a + S8x128.size a ≤ S65544x128.size a := fun v1798 k0_hw118 => k0_hw118.2

def k0_off240 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_509 : BitVec 32 := 0#32
  ![arg8.toNat, 0]
def k0_mult119 (v1821 : BitVec 32) : BitVec 32 :=
  v1821

def k0_off241 (v1821 : BitVec 32) : Fin 2 → Nat :=
  let v1822 : BitVec 32 := v1821
  let v1823 : Index := Scalar.indexCast v1822
  let c0_510 : Index := 0#32
  ![v1823.toNat, 0]

def k0_chk119 (v1821 : BitVec 32) : Prop :=
  (4 ∣ (k0_mult119 v1821).toNat) ∧
  (∀ a, (k0_off241 v1821) a + S8x128.size a ≤ S65544x128.size a)
theorem k0_mult119_dvd : ∀ (v1821 : BitVec 32) (k0_hw119 : k0_chk119 v1821), 4 ∣ (k0_mult119 v1821).toNat := fun v1821 k0_hw119 => k0_hw119.1
theorem k0_off241_inb : ∀ (v1821 : BitVec 32) (k0_hw119 : k0_chk119 v1821), ∀ a, (k0_off241 v1821) a + S8x128.size a ≤ S65544x128.size a := fun v1821 k0_hw119 => k0_hw119.2

def k0_off242 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_511 : BitVec 32 := 0#32
  ![arg8.toNat, 0]
def k0_mult120 (v1828 : BitVec 32) : BitVec 32 :=
  v1828

def k0_off243 (v1828 : BitVec 32) : Fin 2 → Nat :=
  let v1829 : BitVec 32 := v1828
  let v1830 : Index := Scalar.indexCast v1829
  let c0_512 : Index := 0#32
  ![v1830.toNat, 0]

def k0_chk120 (v1828 : BitVec 32) : Prop :=
  (4 ∣ (k0_mult120 v1828).toNat) ∧
  (∀ a, (k0_off243 v1828) a + S8x128.size a ≤ S65544x128.size a)
theorem k0_mult120_dvd : ∀ (v1828 : BitVec 32) (k0_hw120 : k0_chk120 v1828), 4 ∣ (k0_mult120 v1828).toNat := fun v1828 k0_hw120 => k0_hw120.1
theorem k0_off243_inb : ∀ (v1828 : BitVec 32) (k0_hw120 : k0_chk120 v1828), ∀ a, (k0_off243 v1828) a + S8x128.size a ≤ S65544x128.size a := fun v1828 k0_hw120 => k0_hw120.2

def k0_off244 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_517 : BitVec 32 := 0#32
  ![arg8.toNat, 0]
def k0_mult121 (v1851 : BitVec 32) : BitVec 32 :=
  v1851

def k0_off245 (v1851 : BitVec 32) : Fin 2 → Nat :=
  let v1852 : BitVec 32 := v1851
  let v1853 : Index := Scalar.indexCast v1852
  let c0_519 : Index := 0#32
  ![v1853.toNat, 0]

def k0_chk121 (v1851 : BitVec 32) : Prop :=
  (4 ∣ (k0_mult121 v1851).toNat) ∧
  (∀ a, (k0_off245 v1851) a + S8x128.size a ≤ S65544x128.size a)
theorem k0_mult121_dvd : ∀ (v1851 : BitVec 32) (k0_hw121 : k0_chk121 v1851), 4 ∣ (k0_mult121 v1851).toNat := fun v1851 k0_hw121 => k0_hw121.1
theorem k0_off245_inb : ∀ (v1851 : BitVec 32) (k0_hw121 : k0_chk121 v1851), ∀ a, (k0_off245 v1851) a + S8x128.size a ≤ S65544x128.size a := fun v1851 k0_hw121 => k0_hw121.2

def k0_off246 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_520 : BitVec 32 := 0#32
  ![arg8.toNat, 0]
def k0_mult122 (v1858 : BitVec 32) : BitVec 32 :=
  v1858

def k0_off247 (v1858 : BitVec 32) : Fin 2 → Nat :=
  let v1859 : BitVec 32 := v1858
  let v1860 : Index := Scalar.indexCast v1859
  let c0_521 : Index := 0#32
  ![v1860.toNat, 0]

def k0_chk122 (v1858 : BitVec 32) : Prop :=
  (4 ∣ (k0_mult122 v1858).toNat) ∧
  (∀ a, (k0_off247 v1858) a + S8x128.size a ≤ S65544x128.size a)
theorem k0_mult122_dvd : ∀ (v1858 : BitVec 32) (k0_hw122 : k0_chk122 v1858), 4 ∣ (k0_mult122 v1858).toNat := fun v1858 k0_hw122 => k0_hw122.1
theorem k0_off247_inb : ∀ (v1858 : BitVec 32) (k0_hw122 : k0_chk122 v1858), ∀ a, (k0_off247 v1858) a + S8x128.size a ≤ S65544x128.size a := fun v1858 k0_hw122 => k0_hw122.2

def k0_off248 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_526 : BitVec 32 := 0#32
  ![arg8.toNat, 0]
def k0_mult123 (v1881 : BitVec 32) : BitVec 32 :=
  v1881

def k0_off249 (v1881 : BitVec 32) : Fin 2 → Nat :=
  let v1882 : BitVec 32 := v1881
  let v1883 : Index := Scalar.indexCast v1882
  let c0_527 : Index := 0#32
  ![v1883.toNat, 0]

def k0_chk123 (v1881 : BitVec 32) : Prop :=
  (4 ∣ (k0_mult123 v1881).toNat) ∧
  (∀ a, (k0_off249 v1881) a + S8x128.size a ≤ S65544x128.size a)
theorem k0_mult123_dvd : ∀ (v1881 : BitVec 32) (k0_hw123 : k0_chk123 v1881), 4 ∣ (k0_mult123 v1881).toNat := fun v1881 k0_hw123 => k0_hw123.1
theorem k0_off249_inb : ∀ (v1881 : BitVec 32) (k0_hw123 : k0_chk123 v1881), ∀ a, (k0_off249 v1881) a + S8x128.size a ≤ S65544x128.size a := fun v1881 k0_hw123 => k0_hw123.2

def k0_off250 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_528 : BitVec 32 := 0#32
  ![arg8.toNat, 0]
def k0_mult124 (v1888 : BitVec 32) : BitVec 32 :=
  v1888

def k0_off251 (v1888 : BitVec 32) : Fin 2 → Nat :=
  let v1889 : BitVec 32 := v1888
  let v1890 : Index := Scalar.indexCast v1889
  let c0_529 : Index := 0#32
  ![v1890.toNat, 0]

def k0_chk124 (v1888 : BitVec 32) : Prop :=
  (4 ∣ (k0_mult124 v1888).toNat) ∧
  (∀ a, (k0_off251 v1888) a + S8x128.size a ≤ S65544x128.size a)
theorem k0_mult124_dvd : ∀ (v1888 : BitVec 32) (k0_hw124 : k0_chk124 v1888), 4 ∣ (k0_mult124 v1888).toNat := fun v1888 k0_hw124 => k0_hw124.1
theorem k0_off251_inb : ∀ (v1888 : BitVec 32) (k0_hw124 : k0_chk124 v1888), ∀ a, (k0_off251 v1888) a + S8x128.size a ≤ S65544x128.size a := fun v1888 k0_hw124 => k0_hw124.2

def k0_off252 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_534 : BitVec 32 := 0#32
  ![arg8.toNat, 0]
def k0_mult125 (v1911 : BitVec 32) : BitVec 32 :=
  v1911

def k0_off253 (v1911 : BitVec 32) : Fin 2 → Nat :=
  let v1912 : BitVec 32 := v1911
  let v1913 : Index := Scalar.indexCast v1912
  let c0_535 : Index := 0#32
  ![v1913.toNat, 0]

def k0_chk125 (v1911 : BitVec 32) : Prop :=
  (4 ∣ (k0_mult125 v1911).toNat) ∧
  (∀ a, (k0_off253 v1911) a + S8x128.size a ≤ S65544x128.size a)
theorem k0_mult125_dvd : ∀ (v1911 : BitVec 32) (k0_hw125 : k0_chk125 v1911), 4 ∣ (k0_mult125 v1911).toNat := fun v1911 k0_hw125 => k0_hw125.1
theorem k0_off253_inb : ∀ (v1911 : BitVec 32) (k0_hw125 : k0_chk125 v1911), ∀ a, (k0_off253 v1911) a + S8x128.size a ≤ S65544x128.size a := fun v1911 k0_hw125 => k0_hw125.2

def k0_off254 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_536 : BitVec 32 := 0#32
  ![arg8.toNat, 0]
def k0_mult126 (v1918 : BitVec 32) : BitVec 32 :=
  v1918

def k0_off255 (v1918 : BitVec 32) : Fin 2 → Nat :=
  let v1919 : BitVec 32 := v1918
  let v1920 : Index := Scalar.indexCast v1919
  let c0_537 : Index := 0#32
  ![v1920.toNat, 0]

def k0_chk126 (v1918 : BitVec 32) : Prop :=
  (4 ∣ (k0_mult126 v1918).toNat) ∧
  (∀ a, (k0_off255 v1918) a + S8x128.size a ≤ S65544x128.size a)
theorem k0_mult126_dvd : ∀ (v1918 : BitVec 32) (k0_hw126 : k0_chk126 v1918), 4 ∣ (k0_mult126 v1918).toNat := fun v1918 k0_hw126 => k0_hw126.1
theorem k0_off255_inb : ∀ (v1918 : BitVec 32) (k0_hw126 : k0_chk126 v1918), ∀ a, (k0_off255 v1918) a + S8x128.size a ≤ S65544x128.size a := fun v1918 k0_hw126 => k0_hw126.2

def k0_off256 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_542 : BitVec 32 := 0#32
  ![arg8.toNat, 0]
def k0_mult127 (v1941 : BitVec 32) : BitVec 32 :=
  v1941

def k0_off257 (v1941 : BitVec 32) : Fin 2 → Nat :=
  let v1942 : BitVec 32 := v1941
  let v1943 : Index := Scalar.indexCast v1942
  let c0_543 : Index := 0#32
  ![v1943.toNat, 0]

def k0_chk127 (v1941 : BitVec 32) : Prop :=
  (4 ∣ (k0_mult127 v1941).toNat) ∧
  (∀ a, (k0_off257 v1941) a + S8x128.size a ≤ S65544x128.size a)
theorem k0_mult127_dvd : ∀ (v1941 : BitVec 32) (k0_hw127 : k0_chk127 v1941), 4 ∣ (k0_mult127 v1941).toNat := fun v1941 k0_hw127 => k0_hw127.1
theorem k0_off257_inb : ∀ (v1941 : BitVec 32) (k0_hw127 : k0_chk127 v1941), ∀ a, (k0_off257 v1941) a + S8x128.size a ≤ S65544x128.size a := fun v1941 k0_hw127 => k0_hw127.2

def k0_off258 (k0_t1 : Fin k0_t1_loop.trips) : Fin 2 → Nat :=
  let c0_i32 : BitVec 32 := 0#32
  let c1_i32 : BitVec 32 := 1#32
  let arg8 : BitVec 32 := Scf.iv c0_i32 c1_i32 k0_t1
  let c0_i32_544 : BitVec 32 := 0#32
  ![arg8.toNat, 0]
def k0_mult128 (v1948 : BitVec 32) : BitVec 32 :=
  v1948

def k0_off259 (v1948 : BitVec 32) : Fin 2 → Nat :=
  let v1949 : BitVec 32 := v1948
  let v1950 : Index := Scalar.indexCast v1949
  let c0_546 : Index := 0#32
  ![v1950.toNat, 0]

def k0_chk128 (v1948 : BitVec 32) : Prop :=
  (4 ∣ (k0_mult128 v1948).toNat) ∧
  (∀ a, (k0_off259 v1948) a + S8x128.size a ≤ S65544x128.size a)
theorem k0_mult128_dvd : ∀ (v1948 : BitVec 32) (k0_hw128 : k0_chk128 v1948), 4 ∣ (k0_mult128 v1948).toNat := fun v1948 k0_hw128 => k0_hw128.1
theorem k0_off259_inb : ∀ (v1948 : BitVec 32) (k0_hw128 : k0_chk128 v1948), ∀ a, (k0_off259 v1948) a + S8x128.size a ≤ S65544x128.size a := fun v1948 k0_hw128 => k0_hw128.2

def k0_off260 (k0_t1 : Fin k0_t1_loop.trips) : Fin 3 → Nat :=
  let c0_i32 : BitVec 32 := 0#32
  let c1_i32 : BitVec 32 := 1#32
  let arg8 : BitVec 32 := Scf.iv c0_i32 c1_i32 k0_t1
  let v1976 : Index := Scalar.indexCast arg8
  let c0_559 : Index := 0#32
  let c0_560 : Index := 0#32
  ![v1976.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S65544x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ScoresRefIdeal.lean ====
abbrev S32768x128 : Shape := ⟨2, ![32768, 128]⟩
abbrev S32768x1024 : Shape := ⟨2, ![32768, 1024]⟩
abbrev S16384x1024 : Shape := ⟨2, ![16384, 1024]⟩
abbrev S_ : Shape := ⟨0, ![]⟩
abbrev S32768x128x1 : Shape := ⟨3, ![32768, 128, 1]⟩
abbrev S32768x128x1024 : Shape := ⟨3, ![32768, 128, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S32768x1024, .f32⟩
  | .hbm, ⟨2, _⟩ => ⟨S32768x128, .f32⟩
  | .hbm, ⟨3, _⟩ => ⟨S16384x1024, .i16⟩
  | .hbm, ⟨4, _⟩ => ⟨S16384x1024, .bf16⟩
  | .hbm, ⟨5, _⟩ => ⟨S16384x1024, .f32⟩
  | .hbm, ⟨6, _⟩ => ⟨S_, .i32⟩
  | .hbm, ⟨7, _⟩ => ⟨S32768x128, .i32⟩
  | .hbm, ⟨8, _⟩ => ⟨S32768x128, .i32⟩
  | .hbm, ⟨9, _⟩ => ⟨S_, .i32⟩
  | .hbm, ⟨10, _⟩ => ⟨S32768x128, .i32⟩
  | .hbm, ⟨11, _⟩ => ⟨S32768x128, .i1⟩
  | .hbm, ⟨12, _⟩ => ⟨S_, .i32⟩
  | .hbm, ⟨13, _⟩ => ⟨S32768x128, .i32⟩
  | .hbm, ⟨14, _⟩ => ⟨S32768x128, .i32⟩
  | .hbm, ⟨15, _⟩ => ⟨S32768x128, .i32⟩
  | .hbm, ⟨16, _⟩ => ⟨S32768x128x1, .i32⟩
  | .hbm, ⟨17, _⟩ => ⟨S32768x128x1024, .f32⟩
  | .hbm, ⟨18, _⟩ => ⟨S32768x128, .f32⟩
  | .hbm, ⟨19, _⟩ => ⟨S_, .f32⟩
  | .hbm, ⟨20, _⟩ => ⟨S32768x128, .f32⟩
  | .hbm, ⟨21, _⟩ => ⟨S32768x128, .f32⟩
  | .hbm, ⟨22, _⟩ => ⟨S_, .f32⟩
  | .hbm, ⟨23, _⟩ => ⟨S32768x128, .f32⟩
  | .hbm, ⟨24, _⟩ => ⟨S32768x128, .f32⟩
  | .hbm, ⟨25, _⟩ => ⟨S32768x128, .f32⟩
  | .hbm, ⟨26, _⟩ => ⟨S_, .f32⟩
  | .hbm, ⟨27, _⟩ => ⟨S32768x128, .f32⟩
  | .hbm, ⟨28, _⟩ => ⟨S32768x128, .f32⟩
  | .hbm, ⟨29, _⟩ => ⟨S32768x128, .f32⟩
  | .hbm, ⟨30, _⟩ => ⟨S32768x128, .f32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Delta.lean ====
abbrev S32768x4096 : Shape := ⟨2, ![32768, 4096]⟩
abbrev S4x1536 : Shape := ⟨2, ![4, 1536]⟩
abbrev S8x8x4096 : Shape := ⟨3, ![8, 8, 4096]⟩
abbrev S64 : Shape := ⟨1, ![64]⟩
abbrev S8x8x64x64 : Shape := ⟨4, ![8, 8, 64, 64]⟩
abbrev S_ : Shape := ⟨0, ![]⟩
abbrev S8x64x8x64 : Shape := ⟨4, ![8, 64, 8, 64]⟩
abbrev S4x3x512 : Shape := ⟨3, ![4, 3, 512]⟩
abbrev S3x4x512 : Shape := ⟨3, ![3, 4, 512]⟩
abbrev S8x4096x4096 : Shape := ⟨3, ![8, 4096, 4096]⟩
abbrev S1x64 : Shape := ⟨2, ![1, 64]⟩
abbrev S8x4096x512 : Shape := ⟨3, ![8, 4096, 512]⟩
abbrev S1x512x512 : Shape := ⟨3, ![1, 512, 512]⟩
abbrev S1x8x8x64 : Shape := ⟨4, ![1, 8, 8, 64]⟩
abbrev S8x64x64 : Shape := ⟨3, ![8, 64, 64]⟩
abbrev S3x520x512 : Shape := ⟨3, ![3, 520, 512]⟩
abbrev S3x8x512x64 : Shape := ⟨4, ![3, 8, 512, 64]⟩
abbrev S8x512x64 : Shape := ⟨3, ![8, 512, 64]⟩
abbrev S3x8x512 : Shape := ⟨3, ![3, 8, 512]⟩
abbrev S512x512 : Shape := ⟨2, ![512, 512]⟩
abbrev S1x1x512 : Shape := ⟨3, ![1, 1, 512]⟩
abbrev S1x512 : Shape := ⟨2, ![1, 512]⟩
abbrev S1x3x512 : Shape := ⟨3, ![1, 3, 512]⟩
abbrev S3x512 : Shape := ⟨2, ![3, 512]⟩
abbrev S512x64 : Shape := ⟨2, ![512, 64]⟩
abbrev S512 : Shape := ⟨1, ![512]⟩
abbrev S512x1 : Shape := ⟨2, ![512, 1]⟩
abbrev S1x1x512x64 : Shape := ⟨4, ![1, 1, 512, 64]⟩
abbrev S64x64 : Shape := ⟨2, ![64, 64]⟩
abbrev S1x1x64x64 : Shape := ⟨4, ![1, 1, 64, 64]⟩
abbrev S1x1x8x64 : Shape := ⟨4, ![1, 1, 8, 64]⟩
abbrev S8x64 : Shape := ⟨2, ![8, 64]⟩
abbrev S64x8 : Shape := ⟨2, ![64, 8]⟩
abbrev S64x1 : Shape := ⟨2, ![64, 1]⟩
abbrev S1x1 : Shape := ⟨2, ![1, 1]⟩
abbrev S1x64x64 : Shape := ⟨3, ![1, 64, 64]⟩
abbrev S1x512x64 : Shape := ⟨3, ![1, 512, 64]⟩

abbrev nBuf : Space → Nat
  | .hbm => 17
  | .vmem => 18
  | .smem => 0
  | _ => 0

abbrev bufTy : (tb : Table) → Fin (tcTables nBuf tb) → BufTy
  | .hbm, ⟨0, _⟩ => ⟨S32768x4096, .f32⟩
  | .hbm, ⟨1, _⟩ => ⟨S4x1536, .f32⟩
  | .hbm, ⟨2, _⟩ => ⟨S8x8x4096, .f32⟩
  | .hbm, ⟨3, _⟩ => ⟨S8x8x4096, .f32⟩
  | .hbm, ⟨4, _⟩ => ⟨S64, .f32⟩
  | .hbm, ⟨5, _⟩ => ⟨S8x8x64x64, .f32⟩
  | .hbm, ⟨6, _⟩ => ⟨S_, .f32⟩
  | .hbm, ⟨7, _⟩ => ⟨S_, .f32⟩
  | .hbm, ⟨8, _⟩ => ⟨S8x8x64x64, .f32⟩
  | .hbm, ⟨9, _⟩ => ⟨S8x64x8x64, .f32⟩
  | .hbm, ⟨10, _⟩ => ⟨S4x3x512, .f32⟩
  | .hbm, ⟨11, _⟩ => ⟨S3x4x512, .f32⟩
  | .hbm, ⟨12, _⟩ => ⟨S8x4096x4096, .f32⟩
  | .hbm, ⟨13, _⟩ => ⟨S8x8x64x64, .f32⟩
  | .hbm, ⟨14, _⟩ => ⟨S8x64x8x64, .f32⟩
  | .hbm, ⟨15, _⟩ => ⟨S1x64, .f32⟩
  | .hbm, ⟨16, _⟩ => ⟨S8x4096x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S3x4x512, .f32⟩
  | .local _ .vmem, ⟨7, _⟩ => ⟨S1x8x8x64, .f32⟩
  | .local _ .vmem, ⟨8, _⟩ => ⟨S1x8x8x64, .f32⟩
  | .local _ .vmem, ⟨9, _⟩ => ⟨S1x8x8x64, .f32⟩
  | .local _ .vmem, ⟨10, _⟩ => ⟨S1x8x8x64, .f32⟩
  | .local _ .vmem, ⟨11, _⟩ => ⟨S1x64, .f32⟩
  | .local _ .vmem, ⟨12, _⟩ => ⟨S1x512x512, .f32⟩
  | .local _ .vmem, ⟨13, _⟩ => ⟨S1x512x512, .f32⟩
  | .local _ .vmem, ⟨14, _⟩ => ⟨S8x64x64, .f32⟩
  | .local _ .vmem, ⟨15, _⟩ => ⟨S3x520x512, .f32⟩
  | .local _ .vmem, ⟨16, _⟩ => ⟨S3x8x512x64, .f32⟩
  | .local _ .vmem, ⟨17, _⟩ => ⟨S8x512x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_341 : BitVec 32 := 0#32
  let c4_i32 : BitVec 32 := 4#32
  let v735 : BitVec 32 := Scalar.addi c0_i32_341 c4_i32
  let c1_i32_342 : BitVec 32 := 1#32
  ⟨c0_i32_341, v735, c1_i32_342⟩
def k0_mult1 (k0_t1 : Fin k0_t1_loop.trips) : BitVec 32 :=
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  v759
def k0_mult2 (k0_t1 : Fin k0_t1_loop.trips) : BitVec 32 :=
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  v761
def k0_off1 (k0_t1 : Fin k0_t1_loop.trips) : Fin 4 → Nat :=
  let c0_375 : Index := 0#32
  let c0_376 : Index := 0#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v763 : Index := Scalar.indexCast v760
  let c0_377 : Index := 0#32
  ![0, 0, v763.toNat, 0]
def k0_off2 (k0_t1 : Fin k0_t1_loop.trips) : Fin 4 → Nat :=
  let c0_378 : Index := 0#32
  let c1_379 : Index := 1#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v766 : Index := Scalar.indexCast v760
  let c0_380 : Index := 0#32
  ![0, 1, v766.toNat, 0]
def k0_off3 (k0_t1 : Fin k0_t1_loop.trips) : Fin 4 → Nat :=
  let c0_381 : Index := 0#32
  let c2_382 : Index := 2#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v769 : Index := Scalar.indexCast v760
  let c0_383 : Index := 0#32
  ![0, 2, v769.toNat, 0]
def k0_off4 (k0_t1 : Fin k0_t1_loop.trips) : Fin 4 → Nat :=
  let c0_384 : Index := 0#32
  let c3_385 : Index := 3#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v772 : Index := Scalar.indexCast v760
  let c0_386 : Index := 0#32
  ![0, 3, v772.toNat, 0]
def k0_off5 (k0_t1 : Fin k0_t1_loop.trips) : Fin 4 → Nat :=
  let c0_387 : Index := 0#32
  let c4_388 : Index := 4#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v775 : Index := Scalar.indexCast v760
  let c0_389 : Index := 0#32
  ![0, 4, v775.toNat, 0]
def k0_off6 (k0_t1 : Fin k0_t1_loop.trips) : Fin 4 → Nat :=
  let c0_390 : Index := 0#32
  let c5_391 : Index := 5#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v778 : Index := Scalar.indexCast v760
  let c0_392 : Index := 0#32
  ![0, 5, v778.toNat, 0]
def k0_off7 (k0_t1 : Fin k0_t1_loop.trips) : Fin 4 → Nat :=
  let c0_393 : Index := 0#32
  let c6_394 : Index := 6#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v781 : Index := Scalar.indexCast v760
  let c0_395 : Index := 0#32
  ![0, 6, v781.toNat, 0]
def k0_off8 (k0_t1 : Fin k0_t1_loop.trips) : Fin 4 → Nat :=
  let c0_396 : Index := 0#32
  let c7_397 : Index := 7#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v784 : Index := Scalar.indexCast v760
  let c0_398 : Index := 0#32
  ![0, 7, v784.toNat, 0]
def k0_off9 (k0_t1 : Fin k0_t1_loop.trips) : Fin 4 → Nat :=
  let c0_399 : Index := 0#32
  let c0_400 : Index := 0#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v787 : Index := Scalar.indexCast v762
  let c0_401 : Index := 0#32
  ![0, 0, v787.toNat, 0]
def k0_off10 (k0_t1 : Fin k0_t1_loop.trips) : Fin 4 → Nat :=
  let c0_402 : Index := 0#32
  let c1_403 : Index := 1#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v790 : Index := Scalar.indexCast v762
  let c0_404 : Index := 0#32
  ![0, 1, v790.toNat, 0]
def k0_off11 (k0_t1 : Fin k0_t1_loop.trips) : Fin 4 → Nat :=
  let c0_405 : Index := 0#32
  let c2_406 : Index := 2#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v793 : Index := Scalar.indexCast v762
  let c0_407 : Index := 0#32
  ![0, 2, v793.toNat, 0]
def k0_off12 (k0_t1 : Fin k0_t1_loop.trips) : Fin 4 → Nat :=
  let c0_408 : Index := 0#32
  let c3_409 : Index := 3#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v796 : Index := Scalar.indexCast v762
  let c0_410 : Index := 0#32
  ![0, 3, v796.toNat, 0]
def k0_off13 (k0_t1 : Fin k0_t1_loop.trips) : Fin 4 → Nat :=
  let c0_411 : Index := 0#32
  let c4_412 : Index := 4#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v799 : Index := Scalar.indexCast v762
  let c0_413 : Index := 0#32
  ![0, 4, v799.toNat, 0]
def k0_off14 (k0_t1 : Fin k0_t1_loop.trips) : Fin 4 → Nat :=
  let c0_414 : Index := 0#32
  let c5_415 : Index := 5#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v802 : Index := Scalar.indexCast v762
  let c0_416 : Index := 0#32
  ![0, 5, v802.toNat, 0]
def k0_off15 (k0_t1 : Fin k0_t1_loop.trips) : Fin 4 → Nat :=
  let c0_417 : Index := 0#32
  let c6_418 : Index := 6#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v805 : Index := Scalar.indexCast v762
  let c0_419 : Index := 0#32
  ![0, 6, v805.toNat, 0]
def k0_off16 (k0_t1 : Fin k0_t1_loop.trips) : Fin 4 → Nat :=
  let c0_420 : Index := 0#32
  let c7_421 : Index := 7#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v808 : Index := Scalar.indexCast v762
  let c0_422 : Index := 0#32
  ![0, 7, v808.toNat, 0]
def k0_off17 (k0_t1 : Fin k0_t1_loop.trips) : Fin 4 → Nat :=
  let c1_423 : Index := 1#32
  let c0_424 : Index := 0#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v811 : Index := Scalar.indexCast v760
  let c0_425 : Index := 0#32
  ![1, 0, v811.toNat, 0]
def k0_off18 (k0_t1 : Fin k0_t1_loop.trips) : Fin 4 → Nat :=
  let c1_426 : Index := 1#32
  let c1_427 : Index := 1#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v814 : Index := Scalar.indexCast v760
  let c0_428 : Index := 0#32
  ![1, 1, v814.toNat, 0]
def k0_off19 (k0_t1 : Fin k0_t1_loop.trips) : Fin 4 → Nat :=
  let c1_429 : Index := 1#32
  let c2_430 : Index := 2#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v817 : Index := Scalar.indexCast v760
  let c0_431 : Index := 0#32
  ![1, 2, v817.toNat, 0]
def k0_off20 (k0_t1 : Fin k0_t1_loop.trips) : Fin 4 → Nat :=
  let c1_432 : Index := 1#32
  let c3_433 : Index := 3#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v820 : Index := Scalar.indexCast v760
  let c0_434 : Index := 0#32
  ![1, 3, v820.toNat, 0]
def k0_off21 (k0_t1 : Fin k0_t1_loop.trips) : Fin 4 → Nat :=
  let c1_435 : Index := 1#32
  let c4_436 : Index := 4#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v823 : Index := Scalar.indexCast v760
  let c0_437 : Index := 0#32
  ![1, 4, v823.toNat, 0]
def k0_off22 (k0_t1 : Fin k0_t1_loop.trips) : Fin 4 → Nat :=
  let c1_438 : Index := 1#32
  let c5_439 : Index := 5#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v826 : Index := Scalar.indexCast v760
  let c0_440 : Index := 0#32
  ![1, 5, v826.toNat, 0]
def k0_off23 (k0_t1 : Fin k0_t1_loop.trips) : Fin 4 → Nat :=
  let c1_441 : Index := 1#32
  let c6_442 : Index := 6#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v829 : Index := Scalar.indexCast v760
  let c0_443 : Index := 0#32
  ![1, 6, v829.toNat, 0]
def k0_off24 (k0_t1 : Fin k0_t1_loop.trips) : Fin 4 → Nat :=
  let c1_444 : Index := 1#32
  let c7_445 : Index := 7#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v832 : Index := Scalar.indexCast v760
  let c0_446 : Index := 0#32
  ![1, 7, v832.toNat, 0]
def k0_off25 (k0_t1 : Fin k0_t1_loop.trips) : Fin 4 → Nat :=
  let c1_447 : Index := 1#32
  let c0_448 : Index := 0#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v835 : Index := Scalar.indexCast v762
  let c0_449 : Index := 0#32
  ![1, 0, v835.toNat, 0]
def k0_off26 (k0_t1 : Fin k0_t1_loop.trips) : Fin 4 → Nat :=
  let c1_450 : Index := 1#32
  let c1_451 : Index := 1#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v838 : Index := Scalar.indexCast v762
  let c0_452 : Index := 0#32
  ![1, 1, v838.toNat, 0]
def k0_off27 (k0_t1 : Fin k0_t1_loop.trips) : Fin 4 → Nat :=
  let c1_453 : Index := 1#32
  let c2_454 : Index := 2#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v841 : Index := Scalar.indexCast v762
  let c0_455 : Index := 0#32
  ![1, 2, v841.toNat, 0]
def k0_off28 (k0_t1 : Fin k0_t1_loop.trips) : Fin 4 → Nat :=
  let c1_456 : Index := 1#32
  let c3_457 : Index := 3#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v844 : Index := Scalar.indexCast v762
  let c0_458 : Index := 0#32
  ![1, 3, v844.toNat, 0]
def k0_off29 (k0_t1 : Fin k0_t1_loop.trips) : Fin 4 → Nat :=
  let c1_459 : Index := 1#32
  let c4_460 : Index := 4#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v847 : Index := Scalar.indexCast v762
  let c0_461 : Index := 0#32
  ![1, 4, v847.toNat, 0]
def k0_off30 (k0_t1 : Fin k0_t1_loop.trips) : Fin 4 → Nat :=
  let c1_462 : Index := 1#32
  let c5_463 : Index := 5#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v850 : Index := Scalar.indexCast v762
  let c0_464 : Index := 0#32
  ![1, 5, v850.toNat, 0]
def k0_off31 (k0_t1 : Fin k0_t1_loop.trips) : Fin 4 → Nat :=
  let c1_465 : Index := 1#32
  let c6_466 : Index := 6#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v853 : Index := Scalar.indexCast v762
  let c0_467 : Index := 0#32
  ![1, 6, v853.toNat, 0]
def k0_off32 (k0_t1 : Fin k0_t1_loop.trips) : Fin 4 → Nat :=
  let c1_468 : Index := 1#32
  let c7_469 : Index := 7#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v856 : Index := Scalar.indexCast v762
  let c0_470 : Index := 0#32
  ![1, 7, v856.toNat, 0]
def k0_off33 (k0_t1 : Fin k0_t1_loop.trips) : Fin 4 → Nat :=
  let c2_471 : Index := 2#32
  let c0_472 : Index := 0#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v859 : Index := Scalar.indexCast v760
  let c0_473 : Index := 0#32
  ![2, 0, v859.toNat, 0]
def k0_off34 (k0_t1 : Fin k0_t1_loop.trips) : Fin 4 → Nat :=
  let c2_474 : Index := 2#32
  let c1_475 : Index := 1#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v862 : Index := Scalar.indexCast v760
  let c0_476 : Index := 0#32
  ![2, 1, v862.toNat, 0]
def k0_off35 (k0_t1 : Fin k0_t1_loop.trips) : Fin 4 → Nat :=
  let c2_477 : Index := 2#32
  let c2_478 : Index := 2#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v865 : Index := Scalar.indexCast v760
  let c0_479 : Index := 0#32
  ![2, 2, v865.toNat, 0]
def k0_off36 (k0_t1 : Fin k0_t1_loop.trips) : Fin 4 → Nat :=
  let c2_480 : Index := 2#32
  let c3_481 : Index := 3#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v868 : Index := Scalar.indexCast v760
  let c0_482 : Index := 0#32
  ![2, 3, v868.toNat, 0]
def k0_off37 (k0_t1 : Fin k0_t1_loop.trips) : Fin 4 → Nat :=
  let c2_483 : Index := 2#32
  let c4_484 : Index := 4#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v871 : Index := Scalar.indexCast v760
  let c0_485 : Index := 0#32
  ![2, 4, v871.toNat, 0]
def k0_off38 (k0_t1 : Fin k0_t1_loop.trips) : Fin 4 → Nat :=
  let c2_486 : Index := 2#32
  let c5_487 : Index := 5#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v874 : Index := Scalar.indexCast v760
  let c0_488 : Index := 0#32
  ![2, 5, v874.toNat, 0]
def k0_off39 (k0_t1 : Fin k0_t1_loop.trips) : Fin 4 → Nat :=
  let c2_489 : Index := 2#32
  let c6_490 : Index := 6#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v877 : Index := Scalar.indexCast v760
  let c0_491 : Index := 0#32
  ![2, 6, v877.toNat, 0]
def k0_off40 (k0_t1 : Fin k0_t1_loop.trips) : Fin 4 → Nat :=
  let c2_492 : Index := 2#32
  let c7_493 : Index := 7#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v880 : Index := Scalar.indexCast v760
  let c0_494 : Index := 0#32
  ![2, 7, v880.toNat, 0]
def k0_off41 (k0_t1 : Fin k0_t1_loop.trips) : Fin 4 → Nat :=
  let c2_495 : Index := 2#32
  let c0_496 : Index := 0#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v883 : Index := Scalar.indexCast v762
  let c0_497 : Index := 0#32
  ![2, 0, v883.toNat, 0]
def k0_off42 (k0_t1 : Fin k0_t1_loop.trips) : Fin 4 → Nat :=
  let c2_498 : Index := 2#32
  let c1_499 : Index := 1#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v886 : Index := Scalar.indexCast v762
  let c0_500 : Index := 0#32
  ![2, 1, v886.toNat, 0]
def k0_off43 (k0_t1 : Fin k0_t1_loop.trips) : Fin 4 → Nat :=
  let c2_501 : Index := 2#32
  let c2_502 : Index := 2#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v889 : Index := Scalar.indexCast v762
  let c0_503 : Index := 0#32
  ![2, 2, v889.toNat, 0]
def k0_off44 (k0_t1 : Fin k0_t1_loop.trips) : Fin 4 → Nat :=
  let c2_504 : Index := 2#32
  let c3_505 : Index := 3#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v892 : Index := Scalar.indexCast v762
  let c0_506 : Index := 0#32
  ![2, 3, v892.toNat, 0]
def k0_off45 (k0_t1 : Fin k0_t1_loop.trips) : Fin 4 → Nat :=
  let c2_507 : Index := 2#32
  let c4_508 : Index := 4#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v895 : Index := Scalar.indexCast v762
  let c0_509 : Index := 0#32
  ![2, 4, v895.toNat, 0]
def k0_off46 (k0_t1 : Fin k0_t1_loop.trips) : Fin 4 → Nat :=
  let c2_510 : Index := 2#32
  let c5_511 : Index := 5#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v898 : Index := Scalar.indexCast v762
  let c0_512 : Index := 0#32
  ![2, 5, v898.toNat, 0]
def k0_off47 (k0_t1 : Fin k0_t1_loop.trips) : Fin 4 → Nat :=
  let c2_513 : Index := 2#32
  let c6_514 : Index := 6#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v901 : Index := Scalar.indexCast v762
  let c0_515 : Index := 0#32
  ![2, 6, v901.toNat, 0]
def k0_off48 (k0_t1 : Fin k0_t1_loop.trips) : Fin 4 → Nat :=
  let c2_516 : Index := 2#32
  let c7_517 : Index := 7#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v904 : Index := Scalar.indexCast v762
  let c0_518 : Index := 0#32
  ![2, 7, v904.toNat, 0]
def k0_off49 (k0_t1 : Fin k0_t1_loop.trips) : Fin 4 → Nat :=
  let c0_519 : Index := 0#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let v907 : Index := Scalar.indexCast v756
  let c0_520 : Index := 0#32
  let c0_521 : Index := 0#32
  ![0, v907.toNat, 0, 0]
def k0_off50 (k0_t1 : Fin k0_t1_loop.trips) : Fin 4 → Nat :=
  let c0_522 : Index := 0#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let v910 : Index := Scalar.indexCast v758
  let c0_523 : Index := 0#32
  let c0_524 : Index := 0#32
  ![0, v910.toNat, 0, 0]
def k0_off51 (k0_t1 : Fin k0_t1_loop.trips) : Fin 3 → Nat :=
  let c0_1232 : Index := 0#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v4073 : Index := Scalar.indexCast v760
  let c0_1233 : Index := 0#32
  ![0, v4073.toNat, 0]
def k0_off52 (k0_t1 : Fin k0_t1_loop.trips) : Fin 3 → Nat :=
  let c1_1239 : Index := 1#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v4091 : Index := Scalar.indexCast v760
  let c0_1240 : Index := 0#32
  ![1, v4091.toNat, 0]
def k0_off53 (k0_t1 : Fin k0_t1_loop.trips) : Fin 3 → Nat :=
  let c2_1246 : Index := 2#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v4109 : Index := Scalar.indexCast v760
  let c0_1247 : Index := 0#32
  ![2, v4109.toNat, 0]
def k0_off54 (k0_t1 : Fin k0_t1_loop.trips) : Fin 3 → Nat :=
  let c3_1253 : Index := 3#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v4127 : Index := Scalar.indexCast v760
  let c0_1254 : Index := 0#32
  ![3, v4127.toNat, 0]
def k0_off55 (k0_t1 : Fin k0_t1_loop.trips) : Fin 3 → Nat :=
  let c4_1260 : Index := 4#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v4145 : Index := Scalar.indexCast v760
  let c0_1261 : Index := 0#32
  ![4, v4145.toNat, 0]
def k0_off56 (k0_t1 : Fin k0_t1_loop.trips) : Fin 3 → Nat :=
  let c5_1267 : Index := 5#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v4163 : Index := Scalar.indexCast v760
  let c0_1268 : Index := 0#32
  ![5, v4163.toNat, 0]
def k0_off57 (k0_t1 : Fin k0_t1_loop.trips) : Fin 3 → Nat :=
  let c6_1274 : Index := 6#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v4181 : Index := Scalar.indexCast v760
  let c0_1275 : Index := 0#32
  ![6, v4181.toNat, 0]
def k0_off58 (k0_t1 : Fin k0_t1_loop.trips) : Fin 3 → Nat :=
  let c7_1281 : Index := 7#32
  let c2_i32 : BitVec 32 := 2#32
  let c0_i32_341 : BitVec 32 := 0#32
  let c1_i32_342 : BitVec 32 := 1#32
  let arg14 : BitVec 32 := Scf.iv c0_i32_341 c1_i32_342 k0_t1
  let v756 : BitVec 32 := Scalar.muli c2_i32 arg14
  let c64_i32_373 : BitVec 32 := 64#32
  let v759 : BitVec 32 := Scalar.muli v756 c64_i32_373
  let v760 : BitVec 32 := v759
  let v4199 : Index := Scalar.indexCast v760
  let c0_1282 : Index := 0#32
  ![7, v4199.toNat, 0]
def k0_off59 (k0_t1 : Fin k0_t1_loop.trips) : Fin 3 → Nat :=
  let c0_1320 : Index := 0#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v4361 : Index := Scalar.indexCast v762
  let c0_1321 : Index := 0#32
  ![0, v4361.toNat, 0]
def k0_off60 (k0_t1 : Fin k0_t1_loop.trips) : Fin 3 → Nat :=
  let c1_1327 : Index := 1#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v4379 : Index := Scalar.indexCast v762
  let c0_1328 : Index := 0#32
  ![1, v4379.toNat, 0]
def k0_off61 (k0_t1 : Fin k0_t1_loop.trips) : Fin 3 → Nat :=
  let c2_1334 : Index := 2#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v4397 : Index := Scalar.indexCast v762
  let c0_1335 : Index := 0#32
  ![2, v4397.toNat, 0]
def k0_off62 (k0_t1 : Fin k0_t1_loop.trips) : Fin 3 → Nat :=
  let c3_1341 : Index := 3#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v4415 : Index := Scalar.indexCast v762
  let c0_1342 : Index := 0#32
  ![3, v4415.toNat, 0]
def k0_off63 (k0_t1 : Fin k0_t1_loop.trips) : Fin 3 → Nat :=
  let c4_1348 : Index := 4#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v4433 : Index := Scalar.indexCast v762
  let c0_1349 : Index := 0#32
  ![4, v4433.toNat, 0]
def k0_off64 (k0_t1 : Fin k0_t1_loop.trips) : Fin 3 → Nat :=
  let c5_1355 : Index := 5#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v4451 : Index := Scalar.indexCast v762
  let c0_1356 : Index := 0#32
  ![5, v4451.toNat, 0]
def k0_off65 (k0_t1 : Fin k0_t1_loop.trips) : Fin 3 → Nat :=
  let c6_1362 : Index := 6#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v4469 : Index := Scalar.indexCast v762
  let c0_1363 : Index := 0#32
  ![6, v4469.toNat, 0]
def k0_off66 (k0_t1 : Fin k0_t1_loop.trips) : Fin 3 → Nat :=
  let c7_1369 : Index := 7#32
  let c2_i32_371 : BitVec 32 := 2#32
  let c0_i32_341 : BitVec 32 := 0#32
  let c1_i32_342 : BitVec 32 := 1#32
  let arg14 : BitVec 32 := Scf.iv c0_i32_341 c1_i32_342 k0_t1
  let v757 : BitVec 32 := Scalar.muli c2_i32_371 arg14
  let c1_i32_372 : BitVec 32 := 1#32
  let v758 : BitVec 32 := Scalar.addi v757 c1_i32_372
  let c64_i32_374 : BitVec 32 := 64#32
  let v761 : BitVec 32 := Scalar.muli v758 c64_i32_374
  let v762 : BitVec 32 := v761
  let v4487 : Index := Scalar.indexCast v762
  let c0_1370 : Index := 0#32
  ![7, v4487.toNat, 0]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Attn.lean ====
abbrev S8x16x64x4096 : Shape := ⟨4, ![8, 16, 64, 4096]⟩
abbrev S8x16x4096 : Shape := ⟨3, ![8, 16, 4096]⟩
abbrev S8x8x64x4096 : Shape := ⟨4, ![8, 8, 64, 4096]⟩
abbrev S8x16x256x64 : Shape := ⟨4, ![8, 16, 256, 64]⟩
abbrev S8x2x16x256x64 : Shape := ⟨5, ![8, 2, 16, 256, 64]⟩
abbrev S8x2x16x64x256 : Shape := ⟨5, ![8, 2, 16, 64, 256]⟩
abbrev S1x16x64x256 : Shape := ⟨4, ![1, 16, 64, 256]⟩
abbrev S1x16x256 : Shape := ⟨3, ![1, 16, 256]⟩
abbrev S1x8x64x256 : Shape := ⟨4, ![1, 8, 64, 256]⟩
abbrev S1x16x256x64 : Shape := ⟨4, ![1, 16, 256, 64]⟩
abbrev S1x2x16x256x64 : Shape := ⟨5, ![1, 2, 16, 256, 64]⟩
abbrev S1x2x16x64x256 : Shape := ⟨5, ![1, 2, 16, 64, 256]⟩
abbrev S17x256x256 : Shape := ⟨3, ![17, 256, 256]⟩
abbrev S1x256 : Shape := ⟨2, ![1, 256]⟩
abbrev S256x1 : Shape := ⟨2, ![256, 1]⟩
abbrev S1x1x256x64 : Shape := ⟨4, ![1, 1, 256, 64]⟩
abbrev S256x64 : Shape := ⟨2, ![256, 64]⟩
abbrev S256x256 : Shape := ⟨2, ![256, 256]⟩
abbrev S1x1x64x256 : Shape := ⟨4, ![1, 1, 64, 256]⟩
abbrev S64x256 : Shape := ⟨2, ![64, 256]⟩
abbrev S1x1x256 : Shape := ⟨3, ![1, 1, 256]⟩
abbrev S1x256x256 : Shape := ⟨3, ![1, 256, 256]⟩
abbrev S16x256 : Shape := ⟨2, ![16, 256]⟩
abbrev S16x16x256 : Shape := ⟨3, ![16, 16, 256]⟩
abbrev S256 : Shape := ⟨1, ![256]⟩
abbrev S8x256 : Shape := ⟨2, ![8, 256]⟩
abbrev S32x8x256 : Shape := ⟨3, ![32, 8, 256]⟩
abbrev S1 : Shape := ⟨1, ![1]⟩
abbrev S1x1x1 : Shape := ⟨3, ![1, 1, 1]⟩
abbrev S1x1x1x256x64 : Shape := ⟨5, ![1, 1, 1, 256, 64]⟩
abbrev S1x1x1x64x256 : Shape := ⟨5, ![1, 1, 1, 64, 256]⟩

abbrev nBuf : Space → Nat
  | .hbm => 7
  | .vmem => 17
  | .smem => 0
  | _ => 0

abbrev bufTy : (tb : Table) → Fin (tcTables nBuf tb) → BufTy
  | .hbm, ⟨0, _⟩ => ⟨S8x16x64x4096, .bf16⟩
  | .hbm, ⟨1, _⟩ => ⟨S8x16x4096, .f32⟩
  | .hbm, ⟨2, _⟩ => ⟨S8x8x64x4096, .bf16⟩
  | .hbm, ⟨3, _⟩ => ⟨S8x16x256x64, .bf16⟩
  | .hbm, ⟨4, _⟩ => ⟨S8x2x16x256x64, .bf16⟩
  | .hbm, ⟨5, _⟩ => ⟨S8x2x16x64x256, .bf16⟩
  | .hbm, ⟨6, _⟩ => ⟨S8x8x64x4096, .f32⟩
  | .local _ .vmem, ⟨0, _⟩ => ⟨S1x16x64x256, .bf16⟩
  | .local _ .vmem, ⟨1, _⟩ => ⟨S1x16x64x256, .bf16⟩
  | .local _ .vmem, ⟨2, _⟩ => ⟨S1x16x256, .f32⟩
  | .local _ .vmem, ⟨3, _⟩ => ⟨S1x16x256, .f32⟩
  | .local _ .vmem, ⟨4, _⟩ => ⟨S1x8x64x256, .bf16⟩
  | .local _ .vmem, ⟨5, _⟩ => ⟨S1x8x64x256, .bf16⟩
  | .local _ .vmem, ⟨6, _⟩ => ⟨S1x16x256x64, .bf16⟩
  | .local _ .vmem, ⟨7, _⟩ => ⟨S1x16x256x64, .bf16⟩
  | .local _ .vmem, ⟨8, _⟩ => ⟨S1x2x16x256x64, .bf16⟩
  | .local _ .vmem, ⟨9, _⟩ => ⟨S1x2x16x256x64, .bf16⟩
  | .local _ .vmem, ⟨10, _⟩ => ⟨S1x2x16x64x256, .bf16⟩
  | .local _ .vmem, ⟨11, _⟩ => ⟨S1x2x16x64x256, .bf16⟩
  | .local _ .vmem, ⟨12, _⟩ => ⟨S1x8x64x256, .f32⟩
  | .local _ .vmem, ⟨13, _⟩ => ⟨S1x8x64x256, .f32⟩
  | .local _ .vmem, ⟨14, _⟩ => ⟨S17x256x256, .i32⟩
  | .local _ .vmem, ⟨15, _⟩ => ⟨S17x256x256, .i16⟩
  | .local _ .vmem, ⟨16, _⟩ => ⟨S17x256x256, .i16⟩
  | _, _ => ⟨S8x16x64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 16], ![false, false]⟩

@[reducible] def k0_t1_loop (i : grid0.Coords) : Scf.Loop 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_2 : BitVec 32 := 1#32
  ⟨c0_i32_0, v10, c1_i32_2⟩
def k0_off1 (i : grid0.Coords) (k0_t1 : Fin (k0_t1_loop i).trips) : Fin 4 → Nat :=
  let c0_129 : Index := 0#32
  let c0_i32_0 : BitVec 32 := 0#32
  let c1_i32_2 : BitVec 32 := 1#32
  let arg12 : BitVec 32 := Scf.iv c0_i32_0 c1_i32_2 k0_t1
  let v221 : Index := Scalar.indexCast arg12
  let c0_130 : Index := 0#32
  let c0_131 : Index := 0#32
  ![0, v221.toNat, 0, 0]
def k0_off2 (i : grid0.Coords) (k0_t1 : Fin (k0_t1_loop i).trips) : Fin 3 → Nat :=
  let c0_i32_0 : BitVec 32 := 0#32
  let c1_i32_2 : BitVec 32 := 1#32
  let arg12 : BitVec 32 := Scf.iv c0_i32_0 c1_i32_2 k0_t1
  let v401 : Index := Scalar.indexCast arg12
  let c0_273 : Index := 0#32
  let c0_274 : Index := 0#32
  ![v401.toNat, 0, 0]
@[reducible] def k0_t2_loop (i : grid0.Coords) : Scf.Loop 32 :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let v7 : BitVec 32 := Scalar.addi c0_i32_0 v6
  let c1_i32_3 : BitVec 32 := 1#32
  ⟨v10, v7, c1_i32_3⟩
def k0_off3 (i : grid0.Coords) (k0_t2 : Fin (k0_t2_loop i).trips) : Fin 4 → Nat :=
  let c0_129 : Index := 0#32
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg12 : BitVec 32 := Scf.iv v10 c1_i32_3 k0_t2
  let v221 : Index := Scalar.indexCast arg12
  let c0_130 : Index := 0#32
  let c0_131 : Index := 0#32
  ![0, v221.toNat, 0, 0]
def k0_off4 (i : grid0.Coords) (k0_t2 : Fin (k0_t2_loop i).trips) : Fin 3 → Nat :=
  let c0_i32_0 : BitVec 32 := 0#32
  let arg1 : BitVec 32 := BitVec.ofNat 32 (i 1).val
  let c1_i32 : BitVec 32 := 1#32
  let v0 : BitVec 32 := Scalar.addi arg1 c1_i32
  let v6 : BitVec 32 := Scalar.subi v0 c0_i32_0
  let c1_i32_1 : BitVec 32 := 1#32
  let v8 : BitVec 32 := Scalar.divsi v6 c1_i32_1
  let v9 : BitVec 32 := Scalar.muli v8 c1_i32_1
  let v10 : BitVec 32 := Scalar.addi c0_i32_0 v9
  let c1_i32_3 : BitVec 32 := 1#32
  let arg12 : BitVec 32 := Scf.iv v10 c1_i32_3 k0_t2
  let v401 : Index := Scalar.indexCast arg12
  let c0_273 : Index := 0#32
  let c0_274 : Index := 0#32
  ![v401.toNat, 0, 0]
def k0_off5 (i : grid0.Coords) : Fin 3 → Nat :=
  let arg1 : BitVec 32 := BitVec.ofNat 32 (i 1).val
  let c1_i32 : BitVec 32 := 1#32
  let v0 : BitVec 32 := Scalar.addi arg1 c1_i32
  let v12 : Index := Scalar.indexCast v0
  let c0 : Index := 0#32
  let c0_4 : Index := 0#32
  ![v12.toNat, 0, 0]
@[reducible] def k0_t3_loop : Scf.Loop 32 :=
  let c0_i32_12 : BitVec 32 := 0#32
  let c16_i32 : BitVec 32 := 16#32
  let v28 : BitVec 32 := Scalar.addi c0_i32_12 c16_i32
  let c1_i32_13 : BitVec 32 := 1#32
  ⟨c0_i32_12, v28, c1_i32_13⟩
@[reducible] def k0_t4_loop (i : grid0.Coords) : Scf.Loop 32 :=
  let c0_i32_140 : BitVec 32 := 0#32
  let arg1 : BitVec 32 := BitVec.ofNat 32 (i 1).val
  let c1_i32 : BitVec 32 := 1#32
  let v0 : BitVec 32 := Scalar.addi arg1 c1_i32
  let c1_i32_131 : BitVec 32 := 1#32
  let v228 : BitVec 32 := Scalar.addi v0 c1_i32_131
  let c0_i32_133 : BitVec 32 := 0#32
  let v230 : BitVec 1 := Scalar.cmpi .sgt v228 c0_i32_133
  let v231 : BitVec 32 := Scalar.extui v230
  let c0_i32_134 : BitVec 32 := 0#32
  let v232 : BitVec 1 := Scalar.cmpi .slt v228 c0_i32_134
  let v233 : BitVec 32 := Scalar.extui v232
  let v234 : BitVec 32 := Scalar.subi v231 v233
  let c2_i32_132 : BitVec 32 := 2#32
  let c0_i32_135 : BitVec 32 := 0#32
  let v235 : BitVec 1 := Scalar.cmpi .sgt c2_i32_132 c0_i32_135
  let v236 : BitVec 32 := Scalar.extui v235
  let c0_i32_136 : BitVec 32 := 0#32
  let v237 : BitVec 1 := Scalar.cmpi .slt c2_i32_132 c0_i32_136
  let v238 : BitVec 32 := Scalar.extui v237
  let v239 : BitVec 32 := Scalar.subi v236 v238
  let v240 : BitVec 1 := Scalar.cmpi .ne v234 v239
  let v241 : BitVec 32 := Scalar.remsi v228 c2_i32_132
  let c0_i32_137 : BitVec 32 := 0#32
  let v242 : BitVec 1 := Scalar.cmpi .ne v241 c0_i32_137
  let v243 : BitVec 1 := Scalar.andi v240 v242
  let v229 : BitVec 32 := Scalar.divsi v228 c2_i32_132
  let c1_i32_138 : BitVec 32 := 1#32
  let v244 : BitVec 32 := Scalar.subi v229 c1_i32_138
  let v245 : BitVec 32 := Scalar.select v243 v244 v229
  let v247 : BitVec 32 := Scalar.subi v245 c0_i32_140
  let c1_i32_141 : BitVec 32 := 1#32
  let v249 : BitVec 32 := Scalar.divsi v247 c1_i32_141
  let v250 : BitVec 32 := Scalar.muli v249 c1_i32_141
  let v251 : BitVec 32 := Scalar.addi c0_i32_140 v250
  let c1_i32_142 : BitVec 32 := 1#32
  ⟨c0_i32_140, v251, c1_i32_142⟩
def k0_off6 (i : grid0.Coords) (k0_t4 : Fin (k0_t4_loop i).trips) : Fin 3 → Nat :=
  let c2_i32_145 : BitVec 32 := 2#32
  let c0_i32_140 : BitVec 32 := 0#32
  let c1_i32_142 : BitVec 32 := 1#32
  let arg14 : BitVec 32 := Scf.iv c0_i32_140 c1_i32_142 k0_t4
  let v260 : BitVec 32 := Scalar.muli c2_i32_145 arg14
  let v263 : Index := Scalar.indexCast v260
  let c0_148 : Index := 0#32
  let c0_149 : Index := 0#32
  ![v263.toNat, 0, 0]
def k0_off7 (i : grid0.Coords) (k0_t4 : Fin (k0_t4_loop i).trips) : Fin 3 → Nat :=
  let c2_i32_146 : BitVec 32 := 2#32
  let c0_i32_140 : BitVec 32 := 0#32
  let c1_i32_142 : BitVec 32 := 1#32
  let arg14 : BitVec 32 := Scf.iv c0_i32_140 c1_i32_142 k0_t4
  let v261 : BitVec 32 := Scalar.muli c2_i32_146 arg14
  let c1_i32_147 : BitVec 32 := 1#32
  let v262 : BitVec 32 := Scalar.addi v261 c1_i32_147
  let v321 : Index := Scalar.indexCast v262
  let c0_152 : Index := 0#32
  let c0_153 : Index := 0#32
  ![v321.toNat, 0, 0]
@[reducible] def k0_t5_loop (i : grid0.Coords) : Scf.Loop 32 :=
  let c0_i32_140 : BitVec 32 := 0#32
  let arg1 : BitVec 32 := BitVec.ofNat 32 (i 1).val
  let c1_i32 : BitVec 32 := 1#32
  let v0 : BitVec 32 := Scalar.addi arg1 c1_i32
  let c1_i32_131 : BitVec 32 := 1#32
  let v228 : BitVec 32 := Scalar.addi v0 c1_i32_131
  let c0_i32_133 : BitVec 32 := 0#32
  let v230 : BitVec 1 := Scalar.cmpi .sgt v228 c0_i32_133
  let v231 : BitVec 32 := Scalar.extui v230
  let c0_i32_134 : BitVec 32 := 0#32
  let v232 : BitVec 1 := Scalar.cmpi .slt v228 c0_i32_134
  let v233 : BitVec 32 := Scalar.extui v232
  let v234 : BitVec 32 := Scalar.subi v231 v233
  let c2_i32_132 : BitVec 32 := 2#32
  let c0_i32_135 : BitVec 32 := 0#32
  let v235 : BitVec 1 := Scalar.cmpi .sgt c2_i32_132 c0_i32_135
  let v236 : BitVec 32 := Scalar.extui v235
  let c0_i32_136 : BitVec 32 := 0#32
  let v237 : BitVec 1 := Scalar.cmpi .slt c2_i32_132 c0_i32_136
  let v238 : BitVec 32 := Scalar.extui v237
  let v239 : BitVec 32 := Scalar.subi v236 v238
  let v240 : BitVec 1 := Scalar.cmpi .ne v234 v239
  let v241 : BitVec 32 := Scalar.remsi v228 c2_i32_132
  let c0_i32_137 : BitVec 32 := 0#32
  let v242 : BitVec 1 := Scalar.cmpi .ne v241 c0_i32_137
  let v243 : BitVec 1 := Scalar.andi v240 v242
  let v229 : BitVec 32 := Scalar.divsi v228 c2_i32_132
  let c1_i32_138 : BitVec 32 := 1#32
  let v244 : BitVec 32 := Scalar.subi v229 c1_i32_138
  let v245 : BitVec 32 := Scalar.select v243 v244 v229
  let v247 : BitVec 32 := Scalar.subi v245 c0_i32_140
  let c1_i32_141 : BitVec 32 := 1#32
  let v249 : BitVec 32 := Scalar.divsi v247 c1_i32_141
  let v250 : BitVec 32 := Scalar.muli v249 c1_i32_141
  let v251 : BitVec 32 := Scalar.addi c0_i32_140 v250
  let v248 : BitVec 32 := Scalar.addi c0_i32_140 v247
  let c1_i32_143 : BitVec 32 := 1#32
  ⟨v251, v248, c1_i32_143⟩
def k0_off8 (i : grid0.Coords) (k0_t5 : Fin (k0_t5_loop i).trips) : Fin 3 → Nat :=
  let c2_i32_145 : BitVec 32 := 2#32
  let c0_i32_140 : BitVec 32 := 0#32
  let arg1 : BitVec 32 := BitVec.ofNat 32 (i 1).val
  let c1_i32 : BitVec 32 := 1#32
  let v0 : BitVec 32 := Scalar.addi arg1 c1_i32
  let c1_i32_131 : BitVec 32 := 1#32
  let v228 : BitVec 32 := Scalar.addi v0 c1_i32_131
  let c0_i32_133 : BitVec 32 := 0#32
  let v230 : BitVec 1 := Scalar.cmpi .sgt v228 c0_i32_133
  let v231 : BitVec 32 := Scalar.extui v230
  let c0_i32_134 : BitVec 32 := 0#32
  let v232 : BitVec 1 := Scalar.cmpi .slt v228 c0_i32_134
  let v233 : BitVec 32 := Scalar.extui v232
  let v234 : BitVec 32 := Scalar.subi v231 v233
  let c2_i32_132 : BitVec 32 := 2#32
  let c0_i32_135 : BitVec 32 := 0#32
  let v235 : BitVec 1 := Scalar.cmpi .sgt c2_i32_132 c0_i32_135
  let v236 : BitVec 32 := Scalar.extui v235
  let c0_i32_136 : BitVec 32 := 0#32
  let v237 : BitVec 1 := Scalar.cmpi .slt c2_i32_132 c0_i32_136
  let v238 : BitVec 32 := Scalar.extui v237
  let v239 : BitVec 32 := Scalar.subi v236 v238
  let v240 : BitVec 1 := Scalar.cmpi .ne v234 v239
  let v241 : BitVec 32 := Scalar.remsi v228 c2_i32_132
  let c0_i32_137 : BitVec 32 := 0#32
  let v242 : BitVec 1 := Scalar.cmpi .ne v241 c0_i32_137
  let v243 : BitVec 1 := Scalar.andi v240 v242
  let v229 : BitVec 32 := Scalar.divsi v228 c2_i32_132
  let c1_i32_138 : BitVec 32 := 1#32
  let v244 : BitVec 32 := Scalar.subi v229 c1_i32_138
  let v245 : BitVec 32 := Scalar.select v243 v244 v229
  let v247 : BitVec 32 := Scalar.subi v245 c0_i32_140
  let c1_i32_141 : BitVec 32 := 1#32
  let v249 : BitVec 32 := Scalar.divsi v247 c1_i32_141
  let v250 : BitVec 32 := Scalar.muli v249 c1_i32_141
  let v251 : BitVec 32 := Scalar.addi c0_i32_140 v250
  let c1_i32_143 : BitVec 32 := 1#32
  let arg14 : BitVec 32 := Scf.iv v251 c1_i32_143 k0_t5
  let v260 : BitVec 32 := Scalar.muli c2_i32_145 arg14
  let v263 : Index := Scalar.indexCast v260
  let c0_148 : Index := 0#32
  let c0_149 : Index := 0#32
  ![v263.toNat, 0, 0]
def k0_off9 (i : grid0.Coords) (k0_t5 : Fin (k0_t5_loop i).trips) : Fin 3 → Nat :=
  let c2_i32_146 : BitVec 32 := 2#32
  let c0_i32_140 : BitVec 32 := 0#32
  let arg1 : BitVec 32 := BitVec.ofNat 32 (i 1).val
  let c1_i32 : BitVec 32 := 1#32
  let v0 : BitVec 32 := Scalar.addi arg1 c1_i32
  let c1_i32_131 : BitVec 32 := 1#32
  let v228 : BitVec 32 := Scalar.addi v0 c1_i32_131
  let c0_i32_133 : BitVec 32 := 0#32
  let v230 : BitVec 1 := Scalar.cmpi .sgt v228 c0_i32_133
  let v231 : BitVec 32 := Scalar.extui v230
  let c0_i32_134 : BitVec 32 := 0#32
  let v232 : BitVec 1 := Scalar.cmpi .slt v228 c0_i32_134
  let v233 : BitVec 32 := Scalar.extui v232
  let v234 : BitVec 32 := Scalar.subi v231 v233
  let c2_i32_132 : BitVec 32 := 2#32
  let c0_i32_135 : BitVec 32 := 0#32
  let v235 : BitVec 1 := Scalar.cmpi .sgt c2_i32_132 c0_i32_135
  let v236 : BitVec 32 := Scalar.extui v235
  let c0_i32_136 : BitVec 32 := 0#32
  let v237 : BitVec 1 := Scalar.cmpi .slt c2_i32_132 c0_i32_136
  let v238 : BitVec 32 := Scalar.extui v237
  let v239 : BitVec 32 := Scalar.subi v236 v238
  let v240 : BitVec 1 := Scalar.cmpi .ne v234 v239
  let v241 : BitVec 32 := Scalar.remsi v228 c2_i32_132
  let c0_i32_137 : BitVec 32 := 0#32
  let v242 : BitVec 1 := Scalar.cmpi .ne v241 c0_i32_137
  let v243 : BitVec 1 := Scalar.andi v240 v242
  let v229 : BitVec 32 := Scalar.divsi v228 c2_i32_132
  let c1_i32_138 : BitVec 32 := 1#32
  let v244 : BitVec 32 := Scalar.subi v229 c1_i32_138
  let v245 : BitVec 32 := Scalar.select v243 v244 v229
  let v247 : BitVec 32 := Scalar.subi v245 c0_i32_140
  let c1_i32_141 : BitVec 32 := 1#32
  let v249 : BitVec 32 := Scalar.divsi v247 c1_i32_141
  let v250 : BitVec 32 := Scalar.muli v249 c1_i32_141
  let v251 : BitVec 32 := Scalar.addi c0_i32_140 v250
  let c1_i32_143 : BitVec 32 := 1#32
  let arg14 : BitVec 32 := Scf.iv v251 c1_i32_143 k0_t5
  let v261 : BitVec 32 := Scalar.muli c2_i32_146 arg14
  let c1_i32_147 : BitVec 32 := 1#32
  let v262 : BitVec 32 := Scalar.addi v261 c1_i32_147
  let v321 : Index := Scalar.indexCast v262
  let c0_152 : Index := 0#32
  let c0_153 : Index := 0#32
  ![v321.toNat, 0, 0]
@[reducible] def k0_t6_loop (i : grid0.Coords) : Scf.Loop 32 :=
  let c0_i32_23 : BitVec 32 := 0#32
  let arg1 : BitVec 32 := BitVec.ofNat 32 (i 1).val
  let c1_i32 : BitVec 32 := 1#32
  let v0 : BitVec 32 := Scalar.addi arg1 c1_i32
  let c1_i32_15 : BitVec 32 := 1#32
  let v33 : BitVec 32 := Scalar.addi v0 c1_i32_15
  let c0_i32_16 : BitVec 32 := 0#32
  let v35 : BitVec 1 := Scalar.cmpi .sgt v33 c0_i32_16
  let v36 : BitVec 32 := Scalar.extui v35
  let c0_i32_17 : BitVec 32 := 0#32
  let v37 : BitVec 1 := Scalar.cmpi .slt v33 c0_i32_17
  let v38 : BitVec 32 := Scalar.extui v37
  let v39 : BitVec 32 := Scalar.subi v36 v38
  let c2_i32 : BitVec 32 := 2#32
  let c0_i32_18 : BitVec 32 := 0#32
  let v40 : BitVec 1 := Scalar.cmpi .sgt c2_i32 c0_i32_18
  let v41 : BitVec 32 := Scalar.extui v40
  let c0_i32_19 : BitVec 32 := 0#32
  let v42 : BitVec 1 := Scalar.cmpi .slt c2_i32 c0_i32_19
  let v43 : BitVec 32 := Scalar.extui v42
  let v44 : BitVec 32 := Scalar.subi v41 v43
  let v45 : BitVec 1 := Scalar.cmpi .ne v39 v44
  let v46 : BitVec 32 := Scalar.remsi v33 c2_i32
  let c0_i32_20 : BitVec 32 := 0#32
  let v47 : BitVec 1 := Scalar.cmpi .ne v46 c0_i32_20
  let v48 : BitVec 1 := Scalar.andi v45 v47
  let v34 : BitVec 32 := Scalar.divsi v33 c2_i32
  let c1_i32_21 : BitVec 32 := 1#32
  let v49 : BitVec 32 := Scalar.subi v34 c1_i32_21
  let v50 : BitVec 32 := Scalar.select v48 v49 v34
  let v52 : BitVec 32 := Scalar.subi v50 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_25 : BitVec 32 := 1#32
  ⟨c0_i32_23, v56, c1_i32_25⟩
def k0_off10 (i : grid0.Coords) (k0_t6 : Fin (k0_t6_loop i).trips) : Fin 3 → Nat :=
  let c2_i32_129 : BitVec 32 := 2#32
  let c0_i32_23 : BitVec 32 := 0#32
  let c1_i32_25 : BitVec 32 := 1#32
  let arg12 : BitVec 32 := Scf.iv c0_i32_23 c1_i32_25 k0_t6
  let v221 : BitVec 32 := Scalar.muli c2_i32_129 arg12
  let v224 : Index := Scalar.indexCast v221
  let c0_132 : Index := 0#32
  let c0_133 : Index := 0#32
  ![v224.toNat, 0, 0]
def k0_off11 (i : grid0.Coords) (k0_t6 : Fin (k0_t6_loop i).trips) : Fin 3 → Nat :=
  let c2_i32_130 : BitVec 32 := 2#32
  let c0_i32_23 : BitVec 32 := 0#32
  let c1_i32_25 : BitVec 32 := 1#32
  let arg12 : BitVec 32 := Scf.iv c0_i32_23 c1_i32_25 k0_t6
  let v222 : BitVec 32 := Scalar.muli c2_i32_130 arg12
  let c1_i32_131 : BitVec 32 := 1#32
  let v223 : BitVec 32 := Scalar.addi v222 c1_i32_131
  let v282 : Index := Scalar.indexCast v223
  let c0_136 : Index := 0#32
  let c0_137 : Index := 0#32
  ![v282.toNat, 0, 0]
@[reducible] def k0_t7_loop (i : grid0.Coords) : Scf.Loop 32 :=
  let c0_i32_23 : BitVec 32 := 0#32
  let arg1 : BitVec 32 := BitVec.ofNat 32 (i 1).val
  let c1_i32 : BitVec 32 := 1#32
  let v0 : BitVec 32 := Scalar.addi arg1 c1_i32
  let c1_i32_15 : BitVec 32 := 1#32
  let v33 : BitVec 32 := Scalar.addi v0 c1_i32_15
  let c0_i32_16 : BitVec 32 := 0#32
  let v35 : BitVec 1 := Scalar.cmpi .sgt v33 c0_i32_16
  let v36 : BitVec 32 := Scalar.extui v35
  let c0_i32_17 : BitVec 32 := 0#32
  let v37 : BitVec 1 := Scalar.cmpi .slt v33 c0_i32_17
  let v38 : BitVec 32 := Scalar.extui v37
  let v39 : BitVec 32 := Scalar.subi v36 v38
  let c2_i32 : BitVec 32 := 2#32
  let c0_i32_18 : BitVec 32 := 0#32
  let v40 : BitVec 1 := Scalar.cmpi .sgt c2_i32 c0_i32_18
  let v41 : BitVec 32 := Scalar.extui v40
  let c0_i32_19 : BitVec 32 := 0#32
  let v42 : BitVec 1 := Scalar.cmpi .slt c2_i32 c0_i32_19
  let v43 : BitVec 32 := Scalar.extui v42
  let v44 : BitVec 32 := Scalar.subi v41 v43
  let v45 : BitVec 1 := Scalar.cmpi .ne v39 v44
  let v46 : BitVec 32 := Scalar.remsi v33 c2_i32
  let c0_i32_20 : BitVec 32 := 0#32
  let v47 : BitVec 1 := Scalar.cmpi .ne v46 c0_i32_20
  let v48 : BitVec 1 := Scalar.andi v45 v47
  let v34 : BitVec 32 := Scalar.divsi v33 c2_i32
  let c1_i32_21 : BitVec 32 := 1#32
  let v49 : BitVec 32 := Scalar.subi v34 c1_i32_21
  let v50 : BitVec 32 := Scalar.select v48 v49 v34
  let v52 : BitVec 32 := Scalar.subi v50 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let v53 : BitVec 32 := Scalar.addi c0_i32_23 v52
  let c1_i32_26 : BitVec 32 := 1#32
  ⟨v56, v53, c1_i32_26⟩
def k0_off12 (i : grid0.Coords) (k0_t7 : Fin (k0_t7_loop i).trips) : Fin 3 → Nat :=
  let c2_i32_129 : BitVec 32 := 2#32
  let c0_i32_23 : BitVec 32 := 0#32
  let arg1 : BitVec 32 := BitVec.ofNat 32 (i 1).val
  let c1_i32 : BitVec 32 := 1#32
  let v0 : BitVec 32 := Scalar.addi arg1 c1_i32
  let c1_i32_15 : BitVec 32 := 1#32
  let v33 : BitVec 32 := Scalar.addi v0 c1_i32_15
  let c0_i32_16 : BitVec 32 := 0#32
  let v35 : BitVec 1 := Scalar.cmpi .sgt v33 c0_i32_16
  let v36 : BitVec 32 := Scalar.extui v35
  let c0_i32_17 : BitVec 32 := 0#32
  let v37 : BitVec 1 := Scalar.cmpi .slt v33 c0_i32_17
  let v38 : BitVec 32 := Scalar.extui v37
  let v39 : BitVec 32 := Scalar.subi v36 v38
  let c2_i32 : BitVec 32 := 2#32
  let c0_i32_18 : BitVec 32 := 0#32
  let v40 : BitVec 1 := Scalar.cmpi .sgt c2_i32 c0_i32_18
  let v41 : BitVec 32 := Scalar.extui v40
  let c0_i32_19 : BitVec 32 := 0#32
  let v42 : BitVec 1 := Scalar.cmpi .slt c2_i32 c0_i32_19
  let v43 : BitVec 32 := Scalar.extui v42
  let v44 : BitVec 32 := Scalar.subi v41 v43
  let v45 : BitVec 1 := Scalar.cmpi .ne v39 v44
  let v46 : BitVec 32 := Scalar.remsi v33 c2_i32
  let c0_i32_20 : BitVec 32 := 0#32
  let v47 : BitVec 1 := Scalar.cmpi .ne v46 c0_i32_20
  let v48 : BitVec 1 := Scalar.andi v45 v47
  let v34 : BitVec 32 := Scalar.divsi v33 c2_i32
  let c1_i32_21 : BitVec 32 := 1#32
  let v49 : BitVec 32 := Scalar.subi v34 c1_i32_21
  let v50 : BitVec 32 := Scalar.select v48 v49 v34
  let v52 : BitVec 32 := Scalar.subi v50 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg12 : BitVec 32 := Scf.iv v56 c1_i32_26 k0_t7
  let v221 : BitVec 32 := Scalar.muli c2_i32_129 arg12
  let v224 : Index := Scalar.indexCast v221
  let c0_132 : Index := 0#32
  let c0_133 : Index := 0#32
  ![v224.toNat, 0, 0]
def k0_off13 (i : grid0.Coords) (k0_t7 : Fin (k0_t7_loop i).trips) : Fin 3 → Nat :=
  let c2_i32_130 : BitVec 32 := 2#32
  let c0_i32_23 : BitVec 32 := 0#32
  let arg1 : BitVec 32 := BitVec.ofNat 32 (i 1).val
  let c1_i32 : BitVec 32 := 1#32
  let v0 : BitVec 32 := Scalar.addi arg1 c1_i32
  let c1_i32_15 : BitVec 32 := 1#32
  let v33 : BitVec 32 := Scalar.addi v0 c1_i32_15
  let c0_i32_16 : BitVec 32 := 0#32
  let v35 : BitVec 1 := Scalar.cmpi .sgt v33 c0_i32_16
  let v36 : BitVec 32 := Scalar.extui v35
  let c0_i32_17 : BitVec 32 := 0#32
  let v37 : BitVec 1 := Scalar.cmpi .slt v33 c0_i32_17
  let v38 : BitVec 32 := Scalar.extui v37
  let v39 : BitVec 32 := Scalar.subi v36 v38
  let c2_i32 : BitVec 32 := 2#32
  let c0_i32_18 : BitVec 32 := 0#32
  let v40 : BitVec 1 := Scalar.cmpi .sgt c2_i32 c0_i32_18
  let v41 : BitVec 32 := Scalar.extui v40
  let c0_i32_19 : BitVec 32 := 0#32
  let v42 : BitVec 1 := Scalar.cmpi .slt c2_i32 c0_i32_19
  let v43 : BitVec 32 := Scalar.extui v42
  let v44 : BitVec 32 := Scalar.subi v41 v43
  let v45 : BitVec 1 := Scalar.cmpi .ne v39 v44
  let v46 : BitVec 32 := Scalar.remsi v33 c2_i32
  let c0_i32_20 : BitVec 32 := 0#32
  let v47 : BitVec 1 := Scalar.cmpi .ne v46 c0_i32_20
  let v48 : BitVec 1 := Scalar.andi v45 v47
  let v34 : BitVec 32 := Scalar.divsi v33 c2_i32
  let c1_i32_21 : BitVec 32 := 1#32
  let v49 : BitVec 32 := Scalar.subi v34 c1_i32_21
  let v50 : BitVec 32 := Scalar.select v48 v49 v34
  let v52 : BitVec 32 := Scalar.subi v50 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg12 : BitVec 32 := Scf.iv v56 c1_i32_26 k0_t7
  let v222 : BitVec 32 := Scalar.muli c2_i32_130 arg12
  let c1_i32_131 : BitVec 32 := 1#32
  let v223 : BitVec 32 := Scalar.addi v222 c1_i32_131
  let v282 : Index := Scalar.indexCast v223
  let c0_136 : Index := 0#32
  let c0_137 : Index := 0#32
  ![v282.toNat, 0, 0]
@[reducible] def k0_t8_loop (i : grid0.Coords) : Scf.Loop 32 :=
  let c0_i32_29 : BitVec 32 := 0#32
  let arg1 : BitVec 32 := BitVec.ofNat 32 (i 1).val
  let c1_i32 : BitVec 32 := 1#32
  let v0 : BitVec 32 := Scalar.addi arg1 c1_i32
  let v61 : BitVec 32 := Scalar.subi v0 c0_i32_29
  let c1_i32_30 : BitVec 32 := 1#32
  let v63 : BitVec 32 := Scalar.divsi v61 c1_i32_30
  let v64 : BitVec 32 := Scalar.muli v63 c1_i32_30
  let v65 : BitVec 32 := Scalar.addi c0_i32_29 v64
  let c1_i32_31 : BitVec 32 := 1#32
  ⟨c0_i32_29, v65, c1_i32_31⟩
def k0_off14 (i : grid0.Coords) (k0_t8 : Fin (k0_t8_loop i).trips) : Fin 3 → Nat :=
  let c0_i32_29 : BitVec 32 := 0#32
  let c1_i32_31 : BitVec 32 := 1#32
  let arg12 : BitVec 32 := Scf.iv c0_i32_29 c1_i32_31 k0_t8
  let v221 : Index := Scalar.indexCast arg12
  let c0_129 : Index := 0#32
  let c0_130 : Index := 0#32
  ![v221.toNat, 0, 0]
@[reducible] def k0_t9_loop (i : grid0.Coords) : Scf.Loop 32 :=
  let c0_i32_29 : BitVec 32 := 0#32
  let arg1 : BitVec 32 := BitVec.ofNat 32 (i 1).val
  let c1_i32 : BitVec 32 := 1#32
  let v0 : BitVec 32 := Scalar.addi arg1 c1_i32
  let v61 : BitVec 32 := Scalar.subi v0 c0_i32_29
  let c1_i32_30 : BitVec 32 := 1#32
  let v63 : BitVec 32 := Scalar.divsi v61 c1_i32_30
  let v64 : BitVec 32 := Scalar.muli v63 c1_i32_30
  let v65 : BitVec 32 := Scalar.addi c0_i32_29 v64
  let v62 : BitVec 32 := Scalar.addi c0_i32_29 v61
  let c1_i32_32 : BitVec 32 := 1#32
  ⟨v65, v62, c1_i32_32⟩
def k0_off15 (i : grid0.Coords) (k0_t9 : Fin (k0_t9_loop i).trips) : Fin 3 → Nat :=
  let c0_i32_29 : BitVec 32 := 0#32
  let arg1 : BitVec 32 := BitVec.ofNat 32 (i 1).val
  let c1_i32 : BitVec 32 := 1#32
  let v0 : BitVec 32 := Scalar.addi arg1 c1_i32
  let v61 : BitVec 32 := Scalar.subi v0 c0_i32_29
  let c1_i32_30 : BitVec 32 := 1#32
  let v63 : BitVec 32 := Scalar.divsi v61 c1_i32_30
  let v64 : BitVec 32 := Scalar.muli v63 c1_i32_30
  let v65 : BitVec 32 := Scalar.addi c0_i32_29 v64
  let c1_i32_32 : BitVec 32 := 1#32
  let arg12 : BitVec 32 := Scf.iv v65 c1_i32_32 k0_t9
  let v221 : Index := Scalar.indexCast arg12
  let c0_129 : Index := 0#32
  let c0_130 : Index := 0#32
  ![v221.toNat, 0, 0]
@[reducible] def k0_t10_loop : Scf.Loop 32 :=
  let c0_i32_35 : BitVec 32 := 0#32
  let c16_i32_36 : BitVec 32 := 16#32
  let v67 : BitVec 32 := Scalar.addi c0_i32_35 c16_i32_36
  let c1_i32_37 : BitVec 32 := 1#32
  ⟨c0_i32_35, v67, c1_i32_37⟩
@[reducible] def k0_t11_loop (i : grid0.Coords) : Scf.Loop 32 :=
  let c0_i32_140 : BitVec 32 := 0#32
  let arg1 : BitVec 32 := BitVec.ofNat 32 (i 1).val
  let c1_i32 : BitVec 32 := 1#32
  let v0 : BitVec 32 := Scalar.addi arg1 c1_i32
  let c1_i32_131 : BitVec 32 := 1#32
  let v228 : BitVec 32 := Scalar.addi v0 c1_i32_131
  let c0_i32_133 : BitVec 32 := 0#32
  let v230 : BitVec 1 := Scalar.cmpi .sgt v228 c0_i32_133
  let v231 : BitVec 32 := Scalar.extui v230
  let c0_i32_134 : BitVec 32 := 0#32
  let v232 : BitVec 1 := Scalar.cmpi .slt v228 c0_i32_134
  let v233 : BitVec 32 := Scalar.extui v232
  let v234 : BitVec 32 := Scalar.subi v231 v233
  let c2_i32_132 : BitVec 32 := 2#32
  let c0_i32_135 : BitVec 32 := 0#32
  let v235 : BitVec 1 := Scalar.cmpi .sgt c2_i32_132 c0_i32_135
  let v236 : BitVec 32 := Scalar.extui v235
  let c0_i32_136 : BitVec 32 := 0#32
  let v237 : BitVec 1 := Scalar.cmpi .slt c2_i32_132 c0_i32_136
  let v238 : BitVec 32 := Scalar.extui v237
  let v239 : BitVec 32 := Scalar.subi v236 v238
  let v240 : BitVec 1 := Scalar.cmpi .ne v234 v239
  let v241 : BitVec 32 := Scalar.remsi v228 c2_i32_132
  let c0_i32_137 : BitVec 32 := 0#32
  let v242 : BitVec 1 := Scalar.cmpi .ne v241 c0_i32_137
  let v243 : BitVec 1 := Scalar.andi v240 v242
  let v229 : BitVec 32 := Scalar.divsi v228 c2_i32_132
  let c1_i32_138 : BitVec 32 := 1#32
  let v244 : BitVec 32 := Scalar.subi v229 c1_i32_138
  let v245 : BitVec 32 := Scalar.select v243 v244 v229
  let v247 : BitVec 32 := Scalar.subi v245 c0_i32_140
  let c1_i32_141 : BitVec 32 := 1#32
  let v249 : BitVec 32 := Scalar.divsi v247 c1_i32_141
  let v250 : BitVec 32 := Scalar.muli v249 c1_i32_141
  let v251 : BitVec 32 := Scalar.addi c0_i32_140 v250
  let c1_i32_142 : BitVec 32 := 1#32
  ⟨c0_i32_140, v251, c1_i32_142⟩
def k0_off16 (i : grid0.Coords) (k0_t11 : Fin (k0_t11_loop i).trips) : Fin 3 → Nat :=
  let c2_i32_145 : BitVec 32 := 2#32
  let c0_i32_140 : BitVec 32 := 0#32
  let c1_i32_142 : BitVec 32 := 1#32
  let arg14 : BitVec 32 := Scf.iv c0_i32_140 c1_i32_142 k0_t11
  let v260 : BitVec 32 := Scalar.muli c2_i32_145 arg14
  let v263 : Index := Scalar.indexCast v260
  let c0_148 : Index := 0#32
  let c0_149 : Index := 0#32
  ![v263.toNat, 0, 0]
def k0_off17 (i : grid0.Coords) (k0_t11 : Fin (k0_t11_loop i).trips) : Fin 3 → Nat :=
  let c2_i32_146 : BitVec 32 := 2#32
  let c0_i32_140 : BitVec 32 := 0#32
  let c1_i32_142 : BitVec 32 := 1#32
  let arg14 : BitVec 32 := Scf.iv c0_i32_140 c1_i32_142 k0_t11
  let v261 : BitVec 32 := Scalar.muli c2_i32_146 arg14
  let c1_i32_147 : BitVec 32 := 1#32
  let v262 : BitVec 32 := Scalar.addi v261 c1_i32_147
  let v321 : Index := Scalar.indexCast v262
  let c0_152 : Index := 0#32
  let c0_153 : Index := 0#32
  ![v321.toNat, 0, 0]
@[reducible] def k0_t12_loop (i : grid0.Coords) : Scf.Loop 32 :=
  let c0_i32_140 : BitVec 32 := 0#32
  let arg1 : BitVec 32 := BitVec.ofNat 32 (i 1).val
  let c1_i32 : BitVec 32 := 1#32
  let v0 : BitVec 32 := Scalar.addi arg1 c1_i32
  let c1_i32_131 : BitVec 32 := 1#32
  let v228 : BitVec 32 := Scalar.addi v0 c1_i32_131
  let c0_i32_133 : BitVec 32 := 0#32
  let v230 : BitVec 1 := Scalar.cmpi .sgt v228 c0_i32_133
  let v231 : BitVec 32 := Scalar.extui v230
  let c0_i32_134 : BitVec 32 := 0#32
  let v232 : BitVec 1 := Scalar.cmpi .slt v228 c0_i32_134
  let v233 : BitVec 32 := Scalar.extui v232
  let v234 : BitVec 32 := Scalar.subi v231 v233
  let c2_i32_132 : BitVec 32 := 2#32
  let c0_i32_135 : BitVec 32 := 0#32
  let v235 : BitVec 1 := Scalar.cmpi .sgt c2_i32_132 c0_i32_135
  let v236 : BitVec 32 := Scalar.extui v235
  let c0_i32_136 : BitVec 32 := 0#32
  let v237 : BitVec 1 := Scalar.cmpi .slt c2_i32_132 c0_i32_136
  let v238 : BitVec 32 := Scalar.extui v237
  let v239 : BitVec 32 := Scalar.subi v236 v238
  let v240 : BitVec 1 := Scalar.cmpi .ne v234 v239
  let v241 : BitVec 32 := Scalar.remsi v228 c2_i32_132
  let c0_i32_137 : BitVec 32 := 0#32
  let v242 : BitVec 1 := Scalar.cmpi .ne v241 c0_i32_137
  let v243 : BitVec 1 := Scalar.andi v240 v242
  let v229 : BitVec 32 := Scalar.divsi v228 c2_i32_132
  let c1_i32_138 : BitVec 32 := 1#32
  let v244 : BitVec 32 := Scalar.subi v229 c1_i32_138
  let v245 : BitVec 32 := Scalar.select v243 v244 v229
  let v247 : BitVec 32 := Scalar.subi v245 c0_i32_140
  let c1_i32_141 : BitVec 32 := 1#32
  let v249 : BitVec 32 := Scalar.divsi v247 c1_i32_141
  let v250 : BitVec 32 := Scalar.muli v249 c1_i32_141
  let v251 : BitVec 32 := Scalar.addi c0_i32_140 v250
  let v248 : BitVec 32 := Scalar.addi c0_i32_140 v247
  let c1_i32_143 : BitVec 32 := 1#32
  ⟨v251, v248, c1_i32_143⟩
def k0_off18 (i : grid0.Coords) (k0_t12 : Fin (k0_t12_loop i).trips) : Fin 3 → Nat :=
  let c2_i32_145 : BitVec 32 := 2#32
  let c0_i32_140 : BitVec 32 := 0#32
  let arg1 : BitVec 32 := BitVec.ofNat 32 (i 1).val
  let c1_i32 : BitVec 32 := 1#32
  let v0 : BitVec 32 := Scalar.addi arg1 c1_i32
  let c1_i32_131 : BitVec 32 := 1#32
  let v228 : BitVec 32 := Scalar.addi v0 c1_i32_131
  let c0_i32_133 : BitVec 32 := 0#32
  let v230 : BitVec 1 := Scalar.cmpi .sgt v228 c0_i32_133
  let v231 : BitVec 32 := Scalar.extui v230
  let c0_i32_134 : BitVec 32 := 0#32
  let v232 : BitVec 1 := Scalar.cmpi .slt v228 c0_i32_134
  let v233 : BitVec 32 := Scalar.extui v232
  let v234 : BitVec 32 := Scalar.subi v231 v233
  let c2_i32_132 : BitVec 32 := 2#32
  let c0_i32_135 : BitVec 32 := 0#32
  let v235 : BitVec 1 := Scalar.cmpi .sgt c2_i32_132 c0_i32_135
  let v236 : BitVec 32 := Scalar.extui v235
  let c0_i32_136 : BitVec 32 := 0#32
  let v237 : BitVec 1 := Scalar.cmpi .slt c2_i32_132 c0_i32_136
  let v238 : BitVec 32 := Scalar.extui v237
  let v239 : BitVec 32 := Scalar.subi v236 v238
  let v240 : BitVec 1 := Scalar.cmpi .ne v234 v239
  let v241 : BitVec 32 := Scalar.remsi v228 c2_i32_132
  let c0_i32_137 : BitVec 32 := 0#32
  let v242 : BitVec 1 := Scalar.cmpi .ne v241 c0_i32_137
  let v243 : BitVec 1 := Scalar.andi v240 v242
  let v229 : BitVec 32 := Scalar.divsi v228 c2_i32_132
  let c1_i32_138 : BitVec 32 := 1#32
  let v244 : BitVec 32 := Scalar.subi v229 c1_i32_138
  let v245 : BitVec 32 := Scalar.select v243 v244 v229
  let v247 : BitVec 32 := Scalar.subi v245 c0_i32_140
  let c1_i32_141 : BitVec 32 := 1#32
  let v249 : BitVec 32 := Scalar.divsi v247 c1_i32_141
  let v250 : BitVec 32 := Scalar.muli v249 c1_i32_141
  let v251 : BitVec 32 := Scalar.addi c0_i32_140 v250
  let c1_i32_143 : BitVec 32 := 1#32
  let arg14 : BitVec 32 := Scf.iv v251 c1_i32_143 k0_t12
  let v260 : BitVec 32 := Scalar.muli c2_i32_145 arg14
  let v263 : Index := Scalar.indexCast v260
  let c0_148 : Index := 0#32
  let c0_149 : Index := 0#32
  ![v263.toNat, 0, 0]
def k0_off19 (i : grid0.Coords) (k0_t12 : Fin (k0_t12_loop i).trips) : Fin 3 → Nat :=
  let c2_i32_146 : BitVec 32 := 2#32
  let c0_i32_140 : BitVec 32 := 0#32
  let arg1 : BitVec 32 := BitVec.ofNat 32 (i 1).val
  let c1_i32 : BitVec 32 := 1#32
  let v0 : BitVec 32 := Scalar.addi arg1 c1_i32
  let c1_i32_131 : BitVec 32 := 1#32
  let v228 : BitVec 32 := Scalar.addi v0 c1_i32_131
  let c0_i32_133 : BitVec 32 := 0#32
  let v230 : BitVec 1 := Scalar.cmpi .sgt v228 c0_i32_133
  let v231 : BitVec 32 := Scalar.extui v230
  let c0_i32_134 : BitVec 32 := 0#32
  let v232 : BitVec 1 := Scalar.cmpi .slt v228 c0_i32_134
  let v233 : BitVec 32 := Scalar.extui v232
  let v234 : BitVec 32 := Scalar.subi v231 v233
  let c2_i32_132 : BitVec 32 := 2#32
  let c0_i32_135 : BitVec 32 := 0#32
  let v235 : BitVec 1 := Scalar.cmpi .sgt c2_i32_132 c0_i32_135
  let v236 : BitVec 32 := Scalar.extui v235
  let c0_i32_136 : BitVec 32 := 0#32
  let v237 : BitVec 1 := Scalar.cmpi .slt c2_i32_132 c0_i32_136
  let v238 : BitVec 32 := Scalar.extui v237
  let v239 : BitVec 32 := Scalar.subi v236 v238
  let v240 : BitVec 1 := Scalar.cmpi .ne v234 v239
  let v241 : BitVec 32 := Scalar.remsi v228 c2_i32_132
  let c0_i32_137 : BitVec 32 := 0#32
  let v242 : BitVec 1 := Scalar.cmpi .ne v241 c0_i32_137
  let v243 : BitVec 1 := Scalar.andi v240 v242
  let v229 : BitVec 32 := Scalar.divsi v228 c2_i32_132
  let c1_i32_138 : BitVec 32 := 1#32
  let v244 : BitVec 32 := Scalar.subi v229 c1_i32_138
  let v245 : BitVec 32 := Scalar.select v243 v244 v229
  let v247 : BitVec 32 := Scalar.subi v245 c0_i32_140
  let c1_i32_141 : BitVec 32 := 1#32
  let v249 : BitVec 32 := Scalar.divsi v247 c1_i32_141
  let v250 : BitVec 32 := Scalar.muli v249 c1_i32_141
  let v251 : BitVec 32 := Scalar.addi c0_i32_140 v250
  let c1_i32_143 : BitVec 32 := 1#32
  let arg14 : BitVec 32 := Scf.iv v251 c1_i32_143 k0_t12
  let v261 : BitVec 32 := Scalar.muli c2_i32_146 arg14
  let c1_i32_147 : BitVec 32 := 1#32
  let v262 : BitVec 32 := Scalar.addi v261 c1_i32_147
  let v321 : Index := Scalar.indexCast v262
  let c0_152 : Index := 0#32
  let c0_153 : Index := 0#32
  ![v321.toNat, 0, 0]
@[reducible] def k0_t13_loop (i : grid0.Coords) : Scf.Loop 32 :=
  let c0_i32_48 : BitVec 32 := 0#32
  let arg1 : BitVec 32 := BitVec.ofNat 32 (i 1).val
  let c1_i32 : BitVec 32 := 1#32
  let v0 : BitVec 32 := Scalar.addi arg1 c1_i32
  let c1_i32_39 : BitVec 32 := 1#32
  let v72 : BitVec 32 := Scalar.addi v0 c1_i32_39
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c2_i32_40 : BitVec 32 := 2#32
  let c0_i32_43 : BitVec 32 := 0#32
  let v79 : BitVec 1 := Scalar.cmpi .sgt c2_i32_40 c0_i32_43
  let v80 : BitVec 32 := Scalar.extui v79
  let c0_i32_44 : BitVec 32 := 0#32
  let v81 : BitVec 1 := Scalar.cmpi .slt c2_i32_40 c0_i32_44
  let v82 : BitVec 32 := Scalar.extui v81
  let v83 : BitVec 32 := Scalar.subi v80 v82
  let v84 : BitVec 1 := Scalar.cmpi .ne v78 v83
  let v85 : BitVec 32 := Scalar.remsi v72 c2_i32_40
  let c0_i32_45 : BitVec 32 := 0#32
  let v86 : BitVec 1 := Scalar.cmpi .ne v85 c0_i32_45
  let v87 : BitVec 1 := Scalar.andi v84 v86
  let v73 : BitVec 32 := Scalar.divsi v72 c2_i32_40
  let c1_i32_46 : BitVec 32 := 1#32
  let v88 : BitVec 32 := Scalar.subi v73 c1_i32_46
  let v89 : BitVec 32 := Scalar.select v87 v88 v73
  let v91 : BitVec 32 := Scalar.subi v89 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_50 : BitVec 32 := 1#32
  ⟨c0_i32_48, v95, c1_i32_50⟩
def k0_off20 (i : grid0.Coords) (k0_t13 : Fin (k0_t13_loop i).trips) : Fin 3 → Nat :=
  let c2_i32_129 : BitVec 32 := 2#32
  let c0_i32_48 : BitVec 32 := 0#32
  let c1_i32_50 : BitVec 32 := 1#32
  let arg12 : BitVec 32 := Scf.iv c0_i32_48 c1_i32_50 k0_t13
  let v221 : BitVec 32 := Scalar.muli c2_i32_129 arg12
  let v224 : Index := Scalar.indexCast v221
  let c0_132 : Index := 0#32
  let c0_133 : Index := 0#32
  ![v224.toNat, 0, 0]
def k0_off21 (i : grid0.Coords) (k0_t13 : Fin (k0_t13_loop i).trips) : Fin 3 → Nat :=
  let c2_i32_130 : BitVec 32 := 2#32
  let c0_i32_48 : BitVec 32 := 0#32
  let c1_i32_50 : BitVec 32 := 1#32
  let arg12 : BitVec 32 := Scf.iv c0_i32_48 c1_i32_50 k0_t13
  let v222 : BitVec 32 := Scalar.muli c2_i32_130 arg12
  let c1_i32_131 : BitVec 32 := 1#32
  let v223 : BitVec 32 := Scalar.addi v222 c1_i32_131
  let v238 : Index := Scalar.indexCast v223
  let c0_138 : Index := 0#32
  let c0_139 : Index := 0#32
  ![v238.toNat, 0, 0]
@[reducible] def k0_t14_loop (i : grid0.Coords) : Scf.Loop 32 :=
  let c0_i32_48 : BitVec 32 := 0#32
  let arg1 : BitVec 32 := BitVec.ofNat 32 (i 1).val
  let c1_i32 : BitVec 32 := 1#32
  let v0 : BitVec 32 := Scalar.addi arg1 c1_i32
  let c1_i32_39 : BitVec 32 := 1#32
  let v72 : BitVec 32 := Scalar.addi v0 c1_i32_39
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c2_i32_40 : BitVec 32 := 2#32
  let c0_i32_43 : BitVec 32 := 0#32
  let v79 : BitVec 1 := Scalar.cmpi .sgt c2_i32_40 c0_i32_43
  let v80 : BitVec 32 := Scalar.extui v79
  let c0_i32_44 : BitVec 32 := 0#32
  let v81 : BitVec 1 := Scalar.cmpi .slt c2_i32_40 c0_i32_44
  let v82 : BitVec 32 := Scalar.extui v81
  let v83 : BitVec 32 := Scalar.subi v80 v82
  let v84 : BitVec 1 := Scalar.cmpi .ne v78 v83
  let v85 : BitVec 32 := Scalar.remsi v72 c2_i32_40
  let c0_i32_45 : BitVec 32 := 0#32
  let v86 : BitVec 1 := Scalar.cmpi .ne v85 c0_i32_45
  let v87 : BitVec 1 := Scalar.andi v84 v86
  let v73 : BitVec 32 := Scalar.divsi v72 c2_i32_40
  let c1_i32_46 : BitVec 32 := 1#32
  let v88 : BitVec 32 := Scalar.subi v73 c1_i32_46
  let v89 : BitVec 32 := Scalar.select v87 v88 v73
  let v91 : BitVec 32 := Scalar.subi v89 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let v92 : BitVec 32 := Scalar.addi c0_i32_48 v91
  let c1_i32_51 : BitVec 32 := 1#32
  ⟨v95, v92, c1_i32_51⟩
def k0_off22 (i : grid0.Coords) (k0_t14 : Fin (k0_t14_loop i).trips) : Fin 3 → Nat :=
  let c2_i32_129 : BitVec 32 := 2#32
  let c0_i32_48 : BitVec 32 := 0#32
  let arg1 : BitVec 32 := BitVec.ofNat 32 (i 1).val
  let c1_i32 : BitVec 32 := 1#32
  let v0 : BitVec 32 := Scalar.addi arg1 c1_i32
  let c1_i32_39 : BitVec 32 := 1#32
  let v72 : BitVec 32 := Scalar.addi v0 c1_i32_39
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c2_i32_40 : BitVec 32 := 2#32
  let c0_i32_43 : BitVec 32 := 0#32
  let v79 : BitVec 1 := Scalar.cmpi .sgt c2_i32_40 c0_i32_43
  let v80 : BitVec 32 := Scalar.extui v79
  let c0_i32_44 : BitVec 32 := 0#32
  let v81 : BitVec 1 := Scalar.cmpi .slt c2_i32_40 c0_i32_44
  let v82 : BitVec 32 := Scalar.extui v81
  let v83 : BitVec 32 := Scalar.subi v80 v82
  let v84 : BitVec 1 := Scalar.cmpi .ne v78 v83
  let v85 : BitVec 32 := Scalar.remsi v72 c2_i32_40
  let c0_i32_45 : BitVec 32 := 0#32
  let v86 : BitVec 1 := Scalar.cmpi .ne v85 c0_i32_45
  let v87 : BitVec 1 := Scalar.andi v84 v86
  let v73 : BitVec 32 := Scalar.divsi v72 c2_i32_40
  let c1_i32_46 : BitVec 32 := 1#32
  let v88 : BitVec 32 := Scalar.subi v73 c1_i32_46
  let v89 : BitVec 32 := Scalar.select v87 v88 v73
  let v91 : BitVec 32 := Scalar.subi v89 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg12 : BitVec 32 := Scf.iv v95 c1_i32_51 k0_t14
  let v221 : BitVec 32 := Scalar.muli c2_i32_129 arg12
  let v224 : Index := Scalar.indexCast v221
  let c0_132 : Index := 0#32
  let c0_133 : Index := 0#32
  ![v224.toNat, 0, 0]
def k0_off23 (i : grid0.Coords) (k0_t14 : Fin (k0_t14_loop i).trips) : Fin 3 → Nat :=
  let c2_i32_130 : BitVec 32 := 2#32
  let c0_i32_48 : BitVec 32 := 0#32
  let arg1 : BitVec 32 := BitVec.ofNat 32 (i 1).val
  let c1_i32 : BitVec 32 := 1#32
  let v0 : BitVec 32 := Scalar.addi arg1 c1_i32
  let c1_i32_39 : BitVec 32 := 1#32
  let v72 : BitVec 32 := Scalar.addi v0 c1_i32_39
  let c0_i32_41 : BitVec 32 := 0#32
  let v74 : BitVec 1 := Scalar.cmpi .sgt v72 c0_i32_41
  let v75 : BitVec 32 := Scalar.extui v74
  let c0_i32_42 : BitVec 32 := 0#32
  let v76 : BitVec 1 := Scalar.cmpi .slt v72 c0_i32_42
  let v77 : BitVec 32 := Scalar.extui v76
  let v78 : BitVec 32 := Scalar.subi v75 v77
  let c2_i32_40 : BitVec 32 := 2#32
  let c0_i32_43 : BitVec 32 := 0#32
  let v79 : BitVec 1 := Scalar.cmpi .sgt c2_i32_40 c0_i32_43
  let v80 : BitVec 32 := Scalar.extui v79
  let c0_i32_44 : BitVec 32 := 0#32
  let v81 : BitVec 1 := Scalar.cmpi .slt c2_i32_40 c0_i32_44
  let v82 : BitVec 32 := Scalar.extui v81
  let v83 : BitVec 32 := Scalar.subi v80 v82
  let v84 : BitVec 1 := Scalar.cmpi .ne v78 v83
  let v85 : BitVec 32 := Scalar.remsi v72 c2_i32_40
  let c0_i32_45 : BitVec 32 := 0#32
  let v86 : BitVec 1 := Scalar.cmpi .ne v85 c0_i32_45
  let v87 : BitVec 1 := Scalar.andi v84 v86
  let v73 : BitVec 32 := Scalar.divsi v72 c2_i32_40
  let c1_i32_46 : BitVec 32 := 1#32
  let v88 : BitVec 32 := Scalar.subi v73 c1_i32_46
  let v89 : BitVec 32 := Scalar.select v87 v88 v73
  let v91 : BitVec 32 := Scalar.subi v89 c0_i32_48
  let c1_i32_49 : BitVec 32 := 1#32
  let v93 : BitVec 32 := Scalar.divsi v91 c1_i32_49
  let v94 : BitVec 32 := Scalar.muli v93 c1_i32_49
  let v95 : BitVec 32 := Scalar.addi c0_i32_48 v94
  let c1_i32_51 : BitVec 32 := 1#32
  let arg12 : BitVec 32 := Scf.iv v95 c1_i32_51 k0_t14
  let v222 : BitVec 32 := Scalar.muli c2_i32_130 arg12
  let c1_i32_131 : BitVec 32 := 1#32
  let v223 : BitVec 32 := Scalar.addi v222 c1_i32_131
  let v238 : Index := Scalar.indexCast v223
  let c0_138 : Index := 0#32
  let c0_139 : Index := 0#32
  ![v238.toNat, 0, 0]
@[reducible] def k0_t15_loop (i : grid0.Coords) : Scf.Loop 32 :=
  let c0_i32_62 : BitVec 32 := 0#32
  let arg1 : BitVec 32 := BitVec.ofNat 32 (i 1).val
  let c1_i32 : BitVec 32 := 1#32
  let v0 : BitVec 32 := Scalar.addi arg1 c1_i32
  let c1_i32_53 : BitVec 32 := 1#32
  let v100 : BitVec 32 := Scalar.addi v0 c1_i32_53
  let c0_i32_55 : BitVec 32 := 0#32
  let v102 : BitVec 1 := Scalar.cmpi .sgt v100 c0_i32_55
  let v103 : BitVec 32 := Scalar.extui v102
  let c0_i32_56 : BitVec 32 := 0#32
  let v104 : BitVec 1 := Scalar.cmpi .slt v100 c0_i32_56
  let v105 : BitVec 32 := Scalar.extui v104
  let v106 : BitVec 32 := Scalar.subi v103 v105
  let c2_i32_54 : BitVec 32 := 2#32
  let c0_i32_57 : BitVec 32 := 0#32
  let v107 : BitVec 1 := Scalar.cmpi .sgt c2_i32_54 c0_i32_57
  let v108 : BitVec 32 := Scalar.extui v107
  let c0_i32_58 : BitVec 32 := 0#32
  let v109 : BitVec 1 := Scalar.cmpi .slt c2_i32_54 c0_i32_58
  let v110 : BitVec 32 := Scalar.extui v109
  let v111 : BitVec 32 := Scalar.subi v108 v110
  let v112 : BitVec 1 := Scalar.cmpi .ne v106 v111
  let v113 : BitVec 32 := Scalar.remsi v100 c2_i32_54
  let c0_i32_59 : BitVec 32 := 0#32
  let v114 : BitVec 1 := Scalar.cmpi .ne v113 c0_i32_59
  let v115 : BitVec 1 := Scalar.andi v112 v114
  let v101 : BitVec 32 := Scalar.divsi v100 c2_i32_54
  let c1_i32_60 : BitVec 32 := 1#32
  let v116 : BitVec 32 := Scalar.subi v101 c1_i32_60
  let v117 : BitVec 32 := Scalar.select v115 v116 v101
  let v119 : BitVec 32 := Scalar.subi v117 c0_i32_62
  let c1_i32_63 : BitVec 32 := 1#32
  let v121 : BitVec 32 := Scalar.divsi v119 c1_i32_63
  let v122 : BitVec 32 := Scalar.muli v121 c1_i32_63
  let v123 : BitVec 32 := Scalar.addi c0_i32_62 v122
  let c1_i32_64 : BitVec 32 := 1#32
  ⟨c0_i32_62, v123, c1_i32_64⟩
def k0_off24 (i : grid0.Coords) (k0_t15 : Fin (k0_t15_loop i).trips) : Fin 3 → Nat :=
  let c2_i32_129 : BitVec 32 := 2#32
  let c0_i32_62 : BitVec 32 := 0#32
  let c1_i32_64 : BitVec 32 := 1#32
  let arg12 : BitVec 32 := Scf.iv c0_i32_62 c1_i32_64 k0_t15
  let v221 : BitVec 32 := Scalar.muli c2_i32_129 arg12
  let v224 : Index := Scalar.indexCast v221
  let c0_132 : Index := 0#32
  let c0_133 : Index := 0#32
  ![v224.toNat, 0, 0]
def k0_off25 (i : grid0.Coords) (k0_t15 : Fin (k0_t15_loop i).trips) : Fin 3 → Nat :=
  let c2_i32_130 : BitVec 32 := 2#32
  let c0_i32_62 : BitVec 32 := 0#32
  let c1_i32_64 : BitVec 32 := 1#32
  let arg12 : BitVec 32 := Scf.iv c0_i32_62 c1_i32_64 k0_t15
  let v222 : BitVec 32 := Scalar.muli c2_i32_130 arg12
  let c1_i32_131 : BitVec 32 := 1#32
  let v223 : BitVec 32 := Scalar.addi v222 c1_i32_131
  let v238 : Index := Scalar.indexCast v223
  let c0_138 : Index := 0#32
  let c0_139 : Index := 0#32
  ![v238.toNat, 0, 0]
@[reducible] def k0_t16_loop (i : grid0.Coords) : Scf.Loop 32 :=
  let c0_i32_62 : BitVec 32 := 0#32
  let arg1 : BitVec 32 := BitVec.ofNat 32 (i 1).val
  let c1_i32 : BitVec 32 := 1#32
  let v0 : BitVec 32 := Scalar.addi arg1 c1_i32
  let c1_i32_53 : BitVec 32 := 1#32
  let v100 : BitVec 32 := Scalar.addi v0 c1_i32_53
  let c0_i32_55 : BitVec 32 := 0#32
  let v102 : BitVec 1 := Scalar.cmpi .sgt v100 c0_i32_55
  let v103 : BitVec 32 := Scalar.extui v102
  let c0_i32_56 : BitVec 32 := 0#32
  let v104 : BitVec 1 := Scalar.cmpi .slt v100 c0_i32_56
  let v105 : BitVec 32 := Scalar.extui v104
  let v106 : BitVec 32 := Scalar.subi v103 v105
  let c2_i32_54 : BitVec 32 := 2#32
  let c0_i32_57 : BitVec 32 := 0#32
  let v107 : BitVec 1 := Scalar.cmpi .sgt c2_i32_54 c0_i32_57
  let v108 : BitVec 32 := Scalar.extui v107
  let c0_i32_58 : BitVec 32 := 0#32
  let v109 : BitVec 1 := Scalar.cmpi .slt c2_i32_54 c0_i32_58
  let v110 : BitVec 32 := Scalar.extui v109
  let v111 : BitVec 32 := Scalar.subi v108 v110
  let v112 : BitVec 1 := Scalar.cmpi .ne v106 v111
  let v113 : BitVec 32 := Scalar.remsi v100 c2_i32_54
  let c0_i32_59 : BitVec 32 := 0#32
  let v114 : BitVec 1 := Scalar.cmpi .ne v113 c0_i32_59
  let v115 : BitVec 1 := Scalar.andi v112 v114
  let v101 : BitVec 32 := Scalar.divsi v100 c2_i32_54
  let c1_i32_60 : BitVec 32 := 1#32
  let v116 : BitVec 32 := Scalar.subi v101 c1_i32_60
  let v117 : BitVec 32 := Scalar.select v115 v116 v101
  let v119 : BitVec 32 := Scalar.subi v117 c0_i32_62
  let c1_i32_63 : BitVec 32 := 1#32
  let v121 : BitVec 32 := Scalar.divsi v119 c1_i32_63
  let v122 : BitVec 32 := Scalar.muli v121 c1_i32_63
  let v123 : BitVec 32 := Scalar.addi c0_i32_62 v122
  let v120 : BitVec 32 := Scalar.addi c0_i32_62 v119
  let c1_i32_65 : BitVec 32 := 1#32
  ⟨v123, v120, c1_i32_65⟩
def k0_off26 (i : grid0.Coords) (k0_t16 : Fin (k0_t16_loop i).trips) : Fin 3 → Nat :=
  let c2_i32_129 : BitVec 32 := 2#32
  let c0_i32_62 : BitVec 32 := 0#32
  let arg1 : BitVec 32 := BitVec.ofNat 32 (i 1).val
  let c1_i32 : BitVec 32 := 1#32
  let v0 : BitVec 32 := Scalar.addi arg1 c1_i32
  let c1_i32_53 : BitVec 32 := 1#32
  let v100 : BitVec 32 := Scalar.addi v0 c1_i32_53
  let c0_i32_55 : BitVec 32 := 0#32
  let v102 : BitVec 1 := Scalar.cmpi .sgt v100 c0_i32_55
  let v103 : BitVec 32 := Scalar.extui v102
  let c0_i32_56 : BitVec 32 := 0#32
  let v104 : BitVec 1 := Scalar.cmpi .slt v100 c0_i32_56
  let v105 : BitVec 32 := Scalar.extui v104
  let v106 : BitVec 32 := Scalar.subi v103 v105
  let c2_i32_54 : BitVec 32 := 2#32
  let c0_i32_57 : BitVec 32 := 0#32
  let v107 : BitVec 1 := Scalar.cmpi .sgt c2_i32_54 c0_i32_57
  let v108 : BitVec 32 := Scalar.extui v107
  let c0_i32_58 : BitVec 32 := 0#32
  let v109 : BitVec 1 := Scalar.cmpi .slt c2_i32_54 c0_i32_58
  let v110 : BitVec 32 := Scalar.extui v109
  let v111 : BitVec 32 := Scalar.subi v108 v110
  let v112 : BitVec 1 := Scalar.cmpi .ne v106 v111
  let v113 : BitVec 32 := Scalar.remsi v100 c2_i32_54
  let c0_i32_59 : BitVec 32 := 0#32
  let v114 : BitVec 1 := Scalar.cmpi .ne v113 c0_i32_59
  let v115 : BitVec 1 := Scalar.andi v112 v114
  let v101 : BitVec 32 := Scalar.divsi v100 c2_i32_54
  let c1_i32_60 : BitVec 32 := 1#32
  let v116 : BitVec 32 := Scalar.subi v101 c1_i32_60
  let v117 : BitVec 32 := Scalar.select v115 v116 v101
  let v119 : BitVec 32 := Scalar.subi v117 c0_i32_62
  let c1_i32_63 : BitVec 32 := 1#32
  let v121 : BitVec 32 := Scalar.divsi v119 c1_i32_63
  let v122 : BitVec 32 := Scalar.muli v121 c1_i32_63
  let v123 : BitVec 32 := Scalar.addi c0_i32_62 v122
  let c1_i32_65 : BitVec 32 := 1#32
  let arg12 : BitVec 32 := Scf.iv v123 c1_i32_65 k0_t16
  let v221 : BitVec 32 := Scalar.muli c2_i32_129 arg12
  let v224 : Index := Scalar.indexCast v221
  let c0_132 : Index := 0#32
  let c0_133 : Index := 0#32
  ![v224.toNat, 0, 0]
def k0_off27 (i : grid0.Coords) (k0_t16 : Fin (k0_t16_loop i).trips) : Fin 3 → Nat :=
  let c2_i32_130 : BitVec 32 := 2#32
  let c0_i32_62 : BitVec 32 := 0#32
  let arg1 : BitVec 32 := BitVec.ofNat 32 (i 1).val
  let c1_i32 : BitVec 32 := 1#32
  let v0 : BitVec 32 := Scalar.addi arg1 c1_i32
  let c1_i32_53 : BitVec 32 := 1#32
  let v100 : BitVec 32 := Scalar.addi v0 c1_i32_53
  let c0_i32_55 : BitVec 32 := 0#32
  let v102 : BitVec 1 := Scalar.cmpi .sgt v100 c0_i32_55
  let v103 : BitVec 32 := Scalar.extui v102
  let c0_i32_56 : BitVec 32 := 0#32
  let v104 : BitVec 1 := Scalar.cmpi .slt v100 c0_i32_56
  let v105 : BitVec 32 := Scalar.extui v104
  let v106 : BitVec 32 := Scalar.subi v103 v105
  let c2_i32_54 : BitVec 32 := 2#32
  let c0_i32_57 : BitVec 32 := 0#32
  let v107 : BitVec 1 := Scalar.cmpi .sgt c2_i32_54 c0_i32_57
  let v108 : BitVec 32 := Scalar.extui v107
  let c0_i32_58 : BitVec 32 := 0#32
  let v109 : BitVec 1 := Scalar.cmpi .slt c2_i32_54 c0_i32_58
  let v110 : BitVec 32 := Scalar.extui v109
  let v111 : BitVec 32 := Scalar.subi v108 v110
  let v112 : BitVec 1 := Scalar.cmpi .ne v106 v111
  let v113 : BitVec 32 := Scalar.remsi v100 c2_i32_54
  let c0_i32_59 : BitVec 32 := 0#32
  let v114 : BitVec 1 := Scalar.cmpi .ne v113 c0_i32_59
  let v115 : BitVec 1 := Scalar.andi v112 v114
  let v101 : BitVec 32 := Scalar.divsi v100 c2_i32_54
  let c1_i32_60 : BitVec 32 := 1#32
  let v116 : BitVec 32 := Scalar.subi v101 c1_i32_60
  let v117 : BitVec 32 := Scalar.select v115 v116 v101
  let v119 : BitVec 32 := Scalar.subi v117 c0_i32_62
  let c1_i32_63 : BitVec 32 := 1#32
  let v121 : BitVec 32 := Scalar.divsi v119 c1_i32_63
  let v122 : BitVec 32 := Scalar.muli v121 c1_i32_63
  let v123 : BitVec 32 := Scalar.addi c0_i32_62 v122
  let c1_i32_65 : BitVec 32 := 1#32
  let arg12 : BitVec 32 := Scf.iv v123 c1_i32_65 k0_t16
  let v222 : BitVec 32 := Scalar.muli c2_i32_130 arg12
  let c1_i32_131 : BitVec 32 := 1#32
  let v223 : BitVec 32 := Scalar.addi v222 c1_i32_131
  let v238 : Index := Scalar.indexCast v223
  let c0_138 : Index := 0#32
  let c0_139 : Index := 0#32
  ![v238.toNat, 0, 0]
@[reducible] def k0_t17_loop : Scf.Loop 32 :=
  let c0_i32_130 : BitVec 32 := 0#32
  let c12_i32 : BitVec 32 := 12#32
  let v222 : BitVec 32 := Scalar.addi c0_i32_130 c12_i32
  let c1_i32_131 : BitVec 32 := 1#32
  ⟨c0_i32_130, v222, c1_i32_131⟩
@[reducible] def k0_t18_loop (i : grid0.Coords) : Scf.Loop 32 :=
  let c0_i32_145 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v232 : BitVec 32 := Scalar.addi v0 c1_i32_136
  let c0_i32_138 : BitVec 32 := 0#32
  let v234 : BitVec 1 := Scalar.cmpi .sgt v232 c0_i32_138
  let v235 : BitVec 32 := Scalar.extui v234
  let c0_i32_139 : BitVec 32 := 0#32
  let v236 : BitVec 1 := Scalar.cmpi .slt v232 c0_i32_139
  let v237 : BitVec 32 := Scalar.extui v236
  let v238 : BitVec 32 := Scalar.subi v235 v237
  let c2_i32_137 : BitVec 32 := 2#32
  let c0_i32_140 : BitVec 32 := 0#32
  let v239 : BitVec 1 := Scalar.cmpi .sgt c2_i32_137 c0_i32_140
  let v240 : BitVec 32 := Scalar.extui v239
  let c0_i32_141 : BitVec 32 := 0#32
  let v241 : BitVec 1 := Scalar.cmpi .slt c2_i32_137 c0_i32_141
  let v242 : BitVec 32 := Scalar.extui v241
  let v243 : BitVec 32 := Scalar.subi v240 v242
  let v244 : BitVec 1 := Scalar.cmpi .ne v238 v243
  let v245 : BitVec 32 := Scalar.remsi v232 c2_i32_137
  let c0_i32_142 : BitVec 32 := 0#32
  let v246 : BitVec 1 := Scalar.cmpi .ne v245 c0_i32_142
  let v247 : BitVec 1 := Scalar.andi v244 v246
  let v233 : BitVec 32 := Scalar.divsi v232 c2_i32_137
  let c1_i32_143 : BitVec 32 := 1#32
  let v248 : BitVec 32 := Scalar.subi v233 c1_i32_143
  let v249 : BitVec 32 := Scalar.select v247 v248 v233
  let v251 : BitVec 32 := Scalar.subi v249 c0_i32_145
  let c1_i32_146 : BitVec 32 := 1#32
  let v253 : BitVec 32 := Scalar.divsi v251 c1_i32_146
  let v254 : BitVec 32 := Scalar.muli v253 c1_i32_146
  let v255 : BitVec 32 := Scalar.addi c0_i32_145 v254
  let c1_i32_147 : BitVec 32 := 1#32
  ⟨c0_i32_145, v255, c1_i32_147⟩
def k0_off28 (i : grid0.Coords) (k0_t18 : Fin (k0_t18_loop i).trips) : Fin 3 → Nat :=
  let c2_i32_150 : BitVec 32 := 2#32
  let c0_i32_145 : BitVec 32 := 0#32
  let c1_i32_147 : BitVec 32 := 1#32
  let arg14 : BitVec 32 := Scf.iv c0_i32_145 c1_i32_147 k0_t18
  let v264 : BitVec 32 := Scalar.muli c2_i32_150 arg14
  let v267 : Index := Scalar.indexCast v264
  let c0_153 : Index := 0#32
  let c0_154 : Index := 0#32
  ![v267.toNat, 0, 0]
def k0_off29 (i : grid0.Coords) (k0_t18 : Fin (k0_t18_loop i).trips) : Fin 3 → Nat :=
  let c2_i32_151 : BitVec 32 := 2#32
  let c0_i32_145 : BitVec 32 := 0#32
  let c1_i32_147 : BitVec 32 := 1#32
  let arg14 : BitVec 32 := Scf.iv c0_i32_145 c1_i32_147 k0_t18
  let v265 : BitVec 32 := Scalar.muli c2_i32_151 arg14
  let c1_i32_152 : BitVec 32 := 1#32
  let v266 : BitVec 32 := Scalar.addi v265 c1_i32_152
  let v285 : Index := Scalar.indexCast v266
  let c0_159 : Index := 0#32
  let c0_160 : Index := 0#32
  ![v285.toNat, 0, 0]
@[reducible] def k0_t19_loop (i : grid0.Coords) : Scf.Loop 32 :=
  let c0_i32_145 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v232 : BitVec 32 := Scalar.addi v0 c1_i32_136
  let c0_i32_138 : BitVec 32 := 0#32
  let v234 : BitVec 1 := Scalar.cmpi .sgt v232 c0_i32_138
  let v235 : BitVec 32 := Scalar.extui v234
  let c0_i32_139 : BitVec 32 := 0#32
  let v236 : BitVec 1 := Scalar.cmpi .slt v232 c0_i32_139
  let v237 : BitVec 32 := Scalar.extui v236
  let v238 : BitVec 32 := Scalar.subi v235 v237
  let c2_i32_137 : BitVec 32 := 2#32
  let c0_i32_140 : BitVec 32 := 0#32
  let v239 : BitVec 1 := Scalar.cmpi .sgt c2_i32_137 c0_i32_140
  let v240 : BitVec 32 := Scalar.extui v239
  let c0_i32_141 : BitVec 32 := 0#32
  let v241 : BitVec 1 := Scalar.cmpi .slt c2_i32_137 c0_i32_141
  let v242 : BitVec 32 := Scalar.extui v241
  let v243 : BitVec 32 := Scalar.subi v240 v242
  let v244 : BitVec 1 := Scalar.cmpi .ne v238 v243
  let v245 : BitVec 32 := Scalar.remsi v232 c2_i32_137
  let c0_i32_142 : BitVec 32 := 0#32
  let v246 : BitVec 1 := Scalar.cmpi .ne v245 c0_i32_142
  let v247 : BitVec 1 := Scalar.andi v244 v246
  let v233 : BitVec 32 := Scalar.divsi v232 c2_i32_137
  let c1_i32_143 : BitVec 32 := 1#32
  let v248 : BitVec 32 := Scalar.subi v233 c1_i32_143
  let v249 : BitVec 32 := Scalar.select v247 v248 v233
  let v251 : BitVec 32 := Scalar.subi v249 c0_i32_145
  let c1_i32_146 : BitVec 32 := 1#32
  let v253 : BitVec 32 := Scalar.divsi v251 c1_i32_146
  let v254 : BitVec 32 := Scalar.muli v253 c1_i32_146
  let v255 : BitVec 32 := Scalar.addi c0_i32_145 v254
  let v252 : BitVec 32 := Scalar.addi c0_i32_145 v251
  let c1_i32_148 : BitVec 32 := 1#32
  ⟨v255, v252, c1_i32_148⟩
def k0_off30 (i : grid0.Coords) (k0_t19 : Fin (k0_t19_loop i).trips) : Fin 3 → Nat :=
  let c2_i32_150 : BitVec 32 := 2#32
  let c0_i32_145 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v232 : BitVec 32 := Scalar.addi v0 c1_i32_136
  let c0_i32_138 : BitVec 32 := 0#32
  let v234 : BitVec 1 := Scalar.cmpi .sgt v232 c0_i32_138
  let v235 : BitVec 32 := Scalar.extui v234
  let c0_i32_139 : BitVec 32 := 0#32
  let v236 : BitVec 1 := Scalar.cmpi .slt v232 c0_i32_139
  let v237 : BitVec 32 := Scalar.extui v236
  let v238 : BitVec 32 := Scalar.subi v235 v237
  let c2_i32_137 : BitVec 32 := 2#32
  let c0_i32_140 : BitVec 32 := 0#32
  let v239 : BitVec 1 := Scalar.cmpi .sgt c2_i32_137 c0_i32_140
  let v240 : BitVec 32 := Scalar.extui v239
  let c0_i32_141 : BitVec 32 := 0#32
  let v241 : BitVec 1 := Scalar.cmpi .slt c2_i32_137 c0_i32_141
  let v242 : BitVec 32 := Scalar.extui v241
  let v243 : BitVec 32 := Scalar.subi v240 v242
  let v244 : BitVec 1 := Scalar.cmpi .ne v238 v243
  let v245 : BitVec 32 := Scalar.remsi v232 c2_i32_137
  let c0_i32_142 : BitVec 32 := 0#32
  let v246 : BitVec 1 := Scalar.cmpi .ne v245 c0_i32_142
  let v247 : BitVec 1 := Scalar.andi v244 v246
  let v233 : BitVec 32 := Scalar.divsi v232 c2_i32_137
  let c1_i32_143 : BitVec 32 := 1#32
  let v248 : BitVec 32 := Scalar.subi v233 c1_i32_143
  let v249 : BitVec 32 := Scalar.select v247 v248 v233
  let v251 : BitVec 32 := Scalar.subi v249 c0_i32_145
  let c1_i32_146 : BitVec 32 := 1#32
  let v253 : BitVec 32 := Scalar.divsi v251 c1_i32_146
  let v254 : BitVec 32 := Scalar.muli v253 c1_i32_146
  let v255 : BitVec 32 := Scalar.addi c0_i32_145 v254
  let c1_i32_148 : BitVec 32 := 1#32
  let arg14 : BitVec 32 := Scf.iv v255 c1_i32_148 k0_t19
  let v264 : BitVec 32 := Scalar.muli c2_i32_150 arg14
  let v267 : Index := Scalar.indexCast v264
  let c0_153 : Index := 0#32
  let c0_154 : Index := 0#32
  ![v267.toNat, 0, 0]
def k0_off31 (i : grid0.Coords) (k0_t19 : Fin (k0_t19_loop i).trips) : Fin 3 → Nat :=
  let c2_i32_151 : BitVec 32 := 2#32
  let c0_i32_145 : BitVec 32 := 0#32
  let arg1 : BitVec 32 := BitVec.ofNat 32 (i 1).val
  let c1_i32 : BitVec 32 := 1#32
  let v0 : BitVec 32 := Scalar.addi arg1 c1_i32
  let c1_i32_136 : BitVec 32 := 1#32
  let v232 : BitVec 32 := Scalar.addi v0 c1_i32_136
  let c0_i32_138 : BitVec 32 := 0#32
  let v234 : BitVec 1 := Scalar.cmpi .sgt v232 c0_i32_138
  let v235 : BitVec 32 := Scalar.extui v234
  let c0_i32_139 : BitVec 32 := 0#32
  let v236 : BitVec 1 := Scalar.cmpi .slt v232 c0_i32_139
  let v237 : BitVec 32 := Scalar.extui v236
  let v238 : BitVec 32 := Scalar.subi v235 v237
  let c2_i32_137 : BitVec 32 := 2#32
  let c0_i32_140 : BitVec 32 := 0#32
  let v239 : BitVec 1 := Scalar.cmpi .sgt c2_i32_137 c0_i32_140
  let v240 : BitVec 32 := Scalar.extui v239
  let c0_i32_141 : BitVec 32 := 0#32
  let v241 : BitVec 1 := Scalar.cmpi .slt c2_i32_137 c0_i32_141
  let v242 : BitVec 32 := Scalar.extui v241
  let v243 : BitVec 32 := Scalar.subi v240 v242
  let v244 : BitVec 1 := Scalar.cmpi .ne v238 v243
  let v245 : BitVec 32 := Scalar.remsi v232 c2_i32_137
  let c0_i32_142 : BitVec 32 := 0#32
  let v246 : BitVec 1 := Scalar.cmpi .ne v245 c0_i32_142
  let v247 : BitVec 1 := Scalar.andi v244 v246
  let v233 : BitVec 32 := Scalar.divsi v232 c2_i32_137
  let c1_i32_143 : BitVec 32 := 1#32
  let v248 : BitVec 32 := Scalar.subi v233 c1_i32_143
  let v249 : BitVec 32 := Scalar.select v247 v248 v233
  let v251 : BitVec 32 := Scalar.subi v249 c0_i32_145
  let c1_i32_146 : BitVec 32 := 1#32
  let v253 : BitVec 32 := Scalar.divsi v251 c1_i32_146
  let v254 : BitVec 32 := Scalar.muli v253 c1_i32_146
  let v255 : BitVec 32 := Scalar.addi c0_i32_145 v254
  let c1_i32_148 : BitVec 32 := 1#32
  let arg14 : BitVec 32 := Scf.iv v255 c1_i32_148 k0_t19
  let v265 : BitVec 32 := Scalar.muli c2_i32_151 arg14
  let c1_i32_152 : BitVec 32 := 1#32
  let v266 : BitVec 32 := Scalar.addi v265 c1_i32_152
  let v285 : Index := Scalar.indexCast v266
  let c0_159 : Index := 0#32
  let c0_160 : Index := 0#32
  ![v285.toNat, 0, 0]
@[reducible] def k0_t20_loop (i : grid0.Coords) : Scf.Loop 32 :=
  let c0_i32_100 : BitVec 32 := 0#32
  let arg1 : BitVec 32 := BitVec.ofNat 32 (i 1).val
  let c1_i32 : BitVec 32 := 1#32
  let v0 : BitVec 32 := Scalar.addi arg1 c1_i32
  let v174 : BitVec 32 := Scalar.subi v0 c0_i32_100
  let c1_i32_101 : BitVec 32 := 1#32
  let v176 : BitVec 32 := Scalar.divsi v174 c1_i32_101
  let v177 : BitVec 32 := Scalar.muli v176 c1_i32_101
  let v178 : BitVec 32 := Scalar.addi c0_i32_100 v177
  let c1_i32_102 : BitVec 32 := 1#32
  ⟨c0_i32_100, v178, c1_i32_102⟩
def k0_off32 (i : grid0.Coords) (k0_t20 : Fin (k0_t20_loop i).trips) : Fin 3 → Nat :=
  let c0_i32_100 : BitVec 32 := 0#32
  let c1_i32_102 : BitVec 32 := 1#32
  let arg12 : BitVec 32 := Scf.iv c0_i32_100 c1_i32_102 k0_t20
  let v221 : Index := Scalar.indexCast arg12
  let c0_129 : Index := 0#32
  let c0_130 : Index := 0#32
  ![v221.toNat, 0, 0]
def k0_off33 (i : grid0.Coords) (k0_t20 : Fin (k0_t20_loop i).trips) : Fin 5 → Nat :=
  let c0_132 : Index := 0#32
  let c0_133 : Index := 0#32
  let c0_i32_100 : BitVec 32 := 0#32
  let c1_i32_102 : BitVec 32 := 1#32
  let arg12 : BitVec 32 := Scf.iv c0_i32_100 c1_i32_102 k0_t20
  let v236 : Index := Scalar.indexCast arg12
  let c0_134 : Index := 0#32
  let c0_135 : Index := 0#32
  ![0, 0, v236.toNat, 0, 0]
def k0_off34 (i : grid0.Coords) (k0_t20 : Fin (k0_t20_loop i).trips) : Fin 5 → Nat :=
  let c0_136 : Index := 0#32
  let c1_137 : Index := 1#32
  let c0_i32_100 : BitVec 32 := 0#32
  let c1_i32_102 : BitVec 32 := 1#32
  let arg12 : BitVec 32 := Scf.iv c0_i32_100 c1_i32_102 k0_t20
  let v239 : Index := Scalar.indexCast arg12
  let c0_138 : Index := 0#32
  let c0_139 : Index := 0#32
  ![0, 1, v239.toNat, 0, 0]
def k0_off35 (i : grid0.Coords) (k0_t20 : Fin (k0_t20_loop i).trips) : Fin 5 → Nat :=
  let c0_140 : Index := 0#32
  let c0_141 : Index := 0#32
  let c0_i32_100 : BitVec 32 := 0#32
  let c1_i32_102 : BitVec 32 := 1#32
  let arg12 : BitVec 32 := Scf.iv c0_i32_100 c1_i32_102 k0_t20
  let v242 : Index := Scalar.indexCast arg12
  let c0_142 : Index := 0#32
  let c0_143 : Index := 0#32
  ![0, 0, v242.toNat, 0, 0]
def k0_off36 (i : grid0.Coords) (k0_t20 : Fin (k0_t20_loop i).trips) : Fin 5 → Nat :=
  let c0_144 : Index := 0#32
  let c1_145 : Index := 1#32
  let c0_i32_100 : BitVec 32 := 0#32
  let c1_i32_102 : BitVec 32 := 1#32
  let arg12 : BitVec 32 := Scf.iv c0_i32_100 c1_i32_102 k0_t20
  let v245 : Index := Scalar.indexCast arg12
  let c0_146 : Index := 0#32
  let c0_147 : Index := 0#32
  ![0, 1, v245.toNat, 0, 0]
@[reducible] def k0_t21_loop (i : grid0.Coords) : Scf.Loop 32 :=
  let c0_i32_100 : BitVec 32 := 0#32
  let arg1 : BitVec 32 := BitVec.ofNat 32 (i 1).val
  let c1_i32 : BitVec 32 := 1#32
  let v0 : BitVec 32 := Scalar.addi arg1 c1_i32
  let v174 : BitVec 32 := Scalar.subi v0 c0_i32_100
  let c1_i32_101 : BitVec 32 := 1#32
  let v176 : BitVec 32 := Scalar.divsi v174 c1_i32_101
  let v177 : BitVec 32 := Scalar.muli v176 c1_i32_101
  let v178 : BitVec 32 := Scalar.addi c0_i32_100 v177
  let v175 : BitVec 32 := Scalar.addi c0_i32_100 v174
  let c1_i32_103 : BitVec 32 := 1#32
  ⟨v178, v175, c1_i32_103⟩
def k0_off37 (i : grid0.Coords) (k0_t21 : Fin (k0_t21_loop i).trips) : Fin 3 → Nat :=
  let c0_i32_100 : BitVec 32 := 0#32
  let arg1 : BitVec 32 := BitVec.ofNat 32 (i 1).val
  let c1_i32 : BitVec 32 := 1#32
  let v0 : BitVec 32 := Scalar.addi arg1 c1_i32
  let v174 : BitVec 32 := Scalar.subi v0 c0_i32_100
  let c1_i32_101 : BitVec 32 := 1#32
  let v176 : BitVec 32 := Scalar.divsi v174 c1_i32_101
  let v177 : BitVec 32 := Scalar.muli v176 c1_i32_101
  let v178 : BitVec 32 := Scalar.addi c0_i32_100 v177
  let c1_i32_103 : BitVec 32 := 1#32
  let arg12 : BitVec 32 := Scf.iv v178 c1_i32_103 k0_t21
  let v221 : Index := Scalar.indexCast arg12
  let c0_129 : Index := 0#32
  let c0_130 : Index := 0#32
  ![v221.toNat, 0, 0]
def k0_off38 (i : grid0.Coords) (k0_t21 : Fin (k0_t21_loop i).trips) : Fin 5 → Nat :=
  let c0_132 : Index := 0#32
  let c0_133 : Index := 0#32
  let c0_i32_100 : BitVec 32 := 0#32
  let arg1 : BitVec 32 := BitVec.ofNat 32 (i 1).val
  let c1_i32 : BitVec 32 := 1#32
  let v0 : BitVec 32 := Scalar.addi arg1 c1_i32
  let v174 : BitVec 32 := Scalar.subi v0 c0_i32_100
  let c1_i32_101 : BitVec 32 := 1#32
  let v176 : BitVec 32 := Scalar.divsi v174 c1_i32_101
  let v177 : BitVec 32 := Scalar.muli v176 c1_i32_101
  let v178 : BitVec 32 := Scalar.addi c0_i32_100 v177
  let c1_i32_103 : BitVec 32 := 1#32
  let arg12 : BitVec 32 := Scf.iv v178 c1_i32_103 k0_t21
  let v236 : Index := Scalar.indexCast arg12
  let c0_134 : Index := 0#32
  let c0_135 : Index := 0#32
  ![0, 0, v236.toNat, 0, 0]
def k0_off39 (i : grid0.Coords) (k0_t21 : Fin (k0_t21_loop i).trips) : Fin 5 → Nat :=
  let c0_136 : Index := 0#32
  let c1_137 : Index := 1#32
  let c0_i32_100 : BitVec 32 := 0#32
  let arg1 : BitVec 32 := BitVec.ofNat 32 (i 1).val
  let c1_i32 : BitVec 32 := 1#32
  let v0 : BitVec 32 := Scalar.addi arg1 c1_i32
  let v174 : BitVec 32 := Scalar.subi v0 c0_i32_100
  let c1_i32_101 : BitVec 32 := 1#32
  let v176 : BitVec 32 := Scalar.divsi v174 c1_i32_101
  let v177 : BitVec 32 := Scalar.muli v176 c1_i32_101
  let v178 : BitVec 32 := Scalar.addi c0_i32_100 v177
  let c1_i32_103 : BitVec 32 := 1#32
  let arg12 : BitVec 32 := Scf.iv v178 c1_i32_103 k0_t21
  let v239 : Index := Scalar.indexCast arg12
  let c0_138 : Index := 0#32
  let c0_139 : Index := 0#32
  ![0, 1, v239.toNat, 0, 0]
def k0_off40 (i : grid0.Coords) (k0_t21 : Fin (k0_t21_loop i).trips) : Fin 5 → Nat :=
  let c0_140 : Index := 0#32
  let c0_141 : Index := 0#32
  let c0_i32_100 : BitVec 32 := 0#32
  let arg1 : BitVec 32 := BitVec.ofNat 32 (i 1).val
  let c1_i32 : BitVec 32 := 1#32
  let v0 : BitVec 32 := Scalar.addi arg1 c1_i32
  let v174 : BitVec 32 := Scalar.subi v0 c0_i32_100
  let c1_i32_101 : BitVec 32 := 1#32
  let v176 : BitVec 32 := Scalar.divsi v174 c1_i32_101
  let v177 : BitVec 32 := Scalar.muli v176 c1_i32_101
  let v178 : BitVec 32 := Scalar.addi c0_i32_100 v177
  let c1_i32_103 : BitVec 32 := 1#32
  let arg12 : BitVec 32 := Scf.iv v178 c1_i32_103 k0_t21
  let v242 : Index := Scalar.indexCast arg12
  let c0_142 : Index := 0#32
  let c0_143 : Index := 0#32
  ![0, 0, v242.toNat, 0, 0]
def k0_off41 (i : grid0.Coords) (k0_t21 : Fin (k0_t21_loop i).trips) : Fin 5 → Nat :=
  let c0_144 : Index := 0#32
  let c1_145 : Index := 1#32
  let c0_i32_100 : BitVec 32 := 0#32
  let arg1 : BitVec 32 := BitVec.ofNat 32 (i 1).val
  let c1_i32 : BitVec 32 := 1#32
  let v0 : BitVec 32 := Scalar.addi arg1 c1_i32
  let v174 : BitVec 32 := Scalar.subi v0 c0_i32_100
  let c1_i32_101 : BitVec 32 := 1#32
  let v176 : BitVec 32 := Scalar.divsi v174 c1_i32_101
  let v177 : BitVec 32 := Scalar.muli v176 c1_i32_101
  let v178 : BitVec 32 := Scalar.addi c0_i32_100 v177
  let c1_i32_103 : BitVec 32 := 1#32
  let arg12 : BitVec 32 := Scf.iv v178 c1_i32_103 k0_t21
  let v245 : Index := Scalar.indexCast arg12
  let c0_146 : Index := 0#32
  let c0_147 : Index := 0#32
  ![0, 1, v245.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x16x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x16x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x16x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.GatherTrip.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Pipeline.Regions

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- A word names a row of the table: the first of an expert's four rows. -/
def InTab (w : BitVec 32) : Prop := 4 ∣ w.toNat ∧ w.toNat + 4 ≤ 65536

theorem InTab.chk {w : BitVec 32} (h : InTab w) : k0_chk1 w := by
  refine ⟨h.1, fun a => ?_⟩
  match a with
  | ⟨0, _⟩ => show (Scalar.indexCast w).toNat + 4 ≤ 65536; exact h.2
  | ⟨1, _⟩ => show 0 + 128 ≤ 128; omega

theorem words_inb (j : Fin 128) : ∀ a, (![j.val] : Fin 1 → Nat) a + S1.size a ≤ S128.size a := by
  intro a; match a with
  | ⟨0, _⟩ => show j.val + 1 ≤ 128; omega

theorem row_inb (j : Fin 128) : ∀ a, (![j.val, 0] : Fin 2 → Nat) a + S1x128.size a ≤ S128x128.size a := by
  intro a; match a with
  | ⟨0, _⟩ => show j.val + 1 ≤ 128; omega
  | ⟨1, _⟩ => show 0 + 128 ≤ 128; omega

theorem block_inb {w : BitVec 32} (h : InTab w) : ∀ a, k0_off3 w a + S4x128.size a ≤ S65536x128.size a := h.chk.2

/-- Where trip `k` finds its `j`-th word: row `k` of the words, column `j`, as the kernel's slice and squeeze address it. -/
def wordIdx (k : Fin k0_t1_loop.trips) (j : Fin 128) : S128x128.Idx :=
  (Rect.unit (s := S128x128) (k0_off2 k) S1x128.size (k0_off2_inb k)).emb
    ((Shape.reshapeEquiv (Shape.Squeezes.numel_eq squeezes_S1x128_S128)).toEmbedding
      ((Rect.unit (s := S128) ![j.val] S1.size (words_inb j)).idx (Shape.Idx.first (show 0 < S1.numel by decide))))

/-- The four table rows the `j`-th word of trip `k` names. -/
def block (words : S128x128.Idx → BitVec 32) (hw : ∀ y, InTab (words y)) (tab : S65536x128.Idx → BitVec 32)
    (k : Fin k0_t1_loop.trips) (j : Fin 128) : IVec S4x128 32 :=
  fun x => tab ((Rect.unit (s := S65536x128) (k0_off3 (words (wordIdx k j))) S4x128.size (block_inb (hw _))).idx x)

/-- The low halves of the packed words, as floats. -/
def lowHalf (b : IVec S4x128 32) : FVec F S4x128 .f32 :=
  bitcastToFloat .f32 (shli (shapeCast S4x128 b shapeCasts_S4x128_S4x128) (broadcast S4x128 16#32))

/-- The high halves of the packed words, as floats. -/
def highHalf (b : IVec S4x128 32) : FVec F S4x128 .f32 :=
  bitcastToFloat .f32 (andi (shapeCast S4x128 b shapeCasts_S4x128_S4x128) (broadcast S4x128 4294901760#32))

/-- Row `j` of the spread coefficients over the block's four rows, as the kernel loads it back from its scratch. -/
def coefRow (M5 : Memref sig .tc .vmem S128x128 .f32) (acc : FVec F S128x128 .f32) (j : Fin 128) : FVec F S4x128 .f32 :=
  broadcastTo S4x128 (shapeCast S1x128 (M5.view.readCov
      [(⟨Rect.unit ![0, 0] S128x128.size inb_S128x128_S128x128_0_0, k0_pay6 acc⟩ : View.Piece (Elt F) S128x128 .f32)]
      (Rect.unit (s := S128x128) ![j.val, 0] S1x128.size (row_inb j)).toLoadRect : Vec F S1x128 .f32)
    shapeCasts_S1x128_S1x128) broadcasts_S1x128_S4x128

/-- The first `n` terms of the words of parity `p`, accumulated in order from zero. -/
def accum (g : Fin 128 → FVec F S4x128 .f32) (p : Fin 2) : ℕ → FVec F S4x128 .f32
  | 0 => broadcast S4x128 (Scalar.ofBits .f32 0x00000000#32)
  | n + 1 => addf (accum g p n) (g ⟨(2 * n + p.val) % 128, Nat.mod_lt _ (by decide)⟩)

/-- What a trip stores in one half of its row: the even words' sum plus the odd words' sum, flattened. -/
def half (u : IVec S4x128 32 → FVec F S4x128 .f32) (words : S128x128.Idx → BitVec 32) (hw : ∀ y, InTab (words y))
    (tab : S65536x128.Idx → BitVec 32) (k : Fin k0_t1_loop.trips) (M5 : Memref sig .tc .vmem S128x128 .f32)
    (acc : FVec F S128x128 .f32) : FVec F S1x512 .f32 :=
  shapeCast S1x512 (addf (accum (fun j => mulf (coefRow M5 acc j) (u (block words hw tab k j))) 0 64)
    (accum (fun j => mulf (coefRow M5 acc j) (u (block words hw tab k j))) 1 64)) shapeCasts_S4x128_S1x512

theorem trip (c : Dev nD) (i : grid0.Coords) (k : Fin k0_t1_loop.trips) (acc : FVec F S128x128 .f32)
    (M1 : Memref sig .tc .smem S128x128 .i32) (h1 : M1.IsWhole) (M2 : Memref sig .tc .vmem S128x128 .f32) (h2 : M2.IsWhole)
    (M3 : Memref sig .tc .vmem S65536x128 .i32) (h3 : M3.IsWhole) (M4 : Memref sig .tc .vmem S128x1024 .f32) (h4 : M4.IsWhole)
    (M5 : Memref sig .tc .vmem S128x128 .f32) (h5 : M5.IsWhole)
    (f1 : Bf (F := F) c M1) (f2 : Bf (F := F) c M2) (f3 : Bf (F := F) c M3) (f4 : Bf (F := F) c M4) (f5 : Bf (F := F) c M5)
    (hw : ∀ y : S128x128.Idx, InTab (M1.view.read (Elt F) f1 y))
    (Q : FVec F S128x128 .f32 → sProp 𝕄) :
    iprop(pt c M1 f1 ∗ pt c M2 f2 ∗ pt c M3 f3 ∗ pt c M4 f4 ∗ pt c M5 f5
      ∗ (iprop(pt c M1 f1 ∗ pt c M2 f2 ∗ pt c M3 f3 ∗ pt c M4 (M4.view.writes (Elt F) f4
          [⟨Rect.unit (k0_off259 k) S1x512.size (k0_off259_inb k), half highHalf (M1.view.read (Elt F) f1) hw (M3.view.read (Elt F) f3) k M5 acc⟩,
           ⟨Rect.unit (k0_off258 k) S1x512.size (k0_off258_inb k), half lowHalf (M1.view.read (Elt F) f1) hw (M3.view.read (Elt F) f3) k M5 acc⟩]) ∗ (∃ f, pt c M5 f)) -∗ Q (k0_pay5 (View.readAt (Elt F) M2.view (Rect.unit (s := S128x128) (k0_off1 k) S1x128.size (k0_off1_inb k)).toLoadRect f2))))
    ⊢ wp frame (wpE (defs₀ (F := F)) Variants.none c none) Set.univ
        (k0_t1_body i M1 h1 M2 h2 M3 h3 M4 h4 M5 h5 k acc) Q := by
  unfold k0_t1_body
  iintro ⟨H1, H2, H3, H4, H5, Hk⟩
  sl_exec_parts (disch := exact (hw _).chk)
  sl_step
  rw [show trip.sl.r_2 c k M2 f2 = k0_pay5 (View.readAt (Elt F) M2.view (Rect.unit (s := S128x128) (k0_off1 k) S1x128.size (k0_off1_inb k)).toLoadRect f2) from rfl]
  iapply Hk
  isplitl [H1]; · iexact H1
  isplitl [H2]; · iexact H2
  isplitl [H3]; · iexact H3
  isplitl [H4]
  · rw [show k0_pay4 (trip.sl.r_439 c k acc M1 M3 M5 f1 f3 hw) (trip.sl.r_441 c k acc M1 M3 M5 f1 f3 hw) (trip.sl.r_443 c k M1 M3 f1 f3 hw) (trip.sl.v2573 acc M5)
        = half highHalf (M1.view.read (Elt F) f1) hw (M3.view.read (Elt F) f3) k M5 acc from by chain_rfl,
      show k0_pay3 (trip.sl.r_438 c k acc M1 M3 M5 f1 f3 hw) (trip.sl.r_440 c k acc M1 M3 M5 f1 f3 hw) (trip.sl.r_442 c k M1 M3 f1 f3 hw) (trip.sl.v2573 acc M5)
        = half lowHalf (M1.view.read (Elt F) f1) hw (M3.view.read (Elt F) f3) k M5 acc from by chain_rfl]
    iexact H4
  iexists _; iexact H5

end Cert.Proof.KernelIdeal
-- ==== Proof.GatherBody.lean ====
module

public import proofs.«01_k».proof.Proof.GatherTrip
public import proofs.«01_k».proof.Proof.Gen.KernelIdeal.Frame
public import proofs.«01_k».proof.Proof.Gen.KernelIdeal.Points
public import Idealize.ShloMosaic.Lib.Pipeline.Value
public import Idealize.ShloMosaic.Lib.Pipeline.ReadBack
public import Idealize.ShloMosaic.Lib.Pointwise
public import Idealize.ShloMosaic.Lib.WritesUnit

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UU nD τ) ℕ

/-! ## What a token's row comes to -/

/-- Row `j` of the spread coefficients over the block's four rows. -/
def rowOf (acc : FVec F S128x128 .f32) (j : Fin 128) : FVec F S4x128 .f32 :=
  broadcastTo S4x128 (shapeCast S1x128 (View.ld (k0_pay6 acc) (Rect.unit (s := S128x128) ![j.val, 0] S1x128.size (row_inb j)) : Vec F S1x128 .f32)
    shapeCasts_S1x128_S1x128) broadcasts_S1x128_S4x128

/-- The row loaded back from the scratch is the row of what was stored there. -/
theorem coefRow_eq (M5 : Memref sig .tc .vmem S128x128 .f32) (acc : FVec F S128x128 .f32) (j : Fin 128) :
    coefRow M5 acc j = rowOf acc j := by
  unfold coefRow rowOf
  rw [View.readCov_fill _ _ _ _ _ (by decide)]

/-- The sum over a token's words of coefficient times unpacked block: even words, then odd words, then the two added. -/
def sums (u : IVec S4x128 32 → FVec F S4x128 .f32) (words : S128x128.Idx → BitVec 32) (hw : ∀ y, InTab (words y))
    (tab : S65536x128.Idx → BitVec 32) (k : Fin k0_t1_loop.trips) (acc : FVec F S128x128 .f32) : FVec F S1x512 .f32 :=
  shapeCast S1x512 (addf (accum (fun j => mulf (rowOf acc j) (u (block words hw tab k j))) 0 64)
    (accum (fun j => mulf (rowOf acc j) (u (block words hw tab k j))) 1 64)) shapeCasts_S4x128_S1x512

/-- What a trip stores is that sum, whichever scratch it went through. -/
theorem half_eq (u : IVec S4x128 32 → FVec F S4x128 .f32) (words : S128x128.Idx → BitVec 32) (hw : ∀ y, InTab (words y))
    (tab : S65536x128.Idx → BitVec 32) (k : Fin k0_t1_loop.trips) (M5 : Memref sig .tc .vmem S128x128 .f32)
    (acc : FVec F S128x128 .f32) : half u words hw tab k M5 acc = sums u words hw tab k acc := by
  unfold half sums; simp only [coefRow_eq]

/-- The coefficients the loop carries into trip `n`: row `n` of the coefficients, spread. -/
def spread (x1 : Vec F S128x128 .f32) : ℕ → FVec F S128x128 .f32
  | 0 => k0_pay1 (View.ld x1 (Rect.unit (s := S128x128) ![0, 0] S1x128.size inb_S128x128_S1x128_0_0))
  | n + 1 => if h : n < k0_t1_loop.trips then k0_pay5 (View.ld x1 (Rect.unit (s := S128x128) (k0_off1 ⟨n, h⟩) S1x128.size (k0_off1_inb ⟨n, h⟩)))
      else k0_pay1 (View.ld x1 (Rect.unit (s := S128x128) ![0, 0] S1x128.size inb_S128x128_S1x128_0_0))

theorem trips_eq : k0_t1_loop.trips = 128 := by decide

/-- A row of the block of outputs as a trip of the loop. -/
def tripOf (y : S128x1024.Idx) : Fin k0_t1_loop.trips := ⟨(y 0).val, trips_eq ▸ (y 0).isLt⟩

/-- The block of outputs a grid point leaves. -/
def outBlock (x0 : S128x128.Idx → BitVec 32) (hw : ∀ y, InTab (x0 y)) (x1 : Vec F S128x128 .f32) (x2 : S65536x128.Idx → BitVec 32) :
    Vec F S128x1024 .f32 := fun y =>
  if h : (y 1).val < 512 then sums lowHalf x0 hw x2 (tripOf y) (spread x1 (y 0).val) (ix2 (0 : Fin 1) (⟨(y 1).val, h⟩ : Fin 512))
  else sums highHalf x0 hw x2 (tripOf y) (spread x1 (y 0).val)
    (ix2 (0 : Fin 1) (⟨(y 1).val - 512, by have h2 : (y 1).val < 1024 := (y 1).isLt; omega⟩ : Fin 512))

theorem offs (k : Fin k0_t1_loop.trips) : k0_off258 k = ![k.val, 0] ∧ k0_off259 k = ![k.val, 512] := by
  have h : ∀ k : Fin k0_t1_loop.trips, (k0_off258 k 0 = k.val ∧ k0_off258 k 1 = 0) ∧ (k0_off259 k 0 = k.val ∧ k0_off259 k 1 = 512) := by
    decide +kernel
  obtain ⟨⟨a, b⟩, c, d⟩ := h k
  exact ⟨funext fun x => by match x with | ⟨0, _⟩ => exact a | ⟨1, _⟩ => exact b,
    funext fun x => by match x with | ⟨0, _⟩ => exact c | ⟨1, _⟩ => exact d⟩

/-- After a trip's two stores into its row: rows up to and with that row hold `G`, if the earlier ones did and the stores are `G`'s. -/
theorem rows_step (M4 : Memref sig .tc .vmem S128x1024 .f32) (f4 : M4.view.ty.Contents (Elt F)) (G : Vec F S128x1024 .f32)
    (k : Fin k0_t1_loop.trips) (lo hi : FVec F S1x512 .f32)
    (hold : ∀ y : S128x1024.Idx, (y 0).val < k.val → M4.view.read (Elt F) f4 y = G y)
    (hlo : ∀ y : S128x1024.Idx, (y 0).val = k.val → ∀ h : (y 1).val < 512, G y = lo (ix2 (0 : Fin 1) (⟨(y 1).val, h⟩ : Fin 512)))
    (hhi : ∀ y : S128x1024.Idx, (y 0).val = k.val → ∀ h : ¬ (y 1).val < 512, G y = hi (ix2 (0 : Fin 1)
      (⟨(y 1).val - 512, by have h2 : (y 1).val < 1024 := (y 1).isLt; omega⟩ : Fin 512)))
    (y : S128x1024.Idx) (hy : (y 0).val < k.val + 1) :
    M4.view.read (Elt F) (M4.view.writes (Elt F) f4 [⟨Rect.unit (k0_off259 k) S1x512.size (k0_off259_inb k), hi⟩,
      ⟨Rect.unit (k0_off258 k) S1x512.size (k0_off258_inb k), lo⟩]) y = G y := by
  obtain ⟨o1, o2⟩ := offs k
  have y1 : (y 1).val < 1024 := (y 1).isLt
  by_cases hk : (y 0).val = k.val
  · by_cases hc : (y 1).val < 512
    · rw [View.read_writes_cons_unit_of_not_mem _ _ _ _ _ y o2 (1 : Fin 2) (Or.inl hc), hlo y hk hc]
      refine View.read_writes_cons_unit_of_mem _ _ _ _ _ y (ix2 (0 : Fin 1) (⟨(y 1).val, hc⟩ : Fin 512)) o1 fun a => ?_
      match a with
      | ⟨0, _⟩ => show (y 0).val = k.val + 0; omega
      | ⟨1, _⟩ => show (y 1).val = 0 + (y 1).val; omega
    · rw [hhi y hk hc]
      refine View.read_writes_cons_unit_of_mem _ _ _ _ _ y (ix2 (0 : Fin 1) (⟨(y 1).val - 512, by omega⟩ : Fin 512)) o2 fun a => ?_
      match a with
      | ⟨0, _⟩ => show (y 0).val = k.val + 0; omega
      | ⟨1, _⟩ => show (y 1).val = 512 + ((y 1).val - 512); omega
  · have hlt : (y 0).val < k.val := by omega
    rw [View.read_writes_cons_unit_of_not_mem _ _ _ _ _ y o2 (0 : Fin 2) (Or.inl hlt),
      View.read_writes_cons_unit_of_not_mem _ _ _ _ _ y o1 (0 : Fin 2) (Or.inl hlt)]
    exact hold y hlt

/-! ## The body's triple -/

/-- The kernel body on whole staging memrefs, the words naming table rows: the inputs stay as they were and the output
    buffer ends at `outBlock` of them. -/
theorem sound_kernel (c : Dev nD) (i : grid0.Coords)
    (M1 : Memref sig .tc .smem S128x128 .i32) (h1 : M1.IsWhole) (M2 : Memref sig .tc .vmem S128x128 .f32) (h2 : M2.IsWhole)
    (M3 : Memref sig .tc .vmem S65536x128 .i32) (h3 : M3.IsWhole) (M4 : Memref sig .tc .vmem S128x1024 .f32) (h4 : M4.IsWhole)
    (M5 : Memref sig .tc .vmem S128x128 .f32) (h5 : M5.IsWhole)
    (x0 : S128x128.Idx → BitVec 32) (hw : ∀ y, InTab (x0 y)) (x1 : Vec F S128x128 .f32) (x2 : S65536x128.Idx → BitVec 32)
    (K : PUnit → sProp 𝕄) :
    iprop(owns (c : Thread nD τ) M1 fullShare x0 ∗ owns (c : Thread nD τ) M2 fullShare x1 ∗ owns (c : Thread nD τ) M3 fullShare x2
        ∗ (∃ d, owns (c : Thread nD τ) M4 fullShare d) ∗ (∃ f, pt c M5 f)
        ∗ (iprop(owns (c : Thread nD τ) M1 fullShare x0 ∗ owns (c : Thread nD τ) M2 fullShare x1 ∗ owns (c : Thread nD τ) M3 fullShare x2
            ∗ owns (c : Thread nD τ) M4 fullShare (outBlock x0 hw x1 x2) ∗ (∃ f, pt c M5 f)) -∗ K ⟨⟩))
      ⊢ wp frame (wpE (defs₀ (F := F)) Variants.none c none) Set.univ (cc0_peer_v i M1 h1 M2 h2 M3 h3 M4 h4 M5 h5) K := by
  simp only [cc0_peer_v_eq_skeleton]; unfold cc0_peer_v_skel
  unfold owns
  iintro ⟨⟨%f1, %hf1, H1⟩, ⟨%f2, %hf2, H2⟩, ⟨%f3, %hf3, H3⟩, ⟨%d4, %f4, -, H4⟩, ⟨%f5, H5⟩, Hk⟩
  subst hf1 hf2 hf3
  iapply (wp_load_rect Variants.none (c : Thread nD τ) none Set.univ (m := M2)
    (r := Rect.unit (s := S128x128) ![0, 0] S1x128.size inb_S128x128_S1x128_0_0) (View.set_slice_subset _ _)) $$ H2; iintro H2
  iapply (Scf.wp_for_bind frame (wpE (defs₀ (F := F)) Variants.none c none) Set.univ _ _ _ k0_t1_ok _ _
      (fun n acc => iprop(⌜acc = spread (M2.view.read (Elt F) f2) n⌝ ∗ pt c M1 f1 ∗ pt c M2 f2 ∗ pt c M3 f3
        ∗ (∃ f, ⌜∀ y : S128x1024.Idx, (y 0).val < n → M4.view.read (Elt F) f y
              = outBlock (M1.view.read (Elt F) f1) hw (M2.view.read (Elt F) f2) (M3.view.read (Elt F) f3) y⌝ ∗ pt c M4 f)
        ∗ (∃ f, pt c M5 f))) ?trip) $$ [H1 H2 H3 H4 H5]
  case trip =>
    intro k acc
    iintro ⟨%hacc, H1, H2, H3, ⟨%g4, %hg4, H4⟩, ⟨%g5, H5⟩⟩
    subst hacc
    iapply (trip c i k _ M1 h1 M2 h2 M3 h3 M4 h4 M5 h5 f1 f2 f3 g4 g5 hw _)
    isplitl [H1]; · iexact H1
    isplitl [H2]; · iexact H2
    isplitl [H3]; · iexact H3
    isplitl [H4]; · iexact H4
    isplitl [H5]; · iexact H5
    iintro ⟨H1, H2, H3, H4, H5⟩
    isplitr
    · ipureintro
      show _ = if h : k.val < k0_t1_loop.trips then _ else _
      rw [dif_pos k.isLt]
      rfl
    isplitl [H1]; · iexact H1
    isplitl [H2]; · iexact H2
    isplitl [H3]; · iexact H3
    isplitl [H4]
    · iexists _; isplitr
      swap; · iexact H4
      ipureintro
      intro y hy
      rw [half_eq, half_eq]
      refine rows_step M4 g4 _ k _ _ hg4 (fun z hz hc => ?_) (fun z hz hc => ?_) y hy
      · unfold outBlock
        rw [dif_pos hc, show tripOf z = k from Fin.ext hz, hz]
      · unfold outBlock
        rw [dif_neg hc, show tripOf z = k from Fin.ext hz, hz]
    iexact H5
  · isplitr
    · ipureintro; rfl
    isplitl [H1]; · iexact H1
    isplitl [H2]; · iexact H2
    isplitl [H3]; · iexact H3
    isplitl [H4]
    · iexists f4; isplitr
      · ipureintro; exact fun y hy => absurd hy (Nat.not_lt_zero _)
      iexact H4
    iexists f5; iexact H5
  iintro %acc ⟨-, H1, H2, H3, ⟨%g4, %hg4, H4⟩, H5⟩
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists g4; isplitr
    · ipureintro
      exact funext fun y => hg4 y (by have h : (y 0).val < 128 := (y 0).isLt; exact lt_of_lt_of_eq h trips_eq.symm)
    iexact H4
  iexact H5

/-! ## The pipeline's proof data -/

variable (m : (ℓ : Loc nD τ sig) → Buf (Elt F) ℓ) (ρ : Dev nD → PrngReg)

/-- Every word any grid point finds in its block of words names a table row. -/
def AllInTab : Prop := ∀ (c : Dev nD) (t : Fin cfg0.N) (y : S128x128.Idx), InTab (iblk m c 0 t y)

variable (hw : AllInTab m)

/-- The proof data: each input's buffer keeps its block, the output's ends at `outBlock` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (hw c t) (iblk m c 1 t) (iblk m c 2 t)
  Φ _ := Pipeline.ΦA spec0 c
  q _ := fullShare
  owed _ := 0

theorem A_eq (c : Dev nD) (w : Fin cfg0.W) : (dats m hw 0 c).A w = V m c (Pipeline.arrRef spec0 w) := by
  dsimp only [dats]

theorem after_0 (c : Dev nD) (t : Fin cfg0.N) : (dats m hw 0 c).after 0 t = iblk m c 0 t := by dsimp only [dats]
theorem after_1 (c : Dev nD) (t : Fin cfg0.N) : (dats m hw 0 c).after 1 t = iblk m c 1 t := by dsimp only [dats]
theorem after_2 (c : Dev nD) (t : Fin cfg0.N) : (dats m hw 0 c).after 2 t = iblk m c 2 t := by dsimp only [dats]
theorem after_3 (c : Dev nD) (t : Fin cfg0.N) :
    (dats m hw 0 c).after 3 t = outBlock (iblk m c 0 t) (hw c t) (iblk m c 1 t) (iblk m c 2 t) := by dsimp only [dats]

theorem before_0 (c : Dev nD) (t : Fin cfg0.N) (d) : (dats m hw 0 c).before 0 t d = iblk m c 0 t :=
  before0_0_of m (dats m hw 0 c) (A_eq m hw c 0) (after_0 m hw c) t d
theorem before_1 (c : Dev nD) (t : Fin cfg0.N) (d) : (dats m hw 0 c).before 1 t d = iblk m c 1 t :=
  before0_1_of m (dats m hw 0 c) (A_eq m hw c 1) (after_1 m hw c) t d
theorem before_2 (c : Dev nD) (t : Fin cfg0.N) (d) : (dats m hw 0 c).before 2 t d = iblk m c 2 t :=
  before0_2_of m (dats m hw 0 c) (A_eq m hw c 2) (after_2 m hw c) t d

/-- What the body is called with at point `t`, window by window, -/
def bodyPre (c : Dev nD) (t : Fin cfg0.N) : sProp 𝕄 :=
  iprop((dats m hw 0 c).Φ t.castSucc ∗ (dats m hw 0 c).owesAt () t.castSucc
    ∗ (∃ d, owns (c : Thread nD τ) (st0_0 t) fullShare ((dats m hw 0 c).before 0 t d))
    ∗ (∃ d, owns (c : Thread nD τ) (st0_1 t) fullShare ((dats m hw 0 c).before 1 t d))
    ∗ (∃ d, owns (c : Thread nD τ) (st0_2 t) fullShare ((dats m hw 0 c).before 2 t d))
    ∗ (∃ d, owns (c : Thread nD τ) (st0_3 t) fullShare ((dats m hw 0 c).before 3 t d)))

/-- and what it returns. -/
def bodyPost (c : Dev nD) (t : Fin cfg0.N) : sProp 𝕄 :=
  iprop((dats m hw 0 c).Φ t.succ ∗ (dats m hw 0 c).owesAt () t.succ
    ∗ owns (c : Thread nD τ) (st0_0 t) fullShare ((dats m hw 0 c).after 0 t)
    ∗ owns (c : Thread nD τ) (st0_1 t) fullShare ((dats m hw 0 c).after 1 t)
    ∗ owns (c : Thread nD τ) (st0_2 t) fullShare ((dats m hw 0 c).after 2 t)
    ∗ owns (c : Thread nD τ) (st0_3 t) fullShare ((dats m hw 0 c).after 3 t))

theorem scratch_whole (c : Dev nD) (f : Buf (Elt F) ((c : Thread nD τ).loc cc0_scratch0)) :
    (pt c (Memref.whole cc0_scratch0) f : sProp 𝕄) = iprop(((c : Thread nD τ).loc cc0_scratch0) ↦{fullShare} f) := by
  unfold pt; rw [show (Memref.whole cc0_scratch0).view.set = Finset.univ from View.set_whole _]

theorem scratch_in (c : Dev nD) (f : Buf (Elt F) ((c : Thread nD τ).loc cc0_scratch0)) :
    (iprop(((c : Thread nD τ).loc cc0_scratch0) ↦{fullShare} f) : sProp 𝕄) ⊢ pt c (Memref.whole cc0_scratch0) f := by
  rw [scratch_whole]

theorem scratch_out (c : Dev nD) (f : Buf (Elt F) ((c : Thread nD τ).loc cc0_scratch0)) :
    (pt c (Memref.whole cc0_scratch0) f : sProp 𝕄) ⊢ iprop(((c : Thread nD τ).loc cc0_scratch0) ↦{fullShare} f) := by
  rw [scratch_whole]

/-- The body's triple with the kernel's own scratch, held as the launch hands it over. -/
theorem sound_kernel_scratch (c : Dev nD) (i : grid0.Coords)
    (M1 : Memref sig .tc .smem S128x128 .i32) (h1 : M1.IsWhole) (M2 : Memref sig .tc .vmem S128x128 .f32) (h2 : M2.IsWhole)
    (M3 : Memref sig .tc .vmem S65536x128 .i32) (h3 : M3.IsWhole) (M4 : Memref sig .tc .vmem S128x1024 .f32) (h4 : M4.IsWhole)
    (x0 : S128x128.Idx → BitVec 32) (hw : ∀ y, InTab (x0 y)) (x1 : Vec F S128x128 .f32) (x2 : S65536x128.Idx → BitVec 32)
    (K : PUnit → sProp 𝕄) :
    iprop(owns (c : Thread nD τ) M1 fullShare x0 ∗ owns (c : Thread nD τ) M2 fullShare x1 ∗ owns (c : Thread nD τ) M3 fullShare x2
        ∗ (∃ d, owns (c : Thread nD τ) M4 fullShare d)
        ∗ (∃ f : Buf (Elt F) ((c : Thread nD τ).loc cc0_scratch0), ((c : Thread nD τ).loc cc0_scratch0) ↦{fullShare} f)
        ∗ (iprop(owns (c : Thread nD τ) M1 fullShare x0 ∗ owns (c : Thread nD τ) M2 fullShare x1 ∗ owns (c : Thread nD τ) M3 fullShare x2
            ∗ owns (c : Thread nD τ) M4 fullShare (outBlock x0 hw x1 x2)
            ∗ (∃ f : Buf (Elt F) ((c : Thread nD τ).loc cc0_scratch0), ((c : Thread nD τ).loc cc0_scratch0) ↦{fullShare} f)) -∗ K ⟨⟩))
      ⊢ wp frame (wpE (defs₀ (F := F)) Variants.none c none) Set.univ
        (cc0_peer_v i M1 h1 M2 h2 M3 h3 M4 h4 (Memref.whole cc0_scratch0) (Memref.isWhole_whole _)) K := by
  iintro ⟨H1, H2, H3, H4, ⟨%f5, H5⟩, Hk⟩
  iapply (sound_kernel c i M1 h1 M2 h2 M3 h3 M4 h4 (Memref.whole cc0_scratch0) (Memref.isWhole_whole _) x0 hw x1 x2 K)
  isplitl [H1]; · iexact H1
  isplitl [H2]; · iexact H2
  isplitl [H3]; · iexact H3
  isplitl [H4]; · iexact H4
  isplitl [H5]
  · iexists f5; iapply (scratch_in c f5); iexact H5
  iintro ⟨H1, H2, H3, H4, ⟨%f6, H5⟩⟩
  iapply Hk
  isplitl [H1]; · iexact H1
  isplitl [H2]; · iexact H2
  isplitl [H3]; · iexact H3
  isplitl [H4]; · iexact H4
  iexists f6; iapply (scratch_out c f6); iexact H5

attribute [local irreducible] outBlock

/-- The body at any point, the scratch taken out of the invariant and put back. -/
theorem sound_body (c : Dev nD) (t : Fin cfg0.N) :
    bodyPre m hw c t ⊢ wp frame (wpE (defs₀ (F := F)) Variants.none c none) Set.univ (bodyAt0 t) (fun _ => bodyPost m hw c t) := by
  unfold bodyPre bodyPost bodyAt0
  simp only [before_0, before_1, before_2]
  rw [show (dats m hw 0 c).Φ t.succ = (dats m hw 0 c).Φ t.castSucc from rfl,
    show (dats m hw 0 c).owesAt () t.succ = (dats m hw 0 c).owesAt () t.castSucc from rfl,
    show (dats m hw 0 c).Φ t.castSucc = Pipeline.ΦA spec0 c from rfl,
    after_0, after_1, after_2, after_3]
  unfold Pipeline.ΦA
  rw [scopedRest0_eq]
  iintro ⟨⟨Hs, Hp⟩, Ho, ⟨%d0, H0⟩, ⟨%d1, H1⟩, ⟨%d2, H2⟩, ⟨%d3, H3⟩⟩
  iapply (sound_kernel_scratch c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3))
    (iblk m c 0 t) (hw c t) (iblk m c 1 t) (iblk m c 2 t) _)
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hp]
  · isplitl [Hs]; · iexact Hs
    iexact Hp
  isplitl [Ho]; · iexact Ho
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m hw 0 c) (defs₀ (F := F)) Variants.none () Set.univ := fun t => by
  rw [bigSep_W0, bigSep_W0, defs₀_row]
  exact triple_restated (sound_body m hw c t) rfl .rfl fun _ => .rfl

/-! ## The run and the frame -/

set_option backward.isDefEq.respectTransparency.types false in
set_option maxHeartbeats 800000 in
/-- Every execution ends, with the arrays the windows stage at what the proof data says, the rest as launched and every counter at zero. -/
theorem run_quiescent : θ_run defs (onTc (τ := τ) (main (F := F))) (s₀ m ρ)
    (fun r => (Pipeline.FramePost cfgs (dats m hw) 0 (V m)) r ∧ r.2.sem = fun _ => 0) :=
  Pipeline.θ_run_frame (Q' := _) cfgs (dats m hw) (0 : Fin 1) launch0 defs₀ Variants.none m ρ main
    (hbody := fun c => (body_obligation m hw c).loose) (hshare := fun c => (dats m hw 0 c).share_full fun _ => rfl)
    (howed := fun _ _ => rfl) (V := V m) (hmain := hmain m Variants.none) (hA := A_eq m hw) (hΦ := fun _ _ => rfl)

/-- The same without the counters. -/
theorem run_main : θ_run defs (onTc (τ := τ) (main (F := F))) (s₀ m ρ) (Pipeline.FramePost cfgs (dats m hw) 0 (V m)) :=
  (θ_run defs _ _).mono (fun _ h => h.1) (run_quiescent m ρ hw)

include hw in
/-- THE FRAME: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨?_, h.2⟩) (run_quiescent m ρ hw)
  exact fun c => ⟨((h.1 c).1 0).trans (((dats m hw 0 c).arrAt_in 0 rfl _).trans ((A_eq m hw c 0).trans (V_main_arg0 m c))),
      ((h.1 c).1 1).trans (((dats m hw 0 c).arrAt_in 1 rfl _).trans ((A_eq m hw c 1).trans (V_main_arg1 m c))),
      ((h.1 c).2 main_arg2 (Pipeline.mem_restRefs_of main_arg2 (by decide) (by decide))).trans (V_main_arg2 m c)⟩

end Cert.Proof.KernelIdeal
-- ==== Proof.Words.lean ====
module

public import proofs.«01_k».proof.Defs
public import Idealize.ShloMosaic.Lib.Pointwise
public import Idealize.ShloMosaic.Lib.Routing.Words

@[expose] public section

set_option maxRecDepth 16384

noncomputable section

open Idealize.ShloMosaic

namespace Cert.Proof.Words

/-- A one-bit conjunction is one exactly when both sides are. -/
theorem and_one {a b : BitVec 1} (h : IntOp.andi a b = 1#1) : a = 1#1 ∧ b = 1#1 := by
  revert a b; decide

/-- A word that is signed at least 0, signed below 65536 and has its two low bits clear is a natural multiple of four
    whose four rows lie in the table. -/
theorem row_of_word {w : BitVec 32}
    (h : IntOp.andi (IntOp.andi (IntOp.cmpi .sge w 0#32) (IntOp.cmpi .slt w 65536#32)) (IntOp.cmpi .eq (IntOp.andi w 3#32) 0#32) = 1#1) :
    4 ∣ w.toNat ∧ w.toNat + 4 ≤ 65536 := by
  obtain ⟨h1, h3⟩ := and_one h
  obtain ⟨h1, h2⟩ := and_one h1
  have e3 : w &&& 3#32 = 0#32 := by
    have h3' : BitVec.ofBool (w &&& 3#32 == 0#32) = 1#1 := h3
    by_contra hc
    rw [beq_eq_false_iff_ne.mpr hc] at h3'
    exact absurd h3' (by decide)
  have e1 : (0#32).sle w = true := by
    have h1' : BitVec.ofBool ((0#32).sle w) = 1#1 := h1
    cases hc : (0#32).sle w
    · rw [hc] at h1'; exact absurd h1' (by decide)
    · rfl
  have e2 : w.slt 65536#32 = true := by
    have h2' : BitVec.ofBool (w.slt 65536#32) = 1#1 := h2
    cases hc : w.slt 65536#32
    · rw [hc] at h2'; exact absurd h2' (by decide)
    · rfl
  rw [BitVec.sle_iff_toInt_le] at e1
  rw [BitVec.slt_iff_toInt_lt] at e2
  have hm : w.toNat % 4 = 0 := by
    have := congrArg BitVec.toNat e3
    rw [BitVec.toNat_and] at this
    exact (Nat.and_two_pow_sub_one_eq_mod w.toNat 2).symm.trans this
  have z : (0#32).toInt = 0 := by decide
  have z2 : (65536#32).toInt = 65536 := by decide
  rw [z] at e1; rw [z2] at e2
  rw [BitVec.toInt_eq_toNat_cond] at e1 e2
  have := w.isLt
  split at e1 <;> omega

/-- A natural below `2 ^ 31` as a signed word. -/
theorem toInt_ofNat {n : Nat} (h : n < 2 ^ 31) : (BitVec.ofNat 32 n).toInt.toNat = n := by
  rw [BitVec.toInt_eq_toNat_cond, BitVec.toNat_ofNat, Nat.mod_eq_of_lt (by omega), if_pos (by omega)]
  rfl

/-- The row a reference word names: the wrap of negatives does nothing to a natural, and the clamp does nothing below
    the table's length. -/
theorem ref_row {w : BitVec 32} (h : w.toNat + 4 ≤ 65536) :
    min (if IntOp.cmpi .slt (IntOp.divsi .host w 4#32) 0#32 = 1#1
      then (IntOp.addi (IntOp.divsi .host w 4#32) 16384#32) else (IntOp.divsi .host w 4#32)).toInt.toNat 16383 = w.toNat / 4 := by
  have e : IntOp.divsi .host w 4#32 = BitVec.ofNat 32 (w.toNat / 4) := by
    have := Routing.divsi_word .host (a := w.toNat) (b := 4) (by omega) (by omega) (by omega)
    rw [BitVec.ofNat_toNat, BitVec.setWidth_eq] at this
    exact this
  rw [e]
  have hn : IntOp.cmpi .slt (BitVec.ofNat 32 (w.toNat / 4)) 0#32 = 0#1 := by
    show BitVec.ofBool ((BitVec.ofNat 32 (w.toNat / 4)).slt 0#32) = 0#1
    rw [show (BitVec.ofNat 32 (w.toNat / 4)).slt 0#32 = false from ?_]; · rfl
    rw [Bool.eq_false_iff]
    intro hc
    rw [BitVec.slt_iff_toInt_lt, show (0#32).toInt = 0 by decide, BitVec.toInt_eq_toNat_cond, BitVec.toNat_ofNat,
      Nat.mod_eq_of_lt (by omega), if_pos (by omega)] at hc
    omega
  rw [hn]
  show min (BitVec.ofNat 32 (w.toNat / 4)).toInt.toNat 16383 = _
  rw [toInt_ofNat (by omega)]
  omega

/-- Two halves packed in a word, the word shifted up: the low half is left, in the high places. -/
theorem pack_low (a b : BitVec 16) :
    IntOp.shli .vector (IntOp.ori (a.setWidth 32) (IntOp.shli .host (b.setWidth 32) 16#32)) 16#32 = a.setWidth 32 <<< 16 := by
  show (a.setWidth 32 ||| b.setWidth 32 <<< 16) <<< 16 = _
  ext i hi
  simp only [BitVec.getElem_shiftLeft, BitVec.getElem_or, BitVec.getElem_setWidth]
  by_cases h : i < 16
  · simp [h]
  · simp [h, show i - 16 < 16 by omega]

/-- Two halves packed in a word, the low places cleared: the high half is left where it stands. -/
theorem pack_high (a b : BitVec 16) :
    IntOp.andi (IntOp.ori (a.setWidth 32) (IntOp.shli .host (b.setWidth 32) 16#32)) 4294901760#32 = b.setWidth 32 <<< 16 := by
  have hmask : 4294901760#32 = (65535#16).setWidth 32 <<< 16 := by decide
  show (a.setWidth 32 ||| b.setWidth 32 <<< 16) &&& 4294901760#32 = _
  rw [hmask]
  ext i hi
  simp only [BitVec.getElem_shiftLeft, BitVec.getElem_or, BitVec.getElem_and, BitVec.getElem_setWidth]
  by_cases h : i < 16
  · simp [h]
  · have h2 : i - 16 < 16 := by omega
    have h3 : (65535#16)[i - 16] = true := by
      rw [BitVec.getElem_eq_testBit_toNat]
      exact (Nat.testBit_two_pow_sub_one 16 (i - 16)).trans (decide_eq_true h2)
    simp [h, h2, h3, BitVec.getLsbD_of_ge a i (by omega)]

/-- The number a sign, an exponent and a fraction make, the fraction in 23 places or in 7. -/
theorem widen_parts (neg : Bool) (ex fr : ℕ) :
    (if ex = 2 ^ 8 - 1 then (if fr * 65536 = 0 then (if neg then (⊥ : EReal) else ⊤) else ⊥)
      else if ex = 0 then (((if neg then (-1 : ℝ) else 1) * (fr * 65536 : ℕ) * (2 : ℝ) ^ (1 - (2 ^ (8 - 1) - 1 : Int) - (23 : ℕ) : Int) : ℝ) : EReal)
      else (((if neg then (-1 : ℝ) else 1) * (2 ^ 23 + fr * 65536 : ℕ) * (2 : ℝ) ^ ((ex : Int) - (2 ^ (8 - 1) - 1 : Int) - (23 : ℕ)) : ℝ) : EReal))
    = (if ex = 2 ^ 8 - 1 then (if fr = 0 then (if neg then (⊥ : EReal) else ⊤) else ⊥)
      else if ex = 0 then (((if neg then (-1 : ℝ) else 1) * fr * (2 : ℝ) ^ (1 - (2 ^ (8 - 1) - 1 : Int) - (7 : ℕ) : Int) : ℝ) : EReal)
      else (((if neg then (-1 : ℝ) else 1) * (2 ^ 7 + fr : ℕ) * (2 : ℝ) ^ ((ex : Int) - (2 ^ (8 - 1) - 1 : Int) - (7 : ℕ)) : ℝ) : EReal)) := by
  have p : ∀ k : Int, (2 : ℝ) ^ (k - (23 : ℕ)) * 65536 = (2 : ℝ) ^ (k - (7 : ℕ)) := by
    intro k
    rw [show k - ((7 : ℕ) : ℤ) = (k - ((23 : ℕ) : ℤ)) + 16 by push_cast; ring, zpow_add₀ (by norm_num : (2 : ℝ) ≠ 0)]
    norm_num
  have q : ∀ (s f : ℝ) (k : Int), s * (f * 65536) * (2 : ℝ) ^ (k - (23 : ℕ)) = s * f * (2 : ℝ) ^ (k - (7 : ℕ)) := by
    intro s f k; rw [← p]; ring
  have z : (fr * 65536 = 0) = (fr = 0) := propext (by omega)
  have e1 : ((fr * 65536 : ℕ) : ℝ) = (fr : ℝ) * 65536 := by push_cast; rfl
  have e2 : ((2 ^ 23 + fr * 65536 : ℕ) : ℝ) = ((2 ^ 7 + fr : ℕ) : ℝ) * 65536 := by push_cast; ring
  rw [e1, e2, q, q]
  simp only [z]

/-- A bf16 word put in the high places of an f32 word is the same number. -/
theorem widen (b : BitVec 16) : Ideal.ofBits .f32 (b.setWidth 32 <<< 16 : BitVec 32) = Ideal.ofBits .bf16 b := by
  show Ideal.ieee 8 23 (b.setWidth 32 <<< 16 : BitVec 32) = Ideal.ieee 8 7 b
  have hx : (b.setWidth 32 <<< 16 : BitVec 32).toNat = b.toNat * 65536 := by
    rw [BitVec.toNat_shiftLeft, BitVec.toNat_setWidth, Nat.shiftLeft_eq]
    have := b.isLt
    rw [Nat.mod_eq_of_lt (by omega : b.toNat < 2 ^ 32)]
    omega
  have h1 : (b.setWidth 32 <<< 16 : BitVec 32).extractLsb' (8 + 23) 1 = b.extractLsb' (8 + 7) 1 := by
    apply BitVec.eq_of_toNat_eq
    rw [BitVec.extractLsb'_toNat, BitVec.extractLsb'_toNat, hx, Nat.shiftRight_eq_div_pow, Nat.shiftRight_eq_div_pow]
    omega
  have h2 : ((b.setWidth 32 <<< 16 : BitVec 32).extractLsb' 23 8).toNat = (b.extractLsb' 7 8).toNat := by
    rw [BitVec.extractLsb'_toNat, BitVec.extractLsb'_toNat, hx, Nat.shiftRight_eq_div_pow, Nat.shiftRight_eq_div_pow]
    omega
  have h3 : ((b.setWidth 32 <<< 16 : BitVec 32).extractLsb' 0 23).toNat = (b.extractLsb' 0 7).toNat * 65536 := by
    rw [BitVec.extractLsb'_toNat, BitVec.extractLsb'_toNat, hx, Nat.shiftRight_eq_div_pow, Nat.shiftRight_eq_div_pow]
    omega
  unfold Ideal.ieee
  rw [h1, h2, h3]
  generalize (b.extractLsb' (8 + 7) 1 == 1#1) = neg
  generalize (b.extractLsb' 7 8).toNat = ex
  generalize (b.extractLsb' 0 7).toNat = fr
  exact widen_parts neg ex fr

/-- A sum over even positions and a sum over odd positions make the whole sum. -/
theorem sum_even_odd (f : ℕ → EReal) (n : ℕ) :
    (∑ i ∈ Finset.range n, f (2 * i)) + (∑ i ∈ Finset.range n, f (2 * i + 1)) = ∑ i ∈ Finset.range (2 * n), f i := by
  induction n with
  | zero => simp
  | succ n ih =>
    rw [Finset.sum_range_succ, Finset.sum_range_succ, show 2 * (n + 1) = 2 * n + 1 + 1 by ring, Finset.sum_range_succ,
      Finset.sum_range_succ, ← ih]
    ac_rfl

/-- An index word: a multiple of four whose four rows lie in the table. -/
abbrev IsRow (w : BitVec 32) : Prop := 4 ∣ w.toNat ∧ w.toNat + 4 ≤ 65536

/-- Where a start word starts: four rows on, in the even columns. -/
theorem start_toNat {w : BitVec 32} (h : IsRow w) (j : ℕ) :
    (IntOp.addi w (if j % 2 = 0 then 4#32 else 0#32)).toNat = w.toNat + (if j % 2 = 0 then 4 else 0) := by
  have h2 := h.2
  show (w + _).toNat = _
  rw [BitVec.toNat_add]
  split
  · show (w.toNat + 4) % 2 ^ 32 = _; omega
  · show (w.toNat + 0) % 2 ^ 32 = _; omega

end Cert.Proof.Words
-- ==== Proof.GatherValue.lean ====
module

public import proofs.«01_k».proof.Proof.GatherBody
public import proofs.«01_k».proof.Proof.Words
public import proofs.«01_k».proof.Proof.Gen.ReferenceIdeal.Run
public import proofs.«01_k».proof.Proof.Gen.Pre_in_table
public import Idealize.ShloMosaic.Lib.Pipeline.Value
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proof.KernelIdeal

open Cert.KernelIdeal Cert.KernelIdeal.Gen

/-! ## The pieces of a trip, read at an index -/

/-- Row `j` of the spread coefficients, repeated over the four sublanes. -/
theorem rowOf_apply (acc : FVec Ideal S128x128 .f32) (j : Fin 128) (a : Fin 4) (l : Fin 128) :
    rowOf acc j (ix2 a l) = acc (ix2 j l) := by
  pointwise [rowOf, k0_pay6]

theorem off1 : ∀ k : Fin k0_t1_loop.trips, k0_off1 k 0 = min (k.val + 1) 127 ∧ k0_off1 k 1 = 0 := by decide +kernel
theorem off2 : ∀ k : Fin k0_t1_loop.trips, k0_off2 k 0 = k.val ∧ k0_off2 k 1 = 0 := by decide +kernel

/-- The place trip `k` reads its `j`-th word from: row `k`, column `j`. -/
theorem wordIdx_eq (k : Fin k0_t1_loop.trips) (j : Fin 128) : wordIdx k j = ix2 (⟨k.val, trips_eq ▸ k.isLt⟩ : Fin 128) j := by
  have e : ((Rect.unit (s := S128) ![j.val] S1.size (words_inb j)).idx (Shape.Idx.first (show 0 < S1.numel by decide)) : S128.Idx) = ix1 j := by
    funext a
    refine Fin.ext ?_
    match a with
    | ⟨0, _⟩ => show j.val + 1 * 0 = j.val; omega
  have q : shapeCast (α := S1x128.Idx) S128 (fun y : S1x128.Idx => y) (Shape.Squeezes.numel_eq squeezes_S1x128_S128) (ix1 j)
      = ix2 (0 : Fin 1) j := by
    pointwise
  have q' : (Shape.reshapeEquiv (Shape.Squeezes.numel_eq squeezes_S1x128_S128)).toEmbedding (ix1 j) = (ix2 (0 : Fin 1) j : S1x128.Idx) := q
  unfold wordIdx
  rw [e, q']
  funext a
  refine Fin.ext ?_
  match a with
  | ⟨0, _⟩ => show k0_off2 k 0 + 1 * 0 = k.val; rw [(off2 k).1]; omega
  | ⟨1, _⟩ => show k0_off2 k 1 + 1 * j.val = j.val; rw [(off2 k).2]; omega

/-- What trip `k`'s buffer of spread coefficients holds: row `j`, any lane, is the coefficient `j` of token row `k`. -/
theorem spread_apply (x1 : Vec Ideal S128x128 .f32) (k : Fin 128) (j l : Fin 128) :
    spread x1 k.val (ix2 j l) = x1 (ix2 k j) := by
  have h0 : ∀ v : Vec Ideal S1x128 .f32, k0_pay1 v (ix2 j l) = v (ix2 (0 : Fin 1) j) := by
    intro v; pointwise [k0_pay1]
  have h5 : ∀ v : Vec Ideal S1x128 .f32, k0_pay5 v (ix2 j l) = v (ix2 (0 : Fin 1) j) := by
    intro v; pointwise [k0_pay5]
  obtain ⟨k, hk⟩ := k
  match k, hk with
  | 0, hk =>
    show k0_pay1 _ (ix2 j l) = _
    rw [h0]
    refine congrArg x1 (funext fun a => Fin.ext ?_)
    match a with
    | ⟨0, _⟩ => rfl
    | ⟨1, _⟩ => show 0 + 1 * j.val = j.val; omega
  | n + 1, hk =>
    have hn : n < k0_t1_loop.trips := by rw [trips_eq]; omega
    show spread x1 (n + 1) (ix2 j l) = _
    rw [spread, dif_pos hn, h5]
    refine congrArg x1 (funext fun a => Fin.ext ?_)
    match a with
    | ⟨0, _⟩ => show k0_off1 ⟨n, hn⟩ 0 + 1 * 0 = n + 1; rw [(off1 _).1]; show min (n + 1) 127 + 1 * 0 = n + 1; omega
    | ⟨1, _⟩ => show k0_off1 ⟨n, hn⟩ 1 + 1 * j.val = j.val; rw [(off1 _).2]; omega

/-- An accumulation of every second word's product is a sum. -/
theorem accum_apply (g : Fin 128 → FVec Ideal S4x128 .f32) (p : Fin 2) (n : ℕ) (y : S4x128.Idx) :
    accum g p n y = ∑ i ∈ Finset.range n, g ⟨(2 * i + p.val) % 128, Nat.mod_lt _ (by decide)⟩ y := by
  induction n with
  | zero => exact Ideal.ofBits_zero_f32
  | succ n ih =>
    rw [Finset.sum_range_succ, ← ih]
    rfl

/-- The even words' accumulation and the odd words' together: the sum over the row's 128 words. -/
theorem accum_pair (g : Fin 128 → FVec Ideal S4x128 .f32) (y : S4x128.Idx) :
    (accum g 0 64 y : EReal) + accum g 1 64 y = ∑ j : Fin 128, g j y := by
  rw [accum_apply, accum_apply]
  have := Words.sum_even_odd (fun i => g ⟨i % 128, Nat.mod_lt _ (by decide)⟩ y) 64
  refine Eq.trans this ?_
  rw [Finset.sum_range]
  exact Finset.sum_congr rfl fun j _ => congrFun (congrArg g (Fin.ext (Nat.mod_eq_of_lt j.isLt))) y

/-- The low half of each packed word, as a number. -/
theorem lowHalf_apply (b : IVec S4x128 32) (a : Fin 4) (l : Fin 128) :
    lowHalf (F := Ideal) b (ix2 a l) = Ideal.ofBits .f32 (IntOp.shli .vector (b (ix2 a l)) 16#32) := by
  pointwise [lowHalf]

/-- The high half of each packed word, as a number. -/
theorem highHalf_apply (b : IVec S4x128 32) (a : Fin 4) (l : Fin 128) :
    highHalf (F := Ideal) b (ix2 a l) = Ideal.ofBits .f32 (IntOp.andi (b (ix2 a l)) 4294901760#32) := by
  pointwise [highHalf]

/-- The four rows a word names, read at an index. -/
theorem block_apply (words : S128x128.Idx → BitVec 32) (hw : ∀ y, InTab (words y)) (tab : S65536x128.Idx → BitVec 32)
    (k j : Fin 128) (hk : k.val < k0_t1_loop.trips) (a : Fin 4) (l : Fin 128) :
    block words hw tab ⟨k.val, hk⟩ j (ix2 a l)
      = tab (ix2 (⟨(words (ix2 k j)).toNat + a.val, by have := (hw (ix2 k j)).2; have := a.isLt; omega⟩ : Fin 65536) l) := by
  unfold block
  refine congrArg tab (funext fun x => Fin.ext ?_)
  match x with
  | ⟨0, _⟩ =>
    show (words (wordIdx ⟨k.val, hk⟩ j)).toNat + 1 * a.val = _
    rw [wordIdx_eq]
    show (words (ix2 k j)).toNat + 1 * a.val = (words (ix2 k j)).toNat + a.val
    omega
  | ⟨1, _⟩ => show 0 + 1 * l.val = l.val; omega

/-- A trip's row of 512 sums, read at a column. -/
theorem sums_apply (u : IVec S4x128 32 → FVec Ideal S4x128 .f32) (words : S128x128.Idx → BitVec 32) (hw : ∀ y, InTab (words y))
    (tab : S65536x128.Idx → BitVec 32) (k : Fin k0_t1_loop.trips) (acc : FVec Ideal S128x128 .f32) (d : Fin 512) :
    sums u words hw tab k acc (ix2 (0 : Fin 1) d)
      = ∑ j : Fin 128, (acc (ix2 j (⟨d.val % 128, by omega⟩ : Fin 128)) : EReal)
          * u (block words hw tab k j) (ix2 (⟨d.val / 128, by omega⟩ : Fin 4) (⟨d.val % 128, by omega⟩ : Fin 128)) := by
  pointwise [sums]
  rw [accum_pair]
  refine Finset.sum_congr rfl fun j _ => ?_
  show (rowOf acc j (ix2 _ _) : EReal) * _ = _
  rw [rowOf_apply]

/-! ## The packed table -/

variable (m : (ℓ : Loc nD τ sig) → Buf (Elt Ideal) ℓ) (ρ : Dev nD → PrngReg)

/-- The packed table: row `R`, lane `l` holds two table words of table row `R / 4`, 512 columns apart. -/
theorem V_tab (c : Dev nD) (R : Fin 65536) (l : Fin 128) : V m c main_v7 (ix2 R l)
    = IntOp.ori ((m ((c : Thread nD τ).loc main_arg2) (ix2 (⟨R.val / 4, by omega⟩ : Fin 16384) (⟨R.val % 4 * 128 + l.val, by omega⟩ : Fin 1024))).setWidth 32)
      (IntOp.shli .host ((m ((c : Thread nD τ).loc main_arg2) (ix2 (⟨R.val / 4, by omega⟩ : Fin 16384) (⟨512 + (R.val % 4 * 128 + l.val), by omega⟩ : Fin 1024))).setWidth 32) 16#32) := by
  unfold V
  after_results
  pointwise [id]

/-! ## The blocks -/

theorem ind0 : ∀ t : Fin grid0.N, win0_0.index t 0 = t.val ∧ win0_0.index t 1 = 0 := by decide +kernel
theorem ind1 : ∀ t : Fin grid0.N, win0_1.index t 0 = t.val ∧ win0_1.index t 1 = 0 := by decide +kernel
theorem ind2 : ∀ t : Fin grid0.N, win0_2.index t 0 = 0 ∧ win0_2.index t 1 = 0 := by decide +kernel
theorem ind3 : ∀ t : Fin grid0.N, win0_3.index t 0 = t.val ∧ win0_3.index t 1 = 0 := by decide +kernel

/-- Row `a` of point `t`'s block of token rows. -/
abbrev row (t : Fin cfg0.N) (a : Fin 128) : Fin 32768 :=
  ⟨t.val * 128 + a.val, by have := t.isLt; have h : cfg0.N = 256 := N_0; have := a.isLt; omega⟩

/-- The index words a grid point sees. -/
theorem blk0 (c : Dev nD) (t : Fin cfg0.N) (a b : Fin 128) :
    iblk m c 0 t (ix2 a b) = m ((c : Thread nD τ).loc main_arg0) (ix2 (row t a) b) := by
  unfold iblk
  rw [show V m c (Pipeline.arrRef spec0 0) = m ((c : Thread nD τ).loc main_arg0) from V_main_arg0 m c]
  refine congrArg (m ((c : Thread nD τ).loc main_arg0)) (funext fun x => Fin.ext ?_)
  match x with
  | ⟨0, _⟩ => show win0_0.index t 0 * 128 + 1 * a.val = _; rw [(ind0 t).1]; show _ = t.val * 128 + a.val; omega
  | ⟨1, _⟩ => show win0_0.index t 1 * 128 + 1 * b.val = _; rw [(ind0 t).2]; show _ = b.val; omega

/-- The coefficients a grid point sees. -/
theorem blk1 (c : Dev nD) (t : Fin cfg0.N) (a b : Fin 128) :
    iblk m c 1 t (ix2 a b) = m ((c : Thread nD τ).loc main_arg1) (ix2 (row t a) b) := by
  unfold iblk
  rw [show V m c (Pipeline.arrRef spec0 1) = m ((c : Thread nD τ).loc main_arg1) from V_main_arg1 m c]
  refine congrArg (m ((c : Thread nD τ).loc main_arg1)) (funext fun x => Fin.ext ?_)
  match x with
  | ⟨0, _⟩ => show win0_1.index t 0 * 128 + 1 * a.val = _; rw [(ind1 t).1]; show _ = t.val * 128 + a.val; omega
  | ⟨1, _⟩ => show win0_1.index t 1 * 128 + 1 * b.val = _; rw [(ind1 t).2]; show _ = b.val; omega

/-- The packed table, whole at every grid point. -/
theorem blk2 (c : Dev nD) (t : Fin cfg0.N) (R : Fin 65536) (l : Fin 128) :
    iblk m c 2 t (ix2 R l) = V m c main_v7 (ix2 R l) := by
  unfold iblk
  refine congrArg (V m c main_v7) (funext fun x => Fin.ext ?_)
  match x with
  | ⟨0, _⟩ => show win0_2.index t 0 * 65536 + 1 * R.val = _; rw [(ind2 t).1]; show _ = R.val; omega
  | ⟨1, _⟩ => show win0_2.index t 1 * 128 + 1 * l.val = _; rw [(ind2 t).2]; show _ = l.val; omega

/-- The precondition says what the kernel's checks ask: each index word is a multiple of four below the table's rows. -/
theorem inTab_of_pre (h : ∀ c : Dev nD, Cert.Pre_in_table.fn (F := Ideal) (m ((c : Thread nD τ).loc main_arg0))
      (m ((c : Thread nD τ).loc main_arg1)) (m ((c : Thread nD τ).loc main_arg2)) = fun _ => 1#1)
    (c : Dev nD) (t : Fin 32768) (j : Fin 128) : InTab (m ((c : Thread nD τ).loc main_arg0) (ix2 t j)) := by
  have e := congrFun (h c) (ix2 t j)
  pointwise [Cert.Pre_in_table.fn] at e
  exact Words.row_of_word e

/-- So every word of every block passes the checks. -/
theorem allInTab (h : ∀ (c : Dev nD) (t : Fin 32768) (j : Fin 128), InTab (m ((c : Thread nD τ).loc main_arg0) (ix2 t j))) :
    AllInTab m := by
  intro c t y
  rw [eq_ix2 y, blk0 m c t (y 0) (y 1)]
  exact h c _ _

/-- The layer's sum: token `t`'s coefficients on the table rows its index words name, column `d`. -/
def mix (idx : S32768x128.Idx → BitVec 32) (coef : S32768x128.Idx → EReal) (tab : S16384x1024.Idx → BitVec 16) :
    S32768x1024.Idx → EReal := fun i =>
  ∑ j : Fin 128, coef (ix2 (i 0) j) * Ideal.ofBits .bf16 (tab (ix2 (⟨min ((idx (ix2 (i 0) j)).toNat / 4) 16383, by omega⟩ : Fin 16384) (i 1)))

/-- The result array. -/
abbrev mixOf (c : Dev nD) : Buf (Elt Ideal) ((c : Thread nD τ).loc main_v8) :=
  mix (m ((c : Thread nD τ).loc main_arg0)) (m ((c : Thread nD τ).loc main_arg1)) (m ((c : Thread nD τ).loc main_arg2))

variable (hw : AllInTab m)

/-- The block of outputs a grid point leaves is that block of the layer's sum. -/
theorem outBlock_apply (c : Dev nD) (t : Fin cfg0.N) (a : Fin 128) (d : Fin 1024) :
    outBlock (iblk m c 0 t) (hw c t) (iblk m c 1 t) (iblk m c 2 t) (ix2 a d) = mixOf m c (ix2 (row t a) d) := by
  have hk : a.val < k0_t1_loop.trips := by rw [trips_eq]; exact a.isLt
  have hpt : ∀ (j : Fin 128) (e : Fin 512) (p : Fin 4) (l : Fin 128), p.val = e.val / 128 → l.val = e.val % 128 →
      block (iblk m c 0 t) (hw c t) (iblk m c 2 t) ⟨a.val, hk⟩ j (ix2 p l)
      = IntOp.ori ((m ((c : Thread nD τ).loc main_arg2) (ix2 (⟨min ((m ((c : Thread nD τ).loc main_arg0) (ix2 (row t a) j)).toNat / 4) 16383, by omega⟩ : Fin 16384) (⟨e.val, by omega⟩ : Fin 1024))).setWidth 32)
        (IntOp.shli .host ((m ((c : Thread nD τ).loc main_arg2) (ix2 (⟨min ((m ((c : Thread nD τ).loc main_arg0) (ix2 (row t a) j)).toNat / 4) 16383, by omega⟩ : Fin 16384) (⟨512 + e.val, by omega⟩ : Fin 1024))).setWidth 32) 16#32) := by
    intro j e p l hp hl
    rw [block_apply, blk2, V_tab]
    have hin := hw c t (ix2 a j)
    have hb := blk0 m c t a j
    have hrow : ((iblk m c 0 t (ix2 a j)).toNat + p.val) / 4 = min ((m ((c : Thread nD τ).loc main_arg0) (ix2 (row t a) j)).toNat / 4) 16383 := by
      rw [← hb]
      obtain ⟨⟨q, hq⟩, h2⟩ := hin
      omega
    have hcol : ((iblk m c 0 t (ix2 a j)).toNat + p.val) % 4 * 128 + l.val = e.val := by
      obtain ⟨⟨q, hq⟩, h2⟩ := hin
      omega
    simp only [hrow, hcol]
  show (if h : d.val < 512 then sums lowHalf _ _ _ _ (spread _ a.val) _ else sums highHalf _ _ _ _ (spread _ a.val) _) = _
  split
  · rename_i h
    rw [sums_apply]
    refine Finset.sum_congr rfl fun j _ => ?_
    rw [spread_apply, blk1, lowHalf_apply]
    have := hpt j ⟨d.val, h⟩ ⟨d.val / 128, by omega⟩ ⟨d.val % 128, by omega⟩ rfl rfl
    refine congrArg₂ (fun x y : EReal => x * y) rfl ?_
    refine (congrArg (fun w => Ideal.ofBits .f32 (IntOp.shli .vector w 16#32)) this).trans ?_
    dsimp only
    rw [Words.pack_low, Words.widen]
    rfl
  · rename_i h
    rw [sums_apply]
    refine Finset.sum_congr rfl fun j _ => ?_
    rw [spread_apply, blk1, highHalf_apply]
    have := hpt j ⟨d.val - 512, by omega⟩ ⟨(d.val - 512) / 128, by omega⟩ ⟨(d.val - 512) % 128, by omega⟩ rfl rfl
    refine congrArg₂ (fun x y : EReal => x * y) rfl ?_
    refine (congrArg (fun w => Ideal.ofBits .f32 (IntOp.andi w 4294901760#32)) this).trans ?_
    dsimp only
    rw [Words.pack_high, Words.widen]
    have hd : 512 + (d.val - 512) = d.val := by omega
    simp only [hd]
    rfl

/-- What a grid point writes back is its block of the layer's sum. -/
theorem flushed_eq (c : Dev nD) (t : Fin cfg0.N) :
    (dats m hw 0 c).flushed 3 t = (win0_3.blk t).view.read (Elt Ideal) (mixOf m c) := by
  show (cfg0.win 3).cut (grid0.coords t) ((dats m hw 0 c).after 3 t) = _
  rw [after_3]
  funext y
  refine (congrArg (outBlock (iblk m c 0 t) (hw c t) (iblk m c 1 t) (iblk m c 2 t)) (eq_ix2 (n0 := 128) (n1 := 1024) y)).trans ?_
  refine (outBlock_apply m hw c t (y 0) (y 1)).trans ?_
  refine congrArg (mixOf m c) (funext fun x => Fin.ext ?_)
  match x with
  | ⟨0, _⟩ => show t.val * 128 + (y 0).val = win0_3.index t 0 * 128 + 1 * (y 0).val; rw [(ind3 t).1]; omega
  | ⟨1, _⟩ => show (y 1).val = win0_3.index t 1 * 1024 + 1 * (y 1).val; rw [(ind3 t).2]; omega

/-- The blocks tile the result. -/
theorem cover (i : S32768x1024.Idx) :
    ∃ t : Fin cfg0.N, (cfg0.win 3).flush t = true ∧ i ∈ ((cfg0.win 3).blk t).view.set := by
  have h0 : (i 0).val < 32768 := (i 0).isLt
  have h1 : (i 1).val < 1024 := (i 1).isLt
  have hN : cfg0.N = 256 := N_0
  obtain ⟨t, ht⟩ : ∃ t : Fin cfg0.N, t.val = (i 0).val / 128 := ⟨⟨(i 0).val / 128, by omega⟩, rfl⟩
  refine ⟨t, flush0_3 t, ?_⟩
  show i ∈ ((View.whole main_v8).slice (win0_3.rect t)).set
  rw [View.set_slice_whole, Rect.mem_set_unit]
  intro a
  match a with
  | ⟨0, _⟩ =>
    show win0_3.index t 0 * 128 ≤ (i 0).val ∧ (i 0).val < win0_3.index t 0 * 128 + 128
    rw [(ind3 t).1]; omega
  | ⟨1, _⟩ =>
    show win0_3.index t 1 * 1024 ≤ (i 1).val ∧ (i 1).val < win0_3.index t 1 * 1024 + 1024
    rw [(ind3 t).2]; omega

/-- So the result array ends at the layer's sum. -/
theorem final (c : Dev nD) : (dats m hw 0 c).arrAt 3 cfg0.N = mixOf m c :=
  (dats m hw 0 c).arrAt_eq_of_cover 3 (mixOf m c) (fun t _ => flushed_eq m hw c t) cover

include hw in
/-- The run: the result array at the layer's sum, the arguments unchanged. -/
theorem run_value : θ_run defs (onTc (τ := τ) (main (F := Ideal))) ⟨m, fun _ => 0, ρ⟩ fun r => ∀ c : Dev nD,
      r.2.mem ((c.tc : Thread nD τ).loc main_v8) = mixOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (run_main m ρ hw) (frame m ρ hw)) fun _ h c => ⟨((h.1 c).1 3).trans (final m hw c), h.2.1 c⟩

end Cert.Proof.KernelIdeal

namespace Cert.ReferenceIdeal.RefValue

open Cert.ReferenceIdeal Cert.ReferenceIdeal.Gen

/-- The row a gather reads for token `t`'s `j`-th word, column `d`. -/
theorem gather_apply {α : Type} (x : S16384x1024.Idx → α) (ix : IVec S32768x128x1 32) (t : Fin 32768) (j : Fin 128) (d : Fin 1024) :
    Host.gather gather_S16384x1024_S32768x128x1_S32768x128x1024_2_0_n_n_0_2_11024 x ix (ix3 t j d)
      = x (ix2 (⟨min (ix (ix3 t j (0 : Fin 1))).toInt.toNat 16383, by omega⟩ : Fin 16384) d) := by
  unfold Host.gather
  refine congrArg x (funext fun a => Fin.ext ?_)
  show GatherDims.start _ (ix3 t j d) ix a + GatherDims.batchCoord _ (ix3 t j d) a + GatherDims.offCoord _ (ix3 t j d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, _⟩ : Fin S16384x1024.rank) ∈ gather_S16384x1024_S32768x128x1_S32768x128x1024_2_0_n_n_0_2_11024.startIndexMap from List.mem_singleton.mpr rfl)]
    refine congrArg (fun y => min (ix y).toInt.toNat 16383) (funext fun b => Fin.ext ?_)
    match b with
    | ⟨0, _⟩ => rfl
    | ⟨1, _⟩ => rfl
    | ⟨2, _⟩ => rfl
  | ⟨1, _⟩ =>
    unfold GatherDims.start
    rw [dif_neg (show ¬ (⟨1, _⟩ : Fin S16384x1024.rank) ∈ gather_S16384x1024_S32768x128x1_S32768x128x1024_2_0_n_n_0_2_11024.startIndexMap from fun h => absurd (congrArg Fin.val (List.mem_singleton.mp h)) Nat.one_ne_zero)]
    simp only [Nat.zero_add]
    unfold GatherDims.offCoord
    rw [dif_pos ((GatherDims.mem_sKept _ _).mpr ⟨fun h => absurd (congrArg Fin.val (List.mem_singleton.mp h)) Nat.one_ne_zero, List.not_mem_nil⟩)]
    rfl

/-- The rows the reference's gather reads, from the index words. -/
abbrev rowsOf (a0 : IVec S32768x128 32) : IVec S32768x128x1 32 :=
  broadcastInDim S32768x128x1 ![0, 1] bcast_S32768x128_S32768x128x1_0_1 (select (cmpi .slt (Host.divsi a0 (broadcastInDim S32768x128 ![] bcast_S_S32768x128 (constantI S_ 32 4#32))) (broadcastInDim S32768x128 ![] bcast_S_S32768x128 (constantI S_ 32 0#32))) (addi (Host.divsi a0 (broadcastInDim S32768x128 ![] bcast_S_S32768x128 (constantI S_ 32 4#32))) (broadcastInDim S32768x128 ![] bcast_S_S32768x128 (constantI S_ 32 16384#32))) (Host.divsi a0 (broadcastInDim S32768x128 ![] bcast_S_S32768x128 (constantI S_ 32 4#32))))

/-- A row number is the word's quarter. -/
theorem rowsOf_apply (a0 : IVec S32768x128 32) (t : Fin 32768) (j : Fin 128) (h : (a0 (ix2 t j)).toNat + 4 ≤ 65536) :
    min (rowsOf a0 (ix3 t j (0 : Fin 1))).toInt.toNat 16383 = (a0 (ix2 t j)).toNat / 4 := by
  pointwise [rowsOf]
  exact Cert.Proof.Words.ref_row h

/-- The reference's result is the layer's sum. -/
theorem ref_eq (a0 : IVec S32768x128 32) (a1 : FVec Ideal S32768x128 .f32) (a2 : IVec S16384x1024 16)
    (h : ∀ (t : Fin 32768) (j : Fin 128), 4 ∣ (a0 (ix2 t j)).toNat ∧ (a0 (ix2 t j)).toNat + 4 ≤ 65536) :
    Host.dotGeneral dot_S32768x128_S32768x128x1024_S32768x1024_1_1_n_2_0_0 none a1 (Host.gather gather_S16384x1024_S32768x128x1_S32768x128x1024_2_0_n_n_0_2_11024 (extf .f32 (bitcastToFloat (F := Ideal) .bf16 a2) bitsLt_bf16_f32) (rowsOf a0))
      = Cert.Proof.KernelIdeal.mix a0 a1 a2 := by
  funext i
  obtain ⟨t, d, rfl⟩ : ∃ (t : Fin 32768) (d : Fin 1024), i = ix2 t d := ⟨i 0, i 1, eq_ix2 i⟩
  pointwise [Cert.Proof.KernelIdeal.mix]
  refine Finset.sum_congr rfl fun j _ => ?_
  rw [gather_apply]
  simp only [rowsOf_apply a0 t j (h t j).2]
  have e : min ((a0 (ix2 t j)).toNat / 4) 16383 = (a0 (ix2 t j)).toNat / 4 := by have := (h t j).2; omega
  simp only [e]
  rfl

end Cert.ReferenceIdeal.RefValue

namespace Cert.Proof

/-- The value of the table-mixing call: under the precondition on its index words, the kernel's result is the reference's. -/
theorem algebraic_KernelIdeal_ReferenceIdeal : Cert.algebraic_KernelIdeal_ReferenceIdeal := by
  intro m g m' g' hpre hargs
  have hin := KernelIdeal.inTab_of_pre m hpre
  refine ⟨fun c => KernelIdeal.mixOf m c, KernelIdeal.run_value m g (KernelIdeal.allInTab m hin), ?_⟩
  refine θ_run_mono (Cert.ReferenceIdeal.Value.run m' g') fun _ h c => ⟨(h c).1.trans ?_, (h c).2⟩
  rw [(hargs c).1, (hargs c).2.1, (hargs c).2.2]
  exact Cert.ReferenceIdeal.RefValue.ref_eq _ _ _ (fun t j => hin c t j)

end Cert.Proof
-- ==== Proof.WordGatherPre.lean ====
module

public import proofs.«01_k».proof.Proof.WordGatherBody
public import proofs.«01_k».proof.Proof.Words
public import proofs.«01_k».proof.Proof.Gen.Pre_in_table
public import Idealize.ShloMosaic.Lib.Pointwise

@[expose] public section

set_option maxRecDepth 16384

noncomputable section

open Idealize.ShloMosaic Idealize.ShloMosaic.TcCoe Idealize.SL.Sem

namespace Cert.Proof.Kernel

open Cert.Kernel Cert.Kernel.Gen

/-- The index window's block at a grid point: its own 128 token rows. -/
theorem indexBlock : ∀ t : Fin grid0.N, win0_0.index t 0 = t.val ∧ win0_0.index t 1 = 0 := by decide +kernel

variable (m : (ℓ : Loc nD τ sig) → Buf (Elt Bits) ℓ)

/-- The precondition lets every word of every block of the machine program pass its checks. -/
theorem allInTab (h : ∀ c : Dev nD, Cert.Pre_in_table.fn (F := Bits) (m ((c : Thread nD τ).loc main_arg0))
      (m ((c : Thread nD τ).loc main_arg1)) (m ((c : Thread nD τ).loc main_arg2)) = fun _ => 1#1) : AllInTab m := by
  intro c t y
  have hN : cfg0.N = 256 := N_0
  have ht := t.isLt
  have hy : (y 0).val < 128 := (y 0).isLt
  have hblk : iblk m c 0 t y = m ((c : Thread nD τ).loc main_arg0)
      (ix2 (⟨t.val * 128 + (y 0).val, by omega⟩ : Fin 32768) (y 1 : Fin 128)) := by
    unfold iblk
    rw [show V m c (Pipeline.arrRef spec0 0) = m ((c : Thread nD τ).loc main_arg0) from V_main_arg0 m c]
    refine congrArg (m ((c : Thread nD τ).loc main_arg0)) (funext fun x => Fin.ext ?_)
    match x with
    | ⟨0, _⟩ => show win0_0.index t 0 * 128 + 1 * (y 0).val = _; rw [(indexBlock t).1]; show _ = t.val * 128 + (y 0).val; omega
    | ⟨1, _⟩ => show win0_0.index t 1 * 128 + 1 * (y 1).val = _; rw [(indexBlock t).2]; show _ = (y 1).val; omega
  rw [hblk]
  have e := congrFun (h c) (ix2 (⟨t.val * 128 + (y 0).val, by omega⟩ : Fin 32768) (y 1 : Fin 128))
  pointwise [Cert.Pre_in_table.fn] at e
  exact Words.row_of_word e

end Cert.Proof.Kernel
-- ==== Proof.MergeValue.lean ====
module

public import proofs.«01_k».proof.Defs
public import proofs.«01_k».proof.Proof.Gen.MergeIdeal.Frame
public import proofs.«01_k».proof.Proof.Gen.MergeRefIdeal.Run
public import Idealize.ShloMosaic.Lib.Pipeline.Value
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen

variable (m : (ℓ : Loc nD τ sig) → Buf (Elt Ideal) ℓ) (ρ : Dev nD → PrngReg)

/-! ## Where each window's block lies -/

theorem ind0 : ∀ t : Fin grid0.N, win0_0.index t 0 = t.val / 8 ∧ win0_0.index t 1 = 0 ∧ win0_0.index t 2 = 0 ∧ win0_0.index t 3 = t.val % 8 := by decide +kernel
theorem ind1 : ∀ t : Fin grid0.N, win0_1.index t 0 = t.val ∧ win0_1.index t 1 = 0 := by decide +kernel
theorem ind2 : ∀ t : Fin grid0.N, win0_2.index t 0 = t.val ∧ win0_2.index t 1 = 7 := by decide +kernel
theorem ind3 : ∀ t : Fin grid0.N, win0_3.index t 0 = t.val ∧ win0_3.index t 1 = 0 := by decide +kernel
theorem ind4 : ∀ t : Fin grid0.N, win0_4.index t 0 = t.val ∧ win0_4.index t 1 = 1 := by decide +kernel
theorem ind5 : ∀ t : Fin grid0.N, win0_5.index t 0 = t.val ∧ win0_5.index t 1 = 0 := by decide +kernel
theorem ind6 : ∀ t : Fin grid0.N, win0_6.index t 0 = t.val / 8 ∧ win0_6.index t 1 = 0 ∧ win0_6.index t 2 = 0 := by decide +kernel
theorem ind7 : ∀ t : Fin grid0.N, win0_7.index t 0 = t.val / 8 ∧ win0_7.index t 1 = 0 ∧ win0_7.index t 2 = 0 := by decide +kernel
theorem ind8 : ∀ t : Fin grid0.N, win0_8.index t 0 = t.val / 8 ∧ win0_8.index t 1 = 0 ∧ win0_8.index t 2 = 0 := by decide +kernel
theorem ind9 : ∀ t : Fin grid0.N, win0_9.index t 0 = 0 ∧ win0_9.index t 1 = 0 := by decide +kernel
theorem ind10 : ∀ t : Fin grid0.N, win0_10.index t 0 = 0 ∧ win0_10.index t 1 = 0 := by decide +kernel
theorem ind11 : ∀ t : Fin grid0.N, win0_11.index t 0 = 0 ∧ win0_11.index t 1 = 0 := by decide +kernel
theorem ind12 : ∀ t : Fin grid0.N, win0_12.index t 0 = t.val ∧ win0_12.index t 1 = 0 := by decide +kernel
theorem ind13 : ∀ t : Fin grid0.N, win0_13.index t 0 = t.val ∧ win0_13.index t 1 = 0 := by decide +kernel

/-- Row `a` of point `t`'s block of the token rows. -/
abbrev row (t : Fin cfg0.N) (a : Fin 512) : Fin 32768 := ⟨t.val * 512 + a.val, by have := t.isLt; have h : cfg0.N = 64 := N_0; have := a.isLt; omega⟩
/-- The batch entry of point `t`'s token rows. -/
abbrev entry (t : Fin cfg0.N) : Fin 8 := ⟨t.val / 8, by have := t.isLt; have h : cfg0.N = 64 := N_0; omega⟩

/-! ## What each window's block holds -/

theorem blk0 (c : Dev nD) (t : Fin cfg0.N) (h : Fin 8) (e : Fin 64) (a : Fin 512) :
    iblk m c 0 t (ix4 (0 : Fin 1) h e a) = m ((c : Thread nD τ).loc main_arg0) (ix4 (entry t) h e (⟨t.val % 8 * 512 + a.val, by have := a.isLt; omega⟩ : Fin 4096)) := by
  unfold iblk
  rw [show V m c (Pipeline.arrRef spec0 0) = m ((c : Thread nD τ).loc main_arg0) from V_main_arg0 m c]
  refine congrArg (m ((c : Thread nD τ).loc main_arg0)) (funext fun x => Fin.ext ?_)
  match x with
  | ⟨0, _⟩ => show win0_0.index t 0 * 1 + 1 * 0 = _; rw [(ind0 t).1]; show _ = t.val / 8; omega
  | ⟨1, _⟩ => show win0_0.index t 1 * 8 + 1 * h.val = _; rw [(ind0 t).2.1]; show _ = h.val; omega
  | ⟨2, _⟩ => show win0_0.index t 2 * 64 + 1 * e.val = _; rw [(ind0 t).2.2.1]; show _ = e.val; omega
  | ⟨3, _⟩ => show win0_0.index t 3 * 512 + 1 * a.val = _; rw [(ind0 t).2.2.2]; show _ = t.val % 8 * 512 + a.val; omega

theorem blk1 (c : Dev nD) (t : Fin cfg0.N) (a : Fin 512) (b : Fin 512) :
    iblk m c 1 t (ix2 a b) = m ((c : Thread nD τ).loc main_arg1) (ix2 (row t a) b) := by
  unfold iblk
  rw [show V m c (Pipeline.arrRef spec0 1) = m ((c : Thread nD τ).loc main_arg1) from V_main_arg1 m c]
  refine congrArg (m ((c : Thread nD τ).loc main_arg1)) (funext fun x => Fin.ext ?_)
  match x with
  | ⟨0, _⟩ => show win0_1.index t 0 * 512 + 1 * a.val = _; rw [(ind1 t).1]; show _ = t.val * 512 + a.val; omega
  | ⟨1, _⟩ => show win0_1.index t 1 * 512 + 1 * b.val = _; rw [(ind1 t).2]; show _ = b.val; omega

theorem blk2 (c : Dev nD) (t : Fin cfg0.N) (a : Fin 512) (b : Fin 512) :
    iblk m c 2 t (ix2 a b) = m ((c : Thread nD τ).loc main_arg2) (ix2 (row t a) (⟨3584 + b.val, by have := b.isLt; omega⟩ : Fin 4096)) := by
  unfold iblk
  rw [show V m c (Pipeline.arrRef spec0 2) = m ((c : Thread nD τ).loc main_arg2) from V_main_arg2 m c]
  refine congrArg (m ((c : Thread nD τ).loc main_arg2)) (funext fun x => Fin.ext ?_)
  match x with
  | ⟨0, _⟩ => show win0_2.index t 0 * 512 + 1 * a.val = _; rw [(ind2 t).1]; show _ = t.val * 512 + a.val; omega
  | ⟨1, _⟩ => show win0_2.index t 1 * 512 + 1 * b.val = _; rw [(ind2 t).2]; show _ = 3584 + b.val; omega

theorem blk3 (c : Dev nD) (t : Fin cfg0.N) (a : Fin 512) (b : Fin 1024) :
    iblk m c 3 t (ix2 a b) = m ((c : Thread nD τ).loc main_arg2) (ix2 (row t a) (⟨b.val, by have := b.isLt; omega⟩ : Fin 4096)) := by
  unfold iblk
  rw [show V m c (Pipeline.arrRef spec0 3) = m ((c : Thread nD τ).loc main_arg2) from V_main_arg2 m c]
  refine congrArg (m ((c : Thread nD τ).loc main_arg2)) (funext fun x => Fin.ext ?_)
  match x with
  | ⟨0, _⟩ => show win0_3.index t 0 * 512 + 1 * a.val = _; rw [(ind3 t).1]; show _ = t.val * 512 + a.val; omega
  | ⟨1, _⟩ => show win0_3.index t 1 * 1024 + 1 * b.val = _; rw [(ind3 t).2]; show _ = b.val; omega

theorem blk4 (c : Dev nD) (t : Fin cfg0.N) (a : Fin 512) (b : Fin 1024) :
    iblk m c 4 t (ix2 a b) = m ((c : Thread nD τ).loc main_arg2) (ix2 (row t a) (⟨1024 + b.val, by have := b.isLt; omega⟩ : Fin 4096)) := by
  unfold iblk
  rw [show V m c (Pipeline.arrRef spec0 4) = m ((c : Thread nD τ).loc main_arg2) from V_main_arg2 m c]
  refine congrArg (m ((c : Thread nD τ).loc main_arg2)) (funext fun x => Fin.ext ?_)
  match x with
  | ⟨0, _⟩ => show win0_4.index t 0 * 512 + 1 * a.val = _; rw [(ind4 t).1]; show _ = t.val * 512 + a.val; omega
  | ⟨1, _⟩ => show win0_4.index t 1 * 1024 + 1 * b.val = _; rw [(ind4 t).2]; show _ = 1024 + b.val; omega

/-- The layer's input rows: token `t` of the flattened batch. -/
theorem blk5 (c : Dev nD) (t : Fin cfg0.N) (a : Fin 512) (b : Fin 1024) :
    iblk m c 5 t (ix2 a b) = m ((c : Thread nD τ).loc main_arg3) (ix3 (⟨(row t a).val / 4096, by have := (row t a).isLt; omega⟩ : Fin 8) (⟨(row t a).val % 4096, by omega⟩ : Fin 4096) b) := by
  have hv : ∀ r : Fin 32768, V m c main_v0 (ix2 r b)
      = m ((c : Thread nD τ).loc main_arg3) (ix3 (⟨r.val / 4096, by omega⟩ : Fin 8) (⟨r.val % 4096, by omega⟩ : Fin 4096) b) := by
    intro r
    unfold V
    after_results
    pointwise
  rw [← hv]
  unfold iblk
  refine congrArg (V m c main_v0) (funext fun x => Fin.ext ?_)
  match x with
  | ⟨0, _⟩ => show win0_5.index t 0 * 512 + 1 * a.val = _; rw [(ind5 t).1]; show _ = t.val * 512 + a.val; omega
  | ⟨1, _⟩ => show win0_5.index t 1 * 1024 + 1 * b.val = _; rw [(ind5 t).2]; show _ = b.val; omega

theorem blk6 (c : Dev nD) (t : Fin cfg0.N) (b : Fin 1024) :
    iblk m c 6 t (ix3 (0 : Fin 1) (0 : Fin 1) b) = m ((c : Thread nD τ).loc main_arg4) (ix2 (entry t) b) := by
  have hv : ∀ e : Fin 8, V m c main_v1 (ix3 e (0 : Fin 1) b) = m ((c : Thread nD τ).loc main_arg4) (ix2 e b) := by
    intro e
    unfold V
    after_results
    pointwise
  rw [← hv]
  unfold iblk
  refine congrArg (V m c main_v1) (funext fun x => Fin.ext ?_)
  match x with
  | ⟨0, _⟩ => show win0_6.index t 0 * 1 + 1 * 0 = _; rw [(ind6 t).1]; show _ = t.val / 8; omega
  | ⟨1, _⟩ => show win0_6.index t 1 * 1 + 1 * 0 = _; rw [(ind6 t).2.1]; rfl
  | ⟨2, _⟩ => show win0_6.index t 2 * 1024 + 1 * b.val = _; rw [(ind6 t).2.2]; show _ = b.val; omega

theorem blk7 (c : Dev nD) (t : Fin cfg0.N) (b : Fin 1024) :
    iblk m c 7 t (ix3 (0 : Fin 1) (0 : Fin 1) b) = (1 : EReal) + (m ((c : Thread nD τ).loc main_arg5) (ix2 (entry t) b) : EReal) := by
  have hv : ∀ e : Fin 8, V m c main_v4 (ix3 e (0 : Fin 1) b) = (1 : EReal) + (m ((c : Thread nD τ).loc main_arg5) (ix2 e b) : EReal) := by
    intro e
    unfold V
    after_results
    pointwise
  rw [← hv]
  unfold iblk
  refine congrArg (V m c main_v4) (funext fun x => Fin.ext ?_)
  match x with
  | ⟨0, _⟩ => show win0_7.index t 0 * 1 + 1 * 0 = _; rw [(ind7 t).1]; show _ = t.val / 8; omega
  | ⟨1, _⟩ => show win0_7.index t 1 * 1 + 1 * 0 = _; rw [(ind7 t).2.1]; rfl
  | ⟨2, _⟩ => show win0_7.index t 2 * 1024 + 1 * b.val = _; rw [(ind7 t).2.2]; show _ = b.val; omega

theorem blk8 (c : Dev nD) (t : Fin cfg0.N) (b : Fin 1024) :
    iblk m c 8 t (ix3 (0 : Fin 1) (0 : Fin 1) b) = m ((c : Thread nD τ).loc main_arg6) (ix2 (entry t) b) := by
  have hv : ∀ e : Fin 8, V m c main_v5 (ix3 e (0 : Fin 1) b) = m ((c : Thread nD τ).loc main_arg6) (ix2 e b) := by
    intro e
    unfold V
    after_results
    pointwise
  rw [← hv]
  unfold iblk
  refine congrArg (V m c main_v5) (funext fun x => Fin.ext ?_)
  match x with
  | ⟨0, _⟩ => show win0_8.index t 0 * 1 + 1 * 0 = _; rw [(ind8 t).1]; show _ = t.val / 8; omega
  | ⟨1, _⟩ => show win0_8.index t 1 * 1 + 1 * 0 = _; rw [(ind8 t).2.1]; rfl
  | ⟨2, _⟩ => show win0_8.index t 2 * 1024 + 1 * b.val = _; rw [(ind8 t).2.2]; show _ = b.val; omega

theorem blk9 (c : Dev nD) (t : Fin cfg0.N) (a : Fin 512) (b : Fin 1024) :
    iblk m c 9 t (ix2 a b) = m ((c : Thread nD τ).loc main_arg7) (ix2 a b) := by
  have hv : V m c main_v6 (ix2 a b) = m ((c : Thread nD τ).loc main_arg7) (ix2 a b) := by
    unfold V
    after_results
    pointwise
  rw [← hv]
  unfold iblk
  refine congrArg (V m c main_v6) (funext fun x => Fin.ext ?_)
  match x with
  | ⟨0, _⟩ => show win0_9.index t 0 * 512 + 1 * a.val = _; rw [(ind9 t).1]; show _ = a.val; omega
  | ⟨1, _⟩ => show win0_9.index t 1 * 1024 + 1 * b.val = _; rw [(ind9 t).2]; show _ = b.val; omega

theorem blk10 (c : Dev nD) (t : Fin cfg0.N) (a : Fin 512) (b : Fin 1024) :
    iblk m c 10 t (ix2 a b) = m ((c : Thread nD τ).loc main_arg8) (ix2 a b) := by
  have hv : V m c main_v7 (ix2 a b) = m ((c : Thread nD τ).loc main_arg8) (ix2 a b) := by
    unfold V
    after_results
    pointwise
  rw [← hv]
  unfold iblk
  refine congrArg (V m c main_v7) (funext fun x => Fin.ext ?_)
  match x with
  | ⟨0, _⟩ => show win0_10.index t 0 * 512 + 1 * a.val = _; rw [(ind10 t).1]; show _ = a.val; omega
  | ⟨1, _⟩ => show win0_10.index t 1 * 1024 + 1 * b.val = _; rw [(ind10 t).2]; show _ = b.val; omega

theorem blk11 (c : Dev nD) (t : Fin cfg0.N) (a : Fin 1024) (b : Fin 1024) :
    iblk m c 11 t (ix2 a b) = m ((c : Thread nD τ).loc main_arg9) (ix2 a b) := by
  have hv : V m c main_v8 (ix2 a b) = m ((c : Thread nD τ).loc main_arg9) (ix2 a b) := by
    unfold V
    after_results
    pointwise
  rw [← hv]
  unfold iblk
  refine congrArg (V m c main_v8) (funext fun x => Fin.ext ?_)
  match x with
  | ⟨0, _⟩ => show win0_11.index t 0 * 1024 + 1 * a.val = _; rw [(ind11 t).1]; show _ = a.val; omega
  | ⟨1, _⟩ => show win0_11.index t 1 * 1024 + 1 * b.val = _; rw [(ind11 t).2]; show _ = b.val; omega

/-! ## The mathematics -/

/-- The logistic function. -/
def sigm (x : EReal) : EReal := Ideal.div 1 (1 + Ideal.exp (-x))

variable (oa : S8x8x64x4096.Idx → EReal) (ob : S32768x512.Idx → EReal) (pr : S32768x4096.Idx → EReal) (x : S8x4096x1024.Idx → EReal)
  (gt sc sh : S8x1024.Idx → EReal) (wa wb : S512x1024.Idx → EReal) (wo : S1024x1024.Idx → EReal)

/-- The two branches, each projected and gated, added. -/
def merged (t : Fin 32768) (d : Fin 1024) : EReal :=
  sigm (pr (ix2 t (⟨d.val, by omega⟩ : Fin 4096)))
      * (∑ k : Fin 512, oa (ix4 (⟨t.val / 4096, by omega⟩ : Fin 8) (⟨k.val / 64, by omega⟩ : Fin 8) (⟨k.val % 64, by omega⟩ : Fin 64) (⟨t.val % 4096, by omega⟩ : Fin 4096)) * wa (ix2 k d))
    + sigm (pr (ix2 t (⟨1024 + d.val, by omega⟩ : Fin 4096)))
      * (∑ k : Fin 512, ob (ix2 t k) * (pr (ix2 t (⟨3584 + k.val, by omega⟩ : Fin 4096)) * sigm (pr (ix2 t (⟨3584 + k.val, by omega⟩ : Fin 4096)))) * wb (ix2 k d))

/-- The residual stream after the mixing half of the layer. -/
def hres (t : Fin 32768) (d : Fin 1024) : EReal :=
  x (ix3 (⟨t.val / 4096, by omega⟩ : Fin 8) (⟨t.val % 4096, by omega⟩ : Fin 4096) d)
    + gt (ix2 (⟨t.val / 4096, by omega⟩ : Fin 8) d) * ∑ k : Fin 1024, merged oa ob pr wa wb t k * wo (ix2 k d)

/-- The same, normalised, scaled and shifted: what the feed-forward half of the layer reads. -/
def modn (t : Fin 32768) (d : Fin 1024) : EReal :=
  hres oa ob pr x gt wa wb wo t d
      * Ideal.rsqrt (Ideal.div (∑ e : Fin 1024, hres oa ob pr x gt wa wb wo t e * hres oa ob pr x gt wa wb wo t e) (Ideal.ofBits .f32 0x44800000#32) + Ideal.ofBits .f32 0x358637BD#32)
      * ((1 : EReal) + sc (ix2 (⟨t.val / 4096, by omega⟩ : Fin 8) d))
    + sh (ix2 (⟨t.val / 4096, by omega⟩ : Fin 8) d)

theorem sigm_eq (x : EReal) : Ideal.div 1 (1 + Ideal.exp (0 - x)) = sigm x := by
  rw [zero_sub]; rfl

/-- The residual stream's array. -/
abbrev hOf (c : Dev nD) : Buf (Elt Ideal) ((c : Thread nD τ).loc main_v9_0) := fun i =>
  hres (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (i 0) (i 1)
/-- The modulated norm's array. -/
abbrev nOf (c : Dev nD) : Buf (Elt Ideal) ((c : Thread nD τ).loc main_v9_1) := fun i =>
  modn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)

/-! ## The kernel's block, read at an index -/

theorem div_row (t : Fin cfg0.N) (a : Fin 512) : (t.val * 512 + a.val) / 4096 = t.val / 8 := by have := a.isLt; omega
theorem mod_row (t : Fin cfg0.N) (a : Fin 512) : (t.val * 512 + a.val) % 4096 = t.val % 8 * 512 + a.val := by have := a.isLt; omega

theorem pay4_apply (c : Dev nD) (t : Fin cfg0.N) (a : Fin 512) (b : Fin 1024) :
    k0_pay4 (k0_pay1 (iblk m c 2 t) (iblk m c 1 t) (iblk m c 10 t)) (k0_pay2 (iblk m c 0 t) (iblk m c 9 t) (iblk m c 3 t)) (iblk m c 4 t) k0_pay3
      (iblk m c 11 t) (iblk m c 5 t) (iblk m c 6 t) (ix2 a b) = hOf m c (ix2 (row t a) b) := by
  pointwise [k0_pay4, k0_pay1, k0_pay2, k0_pay3, hres, merged]
  simp only [blk0, blk1, blk2, blk3, blk4, blk5, blk6, blk9, blk10, blk11, sigm_eq, div_row, mod_row]

theorem pay5_apply (c : Dev nD) (t : Fin cfg0.N) (a : Fin 512) (b : Fin 1024) :
    k0_pay5 (k0_pay1 (iblk m c 2 t) (iblk m c 1 t) (iblk m c 10 t)) (k0_pay2 (iblk m c 0 t) (iblk m c 9 t) (iblk m c 3 t)) (iblk m c 4 t) k0_pay3
      (iblk m c 11 t) (iblk m c 5 t) (iblk m c 6 t) (iblk m c 7 t) (iblk m c 8 t) (ix2 a b) = nOf m c (ix2 (row t a) b) := by
  pointwise [k0_pay5, modn]
  simp only [pay4_apply, blk7, blk8, div_row]
  rfl

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem out12_eq (x0 : Vec Ideal S1x8x64x512 .f32) (x1 : Vec Ideal S512x512 .f32) (x2 : Vec Ideal S512x512 .f32) (x3 : Vec Ideal S512x1024 .f32) (x4 : Vec Ideal S512x1024 .f32) (x5 : Vec Ideal S512x1024 .f32) (x6 : Vec Ideal S1x1x1024 .f32) (x7 : Vec Ideal S1x1x1024 .f32) (x8 : Vec Ideal S1x1x1024 .f32) (x9 : Vec Ideal S512x1024 .bf16) (x10 : Vec Ideal S512x1024 .bf16) (x11 : Vec Ideal S1024x1024 .bf16) :
    out0_12 x0 x1 x2 x3 x4 x5 x6 x7 x8 x9 x10 x11 = k0_pay4 (k0_pay1 x2 x1 x10) (k0_pay2 x0 x9 x3) x4 k0_pay3 x11 x5 x6 := by
  unfold_out out0_12
  rw [View.canon_unit_zero hz2]
  have e0 : View.ld x0 r0_1 = x0 := View.ld_unit_zero hz4 _ x0
  have e1 : View.ld x1 r0_0 = x1 := View.ld_unit_zero hz2 _ x1
  have e2 : View.ld x2 r0_0 = x2 := View.ld_unit_zero hz2 _ x2
  have e3 : View.ld x3 r0_2 = x3 := View.ld_unit_zero hz2 _ x3
  have e4 : View.ld x4 r0_2 = x4 := View.ld_unit_zero hz2 _ x4
  have e5 : View.ld x5 r0_2 = x5 := View.ld_unit_zero hz2 _ x5
  have e6 : View.ld x6 r0_4 = x6 := View.ld_unit_zero hz3 _ x6
  have e9 : View.ld x9 r0_2 = x9 := View.ld_unit_zero hz2 _ x9
  have e10 : View.ld x10 r0_2 = x10 := View.ld_unit_zero hz2 _ x10
  have e11 : View.ld x11 r0_3 = x11 := View.ld_unit_zero hz2 _ x11
  rw [e0, e1, e2, e3, e4, e5, e6, e9, e10, e11]

theorem out13_eq (x0 : Vec Ideal S1x8x64x512 .f32) (x1 : Vec Ideal S512x512 .f32) (x2 : Vec Ideal S512x512 .f32) (x3 : Vec Ideal S512x1024 .f32) (x4 : Vec Ideal S512x1024 .f32) (x5 : Vec Ideal S512x1024 .f32) (x6 : Vec Ideal S1x1x1024 .f32) (x7 : Vec Ideal S1x1x1024 .f32) (x8 : Vec Ideal S1x1x1024 .f32) (x9 : Vec Ideal S512x1024 .bf16) (x10 : Vec Ideal S512x1024 .bf16) (x11 : Vec Ideal S1024x1024 .bf16) :
    out0_13 x0 x1 x2 x3 x4 x5 x6 x7 x8 x9 x10 x11 = k0_pay5 (k0_pay1 x2 x1 x10) (k0_pay2 x0 x9 x3) x4 k0_pay3 x11 x5 x6 x7 x8 := by
  unfold_out out0_13
  rw [View.canon_unit_zero hz2]
  have e0 : View.ld x0 r0_1 = x0 := View.ld_unit_zero hz4 _ x0
  have e1 : View.ld x1 r0_0 = x1 := View.ld_unit_zero hz2 _ x1
  have e2 : View.ld x2 r0_0 = x2 := View.ld_unit_zero hz2 _ x2
  have e3 : View.ld x3 r0_2 = x3 := View.ld_unit_zero hz2 _ x3
  have e4 : View.ld x4 r0_2 = x4 := View.ld_unit_zero hz2 _ x4
  have e5 : View.ld x5 r0_2 = x5 := View.ld_unit_zero hz2 _ x5
  have e6 : View.ld x6 r0_4 = x6 := View.ld_unit_zero hz3 _ x6
  have e7 : View.ld x7 r0_4 = x7 := View.ld_unit_zero hz3 _ x7
  have e8 : View.ld x8 r0_4 = x8 := View.ld_unit_zero hz3 _ x8
  have e9 : View.ld x9 r0_2 = x9 := View.ld_unit_zero hz2 _ x9
  have e10 : View.ld x10 r0_2 = x10 := View.ld_unit_zero hz2 _ x10
  have e11 : View.ld x11 r0_3 = x11 := View.ld_unit_zero hz2 _ x11
  rw [e0, e1, e2, e3, e4, e5, e6, e7, e8, e9, e10, e11]

theorem flushed12 (c : Dev nD) (t : Fin cfg0.N) :
    (dats m 0 c).flushed 12 t = (win0_12.blk t).view.read (Elt Ideal) (hOf m c) := by
  show (cfg0.win 12).cut (grid0.coords t) ((dats m 0 c).after 12 t) = _
  rw [after0_12]
  rw [out12_eq]
  funext y
  refine (congrArg (k0_pay4 (k0_pay1 (iblk m c 2 t) (iblk m c 1 t) (iblk m c 10 t)) (k0_pay2 (iblk m c 0 t) (iblk m c 9 t) (iblk m c 3 t)) (iblk m c 4 t) k0_pay3
      (iblk m c 11 t) (iblk m c 5 t) (iblk m c 6 t)) (eq_ix2 (n0 := 512) (n1 := 1024) y)).trans ?_
  refine (pay4_apply m c t (y 0) (y 1)).trans ?_
  refine congrArg (hOf m c) (funext fun x => Fin.ext ?_)
  match x with
  | ⟨0, _⟩ => show t.val * 512 + (y 0).val = win0_12.index t 0 * 512 + 1 * (y 0).val; rw [(ind12 t).1]; omega
  | ⟨1, _⟩ => show (y 1).val = win0_12.index t 1 * 1024 + 1 * (y 1).val; rw [(ind12 t).2]; omega

/-- The blocks tile the result. -/
theorem cover12 (i : S32768x1024.Idx) :
    ∃ t : Fin cfg0.N, (cfg0.win 12).flush t = true ∧ i ∈ ((cfg0.win 12).blk t).view.set := by
  have h0 : (i 0).val < 32768 := (i 0).isLt
  have h1 : (i 1).val < 1024 := (i 1).isLt
  have hN : cfg0.N = 64 := N_0
  obtain ⟨t, ht⟩ : ∃ t : Fin cfg0.N, t.val = (i 0).val / 512 := ⟨⟨(i 0).val / 512, by omega⟩, rfl⟩
  refine ⟨t, flush0_12 t, ?_⟩
  show i ∈ ((View.whole main_v9_0).slice (win0_12.rect t)).set
  rw [View.set_slice_whole, Rect.mem_set_unit]
  intro a
  match a with
  | ⟨0, _⟩ =>
    show win0_12.index t 0 * 512 ≤ (i 0).val ∧ (i 0).val < win0_12.index t 0 * 512 + 512
    rw [(ind12 t).1]; omega
  | ⟨1, _⟩ =>
    show win0_12.index t 1 * 1024 ≤ (i 1).val ∧ (i 1).val < win0_12.index t 1 * 1024 + 1024
    rw [(ind12 t).2]; omega

theorem final12 (c : Dev nD) : (dats m 0 c).arrAt 12 cfg0.N = hOf m c :=
  (dats m 0 c).arrAt_eq_of_cover 12 (hOf m c) (fun t _ => flushed12 m c t) cover12

theorem flushed13 (c : Dev nD) (t : Fin cfg0.N) :
    (dats m 0 c).flushed 13 t = (win0_13.blk t).view.read (Elt Ideal) (nOf m c) := by
  show (cfg0.win 13).cut (grid0.coords t) ((dats m 0 c).after 13 t) = _
  rw [after0_13]
  rw [out13_eq]
  funext y
  refine (congrArg (k0_pay5 (k0_pay1 (iblk m c 2 t) (iblk m c 1 t) (iblk m c 10 t)) (k0_pay2 (iblk m c 0 t) (iblk m c 9 t) (iblk m c 3 t)) (iblk m c 4 t) k0_pay3
      (iblk m c 11 t) (iblk m c 5 t) (iblk m c 6 t) (iblk m c 7 t) (iblk m c 8 t)) (eq_ix2 (n0 := 512) (n1 := 1024) y)).trans ?_
  refine (pay5_apply m c t (y 0) (y 1)).trans ?_
  refine congrArg (nOf m c) (funext fun x => Fin.ext ?_)
  match x with
  | ⟨0, _⟩ => show t.val * 512 + (y 0).val = win0_13.index t 0 * 512 + 1 * (y 0).val; rw [(ind13 t).1]; omega
  | ⟨1, _⟩ => show (y 1).val = win0_13.index t 1 * 1024 + 1 * (y 1).val; rw [(ind13 t).2]; omega

/-- The blocks tile the result. -/
theorem cover13 (i : S32768x1024.Idx) :
    ∃ t : Fin cfg0.N, (cfg0.win 13).flush t = true ∧ i ∈ ((cfg0.win 13).blk t).view.set := by
  have h0 : (i 0).val < 32768 := (i 0).isLt
  have h1 : (i 1).val < 1024 := (i 1).isLt
  have hN : cfg0.N = 64 := N_0
  obtain ⟨t, ht⟩ : ∃ t : Fin cfg0.N, t.val = (i 0).val / 512 := ⟨⟨(i 0).val / 512, by omega⟩, rfl⟩
  refine ⟨t, flush0_13 t, ?_⟩
  show i ∈ ((View.whole main_v9_1).slice (win0_13.rect t)).set
  rw [View.set_slice_whole, Rect.mem_set_unit]
  intro a
  match a with
  | ⟨0, _⟩ =>
    show win0_13.index t 0 * 512 ≤ (i 0).val ∧ (i 0).val < win0_13.index t 0 * 512 + 512
    rw [(ind13 t).1]; omega
  | ⟨1, _⟩ =>
    show win0_13.index t 1 * 1024 ≤ (i 1).val ∧ (i 1).val < win0_13.index t 1 * 1024 + 1024
    rw [(ind13 t).2]; omega

theorem final13 (c : Dev nD) : (dats m 0 c).arrAt 13 cfg0.N = nOf m c :=
  (dats m 0 c).arrAt_eq_of_cover 13 (nOf m c) (fun t _ => flushed13 m c t) cover13

/-- The run: both result arrays at the layer's values, the arguments unchanged. -/
theorem run_value : θ_run defs (onTc (τ := τ) (main (F := Ideal))) ⟨m, fun _ => 0, ρ⟩ fun r => ∀ c : Dev nD,
      r.2.mem ((c.tc : Thread nD τ).loc main_v9_0) = hOf m c
      ∧ r.2.mem ((c.tc : Thread nD τ).loc main_v9_1) = nOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  θ_run_mono (θ_run_and (run_main m ρ) (frame m ρ)) fun _ h c => ⟨((h.1 c).1 12).trans (final12 m c), ((h.1 c).1 13).trans (final13 m c), h.2.1 c⟩

end Cert.MergeIdeal.RefValue

namespace Cert.Proof

section
open Cert.MergeRefIdeal Cert.MergeRefIdeal.Gen
open Cert.MergeIdeal.RefValue (sigm merged hres modn)

variable (a0 : FVec Ideal S8x8x64x4096 .f32) (a1 : FVec Ideal S32768x512 .f32) (a2 : FVec Ideal S32768x4096 .f32) (a3 : FVec Ideal S8x4096x1024 .f32)
  (a4 a5 a6 : FVec Ideal S8x1024 .f32) (a7 a8 : FVec Ideal S512x1024 .f32) (a9 : FVec Ideal S1024x1024 .f32)

/-- The reference's first result, as its run states it. -/
abbrev mergeRefH : FVec Ideal S32768x1024 .f32 :=
  addf (shapeCast _ a3 shapeCasts_S8x4096x1024_S32768x1024) (mulf (shapeCast _ (broadcastInDim S8x4096x1024 ![0, 1, 2] bcast_S8x1x1024_S8x4096x1024_0_1_2 (broadcastInDim S8x1x1024 ![0, 2] bcast_S8x1024_S8x1x1024_0_2 a4)) shapeCasts_S8x4096x1024_S32768x1024) (Host.dotGeneral dot_S32768x1024_S1024x1024_S32768x1024_1_0_0_1_n_n none (addf (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 0] a2 slices_S32768x4096_S32768x1024_0_0))))) (Host.dotGeneral dot_S32768x512_S512x1024_S32768x1024_1_0_0_1_n_n none (shapeCast _ (transpose S8x4096x8x64 [0, 3, 1, 2] a0 transposes_S8x8x64x4096_S8x4096x8x64_0_3_1_2) shapeCasts_S8x4096x8x64_S32768x512) a7)) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 1024] a2 slices_S32768x4096_S32768x1024_0_1024))))) (Host.dotGeneral dot_S32768x512_S512x1024_S32768x1024_1_0_0_1_n_n none (mulf a1 (mulf (extractStridedSlice S32768x512 ![0, 3584] a2 slices_S32768x4096_S32768x512_0_3584) (Host.divf (broadcastInDim S32768x512 ![] bcast_S_S32768x512 (constant S_ .f32 0x3F800000#32)) (addf (broadcastInDim S32768x512 ![] bcast_S_S32768x512 (constant S_ .f32 0x3F800000#32)) (Host.exp (Host.negf (extractStridedSlice S32768x512 ![0, 3584] a2 slices_S32768x4096_S32768x512_0_3584))))))) a8))) a9))

/-- At an index it is the residual stream. -/
theorem mergeRefH_apply (t : Fin 32768) (d : Fin 1024) : mergeRefH a0 a1 a2 a3 a4 a7 a8 a9 (ix2 t d) = hres a0 a1 a2 a3 a4 a7 a8 a9 t d := by
  pointwise [mergeRefH, hres, merged, sigm]

/-- The reference's second result, as its run states it. -/
abbrev mergeRefN : FVec Ideal S32768x1024 .f32 :=
    addf (mulf (mulf (mergeRefH a0 a1 a2 a3 a4 a7 a8 a9) (broadcastInDim S32768x1024 ![0, 1] bcast_S32768x1_S32768x1024_0_1 (Host.rsqrt (addf (Host.divf (broadcastInDim S32768x1 ![0] bcast_S32768_S32768x1_0 (Host.reduceAdd (mulf (mergeRefH a0 a1 a2 a3 a4 a7 a8 a9) (mergeRefH a0 a1 a2 a3 a4 a7 a8 a9)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (addf (broadcastInDim S32768x1024 ![] bcast_S_S32768x1024 (constant S_ .f32 0x3F800000#32)) (shapeCast _ (broadcastInDim S8x4096x1024 ![0, 1, 2] bcast_S8x1x1024_S8x4096x1024_0_1_2 (broadcastInDim S8x1x1024 ![0, 2] bcast_S8x1024_S8x1x1024_0_2 a5)) shapeCasts_S8x4096x1024_S32768x1024))) (shapeCast _ (broadcastInDim S8x4096x1024 ![0, 1, 2] bcast_S8x1x1024_S8x4096x1024_0_1_2 (broadcastInDim S8x1x1024 ![0, 2] bcast_S8x1024_S8x1x1024_0_2 a6)) shapeCasts_S8x4096x1024_S32768x1024)

/-- At an index it is the modulated norm. -/
theorem mergeRefN_apply (t : Fin 32768) (d : Fin 1024) : mergeRefN a0 a1 a2 a3 a4 a5 a6 a7 a8 a9 (ix2 t d) = modn a0 a1 a2 a3 a4 a5 a6 a7 a8 a9 t d := by
  unfold mergeRefN modn
  have h := mergeRefH_apply a0 a1 a2 a3 a4 a7 a8 a9
  generalize mergeRefH a0 a1 a2 a3 a4 a7 a8 a9 = H at h
  pointwise
  simp only [h]

end

/-- The value of the merging call: both its results are the reference's. -/
theorem algebraic_MergeIdeal_MergeRefIdeal : Cert.algebraic_MergeIdeal_MergeRefIdeal := by
  intro m g m' g' _ hargs
  refine ⟨fun c => Cert.MergeIdeal.RefValue.hOf m c, fun c => Cert.MergeIdeal.RefValue.nOf m c, Cert.MergeIdeal.RefValue.run_value m g, ?_⟩
  refine θ_run_mono (Cert.MergeRefIdeal.Value.run m' g') fun _ h c => ⟨(h c).1.trans ?_, (h c).2.1.trans ?_, (h c).2.2⟩
  · obtain ⟨e0, e1, e2, e3, e4, e5, e6, e7, e8, e9⟩ := hargs c
    rw [e0, e1, e2, e3, e4, e7, e8, e9]
    funext i
    obtain ⟨t, d, rfl⟩ : ∃ (t : Fin 32768) (d : Fin 1024), i = ix2 t d := ⟨i 0, i 1, eq_ix2 i⟩
    exact mergeRefH_apply _ _ _ _ _ _ _ _ t d
  · obtain ⟨e0, e1, e2, e3, e4, e5, e6, e7, e8, e9⟩ := hargs c
    unfold Cert.MergeRefIdeal.Value.res_main_v50
    rw [e0, e1, e2, e3, e4, e5, e6, e7, e8, e9]
    funext i
    obtain ⟨t, d, rfl⟩ : ∃ (t : Fin 32768) (d : Fin 1024), i = ix2 t d := ⟨i 0, i 1, eq_ix2 i⟩
    exact mergeRefN_apply _ _ _ _ _ _ _ _ _ _ t d

end Cert.Proof
-- ==== Proof.FinalValue.lean ====
module

public import proofs.«01_k».proof.Defs
public import proofs.«01_k».proof.Proof.Gen.FinalIdeal.Value
public import proofs.«01_k».proof.Proof.Gen.FinalRefIdeal.Run
public import Idealize.ShloMosaic.Lib.Pipeline.Value
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalIdeal.RefValue

open Cert.FinalIdeal Cert.FinalIdeal.Gen

variable (m : (ℓ : Loc nD τ sig) → Buf (Elt Ideal) ℓ) (ρ : Dev nD → PrngReg)

theorem ind0 : ∀ t : Fin grid0.N, win0_0.index t 0 = t.val ∧ win0_0.index t 1 = 0 := by decide +kernel
theorem ind1 : ∀ t : Fin grid0.N, win0_1.index t 0 = t.val ∧ win0_1.index t 1 = 0 := by decide +kernel
theorem ind2 : ∀ t : Fin grid0.N, win0_2.index t 0 = t.val / 4 ∧ win0_2.index t 1 = 0 ∧ win0_2.index t 2 = 0 := by decide +kernel
theorem ind3 : ∀ t : Fin grid0.N, win0_3.index t 0 = 0 ∧ win0_3.index t 1 = 0 := by decide +kernel
theorem ind4 : ∀ t : Fin grid0.N, win0_4.index t 0 = t.val ∧ win0_4.index t 1 = 0 := by decide +kernel

/-- Row `a` of point `t`'s block of the token rows. -/
abbrev row (t : Fin cfg0.N) (a : Fin 1024) : Fin 32768 := ⟨t.val * 1024 + a.val, by have := t.isLt; have h : cfg0.N = 32 := N_0; have := a.isLt; omega⟩

theorem blk0 (c : Dev nD) (t : Fin cfg0.N) (a b : Fin 1024) :
    iblk m c 0 t (ix2 a b) = m ((c : Thread nD τ).loc main_arg0) (ix2 (row t a) b) := by
  unfold iblk
  rw [show V m c (Pipeline.arrRef spec0 0) = m ((c : Thread nD τ).loc main_arg0) from V_main_arg0 m c]
  refine congrArg (m ((c : Thread nD τ).loc main_arg0)) (funext fun x => Fin.ext ?_)
  match x with
  | ⟨0, _⟩ => show win0_0.index t 0 * 1024 + 1 * a.val = _; rw [(ind0 t).1]; show _ = t.val * 1024 + a.val; omega
  | ⟨1, _⟩ => show win0_0.index t 1 * 1024 + 1 * b.val = _; rw [(ind0 t).2]; show _ = b.val; omega

theorem blk1 (c : Dev nD) (t : Fin cfg0.N) (a b : Fin 1024) :
    iblk m c 1 t (ix2 a b) = m ((c : Thread nD τ).loc main_arg1) (ix2 (row t a) b) := by
  unfold iblk
  rw [show V m c (Pipeline.arrRef spec0 1) = m ((c : Thread nD τ).loc main_arg1) from V_main_arg1 m c]
  refine congrArg (m ((c : Thread nD τ).loc main_arg1)) (funext fun x => Fin.ext ?_)
  match x with
  | ⟨0, _⟩ => show win0_1.index t 0 * 1024 + 1 * a.val = _; rw [(ind1 t).1]; show _ = t.val * 1024 + a.val; omega
  | ⟨1, _⟩ => show win0_1.index t 1 * 1024 + 1 * b.val = _; rw [(ind1 t).2]; show _ = b.val; omega

/-- The gate row of point `t`: the gate of the batch entry the point's token rows belong to. -/
theorem blk2 (c : Dev nD) (t : Fin cfg0.N) (b : Fin 1024) :
    iblk m c 2 t (ix3 (0 : Fin 1) (0 : Fin 1) b)
      = m ((c : Thread nD τ).loc main_arg2) (ix2 (⟨t.val / 4, by have := t.isLt; have h : cfg0.N = 32 := N_0; omega⟩ : Fin 8) b) := by
  have hv : ∀ (e : Fin 8), V m c main_v0 (ix3 e (0 : Fin 1) b) = m ((c : Thread nD τ).loc main_arg2) (ix2 e b) := by
    intro e
    unfold V
    after_results
    pointwise
  rw [← hv]
  unfold iblk
  refine congrArg (V m c main_v0) (funext fun x => Fin.ext ?_)
  match x with
  | ⟨0, _⟩ => show win0_2.index t 0 * 1 + 1 * 0 = _; rw [(ind2 t).1]; show _ = t.val / 4; omega
  | ⟨1, _⟩ => show win0_2.index t 1 * 1 + 1 * 0 = _; rw [(ind2 t).2.1]; rfl
  | ⟨2, _⟩ => show win0_2.index t 2 * 1024 + 1 * b.val = _; rw [(ind2 t).2.2]; show _ = b.val; omega

/-- The norm's weights, whole at every point. -/
theorem blk3 (c : Dev nD) (t : Fin cfg0.N) (b : Fin 1024) :
    iblk m c 3 t (ix2 (0 : Fin 1) b) = m ((c : Thread nD τ).loc main_arg3) (ix1 b) := by
  have hv : V m c main_v1 (ix2 (0 : Fin 1) b) = m ((c : Thread nD τ).loc main_arg3) (ix1 b) := by
    unfold V
    after_results
    pointwise
  rw [← hv]
  unfold iblk
  refine congrArg (V m c main_v1) (funext fun x => Fin.ext ?_)
  match x with
  | ⟨0, _⟩ => show win0_3.index t 0 * 1 + 1 * 0 = _; rw [(ind3 t).1]; rfl
  | ⟨1, _⟩ => show win0_3.index t 1 * 1024 + 1 * b.val = _; rw [(ind3 t).2]; show _ = b.val; omega

/-- The residual sum of a token: its row of `h`, and its row of `y` gated by its batch entry's gate. -/
def resid (h y : S32768x1024.Idx → EReal) (g : S8x1024.Idx → EReal) (t : Fin 32768) (d : Fin 1024) : EReal :=
  h (ix2 t d) + g (ix2 (⟨t.val / 4096, by omega⟩ : Fin 8) d) * y (ix2 t d)

/-- The layer's last step: the residual sum, normalised by its root mean square, times the weights. -/
def normed (h y : S32768x1024.Idx → EReal) (g : S8x1024.Idx → EReal) (w : S1024.Idx → EReal) : S32768x1024.Idx → EReal := fun i =>
  resid h y g (i 0) (i 1)
    * Ideal.rsqrt (Ideal.div (∑ e : Fin 1024, resid h y g (i 0) e * resid h y g (i 0) e) (Ideal.ofBits .f32 0x44800000#32) + Ideal.ofBits .f32 0x358637BD#32)
    * w (ix1 (i 1))

abbrev normedOf (c : Dev nD) : Buf (Elt Ideal) ((c : Thread nD τ).loc main_v2) :=
  normed (m ((c : Thread nD τ).loc main_arg0)) (m ((c : Thread nD τ).loc main_arg1)) (m ((c : Thread nD τ).loc main_arg2)) (m ((c : Thread nD τ).loc main_arg3))

/-- The block of results a point leaves, read at an index. -/
theorem pay_apply (c : Dev nD) (t : Fin cfg0.N) (a b : Fin 1024) :
    k0_pay1 (iblk m c 0 t) (iblk m c 2 t) (iblk m c 1 t) (iblk m c 3 t) (ix2 a b) = normedOf m c (ix2 (row t a) b) := by
  have hd : (t.val * 1024 + a.val) / 4096 = t.val / 4 := by have := a.isLt; omega
  pointwise [k0_pay1, normed, resid]
  simp only [blk0, blk1, blk2, blk3, hd]

theorem hz2 : (![0, 0] : Fin 2 → Nat) = fun _ => 0 := funext fun a => by fin_cases a <;> rfl
theorem hz3 : (![0, 0, 0] : Fin 3 → Nat) = fun _ => 0 := funext fun a => by fin_cases a <;> rfl

theorem flushed_eq (c : Dev nD) (t : Fin cfg0.N) :
    (dats m 0 c).flushed 4 t = (win0_4.blk t).view.read (Elt Ideal) (normedOf m c) := by
  show (cfg0.win 4).cut (grid0.coords t) ((dats m 0 c).after 4 t) = _
  rw [after0_4]
  unfold out0_4
  rw [View.canon_unit_zero hz2, View.ld_unit_zero hz2, View.ld_unit_zero hz3, View.ld_unit_zero hz2, View.ld_unit_zero hz2]
  funext y
  refine (congrArg (k0_pay1 (iblk m c 0 t) (iblk m c 2 t) (iblk m c 1 t) (iblk m c 3 t)) (eq_ix2 (n0 := 1024) (n1 := 1024) y)).trans ?_
  refine (pay_apply m c t (y 0) (y 1)).trans ?_
  refine congrArg (normedOf m c) (funext fun x => Fin.ext ?_)
  match x with
  | ⟨0, _⟩ => show t.val * 1024 + (y 0).val = win0_4.index t 0 * 1024 + 1 * (y 0).val; rw [(ind4 t).1]; omega
  | ⟨1, _⟩ => show (y 1).val = win0_4.index t 1 * 1024 + 1 * (y 1).val; rw [(ind4 t).2]; omega

/-- The blocks tile the result. -/
theorem cover (i : S32768x1024.Idx) :
    ∃ t : Fin cfg0.N, (cfg0.win 4).flush t = true ∧ i ∈ ((cfg0.win 4).blk t).view.set := by
  have h0 : (i 0).val < 32768 := (i 0).isLt
  have h1 : (i 1).val < 1024 := (i 1).isLt
  have hN : cfg0.N = 32 := N_0
  obtain ⟨t, ht⟩ : ∃ t : Fin cfg0.N, t.val = (i 0).val / 1024 := ⟨⟨(i 0).val / 1024, by omega⟩, rfl⟩
  refine ⟨t, flush0_4 t, ?_⟩
  show i ∈ ((View.whole main_v2).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [(ind4 t).1]; omega
  | ⟨1, _⟩ =>
    show win0_4.index t 1 * 1024 ≤ (i 1).val ∧ (i 1).val < win0_4.index t 1 * 1024 + 1024
    rw [(ind4 t).2]; omega

/-- So the result array ends at the normalised sums. -/
theorem final (c : Dev nD) : (dats m 0 c).arrAt 4 cfg0.N = normedOf m c :=
  (dats m 0 c).arrAt_eq_of_cover 4 (normedOf m c) (fun t _ => flushed_eq m c t) cover

/-- The run: the result array at the normalised sums, the arguments unchanged. -/
theorem run_value : θ_run defs (onTc (τ := τ) (main (F := Ideal))) ⟨m, fun _ => 0, ρ⟩ fun r => ∀ c : Dev nD,
      r.2.mem ((c.tc : Thread nD τ).loc main_v2) = normedOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (run_main m ρ) (frame m ρ)) fun _ h c => ⟨((h.1 c).1 4).trans (final m c), h.2.1 c⟩

end Cert.FinalIdeal.RefValue

namespace Cert.Proof

open Cert.FinalRefIdeal Cert.FinalRefIdeal.Gen in
/-- The reference's result is the normalised sums. -/
theorem final_ref (a0 a1 : FVec Ideal S32768x1024 .f32) (a2 : FVec Ideal S8x1024 .f32) (a3 : FVec Ideal S1024 .f32) :
    mulf (mulf (addf a0 (mulf (shapeCast S32768x1024 (broadcastInDim S8x4096x1024 ![0, 1, 2] bcast_S8x1x1024_S8x4096x1024_0_1_2 (broadcastInDim S8x1x1024 ![0, 2] bcast_S8x1024_S8x1x1024_0_2 a2)) shapeCasts_S8x4096x1024_S32768x1024) a1)) (broadcastInDim S32768x1024 ![0, 1] bcast_S32768x1_S32768x1024_0_1 (Host.rsqrt (addf (Host.divf (broadcastInDim S32768x1 ![0] bcast_S32768_S32768x1_0 (Host.reduceAdd (mulf (addf a0 (mulf (shapeCast S32768x1024 (broadcastInDim S8x4096x1024 ![0, 1, 2] bcast_S8x1x1024_S8x4096x1024_0_1_2 (broadcastInDim S8x1x1024 ![0, 2] bcast_S8x1024_S8x1x1024_0_2 a2)) shapeCasts_S8x4096x1024_S32768x1024) a1)) (addf a0 (mulf (shapeCast S32768x1024 (broadcastInDim S8x4096x1024 ![0, 1, 2] bcast_S8x1x1024_S8x4096x1024_0_1_2 (broadcastInDim S8x1x1024 ![0, 2] bcast_S8x1024_S8x1x1024_0_2 a2)) shapeCasts_S8x4096x1024_S32768x1024) a1))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 a3))
      = Cert.FinalIdeal.RefValue.normed a0 a1 a2 a3 := by
  funext i
  obtain ⟨t, d, rfl⟩ : ∃ (t : Fin 32768) (d : Fin 1024), i = ix2 t d := ⟨i 0, i 1, eq_ix2 i⟩
  pointwise [Cert.FinalIdeal.RefValue.normed, Cert.FinalIdeal.RefValue.resid]

/-- The value of the last norm's call. -/
theorem algebraic_FinalIdeal_FinalRefIdeal : Cert.algebraic_FinalIdeal_FinalRefIdeal := by
  intro m g m' g' _ hargs
  refine ⟨fun c => Cert.FinalIdeal.RefValue.normedOf m c, Cert.FinalIdeal.RefValue.run_value m g, ?_⟩
  refine θ_run_mono (Cert.FinalRefIdeal.Value.run m' g') fun _ h c => ⟨(h c).1.trans ?_, (h c).2⟩
  rw [(hargs c).1, (hargs c).2.1, (hargs c).2.2.1, (hargs c).2.2.2]
  exact final_ref _ _ _ _

end Cert.Proof
-- ==== Proof.InProjBlocks.lean ====
module

public import proofs.«01_k».proof.Proof.Gen.InProjIdeal.Frame
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.InProjIdeal.RefValue

open Cert.InProjIdeal Cert.InProjIdeal.Gen

/-! ## One head's partial rotary embedding -/

/-- Feature `e` of the head whose 64 features are the entries `b`, `b + 1`, … of `col`: the first eight turn against the
    next eight by the angles whose cosines and sines are `co` and `si`, the others stay. -/
def rot (col : ℕ → EReal) (co si : Fin 8 → EReal) (b : ℕ) (e : Fin 64) : EReal :=
  if h : e.val < 8 then col (b + e.val) * co ⟨e.val, h⟩ - col (b + 8 + e.val) * si ⟨e.val, h⟩
  else if h2 : e.val - 8 < 8 then col (b + 8 + (e.val - 8)) * co ⟨e.val - 8, h2⟩ + col (b + (e.val - 8)) * si ⟨e.val - 8, h2⟩
  else col (b + 16 + (e.val - 8 - 8))

/-- Two heads with the same 64 features and the same angles are embedded alike. -/
theorem rot_congr {col col' : ℕ → EReal} {co co' si si' : Fin 8 → EReal} {b b' : ℕ} {e e' : Fin 64}
    (h : ∀ j < 64, col (b + j) = col' (b' + j)) (hc : ∀ f, co f = co' f) (hs : ∀ f, si f = si' f) (he : e = e') :
    rot col co si b e = rot col' co' si' b' e' := by
  subst he
  obtain rfl : co = co' := funext hc
  obtain rfl : si = si' := funext hs
  have he := e.isLt
  unfold rot
  simp only [Nat.add_assoc]
  split
  · rw [h _ (by omega), h _ (by omega)]
  · split
    · rw [h _ (by omega), h _ (by omega)]
    · rw [h _ (by omega)]

/-! ## The columns of a block's product -/

/-- Row `a` of a block after its norm and modulation, entry `k`. -/
def norm (x0 : S512x1024.Idx → EReal) (x1 x2 : S1x1x1024.Idx → EReal) (a : Fin 512) (k : Fin 1024) : EReal :=
  x0 (ix2 a k) * Ideal.rsqrt (Ideal.div (∑ j : Fin 1024, x0 (ix2 a j) * x0 (ix2 a j)) (Ideal.ofBits .f32 0x44800000#32) + Ideal.ofBits .f32 0x358637BD#32) * x1 (ix3 (0 : Fin 1) (0 : Fin 1) k) + x2 (ix3 (0 : Fin 1) (0 : Fin 1) k)

/-- Column `c` of the product of a block's rows with the permuted weights, at row `a`. -/
def prod (x0 : S512x1024.Idx → EReal) (x1 x2 : S1x1x1024.Idx → EReal) (x3 : S1024x6016.Idx → EReal) (a : Fin 512) (c : ℕ) : EReal :=
  if h : c < 6016 then ∑ k : Fin 1024, norm x0 x1 x2 a k * x3 (ix2 k (⟨c, h⟩ : Fin 6016)) else 0

/-- Column `c` of the second product, at row `a`. -/
def at0 (pa : S512x1920.Idx → EReal) (a : Fin 512) (c : ℕ) : EReal := if h : c < 1920 then pa (ix2 a ⟨c, h⟩) else 0

theorem at0_eq (pa : S512x1920.Idx → EReal) (a : Fin 512) (c : Fin 1920) : pa (ix2 a c) = at0 pa a c.val := by
  rw [at0, dif_pos c.isLt]

theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl

variable (x0 : Vec Ideal S512x1024 .f32) (x1 x2 : Vec Ideal S1x1x1024 .f32) (x3 : Vec Ideal S1024x6016 .bf16)
  (x4 x5 : Vec Ideal S1x8x512 .f32) (x6 : Vec Ideal S8x2 .f32)

theorem ld0 : View.ld x0 r0_0 = x0 := View.ld_unit_zero hz2 _ x0
theorem ld1 : View.ld x1 r0_1 = x1 := View.ld_unit_zero hz3 _ x1
theorem ld4 : View.ld x4 r0_5 = x4 := View.ld_unit_zero hz3 _ x4

/-- The second product's columns are the permuted weights' columns from 4096 on. -/
theorem at0_prod (a : Fin 512) (c : ℕ) :
    at0 (k0_pay4 (F := Ideal) (View.ld x0 r0_0) (View.ld x1 r0_1) (View.ld x2 r0_1) (View.ld x3 r0_4)) a c = prod x0 x1 x2 x3 a (4096 + c) := by
  unfold at0 prod
  by_cases h : c < 1920
  · rw [dif_pos h, dif_pos (by omega), ld0, ld1, ld1]
    pointwise [k0_pay4, k0_pay2, norm]
  · rw [dif_neg h, dif_neg (by omega)]

/-- The first product, whole in window 7: the permuted weights' columns below 4096. -/
theorem out7 (a : Fin 512) (c : Fin 4096) : out0_7 x0 x1 x2 x3 x4 x5 x6 (ix2 a c) = prod x0 x1 x2 x3 a c.val := by
  unfold_out out0_7
  rw [View.canon_unit_zero hz2, ld0, ld1, ld1]
  unfold prod
  rw [dif_pos (by omega)]
  pointwise [k0_pay3, k0_pay2, norm]
/-! ## The heads' pieces of windows 8 and 9 -/

/-- A head's piece of window 8 agrees with `G` if it does at every feature and row. -/
theorem head16 {h : ℕ} (inb : ∀ d, (![0, h, 0, 0] : Fin 4 → ℕ) d + S1x1x64x512.size d ≤ S1x16x64x512.size d) (p : S1x1x64x512.Idx → EReal) (G : S1x16x64x512.Idx → EReal)
    (H : ∀ (e : Fin 64) (a : Fin 512), p (ix4 (0 : Fin 1) (0 : Fin 1) e a) = G (ix4 (0 : Fin 1) (⟨h, inb 1⟩ : Fin 16) e a)) :
    ∀ x : (Rect.unit (s := S1x16x64x512) ![0, h, 0, 0] S1x1x64x512.size inb).shape.Idx,
      p x = G ((Rect.unit (s := S1x16x64x512) ![0, h, 0, 0] S1x1x64x512.size inb).emb x) := by
  intro x
  obtain ⟨z, w, e, a, rfl⟩ : ∃ (z : Fin 1) (w : Fin 1) (e : Fin 64) (a : Fin 512), x = ix4 z w e a := ⟨x 0, x 1, x 2, x 3, eq_ix4 x⟩
  obtain rfl : z = 0 := Subsingleton.elim _ _
  obtain rfl : w = 0 := Subsingleton.elim _ _
  refine (H e a).trans (congrArg G (funext fun d => Fin.ext ?_))
  match d with
  | ⟨0, _⟩ => rfl
  | ⟨1, _⟩ => rfl
  | ⟨2, _⟩ => show e.val = 0 + 1 * e.val; omega
  | ⟨3, _⟩ => show a.val = 0 + 1 * a.val; omega

/-- A head's piece of window 9 agrees with `G` if it does at every feature and row. -/
theorem head8 {h : ℕ} (inb : ∀ d, (![0, h, 0, 0] : Fin 4 → ℕ) d + S1x1x64x512.size d ≤ S1x8x64x512.size d) (p : S1x1x64x512.Idx → EReal) (G : S1x8x64x512.Idx → EReal)
    (H : ∀ (e : Fin 64) (a : Fin 512), p (ix4 (0 : Fin 1) (0 : Fin 1) e a) = G (ix4 (0 : Fin 1) (⟨h, inb 1⟩ : Fin 8) e a)) :
    ∀ x : (Rect.unit (s := S1x8x64x512) ![0, h, 0, 0] S1x1x64x512.size inb).shape.Idx,
      p x = G ((Rect.unit (s := S1x8x64x512) ![0, h, 0, 0] S1x1x64x512.size inb).emb x) := by
  intro x
  obtain ⟨z, w, e, a, rfl⟩ : ∃ (z : Fin 1) (w : Fin 1) (e : Fin 64) (a : Fin 512), x = ix4 z w e a := ⟨x 0, x 1, x 2, x 3, eq_ix4 x⟩
  obtain rfl : z = 0 := Subsingleton.elim _ _
  obtain rfl : w = 0 := Subsingleton.elim _ _
  refine (H e a).trans (congrArg G (funext fun d => Fin.ext ?_))
  match d with
  | ⟨0, _⟩ => rfl
  | ⟨1, _⟩ => rfl
  | ⟨2, _⟩ => show e.val = 0 + 1 * e.val; omega
  | ⟨3, _⟩ => show a.val = 0 + 1 * a.val; omega

set_option maxHeartbeats 4000000 in
/-- Window 8: the sixteen index heads, embedded. -/
theorem out8 (h : Fin 16) (e : Fin 64) (a : Fin 512) : out0_8 x0 x1 x2 x3 x4 x5 x6 (ix4 (0 : Fin 1) h e a)
    = rot (fun c => prod x0 x1 x2 x3 a (4096 + c)) (fun f => x4 (ix3 (0 : Fin 1) f a)) (fun f => x5 (ix3 (0 : Fin 1) f a)) (h.val * 64) e := by
  unfold out0_8 k0_pay99 k0_pay98 k0_pay97 k0_pay96 k0_pay7
  simp only [← at0_prod]
  generalize k0_pay4 (View.ld x0 r0_0) (View.ld x1 r0_1) (View.ld x2 r0_1) (View.ld x3 r0_4) = pa
  rw [ld4, ld4]
  obtain ⟨G, hG⟩ : ∃ G : S1x16x64x512.Idx → EReal, ∀ (h : Fin 16) (e : Fin 64) (a : Fin 512), G (ix4 (0 : Fin 1) h e a)
      = rot (at0 pa a) (fun f => x4 (ix3 (0 : Fin 1) f a)) (fun f => x5 (ix3 (0 : Fin 1) f a)) (h.val * 64) e :=
    ⟨fun y => rot (at0 pa (y 3)) (fun f => x4 (ix3 (0 : Fin 1) f (y 3))) (fun f => x5 (ix3 (0 : Fin 1) f (y 3))) ((y 1).val * 64) (y 2), fun _ _ _ => rfl⟩
  refine (View.canon_apply_of_pieces (Val := Elt Ideal) (S := S1x16x64x512) (e := .bf16) G _ ?_ (ix4 (0 : Fin 1) h e a) (cover0_8 _ _ _ _ _ _ _ _ _ _ _ _ _ _ _ _ _)).trans (hG h e a)
  simp only [List.forall_mem_cons, List.not_mem_nil, false_imp_iff, implies_true, and_true]
  refine ⟨?_, ?_, ?_, ?_, ?_, ?_, ?_, ?_, ?_, ?_, ?_, ?_, ?_, ?_, ?_, ?_⟩ <;>
    (refine head16 _ _ G fun e a => ?_
     rw [hG]
     pointwise [k0_pay53, k0_pay52, k0_pay34, k0_pay51, k0_pay33, k0_pay50, k0_pay32, k0_pay49, k0_pay31, k0_pay48, k0_pay30, k0_pay27, k0_pay28, k0_pay29, k0_pay25, k0_pay26, k0_pay47, k0_pay24, k0_pay46, k0_pay23, k0_pay45, k0_pay44, k0_pay22, k0_pay43, k0_pay21, k0_pay42, k0_pay20, k0_pay41, k0_pay19, k0_pay16, k0_pay17, k0_pay18, k0_pay14, k0_pay15, k0_pay40, k0_pay13, k0_pay39, k0_pay12, k0_pay38, k0_pay37, k0_pay11, k0_pay36, k0_pay10, k0_pay35, k0_pay9, k0_pay5, k0_pay6, k0_pay8, rot]
     simp only [at0_eq, ← Nat.add_assoc, Nat.reduceAdd, Nat.reduceMul])

set_option maxHeartbeats 4000000 in
/-- Window 9: the eight query heads, embedded and scaled. -/
theorem out9 (h : Fin 8) (e : Fin 64) (a : Fin 512) : out0_9 x0 x1 x2 x3 x4 x5 x6 (ix4 (0 : Fin 1) h e a)
    = rot (fun c => prod x0 x1 x2 x3 a (4096 + c)) (fun f => x4 (ix3 (0 : Fin 1) f a)) (fun f => x5 (ix3 (0 : Fin 1) f a)) (1024 + h.val * 64) e
      * Ideal.ofBits .f32 0x3E000000#32 := by
  unfold_out out0_9
  simp only [← at0_prod]
  generalize k0_pay4 (View.ld x0 r0_0) (View.ld x1 r0_1) (View.ld x2 r0_1) (View.ld x3 r0_4) = pa
  rw [ld4, ld4]
  obtain ⟨G, hG⟩ : ∃ G : S1x8x64x512.Idx → EReal, ∀ (h : Fin 8) (e : Fin 64) (a : Fin 512), G (ix4 (0 : Fin 1) h e a)
      = rot (at0 pa a) (fun f => x4 (ix3 (0 : Fin 1) f a)) (fun f => x5 (ix3 (0 : Fin 1) f a)) (1024 + h.val * 64) e * Ideal.ofBits .f32 0x3E000000#32 :=
    ⟨fun y => rot (at0 pa (y 3)) (fun f => x4 (ix3 (0 : Fin 1) f (y 3))) (fun f => x5 (ix3 (0 : Fin 1) f (y 3))) (1024 + (y 1).val * 64) (y 2) * Ideal.ofBits .f32 0x3E000000#32, fun _ _ _ => rfl⟩
  refine (View.canon_apply_of_pieces (Val := Elt Ideal) (S := S1x8x64x512) (e := .bf16) G _ ?_ (ix4 (0 : Fin 1) h e a) (cover0_9 _ _ _ _ _ _ _ _ _)).trans (hG h e a)
  simp only [List.forall_mem_cons, List.not_mem_nil, false_imp_iff, implies_true, and_true]
  refine ⟨?_, ?_, ?_, ?_, ?_, ?_, ?_, ?_⟩ <;>
    (refine head8 _ _ G fun e a => ?_
     rw [hG]
     pointwise [k0_pay5, k0_pay6, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, rot]
     simp only [at0_eq, ← Nat.add_assoc, Nat.reduceAdd, Nat.reduceMul])

/-- Window 10: the index heads' weights, scaled. -/
theorem out10 (h : Fin 16) (a : Fin 512) : out0_10 x0 x1 x2 x3 x4 x5 x6 (ix3 (0 : Fin 1) h a)
    = prod x0 x1 x2 x3 a (4096 + (1856 + h.val)) * Ideal.ofBits .f32 0x3D000000#32 := by
  unfold_out out0_10
  rw [← at0_prod]
  generalize k0_pay4 (View.ld x0 r0_0) (View.ld x1 r0_1) (View.ld x2 r0_1) (View.ld x3 r0_4) = pa
  rw [View.canon_unit_zero hz3]
  pointwise [k0_pay90, k0_pay77]
  simp only [at0_eq, ← Nat.add_assoc, Nat.reduceAdd, Nat.reduceMul]

/-- The logistic function. -/
def logistic (v : EReal) : EReal := Ideal.div 1 (1 + Ideal.exp (0 - v))

/-- The softplus, in the form that doesn't overflow. -/
def softplus (v : EReal) : EReal := max v 0 + Ideal.log1p (Ideal.exp (0 - FloatOps.absf (F := Ideal) (φ := .f32) v))

/-- Window 14: the update rates in its first eight rows, the decay rates in the others. -/
theorem out14 (h : Fin 16) (a : Fin 512) : out0_14 x0 x1 x2 x3 x4 x5 x6 (ix3 (0 : Fin 1) h a)
    = if h8 : h.val < 8 then logistic (prod x0 x1 x2 x3 a (4096 + (1872 + h.val)))
      else (0 - Ideal.exp (x6 (ix2 (⟨h.val - 8, by omega⟩ : Fin 8) (0 : Fin 2))))
        * softplus (prod x0 x1 x2 x3 a (4096 + (1880 + (h.val - 8))) + x6 (ix2 (⟨h.val - 8, by omega⟩ : Fin 8) (1 : Fin 2))) := by
  unfold_out out0_14
  simp only [← at0_prod]
  generalize k0_pay4 (View.ld x0 r0_0) (View.ld x1 r0_1) (View.ld x2 r0_1) (View.ld x3 r0_4) = pa
  rw [View.canon_unit_zero hz3]
  pointwise [k0_pay1, k0_pay91, k0_pay92, k0_pay93, k0_pay94, k0_pay77]
  simp only [at0_eq, ← Nat.add_assoc, Nat.reduceAdd, Nat.reduceMul, ne_eq, not_true_eq_false, ↓reduceIte]
  rfl

/-! ## The tiles of windows 11, 12 and 13 -/

/-- A tile of window 11 agrees with `G` if it does at every row and feature. -/
theorem tile11 {u : ℕ} (inb : ∀ d, (![0, u, 0, 0] : Fin 4 → ℕ) d + S1x1x256x64.size d ≤ S1x2x256x64.size d) (p : S1x1x256x64.Idx → EReal) (G : S1x2x256x64.Idx → EReal)
    (H : ∀ (s : Fin 256) (e : Fin 64), p (ix4 (0 : Fin 1) (0 : Fin 1) s e) = G (ix4 (0 : Fin 1) (⟨u, inb 1⟩ : Fin 2) s e)) :
    ∀ x : (Rect.unit (s := S1x2x256x64) ![0, u, 0, 0] S1x1x256x64.size inb).shape.Idx,
      p x = G ((Rect.unit (s := S1x2x256x64) ![0, u, 0, 0] S1x1x256x64.size inb).emb x) := by
  intro x
  obtain ⟨z, w, s, e, rfl⟩ : ∃ (z : Fin 1) (w : Fin 1) (s : Fin 256) (e : Fin 64), x = ix4 z w s e := ⟨x 0, x 1, x 2, x 3, eq_ix4 x⟩
  obtain rfl : z = 0 := Subsingleton.elim _ _
  obtain rfl : w = 0 := Subsingleton.elim _ _
  refine (H s e).trans (congrArg G (funext fun d => Fin.ext ?_))
  match d with
  | ⟨0, _⟩ => rfl
  | ⟨1, _⟩ => rfl
  | ⟨2, _⟩ => show s.val = 0 + 1 * s.val; omega
  | ⟨3, _⟩ => show e.val = 0 + 1 * e.val; omega

/-- A tile of window 12 agrees with `G` if it does at every row and feature. -/
theorem tile12 {g u : ℕ} (inb : ∀ d, (![0, g, u, 0, 0] : Fin 5 → ℕ) d + S1x1x1x256x64.size d ≤ S1x2x2x256x64.size d) (p : S1x1x1x256x64.Idx → EReal) (G : S1x2x2x256x64.Idx → EReal)
    (H : ∀ (s : Fin 256) (e : Fin 64), p (ix5 (0 : Fin 1) (0 : Fin 1) (0 : Fin 1) s e) = G (ix5 (0 : Fin 1) (⟨g, inb 1⟩ : Fin 2) (⟨u, inb 2⟩ : Fin 2) s e)) :
    ∀ x : (Rect.unit (s := S1x2x2x256x64) ![0, g, u, 0, 0] S1x1x1x256x64.size inb).shape.Idx,
      p x = G ((Rect.unit (s := S1x2x2x256x64) ![0, g, u, 0, 0] S1x1x1x256x64.size inb).emb x) := by
  intro x
  obtain ⟨z, w, v, s, e, rfl⟩ : ∃ (z : Fin 1) (w : Fin 1) (v : Fin 1) (s : Fin 256) (e : Fin 64), x = ix5 z w v s e := ⟨x 0, x 1, x 2, x 3, x 4, eq_ix5 x⟩
  obtain rfl : z = 0 := Subsingleton.elim _ _
  obtain rfl : w = 0 := Subsingleton.elim _ _
  obtain rfl : v = 0 := Subsingleton.elim _ _
  refine (H s e).trans (congrArg G (funext fun d => Fin.ext ?_))
  match d with
  | ⟨0, _⟩ => rfl
  | ⟨1, _⟩ => rfl
  | ⟨2, _⟩ => rfl
  | ⟨3, _⟩ => show s.val = 0 + 1 * s.val; omega
  | ⟨4, _⟩ => show e.val = 0 + 1 * e.val; omega

/-- A tile of window 13 agrees with `G` if it does at every feature and row. -/
theorem tile13 {g u : ℕ} (inb : ∀ d, (![0, g, u, 0, 0] : Fin 5 → ℕ) d + S1x1x1x64x256.size d ≤ S1x2x2x64x256.size d) (p : S1x1x1x64x256.Idx → EReal) (G : S1x2x2x64x256.Idx → EReal)
    (H : ∀ (e : Fin 64) (s : Fin 256), p (ix5 (0 : Fin 1) (0 : Fin 1) (0 : Fin 1) e s) = G (ix5 (0 : Fin 1) (⟨g, inb 1⟩ : Fin 2) (⟨u, inb 2⟩ : Fin 2) e s)) :
    ∀ x : (Rect.unit (s := S1x2x2x64x256) ![0, g, u, 0, 0] S1x1x1x64x256.size inb).shape.Idx,
      p x = G ((Rect.unit (s := S1x2x2x64x256) ![0, g, u, 0, 0] S1x1x1x64x256.size inb).emb x) := by
  intro x
  obtain ⟨z, w, v, e, s, rfl⟩ : ∃ (z : Fin 1) (w : Fin 1) (v : Fin 1) (e : Fin 64) (s : Fin 256), x = ix5 z w v e s := ⟨x 0, x 1, x 2, x 3, x 4, eq_ix5 x⟩
  obtain rfl : z = 0 := Subsingleton.elim _ _
  obtain rfl : w = 0 := Subsingleton.elim _ _
  obtain rfl : v = 0 := Subsingleton.elim _ _
  refine (H e s).trans (congrArg G (funext fun d => Fin.ext ?_))
  match d with
  | ⟨0, _⟩ => rfl
  | ⟨1, _⟩ => rfl
  | ⟨2, _⟩ => rfl
  | ⟨3, _⟩ => show e.val = 0 + 1 * e.val; omega
  | ⟨4, _⟩ => show s.val = 0 + 1 * s.val; omega

/-- Row `s` of tile `u` of a block. -/
abbrev tileRow (u : Fin 2) (s : Fin 256) : Fin 512 := ⟨u.val * 256 + s.val, by omega⟩

set_option maxHeartbeats 4000000 in
/-- Window 11: the index key, embedded, in two tiles of 256 rows. -/
theorem out11 (u : Fin 2) (s : Fin 256) (e : Fin 64) : out0_11 x0 x1 x2 x3 x4 x5 x6 (ix4 (0 : Fin 1) u s e)
    = rot (fun c => prod x0 x1 x2 x3 (tileRow u s) (4096 + c)) (fun f => x4 (ix3 (0 : Fin 1) f (tileRow u s))) (fun f => x5 (ix3 (0 : Fin 1) f (tileRow u s))) 1792 e := by
  unfold_out out0_11
  simp only [← at0_prod]
  generalize k0_pay4 (View.ld x0 r0_0) (View.ld x1 r0_1) (View.ld x2 r0_1) (View.ld x3 r0_4) = pa
  rw [ld4, ld4]
  obtain ⟨G, hG⟩ : ∃ G : S1x2x256x64.Idx → EReal, ∀ (u : Fin 2) (s : Fin 256) (e : Fin 64), G (ix4 (0 : Fin 1) u s e)
      = rot (at0 pa (tileRow u s)) (fun f => x4 (ix3 (0 : Fin 1) f (tileRow u s))) (fun f => x5 (ix3 (0 : Fin 1) f (tileRow u s))) 1792 e :=
    ⟨fun y => rot (at0 pa (tileRow (y 1) (y 2))) (fun f => x4 (ix3 (0 : Fin 1) f (tileRow (y 1) (y 2)))) (fun f => x5 (ix3 (0 : Fin 1) f (tileRow (y 1) (y 2)))) 1792 (y 3), fun _ _ _ => rfl⟩
  refine (View.canon_apply_of_pieces (Val := Elt Ideal) (S := S1x2x256x64) (e := .bf16) G _ ?_ (ix4 (0 : Fin 1) u s e) (cover0_11 _ _ _)).trans (hG u s e)
  simp only [List.forall_mem_cons, List.not_mem_nil, false_imp_iff, implies_true, and_true]
  refine ⟨?_, ?_⟩ <;>
    (refine tile11 _ _ G fun s e => ?_
     rw [hG]
     pointwise [k0_pay89, k0_pay84, k0_pay78, k0_pay77, k0_pay5, k0_pay6, rot]
     simp only [at0_eq, ← Nat.add_assoc, Nat.reduceAdd, Nat.reduceMul, Nat.zero_add, tileRow, Fin.val_zero, Fin.val_one, Nat.zero_mul, Nat.one_mul])

set_option maxHeartbeats 4000000 in
/-- Window 12: the two key heads, embedded, each in two tiles of 256 rows. -/
theorem out12 (g u : Fin 2) (s : Fin 256) (e : Fin 64) : out0_12 x0 x1 x2 x3 x4 x5 x6 (ix5 (0 : Fin 1) g u s e)
    = rot (fun c => prod x0 x1 x2 x3 (tileRow u s) (4096 + c)) (fun f => x4 (ix3 (0 : Fin 1) f (tileRow u s))) (fun f => x5 (ix3 (0 : Fin 1) f (tileRow u s))) (1536 + g.val * 64) e := by
  unfold_out out0_12
  simp only [← at0_prod]
  generalize k0_pay4 (View.ld x0 r0_0) (View.ld x1 r0_1) (View.ld x2 r0_1) (View.ld x3 r0_4) = pa
  rw [ld4, ld4]
  obtain ⟨G, hG⟩ : ∃ G : S1x2x2x256x64.Idx → EReal, ∀ (g u : Fin 2) (s : Fin 256) (e : Fin 64), G (ix5 (0 : Fin 1) g u s e)
      = rot (at0 pa (tileRow u s)) (fun f => x4 (ix3 (0 : Fin 1) f (tileRow u s))) (fun f => x5 (ix3 (0 : Fin 1) f (tileRow u s))) (1536 + g.val * 64) e :=
    ⟨fun y => rot (at0 pa (tileRow (y 2) (y 3))) (fun f => x4 (ix3 (0 : Fin 1) f (tileRow (y 2) (y 3)))) (fun f => x5 (ix3 (0 : Fin 1) f (tileRow (y 2) (y 3)))) (1536 + (y 1).val * 64) (y 4), fun _ _ _ _ => rfl⟩
  refine (View.canon_apply_of_pieces (Val := Elt Ideal) (S := S1x2x2x256x64) (e := .bf16) G _ ?_ (ix5 (0 : Fin 1) g u s e) (cover0_12 _ _ _ _ _)).trans (hG g u s e)
  simp only [List.forall_mem_cons, List.not_mem_nil, false_imp_iff, implies_true, and_true]
  refine ⟨?_, ?_, ?_, ?_⟩ <;>
    (refine tile12 _ _ G fun s e => ?_
     rw [hG]
     pointwise [k0_pay87, k0_pay85, k0_pay82, k0_pay79, k0_pay73, k0_pay74, k0_pay75, k0_pay5, k0_pay6, rot]
     simp only [at0_eq, ← Nat.add_assoc, Nat.reduceAdd, Nat.reduceMul, Nat.zero_add, tileRow, Fin.val_zero, Fin.val_one, Nat.zero_mul, Nat.one_mul])

set_option maxHeartbeats 4000000 in
/-- Window 13: the two value heads, transposed, each in two tiles of 256 rows. -/
theorem out13 (g u : Fin 2) (e : Fin 64) (s : Fin 256) : out0_13 x0 x1 x2 x3 x4 x5 x6 (ix5 (0 : Fin 1) g u e s)
    = prod x0 x1 x2 x3 (tileRow u s) (4096 + (1664 + g.val * 64 + e.val)) := by
  unfold_out out0_13
  simp only [← at0_prod]
  generalize k0_pay4 (View.ld x0 r0_0) (View.ld x1 r0_1) (View.ld x2 r0_1) (View.ld x3 r0_4) = pa
  obtain ⟨G, hG⟩ : ∃ G : S1x2x2x64x256.Idx → EReal, ∀ (g u : Fin 2) (e : Fin 64) (s : Fin 256), G (ix5 (0 : Fin 1) g u e s)
      = at0 pa (tileRow u s) (1664 + g.val * 64 + e.val) :=
    ⟨fun y => at0 pa (tileRow (y 2) (y 4)) (1664 + (y 1).val * 64 + (y 3).val), fun _ _ _ _ => rfl⟩
  refine (View.canon_apply_of_pieces (Val := Elt Ideal) (S := S1x2x2x64x256) (e := .bf16) G _ ?_ (ix5 (0 : Fin 1) g u e s) (cover0_13 _ _ _ _ _)).trans (hG g u e s)
  simp only [List.forall_mem_cons, List.not_mem_nil, false_imp_iff, implies_true, and_true]
  refine ⟨?_, ?_, ?_, ?_⟩ <;>
    (refine tile13 _ _ G fun e s => ?_
     rw [hG]
     pointwise [k0_pay88, k0_pay86, k0_pay83, k0_pay81, k0_pay80, k0_pay76]
     simp only [at0_eq, ← Nat.add_assoc, Nat.reduceAdd, Nat.reduceMul, Nat.zero_add, tileRow, Fin.val_zero, Fin.val_one, Nat.zero_mul, Nat.one_mul])

end Cert.InProjIdeal.RefValue
-- ==== Proof.InProjArrays.lean ====
module

public import proofs.«01_k».proof.Proof.InProjBlocks

@[expose] public section

set_option maxRecDepth 16384
set_option maxHeartbeats 2000000

noncomputable section

open Idealize.ShloMosaic Idealize.ShloMosaic.TcCoe Idealize.SL.Sem
open Idealize.ShloMosaic.Pipeline (Dat)

namespace Cert.InProjIdeal.RefValue

open Cert.InProjIdeal Cert.InProjIdeal.Gen

variable (m : (ℓ : Loc nD τ sig) → Buf (Elt Ideal) ℓ)

/-! ## The mathematics: one token's projected features, by the columns of the layer's own weights -/

/-- The weight at row `k` and column `q`. -/
def wcol (w : S1024x5984.Idx → EReal) (k : Fin 1024) (q : ℕ) : EReal := if h : q < 5984 then w (ix2 k ⟨q, h⟩) else 0

theorem wcol_eq (w : S1024x5984.Idx → EReal) (k : Fin 1024) (q : Fin 5984) : w (ix2 k q) = wcol w k q.val := by
  rw [wcol, dif_pos q.isLt]

section
variable (x : S8x4096x1024.Idx → EReal) (sc sh : S8x1024.Idx → EReal) (w : S1024x5984.Idx → EReal) (p : S8x4096.Idx → BitVec 32)
  (al dt : S8.Idx → EReal) (b : Fin 8) (s : Fin 4096)

/-- Token `s` of batch entry `b` after its norm and modulation, entry `k`. -/
def nrm (k : Fin 1024) : EReal :=
  x (ix3 b s k) * Ideal.rsqrt (Ideal.div (∑ j : Fin 1024, x (ix3 b s j) * x (ix3 b s j)) (Ideal.ofBits .f32 0x44800000#32) + Ideal.ofBits .f32 0x358637BD#32)
    * ((1 : EReal) + sc (ix2 b k)) + sh (ix2 b k)

/-- Column `q` of the token's projection. -/
def col (q : ℕ) : EReal := ∑ k : Fin 1024, nrm x sc sh b s k * wcol w k q

/-- The angle by which feature `f` of a token's heads turns. -/
def ang (f : Fin 8) : EReal :=
  (FloatOps.sitofp (F := Ideal) .f32 (p (ix2 b s)) : EReal)
    * Ideal.pow (Ideal.ofBits .f32 1223959552#32) (-(FloatOps.sitofp (F := Ideal) .f32 (BitVec.ofNat 32 f.val) : EReal) * Ideal.ofBits .f32 1040187392#32)

/-- Feature `e` of the head at columns `o`, `o + 1`, … of the token's projection, embedded. -/
def emb (o : ℕ) (e : Fin 64) : EReal := rot (col x sc sh w b s) (fun f => Ideal.cos (ang p b s f)) (fun f => Ideal.sin (ang p b s f)) o e

/-- The gate (first eight heads) and the decay (last eight) of head `h`. -/
def gates (h : Fin 16) : EReal :=
  if h8 : h.val < 8 then logistic (col x sc sh w b s (3920 + h.val))
  else (0 - Ideal.exp (al (ix1 (⟨h.val - 8, by omega⟩ : Fin 8))))
    * softplus (col x sc sh w b s (3928 + (h.val - 8)) + dt (ix1 (⟨h.val - 8, by omega⟩ : Fin 8)))
end

/-- Which column of the layer's weights the kernel's column `q` is. -/
def src (q : ℕ) : ℕ :=
  if q < 2048 then q + 3936 else if q < 4096 then q - 176 else if q < 5120 then q - 3328 else if q < 5888 then q - 5120 else if q < 5968 then q - 4096 else q - 2048

/-! ## The weights the kernel is given -/

/-- The projection's weights with their columns in the kernel's order, padded to whole lanes. -/
def packed (w : FVec Ideal S1024x5984 .f32) : FVec Ideal S1024x6016 .bf16 :=
  truncf .bf16 (concatenate S1024x6016 1
    [⟨S1024x1024, extractStridedSlice S1024x1024 ![0, 3936] w slices_S1024x5984_S1024x1024_0_3936⟩,
      ⟨S1024x1024, extractStridedSlice S1024x1024 ![0, 4960] w slices_S1024x5984_S1024x1024_0_4960⟩,
      ⟨S1024x512, extractStridedSlice S1024x512 ![0, 1872] w slices_S1024x5984_S1024x512_0_1872⟩,
      ⟨S1024x512, extractStridedSlice S1024x512 ![0, 2384] w slices_S1024x5984_S1024x512_0_2384⟩,
      ⟨S1024x512, extractStridedSlice S1024x512 ![0, 2896] w slices_S1024x5984_S1024x512_0_2896⟩,
      ⟨S1024x512, extractStridedSlice S1024x512 ![0, 3408] w slices_S1024x5984_S1024x512_0_3408⟩,
      ⟨S1024x1024, extractStridedSlice S1024x1024 ![0, 768] w slices_S1024x5984_S1024x1024_0_768⟩,
      ⟨S1024x512, extractStridedSlice S1024x512 ![0, 0] w slices_S1024x5984_S1024x512_0_0⟩,
      ⟨S1024x128, extractStridedSlice S1024x128 ![0, 512] w slices_S1024x5984_S1024x128_0_512⟩,
      ⟨S1024x128, extractStridedSlice S1024x128 ![0, 640] w slices_S1024x5984_S1024x128_0_640⟩,
      ⟨S1024x64, extractStridedSlice S1024x64 ![0, 1792] w slices_S1024x5984_S1024x64_0_1792⟩,
      ⟨S1024x16, extractStridedSlice S1024x16 ![0, 1856] w slices_S1024x5984_S1024x16_0_1856⟩,
      ⟨S1024x8, extractStridedSlice S1024x8 ![0, 3920] w slices_S1024x5984_S1024x8_0_3920⟩,
      ⟨S1024x8, extractStridedSlice S1024x8 ![0, 3928] w slices_S1024x5984_S1024x8_0_3928⟩,
      ⟨S1024x32, broadcastInDim S1024x32 ![] bcast_S_S1024x32 (constant S_ .f32 0x00000000#32)⟩]
    concatenates_S1024x1024_S1024x1024_S1024x512_S1024x512_S1024x512_S1024x512_S1024x1024_S1024x512_S1024x128_S1024x128_S1024x64_S1024x16_S1024x8_S1024x8_S1024x32_S1024x6016_d1) bitsLt_bf16_f32

/-- A choice is a value when each of its sides is. -/
theorem eq_of_dite {p : Prop} [Decidable p] {u v z : EReal} (hu : p → u = z) (hv : ¬p → v = z) : (if _h : p then u else v) = z := by
  split
  · exact hu ‹_›
  · exact hv ‹_›

set_option maxRecDepth 200000 in
theorem packed_apply (w : FVec Ideal S1024x5984 .f32) (k : Fin 1024) (q : Fin 6016) (hq : q.val < 5984) : packed w (ix2 k q) = wcol w k (src q.val) := by
  pointwise [packed]
  simp only [wcol_eq]
  iterate 14
    refine eq_of_dite (fun _ => congrArg (wcol w k) ?_) fun _ => ?_
    · unfold src; repeat' split
      all_goals omega
  omega

/-! ## Where each window's block lies -/

theorem ind0 : ∀ t : Fin grid0.N, win0_0.index t 0 = t.val ∧ win0_0.index t 1 = 0 := by decide +kernel
theorem ind1 : ∀ t : Fin grid0.N, win0_1.index t 0 = t.val / 8 ∧ win0_1.index t 1 = 0 ∧ win0_1.index t 2 = 0 := by decide +kernel
theorem ind2 : ∀ t : Fin grid0.N, win0_2.index t 0 = t.val / 8 ∧ win0_2.index t 1 = 0 ∧ win0_2.index t 2 = 0 := by decide +kernel
theorem ind3 : ∀ t : Fin grid0.N, win0_3.index t 0 = 0 ∧ win0_3.index t 1 = 0 := by decide +kernel
theorem ind4 : ∀ t : Fin grid0.N, win0_4.index t 0 = t.val / 8 ∧ win0_4.index t 1 = 0 ∧ win0_4.index t 2 = t.val % 8 := by decide +kernel
theorem ind5 : ∀ t : Fin grid0.N, win0_5.index t 0 = t.val / 8 ∧ win0_5.index t 1 = 0 ∧ win0_5.index t 2 = t.val % 8 := by decide +kernel
theorem ind6 : ∀ t : Fin grid0.N, win0_6.index t 0 = 0 ∧ win0_6.index t 1 = 0 := by decide +kernel

/-- The batch entry of point `t`'s token rows. -/
abbrev entry (t : Fin cfg0.N) : Fin 8 := ⟨t.val / 8, by have := t.isLt; have h : cfg0.N = 64 := N_0; omega⟩
/-- The position of row `a` of point `t`'s block. -/
abbrev pos (t : Fin cfg0.N) (a : Fin 512) : Fin 4096 := ⟨t.val % 8 * 512 + a.val, by have := a.isLt; omega⟩

/-! ## What each window's block holds -/

theorem blk0 (c : Dev nD) (t : Fin cfg0.N) (a : Fin 512) (b : Fin 1024) :
    iblk m c 0 t (ix2 a b) = m ((c : Thread nD τ).loc main_arg0) (ix3 (entry t) (pos t a) b) := by
  have hv : ∀ r : Fin 32768, V m c main_v0 (ix2 r b)
      = m ((c : Thread nD τ).loc main_arg0) (ix3 (⟨r.val / 4096, by omega⟩ : Fin 8) (⟨r.val % 4096, by omega⟩ : Fin 4096) b) := by
    intro r
    unfold V
    after_results
    pointwise
  have hN : cfg0.N = 64 := N_0
  have ht := t.isLt
  have ha := a.isLt
  have hr := hv ⟨t.val * 512 + a.val, by omega⟩
  rw [show (⟨(⟨t.val * 512 + a.val, by omega⟩ : Fin 32768).val / 4096, by omega⟩ : Fin 8) = entry t from Fin.ext (by show (t.val * 512 + a.val) / 4096 = t.val / 8; omega),
    show (⟨(⟨t.val * 512 + a.val, by omega⟩ : Fin 32768).val % 4096, by omega⟩ : Fin 4096) = pos t a from Fin.ext (by show (t.val * 512 + a.val) % 4096 = t.val % 8 * 512 + a.val; omega)] at hr
  rw [← hr]
  unfold iblk
  refine congrArg (V m c main_v0) (funext fun x => Fin.ext ?_)
  match x with
  | ⟨0, _⟩ => show win0_0.index t 0 * 512 + 1 * a.val = _; rw [(ind0 t).1]; show _ = t.val * 512 + a.val; omega
  | ⟨1, _⟩ => show win0_0.index t 1 * 1024 + 1 * b.val = _; rw [(ind0 t).2]; show _ = b.val; omega

theorem blk1 (c : Dev nD) (t : Fin cfg0.N) (b : Fin 1024) :
    iblk m c 1 t (ix3 (0 : Fin 1) (0 : Fin 1) b) = (1 : EReal) + (m ((c : Thread nD τ).loc main_arg1) (ix2 (entry t) b) : EReal) := by
  have hv : ∀ e : Fin 8, V m c main_v3 (ix3 e (0 : Fin 1) b) = (1 : EReal) + (m ((c : Thread nD τ).loc main_arg1) (ix2 e b) : EReal) := by
    intro e
    unfold V
    after_results
    pointwise
  rw [← hv]
  unfold iblk
  refine congrArg (V m c main_v3) (funext fun x => Fin.ext ?_)
  match x with
  | ⟨0, _⟩ => show win0_1.index t 0 * 1 + 1 * 0 = _; rw [(ind1 t).1]; show _ = t.val / 8; omega
  | ⟨1, _⟩ => show win0_1.index t 1 * 1 + 1 * 0 = _; rw [(ind1 t).2.1]; rfl
  | ⟨2, _⟩ => show win0_1.index t 2 * 1024 + 1 * b.val = _; rw [(ind1 t).2.2]; show _ = b.val; omega

theorem blk2 (c : Dev nD) (t : Fin cfg0.N) (b : Fin 1024) :
    iblk m c 2 t (ix3 (0 : Fin 1) (0 : Fin 1) b) = m ((c : Thread nD τ).loc main_arg2) (ix2 (entry t) b) := by
  have hv : ∀ e : Fin 8, V m c main_v4 (ix3 e (0 : Fin 1) b) = m ((c : Thread nD τ).loc main_arg2) (ix2 e b) := by
    intro e
    unfold V
    after_results
    pointwise
  rw [← hv]
  unfold iblk
  refine congrArg (V m c main_v4) (funext fun x => Fin.ext ?_)
  match x with
  | ⟨0, _⟩ => show win0_2.index t 0 * 1 + 1 * 0 = _; rw [(ind2 t).1]; show _ = t.val / 8; omega
  | ⟨1, _⟩ => show win0_2.index t 1 * 1 + 1 * 0 = _; rw [(ind2 t).2.1]; rfl
  | ⟨2, _⟩ => show win0_2.index t 2 * 1024 + 1 * b.val = _; rw [(ind2 t).2.2]; show _ = b.val; omega

theorem blk3 (c : Dev nD) (t : Fin cfg0.N) (k : Fin 1024) (q : Fin 6016) (hq : q.val < 5984) :
    iblk m c 3 t (ix2 k q) = wcol (m ((c : Thread nD τ).loc main_arg3)) k (src q.val) := by
  have hv : V m c main_v21 = packed (m ((c : Thread nD τ).loc main_arg3)) := by
    unfold V
    after_results
    rfl
  rw [← packed_apply _ _ _ hq, ← hv]
  unfold iblk
  refine congrArg (V m c main_v21) (funext fun x => Fin.ext ?_)
  match x with
  | ⟨0, _⟩ => show win0_3.index t 0 * 1024 + 1 * k.val = _; rw [(ind3 t).1]; show _ = k.val; omega
  | ⟨1, _⟩ => show win0_3.index t 1 * 6016 + 1 * q.val = _; rw [(ind3 t).2]; show _ = q.val; omega

theorem blk4 (c : Dev nD) (t : Fin cfg0.N) (f : Fin 8) (a : Fin 512) :
    iblk m c 4 t (ix3 (0 : Fin 1) f a) = Ideal.cos (ang (m ((c : Thread nD τ).loc main_arg4)) (entry t) (pos t a) f) := by
  have hv : ∀ (b : Fin 8) (s : Fin 4096), (V m c main_v34 (ix3 b f s) : EReal) = Ideal.cos (ang (m ((c : Thread nD τ).loc main_arg4)) b s f) := by
    intro b s
    unfold V
    after_results
    pointwise [ang]
  refine Eq.trans ?_ (hv _ _)
  unfold iblk
  refine congrArg (V m c main_v34) (funext fun x => Fin.ext ?_)
  match x with
  | ⟨0, _⟩ => show win0_4.index t 0 * 1 + 1 * 0 = _; rw [(ind4 t).1]; show _ = t.val / 8; omega
  | ⟨1, _⟩ => show win0_4.index t 1 * 8 + 1 * f.val = _; rw [(ind4 t).2.1]; show _ = f.val; omega
  | ⟨2, _⟩ => show win0_4.index t 2 * 512 + 1 * a.val = _; rw [(ind4 t).2.2]; show _ = t.val % 8 * 512 + a.val; omega

theorem blk5 (c : Dev nD) (t : Fin cfg0.N) (f : Fin 8) (a : Fin 512) :
    iblk m c 5 t (ix3 (0 : Fin 1) f a) = Ideal.sin (ang (m ((c : Thread nD τ).loc main_arg4)) (entry t) (pos t a) f) := by
  have hv : ∀ (b : Fin 8) (s : Fin 4096), (V m c main_v35 (ix3 b f s) : EReal) = Ideal.sin (ang (m ((c : Thread nD τ).loc main_arg4)) b s f) := by
    intro b s
    unfold V
    after_results
    pointwise [ang]
  refine Eq.trans ?_ (hv _ _)
  unfold iblk
  refine congrArg (V m c main_v35) (funext fun x => Fin.ext ?_)
  match x with
  | ⟨0, _⟩ => show win0_5.index t 0 * 1 + 1 * 0 = _; rw [(ind5 t).1]; show _ = t.val / 8; omega
  | ⟨1, _⟩ => show win0_5.index t 1 * 8 + 1 * f.val = _; rw [(ind5 t).2.1]; show _ = f.val; omega
  | ⟨2, _⟩ => show win0_5.index t 2 * 512 + 1 * a.val = _; rw [(ind5 t).2.2]; show _ = t.val % 8 * 512 + a.val; omega

/-- The table of the heads' two rates: decay rates in its first column, step offsets in its second. -/
theorem blk6 (c : Dev nD) (t : Fin cfg0.N) (h : Fin 8) (z : Fin 2) :
    iblk m c 6 t (ix2 h z) = if z.val < 1 then (m ((c : Thread nD τ).loc main_arg5) (ix1 h) : EReal) else m ((c : Thread nD τ).loc main_arg6) (ix1 h) := by
  have hv : (V m c main_v38 (ix2 h z) : EReal) = if z.val < 1 then (m ((c : Thread nD τ).loc main_arg5) (ix1 h) : EReal) else m ((c : Thread nD τ).loc main_arg6) (ix1 h) := by
    unfold V
    after_results
    pointwise
    split <;> rfl
  refine Eq.trans ?_ hv
  unfold iblk
  refine congrArg (V m c main_v38) (funext fun x => Fin.ext ?_)
  match x with
  | ⟨0, _⟩ => show win0_6.index t 0 * 8 + 1 * h.val = _; rw [(ind6 t).1]; show _ = h.val; omega
  | ⟨1, _⟩ => show win0_6.index t 1 * 2 + 1 * z.val = _; rw [(ind6 t).2]; show _ = z.val; omega

/-- A column of the block's product is the column of the layer's projection it was moved from. -/
theorem prod_blk (c : Dev nD) (t : Fin cfg0.N) (a : Fin 512) {q q' : ℕ} (hq : q < 5984) (hs : src q = q') :
    prod (iblk m c 0 t) (iblk m c 1 t) (iblk m c 2 t) (iblk m c 3 t) a q
      = col (m ((c : Thread nD τ).loc main_arg0)) (m ((c : Thread nD τ).loc main_arg1)) (m ((c : Thread nD τ).loc main_arg2)) (m ((c : Thread nD τ).loc main_arg3)) (entry t) (pos t a) q' := by
  subst hs
  rw [prod, dif_pos (by omega : q < 6016)]
  unfold col
  refine Finset.sum_congr rfl fun k _ => ?_
  rw [blk3 m c t k ⟨q, by omega⟩ hq]
  refine congrArg (· * _) ?_
  unfold norm nrm
  simp only [blk0, blk1, blk2]

end Cert.InProjIdeal.RefValue
-- ==== Proof.InProjRun.lean ====
module

public import proofs.«01_k».proof.Proof.InProjArrays

@[expose] public section

set_option maxRecDepth 16384
set_option maxHeartbeats 1000000

noncomputable section

open Idealize.ShloMosaic Idealize.ShloMosaic.TcCoe Idealize.SL.Sem
open Idealize.ShloMosaic.Pipeline (Dat)

namespace Cert.InProjIdeal.RefValue

open Cert.InProjIdeal Cert.InProjIdeal.Gen

variable (m : (ℓ : Loc nD τ sig) → Buf (Elt Ideal) ℓ) (ρ : Dev nD → PrngReg)

/-! ## Where each result's block lies -/

theorem ind7 : ∀ t : Fin grid0.N, win0_7.index t 0 = t.val ∧ win0_7.index t 1 = 0 := by decide +kernel
theorem ind8 : ∀ t : Fin grid0.N, win0_8.index t 0 = t.val / 8 ∧ win0_8.index t 1 = 0 ∧ win0_8.index t 2 = 0 ∧ win0_8.index t 3 = t.val % 8 := by decide +kernel
theorem ind9 : ∀ t : Fin grid0.N, win0_9.index t 0 = t.val / 8 ∧ win0_9.index t 1 = 0 ∧ win0_9.index t 2 = 0 ∧ win0_9.index t 3 = t.val % 8 := by decide +kernel
theorem ind10 : ∀ t : Fin grid0.N, win0_10.index t 0 = t.val / 8 ∧ win0_10.index t 1 = 0 ∧ win0_10.index t 2 = t.val % 8 := by decide +kernel
theorem ind11 : ∀ t : Fin grid0.N, win0_11.index t 0 = t.val / 8 ∧ win0_11.index t 1 = t.val % 8 ∧ win0_11.index t 2 = 0 ∧ win0_11.index t 3 = 0 := by decide +kernel
theorem ind12 : ∀ t : Fin grid0.N, win0_12.index t 0 = t.val / 8 ∧ win0_12.index t 1 = 0 ∧ win0_12.index t 2 = t.val % 8 ∧ win0_12.index t 3 = 0 ∧ win0_12.index t 4 = 0 := by decide +kernel
theorem ind13 : ∀ t : Fin grid0.N, win0_13.index t 0 = t.val / 8 ∧ win0_13.index t 1 = 0 ∧ win0_13.index t 2 = t.val % 8 ∧ win0_13.index t 3 = 0 ∧ win0_13.index t 4 = 0 := by decide +kernel
theorem ind14 : ∀ t : Fin grid0.N, win0_14.index t 0 = t.val / 8 ∧ win0_14.index t 1 = 0 ∧ win0_14.index t 2 = t.val % 8 := by decide +kernel

/-! ## The results, as functions of the layer's arguments -/

section
variable (x : S8x4096x1024.Idx → EReal) (sc sh : S8x1024.Idx → EReal) (w : S1024x5984.Idx → EReal) (p : S8x4096.Idx → BitVec 32)
  (al dt : S8.Idx → EReal)

/-- Position `s` of tile `u` of 256 positions. -/
abbrev tpos (u : Fin 16) (s : Fin 256) : Fin 4096 := ⟨u.val * 256 + s.val, by omega⟩

/-- The token-major features: the branches' gates, then the recurrence's queries, keys, values and output gate. -/
def main7 (n : Fin 32768) (q : Fin 4096) : EReal :=
  col x sc sh w (⟨n.val / 4096, by omega⟩ : Fin 8) (⟨n.val % 4096, by omega⟩ : Fin 4096) (src q.val)
/-- The indexer's queries. -/
def qi8 (b : Fin 8) (h : Fin 16) (e : Fin 64) (s : Fin 4096) : EReal := emb x sc sh w p b s (768 + h.val * 64) e
/-- The attention's queries, scaled. -/
def qa9 (b : Fin 8) (h : Fin 8) (e : Fin 64) (s : Fin 4096) : EReal := emb x sc sh w p b s (h.val * 64) e * Ideal.ofBits .f32 0x3E000000#32
/-- The indexer's head weights, scaled. -/
def wi10 (b : Fin 8) (h : Fin 16) (s : Fin 4096) : EReal := col x sc sh w b s (1856 + h.val) * Ideal.ofBits .f32 0x3D000000#32
/-- The indexer's key, by tiles of positions. -/
def ki11 (b : Fin 8) (u : Fin 16) (s : Fin 256) (e : Fin 64) : EReal := emb x sc sh w p b (tpos u s) 1792 e
/-- The attention's keys, by tiles of positions. -/
def ka12 (b : Fin 8) (g : Fin 2) (u : Fin 16) (s : Fin 256) (e : Fin 64) : EReal := emb x sc sh w p b (tpos u s) (512 + g.val * 64) e
/-- The attention's values, by tiles of positions. -/
def va13 (b : Fin 8) (g : Fin 2) (u : Fin 16) (e : Fin 64) (s : Fin 256) : EReal := col x sc sh w b (tpos u s) (640 + g.val * 64 + e.val)
end

/-! ## The result arrays -/

/-- Result 0's array. -/
abbrev arr7 (c : Dev nD) : Buf (Elt Ideal) ((c : Thread nD τ).loc main_v39_0) := fun i =>
  main7 (m ((c : Thread nD τ).loc main_arg0)) (m ((c : Thread nD τ).loc main_arg1)) (m ((c : Thread nD τ).loc main_arg2)) (m ((c : Thread nD τ).loc main_arg3)) (i 0) (i 1)
/-- Result 1's array. -/
abbrev arr8 (c : Dev nD) : Buf (Elt Ideal) ((c : Thread nD τ).loc main_v39_1) := fun i =>
  qi8 (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) (i 3)
/-- Result 2's array. -/
abbrev arr9 (c : Dev nD) : Buf (Elt Ideal) ((c : Thread nD τ).loc main_v39_2) := fun i =>
  qa9 (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) (i 3)
/-- Result 3's array. -/
abbrev arr10 (c : Dev nD) : Buf (Elt Ideal) ((c : Thread nD τ).loc main_v39_3) := fun i =>
  wi10 (m ((c : Thread nD τ).loc main_arg0)) (m ((c : Thread nD τ).loc main_arg1)) (m ((c : Thread nD τ).loc main_arg2)) (m ((c : Thread nD τ).loc main_arg3)) (i 0) (i 1) (i 2)
/-- Result 4's array. -/
abbrev arr11 (c : Dev nD) : Buf (Elt Ideal) ((c : Thread nD τ).loc main_v39_4) := fun i =>
  ki11 (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) (i 3)
/-- Result 5's array. -/
abbrev arr12 (c : Dev nD) : Buf (Elt Ideal) ((c : Thread nD τ).loc main_v39_5) := fun i =>
  ka12 (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) (i 3) (i 4)
/-- Result 6's array. -/
abbrev arr13 (c : Dev nD) : Buf (Elt Ideal) ((c : Thread nD τ).loc main_v39_6) := fun i =>
  va13 (m ((c : Thread nD τ).loc main_arg0)) (m ((c : Thread nD τ).loc main_arg1)) (m ((c : Thread nD τ).loc main_arg2)) (m ((c : Thread nD τ).loc main_arg3)) (i 0) (i 1) (i 2) (i 3) (i 4)
/-- Result 7's array. -/
abbrev arr14 (c : Dev nD) : Buf (Elt Ideal) ((c : Thread nD τ).loc main_v39_7) := fun i =>
  gates (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (i 0) (i 2) (i 1)

/-! ## The kernel's blocks hold the results -/

/-- A head's features in a block, embedded, are the token's. -/
theorem rot_blk (c : Dev nD) (t : Fin cfg0.N) (a : Fin 512) (e : Fin 64) {o o' : ℕ} (hq : ∀ j < 64, 4096 + (o + j) < 5984 ∧ src (4096 + (o + j)) = o' + j) :
    rot (fun q => prod (iblk m c 0 t) (iblk m c 1 t) (iblk m c 2 t) (iblk m c 3 t) a (4096 + q)) (fun f => iblk m c 4 t (ix3 (0 : Fin 1) f a)) (fun f => iblk m c 5 t (ix3 (0 : Fin 1) f a)) o e
      = emb (m ((c : Thread nD τ).loc main_arg0)) (m ((c : Thread nD τ).loc main_arg1)) (m ((c : Thread nD τ).loc main_arg2)) (m ((c : Thread nD τ).loc main_arg3)) (m ((c : Thread nD τ).loc main_arg4)) (entry t) (pos t a) o' e :=
  rot_congr (fun j hj => prod_blk m c t a (hq j hj).1 (hq j hj).2) (fun f => blk4 m c t f a) (fun f => blk5 m c t f a) rfl

/-- Row `s` of tile `u` of a block stands at position `s` of the array's tile. -/
theorem pos_tile (t : Fin cfg0.N) (u : Fin 2) (s : Fin 256) : pos t (tileRow u s) = tpos (⟨t.val % 8 * 2 + u.val, by omega⟩ : Fin 16) s :=
  Fin.ext (by show t.val % 8 * 512 + (u.val * 256 + s.val) = (t.val % 8 * 2 + u.val) * 256 + s.val; omega)

theorem blk7 (c : Dev nD) (t : Fin cfg0.N) (a : Fin 512) (q : Fin 4096) :
    out0_7 (iblk m c 0 t) (iblk m c 1 t) (iblk m c 2 t) (iblk m c 3 t) (iblk m c 4 t) (iblk m c 5 t) (iblk m c 6 t) (ix2 a q) = arr7 m c (ix2 (⟨t.val * 512 + a.val, by have := t.isLt; have h : cfg0.N = 64 := N_0; omega⟩ : Fin 32768) q) := by
  refine (out7 _ _ _ _ _ _ _ a q).trans ((prod_blk m c t a (by omega) rfl).trans ?_)
  refine congrArg₂ (fun b s => col (m ((c : Thread nD τ).loc main_arg0)) (m ((c : Thread nD τ).loc main_arg1)) (m ((c : Thread nD τ).loc main_arg2)) (m ((c : Thread nD τ).loc main_arg3)) b s (src q.val)) (Fin.ext ?_) (Fin.ext ?_)
  · show t.val / 8 = (t.val * 512 + a.val) / 4096; omega
  · show t.val % 8 * 512 + a.val = (t.val * 512 + a.val) % 4096; omega

theorem blk8 (c : Dev nD) (t : Fin cfg0.N) (h : Fin 16) (e : Fin 64) (a : Fin 512) :
    out0_8 (iblk m c 0 t) (iblk m c 1 t) (iblk m c 2 t) (iblk m c 3 t) (iblk m c 4 t) (iblk m c 5 t) (iblk m c 6 t) (ix4 (0 : Fin 1) h e a) = arr8 m c (ix4 (entry t) h e (pos t a)) :=
  (out8 _ _ _ _ _ _ _ h e a).trans (rot_blk m c t a e (o' := 768 + h.val * 64) fun j hj => ⟨by omega, by
    unfold src; repeat' split
    all_goals omega⟩)

theorem blk9 (c : Dev nD) (t : Fin cfg0.N) (h : Fin 8) (e : Fin 64) (a : Fin 512) :
    out0_9 (iblk m c 0 t) (iblk m c 1 t) (iblk m c 2 t) (iblk m c 3 t) (iblk m c 4 t) (iblk m c 5 t) (iblk m c 6 t) (ix4 (0 : Fin 1) h e a) = arr9 m c (ix4 (entry t) h e (pos t a)) :=
  (out9 _ _ _ _ _ _ _ h e a).trans (congrArg (· * Ideal.ofBits .f32 0x3E000000#32) (rot_blk m c t a e (o' := h.val * 64) fun j hj => ⟨by omega, by
    unfold src; repeat' split
    all_goals omega⟩))

theorem blk10 (c : Dev nD) (t : Fin cfg0.N) (h : Fin 16) (a : Fin 512) :
    out0_10 (iblk m c 0 t) (iblk m c 1 t) (iblk m c 2 t) (iblk m c 3 t) (iblk m c 4 t) (iblk m c 5 t) (iblk m c 6 t) (ix3 (0 : Fin 1) h a) = arr10 m c (ix3 (entry t) h (pos t a)) :=
  (out10 _ _ _ _ _ _ _ h a).trans (congrArg (· * Ideal.ofBits .f32 0x3D000000#32) (prod_blk m c t a (q' := 1856 + h.val) (by omega) (by
    unfold src; repeat' split
    all_goals omega)))

theorem blk11 (c : Dev nD) (t : Fin cfg0.N) (u : Fin 2) (s : Fin 256) (e : Fin 64) :
    out0_11 (iblk m c 0 t) (iblk m c 1 t) (iblk m c 2 t) (iblk m c 3 t) (iblk m c 4 t) (iblk m c 5 t) (iblk m c 6 t) (ix4 (0 : Fin 1) u s e) = arr11 m c (ix4 (entry t) (⟨t.val % 8 * 2 + u.val, by omega⟩ : Fin 16) s e) := by
  refine (out11 _ _ _ _ _ _ _ u s e).trans ((rot_blk m c t (tileRow u s) e (o' := 1792) fun j hj => ⟨by omega, by
    unfold src; repeat' split
    all_goals omega⟩).trans ?_)
  rw [pos_tile]
  rfl

theorem blk12 (c : Dev nD) (t : Fin cfg0.N) (g u : Fin 2) (s : Fin 256) (e : Fin 64) :
    out0_12 (iblk m c 0 t) (iblk m c 1 t) (iblk m c 2 t) (iblk m c 3 t) (iblk m c 4 t) (iblk m c 5 t) (iblk m c 6 t) (ix5 (0 : Fin 1) g u s e) = arr12 m c (ix5 (entry t) g (⟨t.val % 8 * 2 + u.val, by omega⟩ : Fin 16) s e) := by
  refine (out12 _ _ _ _ _ _ _ g u s e).trans ((rot_blk m c t (tileRow u s) e (o' := 512 + g.val * 64) fun j hj => ⟨by omega, by
    unfold src; repeat' split
    all_goals omega⟩).trans ?_)
  rw [pos_tile]
  rfl

theorem blk13 (c : Dev nD) (t : Fin cfg0.N) (g u : Fin 2) (e : Fin 64) (s : Fin 256) :
    out0_13 (iblk m c 0 t) (iblk m c 1 t) (iblk m c 2 t) (iblk m c 3 t) (iblk m c 4 t) (iblk m c 5 t) (iblk m c 6 t) (ix5 (0 : Fin 1) g u e s) = arr13 m c (ix5 (entry t) g (⟨t.val % 8 * 2 + u.val, by omega⟩ : Fin 16) e s) := by
  refine (out13 _ _ _ _ _ _ _ g u e s).trans ((prod_blk m c t (tileRow u s) (q' := 640 + g.val * 64 + e.val) (by omega) (by
    unfold src; repeat' split
    all_goals omega)).trans ?_)
  rw [pos_tile]
  rfl

theorem blk14 (c : Dev nD) (t : Fin cfg0.N) (h : Fin 16) (a : Fin 512) :
    out0_14 (iblk m c 0 t) (iblk m c 1 t) (iblk m c 2 t) (iblk m c 3 t) (iblk m c 4 t) (iblk m c 5 t) (iblk m c 6 t) (ix3 (0 : Fin 1) h a) = arr14 m c (ix3 (entry t) h (pos t a)) := by
  refine (out14 _ _ _ _ _ _ _ h a).trans ?_
  show _ = gates (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (entry t) (pos t a) h
  unfold gates
  by_cases h8 : h.val < 8
  · rw [dif_pos h8, dif_pos h8, prod_blk m c t a (q' := 3920 + h.val) (by omega) (by
      unfold src; repeat' split
      all_goals omega)]
  · rw [dif_neg h8, dif_neg h8, prod_blk m c t a (q' := 3928 + (h.val - 8)) (by omega) (by
      unfold src; repeat' split
      all_goals omega), blk6, blk6]
    rfl

/-! ## Block by block, the arrays -/

theorem flushed7 (c : Dev nD) (t : Fin cfg0.N) :
    (dats m 0 c).flushed 7 t = (win0_7.blk t).view.read (Elt Ideal) (arr7 m c) := by
  show (cfg0.win 7).cut (grid0.coords t) ((dats m 0 c).after 7 t) = _
  rw [after0_7]
  funext y
  obtain ⟨y0, y1, rfl⟩ : ∃ (y0 : Fin 512) (y1 : Fin 4096), y = ix2 y0 y1 := ⟨y 0, y 1, eq_ix2 y⟩
  refine (blk7 m c t y0 y1).trans (congrArg (arr7 m c) (funext fun x => Fin.ext ?_))
  match x with
  | ⟨0, _⟩ => show t.val * 512 + y0.val = win0_7.index t 0 * 512 + 1 * y0.val; rw [(ind7 t).1]; omega
  | ⟨1, _⟩ => show y1.val = win0_7.index t 1 * 4096 + 1 * y1.val; rw [(ind7 t).2]; omega

/-- Every entry of the result lies in a block. -/
theorem cover7 (i : S32768x4096.Idx) : ∃ t : Fin cfg0.N, (cfg0.win 7).flush t = true ∧ i ∈ ((cfg0.win 7).blk t).view.set := by
  have h0 : (i 0).val < 32768 := (i 0).isLt
  have h1 : (i 1).val < 4096 := (i 1).isLt
  have hN : cfg0.N = 64 := N_0
  obtain ⟨t, ht⟩ : ∃ t : Fin cfg0.N, t.val = (i 0).val / 512 := ⟨⟨(i 0).val / 512, by omega⟩, rfl⟩
  refine ⟨t, flush0_7 t, ?_⟩
  show i ∈ ((View.whole main_v39_0).slice (win0_7.rect t)).set
  rw [View.set_slice_whole, Rect.mem_set_unit]
  intro a
  match a with
  | ⟨0, _⟩ => show win0_7.index t 0 * 512 ≤ (i 0).val ∧ (i 0).val < win0_7.index t 0 * 512 + 512; rw [(ind7 t).1]; omega
  | ⟨1, _⟩ => show win0_7.index t 1 * 4096 ≤ (i 1).val ∧ (i 1).val < win0_7.index t 1 * 4096 + 4096; rw [(ind7 t).2]; omega

theorem final7 (c : Dev nD) : (dats m 0 c).arrAt 7 cfg0.N = arr7 m c :=
  (dats m 0 c).arrAt_eq_of_cover 7 (arr7 m c) (fun t _ => flushed7 m c t) cover7

theorem flushed8 (c : Dev nD) (t : Fin cfg0.N) :
    (dats m 0 c).flushed 8 t = (win0_8.blk t).view.read (Elt Ideal) (arr8 m c) := by
  show (cfg0.win 8).cut (grid0.coords t) ((dats m 0 c).after 8 t) = _
  rw [after0_8]
  funext y
  obtain ⟨y1, y2, y3, rfl⟩ : ∃ (y1 : Fin 16) (y2 : Fin 64) (y3 : Fin 512), y = ix4 (0 : Fin 1) y1 y2 y3 :=
    ⟨y 1, y 2, y 3, (eq_ix4 (n0 := 1) y).trans (by rw [Subsingleton.elim (α := Fin 1) (y 0) 0])⟩
  refine (blk8 m c t y1 y2 y3).trans (congrArg (arr8 m c) (funext fun x => Fin.ext ?_))
  match x with
  | ⟨0, _⟩ => show t.val / 8 = win0_8.index t 0 * 1 + 1 * 0; rw [(ind8 t).1]; omega
  | ⟨1, _⟩ => show y1.val = win0_8.index t 1 * 16 + 1 * y1.val; rw [(ind8 t).2.1]; omega
  | ⟨2, _⟩ => show y2.val = win0_8.index t 2 * 64 + 1 * y2.val; rw [(ind8 t).2.2.1]; omega
  | ⟨3, _⟩ => show t.val % 8 * 512 + y3.val = win0_8.index t 3 * 512 + 1 * y3.val; rw [(ind8 t).2.2.2]; omega

/-- Every entry of the result lies in a block. -/
theorem cover8 (i : S8x16x64x4096.Idx) : ∃ t : Fin cfg0.N, (cfg0.win 8).flush t = true ∧ i ∈ ((cfg0.win 8).blk t).view.set := by
  have h0 : (i 0).val < 8 := (i 0).isLt
  have h1 : (i 1).val < 16 := (i 1).isLt
  have h2 : (i 2).val < 64 := (i 2).isLt
  have h3 : (i 3).val < 4096 := (i 3).isLt
  have hN : cfg0.N = 64 := N_0
  obtain ⟨t, ht⟩ : ∃ t : Fin cfg0.N, t.val = (i 0).val * 8 + (i 3).val / 512 := ⟨⟨(i 0).val * 8 + (i 3).val / 512, by omega⟩, rfl⟩
  refine ⟨t, flush0_8 t, ?_⟩
  show i ∈ ((View.whole main_v39_1).slice (win0_8.rect t)).set
  rw [View.set_slice_whole, Rect.mem_set_unit]
  intro a
  match a with
  | ⟨0, _⟩ => show win0_8.index t 0 * 1 ≤ (i 0).val ∧ (i 0).val < win0_8.index t 0 * 1 + 1; rw [(ind8 t).1]; omega
  | ⟨1, _⟩ => show win0_8.index t 1 * 16 ≤ (i 1).val ∧ (i 1).val < win0_8.index t 1 * 16 + 16; rw [(ind8 t).2.1]; omega
  | ⟨2, _⟩ => show win0_8.index t 2 * 64 ≤ (i 2).val ∧ (i 2).val < win0_8.index t 2 * 64 + 64; rw [(ind8 t).2.2.1]; omega
  | ⟨3, _⟩ => show win0_8.index t 3 * 512 ≤ (i 3).val ∧ (i 3).val < win0_8.index t 3 * 512 + 512; rw [(ind8 t).2.2.2]; omega

theorem final8 (c : Dev nD) : (dats m 0 c).arrAt 8 cfg0.N = arr8 m c :=
  (dats m 0 c).arrAt_eq_of_cover 8 (arr8 m c) (fun t _ => flushed8 m c t) cover8

theorem flushed9 (c : Dev nD) (t : Fin cfg0.N) :
    (dats m 0 c).flushed 9 t = (win0_9.blk t).view.read (Elt Ideal) (arr9 m c) := by
  show (cfg0.win 9).cut (grid0.coords t) ((dats m 0 c).after 9 t) = _
  rw [after0_9]
  funext y
  obtain ⟨y1, y2, y3, rfl⟩ : ∃ (y1 : Fin 8) (y2 : Fin 64) (y3 : Fin 512), y = ix4 (0 : Fin 1) y1 y2 y3 :=
    ⟨y 1, y 2, y 3, (eq_ix4 (n0 := 1) y).trans (by rw [Subsingleton.elim (α := Fin 1) (y 0) 0])⟩
  refine (blk9 m c t y1 y2 y3).trans (congrArg (arr9 m c) (funext fun x => Fin.ext ?_))
  match x with
  | ⟨0, _⟩ => show t.val / 8 = win0_9.index t 0 * 1 + 1 * 0; rw [(ind9 t).1]; omega
  | ⟨1, _⟩ => show y1.val = win0_9.index t 1 * 8 + 1 * y1.val; rw [(ind9 t).2.1]; omega
  | ⟨2, _⟩ => show y2.val = win0_9.index t 2 * 64 + 1 * y2.val; rw [(ind9 t).2.2.1]; omega
  | ⟨3, _⟩ => show t.val % 8 * 512 + y3.val = win0_9.index t 3 * 512 + 1 * y3.val; rw [(ind9 t).2.2.2]; omega

/-- Every entry of the result lies in a block. -/
theorem cover9 (i : S8x8x64x4096.Idx) : ∃ t : Fin cfg0.N, (cfg0.win 9).flush t = true ∧ i ∈ ((cfg0.win 9).blk t).view.set := by
  have h0 : (i 0).val < 8 := (i 0).isLt
  have h1 : (i 1).val < 8 := (i 1).isLt
  have h2 : (i 2).val < 64 := (i 2).isLt
  have h3 : (i 3).val < 4096 := (i 3).isLt
  have hN : cfg0.N = 64 := N_0
  obtain ⟨t, ht⟩ : ∃ t : Fin cfg0.N, t.val = (i 0).val * 8 + (i 3).val / 512 := ⟨⟨(i 0).val * 8 + (i 3).val / 512, by omega⟩, rfl⟩
  refine ⟨t, flush0_9 t, ?_⟩
  show i ∈ ((View.whole main_v39_2).slice (win0_9.rect t)).set
  rw [View.set_slice_whole, Rect.mem_set_unit]
  intro a
  match a with
  | ⟨0, _⟩ => show win0_9.index t 0 * 1 ≤ (i 0).val ∧ (i 0).val < win0_9.index t 0 * 1 + 1; rw [(ind9 t).1]; omega
  | ⟨1, _⟩ => show win0_9.index t 1 * 8 ≤ (i 1).val ∧ (i 1).val < win0_9.index t 1 * 8 + 8; rw [(ind9 t).2.1]; omega
  | ⟨2, _⟩ => show win0_9.index t 2 * 64 ≤ (i 2).val ∧ (i 2).val < win0_9.index t 2 * 64 + 64; rw [(ind9 t).2.2.1]; omega
  | ⟨3, _⟩ => show win0_9.index t 3 * 512 ≤ (i 3).val ∧ (i 3).val < win0_9.index t 3 * 512 + 512; rw [(ind9 t).2.2.2]; omega

theorem final9 (c : Dev nD) : (dats m 0 c).arrAt 9 cfg0.N = arr9 m c :=
  (dats m 0 c).arrAt_eq_of_cover 9 (arr9 m c) (fun t _ => flushed9 m c t) cover9

theorem flushed10 (c : Dev nD) (t : Fin cfg0.N) :
    (dats m 0 c).flushed 10 t = (win0_10.blk t).view.read (Elt Ideal) (arr10 m c) := by
  show (cfg0.win 10).cut (grid0.coords t) ((dats m 0 c).after 10 t) = _
  rw [after0_10]
  funext y
  obtain ⟨y1, y2, rfl⟩ : ∃ (y1 : Fin 16) (y2 : Fin 512), y = ix3 (0 : Fin 1) y1 y2 :=
    ⟨y 1, y 2, (eq_ix3 (n0 := 1) y).trans (by rw [Subsingleton.elim (α := Fin 1) (y 0) 0])⟩
  refine (blk10 m c t y1 y2).trans (congrArg (arr10 m c) (funext fun x => Fin.ext ?_))
  match x with
  | ⟨0, _⟩ => show t.val / 8 = win0_10.index t 0 * 1 + 1 * 0; rw [(ind10 t).1]; omega
  | ⟨1, _⟩ => show y1.val = win0_10.index t 1 * 16 + 1 * y1.val; rw [(ind10 t).2.1]; omega
  | ⟨2, _⟩ => show t.val % 8 * 512 + y2.val = win0_10.index t 2 * 512 + 1 * y2.val; rw [(ind10 t).2.2]; omega

/-- Every entry of the result lies in a block. -/
theorem cover10 (i : S8x16x4096.Idx) : ∃ t : Fin cfg0.N, (cfg0.win 10).flush t = true ∧ i ∈ ((cfg0.win 10).blk t).view.set := by
  have h0 : (i 0).val < 8 := (i 0).isLt
  have h1 : (i 1).val < 16 := (i 1).isLt
  have h2 : (i 2).val < 4096 := (i 2).isLt
  have hN : cfg0.N = 64 := N_0
  obtain ⟨t, ht⟩ : ∃ t : Fin cfg0.N, t.val = (i 0).val * 8 + (i 2).val / 512 := ⟨⟨(i 0).val * 8 + (i 2).val / 512, by omega⟩, rfl⟩
  refine ⟨t, flush0_10 t, ?_⟩
  show i ∈ ((View.whole main_v39_3).slice (win0_10.rect t)).set
  rw [View.set_slice_whole, Rect.mem_set_unit]
  intro a
  match a with
  | ⟨0, _⟩ => show win0_10.index t 0 * 1 ≤ (i 0).val ∧ (i 0).val < win0_10.index t 0 * 1 + 1; rw [(ind10 t).1]; omega
  | ⟨1, _⟩ => show win0_10.index t 1 * 16 ≤ (i 1).val ∧ (i 1).val < win0_10.index t 1 * 16 + 16; rw [(ind10 t).2.1]; omega
  | ⟨2, _⟩ => show win0_10.index t 2 * 512 ≤ (i 2).val ∧ (i 2).val < win0_10.index t 2 * 512 + 512; rw [(ind10 t).2.2]; omega

theorem final10 (c : Dev nD) : (dats m 0 c).arrAt 10 cfg0.N = arr10 m c :=
  (dats m 0 c).arrAt_eq_of_cover 10 (arr10 m c) (fun t _ => flushed10 m c t) cover10

theorem flushed11 (c : Dev nD) (t : Fin cfg0.N) :
    (dats m 0 c).flushed 11 t = (win0_11.blk t).view.read (Elt Ideal) (arr11 m c) := by
  show (cfg0.win 11).cut (grid0.coords t) ((dats m 0 c).after 11 t) = _
  rw [after0_11]
  funext y
  obtain ⟨y1, y2, y3, rfl⟩ : ∃ (y1 : Fin 2) (y2 : Fin 256) (y3 : Fin 64), y = ix4 (0 : Fin 1) y1 y2 y3 :=
    ⟨y 1, y 2, y 3, (eq_ix4 (n0 := 1) y).trans (by rw [Subsingleton.elim (α := Fin 1) (y 0) 0])⟩
  refine (blk11 m c t y1 y2 y3).trans (congrArg (arr11 m c) (funext fun x => Fin.ext ?_))
  match x with
  | ⟨0, _⟩ => show t.val / 8 = win0_11.index t 0 * 1 + 1 * 0; rw [(ind11 t).1]; omega
  | ⟨1, _⟩ => show t.val % 8 * 2 + y1.val = win0_11.index t 1 * 2 + 1 * y1.val; rw [(ind11 t).2.1]; omega
  | ⟨2, _⟩ => show y2.val = win0_11.index t 2 * 256 + 1 * y2.val; rw [(ind11 t).2.2.1]; omega
  | ⟨3, _⟩ => show y3.val = win0_11.index t 3 * 64 + 1 * y3.val; rw [(ind11 t).2.2.2]; omega

/-- Every entry of the result lies in a block. -/
theorem cover11 (i : S8x16x256x64.Idx) : ∃ t : Fin cfg0.N, (cfg0.win 11).flush t = true ∧ i ∈ ((cfg0.win 11).blk t).view.set := by
  have h0 : (i 0).val < 8 := (i 0).isLt
  have h1 : (i 1).val < 16 := (i 1).isLt
  have h2 : (i 2).val < 256 := (i 2).isLt
  have h3 : (i 3).val < 64 := (i 3).isLt
  have hN : cfg0.N = 64 := N_0
  obtain ⟨t, ht⟩ : ∃ t : Fin cfg0.N, t.val = (i 0).val * 8 + (i 1).val / 2 := ⟨⟨(i 0).val * 8 + (i 1).val / 2, by omega⟩, rfl⟩
  refine ⟨t, flush0_11 t, ?_⟩
  show i ∈ ((View.whole main_v39_4).slice (win0_11.rect t)).set
  rw [View.set_slice_whole, Rect.mem_set_unit]
  intro a
  match a with
  | ⟨0, _⟩ => show win0_11.index t 0 * 1 ≤ (i 0).val ∧ (i 0).val < win0_11.index t 0 * 1 + 1; rw [(ind11 t).1]; omega
  | ⟨1, _⟩ => show win0_11.index t 1 * 2 ≤ (i 1).val ∧ (i 1).val < win0_11.index t 1 * 2 + 2; rw [(ind11 t).2.1]; omega
  | ⟨2, _⟩ => show win0_11.index t 2 * 256 ≤ (i 2).val ∧ (i 2).val < win0_11.index t 2 * 256 + 256; rw [(ind11 t).2.2.1]; omega
  | ⟨3, _⟩ => show win0_11.index t 3 * 64 ≤ (i 3).val ∧ (i 3).val < win0_11.index t 3 * 64 + 64; rw [(ind11 t).2.2.2]; omega

theorem final11 (c : Dev nD) : (dats m 0 c).arrAt 11 cfg0.N = arr11 m c :=
  (dats m 0 c).arrAt_eq_of_cover 11 (arr11 m c) (fun t _ => flushed11 m c t) cover11

theorem flushed12 (c : Dev nD) (t : Fin cfg0.N) :
    (dats m 0 c).flushed 12 t = (win0_12.blk t).view.read (Elt Ideal) (arr12 m c) := by
  show (cfg0.win 12).cut (grid0.coords t) ((dats m 0 c).after 12 t) = _
  rw [after0_12]
  funext y
  obtain ⟨y1, y2, y3, y4, rfl⟩ : ∃ (y1 : Fin 2) (y2 : Fin 2) (y3 : Fin 256) (y4 : Fin 64), y = ix5 (0 : Fin 1) y1 y2 y3 y4 :=
    ⟨y 1, y 2, y 3, y 4, (eq_ix5 (n0 := 1) y).trans (by rw [Subsingleton.elim (α := Fin 1) (y 0) 0])⟩
  refine (blk12 m c t y1 y2 y3 y4).trans (congrArg (arr12 m c) (funext fun x => Fin.ext ?_))
  match x with
  | ⟨0, _⟩ => show t.val / 8 = win0_12.index t 0 * 1 + 1 * 0; rw [(ind12 t).1]; omega
  | ⟨1, _⟩ => show y1.val = win0_12.index t 1 * 2 + 1 * y1.val; rw [(ind12 t).2.1]; omega
  | ⟨2, _⟩ => show t.val % 8 * 2 + y2.val = win0_12.index t 2 * 2 + 1 * y2.val; rw [(ind12 t).2.2.1]; omega
  | ⟨3, _⟩ => show y3.val = win0_12.index t 3 * 256 + 1 * y3.val; rw [(ind12 t).2.2.2.1]; omega
  | ⟨4, _⟩ => show y4.val = win0_12.index t 4 * 64 + 1 * y4.val; rw [(ind12 t).2.2.2.2]; omega

/-- Every entry of the result lies in a block. -/
theorem cover12 (i : S8x2x16x256x64.Idx) : ∃ t : Fin cfg0.N, (cfg0.win 12).flush t = true ∧ i ∈ ((cfg0.win 12).blk t).view.set := by
  have h0 : (i 0).val < 8 := (i 0).isLt
  have h1 : (i 1).val < 2 := (i 1).isLt
  have h2 : (i 2).val < 16 := (i 2).isLt
  have h3 : (i 3).val < 256 := (i 3).isLt
  have h4 : (i 4).val < 64 := (i 4).isLt
  have hN : cfg0.N = 64 := N_0
  obtain ⟨t, ht⟩ : ∃ t : Fin cfg0.N, t.val = (i 0).val * 8 + (i 2).val / 2 := ⟨⟨(i 0).val * 8 + (i 2).val / 2, by omega⟩, rfl⟩
  refine ⟨t, flush0_12 t, ?_⟩
  show i ∈ ((View.whole main_v39_5).slice (win0_12.rect t)).set
  rw [View.set_slice_whole, Rect.mem_set_unit]
  intro a
  match a with
  | ⟨0, _⟩ => show win0_12.index t 0 * 1 ≤ (i 0).val ∧ (i 0).val < win0_12.index t 0 * 1 + 1; rw [(ind12 t).1]; omega
  | ⟨1, _⟩ => show win0_12.index t 1 * 2 ≤ (i 1).val ∧ (i 1).val < win0_12.index t 1 * 2 + 2; rw [(ind12 t).2.1]; omega
  | ⟨2, _⟩ => show win0_12.index t 2 * 2 ≤ (i 2).val ∧ (i 2).val < win0_12.index t 2 * 2 + 2; rw [(ind12 t).2.2.1]; omega
  | ⟨3, _⟩ => show win0_12.index t 3 * 256 ≤ (i 3).val ∧ (i 3).val < win0_12.index t 3 * 256 + 256; rw [(ind12 t).2.2.2.1]; omega
  | ⟨4, _⟩ => show win0_12.index t 4 * 64 ≤ (i 4).val ∧ (i 4).val < win0_12.index t 4 * 64 + 64; rw [(ind12 t).2.2.2.2]; omega

theorem final12 (c : Dev nD) : (dats m 0 c).arrAt 12 cfg0.N = arr12 m c :=
  (dats m 0 c).arrAt_eq_of_cover 12 (arr12 m c) (fun t _ => flushed12 m c t) cover12

theorem flushed13 (c : Dev nD) (t : Fin cfg0.N) :
    (dats m 0 c).flushed 13 t = (win0_13.blk t).view.read (Elt Ideal) (arr13 m c) := by
  show (cfg0.win 13).cut (grid0.coords t) ((dats m 0 c).after 13 t) = _
  rw [after0_13]
  funext y
  obtain ⟨y1, y2, y3, y4, rfl⟩ : ∃ (y1 : Fin 2) (y2 : Fin 2) (y3 : Fin 64) (y4 : Fin 256), y = ix5 (0 : Fin 1) y1 y2 y3 y4 :=
    ⟨y 1, y 2, y 3, y 4, (eq_ix5 (n0 := 1) y).trans (by rw [Subsingleton.elim (α := Fin 1) (y 0) 0])⟩
  refine (blk13 m c t y1 y2 y3 y4).trans (congrArg (arr13 m c) (funext fun x => Fin.ext ?_))
  match x with
  | ⟨0, _⟩ => show t.val / 8 = win0_13.index t 0 * 1 + 1 * 0; rw [(ind13 t).1]; omega
  | ⟨1, _⟩ => show y1.val = win0_13.index t 1 * 2 + 1 * y1.val; rw [(ind13 t).2.1]; omega
  | ⟨2, _⟩ => show t.val % 8 * 2 + y2.val = win0_13.index t 2 * 2 + 1 * y2.val; rw [(ind13 t).2.2.1]; omega
  | ⟨3, _⟩ => show y3.val = win0_13.index t 3 * 64 + 1 * y3.val; rw [(ind13 t).2.2.2.1]; omega
  | ⟨4, _⟩ => show y4.val = win0_13.index t 4 * 256 + 1 * y4.val; rw [(ind13 t).2.2.2.2]; omega

/-- Every entry of the result lies in a block. -/
theorem cover13 (i : S8x2x16x64x256.Idx) : ∃ t : Fin cfg0.N, (cfg0.win 13).flush t = true ∧ i ∈ ((cfg0.win 13).blk t).view.set := by
  have h0 : (i 0).val < 8 := (i 0).isLt
  have h1 : (i 1).val < 2 := (i 1).isLt
  have h2 : (i 2).val < 16 := (i 2).isLt
  have h3 : (i 3).val < 64 := (i 3).isLt
  have h4 : (i 4).val < 256 := (i 4).isLt
  have hN : cfg0.N = 64 := N_0
  obtain ⟨t, ht⟩ : ∃ t : Fin cfg0.N, t.val = (i 0).val * 8 + (i 2).val / 2 := ⟨⟨(i 0).val * 8 + (i 2).val / 2, by omega⟩, rfl⟩
  refine ⟨t, flush0_13 t, ?_⟩
  show i ∈ ((View.whole main_v39_6).slice (win0_13.rect t)).set
  rw [View.set_slice_whole, Rect.mem_set_unit]
  intro a
  match a with
  | ⟨0, _⟩ => show win0_13.index t 0 * 1 ≤ (i 0).val ∧ (i 0).val < win0_13.index t 0 * 1 + 1; rw [(ind13 t).1]; omega
  | ⟨1, _⟩ => show win0_13.index t 1 * 2 ≤ (i 1).val ∧ (i 1).val < win0_13.index t 1 * 2 + 2; rw [(ind13 t).2.1]; omega
  | ⟨2, _⟩ => show win0_13.index t 2 * 2 ≤ (i 2).val ∧ (i 2).val < win0_13.index t 2 * 2 + 2; rw [(ind13 t).2.2.1]; omega
  | ⟨3, _⟩ => show win0_13.index t 3 * 64 ≤ (i 3).val ∧ (i 3).val < win0_13.index t 3 * 64 + 64; rw [(ind13 t).2.2.2.1]; omega
  | ⟨4, _⟩ => show win0_13.index t 4 * 256 ≤ (i 4).val ∧ (i 4).val < win0_13.index t 4 * 256 + 256; rw [(ind13 t).2.2.2.2]; omega

theorem final13 (c : Dev nD) : (dats m 0 c).arrAt 13 cfg0.N = arr13 m c :=
  (dats m 0 c).arrAt_eq_of_cover 13 (arr13 m c) (fun t _ => flushed13 m c t) cover13

theorem flushed14 (c : Dev nD) (t : Fin cfg0.N) :
    (dats m 0 c).flushed 14 t = (win0_14.blk t).view.read (Elt Ideal) (arr14 m c) := by
  show (cfg0.win 14).cut (grid0.coords t) ((dats m 0 c).after 14 t) = _
  rw [after0_14]
  funext y
  obtain ⟨y1, y2, rfl⟩ : ∃ (y1 : Fin 16) (y2 : Fin 512), y = ix3 (0 : Fin 1) y1 y2 :=
    ⟨y 1, y 2, (eq_ix3 (n0 := 1) y).trans (by rw [Subsingleton.elim (α := Fin 1) (y 0) 0])⟩
  refine (blk14 m c t y1 y2).trans (congrArg (arr14 m c) (funext fun x => Fin.ext ?_))
  match x with
  | ⟨0, _⟩ => show t.val / 8 = win0_14.index t 0 * 1 + 1 * 0; rw [(ind14 t).1]; omega
  | ⟨1, _⟩ => show y1.val = win0_14.index t 1 * 16 + 1 * y1.val; rw [(ind14 t).2.1]; omega
  | ⟨2, _⟩ => show t.val % 8 * 512 + y2.val = win0_14.index t 2 * 512 + 1 * y2.val; rw [(ind14 t).2.2]; omega

/-- Every entry of the result lies in a block. -/
theorem cover14 (i : S8x16x4096.Idx) : ∃ t : Fin cfg0.N, (cfg0.win 14).flush t = true ∧ i ∈ ((cfg0.win 14).blk t).view.set := by
  have h0 : (i 0).val < 8 := (i 0).isLt
  have h1 : (i 1).val < 16 := (i 1).isLt
  have h2 : (i 2).val < 4096 := (i 2).isLt
  have hN : cfg0.N = 64 := N_0
  obtain ⟨t, ht⟩ : ∃ t : Fin cfg0.N, t.val = (i 0).val * 8 + (i 2).val / 512 := ⟨⟨(i 0).val * 8 + (i 2).val / 512, by omega⟩, rfl⟩
  refine ⟨t, flush0_14 t, ?_⟩
  show i ∈ ((View.whole main_v39_7).slice (win0_14.rect t)).set
  rw [View.set_slice_whole, Rect.mem_set_unit]
  intro a
  match a with
  | ⟨0, _⟩ => show win0_14.index t 0 * 1 ≤ (i 0).val ∧ (i 0).val < win0_14.index t 0 * 1 + 1; rw [(ind14 t).1]; omega
  | ⟨1, _⟩ => show win0_14.index t 1 * 16 ≤ (i 1).val ∧ (i 1).val < win0_14.index t 1 * 16 + 16; rw [(ind14 t).2.1]; omega
  | ⟨2, _⟩ => show win0_14.index t 2 * 512 ≤ (i 2).val ∧ (i 2).val < win0_14.index t 2 * 512 + 512; rw [(ind14 t).2.2]; omega

theorem final14 (c : Dev nD) : (dats m 0 c).arrAt 14 cfg0.N = arr14 m c :=
  (dats m 0 c).arrAt_eq_of_cover 14 (arr14 m c) (fun t _ => flushed14 m c t) cover14

/-- The run: every result array at the layer's values, the arguments unchanged. -/
theorem run_value : θ_run defs (onTc (τ := τ) (main (F := Ideal))) ⟨m, fun _ => 0, ρ⟩ fun r => ∀ c : Dev nD,
      r.2.mem ((c.tc : Thread nD τ).loc main_v39_0) = arr7 m c
      ∧ r.2.mem ((c.tc : Thread nD τ).loc main_v39_1) = arr8 m c
      ∧ r.2.mem ((c.tc : Thread nD τ).loc main_v39_2) = arr9 m c
      ∧ r.2.mem ((c.tc : Thread nD τ).loc main_v39_3) = arr10 m c
      ∧ r.2.mem ((c.tc : Thread nD τ).loc main_v39_4) = arr11 m c
      ∧ r.2.mem ((c.tc : Thread nD τ).loc main_v39_5) = arr12 m c
      ∧ r.2.mem ((c.tc : Thread nD τ).loc main_v39_6) = arr13 m c
      ∧ r.2.mem ((c.tc : Thread nD τ).loc main_v39_7) = arr14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (θ_run_and (run_main m ρ) (frame m ρ)) fun _ h c => ⟨((h.1 c).1 7).trans (final7 m c), ((h.1 c).1 8).trans (final8 m c), ((h.1 c).1 9).trans (final9 m c), ((h.1 c).1 10).trans (final10 m c), ((h.1 c).1 11).trans (final11 m c), ((h.1 c).1 12).trans (final12 m c), ((h.1 c).1 13).trans (final13 m c), ((h.1 c).1 14).trans (final14 m c), h.2.1 c⟩

end Cert.InProjIdeal.RefValue
-- ==== Proof.InProjValue.lean ====
module

public import proofs.«01_k».proof.Defs
public import proofs.«01_k».proof.Proof.InProjRun
public import proofs.«01_k».proof.Proof.Gen.InProjRefIdeal.Run
public import Idealize.ShloMosaic.Lib.Claim

@[expose] public section

set_option maxRecDepth 16384
set_option maxHeartbeats 2000000

noncomputable section

open Idealize.ShloMosaic Idealize.ShloMosaic.TcCoe Idealize.SL.Sem

namespace Cert.Proof

open Cert.InProjRefIdeal.Value
open Cert.InProjIdeal.RefValue (wcol wcol_eq nrm col ang emb gates rot main7 qi8 qa9 wi10 ki11 ka12 va13 eq_of_dite tpos src)

section
open Cert.InProjRefIdeal Cert.InProjRefIdeal.Gen Cert.InProjRefIdeal.Value
open Cert.InProjIdeal.RefValue (wcol wcol_eq nrm col ang emb gates rot main7 qi8 qa9 wi10 ki11 ka12 va13 eq_of_dite tpos src)

variable (V0 : Valuation τ sig (Elt Ideal))
  (x : S8x4096x1024.Idx → EReal) (sc sh : S8x1024.Idx → EReal) (w : S1024x5984.Idx → EReal) (p : S8x4096.Idx → BitVec 32) (al dt : S8.Idx → EReal)

/-- The reference's projection at an index is the column of the token's projection. -/
theorem ref_col (h0 : V0 (Proc.devRef .tc main_arg0) = x) (h1 : V0 (Proc.devRef .tc main_arg1) = sc) (h2 : V0 (Proc.devRef .tc main_arg2) = sh)
    (h3 : V0 (Proc.devRef .tc main_arg3) = w) (n : Fin 32768) (q : Fin 5984) :
    (res_main_v21 V0 (ix2 n q) : EReal) = col x sc sh w (⟨n.val / 4096, by omega⟩ : Fin 8) (⟨n.val % 4096, by omega⟩ : Fin 4096) q.val := by
  unfold res_main_v21 res_main_v0
  rw [h0, h1, h2, h3]
  pointwise [col, nrm]
  simp only [wcol_eq]

/-- The reference's angles are the tokens'. -/
theorem ref_ang (h4 : V0 (Proc.devRef .tc main_arg4) = p) (b : Fin 8) (s : Fin 4096) (f : Fin 8) :
    (res_main_v48 V0 (ix3 b s f) : EReal) = ang p b s f := by
  unfold res_main_v48
  rw [h4]
  pointwise [ang]

/-- The reference's other angle arrays are the same array. -/
theorem ref_ang_eq : res_main_v80 V0 = res_main_v48 V0 ∧ res_main_v114 V0 = res_main_v48 V0 ∧ res_main_v142 V0 = res_main_v48 V0 := ⟨rfl, rfl, rfl⟩

end

/-- A token's batch entry, from its row. -/
theorem token_div (b : Fin 8) (s : Fin 4096) : (b.val * 4096 + s.val) / 4096 = b.val := by omega
/-- A token's position, from its row. -/
theorem token_mod (b : Fin 8) (s : Fin 4096) : (b.val * 4096 + s.val) % 4096 = s.val := by omega

/-- A token's batch entry, from its row by tiles. -/
theorem tile_div (b : Fin 8) (u : Fin 16) (s : Fin 256) : (b.val * 4096 + (u.val * 256 + s.val)) / 4096 = b.val := by omega
/-- A token's position, from its row by tiles. -/
theorem tile_mod (b : Fin 8) (u : Fin 16) (s : Fin 256) : (b.val * 4096 + (u.val * 256 + s.val)) % 4096 = u.val * 256 + s.val := by omega

/-- The value of the projecting call: all its results are the reference's. -/
theorem algebraic_InProjIdeal_InProjRefIdeal : Cert.algebraic_InProjIdeal_InProjRefIdeal := by
  intro m g m' g' _ hargs
  refine ⟨Cert.InProjIdeal.RefValue.arr7 m, Cert.InProjIdeal.RefValue.arr8 m, Cert.InProjIdeal.RefValue.arr9 m, Cert.InProjIdeal.RefValue.arr10 m,
    Cert.InProjIdeal.RefValue.arr11 m, Cert.InProjIdeal.RefValue.arr12 m, Cert.InProjIdeal.RefValue.arr13 m, Cert.InProjIdeal.RefValue.arr14 m, Cert.InProjIdeal.RefValue.run_value m g, ?_⟩
  refine θ_run_mono (Cert.InProjRefIdeal.Value.run m' g') fun _ h c => ?_
  obtain ⟨r0, r1, r2, r3, r4, r5, r6, r7, ra⟩ := h c
  have hc := ref_col (StableHlo.launchContents m' c) _ _ _ _ (hargs c).1 (hargs c).2.1 (hargs c).2.2.1 (hargs c).2.2.2.1
  have hg := ref_ang (StableHlo.launchContents m' c) _ (hargs c).2.2.2.2.1
  have h5 : StableHlo.launchContents m' c (Proc.devRef .tc Cert.InProjRefIdeal.main_arg5) = _ := (hargs c).2.2.2.2.2.1
  have h6 : StableHlo.launchContents m' c (Proc.devRef .tc Cert.InProjRefIdeal.main_arg6) = _ := (hargs c).2.2.2.2.2.2
  refine ⟨r0.trans ?_, r1.trans ?_, r2.trans ?_, r3.trans ?_, r4.trans ?_, r5.trans ?_, r6.trans ?_, r7.trans ?_, ra⟩
  all_goals clear r0 r1 r2 r3 r4 r5 r6 r7 ra h
  all_goals generalize StableHlo.launchContents m' c = V0 at hc hg h5 h6 ⊢
  · funext i
    obtain ⟨n, q, rfl⟩ : ∃ (n : Fin 32768) (q : Fin 4096), i = ix2 n q := ⟨i 0, i 1, eq_ix2 i⟩
    pointwise [main7]
    simp only [hc]
    iterate 5
      refine eq_of_dite (fun _ => congrArg (col _ _ _ _ _ _) ?_) fun _ => ?_
      · unfold src; repeat' split
        all_goals omega
    refine congrArg (col _ _ _ _ _ _) ?_
    unfold src; repeat' split
    all_goals omega
  · funext i
    obtain ⟨b, h, e, s, rfl⟩ : ∃ (b : Fin 8) (h : Fin 16) (e : Fin 64) (s : Fin 4096), i = ix4 b h e s := ⟨i 0, i 1, i 2, i 3, eq_ix4 i⟩
    pointwise [res_main_v53, res_main_v54, res_main_v50, res_main_v52, res_main_v36, qi8, emb, rot]
    simp only [hc, hg, token_div, token_mod, Fin.eta, Nat.add_assoc]
  · funext i
    obtain ⟨b, h, e, s, rfl⟩ : ∃ (b : Fin 8) (h : Fin 8) (e : Fin 64) (s : Fin 4096), i = ix4 b h e s := ⟨i 0, i 1, i 2, i 3, eq_ix4 i⟩
    pointwise [res_main_v85, res_main_v86, res_main_v82, res_main_v84, res_main_v68, ref_ang_eq, qa9, emb, rot]
    simp only [hc, hg, token_div, token_mod, Fin.eta, Nat.add_assoc]
  · funext i
    obtain ⟨b, h, s, rfl⟩ : ∃ (b : Fin 8) (h : Fin 16) (s : Fin 4096), i = ix3 b h s := ⟨i 0, i 1, i 2, eq_ix3 i⟩
    pointwise [wi10]
    simp only [hc, token_div, token_mod, Fin.eta]
  · funext i
    obtain ⟨b, u, s, e, rfl⟩ : ∃ (b : Fin 8) (u : Fin 16) (s : Fin 256) (e : Fin 64), i = ix4 b u s e := ⟨i 0, i 1, i 2, i 3, eq_ix4 i⟩
    pointwise [res_main_v119, res_main_v120, res_main_v116, res_main_v118, res_main_v102, ref_ang_eq, ki11, emb, rot]
    simp only [hc, hg, tile_div, tile_mod, Fin.eta]
    simp only [← Nat.add_assoc, Nat.reduceAdd]
  · funext i
    obtain ⟨b, g, u, s, e, rfl⟩ : ∃ (b : Fin 8) (g : Fin 2) (u : Fin 16) (s : Fin 256) (e : Fin 64), i = ix5 b g u s e := ⟨i 0, i 1, i 2, i 3, i 4, eq_ix5 i⟩
    pointwise [res_main_v147, res_main_v148, res_main_v144, res_main_v146, res_main_v130, ref_ang_eq, ka12, emb, rot]
    simp only [hc, hg, tile_div, tile_mod, Fin.eta, Nat.add_assoc]
  · funext i
    obtain ⟨b, g, u, e, s, rfl⟩ : ∃ (b : Fin 8) (g : Fin 2) (u : Fin 16) (e : Fin 64) (s : Fin 256), i = ix5 b g u e s := ⟨i 0, i 1, i 2, i 3, i 4, eq_ix5 i⟩
    pointwise [va13]
    simp only [hc, tile_div, tile_mod, Fin.eta, Nat.add_assoc]
  · funext i
    obtain ⟨b, h, s, rfl⟩ : ∃ (b : Fin 8) (h : Fin 16) (s : Fin 4096), i = ix3 b h s := ⟨i 0, i 1, i 2, eq_ix3 i⟩
    pointwise [res_main_v181, res_main_call0_v3, res_main_call0_cst, gates, InProjIdeal.RefValue.logistic, InProjIdeal.RefValue.softplus]
    simp only [hc, h5, h6, token_div, token_mod, Fin.eta, zero_sub, sub_zero, add_zero, ne_eq, not_true_eq_false, ↓reduceIte]

end Cert.Proof
-- ==== Proof.AdaValue.lean ====
module

public import proofs.«01_k».proof.Defs
public import proofs.«01_k».proof.Proof.Gen.AdaIdeal.Value
public import proofs.«01_k».proof.Proof.Gen.AdaRefIdeal.Run
public import Idealize.ShloMosaic.Lib.Pipeline.Value
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaIdeal.RefValue

open Cert.AdaIdeal Cert.AdaIdeal.Gen

variable (m : (ℓ : Loc nD τ sig) → Buf (Elt Ideal) ℓ) (ρ : Dev nD → PrngReg)

theorem ind0 : ∀ t : Fin grid0.N, win0_0.index t 0 = 0 ∧ win0_0.index t 1 = 0 := by decide +kernel
theorem ind1 : ∀ t : Fin grid0.N, win0_1.index t 0 = 0 ∧ win0_1.index t 1 = t.val := by decide +kernel
theorem ind2 : ∀ t : Fin grid0.N, win0_2.index t 0 = 0 ∧ win0_2.index t 1 = t.val := by decide +kernel
theorem ind3 : ∀ t : Fin grid0.N, win0_3.index t 0 = 0 ∧ win0_3.index t 1 = t.val := by decide +kernel

/-- Column `b` of point `t`'s block of the modulation columns. -/
abbrev col (t : Fin cfg0.N) (b : Fin 1024) : Fin 6144 := ⟨t.val * 1024 + b.val, by have := t.isLt; have h : cfg0.N = 6 := N_0; have := b.isLt; omega⟩

/-- The conditions, whole at every point. -/
theorem blk0 (c : Dev nD) (t : Fin cfg0.N) (a : Fin 8) (b : Fin 1024) :
    iblk m c 0 t (ix2 a b) = m ((c : Thread nD τ).loc main_arg0) (ix2 a b) := by
  unfold iblk
  rw [show V m c (Pipeline.arrRef spec0 0) = m ((c : Thread nD τ).loc main_arg0) from V_main_arg0 m c]
  refine congrArg (m ((c : Thread nD τ).loc main_arg0)) (funext fun x => Fin.ext ?_)
  match x with
  | ⟨0, _⟩ => show win0_0.index t 0 * 8 + 1 * a.val = _; rw [(ind0 t).1]; show _ = a.val; omega
  | ⟨1, _⟩ => show win0_0.index t 1 * 1024 + 1 * b.val = _; rw [(ind0 t).2]; show _ = b.val; omega

/-- Point `t`'s columns of the weights. -/
theorem blk1 (c : Dev nD) (t : Fin cfg0.N) (a b : Fin 1024) :
    iblk m c 1 t (ix2 a b) = m ((c : Thread nD τ).loc main_arg1) (ix2 a (col t b)) := by
  unfold iblk
  rw [show V m c (Pipeline.arrRef spec0 1) = m ((c : Thread nD τ).loc main_arg1) from V_main_arg1 m c]
  refine congrArg (m ((c : Thread nD τ).loc main_arg1)) (funext fun x => Fin.ext ?_)
  match x with
  | ⟨0, _⟩ => show win0_1.index t 0 * 1024 + 1 * a.val = _; rw [(ind1 t).1]; show _ = a.val; omega
  | ⟨1, _⟩ => show win0_1.index t 1 * 1024 + 1 * b.val = _; rw [(ind1 t).2]; show _ = t.val * 1024 + b.val; omega

/-- Point `t`'s columns of the bias. -/
theorem blk2 (c : Dev nD) (t : Fin cfg0.N) (b : Fin 1024) :
    iblk m c 2 t (ix2 (0 : Fin 1) b) = m ((c : Thread nD τ).loc main_arg2) (ix1 (col t b)) := by
  have hv : ∀ (e : Fin 6144), V m c main_v0 (ix2 (0 : Fin 1) e) = m ((c : Thread nD τ).loc main_arg2) (ix1 e) := by
    intro e
    unfold V
    after_results
    pointwise
  rw [← hv]
  unfold iblk
  refine congrArg (V m c main_v0) (funext fun x => Fin.ext ?_)
  match x with
  | ⟨0, _⟩ => show win0_2.index t 0 * 1 + 1 * 0 = _; rw [(ind2 t).1]; rfl
  | ⟨1, _⟩ => show win0_2.index t 1 * 1024 + 1 * b.val = _; rw [(ind2 t).2]; show _ = t.val * 1024 + b.val; omega

/-- The gated condition: the condition times its own sigmoid. -/
def gated (x : EReal) : EReal :=
  x * Ideal.div (Ideal.ofBits .f32 0x3F800000#32) (Ideal.ofBits .f32 0x3F800000#32 + Ideal.exp (-x))

/-- The modulation vectors: the gated condition through the weights, and the bias. -/
def modulation (a : S8x1024.Idx → EReal) (w : S1024x6144.Idx → EReal) (b : S6144.Idx → EReal) : S8x6144.Idx → EReal := fun i =>
  (∑ e : Fin 1024, gated (a (ix2 (i 0) e)) * w (ix2 e (i 1))) + b (ix1 (i 1))

abbrev modulationOf (c : Dev nD) : Buf (Elt Ideal) ((c : Thread nD τ).loc main_v1) :=
  modulation (m ((c : Thread nD τ).loc main_arg0)) (m ((c : Thread nD τ).loc main_arg1)) (m ((c : Thread nD τ).loc main_arg2))

/-- The block of results a point leaves, read at an index. -/
theorem pay_apply (c : Dev nD) (t : Fin cfg0.N) (a : Fin 8) (b : Fin 1024) :
    k0_pay1 (iblk m c 0 t) (iblk m c 1 t) (iblk m c 2 t) (ix2 a b) = modulationOf m c (ix2 a (col t b)) := by
  pointwise [k0_pay1, modulation, gated]
  simp only [blk0, blk1, blk2, zero_sub]

theorem hz2 : (![0, 0] : Fin 2 → Nat) = fun _ => 0 := funext fun a => by fin_cases a <;> rfl

theorem flushed_eq (c : Dev nD) (t : Fin cfg0.N) :
    (dats m 0 c).flushed 3 t = (win0_3.blk t).view.read (Elt Ideal) (modulationOf m c) := by
  show (cfg0.win 3).cut (grid0.coords t) ((dats m 0 c).after 3 t) = _
  rw [after0_3]
  unfold out0_3
  rw [View.canon_unit_zero hz2, View.ld_unit_zero hz2, View.ld_unit_zero hz2, View.ld_unit_zero hz2]
  funext y
  refine (congrArg (k0_pay1 (iblk m c 0 t) (iblk m c 1 t) (iblk m c 2 t)) (eq_ix2 (n0 := 8) (n1 := 1024) y)).trans ?_
  refine (pay_apply m c t (y 0) (y 1)).trans ?_
  refine congrArg (modulationOf m c) (funext fun x => Fin.ext ?_)
  match x with
  | ⟨0, _⟩ => show (y 0).val = win0_3.index t 0 * 8 + 1 * (y 0).val; rw [(ind3 t).1]; omega
  | ⟨1, _⟩ => show t.val * 1024 + (y 1).val = win0_3.index t 1 * 1024 + 1 * (y 1).val; rw [(ind3 t).2]; omega

/-- The blocks tile the result. -/
theorem cover (i : S8x6144.Idx) :
    ∃ t : Fin cfg0.N, (cfg0.win 3).flush t = true ∧ i ∈ ((cfg0.win 3).blk t).view.set := by
  have h0 : (i 0).val < 8 := (i 0).isLt
  have h1 : (i 1).val < 6144 := (i 1).isLt
  have hN : cfg0.N = 6 := N_0
  obtain ⟨t, ht⟩ : ∃ t : Fin cfg0.N, t.val = (i 1).val / 1024 := ⟨⟨(i 1).val / 1024, by omega⟩, rfl⟩
  refine ⟨t, flush0_3 t, ?_⟩
  show i ∈ ((View.whole main_v1).slice (win0_3.rect t)).set
  rw [View.set_slice_whole, Rect.mem_set_unit]
  intro a
  match a with
  | ⟨0, _⟩ =>
    show win0_3.index t 0 * 8 ≤ (i 0).val ∧ (i 0).val < win0_3.index t 0 * 8 + 8
    rw [(ind3 t).1]; omega
  | ⟨1, _⟩ =>
    show win0_3.index t 1 * 1024 ≤ (i 1).val ∧ (i 1).val < win0_3.index t 1 * 1024 + 1024
    rw [(ind3 t).2]; omega

/-- So the result array ends at the modulation vectors. -/
theorem final (c : Dev nD) : (dats m 0 c).arrAt 3 cfg0.N = modulationOf m c :=
  (dats m 0 c).arrAt_eq_of_cover 3 (modulationOf m c) (fun t _ => flushed_eq m c t) cover

/-- The run: the result array at the modulation vectors, the arguments unchanged. -/
theorem run_value : θ_run defs (onTc (τ := τ) (main (F := Ideal))) ⟨m, fun _ => 0, ρ⟩ fun r => ∀ c : Dev nD,
      r.2.mem ((c.tc : Thread nD τ).loc main_v1) = modulationOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (run_main m ρ) (frame m ρ)) fun _ h c => ⟨((h.1 c).1 3).trans (final m c), h.2.1 c⟩

end Cert.AdaIdeal.RefValue

namespace Cert.Proof

open Cert.AdaRefIdeal Cert.AdaRefIdeal.Gen in
/-- The reference's result is the modulation vectors. -/
theorem ada_ref (a0 : FVec Ideal S8x1024 .f32) (a1 : FVec Ideal S1024x6144 .f32) (a2 : FVec Ideal S6144 .f32) :
    addf (Host.dotGeneral dot_S8x1024_S1024x6144_S8x6144_1_0_0_1_n_n none (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))) a1) (broadcastInDim S8x6144 ![0, 1] bcast_S1x6144_S8x6144_0_1 (broadcastInDim S1x6144 ![1] bcast_S6144_S1x6144_1 a2))
      = Cert.AdaIdeal.RefValue.modulation a0 a1 a2 := by
  funext i
  obtain ⟨t, d, rfl⟩ : ∃ (t : Fin 8) (d : Fin 6144), i = ix2 t d := ⟨i 0, i 1, eq_ix2 i⟩
  pointwise [Cert.AdaIdeal.RefValue.modulation, Cert.AdaIdeal.RefValue.gated]

/-- The value of the modulation's call. -/
theorem algebraic_AdaIdeal_AdaRefIdeal : Cert.algebraic_AdaIdeal_AdaRefIdeal := by
  intro m g m' g' _ hargs
  refine ⟨fun c => Cert.AdaIdeal.RefValue.modulationOf m c, Cert.AdaIdeal.RefValue.run_value m g, ?_⟩
  refine θ_run_mono (Cert.AdaRefIdeal.Value.run m' g') fun _ h c => ⟨(h c).1.trans ?_, (h c).2⟩
  rw [(hargs c).1, (hargs c).2.1, (hargs c).2.2]
  exact ada_ref _ _ _

end Cert.Proof

end
-- ==== Proof.ScoreTrip.lean ====
module

public import proofs.«01_k».proof.Defs
public import proofs.«01_k».proof.Proof.Gen.ScoresIdeal
public import proofs.«01_k».proof.Proof.Gen.ScoresIdeal.Skeleton
public import proofs.«01_k».proof.Proof.Gen.ScoresIdeal.Loops
public import Idealize.ShloMosaic.Lib.Tactic
public import Idealize.ShloMosaic.Lib.Pipeline.Regions

@[expose] public section

noncomputable section

namespace Cert.Proof.ScoresIdeal

open Cert.ScoresIdeal Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- A word names the first of eight rows of the padded table, at a multiple of four. -/
def InTab (w : BitVec 32) : Prop := 4 ∣ w.toNat ∧ w.toNat + 8 ≤ 65544

theorem InTab.chk {w : BitVec 32} (h : InTab w) : k0_chk1 w := by
  refine ⟨h.1, fun a => ?_⟩
  match a with
  | ⟨0, _⟩ => show (Scalar.indexCast w).toNat + 8 ≤ 65544; exact h.2
  | ⟨1, _⟩ => show 0 + 128 ≤ 128; omega

theorem words_inb (j : Fin 128) : ∀ a, (![j.val] : Fin 1 → Nat) a + S1.size a ≤ S128.size a := by
  intro a; match a with
  | ⟨0, _⟩ => show j.val + 1 ≤ 128; omega

theorem block_inb {w : BitVec 32} (h : InTab w) : ∀ a, k0_off5 w a + S8x128.size a ≤ S65544x128.size a := h.chk.2

theorem piece_inb (n : ℕ) : ∀ a, (![8 * (n % 64), 0] : Fin 2 → Nat) a + S8x128.size a ≤ S512x128.size a := by
  intro a; match a with
  | ⟨0, _⟩ => show 8 * (n % 64) + 8 ≤ 512; omega
  | ⟨1, _⟩ => show 0 + 128 ≤ 128; omega

/-- Where trip `k` finds its `j`-th word: row `k` of the words, column `j`, as the kernel's slice and squeeze address it. -/
def wordIdx (k : Fin k0_t1_loop.trips) (j : Fin 128) : S128x128.Idx :=
  (Rect.unit (s := S128x128) (k0_off4 k) S1x128.size (k0_off4_inb k)).emb
    ((Shape.reshapeEquiv (Shape.Squeezes.numel_eq squeezes_S1x128_S128)).toEmbedding
      ((Rect.unit (s := S128) ![j.val] S1.size (words_inb j)).idx (Shape.Idx.first (show 0 < S1.numel by decide))))

/-- The eight table rows the `j`-th word of trip `k` names. -/
def block (words : S128x128.Idx → BitVec 32) (hw : ∀ y, InTab (words y)) (tab : S65544x128.Idx → BitVec 32)
    (k : Fin k0_t1_loop.trips) (j : Fin 128) : IVec S8x128 32 :=
  fun x => tab ((Rect.unit (s := S65544x128) (k0_off5 (words (wordIdx k j))) S8x128.size (block_inb (hw _))).idx x)

/-- The products stored for the `n`-th pair of words: the token's row times the unpacked table rows, low and high halves added. -/
def prods (words : S128x128.Idx → BitVec 32) (hw : ∀ y, InTab (words y)) (tab : S65544x128.Idx → BitVec 32)
    (k : Fin k0_t1_loop.trips) (xr : Vec F S1x1024 .f32) (n : ℕ) : FVec F S8x128 .f32 :=
  k0_pay2 (k0_pay7 xr) (k0_pay8 xr)
    (k0_pay9 (F := F) (block words hw tab k ⟨(2 * n) % 128, Nat.mod_lt _ (by decide)⟩))
    (block words hw tab k ⟨(2 * n + 1) % 128, Nat.mod_lt _ (by decide)⟩)

/-- The first `n` stores into the products' scratch, the latest first. -/
def pieces (g : ℕ → FVec F S8x128 .f32) : ℕ → List (View.Piece (Elt F) S512x128 .f32)
  | 0 => []
  | n + 1 => ⟨Rect.unit ![8 * (n % 64), 0] S8x128.size (piece_inb n), g n⟩ :: pieces g n

/-- What a trip stores as its token's partial sums: the four rows of each word's products added, read from the scratch. -/
def partials (M6 : Memref sig .tc .vmem S512x128 .f32) (g : ℕ → FVec F S8x128 .f32) : FVec F S1x128x128 .f32 :=
  k0_pay3 (M6.view.readCov (pieces g 64) (⟨![0, 0], S128x128.size, ![4, 1], inb_S512x128_S128x128_0_0_s_4_1⟩ : LoadRect S512x128))
    (M6.view.readCov (pieces g 64) (⟨![1, 0], S128x128.size, ![4, 1], inb_S512x128_S128x128_1_0_s_4_1⟩ : LoadRect S512x128))
    (M6.view.readCov (pieces g 64) (⟨![2, 0], S128x128.size, ![4, 1], inb_S512x128_S128x128_2_0_s_4_1⟩ : LoadRect S512x128))
    (M6.view.readCov (pieces g 64) (⟨![3, 0], S128x128.size, ![4, 1], inb_S512x128_S128x128_3_0_s_4_1⟩ : LoadRect S512x128))

/-- The row trip `k` reads of its tokens. -/
def tokenRow (c : Dev nD) (M2 : Memref sig .tc .vmem S128x1024 .f32) (f2 : Bf (F := F) c M2) (k : Fin k0_t1_loop.trips) : Vec F S1x1024 .f32 :=
  View.readAt (Elt F) M2.view (Rect.unit (s := S128x1024) (k0_off3 k) S1x1024.size (k0_off3_inb k)).toLoadRect f2

theorem trip (c : Dev nD) (i : grid0.Coords) (k : Fin k0_t1_loop.trips)
    (M1 : Memref sig .tc .smem S128x128 .i32) (h1 : M1.IsWhole) (M2 : Memref sig .tc .vmem S128x1024 .f32) (h2 : M2.IsWhole)
    (M3 : Memref sig .tc .vmem S128x128 .f32) (h3 : M3.IsWhole) (M4 : Memref sig .tc .vmem S65544x128 .i32) (h4 : M4.IsWhole)
    (M5 : Memref sig .tc .vmem S128x128 .f32) (h5 : M5.IsWhole) (M6 : Memref sig .tc .vmem S512x128 .f32) (h6 : M6.IsWhole)
    (M7 : Memref sig .tc .vmem S128x128x128 .f32) (h7 : M7.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7)
    (hw : ∀ y : S128x128.Idx, InTab (M1.view.read (Elt F) f1 y))
    (Q : PUnit → sProp 𝕄) :
    iprop(pt c M1 f1 ∗ pt c M2 f2 ∗ pt c M3 f3 ∗ pt c M4 f4 ∗ pt c M5 f5 ∗ pt c M6 f6 ∗ pt c M7 f7
      ∗ (iprop(pt c M1 f1 ∗ pt c M2 f2 ∗ pt c M3 f3 ∗ pt c M4 f4 ∗ pt c M5 (M5.view.writes (Elt F) f5
          [⟨Rect.unit (k0_off2 k) S1x128.size (k0_off2_inb k),
            k0_pay5 (View.readAt (Elt F) M7.view (Rect.unit (s := S128x128x128) (k0_off1 k) S1x128x128.size (k0_off1_inb k)).toLoadRect f7)
              (View.readAt (Elt F) M3.view (Rect.unit (s := S128x128) (k0_off2 k) S1x128.size (k0_off2_inb k)).toLoadRect f3)⟩])
        ∗ (∃ f, pt c M6 f) ∗ pt c M7 (M7.view.writes (Elt F) f7
          [⟨Rect.unit (k0_off260 k) S1x128x128.size (k0_off260_inb k),
            partials M6 (prods (M1.view.read (Elt F) f1) hw (M4.view.read (Elt F) f4) k (tokenRow c M2 f2 k))⟩])) -∗ Q ⟨⟩))
    ⊢ wp frame (wpE (defs₀ (F := F)) Variants.none c none) Set.univ
        (k0_t1_body i M1 h1 M2 h2 M3 h3 M4 h4 M5 h5 M6 h6 M7 h7 k ⟨⟩) Q := by
  unfold k0_t1_body
  iintro ⟨H1, H2, H3, H4, H5, H6, H7, Hk⟩
  sl_exec_parts (disch := exact (hw _).chk)
  sl_step
  iapply Hk
  isplitl [H1]; · iexact H1
  isplitl [H2]; · iexact H2
  isplitl [H3]; · iexact H3
  isplitl [H4]; · iexact H4
  isplitl [H5]; · iexact H5
  isplitl [H6]; · iexists _; iexact H6
  rw [show k0_pay3 (trip.sl.v1969 c k M1 M2 M4 M6 f1 f2 f4 hw) (trip.sl.v1970 c k M1 M2 M4 M6 f1 f2 f4 hw)
      (trip.sl.v1972 c k M1 M2 M4 M6 f1 f2 f4 hw) (trip.sl.v1974 c k M1 M2 M4 M6 f1 f2 f4 hw)
      = partials M6 (prods (M1.view.read (Elt F) f1) hw (M4.view.read (Elt F) f4) k (tokenRow c M2 f2 k)) from by chain_rfl]
  iexact H7

end Cert.Proof.ScoresIdeal
-- ==== Proof.ScoreBody.lean ====
module

public import proofs.«01_k».proof.Proof.ScoreTrip
public import proofs.«01_k».proof.Proof.Gen.ScoresIdeal.Frame
public import proofs.«01_k».proof.Proof.Gen.ScoresIdeal.Points
public import Idealize.ShloMosaic.Lib.Pipeline.Value
public import Idealize.ShloMosaic.Lib.Pipeline.ReadBack
public import Idealize.ShloMosaic.Lib.Pointwise
public import Idealize.ShloMosaic.Lib.WritesUnit

@[expose] public section

noncomputable section

namespace Cert.Proof.ScoresIdeal

open Cert.ScoresIdeal Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UU nD τ) ℕ

/-! ## What a token's row comes to -/

/-- The partial sums of a trip, as read from what the products' stores leave, whichever scratch they went through. -/
def partialsOf (g : ℕ → FVec F S8x128 .f32) : FVec F S1x128x128 .f32 :=
  k0_pay3 (fun j => View.canon (pieces g 64) ((⟨![0, 0], S128x128.size, ![4, 1], inb_S512x128_S128x128_0_0_s_4_1⟩ : LoadRect S512x128).idx j))
    (fun j => View.canon (pieces g 64) ((⟨![1, 0], S128x128.size, ![4, 1], inb_S512x128_S128x128_1_0_s_4_1⟩ : LoadRect S512x128).idx j))
    (fun j => View.canon (pieces g 64) ((⟨![2, 0], S128x128.size, ![4, 1], inb_S512x128_S128x128_2_0_s_4_1⟩ : LoadRect S512x128).idx j))
    (fun j => View.canon (pieces g 64) ((⟨![3, 0], S128x128.size, ![4, 1], inb_S512x128_S128x128_3_0_s_4_1⟩ : LoadRect S512x128).idx j))

theorem partials_eq (M6 : Memref sig .tc .vmem S512x128 .f32) (g : ℕ → FVec F S8x128 .f32) : partials M6 g = partialsOf g := by
  unfold partials partialsOf
  rw [View.readCov_eq_canon', View.readCov_eq_canon', View.readCov_eq_canon', View.readCov_eq_canon']

theorem trips_eq : k0_t1_loop.trips = 128 := by decide

/-- A token of the block as a trip of the loop. -/
abbrev trp (n : Fin 128) : Fin k0_t1_loop.trips := ⟨n.val, lt_of_lt_of_eq n.isLt trips_eq.symm⟩

theorem offs (k : Fin k0_t1_loop.trips) : (k0_off1 k = ![k.val - 1, 0, 0] ∧ k0_off2 k = ![k.val - 1, 0])
    ∧ k0_off3 k = ![k.val, 0] ∧ k0_off260 k = ![k.val, 0, 0] := by
  have h : ∀ k : Fin k0_t1_loop.trips, ((k0_off1 k 0 = k.val - 1 ∧ k0_off1 k 1 = 0 ∧ k0_off1 k 2 = 0) ∧ (k0_off2 k 0 = k.val - 1 ∧ k0_off2 k 1 = 0))
      ∧ (k0_off3 k 0 = k.val ∧ k0_off3 k 1 = 0) ∧ (k0_off260 k 0 = k.val ∧ k0_off260 k 1 = 0 ∧ k0_off260 k 2 = 0) := by
    decide +kernel
  obtain ⟨⟨⟨a, a', a''⟩, b, b'⟩, ⟨d, d'⟩, e, e', e''⟩ := h k
  exact ⟨⟨funext fun x => by match x with | ⟨0, _⟩ => exact a | ⟨1, _⟩ => exact a' | ⟨2, _⟩ => exact a'',
    funext fun x => by match x with | ⟨0, _⟩ => exact b | ⟨1, _⟩ => exact b'⟩,
    funext fun x => by match x with | ⟨0, _⟩ => exact d | ⟨1, _⟩ => exact d',
    funext fun x => by match x with | ⟨0, _⟩ => exact e | ⟨1, _⟩ => exact e' | ⟨2, _⟩ => exact e''⟩

theorem gate_inb (n : Fin 128) : ∀ a, (![n.val, 0] : Fin 2 → Nat) a + S1x128.size a ≤ S128x128.size a := by
  intro a; match a with
  | ⟨0, _⟩ => show n.val + 1 ≤ 128; omega
  | ⟨1, _⟩ => show 0 + 128 ≤ 128; omega

/-- The partial sums of token `n` of a block. -/
def tokenSums (x0 : S128x128.Idx → BitVec 32) (hw : ∀ y, InTab (x0 y)) (x1 : Vec F S128x1024 .f32) (x3 : S65544x128.Idx → BitVec 32)
    (n : Fin 128) : FVec F S1x128x128 .f32 :=
  partialsOf (prods x0 hw x3 (trp n) (View.ld x1 (Rect.unit (s := S128x1024) (k0_off3 (trp n)) S1x1024.size (k0_off3_inb (trp n)))))

/-- All tokens' partial sums, as the second scratch collects them. -/
def sumsBlock (x0 : S128x128.Idx → BitVec 32) (hw : ∀ y, InTab (x0 y)) (x1 : Vec F S128x1024 .f32) (x3 : S65544x128.Idx → BitVec 32) :
    Vec F S128x128x128 .f32 := fun y => tokenSums x0 hw x1 x3 (y 0) (ix3 (0 : Fin 1) (y 1) (y 2))

/-- The block of outputs a grid point leaves. -/
def outBlock (x0 : S128x128.Idx → BitVec 32) (hw : ∀ y, InTab (x0 y)) (x1 : Vec F S128x1024 .f32) (x2 : Vec F S128x128 .f32)
    (x3 : S65544x128.Idx → BitVec 32) : Vec F S128x128 .f32 := fun y =>
  k0_pay4 (tokenSums x0 hw x1 x3 (y 0)) (View.ld x2 (Rect.unit (s := S128x128) ![(y 0).val, 0] S1x128.size (gate_inb (y 0)))) (ix2 (0 : Fin 1) (y 1))

theorem sumsBlock_at (x0 : S128x128.Idx → BitVec 32) (hw : ∀ y, InTab (x0 y)) (x1 : Vec F S128x1024 .f32) (x3 : S65544x128.Idx → BitVec 32)
    (k : Fin k0_t1_loop.trips) (z : S128x128x128.Idx) (hz : (z 0).val = k.val) :
    sumsBlock x0 hw x1 x3 z = partialsOf (prods x0 hw x3 k (View.ld x1 (Rect.unit (s := S128x1024) (k0_off3 k) S1x1024.size (k0_off3_inb k))))
      (ix3 (0 : Fin 1) (z 1) (z 2)) := by
  have h : k = trp (z 0) := Fin.ext hz.symm
  subst h; rfl

theorem outBlock_at (x0 : S128x128.Idx → BitVec 32) (hw : ∀ y, InTab (x0 y)) (x1 : Vec F S128x1024 .f32) (x2 : Vec F S128x128 .f32)
    (x3 : S65544x128.Idx → BitVec 32) (n : Fin 128) (z : S128x128.Idx) (hz : (z 0).val = n.val) :
    outBlock x0 hw x1 x2 x3 z = k0_pay5 (tokenSums x0 hw x1 x3 n) (View.ld x2 (Rect.unit (s := S128x128) ![n.val, 0] S1x128.size (gate_inb n)))
      (ix2 (0 : Fin 1) (z 1)) := by
  have h : n = z 0 := Fin.ext hz.symm
  subst h; rfl

/-- A token's row loaded back from the second scratch. -/
theorem load_sums (M7 : Memref sig .tc .vmem S128x128x128 .f32) (f7 : M7.view.ty.Contents (Elt F)) (T : Fin 128 → FVec F S1x128x128 .f32)
    (off : Fin 3 → Nat) (inb : ∀ a, off a + S1x128x128.size a ≤ S128x128x128.size a) (n : Fin 128) (ho : off = ![n.val, 0, 0])
    (hold : ∀ y : S128x128x128.Idx, (y 0).val = n.val → M7.view.read (Elt F) f7 y = T (y 0) (ix3 (0 : Fin 1) (y 1) (y 2))) :
    View.readAt (Elt F) M7.view (Rect.unit (s := S128x128x128) off S1x128x128.size inb).toLoadRect f7 = T n := by
  subst ho
  funext j
  have j0 : (j 0).val < 1 := (j 0).isLt
  refine (hold ((Rect.unit (s := S128x128x128) ![n.val, 0, 0] S1x128x128.size inb).idx j) ?_).trans ?_
  · show n.val + 1 * (j 0).val = n.val; omega
  · refine congr (congrArg T (Fin.ext ?_)) (funext fun x => Fin.ext ?_)
    · show n.val + 1 * (j 0).val = n.val; omega
    · match x with
      | ⟨0, _⟩ => show 0 = (j 0).val; omega
      | ⟨1, _⟩ => show 0 + 1 * (j 1).val = (j 1).val; omega
      | ⟨2, _⟩ => show 0 + 1 * (j 2).val = (j 2).val; omega

/-- After the store of a token's row of partial sums: the rows up to and with it hold `G`, if the earlier ones did. -/
theorem sums_step (M7 : Memref sig .tc .vmem S128x128x128 .f32) (f7 : M7.view.ty.Contents (Elt F)) (G : Vec F S128x128x128 .f32)
    (k : Fin k0_t1_loop.trips) (w : FVec F S1x128x128 .f32)
    (hold : ∀ y : S128x128x128.Idx, (y 0).val < k.val → M7.view.read (Elt F) f7 y = G y)
    (hw : ∀ y : S128x128x128.Idx, (y 0).val = k.val → G y = w (ix3 (0 : Fin 1) (y 1) (y 2)))
    (y : S128x128x128.Idx) (hy : (y 0).val < k.val + 1) :
    M7.view.read (Elt F) (M7.view.writes (Elt F) f7 [⟨Rect.unit (k0_off260 k) S1x128x128.size (k0_off260_inb k), w⟩]) y = G y := by
  have o := (offs k).2.2
  by_cases hk : (y 0).val = k.val
  · rw [hw y hk]
    refine View.read_writes_cons_unit_of_mem _ _ _ _ _ y (ix3 (0 : Fin 1) (y 1) (y 2)) o fun a => ?_
    match a with
    | ⟨0, _⟩ => show (y 0).val = k.val + 0; omega
    | ⟨1, _⟩ => show (y 1).val = 0 + (y 1).val; omega
    | ⟨2, _⟩ => show (y 2).val = 0 + (y 2).val; omega
  · have hlt : (y 0).val < k.val := by omega
    rw [View.read_writes_cons_unit_of_not_mem _ _ _ _ _ y o (0 : Fin 3) (Or.inl hlt)]
    exact hold y hlt

/-- After the store of row `n` of the output: the rows up to and with it hold `G`, if the earlier ones did. -/
theorem out_step (M5 : Memref sig .tc .vmem S128x128 .f32) (f5 : M5.view.ty.Contents (Elt F)) (G : Vec F S128x128 .f32)
    (off : Fin 2 → Nat) (inb : ∀ a, off a + S1x128.size a ≤ S128x128.size a) (n : ℕ) (ho : off = ![n, 0]) (w : FVec F S1x128 .f32)
    (hold : ∀ y : S128x128.Idx, (y 0).val < n → M5.view.read (Elt F) f5 y = G y)
    (hw : ∀ y : S128x128.Idx, (y 0).val = n → G y = w (ix2 (0 : Fin 1) (y 1)))
    (y : S128x128.Idx) (hy : (y 0).val < n + 1) :
    M5.view.read (Elt F) (M5.view.writes (Elt F) f5 [⟨Rect.unit off S1x128.size inb, w⟩]) y = G y := by
  by_cases hk : (y 0).val = n
  · rw [hw y hk]
    refine View.read_writes_cons_unit_of_mem _ _ _ _ _ y (ix2 (0 : Fin 1) (y 1)) ho fun a => ?_
    match a with
    | ⟨0, _⟩ => show (y 0).val = n + 0; omega
    | ⟨1, _⟩ => show (y 1).val = 0 + (y 1).val; omega
  · have hlt : (y 0).val < n := by omega
    rw [View.read_writes_cons_unit_of_not_mem _ _ _ _ _ y ho (0 : Fin 2) (Or.inl hlt)]
    exact hold y hlt

/-- A row of the gates, at offsets equal to the row's. -/
theorem load_gate (M3 : Memref sig .tc .vmem S128x128 .f32) (f3 : M3.view.ty.Contents (Elt F))
    (off : Fin 2 → Nat) (inb : ∀ a, off a + S1x128.size a ≤ S128x128.size a) (n : Fin 128) (ho : off = ![n.val, 0]) :
    View.readAt (Elt F) M3.view (Rect.unit (s := S128x128) off S1x128.size inb).toLoadRect f3
      = View.ld (M3.view.read (Elt F) f3) (Rect.unit (s := S128x128) ![n.val, 0] S1x128.size (gate_inb n)) := by
  subst ho; rfl

/-! ## The body's triple -/

/-- The kernel body on whole staging memrefs, the words naming table rows: the inputs stay as they were and the output
    buffer ends at `outBlock` of them. -/
theorem sound_kernel (c : Dev nD) (i : grid0.Coords)
    (M1 : Memref sig .tc .smem S128x128 .i32) (h1 : M1.IsWhole) (M2 : Memref sig .tc .vmem S128x1024 .f32) (h2 : M2.IsWhole)
    (M3 : Memref sig .tc .vmem S128x128 .f32) (h3 : M3.IsWhole) (M4 : Memref sig .tc .vmem S65544x128 .i32) (h4 : M4.IsWhole)
    (M5 : Memref sig .tc .vmem S128x128 .f32) (h5 : M5.IsWhole) (M6 : Memref sig .tc .vmem S512x128 .f32) (h6 : M6.IsWhole)
    (M7 : Memref sig .tc .vmem S128x128x128 .f32) (h7 : M7.IsWhole)
    (x0 : S128x128.Idx → BitVec 32) (hw : ∀ y, InTab (x0 y)) (x1 : Vec F S128x1024 .f32) (x2 : Vec F S128x128 .f32) (x3 : S65544x128.Idx → BitVec 32)
    (K : PUnit → sProp 𝕄) :
    iprop(owns (c : Thread nD τ) M1 fullShare x0 ∗ owns (c : Thread nD τ) M2 fullShare x1 ∗ owns (c : Thread nD τ) M3 fullShare x2
        ∗ owns (c : Thread nD τ) M4 fullShare x3
        ∗ (∃ d, owns (c : Thread nD τ) M5 fullShare d) ∗ (∃ f, pt c M6 f) ∗ (∃ f, pt c M7 f)
        ∗ (iprop(owns (c : Thread nD τ) M1 fullShare x0 ∗ owns (c : Thread nD τ) M2 fullShare x1 ∗ owns (c : Thread nD τ) M3 fullShare x2
            ∗ owns (c : Thread nD τ) M4 fullShare x3
            ∗ owns (c : Thread nD τ) M5 fullShare (outBlock x0 hw x1 x2 x3) ∗ (∃ f, pt c M6 f) ∗ (∃ f, pt c M7 f)) -∗ K ⟨⟩))
      ⊢ wp frame (wpE (defs₀ (F := F)) Variants.none c none) Set.univ (cc0_peer_u i M1 h1 M2 h2 M3 h3 M4 h4 M5 h5 M6 h6 M7 h7) K := by
  simp only [cc0_peer_u_eq_skeleton]; unfold cc0_peer_u_skel
  unfold owns
  iintro ⟨⟨%f1, %hf1, H1⟩, ⟨%f2, %hf2, H2⟩, ⟨%f3, %hf3, H3⟩, ⟨%f4, %hf4, H4⟩, ⟨%d5, %f5, -, H5⟩, ⟨%f6, H6⟩, ⟨%f7, H7⟩, Hk⟩
  subst hf1 hf2 hf3 hf4
  sl_exec
  iapply (Scf.wp_for_bind frame (wpE (defs₀ (F := F)) Variants.none c none) Set.univ _ _ _ k0_t1_ok _ _
      (fun n _ => iprop(pt c M1 f1 ∗ pt c M2 f2 ∗ pt c M3 f3 ∗ pt c M4 f4
        ∗ (∃ f, ⌜∀ y : S128x128.Idx, (y 0).val < n - 1 → M5.view.read (Elt F) f y
              = outBlock (M1.view.read (Elt F) f1) hw (M2.view.read (Elt F) f2) (M3.view.read (Elt F) f3) (M4.view.read (Elt F) f4) y⌝ ∗ pt c M5 f)
        ∗ (∃ f, pt c M6 f)
        ∗ (∃ f, ⌜∀ y : S128x128x128.Idx, (y 0).val < n → M7.view.read (Elt F) f y
              = sumsBlock (M1.view.read (Elt F) f1) hw (M2.view.read (Elt F) f2) (M4.view.read (Elt F) f4) y⌝ ∗ pt c M7 f))) ?trip) $$ [H1 H2 H3 H4 H5 H6 H7]
  case trip =>
    intro k acc
    iintro ⟨H1, H2, H3, H4, ⟨%g5, %hg5, H5⟩, ⟨%g6, H6⟩, ⟨%g7, %hg7, H7⟩⟩
    iapply (trip c i k M1 h1 M2 h2 M3 h3 M4 h4 M5 h5 M6 h6 M7 h7 f1 f2 f3 f4 g5 g6 g7 hw _)
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H1, H2, H3, H4, H5, H6, H7⟩
    isplitl [H1]; · iexact H1
    isplitl [H2]; · iexact H2
    isplitl [H3]; · iexact H3
    isplitl [H4]; · iexact H4
    isplitl [H5]
    · iexists _; isplitr
      swap; · iexact H5
      ipureintro
      intro y hy
      have hk : k.val < 128 := lt_of_lt_of_eq k.isLt trips_eq
      have hk1 : k.val - 1 < 128 := by omega
      refine out_step M5 g5 _ _ _ (k.val - 1) (offs k).1.2 _ hg5 (fun z hz => ?_) y (by omega)
      have hpos : 0 < k.val := by omega
      rw [load_gate M3 f3 _ _ ⟨k.val - 1, hk1⟩ (offs k).1.2,
        load_sums M7 g7 (tokenSums (M1.view.read (Elt F) f1) hw (M2.view.read (Elt F) f2) (M4.view.read (Elt F) f4)) _ _ ⟨k.val - 1, hk1⟩ (offs k).1.1
          (fun y' hy' => hg7 y' (by rw [hy']; show k.val - 1 < k.val; omega))]
      exact outBlock_at _ hw _ _ _ ⟨k.val - 1, hk1⟩ z hz
    isplitl [H6]; · iexact H6
    iexists _; isplitr
    swap; · iexact H7
    ipureintro
    intro y hy
    refine sums_step M7 g7 _ k _ hg7 (fun z hz => ?_) y hy
    rw [partials_eq]
    exact sumsBlock_at _ hw _ _ k z hz
  · isplitl [H1]; · iexact H1
    isplitl [H2]; · iexact H2
    isplitl [H3]; · iexact H3
    isplitl [H4]; · iexact H4
    isplitl [H5]
    · iexists f5; isplitr
      · ipureintro; exact fun y hy => absurd hy (Nat.not_lt_zero _)
      iexact H5
    isplitl [H6]; · iexists f6; iexact H6
    iexists _; isplitr
    swap; · iexact H7
    ipureintro; exact fun y hy => absurd hy (Nat.not_lt_zero _)
  iintro %acc ⟨H1, H2, H3, H4, ⟨%g5, %hg5, H5⟩, ⟨%g6, H6⟩, ⟨%g7, %hg7, H7⟩⟩
  sl_exec
  sl_step
  iapply Hk $$ [H1 H2 H3 H4 H5 H6 H7]
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro
    funext y
    have y0 : (y 0).val < 128 := (y 0).isLt
    refine out_step M5 g5 _ _ _ 127 rfl _ hg5 (fun z hz => ?_) y (by omega)
    rw [load_gate M3 f3 _ _ ⟨127, by omega⟩ rfl,
      load_sums M7 g7 (tokenSums (M1.view.read (Elt F) f1) hw (M2.view.read (Elt F) f2) (M4.view.read (Elt F) f4)) _ _ ⟨127, by omega⟩ rfl
        (fun y' hy' => hg7 y' (by rw [hy']; show 127 < k0_t1_loop.trips; rw [trips_eq]; omega))]
    exact outBlock_at _ hw _ _ _ ⟨127, by omega⟩ z hz
  isplitl [H6]
  · iexists _; iexact H6
  iexists _; iexact H7

/-! ## The pipeline's proof data -/

variable (m : (ℓ : Loc nD τ sig) → Buf (Elt F) ℓ) (ρ : Dev nD → PrngReg)

/-- Every word any grid point finds in its block of words names a table row. -/
def AllInTab : Prop := ∀ (c : Dev nD) (t : Fin cfg0.N) (y : S128x128.Idx), InTab (iblk m c 0 t y)

variable (hw : AllInTab m)

/-- The proof data: each input's buffer keeps its block, the output's ends at `outBlock` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (hw c t) (iblk m c 1 t) (iblk m c 2 t) (iblk m c 3 t)
  Φ _ := Pipeline.ΦA spec0 c
  q _ := fullShare
  owed _ := 0

theorem A_eq (c : Dev nD) (w : Fin cfg0.W) : (dats m hw 0 c).A w = V m c (Pipeline.arrRef spec0 w) := by
  dsimp only [dats]

theorem after_0 (c : Dev nD) (t : Fin cfg0.N) : (dats m hw 0 c).after 0 t = iblk m c 0 t := by dsimp only [dats]
theorem after_1 (c : Dev nD) (t : Fin cfg0.N) : (dats m hw 0 c).after 1 t = iblk m c 1 t := by dsimp only [dats]
theorem after_2 (c : Dev nD) (t : Fin cfg0.N) : (dats m hw 0 c).after 2 t = iblk m c 2 t := by dsimp only [dats]
theorem after_3 (c : Dev nD) (t : Fin cfg0.N) : (dats m hw 0 c).after 3 t = iblk m c 3 t := by dsimp only [dats]
theorem after_4 (c : Dev nD) (t : Fin cfg0.N) :
    (dats m hw 0 c).after 4 t = outBlock (iblk m c 0 t) (hw c t) (iblk m c 1 t) (iblk m c 2 t) (iblk m c 3 t) := by dsimp only [dats]

theorem before_0 (c : Dev nD) (t : Fin cfg0.N) (d) : (dats m hw 0 c).before 0 t d = iblk m c 0 t :=
  before0_0_of m (dats m hw 0 c) (A_eq m hw c 0) (after_0 m hw c) t d
theorem before_1 (c : Dev nD) (t : Fin cfg0.N) (d) : (dats m hw 0 c).before 1 t d = iblk m c 1 t :=
  before0_1_of m (dats m hw 0 c) (A_eq m hw c 1) (after_1 m hw c) t d
theorem before_2 (c : Dev nD) (t : Fin cfg0.N) (d) : (dats m hw 0 c).before 2 t d = iblk m c 2 t :=
  before0_2_of m (dats m hw 0 c) (A_eq m hw c 2) (after_2 m hw c) t d
theorem before_3 (c : Dev nD) (t : Fin cfg0.N) (d) : (dats m hw 0 c).before 3 t d = iblk m c 3 t :=
  before0_3_of m (dats m hw 0 c) (A_eq m hw c 3) (after_3 m hw c) t d

/-- What the body is called with at point `t`, window by window, -/
def bodyPre (c : Dev nD) (t : Fin cfg0.N) : sProp 𝕄 :=
  iprop((dats m hw 0 c).Φ t.castSucc ∗ (dats m hw 0 c).owesAt () t.castSucc
    ∗ (∃ d, owns (c : Thread nD τ) (st0_0 t) fullShare ((dats m hw 0 c).before 0 t d))
    ∗ (∃ d, owns (c : Thread nD τ) (st0_1 t) fullShare ((dats m hw 0 c).before 1 t d))
    ∗ (∃ d, owns (c : Thread nD τ) (st0_2 t) fullShare ((dats m hw 0 c).before 2 t d))
    ∗ (∃ d, owns (c : Thread nD τ) (st0_3 t) fullShare ((dats m hw 0 c).before 3 t d))
    ∗ (∃ d, owns (c : Thread nD τ) (st0_4 t) fullShare ((dats m hw 0 c).before 4 t d)))

/-- and what it returns. -/
def bodyPost (c : Dev nD) (t : Fin cfg0.N) : sProp 𝕄 :=
  iprop((dats m hw 0 c).Φ t.succ ∗ (dats m hw 0 c).owesAt () t.succ
    ∗ owns (c : Thread nD τ) (st0_0 t) fullShare ((dats m hw 0 c).after 0 t)
    ∗ owns (c : Thread nD τ) (st0_1 t) fullShare ((dats m hw 0 c).after 1 t)
    ∗ owns (c : Thread nD τ) (st0_2 t) fullShare ((dats m hw 0 c).after 2 t)
    ∗ owns (c : Thread nD τ) (st0_3 t) fullShare ((dats m hw 0 c).after 3 t)
    ∗ owns (c : Thread nD τ) (st0_4 t) fullShare ((dats m hw 0 c).after 4 t))

/-- A scratch of the call's own, as the body holds it and as the launch hands it over. -/
theorem scratch_whole (c : Dev nD) (b : Ref sig .tc) (f : Buf (Elt F) ((c : Thread nD τ).loc b)) :
    (pt c (Memref.whole b) f : sProp 𝕄) = iprop(((c : Thread nD τ).loc b) ↦{fullShare} f) := by
  unfold pt; rw [show (Memref.whole b).view.set = Finset.univ from View.set_whole _]

theorem scratch_in (c : Dev nD) (b : Ref sig .tc) (f : Buf (Elt F) ((c : Thread nD τ).loc b)) :
    (iprop(((c : Thread nD τ).loc b) ↦{fullShare} f) : sProp 𝕄) ⊢ pt c (Memref.whole b) f := by
  rw [scratch_whole]

theorem scratch_out (c : Dev nD) (b : Ref sig .tc) (f : Buf (Elt F) ((c : Thread nD τ).loc b)) :
    (pt c (Memref.whole b) f : sProp 𝕄) ⊢ iprop(((c : Thread nD τ).loc b) ↦{fullShare} f) := by
  rw [scratch_whole]

/-- The body's triple with the kernel's own scratches, held as the launch hands them over. -/
theorem sound_kernel_scratch (c : Dev nD) (i : grid0.Coords)
    (M1 : Memref sig .tc .smem S128x128 .i32) (h1 : M1.IsWhole) (M2 : Memref sig .tc .vmem S128x1024 .f32) (h2 : M2.IsWhole)
    (M3 : Memref sig .tc .vmem S128x128 .f32) (h3 : M3.IsWhole) (M4 : Memref sig .tc .vmem S65544x128 .i32) (h4 : M4.IsWhole)
    (M5 : Memref sig .tc .vmem S128x128 .f32) (h5 : M5.IsWhole)
    (x0 : S128x128.Idx → BitVec 32) (hw : ∀ y, InTab (x0 y)) (x1 : Vec F S128x1024 .f32) (x2 : Vec F S128x128 .f32) (x3 : S65544x128.Idx → BitVec 32)
    (K : PUnit → sProp 𝕄) :
    iprop(owns (c : Thread nD τ) M1 fullShare x0 ∗ owns (c : Thread nD τ) M2 fullShare x1 ∗ owns (c : Thread nD τ) M3 fullShare x2
        ∗ owns (c : Thread nD τ) M4 fullShare x3
        ∗ (∃ d, owns (c : Thread nD τ) M5 fullShare d)
        ∗ ((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ (iprop(owns (c : Thread nD τ) M1 fullShare x0 ∗ owns (c : Thread nD τ) M2 fullShare x1 ∗ owns (c : Thread nD τ) M3 fullShare x2
            ∗ owns (c : Thread nD τ) M4 fullShare x3
            ∗ owns (c : Thread nD τ) M5 fullShare (outBlock x0 hw x1 x2 x3)
            ∗ ((∃ f : Buf (Elt F) ((c : Thread nD τ).loc cc0_scratch0), ((c : Thread nD τ).loc cc0_scratch0) ↦{fullShare} f)
              ∗ (∃ f : Buf (Elt F) ((c : Thread nD τ).loc cc0_scratch1), ((c : Thread nD τ).loc cc0_scratch1) ↦{fullShare} f))) -∗ K ⟨⟩))
      ⊢ wp frame (wpE (defs₀ (F := F)) Variants.none c none) Set.univ
        (cc0_peer_u i M1 h1 M2 h2 M3 h3 M4 h4 M5 h5 (Memref.whole cc0_scratch0) (Memref.isWhole_whole _)
          (Memref.whole cc0_scratch1) (Memref.isWhole_whole _)) K := by
  iintro ⟨H1, H2, H3, H4, H5, ⟨⟨%f6, H6⟩, ⟨%f7, H7⟩⟩, Hk⟩
  iapply (sound_kernel c i M1 h1 M2 h2 M3 h3 M4 h4 M5 h5 (Memref.whole cc0_scratch0) (Memref.isWhole_whole _)
    (Memref.whole cc0_scratch1) (Memref.isWhole_whole _) x0 hw x1 x2 x3 K)
  isplitl [H1]; · iexact H1
  isplitl [H2]; · iexact H2
  isplitl [H3]; · iexact H3
  isplitl [H4]; · iexact H4
  isplitl [H5]; · iexact H5
  isplitl [H6]
  · iexists f6; iapply (scratch_in c _ f6); iexact H6
  isplitl [H7]
  · iexists f7; iapply (scratch_in c _ f7); iexact H7
  iintro ⟨H1, H2, H3, H4, H5, ⟨%g6, H6⟩, ⟨%g7, H7⟩⟩
  iapply Hk
  isplitl [H1]; · iexact H1
  isplitl [H2]; · iexact H2
  isplitl [H3]; · iexact H3
  isplitl [H4]; · iexact H4
  isplitl [H5]; · iexact H5
  isplitl [H6]
  · iexists g6; iapply (scratch_out c _ g6); iexact H6
  iexists g7; iapply (scratch_out c _ g7); iexact H7

attribute [local irreducible] outBlock

/-- The body at any point, the scratch taken out of the invariant and put back. -/
theorem sound_body (c : Dev nD) (t : Fin cfg0.N) :
    bodyPre m hw c t ⊢ wp frame (wpE (defs₀ (F := F)) Variants.none c none) Set.univ (bodyAt0 t) (fun _ => bodyPost m hw c t) := by
  unfold bodyPre bodyPost bodyAt0
  simp only [before_0, before_1, before_2, before_3]
  rw [show (dats m hw 0 c).Φ t.succ = (dats m hw 0 c).Φ t.castSucc from rfl,
    show (dats m hw 0 c).owesAt () t.succ = (dats m hw 0 c).owesAt () t.castSucc from rfl,
    show (dats m hw 0 c).Φ t.castSucc = Pipeline.ΦA spec0 c from rfl,
    after_0, after_1, after_2, after_3, after_4]
  unfold Pipeline.ΦA
  rw [scopedRest0_eq]
  iintro ⟨⟨Hs, Hp⟩, Ho, ⟨%d0, H0⟩, ⟨%d1, H1⟩, ⟨%d2, H2⟩, ⟨%d3, H3⟩, ⟨%d4, H4⟩⟩
  iapply (sound_kernel_scratch c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3))
    _ (hstage0_4 ((cfg0.slots t 4).cast nbuf0_4))
    (iblk m c 0 t) (hw c t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [Hs]; · iexact Hs
  iintro ⟨H0, H1, H2, H3, H4, Hs⟩
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m hw 0 c) (defs₀ (F := F)) Variants.none () Set.univ := fun t => by
  rw [bigSep_W0, bigSep_W0, defs₀_row]
  exact triple_restated (sound_body m hw c t) rfl .rfl fun _ => .rfl

/-! ## The run and the frame -/

set_option backward.isDefEq.respectTransparency.types false in
set_option maxHeartbeats 800000 in
/-- Every execution ends, with the arrays the windows stage at what the proof data says, the rest as launched and every counter at zero. -/
theorem run_quiescent : θ_run defs (onTc (τ := τ) (main (F := F))) (s₀ m ρ)
    (fun r => (Pipeline.FramePost cfgs (dats m hw) 0 (V m)) r ∧ r.2.sem = fun _ => 0) :=
  Pipeline.θ_run_frame (Q' := _) cfgs (dats m hw) (0 : Fin 1) launch0 defs₀ Variants.none m ρ main
    (hbody := fun c => (body_obligation m hw c).loose) (hshare := fun c => (dats m hw 0 c).share_full fun _ => rfl)
    (howed := fun _ _ => rfl) (V := V m) (hmain := hmain m Variants.none) (hA := A_eq m hw) (hΦ := fun _ _ => rfl)

/-- The same without the counters. -/
theorem run_main : θ_run defs (onTc (τ := τ) (main (F := F))) (s₀ m ρ) (Pipeline.FramePost cfgs (dats m hw) 0 (V m)) :=
  (θ_run defs _ _).mono (fun _ h => h.1) (run_quiescent m ρ hw)

include hw in
/-- THE FRAME: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨?_, h.2⟩) (run_quiescent m ρ hw)
  exact fun c => ⟨((h.1 c).2 main_arg0 (Pipeline.mem_restRefs_of main_arg0 (by decide) (by decide))).trans (V_main_arg0 m c),
      ((h.1 c).1 1).trans (((dats m hw 0 c).arrAt_in 1 rfl _).trans ((A_eq m hw c 1).trans (V_main_arg1 m c))),
      ((h.1 c).1 2).trans (((dats m hw 0 c).arrAt_in 2 rfl _).trans ((A_eq m hw c 2).trans (V_main_arg2 m c))),
      ((h.1 c).2 main_arg3 (Pipeline.mem_restRefs_of main_arg3 (by decide) (by decide))).trans (V_main_arg3 m c)⟩

end Cert.Proof.ScoresIdeal
-- ==== Proof.ScoreValue.lean ====
module

public import proofs.«01_k».proof.Proof.ScoreBody
public import proofs.«01_k».proof.Proof.GatherValue
public import proofs.«01_k».proof.Proof.Gen.ScoresRefIdeal.Run
public import proofs.«01_k».proof.Proof.Gen.Pre_words_in_table
public import Idealize.ShloMosaic.Lib.Pipeline.Value
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proof.ScoresIdeal

open Cert.ScoresIdeal Cert.ScoresIdeal.Gen

/-! ## The pieces of a trip, read at an index -/

/-- Row `8 n + s` of the products' scratch is row `s` of the `n`-th pair's products, for the pairs stored. -/
theorem canon_pieces {F : FTy → Type} [FloatOps F] (g : ℕ → FVec F S8x128 .f32) (N : ℕ) (hN : N ≤ 64) (R : Fin 512) (l : Fin 128)
    (hR : R.val / 8 < N) :
    View.canon (Val := Elt F) (e := .f32) (pieces g N) (ix2 R l) = g (R.val / 8) (ix2 (⟨R.val % 8, by omega⟩ : Fin 8) l) := by
  induction N with
  | zero => omega
  | succ n ih =>
    by_cases h : R.val / 8 = n
    · have e : (ix2 R l : S512x128.Idx) = (Rect.unit (s := S512x128) ![8 * (n % 64), 0] S8x128.size (piece_inb n)).emb (ix2 (⟨R.val % 8, by omega⟩ : Fin 8) l) := by
        funext a
        refine Fin.ext ?_
        match a with
        | ⟨0, _⟩ => show R.val = 8 * (n % 64) + 1 * (R.val % 8); omega
        | ⟨1, _⟩ => show l.val = 0 + 1 * l.val; omega
      rw [e, h]
      exact View.canon_cons_emb _ _ _ _
    · rw [pieces, View.canon_cons_of_not_mem, ih (by omega) (by omega)]
      rw [Rect.mem_set_unit]
      intro hm
      have := hm 0
      have h1 : 8 * (n % 64) ≤ R.val := this.1
      have h2 : R.val < 8 * (n % 64) + 8 := this.2
      omega

theorem off4 : ∀ k : Fin k0_t1_loop.trips, k0_off4 k 0 = k.val ∧ k0_off4 k 1 = 0 := by decide +kernel

/-- The place trip `k` reads its `j`-th word from: row `k`, column `j`. -/
theorem wordIdx_eq (k j : Fin 128) : wordIdx (trp k) j = ix2 k j := by
  have e : ((Rect.unit (s := S128) ![j.val] S1.size (words_inb j)).idx (Shape.Idx.first (show 0 < S1.numel by decide)) : S128.Idx) = ix1 j := by
    funext a
    refine Fin.ext ?_
    match a with
    | ⟨0, _⟩ => show j.val + 1 * 0 = j.val; omega
  have q : shapeCast (α := S1x128.Idx) S128 (fun y : S1x128.Idx => y) (Shape.Squeezes.numel_eq squeezes_S1x128_S128) (ix1 j)
      = ix2 (0 : Fin 1) j := by
    pointwise
  have q' : (Shape.reshapeEquiv (Shape.Squeezes.numel_eq squeezes_S1x128_S128)).toEmbedding (ix1 j) = (ix2 (0 : Fin 1) j : S1x128.Idx) := q
  unfold wordIdx
  rw [e, q']
  funext a
  refine Fin.ext ?_
  match a with
  | ⟨0, _⟩ => show k0_off4 (trp k) 0 + 1 * 0 = k.val; rw [(off4 _).1]; rfl
  | ⟨1, _⟩ => show k0_off4 (trp k) 1 + 1 * j.val = j.val; rw [(off4 _).2]; omega

/-- The eight rows a word names, read at an index. -/
theorem block_apply (words : S128x128.Idx → BitVec 32) (hw : ∀ y, InTab (words y)) (tab : S65544x128.Idx → BitVec 32)
    (k j : Fin 128) (a : Fin 8) (l : Fin 128) :
    block words hw tab (trp k) j (ix2 a l)
      = tab (ix2 (⟨(words (ix2 k j)).toNat + a.val, by have := (hw (ix2 k j)).2; have := a.isLt; omega⟩ : Fin 65544) l) := by
  unfold block
  refine congrArg tab (funext fun x => Fin.ext ?_)
  match x with
  | ⟨0, _⟩ =>
    show (words (wordIdx (trp k) j)).toNat + 1 * a.val = _
    rw [wordIdx_eq]
    show (words (ix2 k j)).toNat + 1 * a.val = (words (ix2 k j)).toNat + a.val
    omega
  | ⟨1, _⟩ => show 0 + 1 * l.val = l.val; omega

/-- The eight rows' low columns of a token, four rows twice, -/
theorem low_apply (xr : Vec Ideal S1x1024 .f32) (s : Fin 8) (l : Fin 128) :
    k0_pay7 xr (ix2 s l) = xr (ix2 (0 : Fin 1) (⟨s.val % 4 * 128 + l.val, by omega⟩ : Fin 1024)) := by
  pointwise [k0_pay7, k0_pay6]
  split
  · refine congrArg (fun e => xr (ix2 (0 : Fin 1) e)) (Fin.ext ?_); show s.val * 128 + l.val = s.val % 4 * 128 + l.val; omega
  · refine congrArg (fun e => xr (ix2 (0 : Fin 1) e)) (Fin.ext ?_); show (s.val - 4) * 128 + l.val = s.val % 4 * 128 + l.val; omega

/-- and its high ones. -/
theorem high_apply (xr : Vec Ideal S1x1024 .f32) (s : Fin 8) (l : Fin 128) :
    k0_pay8 xr (ix2 s l) = xr (ix2 (0 : Fin 1) (⟨512 + (s.val % 4 * 128 + l.val), by omega⟩ : Fin 1024)) := by
  pointwise [k0_pay8, k0_pay6]
  split
  · refine congrArg (fun e => xr (ix2 (0 : Fin 1) e)) (Fin.ext ?_); show (4 + s.val) * 128 + l.val = 512 + (s.val % 4 * 128 + l.val); omega
  · refine congrArg (fun e => xr (ix2 (0 : Fin 1) e)) (Fin.ext ?_); show (4 + (s.val - 4)) * 128 + l.val = 512 + (s.val % 4 * 128 + l.val); omega

/-- A pair's products: the first word's rows in the upper half, the second's in the lower. -/
theorem pair_apply (a b : FVec Ideal S8x128 .f32) (u v : IVec S8x128 32) (s : Fin 8) (l : Fin 128) (w : BitVec 32)
    (hw : w = if s.val < 4 then u (ix2 s l) else v (ix2 s l)) :
    k0_pay2 (F := Ideal) a b (k0_pay9 (F := Ideal) u) v (ix2 s l)
      = (Ideal.ofBits .f32 (IntOp.shli .vector w 16#32) * (a (ix2 s l) : EReal) + Ideal.ofBits .f32 (IntOp.andi w 4294901760#32) * (b (ix2 s l) : EReal) : EReal) := by
  pointwise [k0_pay2, k0_pay9]
  have e : Scalar.select (IntOp.cmpi CmpIPredicate.slt (BitVec.ofNat 32 s.val) 4#32) (u (ix2 s l)) (v (ix2 s l)) = w := by
    rw [hw]
    have h : ∀ s : Fin 8, IntOp.cmpi CmpIPredicate.slt (BitVec.ofNat 32 s.val) 4#32 = if s.val < 4 then 1#1 else 0#1 := by decide
    rw [h]
    by_cases h4 : s.val < 4
    · rw [if_pos h4, if_pos h4]; rfl
    · rw [if_neg h4, if_neg h4]; rfl
  rw [e]

/-- The partial sums, read at a row and lane. -/
theorem partialsOf_apply (g : ℕ → FVec Ideal S8x128 .f32) (p l : Fin 128) :
    partialsOf g (ix3 (0 : Fin 1) p l)
      = ∑ r : Fin 4, (g (p.val / 2) (ix2 (⟨p.val % 2 * 4 + r.val, by omega⟩ : Fin 8) l) : EReal) := by
  unfold partialsOf
  pointwise [k0_pay3]
  have h : ∀ (r : ℕ) (hr : r < 4) (R : Fin 512), R.val = r + 4 * p.val → View.canon (Val := Elt Ideal) (e := .f32) (pieces g 64) (ix2 R l)
      = g (p.val / 2) (ix2 (⟨p.val % 2 * 4 + r, by omega⟩ : Fin 8) l) := by
    intro r hr R hR
    have e1 : R.val / 8 = p.val / 2 := by omega
    have e2 : R.val % 8 = p.val % 2 * 4 + r := by omega
    rw [canon_pieces g 64 le_rfl R l (by omega), e1]
    exact congrArg (fun s => g (p.val / 2) (ix2 s l)) (Fin.ext e2)
  rw [h 0 (by omega) _ (Nat.zero_add _).symm, h 1 (by omega) _ rfl, h 2 (by omega) _ rfl, h 3 (by omega) _ rfl, Fin.sum_univ_four]
  rfl

/-- The smooth step of a sum, gated. -/
def gated (a g : EReal) : EReal :=
  (Ideal.ofBits .f32 0x3F000000#32 * a) * (1 + (FloatOps.erf (F := Ideal) (φ := .f32) (a * Ideal.ofBits .f32 0x3F3504F3#32) : EReal)) * g

/-- The row's value of its partial sums: summed over the lanes, the smooth step, the gate. -/
theorem pay4_apply (v : Vec Ideal S1x128x128 .f32) (w : Vec Ideal S1x128 .f32) (k : Fin 128) :
    k0_pay4 v w (ix2 (0 : Fin 1) k) = gated (∑ l : Fin 128, (v (ix3 (0 : Fin 1) k l) : EReal)) (w (ix2 (0 : Fin 1) k)) := by
  pointwise [k0_pay4, gated]

/-! ## The host's arrays -/

variable (m : (ℓ : Loc nD τ sig) → Buf (Elt Ideal) ℓ) (ρ : Dev nD → PrngReg)

/-- The columns' remainders by two, as the host takes them. -/
def rem2 : IVec S128 32 :=
  let d : IVec S_ 32 := select (cmpi .eq (constantI S_ 32 2#32) (constantI S_ 32 0#32)) (constantI S_ 32 1#32) (constantI S_ 32 2#32)
  let b : IVec S128 32 := broadcastInDim S128 ![] bcast_S_S128 d
  let z : IVec S128 32 := broadcastInDim S128 ![] bcast_S_S128 (constantI S_ 32 0#32)
  let r : IVec S128 32 := Host.remsi (iotaInDim S128 32 0) b
  select (andi (cmpi .ne (cmpi .slt r z) (broadcastInDim S128 ![] bcast_S_S128 (cmpi .slt d (constantI S_ 32 0#32)))) (cmpi .ne r z)) (addi r b) r

/-- The start words: each index word, four more in the even columns. -/
theorem V_starts (c : Dev nD) (t : Fin 32768) (j : Fin 128) : V m c main_v8 (ix2 t j)
    = IntOp.addi (m ((c : Thread nD τ).loc main_arg0) (ix2 t j)) (if j.val % 2 = 0 then 4#32 else 0#32) := by
  have hv : V m c main_v8 = addi (m ((c : Thread nD τ).loc main_arg0)) (broadcastInDim S32768x128 ![0, 1] bcast_S1x128_S32768x128_0_1
      (muli (broadcastInDim S1x128 ![] bcast_S_S1x128 (constantI S_ 32 4#32))
        (broadcastInDim S1x128 ![1] bcast_S128_S1x128_1 (subi (broadcastInDim S128 ![] bcast_S_S128 (constantI S_ 32 1#32)) rem2)))) := by
    unfold V
    simp only [hostOps0, hostOps0_1, hostOps0_2, hostOps0_3, List.flatten_cons, List.flatten_nil, List.append_nil, List.cons_append, List.nil_append]
    after_results
    rfl
  rw [hv]
  pointwise [rem2]
  refine congrArg (IntOp.addi _) ?_
  revert j
  decide +kernel

/-- The packed table between its rows of zeros. -/
theorem V_tab (c : Dev nD) (R : Fin 65536) (l : Fin 128) : V m c main_v17 (ix2 (⟨R.val + 4, by omega⟩ : Fin 65544) l)
    = IntOp.ori ((m ((c : Thread nD τ).loc main_arg3) (ix2 (⟨R.val / 4, by omega⟩ : Fin 16384) (⟨R.val % 4 * 128 + l.val, by omega⟩ : Fin 1024))).setWidth 32)
      (IntOp.shli .host ((m ((c : Thread nD τ).loc main_arg3) (ix2 (⟨R.val / 4, by omega⟩ : Fin 16384) (⟨512 + (R.val % 4 * 128 + l.val), by omega⟩ : Fin 1024))).setWidth 32) 16#32) := by
  unfold V
  simp only [hostOps0, hostOps0_1, hostOps0_2, hostOps0_3, List.flatten_cons, List.flatten_nil, List.append_nil, List.cons_append, List.nil_append]
  after_results
  show pad S65544x128 ![4, 0] ![4, 0] ![0, 0] (shapeCast S65536x128 (ori (extractStridedSlice S16384x512 ![0, 0] (extui 32 (m ((c : Thread nD τ).loc main_arg3)) natLt_16_32) slices_S16384x1024_S16384x512_0_0)
      (Host.shli (extractStridedSlice S16384x512 ![0, 512] (extui 32 (m ((c : Thread nD τ).loc main_arg3)) natLt_16_32) slices_S16384x1024_S16384x512_0_512) (broadcastInDim S16384x512 ![] bcast_S_S16384x512 (constantI S_ 32 16#32))))
      shapeCasts_S16384x512_S65536x128) (constantI S_ 32 0#32) pads_S65536x128_S65544x128_440_000 h_S_ (ix2 (⟨R.val + 4, by omega⟩ : Fin 65544) l) = _
  pointwise
  rw [dif_pos (show R.val + 4 - 4 < 65536 by omega)]
  simp only [Nat.add_sub_cancel]

/-! ## The blocks -/

theorem ind0 : ∀ t : Fin grid0.N, win0_0.index t 0 = t.val ∧ win0_0.index t 1 = 0 := by decide +kernel
theorem ind1 : ∀ t : Fin grid0.N, win0_1.index t 0 = t.val ∧ win0_1.index t 1 = 0 := by decide +kernel
theorem ind2 : ∀ t : Fin grid0.N, win0_2.index t 0 = t.val ∧ win0_2.index t 1 = 0 := by decide +kernel
theorem ind3 : ∀ t : Fin grid0.N, win0_3.index t 0 = 0 ∧ win0_3.index t 1 = 0 := by decide +kernel
theorem ind4 : ∀ t : Fin grid0.N, win0_4.index t 0 = t.val ∧ win0_4.index t 1 = 0 := by decide +kernel

/-- Row `a` of point `t`'s block of token rows. -/
abbrev row (t : Fin cfg0.N) (a : Fin 128) : Fin 32768 :=
  ⟨t.val * 128 + a.val, by have := t.isLt; have h : cfg0.N = 256 := N_0; have := a.isLt; omega⟩

/-- The start words a grid point sees. -/
theorem blk0 (c : Dev nD) (t : Fin cfg0.N) (a b : Fin 128) :
    iblk m c 0 t (ix2 a b) = V m c main_v8 (ix2 (row t a) b) := by
  unfold iblk
  refine congrArg (V m c main_v8) (funext fun x => Fin.ext ?_)
  match x with
  | ⟨0, _⟩ => show win0_0.index t 0 * 128 + 1 * a.val = _; rw [(ind0 t).1]; show _ = t.val * 128 + a.val; omega
  | ⟨1, _⟩ => show win0_0.index t 1 * 128 + 1 * b.val = _; rw [(ind0 t).2]; show _ = b.val; omega

/-- The tokens a grid point sees. -/
theorem blk1 (c : Dev nD) (t : Fin cfg0.N) (a : Fin 128) (d : Fin 1024) :
    iblk m c 1 t (ix2 a d) = m ((c : Thread nD τ).loc main_arg1) (ix2 (row t a) d) := by
  unfold iblk
  rw [show V m c (Pipeline.arrRef spec0 1) = m ((c : Thread nD τ).loc main_arg1) from V_main_arg1 m c]
  refine congrArg (m ((c : Thread nD τ).loc main_arg1)) (funext fun x => Fin.ext ?_)
  match x with
  | ⟨0, _⟩ => show win0_1.index t 0 * 128 + 1 * a.val = _; rw [(ind1 t).1]; show _ = t.val * 128 + a.val; omega
  | ⟨1, _⟩ => show win0_1.index t 1 * 1024 + 1 * d.val = _; rw [(ind1 t).2]; show _ = d.val; omega

/-- The gates a grid point sees. -/
theorem blk2 (c : Dev nD) (t : Fin cfg0.N) (a b : Fin 128) :
    iblk m c 2 t (ix2 a b) = m ((c : Thread nD τ).loc main_arg2) (ix2 (row t a) b) := by
  unfold iblk
  rw [show V m c (Pipeline.arrRef spec0 2) = m ((c : Thread nD τ).loc main_arg2) from V_main_arg2 m c]
  refine congrArg (m ((c : Thread nD τ).loc main_arg2)) (funext fun x => Fin.ext ?_)
  match x with
  | ⟨0, _⟩ => show win0_2.index t 0 * 128 + 1 * a.val = _; rw [(ind2 t).1]; show _ = t.val * 128 + a.val; omega
  | ⟨1, _⟩ => show win0_2.index t 1 * 128 + 1 * b.val = _; rw [(ind2 t).2]; show _ = b.val; omega

/-- The packed table, whole at every grid point. -/
theorem blk3 (c : Dev nD) (t : Fin cfg0.N) (R : Fin 65544) (l : Fin 128) :
    iblk m c 3 t (ix2 R l) = V m c main_v17 (ix2 R l) := by
  unfold iblk
  refine congrArg (V m c main_v17) (funext fun x => Fin.ext ?_)
  match x with
  | ⟨0, _⟩ => show win0_3.index t 0 * 65544 + 1 * R.val = _; rw [(ind3 t).1]; show _ = R.val; omega
  | ⟨1, _⟩ => show win0_3.index t 1 * 128 + 1 * l.val = _; rw [(ind3 t).2]; show _ = l.val; omega

/-- The precondition says what the kernel's checks ask. -/
theorem isRow_of_pre (h : ∀ c : Dev nD, Cert.Pre_words_in_table.fn (F := Ideal) (m ((c : Thread nD τ).loc main_arg0))
      (m ((c : Thread nD τ).loc main_arg1)) (m ((c : Thread nD τ).loc main_arg2)) (m ((c : Thread nD τ).loc main_arg3)) = fun _ => 1#1)
    (c : Dev nD) (t : Fin 32768) (j : Fin 128) : Words.IsRow (m ((c : Thread nD τ).loc main_arg0) (ix2 t j)) := by
  have e := congrFun (h c) (ix2 t j)
  pointwise [Cert.Pre_words_in_table.fn] at e
  exact Words.row_of_word e

/-- So every word of every block passes the checks. -/
theorem allInTab (h : ∀ (c : Dev nD) (t : Fin 32768) (j : Fin 128), Words.IsRow (m ((c : Thread nD τ).loc main_arg0) (ix2 t j))) :
    AllInTab m := by
  intro c t y
  obtain ⟨a, b, rfl⟩ : ∃ a b : Fin 128, y = ix2 a b := ⟨y 0, y 1, eq_ix2 y⟩
  rw [blk0 m c t a b, V_starts]
  have hr := h c (row t a) b
  unfold InTab
  rw [Words.start_toNat hr]
  obtain ⟨⟨q, hq⟩, h2⟩ := hr
  split <;> omega

/-! ## The layer's scores -/

/-- A sum over the lanes of both halves of four rows is the sum over the 1024 columns. -/
theorem sum_cols (f : Fin 1024 → EReal) :
    (∑ l : Fin 128, ∑ r : Fin 4, (f ⟨r.val * 128 + l.val, by omega⟩ + f ⟨512 + (r.val * 128 + l.val), by omega⟩)) = ∑ d : Fin 1024, f d := by
  rw [← (finProdFinEquiv : Fin 8 × Fin 128 ≃ Fin 1024).sum_comp, Fintype.sum_prod_type, Finset.sum_comm]
  refine Eq.trans ?_ (Fin.sum_univ_add (M := EReal) (a := 4) (b := 4) fun i : Fin (4 + 4) => ∑ y : Fin 128, f (finProdFinEquiv ((i : Fin 8), y))).symm
  rw [← Finset.sum_add_distrib]
  refine Finset.sum_congr rfl fun r _ => ?_
  rw [← Finset.sum_add_distrib]
  refine Finset.sum_congr rfl fun l _ => congrArg₂ (fun x y : EReal => x + y) (congrArg f (Fin.ext ?_)) (congrArg f (Fin.ext ?_))
  · show r.val * 128 + l.val = l.val + 128 * r.val; omega
  · show 512 + (r.val * 128 + l.val) = l.val + 128 * (4 + r.val); omega

/-- The layer's scores: token `t`'s product with the table row its `k`-th index word names, through the smooth step, gated. -/
def scores (idx : S32768x128.Idx → BitVec 32) (x : S32768x1024.Idx → EReal) (g : S32768x128.Idx → EReal) (tab : S16384x1024.Idx → BitVec 16) :
    S32768x128.Idx → EReal := fun i =>
  gated (∑ d : Fin 1024, x (ix2 (i 0) d) * Ideal.ofBits .bf16 (tab (ix2 (⟨min ((idx (ix2 (i 0) (i 1))).toNat / 4) 16383, by omega⟩ : Fin 16384) d)))
    (g (ix2 (i 0) (i 1)))

/-- The result array. -/
abbrev scoresOf (c : Dev nD) : Buf (Elt Ideal) ((c : Thread nD τ).loc main_v18) :=
  scores (m ((c : Thread nD τ).loc main_arg0)) (m ((c : Thread nD τ).loc main_arg1)) (m ((c : Thread nD τ).loc main_arg2)) (m ((c : Thread nD τ).loc main_arg3))

/-- A token's partial sums, from what its words name. -/
theorem tokenSums_apply (x0 : S128x128.Idx → BitVec 32) (hw : ∀ y, InTab (x0 y)) (x1 : Vec Ideal S128x1024 .f32) (x3 : S65544x128.Idx → BitVec 32)
    (a k l : Fin 128) (w : Fin 4 → BitVec 32)
    (hrow : ∀ (r : Fin 4) (R : Fin 65544), R.val = (x0 (ix2 a k)).toNat + (k.val % 2 * 4 + r.val) → x3 (ix2 R l) = w r) :
    tokenSums x0 hw x1 x3 a (ix3 (0 : Fin 1) k l)
      = ∑ r : Fin 4, (Ideal.ofBits .f32 (IntOp.shli .vector (w r) 16#32) * (x1 (ix2 a (⟨r.val * 128 + l.val, by omega⟩ : Fin 1024)) : EReal)
        + Ideal.ofBits .f32 (IntOp.andi (w r) 4294901760#32) * (x1 (ix2 a (⟨512 + (r.val * 128 + l.val), by omega⟩ : Fin 1024)) : EReal)) := by
  have hx : ∀ d : Fin 1024, View.ld x1 (Rect.unit (s := S128x1024) (k0_off3 (trp a)) S1x1024.size (k0_off3_inb (trp a))) (ix2 (0 : Fin 1) d) = x1 (ix2 a d) := by
    intro d
    refine congrArg x1 (funext fun x => Fin.ext ?_)
    have o := (offs (trp a)).2.1
    match x with
    | ⟨0, _⟩ => show k0_off3 (trp a) 0 + 1 * 0 = a.val; rw [o]; rfl
    | ⟨1, _⟩ => show k0_off3 (trp a) 1 + 1 * d.val = d.val; rw [o]; show 0 + 1 * d.val = d.val; omega
  unfold tokenSums
  rw [partialsOf_apply]
  refine Finset.sum_congr rfl fun r _ => ?_
  unfold prods
  have hs : (k.val % 2 * 4 + r.val) % 4 = r.val := by omega
  rw [pair_apply _ _ _ _ _ _ (w r) ?_, low_apply, high_apply, hx, hx]
  · simp only [hs]
  · have hk := k.isLt
    have hr := r.isLt
    show w r = if k.val % 2 * 4 + r.val < 4 then _ else _
    split
    · rw [show (⟨2 * (k.val / 2) % 128, Nat.mod_lt _ (by decide)⟩ : Fin 128) = k from Fin.ext (by show 2 * (k.val / 2) % 128 = k.val; omega), block_apply]
      exact (hrow r _ rfl).symm
    · rw [show (⟨(2 * (k.val / 2) + 1) % 128, Nat.mod_lt _ (by decide)⟩ : Fin 128) = k from Fin.ext (by show (2 * (k.val / 2) + 1) % 128 = k.val; omega), block_apply]
      exact (hrow r _ rfl).symm

variable (hr : ∀ (c : Dev nD) (t : Fin 32768) (j : Fin 128), Words.IsRow (m ((c : Thread nD τ).loc main_arg0) (ix2 t j)))

/-- The block of outputs a grid point leaves is that block of the layer's scores. -/
theorem outBlock_apply (c : Dev nD) (t : Fin cfg0.N) (a k : Fin 128) :
    outBlock (iblk m c 0 t) (allInTab m hr c t) (iblk m c 1 t) (iblk m c 2 t) (iblk m c 3 t) (ix2 a k) = scoresOf m c (ix2 (row t a) k) := by
  unfold outBlock
  show k0_pay4 (tokenSums (iblk m c 0 t) (allInTab m hr c t) (iblk m c 1 t) (iblk m c 3 t) a) _ (ix2 (0 : Fin 1) k) = _
  rw [pay4_apply]
  unfold scoresOf scores
  refine congrArg₂ gated ?_ ?_
  · obtain ⟨⟨q, hq⟩, h2⟩ := hr c (row t a) k
    rw [← sum_cols]
    refine Finset.sum_congr rfl fun l _ => ?_
    rw [tokenSums_apply (w := fun r => IntOp.ori ((m ((c : Thread nD τ).loc main_arg3) (ix2 (⟨min ((m ((c : Thread nD τ).loc main_arg0) (ix2 (row t a) k)).toNat / 4) 16383, by omega⟩ : Fin 16384) (⟨r.val * 128 + l.val, by omega⟩ : Fin 1024))).setWidth 32)
        (IntOp.shli .host ((m ((c : Thread nD τ).loc main_arg3) (ix2 (⟨min ((m ((c : Thread nD τ).loc main_arg0) (ix2 (row t a) k)).toNat / 4) 16383, by omega⟩ : Fin 16384) (⟨512 + (r.val * 128 + l.val), by omega⟩ : Fin 1024))).setWidth 32) 16#32)) (hrow := ?_)]
    · refine Finset.sum_congr rfl fun r _ => ?_
      rw [Words.pack_low, Words.pack_high, Words.widen, Words.widen, blk1, blk1, mul_comm (Ideal.ofBits _ _), mul_comm (Ideal.ofBits _ _)]
      rfl
    · intro r R hR
      have hst : (iblk m c 0 t (ix2 a k)).toNat = (m ((c : Thread nD τ).loc main_arg0) (ix2 (row t a) k)).toNat + (if k.val % 2 = 0 then 4 else 0) := by
        rw [blk0, V_starts, Words.start_toNat (hr c (row t a) k)]
      rw [hst] at hR
      have hR' : R.val = ((m ((c : Thread nD τ).loc main_arg0) (ix2 (row t a) k)).toNat + r.val) + 4 := by
        split at hR <;> omega
      rw [blk3, show R = ⟨((m ((c : Thread nD τ).loc main_arg0) (ix2 (row t a) k)).toNat + r.val) + 4, by omega⟩ from Fin.ext hR',
        V_tab m c ⟨(m ((c : Thread nD τ).loc main_arg0) (ix2 (row t a) k)).toNat + r.val, by omega⟩ l]
      have e1 : ((m ((c : Thread nD τ).loc main_arg0) (ix2 (row t a) k)).toNat + r.val) / 4 = min ((m ((c : Thread nD τ).loc main_arg0) (ix2 (row t a) k)).toNat / 4) 16383 := by omega
      have e2 : ((m ((c : Thread nD τ).loc main_arg0) (ix2 (row t a) k)).toNat + r.val) % 4 = r.val := by omega
      simp only [e1, e2]
  · refine Eq.trans ?_ (blk2 m c t a k)
    refine congrArg (iblk m c 2 t) (funext fun x => Fin.ext ?_)
    match x with
    | ⟨0, _⟩ => rfl
    | ⟨1, _⟩ => show 0 + 1 * k.val = k.val; omega

/-- What a grid point writes back is its block of the layer's scores. -/
theorem flushed_eq (c : Dev nD) (t : Fin cfg0.N) :
    (dats m (allInTab m hr) 0 c).flushed 4 t = (win0_4.blk t).view.read (Elt Ideal) (scoresOf m c) := by
  show (cfg0.win 4).cut (grid0.coords t) ((dats m (allInTab m hr) 0 c).after 4 t) = _
  rw [after_4]
  funext y
  refine (congrArg (outBlock (iblk m c 0 t) (allInTab m hr c t) (iblk m c 1 t) (iblk m c 2 t) (iblk m c 3 t)) (eq_ix2 (n0 := 128) (n1 := 128) y)).trans ?_
  refine (outBlock_apply m hr c t (y 0) (y 1)).trans ?_
  refine congrArg (scoresOf m c) (funext fun x => Fin.ext ?_)
  match x with
  | ⟨0, _⟩ => show t.val * 128 + (y 0).val = win0_4.index t 0 * 128 + 1 * (y 0).val; rw [(ind4 t).1]; omega
  | ⟨1, _⟩ => show (y 1).val = win0_4.index t 1 * 128 + 1 * (y 1).val; rw [(ind4 t).2]; omega

/-- The blocks tile the result. -/
theorem cover (i : S32768x128.Idx) :
    ∃ t : Fin cfg0.N, (cfg0.win 4).flush t = true ∧ i ∈ ((cfg0.win 4).blk t).view.set := by
  have h0 : (i 0).val < 32768 := (i 0).isLt
  have h1 : (i 1).val < 128 := (i 1).isLt
  have hN : cfg0.N = 256 := N_0
  obtain ⟨t, ht⟩ : ∃ t : Fin cfg0.N, t.val = (i 0).val / 128 := ⟨⟨(i 0).val / 128, by omega⟩, rfl⟩
  refine ⟨t, flush0_4 t, ?_⟩
  show i ∈ ((View.whole main_v18).slice (win0_4.rect t)).set
  rw [View.set_slice_whole, Rect.mem_set_unit]
  intro a
  match a with
  | ⟨0, _⟩ =>
    show win0_4.index t 0 * 128 ≤ (i 0).val ∧ (i 0).val < win0_4.index t 0 * 128 + 128
    rw [(ind4 t).1]; omega
  | ⟨1, _⟩ =>
    show win0_4.index t 1 * 128 ≤ (i 1).val ∧ (i 1).val < win0_4.index t 1 * 128 + 128
    rw [(ind4 t).2]; omega

/-- So the result array ends at the layer's scores. -/
theorem final (c : Dev nD) : (dats m (allInTab m hr) 0 c).arrAt 4 cfg0.N = scoresOf m c :=
  (dats m (allInTab m hr) 0 c).arrAt_eq_of_cover 4 (scoresOf m c) (fun t _ => flushed_eq m hr c t) cover

include hr in
/-- The run: the result array at the layer's scores, the arguments unchanged. -/
theorem run_value : θ_run defs (onTc (τ := τ) (main (F := Ideal))) ⟨m, fun _ => 0, ρ⟩ fun r => ∀ c : Dev nD,
      r.2.mem ((c.tc : Thread nD τ).loc main_v18) = scoresOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (run_main m ρ (allInTab m hr)) (frame m ρ (allInTab m hr))) fun _ h c => ⟨((h.1 c).1 4).trans (final m hr c), h.2.1 c⟩

end Cert.Proof.ScoresIdeal

namespace Cert.ScoresRefIdeal.RefValue

open Cert.ScoresRefIdeal Cert.ScoresRefIdeal.Gen

/-- The table rows a token's products are taken with, and the products' sums. -/
abbrev dots (a0 : IVec S32768x128 32) (a1 : FVec Ideal S32768x1024 .f32) (a3 : IVec S16384x1024 16) : FVec Ideal S32768x128 .f32 :=
  Host.dotGeneral dot_S32768x1024_S32768x128x1024_S32768x128_1_2_n_1_0_0 none a1
    (Host.gather gather_S16384x1024_S32768x128x1_S32768x128x1024_2_0_n_n_0_2_11024 (extf .f32 (bitcastToFloat (F := Ideal) .bf16 a3) bitsLt_bf16_f32) (Cert.ReferenceIdeal.RefValue.rowsOf a0))

theorem dots_apply (a0 : IVec S32768x128 32) (a1 : FVec Ideal S32768x1024 .f32) (a3 : IVec S16384x1024 16) (t : Fin 32768) (k : Fin 128)
    (h : Cert.Proof.Words.IsRow (a0 (ix2 t k))) :
    dots a0 a1 a3 (ix2 t k) = ∑ d : Fin 1024, (a1 (ix2 t d) : EReal)
      * Ideal.ofBits .bf16 (a3 (ix2 (⟨min ((a0 (ix2 t k)).toNat / 4) 16383, by omega⟩ : Fin 16384) d)) := by
  pointwise [dots]
  refine Finset.sum_congr rfl fun d _ => congrArg (fun e : EReal => (a1 (ix2 t d) : EReal) * e) ?_
  refine (Cert.ReferenceIdeal.RefValue.gather_apply _ _ t k d).trans ?_
  have e : min ((a0 (ix2 t k)).toNat / 4) 16383 = (a0 (ix2 t k)).toNat / 4 := by have := h.2; omega
  simp only [Cert.ReferenceIdeal.RefValue.rowsOf_apply a0 t k h.2, e]
  rfl

/-- The reference's result is the layer's scores. -/
theorem ref_eq (a0 : IVec S32768x128 32) (a1 : FVec Ideal S32768x1024 .f32) (a2 : FVec Ideal S32768x128 .f32) (a3 : IVec S16384x1024 16)
    (h : ∀ (t : Fin 32768) (k : Fin 128), Cert.Proof.Words.IsRow (a0 (ix2 t k))) :
    mulf (mulf (mulf (broadcastInDim S32768x128 ![] bcast_S_S32768x128 (constant S_ .f32 0x3F000000#32)) (dots a0 a1 a3))
        (addf (broadcastInDim S32768x128 ![] bcast_S_S32768x128 (constant S_ .f32 0x3F800000#32))
          (Host.erf (mulf (dots a0 a1 a3) (broadcastInDim S32768x128 ![] bcast_S_S32768x128 (constant S_ .f32 0x3F3504F3#32)))))) a2
      = Cert.Proof.ScoresIdeal.scores a0 a1 a2 a3 := by
  funext i
  obtain ⟨t, k, rfl⟩ : ∃ (t : Fin 32768) (k : Fin 128), i = ix2 t k := ⟨i 0, i 1, eq_ix2 i⟩
  have hd := dots_apply a0 a1 a3 t k (h t k)
  generalize dots a0 a1 a3 = D at hd
  pointwise [Cert.Proof.ScoresIdeal.scores, Cert.Proof.ScoresIdeal.gated]
  rw [hd]
  rfl

end Cert.ScoresRefIdeal.RefValue

namespace Cert.Proof

/-- The value of the scoring call: under the precondition on its index words, the kernel's result is the reference's. -/
theorem algebraic_ScoresIdeal_ScoresRefIdeal : Cert.algebraic_ScoresIdeal_ScoresRefIdeal := by
  intro m g m' g' hpre hargs
  have hr := ScoresIdeal.isRow_of_pre m hpre
  refine ⟨fun c => ScoresIdeal.scoresOf m c, ScoresIdeal.run_value m g hr, ?_⟩
  refine θ_run_mono (Cert.ScoresRefIdeal.Value.run m' g') fun _ h c => ⟨(h c).1.trans ?_, (h c).2⟩
  rw [(hargs c).1, (hargs c).2.1, (hargs c).2.2.1, (hargs c).2.2.2]
  exact Cert.ScoresRefIdeal.RefValue.ref_eq _ _ _ _ (fun t k => hr c t k)

end Cert.Proof
-- ==== Proof.WordScorePre.lean ====
module

public import proofs.«01_k».proof.Proof.WordScoreBody
public import proofs.«01_k».proof.Proof.Words
public import proofs.«01_k».proof.Proof.Gen.Pre_words_in_table
public import Idealize.ShloMosaic.Lib.Pointwise

@[expose] public section

set_option maxRecDepth 16384

noncomputable section

open Idealize.ShloMosaic Idealize.ShloMosaic.TcCoe Idealize.SL.Sem

namespace Cert.Proof.Scores

open Cert.Scores Cert.Scores.Gen

variable (m : (ℓ : Loc nD τ sig) → Buf (Elt Bits) ℓ)

/-- The columns' remainders by two, as the host takes them. -/
def rem2 : IVec S128 32 :=
  let d : IVec S_ 32 := select (cmpi .eq (constantI S_ 32 2#32) (constantI S_ 32 0#32)) (constantI S_ 32 1#32) (constantI S_ 32 2#32)
  let b : IVec S128 32 := broadcastInDim S128 ![] bcast_S_S128 d
  let z : IVec S128 32 := broadcastInDim S128 ![] bcast_S_S128 (constantI S_ 32 0#32)
  let r : IVec S128 32 := Host.remsi (iotaInDim S128 32 0) b
  select (andi (cmpi .ne (cmpi .slt r z) (broadcastInDim S128 ![] bcast_S_S128 (cmpi .slt d (constantI S_ 32 0#32)))) (cmpi .ne r z)) (addi r b) r

/-- The start words: each index word, four more in the even columns. -/
theorem V_starts (c : Dev nD) (t : Fin 32768) (j : Fin 128) : V m c main_v8 (ix2 t j)
    = IntOp.addi (m ((c : Thread nD τ).loc main_arg0) (ix2 t j)) (if j.val % 2 = 0 then 4#32 else 0#32) := by
  have hv : V m c main_v8 = addi (m ((c : Thread nD τ).loc main_arg0)) (broadcastInDim S32768x128 ![0, 1] bcast_S1x128_S32768x128_0_1
      (muli (broadcastInDim S1x128 ![] bcast_S_S1x128 (constantI S_ 32 4#32))
        (broadcastInDim S1x128 ![1] bcast_S128_S1x128_1 (subi (broadcastInDim S128 ![] bcast_S_S128 (constantI S_ 32 1#32)) rem2)))) := by
    unfold V
    simp only [hostOps0, hostOps0_1, hostOps0_2, hostOps0_3, List.flatten_cons, List.flatten_nil, List.append_nil, List.cons_append, List.nil_append]
    after_results
    rfl
  rw [hv]
  pointwise [rem2]
  refine congrArg (IntOp.addi _) ?_
  revert j
  decide +kernel

theorem ind0 : ∀ t : Fin grid0.N, win0_0.index t 0 = t.val ∧ win0_0.index t 1 = 0 := by decide +kernel

/-- Row `a` of point `t`'s block of token rows. -/
abbrev row (t : Fin cfg0.N) (a : Fin 128) : Fin 32768 :=
  ⟨t.val * 128 + a.val, by have := t.isLt; have h : cfg0.N = 256 := N_0; have := a.isLt; omega⟩

/-- The start words a grid point sees. -/
theorem blk0 (c : Dev nD) (t : Fin cfg0.N) (a b : Fin 128) :
    iblk m c 0 t (ix2 a b) = V m c main_v8 (ix2 (row t a) b) := by
  unfold iblk
  refine congrArg (V m c main_v8) (funext fun x => Fin.ext ?_)
  match x with
  | ⟨0, _⟩ => show win0_0.index t 0 * 128 + 1 * a.val = _; rw [(ind0 t).1]; show _ = t.val * 128 + a.val; omega
  | ⟨1, _⟩ => show win0_0.index t 1 * 128 + 1 * b.val = _; rw [(ind0 t).2]; show _ = b.val; omega

/-- The precondition lets every word of every block of the machine program pass its checks. -/
theorem allInTab (h : ∀ c : Dev nD, Cert.Pre_words_in_table.fn (F := Bits) (m ((c : Thread nD τ).loc main_arg0))
      (m ((c : Thread nD τ).loc main_arg1)) (m ((c : Thread nD τ).loc main_arg2)) (m ((c : Thread nD τ).loc main_arg3)) = fun _ => 1#1) : AllInTab m := by
  intro c t y
  obtain ⟨a, b, rfl⟩ : ∃ a b : Fin 128, y = ix2 a b := ⟨y 0, y 1, eq_ix2 y⟩
  rw [blk0 m c t a b, V_starts]
  have e := congrFun (h c) (ix2 (row t a) b)
  pointwise [Cert.Pre_words_in_table.fn] at e
  have hr := Words.row_of_word e
  unfold InTab
  rw [Words.start_toNat hr]
  obtain ⟨⟨q, hq⟩, h2⟩ := hr
  split <;> omega

end Cert.Proof.Scores
-- ==== Proof.DeltaIdealSafe.lean ====
module

public import proofs.«01_k».proof.Defs
public import proofs.«01_k».proof.Proof.Gen.DeltaIdeal
public import proofs.«01_k».proof.Proof.Gen.DeltaIdeal.Skeleton
public import Idealize.ShloMosaic.Lib.Tactic
public import proofs.«01_k».proof.Proof.Gen.DeltaIdeal.Frame

@[expose] public section

noncomputable section

namespace Cert.Proof.DeltaIdeal

open Cert.DeltaIdeal Cert.DeltaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-! ## Programs that keep what they are given -/

/-- From `R` the program ends without fault and hands `R` back. -/
def Safe (c : Dev nD) (R : sProp 𝕄) {α : Type} (p : Prog (TpuEff nD τ sig (Elt F) Λ₀ .tc) α) : Prop :=
  R ⊢ wp frame (wpE (defs₀ (F := F)) Variants.none c none) Set.univ p (fun _ => R)

/-- `R` holds the buffer at some contents and takes it back at the same. -/
def Lends (c : Dev nD) (R : sProp 𝕄) {sp : Space} {S : Shape} {e : EltTy} (M : Memref sig .tc sp S e) : Prop :=
  R ⊢ iprop(∃ f, pt c M f ∗ (pt c M f -∗ R))

/-- `R` holds the buffer at some contents and takes it back at any. -/
def Gives (c : Dev nD) (R : sProp 𝕄) {sp : Space} {S : Shape} {e : EltTy} (M : Memref sig .tc sp S e) : Prop :=
  R ⊢ iprop(∃ f, pt c M f ∗ (∀ g, pt c M g -∗ R))

theorem Gives.lends {c : Dev nD} {R : sProp 𝕄} {sp : Space} {S : Shape} {e : EltTy} {M : Memref sig .tc sp S e} (h : Gives (F := F) c R M) : Lends (F := F) c R M := by
  refine h.trans ?_
  iintro ⟨%f, H, Hk⟩
  iexists f
  isplitl [H]; · iexact H
  iintro H
  iapply Hk; iexact H

theorem Safe.pure {c : Dev nD} {R : sProp 𝕄} {α : Type} (a : α) : Safe (F := F) c R (Pure.pure a) := by
  unfold Safe
  rw [wp_pure]
  iintro H
  imodintro
  iexact H

theorem Safe.bind {c : Dev nD} {R : sProp 𝕄} {α β : Type} {p : Prog (TpuEff nD τ sig (Elt F) Λ₀ .tc) α} {k : α → Prog (TpuEff nD τ sig (Elt F) Λ₀ .tc) β}
    (h : Safe c R p) (hk : ∀ a, Safe c R (k a)) : Safe c R (p >>= k) := by
  unfold Safe at *
  rw [wp_bind]
  exact h.trans (wp_mono _ _ _ hk)

theorem Safe.loop {c : Dev nD} {R : sProp 𝕄} {σ : Type} {l : Scf.Loop 32} {ok : l.OK} {init : σ} {body : Fin l.trips → σ → Prog (TpuEff nD τ sig (Elt F) Λ₀ .tc) σ}
    (h : ∀ k acc, Safe c R (body k acc)) : Safe c R (Scf.Loop.for l ok init body) := by
  unfold Safe at *
  refine BIBase.Entails.trans ?_ (Scf.wp_for frame (wpE (defs₀ (F := F)) Variants.none c none) Set.univ l.lb l.ub l.st ok init body
    (fun _ _ => R) (fun k acc => h k acc))
  iintro H
  isplitl [H]; · iexact H
  iintro %acc H
  iexact H

theorem Safe.load {c : Dev nD} {R : sProp 𝕄} {sp : CoreSpace} {S : Shape} {e : EltTy} {M : Memref sig .tc sp S e} (h : Lends (F := F) c R M) {r : Rect S}
    {hl : M.view.LoadsAt r.toLoadRect} : Safe (F := F) c R (Prog.lift (.load M r.toLoadRect hl)) := by
  unfold Safe
  refine h.trans ?_
  iintro ⟨%f, H, Hk⟩
  iapply (wp_load_rect Variants.none (c : Thread nD τ) none Set.univ (m := M) (r := r) (View.set_slice_subset _ _)) $$ H
  iintro H
  rw [wp_ret]
  imodintro
  iapply Hk; iexact H

theorem Safe.store {c : Dev nD} {R : sProp 𝕄} {sp : CoreSpace} {S : Shape} {e : EltTy} {M : Memref sig .tc sp S e} (h : Gives (F := F) c R M) {r : Rect S}
    {w : r.shape.Idx → Elt F e} {K : Finset r.shape.Idx} {hx : (M.access r).Stores K} {hm : K = Finset.univ ∨ ∀ a, r.stride a = 1} :
    Safe (F := F) c R (Prog.lift (.store M r w K hx hm)) := by
  unfold Safe
  refine h.trans ?_
  iintro ⟨%f, H, Hk⟩
  iapply (wp_store Variants.none (c : Thread nD τ) none Set.univ (m := M) (r := r)
    (((M.access r).setOn_subset_set K).trans (View.set_slice_subset _ _))) $$ H
  iintro H
  rw [wp_ret]
  imodintro
  iapply Hk; iexact H

/-! ## The kernel's parts -/

/-- The buffers the body is called on, each whole. -/
structure Bufs where
  a2 : Memref sig .tc .vmem S1x512x512 .f32
  w2 : a2.IsWhole
  a3 : Memref sig .tc .vmem S1x512x512 .f32
  w3 : a3.IsWhole
  a4 : Memref sig .tc .vmem S1x512x512 .f32
  w4 : a4.IsWhole
  a5 : Memref sig .tc .vmem S3x4x512 .f32
  w5 : a5.IsWhole
  a6 : Memref sig .tc .vmem S1x8x8x64 .f32
  w6 : a6.IsWhole
  a7 : Memref sig .tc .vmem S1x8x8x64 .f32
  w7 : a7.IsWhole
  a8 : Memref sig .tc .vmem S1x64 .f32
  w8 : a8.IsWhole
  a9 : Memref sig .tc .vmem S1x512x512 .f32
  w9 : a9.IsWhole
  a10 : Memref sig .tc .vmem S8x64x64 .f32
  w10 : a10.IsWhole
  a11 : Memref sig .tc .vmem S3x520x512 .f32
  w11 : a11.IsWhole
  a12 : Memref sig .tc .vmem S3x8x512x64 .f32
  w12 : a12.IsWhole
  a13 : Memref sig .tc .vmem S8x512x64 .f32
  w13 : a13.IsWhole

/-- Every buffer the body touches is at hand in `R`: the inputs for reading, the others for writing too. -/
structure Mem (c : Dev nD) (R : sProp 𝕄) (B : Bufs) : Prop where
  h2 : Lends (F := F) c R B.a2
  h3 : Lends (F := F) c R B.a3
  h4 : Lends (F := F) c R B.a4
  h5 : Lends (F := F) c R B.a5
  h6 : Lends (F := F) c R B.a6
  h7 : Lends (F := F) c R B.a7
  h8 : Lends (F := F) c R B.a8
  h9 : Gives (F := F) c R B.a9
  h10 : Gives (F := F) c R B.a10
  h11 : Gives (F := F) c R B.a11
  h12 : Gives (F := F) c R B.a12
  h13 : Gives (F := F) c R B.a13

theorem s_part82 {c : Dev nD} {R : sProp 𝕄} {B : Bufs} (H : Mem (F := F) c R B) (i : grid0.Coords) :
    Safe c R (k0_part82 i B.a2 B.w2 B.a3 B.w3 B.a4 B.w4 B.a5 B.w5 B.a6 B.w6 B.a7 B.w7 B.a8 B.w8 B.a9 B.w9 B.a10 B.w10 B.a11 B.w11 B.a12 B.w12 B.a13 B.w13) := by
  rw [k0_part82_eq_skeleton]; unfold k0_part82_skel; try dsimp only
  repeat' first | (with_reducible first | exact Safe.pure _ | refine Safe.bind ?_ fun _ => ?_ | exact Safe.load H.h2 | exact Safe.load H.h5 | exact Safe.load H.h10.lends | exact Safe.store H.h10 | exact Safe.load H.h11.lends | exact Safe.store H.h11) | split

theorem s_part83 {c : Dev nD} {R : sProp 𝕄} {B : Bufs} (H : Mem (F := F) c R B) (i : grid0.Coords) (v27) :
    Safe c R (k0_part83 i B.a2 B.w2 B.a3 B.w3 B.a4 B.w4 B.a5 B.w5 B.a6 B.w6 B.a7 B.w7 B.a8 B.w8 B.a9 B.w9 B.a10 B.w10 B.a11 B.w11 B.a12 B.w12 B.a13 B.w13 v27) := by
  rw [k0_part83_eq_skeleton]; unfold k0_part83_skel; try dsimp only
  repeat' first | (with_reducible first | exact Safe.pure _ | refine Safe.bind ?_ fun _ => ?_ | exact Safe.load H.h5 | exact Safe.load H.h11.lends | exact Safe.store H.h11 | exact Safe.load H.h12.lends | exact Safe.store H.h12) | split

theorem s_part84 {c : Dev nD} {R : sProp 𝕄} {B : Bufs} (H : Mem (F := F) c R B) (i : grid0.Coords) (v42 v62 v64) :
    Safe c R (k0_part84 i B.a2 B.w2 B.a3 B.w3 B.a4 B.w4 B.a5 B.w5 B.a6 B.w6 B.a7 B.w7 B.a8 B.w8 B.a9 B.w9 B.a10 B.w10 B.a11 B.w11 B.a12 B.w12 B.a13 B.w13 v42 v62 v64) := by
  rw [k0_part84_eq_skeleton]; unfold k0_part84_skel; try dsimp only
  repeat' first | (with_reducible first | exact Safe.pure _ | refine Safe.bind ?_ fun _ => ?_ | exact Safe.load H.h12.lends | exact Safe.store H.h12) | split

theorem s_part85 {c : Dev nD} {R : sProp 𝕄} {B : Bufs} (H : Mem (F := F) c R B) (i : grid0.Coords) (v42 v100) :
    Safe c R (k0_part85 i B.a2 B.w2 B.a3 B.w3 B.a4 B.w4 B.a5 B.w5 B.a6 B.w6 B.a7 B.w7 B.a8 B.w8 B.a9 B.w9 B.a10 B.w10 B.a11 B.w11 B.a12 B.w12 B.a13 B.w13 v42 v100) := by
  rw [k0_part85_eq_skeleton]; unfold k0_part85_skel; try dsimp only
  repeat' first | (with_reducible first | exact Safe.pure _ | refine Safe.bind ?_ fun _ => ?_ | exact Safe.load H.h12.lends | exact Safe.store H.h12) | split

theorem s_part86 {c : Dev nD} {R : sProp 𝕄} {B : Bufs} (H : Mem (F := F) c R B) (i : grid0.Coords) (v42 v142) :
    Safe c R (k0_part86 i B.a2 B.w2 B.a3 B.w3 B.a4 B.w4 B.a5 B.w5 B.a6 B.w6 B.a7 B.w7 B.a8 B.w8 B.a9 B.w9 B.a10 B.w10 B.a11 B.w11 B.a12 B.w12 B.a13 B.w13 v42 v142) := by
  rw [k0_part86_eq_skeleton]; unfold k0_part86_skel; try dsimp only
  repeat' first | (with_reducible first | exact Safe.pure _ | refine Safe.bind ?_ fun _ => ?_ | exact Safe.load H.h3 | exact Safe.load H.h5 | exact Safe.load H.h11.lends | exact Safe.store H.h11 | exact Safe.load H.h12.lends | exact Safe.store H.h12) | split

theorem s_part87 {c : Dev nD} {R : sProp 𝕄} {B : Bufs} (H : Mem (F := F) c R B) (i : grid0.Coords) (v170 v172) :
    Safe c R (k0_part87 i B.a2 B.w2 B.a3 B.w3 B.a4 B.w4 B.a5 B.w5 B.a6 B.w6 B.a7 B.w7 B.a8 B.w8 B.a9 B.w9 B.a10 B.w10 B.a11 B.w11 B.a12 B.w12 B.a13 B.w13 v170 v172) := by
  rw [k0_part87_eq_skeleton]; unfold k0_part87_skel; try dsimp only
  repeat' first | (with_reducible first | exact Safe.pure _ | refine Safe.bind ?_ fun _ => ?_ | exact Safe.load H.h5 | exact Safe.load H.h11.lends | exact Safe.store H.h11) | split

theorem s_part88 {c : Dev nD} {R : sProp 𝕄} {B : Bufs} (H : Mem (F := F) c R B) (i : grid0.Coords) (v199 v205 v207) :
    Safe c R (k0_part88 i B.a2 B.w2 B.a3 B.w3 B.a4 B.w4 B.a5 B.w5 B.a6 B.w6 B.a7 B.w7 B.a8 B.w8 B.a9 B.w9 B.a10 B.w10 B.a11 B.w11 B.a12 B.w12 B.a13 B.w13 v199 v205 v207) := by
  rw [k0_part88_eq_skeleton]; unfold k0_part88_skel; try dsimp only
  repeat' first | (with_reducible first | exact Safe.pure _ | refine Safe.bind ?_ fun _ => ?_ | exact Safe.load H.h12.lends | exact Safe.store H.h12) | split

theorem s_part89 {c : Dev nD} {R : sProp 𝕄} {B : Bufs} (H : Mem (F := F) c R B) (i : grid0.Coords) (v199 v241 v244 v245) :
    Safe c R (k0_part89 i B.a2 B.w2 B.a3 B.w3 B.a4 B.w4 B.a5 B.w5 B.a6 B.w6 B.a7 B.w7 B.a8 B.w8 B.a9 B.w9 B.a10 B.w10 B.a11 B.w11 B.a12 B.w12 B.a13 B.w13 v199 v241 v244 v245) := by
  rw [k0_part89_eq_skeleton]; unfold k0_part89_skel; try dsimp only
  repeat' first | (with_reducible first | exact Safe.pure _ | refine Safe.bind ?_ fun _ => ?_ | exact Safe.load H.h12.lends | exact Safe.store H.h12) | split

theorem s_part90 {c : Dev nD} {R : sProp 𝕄} {B : Bufs} (H : Mem (F := F) c R B) (i : grid0.Coords) (v199 v277 v284) :
    Safe c R (k0_part90 i B.a2 B.w2 B.a3 B.w3 B.a4 B.w4 B.a5 B.w5 B.a6 B.w6 B.a7 B.w7 B.a8 B.w8 B.a9 B.w9 B.a10 B.w10 B.a11 B.w11 B.a12 B.w12 B.a13 B.w13 v199 v277 v284) := by
  rw [k0_part90_eq_skeleton]; unfold k0_part90_skel; try dsimp only
  repeat' first | (with_reducible first | exact Safe.pure _ | refine Safe.bind ?_ fun _ => ?_ | exact Safe.load H.h4 | exact Safe.load H.h5 | exact Safe.load H.h11.lends | exact Safe.store H.h11 | exact Safe.load H.h12.lends | exact Safe.store H.h12) | split

theorem s_part91 {c : Dev nD} {R : sProp 𝕄} {B : Bufs} (H : Mem (F := F) c R B) (i : grid0.Coords) (v311 v313) :
    Safe c R (k0_part91 i B.a2 B.w2 B.a3 B.w3 B.a4 B.w4 B.a5 B.w5 B.a6 B.w6 B.a7 B.w7 B.a8 B.w8 B.a9 B.w9 B.a10 B.w10 B.a11 B.w11 B.a12 B.w12 B.a13 B.w13 v311 v313) := by
  rw [k0_part91_eq_skeleton]; unfold k0_part91_skel; try dsimp only
  repeat' first | (with_reducible first | exact Safe.pure _ | refine Safe.bind ?_ fun _ => ?_ | exact Safe.load H.h5 | exact Safe.load H.h11.lends | exact Safe.store H.h11 | exact Safe.load H.h12.lends) | split

theorem s_part92 {c : Dev nD} {R : sProp 𝕄} {B : Bufs} (H : Mem (F := F) c R B) (i : grid0.Coords) (v340 v346 v347) :
    Safe c R (k0_part92 i B.a2 B.w2 B.a3 B.w3 B.a4 B.w4 B.a5 B.w5 B.a6 B.w6 B.a7 B.w7 B.a8 B.w8 B.a9 B.w9 B.a10 B.w10 B.a11 B.w11 B.a12 B.w12 B.a13 B.w13 v340 v346 v347) := by
  rw [k0_part92_eq_skeleton]; unfold k0_part92_skel; try dsimp only
  repeat' first | (with_reducible first | exact Safe.pure _ | refine Safe.bind ?_ fun _ => ?_ | exact Safe.load H.h12.lends | exact Safe.store H.h12) | split

theorem s_part93 {c : Dev nD} {R : sProp 𝕄} {B : Bufs} (H : Mem (F := F) c R B) (i : grid0.Coords) (v374) :
    Safe c R (k0_part93 i B.a2 B.w2 B.a3 B.w3 B.a4 B.w4 B.a5 B.w5 B.a6 B.w6 B.a7 B.w7 B.a8 B.w8 B.a9 B.w9 B.a10 B.w10 B.a11 B.w11 B.a12 B.w12 B.a13 B.w13 v374) := by
  rw [k0_part93_eq_skeleton]; unfold k0_part93_skel; try dsimp only
  repeat' first | (with_reducible first | exact Safe.pure _ | refine Safe.bind ?_ fun _ => ?_ | exact Safe.load H.h12.lends | exact Safe.store H.h12) | split

theorem s_part94 {c : Dev nD} {R : sProp 𝕄} {B : Bufs} (H : Mem (F := F) c R B) (i : grid0.Coords) (v378 v379 v409 c8_i32_250 v411 v418 c0_i32_253) :
    Safe c R (k0_part94 i B.a2 B.w2 B.a3 B.w3 B.a4 B.w4 B.a5 B.w5 B.a6 B.w6 B.a7 B.w7 B.a8 B.w8 B.a9 B.w9 B.a10 B.w10 B.a11 B.w11 B.a12 B.w12 B.a13 B.w13 v378 v379 v409 c8_i32_250 v411 v418 c0_i32_253) := by
  rw [k0_part94_eq_skeleton]; unfold k0_part94_skel; try dsimp only
  repeat' first | (with_reducible first | exact Safe.pure _ | refine Safe.bind ?_ fun _ => ?_) | split

theorem s_part95 {c : Dev nD} {R : sProp 𝕄} {B : Bufs} (H : Mem (F := F) c R B) (i : grid0.Coords) (v378 v379 v458 c16_i32_263 v460 v463 v465) :
    Safe c R (k0_part95 i B.a2 B.w2 B.a3 B.w3 B.a4 B.w4 B.a5 B.w5 B.a6 B.w6 B.a7 B.w7 B.a8 B.w8 B.a9 B.w9 B.a10 B.w10 B.a11 B.w11 B.a12 B.w12 B.a13 B.w13 v378 v379 v458 c16_i32_263 v460 v463 v465) := by
  rw [k0_part95_eq_skeleton]; unfold k0_part95_skel; try dsimp only
  repeat' first | (with_reducible first | exact Safe.pure _ | refine Safe.bind ?_ fun _ => ?_) | split

theorem s_part96 {c : Dev nD} {R : sProp 𝕄} {B : Bufs} (H : Mem (F := F) c R B) (i : grid0.Coords) (v378 v379 v483 v507 c8_i32_277 v509 v512) :
    Safe c R (k0_part96 i B.a2 B.w2 B.a3 B.w3 B.a4 B.w4 B.a5 B.w5 B.a6 B.w6 B.a7 B.w7 B.a8 B.w8 B.a9 B.w9 B.a10 B.w10 B.a11 B.w11 B.a12 B.w12 B.a13 B.w13 v378 v379 v483 v507 c8_i32_277 v509 v512) := by
  rw [k0_part96_eq_skeleton]; unfold k0_part96_skel; try dsimp only
  repeat' first | (with_reducible first | exact Safe.pure _ | refine Safe.bind ?_ fun _ => ?_) | split

theorem s_part97 {c : Dev nD} {R : sProp 𝕄} {B : Bufs} (H : Mem (F := F) c R B) (i : grid0.Coords) (v378 v379 v558 c32_i32_291) :
    Safe c R (k0_part97 i B.a2 B.w2 B.a3 B.w3 B.a4 B.w4 B.a5 B.w5 B.a6 B.w6 B.a7 B.w7 B.a8 B.w8 B.a9 B.w9 B.a10 B.w10 B.a11 B.w11 B.a12 B.w12 B.a13 B.w13 v378 v379 v558 c32_i32_291) := by
  rw [k0_part97_eq_skeleton]; unfold k0_part97_skel; try dsimp only
  repeat' first | (with_reducible first | exact Safe.pure _ | refine Safe.bind ?_ fun _ => ?_) | split

theorem s_part98 {c : Dev nD} {R : sProp 𝕄} {B : Bufs} (H : Mem (F := F) c R B) (i : grid0.Coords) (v378 v379 v583 v585 v604 v605) :
    Safe c R (k0_part98 i B.a2 B.w2 B.a3 B.w3 B.a4 B.w4 B.a5 B.w5 B.a6 B.w6 B.a7 B.w7 B.a8 B.w8 B.a9 B.w9 B.a10 B.w10 B.a11 B.w11 B.a12 B.w12 B.a13 B.w13 v378 v379 v583 v585 v604 v605) := by
  rw [k0_part98_eq_skeleton]; unfold k0_part98_skel; try dsimp only
  repeat' first | (with_reducible first | exact Safe.pure _ | refine Safe.bind ?_ fun _ => ?_) | split

theorem s_part99 {c : Dev nD} {R : sProp 𝕄} {B : Bufs} (H : Mem (F := F) c R B) (i : grid0.Coords) (v378 v379 v636 v650 v652) :
    Safe c R (k0_part99 i B.a2 B.w2 B.a3 B.w3 B.a4 B.w4 B.a5 B.w5 B.a6 B.w6 B.a7 B.w7 B.a8 B.w8 B.a9 B.w9 B.a10 B.w10 B.a11 B.w11 B.a12 B.w12 B.a13 B.w13 v378 v379 v636 v650 v652) := by
  rw [k0_part99_eq_skeleton]; unfold k0_part99_skel; try dsimp only
  repeat' first | (with_reducible first | exact Safe.pure _ | refine Safe.bind ?_ fun _ => ?_) | split

theorem s_part1 {c : Dev nD} {R : sProp 𝕄} {B : Bufs} (H : Mem (F := F) c R B) (i : grid0.Coords) (c0_i32_341 c1_i32_342 k0_t1) :
    Safe c R (k0_part1 i B.a2 B.w2 B.a3 B.w3 B.a4 B.w4 B.a5 B.w5 B.a6 B.w6 B.a7 B.w7 B.a8 B.w8 B.a9 B.w9 B.a10 B.w10 B.a11 B.w11 B.a12 B.w12 B.a13 B.w13 c0_i32_341 c1_i32_342 k0_t1) := by
  rw [k0_part1_eq_skeleton]; unfold k0_part1_skel; try dsimp only
  repeat' first | (with_reducible first | exact Safe.pure _ | refine Safe.bind ?_ fun _ => ?_ | exact Safe.load H.h12.lends) | split

theorem s_part2 {c : Dev nD} {R : sProp 𝕄} {B : Bufs} (H : Mem (F := F) c R B) (i : grid0.Coords) (k0_t1 v760 v762 v785) :
    Safe c R (k0_part2 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v760 v762 v785) := by
  rw [k0_part2_eq_skeleton]; unfold k0_part2_skel; try dsimp only
  repeat' first | (with_reducible first | exact Safe.pure _ | refine Safe.bind ?_ fun _ => ?_ | exact Safe.load H.h12.lends) | split

theorem s_part3 {c : Dev nD} {R : sProp 𝕄} {B : Bufs} (H : Mem (F := F) c R B) (i : grid0.Coords) (k0_t1 v760 v762 v815) :
    Safe c R (k0_part3 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v760 v762 v815) := by
  rw [k0_part3_eq_skeleton]; unfold k0_part3_skel; try dsimp only
  repeat' first | (with_reducible first | exact Safe.pure _ | refine Safe.bind ?_ fun _ => ?_ | exact Safe.load H.h12.lends) | split

theorem s_part4 {c : Dev nD} {R : sProp 𝕄} {B : Bufs} (H : Mem (F := F) c R B) (i : grid0.Coords) (k0_t1 v760 v762 v845) :
    Safe c R (k0_part4 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v760 v762 v845) := by
  rw [k0_part4_eq_skeleton]; unfold k0_part4_skel; try dsimp only
  repeat' first | (with_reducible first | exact Safe.pure _ | refine Safe.bind ?_ fun _ => ?_ | exact Safe.load H.h12.lends) | split

theorem s_part5 {c : Dev nD} {R : sProp 𝕄} {B : Bufs} (H : Mem (F := F) c R B) (i : grid0.Coords) (k0_t1 v760 v762 v875) :
    Safe c R (k0_part5 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v760 v762 v875) := by
  rw [k0_part5_eq_skeleton]; unfold k0_part5_skel; try dsimp only
  repeat' first | (with_reducible first | exact Safe.pure _ | refine Safe.bind ?_ fun _ => ?_ | exact Safe.load H.h12.lends) | split

theorem s_part6 {c : Dev nD} {R : sProp 𝕄} {B : Bufs} (H : Mem (F := F) c R B) (i : grid0.Coords) (k0_t1 v756 v758 v905) :
    Safe c R (k0_part6 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v756 v758 v905) := by
  rw [k0_part6_eq_skeleton]; unfold k0_part6_skel; try dsimp only
  repeat' first | (with_reducible first | exact Safe.pure _ | refine Safe.bind ?_ fun _ => ?_ | exact Safe.load H.h6 | exact Safe.load H.h7) | split

theorem s_part7 {c : Dev nD} {R : sProp 𝕄} {B : Bufs} (H : Mem (F := F) c R B) (i : grid0.Coords) (v380 v914 v918 v922 v923 v924 v925 v926 v927 v928 v939 v940 v941 v942 v943 v944 v945) :
    Safe c R (k0_part7 i B.a2 B.w2 B.a3 B.w3 B.a4 B.w4 B.a5 B.w5 B.a6 B.w6 B.a7 B.w7 B.a8 B.w8 B.a9 B.w9 B.a10 B.w10 B.a11 B.w11 B.a12 B.w12 B.a13 B.w13 v380 v914 v918 v922 v923 v924 v925 v926 v927 v928 v939 v940 v941 v942 v943 v944 v945) := by
  rw [k0_part7_eq_skeleton]; unfold k0_part7_skel; try dsimp only
  repeat' first | (with_reducible first | exact Safe.pure _ | refine Safe.bind ?_ fun _ => ?_) | split

theorem s_part8 {c : Dev nD} {R : sProp 𝕄} {B : Bufs} (H : Mem (F := F) c R B) (i : grid0.Coords) (v380 v929 v930 v931 v932 v933 v934 v935 v936 v937 v946 v947 v948 v949 v950 v951 v952 v953 v1007) :
    Safe c R (k0_part8 i B.a2 B.w2 B.a3 B.w3 B.a4 B.w4 B.a5 B.w5 B.a6 B.w6 B.a7 B.w7 B.a8 B.w8 B.a9 B.w9 B.a10 B.w10 B.a11 B.w11 B.a12 B.w12 B.a13 B.w13 v380 v929 v930 v931 v932 v933 v934 v935 v936 v937 v946 v947 v948 v949 v950 v951 v952 v953 v1007) := by
  rw [k0_part8_eq_skeleton]; unfold k0_part8_skel; try dsimp only
  repeat' first | (with_reducible first | exact Safe.pure _ | refine Safe.bind ?_ fun _ => ?_) | split

theorem s_part9 {c : Dev nD} {R : sProp 𝕄} {B : Bufs} (H : Mem (F := F) c R B) (i : grid0.Coords) (v380 v813 v816 v819 v822 v825 v828 v831 v834 v837 v840 v843 v846 v849 v852 v855 v858 v861 v864 v867 v870 v873 v876 v879 v882 v885 v938 v954 v955 v956 v957 v958 v959 v960 v961 v962 v963 v964 v965 v966 v967 v968 v969 v970 v1057 v1058) :
    Safe c R (k0_part9 i B.a2 B.w2 B.a3 B.w3 B.a4 B.w4 B.a5 B.w5 B.a6 B.w6 B.a7 B.w7 B.a8 B.w8 B.a9 B.w9 B.a10 B.w10 B.a11 B.w11 B.a12 B.w12 B.a13 B.w13 v380 v813 v816 v819 v822 v825 v828 v831 v834 v837 v840 v843 v846 v849 v852 v855 v858 v861 v864 v867 v870 v873 v876 v879 v882 v885 v938 v954 v955 v956 v957 v958 v959 v960 v961 v962 v963 v964 v965 v966 v967 v968 v969 v970 v1057 v1058) := by
  rw [k0_part9_eq_skeleton]; unfold k0_part9_skel; try dsimp only
  repeat' first | (with_reducible first | exact Safe.pure _ | refine Safe.bind ?_ fun _ => ?_) | split

theorem s_part10 {c : Dev nD} {R : sProp 𝕄} {B : Bufs} (H : Mem (F := F) c R B) (i : grid0.Coords) (v381 v813 v816 v819 v822 v825 v828 v888 v891 v894 v897 v900 v903 v906 v965 v966 v967 v968 v969 v970 v976 v982 v988 v994 v1000 v1006 v1068 v1070 v1072 v1074 v1076 v1078 v1117) :
    Safe c R (k0_part10 i B.a2 B.w2 B.a3 B.w3 B.a4 B.w4 B.a5 B.w5 B.a6 B.w6 B.a7 B.w7 B.a8 B.w8 B.a9 B.w9 B.a10 B.w10 B.a11 B.w11 B.a12 B.w12 B.a13 B.w13 v381 v813 v816 v819 v822 v825 v828 v888 v891 v894 v897 v900 v903 v906 v965 v966 v967 v968 v969 v970 v976 v982 v988 v994 v1000 v1006 v1068 v1070 v1072 v1074 v1076 v1078 v1117) := by
  rw [k0_part10_eq_skeleton]; unfold k0_part10_skel; try dsimp only
  repeat' first | (with_reducible first | exact Safe.pure _ | refine Safe.bind ?_ fun _ => ?_) | split

theorem s_part11 {c : Dev nD} {R : sProp 𝕄} {B : Bufs} (H : Mem (F := F) c R B) (i : grid0.Coords) (v381 v831 v834 v837 v840 v843 v846 v849 v852 v1012 v1018 v1024 v1030 v1036 v1042 v1048 v1080 v1082 v1084 v1086 v1088 v1090 v1092 v1094 v1164 v1165) :
    Safe c R (k0_part11 i B.a2 B.w2 B.a3 B.w3 B.a4 B.w4 B.a5 B.w5 B.a6 B.w6 B.a7 B.w7 B.a8 B.w8 B.a9 B.w9 B.a10 B.w10 B.a11 B.w11 B.a12 B.w12 B.a13 B.w13 v381 v831 v834 v837 v840 v843 v846 v849 v852 v1012 v1018 v1024 v1030 v1036 v1042 v1048 v1080 v1082 v1084 v1086 v1088 v1090 v1092 v1094 v1164 v1165) := by
  rw [k0_part11_eq_skeleton]; unfold k0_part11_skel; try dsimp only
  repeat' first | (with_reducible first | exact Safe.pure _ | refine Safe.bind ?_ fun _ => ?_) | split

theorem s_part12 {c : Dev nD} {R : sProp 𝕄} {B : Bufs} (H : Mem (F := F) c R B) (i : grid0.Coords) (v381 v434 v855 v858 v1054 v1060 v1066 v1096 v1098 v1136 v1142 v1148 v1154 v1160 v1166 v1172 v1178 v1184 v1190 v1196 v1202 v1208 v1209 v1210 cst_573) :
    Safe c R (k0_part12 i B.a2 B.w2 B.a3 B.w3 B.a4 B.w4 B.a5 B.w5 B.a6 B.w6 B.a7 B.w7 B.a8 B.w8 B.a9 B.w9 B.a10 B.w10 B.a11 B.w11 B.a12 B.w12 B.a13 B.w13 v381 v434 v855 v858 v1054 v1060 v1066 v1096 v1098 v1136 v1142 v1148 v1154 v1160 v1166 v1172 v1178 v1184 v1190 v1196 v1202 v1208 v1209 v1210 cst_573) := by
  rw [k0_part12_eq_skeleton]; unfold k0_part12_skel; try dsimp only
  repeat' first | (with_reducible first | exact Safe.pure _ | refine Safe.bind ?_ fun _ => ?_) | split

theorem s_part13 {c : Dev nD} {R : sProp 𝕄} {B : Bufs} (H : Mem (F := F) c R B) (i : grid0.Coords) (v385 v434 v1214 v1220 v1226 v1228 v1230 v1232 v1234 v1236 v1238 v1240 v1242 v1244 v1246 v1248 v1250 v1252) :
    Safe c R (k0_part13 i B.a2 B.w2 B.a3 B.w3 B.a4 B.w4 B.a5 B.w5 B.a6 B.w6 B.a7 B.w7 B.a8 B.w8 B.a9 B.w9 B.a10 B.w10 B.a11 B.w11 B.a12 B.w12 B.a13 B.w13 v385 v434 v1214 v1220 v1226 v1228 v1230 v1232 v1234 v1236 v1238 v1240 v1242 v1244 v1246 v1248 v1250 v1252) := by
  rw [k0_part13_eq_skeleton]; unfold k0_part13_skel; try dsimp only
  repeat' first | (with_reducible first | exact Safe.pure _ | refine Safe.bind ?_ fun _ => ?_) | split

theorem s_part14 {c : Dev nD} {R : sProp 𝕄} {B : Bufs} (H : Mem (F := F) c R B) (i : grid0.Coords) (v1232 v1234 v1236 v1238 v1301 v1303) :
    Safe c R (k0_part14 i B.a2 B.w2 B.a3 B.w3 B.a4 B.w4 B.a5 B.w5 B.a6 B.w6 B.a7 B.w7 B.a8 B.w8 B.a9 B.w9 B.a10 B.w10 B.a11 B.w11 B.a12 B.w12 B.a13 B.w13 v1232 v1234 v1236 v1238 v1301 v1303) := by
  rw [k0_part14_eq_skeleton]; unfold k0_part14_skel; try dsimp only
  repeat' first | (with_reducible first | exact Safe.pure _ | refine Safe.bind ?_ fun _ => ?_) | split

theorem s_part15 {c : Dev nD} {R : sProp 𝕄} {B : Bufs} (H : Mem (F := F) c R B) (i : grid0.Coords) (v1240 v1242 v1244 v1246 v1348 v1351) :
    Safe c R (k0_part15 i B.a2 B.w2 B.a3 B.w3 B.a4 B.w4 B.a5 B.w5 B.a6 B.w6 B.a7 B.w7 B.a8 B.w8 B.a9 B.w9 B.a10 B.w10 B.a11 B.w11 B.a12 B.w12 B.a13 B.w13 v1240 v1242 v1244 v1246 v1348 v1351) := by
  rw [k0_part15_eq_skeleton]; unfold k0_part15_skel; try dsimp only
  repeat' first | (with_reducible first | exact Safe.pure _ | refine Safe.bind ?_ fun _ => ?_) | split

theorem s_part16 {c : Dev nD} {R : sProp 𝕄} {B : Bufs} (H : Mem (F := F) c R B) (i : grid0.Coords) (v1248 v1250 v1252 v1254 v1392 v1395 v1396 v1399 v1400 cst_623) :
    Safe c R (k0_part16 i B.a2 B.w2 B.a3 B.w3 B.a4 B.w4 B.a5 B.w5 B.a6 B.w6 B.a7 B.w7 B.a8 B.w8 B.a9 B.w9 B.a10 B.w10 B.a11 B.w11 B.a12 B.w12 B.a13 B.w13 v1248 v1250 v1252 v1254 v1392 v1395 v1396 v1399 v1400 cst_623) := by
  rw [k0_part16_eq_skeleton]; unfold k0_part16_skel; try dsimp only
  repeat' first | (with_reducible first | exact Safe.pure _ | refine Safe.bind ?_ fun _ => ?_) | split

theorem s_part17 {c : Dev nD} {R : sProp 𝕄} {B : Bufs} (H : Mem (F := F) c R B) (i : grid0.Coords) (v385 v1256 v1258 v1259 v1260 v1287 v1300 v1444 v1447 v1448 v1450) :
    Safe c R (k0_part17 i B.a2 B.w2 B.a3 B.w3 B.a4 B.w4 B.a5 B.w5 B.a6 B.w6 B.a7 B.w7 B.a8 B.w8 B.a9 B.w9 B.a10 B.w10 B.a11 B.w11 B.a12 B.w12 B.a13 B.w13 v385 v1256 v1258 v1259 v1260 v1287 v1300 v1444 v1447 v1448 v1450) := by
  rw [k0_part17_eq_skeleton]; unfold k0_part17_skel; try dsimp only
  repeat' first | (with_reducible first | exact Safe.pure _ | refine Safe.bind ?_ fun _ => ?_) | split

theorem s_part18 {c : Dev nD} {R : sProp 𝕄} {B : Bufs} (H : Mem (F := F) c R B) (i : grid0.Coords) (v385 v1260 v1261 v1262 v1263 v1313 v1326 v1339 v1497 v1498) :
    Safe c R (k0_part18 i B.a2 B.w2 B.a3 B.w3 B.a4 B.w4 B.a5 B.w5 B.a6 B.w6 B.a7 B.w7 B.a8 B.w8 B.a9 B.w9 B.a10 B.w10 B.a11 B.w11 B.a12 B.w12 B.a13 B.w13 v385 v1260 v1261 v1262 v1263 v1313 v1326 v1339 v1497 v1498) := by
  rw [k0_part18_eq_skeleton]; unfold k0_part18_skel; try dsimp only
  repeat' first | (with_reducible first | exact Safe.pure _ | refine Safe.bind ?_ fun _ => ?_) | split

theorem s_part19 {c : Dev nD} {R : sProp 𝕄} {B : Bufs} (H : Mem (F := F) c R B) (i : grid0.Coords) (v385 v1264 v1265 v1266 v1267 v1352 v1365 v1378 v1391 v1540 v1543 v1544 v1547 v1548) :
    Safe c R (k0_part19 i B.a2 B.w2 B.a3 B.w3 B.a4 B.w4 B.a5 B.w5 B.a6 B.w6 B.a7 B.w7 B.a8 B.w8 B.a9 B.w9 B.a10 B.w10 B.a11 B.w11 B.a12 B.w12 B.a13 B.w13 v385 v1264 v1265 v1266 v1267 v1352 v1365 v1378 v1391 v1540 v1543 v1544 v1547 v1548) := by
  rw [k0_part19_eq_skeleton]; unfold k0_part19_skel; try dsimp only
  repeat' first | (with_reducible first | exact Safe.pure _ | refine Safe.bind ?_ fun _ => ?_) | split

theorem s_part20 {c : Dev nD} {R : sProp 𝕄} {B : Bufs} (H : Mem (F := F) c R B) (i : grid0.Coords) (v385 v1267 v1268 v1269 v1270 v1404 v1417 v1430 v1595 v1596 v1597) :
    Safe c R (k0_part20 i B.a2 B.w2 B.a3 B.w3 B.a4 B.w4 B.a5 B.w5 B.a6 B.w6 B.a7 B.w7 B.a8 B.w8 B.a9 B.w9 B.a10 B.w10 B.a11 B.w11 B.a12 B.w12 B.a13 B.w13 v385 v1267 v1268 v1269 v1270 v1404 v1417 v1430 v1595 v1596 v1597) := by
  rw [k0_part20_eq_skeleton]; unfold k0_part20_skel; try dsimp only
  repeat' first | (with_reducible first | exact Safe.pure _ | refine Safe.bind ?_ fun _ => ?_) | split

theorem s_part21 {c : Dev nD} {R : sProp 𝕄} {B : Bufs} (H : Mem (F := F) c R B) (i : grid0.Coords) (v385 v1271 v1272 v1273 v1274 v1443 v1456 v1469 v1482 v1638 v1641 v1642 v1645 v1646 cst_677) :
    Safe c R (k0_part21 i B.a2 B.w2 B.a3 B.w3 B.a4 B.w4 B.a5 B.w5 B.a6 B.w6 B.a7 B.w7 B.a8 B.w8 B.a9 B.w9 B.a10 B.w10 B.a11 B.w11 B.a12 B.w12 B.a13 B.w13 v385 v1271 v1272 v1273 v1274 v1443 v1456 v1469 v1482 v1638 v1641 v1642 v1645 v1646 cst_677) := by
  rw [k0_part21_eq_skeleton]; unfold k0_part21_skel; try dsimp only
  repeat' first | (with_reducible first | exact Safe.pure _ | refine Safe.bind ?_ fun _ => ?_) | split

theorem s_part22 {c : Dev nD} {R : sProp 𝕄} {B : Bufs} (H : Mem (F := F) c R B) (i : grid0.Coords) (v1287 v1300 v1313 v1693 v1694 v1696) :
    Safe c R (k0_part22 i B.a2 B.w2 B.a3 B.w3 B.a4 B.w4 B.a5 B.w5 B.a6 B.w6 B.a7 B.w7 B.a8 B.w8 B.a9 B.w9 B.a10 B.w10 B.a11 B.w11 B.a12 B.w12 B.a13 B.w13 v1287 v1300 v1313 v1693 v1694 v1696) := by
  rw [k0_part22_eq_skeleton]; unfold k0_part22_skel; try dsimp only
  repeat' first | (with_reducible first | exact Safe.pure _ | refine Safe.bind ?_ fun _ => ?_) | split

theorem s_part23 {c : Dev nD} {R : sProp 𝕄} {B : Bufs} (H : Mem (F := F) c R B) (i : grid0.Coords) (v1326 v1339 v1352 v1365 v1741 v1744) :
    Safe c R (k0_part23 i B.a2 B.w2 B.a3 B.w3 B.a4 B.w4 B.a5 B.w5 B.a6 B.w6 B.a7 B.w7 B.a8 B.w8 B.a9 B.w9 B.a10 B.w10 B.a11 B.w11 B.a12 B.w12 B.a13 B.w13 v1326 v1339 v1352 v1365 v1741 v1744) := by
  rw [k0_part23_eq_skeleton]; unfold k0_part23_skel; try dsimp only
  repeat' first | (with_reducible first | exact Safe.pure _ | refine Safe.bind ?_ fun _ => ?_) | split

theorem s_part24 {c : Dev nD} {R : sProp 𝕄} {B : Bufs} (H : Mem (F := F) c R B) (i : grid0.Coords) (v1378 v1391 v1404 v1417 v1785 v1788 v1789 v1792 v1793 cst_710) :
    Safe c R (k0_part24 i B.a2 B.w2 B.a3 B.w3 B.a4 B.w4 B.a5 B.w5 B.a6 B.w6 B.a7 B.w7 B.a8 B.w8 B.a9 B.w9 B.a10 B.w10 B.a11 B.w11 B.a12 B.w12 B.a13 B.w13 v1378 v1391 v1404 v1417 v1785 v1788 v1789 v1792 v1793 cst_710) := by
  rw [k0_part24_eq_skeleton]; unfold k0_part24_skel; try dsimp only
  repeat' first | (with_reducible first | exact Safe.pure _ | refine Safe.bind ?_ fun _ => ?_) | split

theorem s_part25 {c : Dev nD} {R : sProp 𝕄} {B : Bufs} (H : Mem (F := F) c R B) (i : grid0.Coords) (v1430 v1443 v1456 v1469 v1837 v1840 v1841 v1843) :
    Safe c R (k0_part25 i B.a2 B.w2 B.a3 B.w3 B.a4 B.w4 B.a5 B.w5 B.a6 B.w6 B.a7 B.w7 B.a8 B.w8 B.a9 B.w9 B.a10 B.w10 B.a11 B.w11 B.a12 B.w12 B.a13 B.w13 v1430 v1443 v1456 v1469 v1837 v1840 v1841 v1843) := by
  rw [k0_part25_eq_skeleton]; unfold k0_part25_skel; try dsimp only
  repeat' first | (with_reducible first | exact Safe.pure _ | refine Safe.bind ?_ fun _ => ?_) | split

theorem s_part26 {c : Dev nD} {R : sProp 𝕄} {B : Bufs} (H : Mem (F := F) c R B) (i : grid0.Coords) (v385 v1469 v1482 v1496 v1510 v1719 v1732 v1889 v1891) :
    Safe c R (k0_part26 i B.a2 B.w2 B.a3 B.w3 B.a4 B.w4 B.a5 B.w5 B.a6 B.w6 B.a7 B.w7 B.a8 B.w8 B.a9 B.w9 B.a10 B.w10 B.a11 B.w11 B.a12 B.w12 B.a13 B.w13 v385 v1469 v1482 v1496 v1510 v1719 v1732 v1889 v1891) := by
  rw [k0_part26_eq_skeleton]; unfold k0_part26_skel; try dsimp only
  repeat' first | (with_reducible first | exact Safe.pure _ | refine Safe.bind ?_ fun _ => ?_) | split

theorem s_part27 {c : Dev nD} {R : sProp 𝕄} {B : Bufs} (H : Mem (F := F) c R B) (i : grid0.Coords) (v385 v1524 v1538 v1552 v1566 v1745 v1758 v1771 v1784 v1933 v1934 v1938 v1939 cst_744) :
    Safe c R (k0_part27 i B.a2 B.w2 B.a3 B.w3 B.a4 B.w4 B.a5 B.w5 B.a6 B.w6 B.a7 B.w7 B.a8 B.w8 B.a9 B.w9 B.a10 B.w10 B.a11 B.w11 B.a12 B.w12 B.a13 B.w13 v385 v1524 v1538 v1552 v1566 v1745 v1758 v1771 v1784 v1933 v1934 v1938 v1939 cst_744) := by
  rw [k0_part27_eq_skeleton]; unfold k0_part27_skel; try dsimp only
  repeat' first | (with_reducible first | exact Safe.pure _ | refine Safe.bind ?_ fun _ => ?_) | split

theorem s_part28 {c : Dev nD} {R : sProp 𝕄} {B : Bufs} (H : Mem (F := F) c R B) (i : grid0.Coords) (v385 v1580 v1594 v1608 v1797 v1810 v1823 v1985 v1986 v1989 v1990) :
    Safe c R (k0_part28 i B.a2 B.w2 B.a3 B.w3 B.a4 B.w4 B.a5 B.w5 B.a6 B.w6 B.a7 B.w7 B.a8 B.w8 B.a9 B.w9 B.a10 B.w10 B.a11 B.w11 B.a12 B.w12 B.a13 B.w13 v385 v1580 v1594 v1608 v1797 v1810 v1823 v1985 v1986 v1989 v1990) := by
  rw [k0_part28_eq_skeleton]; unfold k0_part28_skel; try dsimp only
  repeat' first | (with_reducible first | exact Safe.pure _ | refine Safe.bind ?_ fun _ => ?_) | split

theorem s_part29 {c : Dev nD} {R : sProp 𝕄} {B : Bufs} (H : Mem (F := F) c R B) (i : grid0.Coords) (v385 v1622 v1636 v1650 v1664 v1836 v1849 v1862 v1875 v2036 v2037 v2038) :
    Safe c R (k0_part29 i B.a2 B.w2 B.a3 B.w3 B.a4 B.w4 B.a5 B.w5 B.a6 B.w6 B.a7 B.w7 B.a8 B.w8 B.a9 B.w9 B.a10 B.w10 B.a11 B.w11 B.a12 B.w12 B.a13 B.w13 v385 v1622 v1636 v1650 v1664 v1836 v1849 v1862 v1875 v2036 v2037 v2038) := by
  rw [k0_part29_eq_skeleton]; unfold k0_part29_skel; try dsimp only
  repeat' first | (with_reducible first | exact Safe.pure _ | refine Safe.bind ?_ fun _ => ?_) | split

theorem s_part30 {c : Dev nD} {R : sProp 𝕄} {B : Bufs} (H : Mem (F := F) c R B) (i : grid0.Coords) (v385 v1678 v1692 v1706 v1888 v1901 v1914 v2083 v2084 v2087 v2088 v2089) :
    Safe c R (k0_part30 i B.a2 B.w2 B.a3 B.w3 B.a4 B.w4 B.a5 B.w5 B.a6 B.w6 B.a7 B.w7 B.a8 B.w8 B.a9 B.w9 B.a10 B.w10 B.a11 B.w11 B.a12 B.w12 B.a13 B.w13 v385 v1678 v1692 v1706 v1888 v1901 v1914 v2083 v2084 v2087 v2088 v2089) := by
  rw [k0_part30_eq_skeleton]; unfold k0_part30_skel; try dsimp only
  repeat' first | (with_reducible first | exact Safe.pure _ | refine Safe.bind ?_ fun _ => ?_) | split

theorem s_part31 {c : Dev nD} {R : sProp 𝕄} {B : Bufs} (H : Mem (F := F) c R B) (i : grid0.Coords) (v534 v1136 v1142 v1148 v1154 v1160 v1166 v1172 v1178 v1184 v1190 v1196 v1202 v1208 v1214 v1220 v1226 v1928 v2134 v2137) :
    Safe c R (k0_part31 i B.a2 B.w2 B.a3 B.w3 B.a4 B.w4 B.a5 B.w5 B.a6 B.w6 B.a7 B.w7 B.a8 B.w8 B.a9 B.w9 B.a10 B.w10 B.a11 B.w11 B.a12 B.w12 B.a13 B.w13 v534 v1136 v1142 v1148 v1154 v1160 v1166 v1172 v1178 v1184 v1190 v1196 v1202 v1208 v1214 v1220 v1226 v1928 v2134 v2137) := by
  rw [k0_part31_eq_skeleton]; unfold k0_part31_skel; try dsimp only
  repeat' first | (with_reducible first | exact Safe.pure _ | refine Safe.bind ?_ fun _ => ?_) | split

theorem s_part32 {c : Dev nD} {R : sProp 𝕄} {B : Bufs} (H : Mem (F := F) c R B) (i : grid0.Coords) (v1942 v1956 v1970 v1984 v2142 v2144 v2146 v2148 v2171 v2174 v2175 v2178 v2179 cst_804) :
    Safe c R (k0_part32 i B.a2 B.w2 B.a3 B.w3 B.a4 B.w4 B.a5 B.w5 B.a6 B.w6 B.a7 B.w7 B.a8 B.w8 B.a9 B.w9 B.a10 B.w10 B.a11 B.w11 B.a12 B.w12 B.a13 B.w13 v1942 v1956 v1970 v1984 v2142 v2144 v2146 v2148 v2171 v2174 v2175 v2178 v2179 cst_804) := by
  rw [k0_part32_eq_skeleton]; unfold k0_part32_skel; try dsimp only
  repeat' first | (with_reducible first | exact Safe.pure _ | refine Safe.bind ?_ fun _ => ?_) | split

theorem s_part33 {c : Dev nD} {R : sProp 𝕄} {B : Bufs} (H : Mem (F := F) c R B) (i : grid0.Coords) (v1998 v2012 v2026 v2150 v2152 v2154 v2156 v2223 v2226 v2227 v2229) :
    Safe c R (k0_part33 i B.a2 B.w2 B.a3 B.w3 B.a4 B.w4 B.a5 B.w5 B.a6 B.w6 B.a7 B.w7 B.a8 B.w8 B.a9 B.w9 B.a10 B.w10 B.a11 B.w11 B.a12 B.w12 B.a13 B.w13 v1998 v2012 v2026 v2150 v2152 v2154 v2156 v2223 v2226 v2227 v2229) := by
  rw [k0_part33_eq_skeleton]; unfold k0_part33_skel; try dsimp only
  repeat' first | (with_reducible first | exact Safe.pure _ | refine Safe.bind ?_ fun _ => ?_) | split

theorem s_part34 {c : Dev nD} {R : sProp 𝕄} {B : Bufs} (H : Mem (F := F) c R B) (i : grid0.Coords) (v2040 v2054 v2068 v2082 v2158 v2160 v2162 v2275 v2277) :
    Safe c R (k0_part34 i B.a2 B.w2 B.a3 B.w3 B.a4 B.w4 B.a5 B.w5 B.a6 B.w6 B.a7 B.w7 B.a8 B.w8 B.a9 B.w9 B.a10 B.w10 B.a11 B.w11 B.a12 B.w12 B.a13 B.w13 v2040 v2054 v2068 v2082 v2158 v2160 v2162 v2275 v2277) := by
  rw [k0_part34_eq_skeleton]; unfold k0_part34_skel; try dsimp only
  repeat' first | (with_reducible first | exact Safe.pure _ | refine Safe.bind ?_ fun _ => ?_) | split

theorem s_part35 {c : Dev nD} {R : sProp 𝕄} {B : Bufs} (H : Mem (F := F) c R B) (i : grid0.Coords) (v2096 v2110 v2124 v2138 v2164 v2166 v2168 v2170 v2322 v2325) :
    Safe c R (k0_part35 i B.a2 B.w2 B.a3 B.w3 B.a4 B.w4 B.a5 B.w5 B.a6 B.w6 B.a7 B.w7 B.a8 B.w8 B.a9 B.w9 B.a10 B.w10 B.a11 B.w11 B.a12 B.w12 B.a13 B.w13 v2096 v2110 v2124 v2138 v2164 v2166 v2168 v2170 v2322 v2325) := by
  rw [k0_part35_eq_skeleton]; unfold k0_part35_skel; try dsimp only
  repeat' first | (with_reducible first | exact Safe.pure _ | refine Safe.bind ?_ fun _ => ?_) | split

theorem s_part36 {c : Dev nD} {R : sProp 𝕄} {B : Bufs} (H : Mem (F := F) c R B) (i : grid0.Coords) (v1928 v1942 v1956 v1970 v2183 v2196 v2209 v2366 v2369 v2370 v2373 v2374 cst_849) :
    Safe c R (k0_part36 i B.a2 B.w2 B.a3 B.w3 B.a4 B.w4 B.a5 B.w5 B.a6 B.w6 B.a7 B.w7 B.a8 B.w8 B.a9 B.w9 B.a10 B.w10 B.a11 B.w11 B.a12 B.w12 B.a13 B.w13 v1928 v1942 v1956 v1970 v2183 v2196 v2209 v2366 v2369 v2370 v2373 v2374 cst_849) := by
  rw [k0_part36_eq_skeleton]; unfold k0_part36_skel; try dsimp only
  repeat' first | (with_reducible first | exact Safe.pure _ | refine Safe.bind ?_ fun _ => ?_) | split

theorem s_part37 {c : Dev nD} {R : sProp 𝕄} {B : Bufs} (H : Mem (F := F) c R B) (i : grid0.Coords) (v1970 v1984 v1998 v2012 v2222 v2235 v2248 v2261 v2421 v2424) :
    Safe c R (k0_part37 i B.a2 B.w2 B.a3 B.w3 B.a4 B.w4 B.a5 B.w5 B.a6 B.w6 B.a7 B.w7 B.a8 B.w8 B.a9 B.w9 B.a10 B.w10 B.a11 B.w11 B.a12 B.w12 B.a13 B.w13 v1970 v1984 v1998 v2012 v2222 v2235 v2248 v2261 v2421 v2424) := by
  rw [k0_part37_eq_skeleton]; unfold k0_part37_skel; try dsimp only
  repeat' first | (with_reducible first | exact Safe.pure _ | refine Safe.bind ?_ fun _ => ?_) | split

theorem s_part38 {c : Dev nD} {R : sProp 𝕄} {B : Bufs} (H : Mem (F := F) c R B) (i : grid0.Coords) (v2012 v2026 v2040 v2054 v2068 v2274 v2287 v2300 v2313 v2466 v2467 v2471 v2472 cst_871) :
    Safe c R (k0_part38 i B.a2 B.w2 B.a3 B.w3 B.a4 B.w4 B.a5 B.w5 B.a6 B.w6 B.a7 B.w7 B.a8 B.w8 B.a9 B.w9 B.a10 B.w10 B.a11 B.w11 B.a12 B.w12 B.a13 B.w13 v2012 v2026 v2040 v2054 v2068 v2274 v2287 v2300 v2313 v2466 v2467 v2471 v2472 cst_871) := by
  rw [k0_part38_eq_skeleton]; unfold k0_part38_skel; try dsimp only
  repeat' first | (with_reducible first | exact Safe.pure _ | refine Safe.bind ?_ fun _ => ?_) | split

theorem s_part39 {c : Dev nD} {R : sProp 𝕄} {B : Bufs} (H : Mem (F := F) c R B) (i : grid0.Coords) (v2068 v2082 v2096 v2110 v2313 v2326 v2339 v2352 v2519 v2522 v2523) :
    Safe c R (k0_part39 i B.a2 B.w2 B.a3 B.w3 B.a4 B.w4 B.a5 B.w5 B.a6 B.w6 B.a7 B.w7 B.a8 B.w8 B.a9 B.w9 B.a10 B.w10 B.a11 B.w11 B.a12 B.w12 B.a13 B.w13 v2068 v2082 v2096 v2110 v2313 v2326 v2339 v2352 v2519 v2522 v2523) := by
  rw [k0_part39_eq_skeleton]; unfold k0_part39_skel; try dsimp only
  repeat' first | (with_reducible first | exact Safe.pure _ | refine Safe.bind ?_ fun _ => ?_) | split

theorem s_part40 {c : Dev nD} {R : sProp 𝕄} {B : Bufs} (H : Mem (F := F) c R B) (i : grid0.Coords) (v634 v1136 v1142 v1148 v1154 v1160 v1166 v1172 v2110 v2124 v2138 v2365 v2378 v2569 v2570 v2571) :
    Safe c R (k0_part40 i B.a2 B.w2 B.a3 B.w3 B.a4 B.w4 B.a5 B.w5 B.a6 B.w6 B.a7 B.w7 B.a8 B.w8 B.a9 B.w9 B.a10 B.w10 B.a11 B.w11 B.a12 B.w12 B.a13 B.w13 v634 v1136 v1142 v1148 v1154 v1160 v1166 v1172 v2110 v2124 v2138 v2365 v2378 v2569 v2570 v2571) := by
  rw [k0_part40_eq_skeleton]; unfold k0_part40_skel; try dsimp only
  repeat' first | (with_reducible first | exact Safe.pure _ | refine Safe.bind ?_ fun _ => ?_) | split

theorem s_part41 {c : Dev nD} {R : sProp 𝕄} {B : Bufs} (H : Mem (F := F) c R B) (i : grid0.Coords) (v634 v1178 v1184 v1190 v1196 v1202 v1208 v1214 v1220 v1226 v2392 v2406 v2604 v2606 v2608 v2617) :
    Safe c R (k0_part41 i B.a2 B.w2 B.a3 B.w3 B.a4 B.w4 B.a5 B.w5 B.a6 B.w6 B.a7 B.w7 B.a8 B.w8 B.a9 B.w9 B.a10 B.w10 B.a11 B.w11 B.a12 B.w12 B.a13 B.w13 v634 v1178 v1184 v1190 v1196 v1202 v1208 v1214 v1220 v1226 v2392 v2406 v2604 v2606 v2608 v2617) := by
  rw [k0_part41_eq_skeleton]; unfold k0_part41_skel; try dsimp only
  repeat' first | (with_reducible first | exact Safe.pure _ | refine Safe.bind ?_ fun _ => ?_) | split

theorem s_part42 {c : Dev nD} {R : sProp 𝕄} {B : Bufs} (H : Mem (F := F) c R B) (i : grid0.Coords) (v2420 v2434 v2448 v2462 v2610 v2612 v2614 v2661 v2663) :
    Safe c R (k0_part42 i B.a2 B.w2 B.a3 B.w3 B.a4 B.w4 B.a5 B.w5 B.a6 B.w6 B.a7 B.w7 B.a8 B.w8 B.a9 B.w9 B.a10 B.w10 B.a11 B.w11 B.a12 B.w12 B.a13 B.w13 v2420 v2434 v2448 v2462 v2610 v2612 v2614 v2661 v2663) := by
  rw [k0_part42_eq_skeleton]; unfold k0_part42_skel; try dsimp only
  repeat' first | (with_reducible first | exact Safe.pure _ | refine Safe.bind ?_ fun _ => ?_) | split

theorem s_part43 {c : Dev nD} {R : sProp 𝕄} {B : Bufs} (H : Mem (F := F) c R B) (i : grid0.Coords) (v2476 v2490 v2504 v2518 v2616 v2618 v2620 v2622 v2708 v2711) :
    Safe c R (k0_part43 i B.a2 B.w2 B.a3 B.w3 B.a4 B.w4 B.a5 B.w5 B.a6 B.w6 B.a7 B.w7 B.a8 B.w8 B.a9 B.w9 B.a10 B.w10 B.a11 B.w11 B.a12 B.w12 B.a13 B.w13 v2476 v2490 v2504 v2518 v2616 v2618 v2620 v2622 v2708 v2711) := by
  rw [k0_part43_eq_skeleton]; unfold k0_part43_skel; try dsimp only
  repeat' first | (with_reducible first | exact Safe.pure _ | refine Safe.bind ?_ fun _ => ?_) | split

theorem s_part44 {c : Dev nD} {R : sProp 𝕄} {B : Bufs} (H : Mem (F := F) c R B) (i : grid0.Coords) (v2532 v2546 v2560 v2574 v2624 v2626 v2628 v2630 v2752 v2755 v2756 v2759 v2760 cst_943) :
    Safe c R (k0_part44 i B.a2 B.w2 B.a3 B.w3 B.a4 B.w4 B.a5 B.w5 B.a6 B.w6 B.a7 B.w7 B.a8 B.w8 B.a9 B.w9 B.a10 B.w10 B.a11 B.w11 B.a12 B.w12 B.a13 B.w13 v2532 v2546 v2560 v2574 v2624 v2626 v2628 v2630 v2752 v2755 v2756 v2759 v2760 cst_943) := by
  rw [k0_part44_eq_skeleton]; unfold k0_part44_skel; try dsimp only
  repeat' first | (with_reducible first | exact Safe.pure _ | refine Safe.bind ?_ fun _ => ?_) | split

theorem s_part45 {c : Dev nD} {R : sProp 𝕄} {B : Bufs} (H : Mem (F := F) c R B) (i : grid0.Coords) (v2392 v2406 v2588 v2602 v2632 v2634 v2647 v2804 v2807 v2808 v2810) :
    Safe c R (k0_part45 i B.a2 B.w2 B.a3 B.w3 B.a4 B.w4 B.a5 B.w5 B.a6 B.w6 B.a7 B.w7 B.a8 B.w8 B.a9 B.w9 B.a10 B.w10 B.a11 B.w11 B.a12 B.w12 B.a13 B.w13 v2392 v2406 v2588 v2602 v2632 v2634 v2647 v2804 v2807 v2808 v2810) := by
  rw [k0_part45_eq_skeleton]; unfold k0_part45_skel; try dsimp only
  repeat' first | (with_reducible first | exact Safe.pure _ | refine Safe.bind ?_ fun _ => ?_) | split

theorem s_part46 {c : Dev nD} {R : sProp 𝕄} {B : Bufs} (H : Mem (F := F) c R B) (i : grid0.Coords) (v2406 v2420 v2434 v2448 v2660 v2673 v2686 v2699 v2857 v2858) :
    Safe c R (k0_part46 i B.a2 B.w2 B.a3 B.w3 B.a4 B.w4 B.a5 B.w5 B.a6 B.w6 B.a7 B.w7 B.a8 B.w8 B.a9 B.w9 B.a10 B.w10 B.a11 B.w11 B.a12 B.w12 B.a13 B.w13 v2406 v2420 v2434 v2448 v2660 v2673 v2686 v2699 v2857 v2858) := by
  rw [k0_part46_eq_skeleton]; unfold k0_part46_skel; try dsimp only
  repeat' first | (with_reducible first | exact Safe.pure _ | refine Safe.bind ?_ fun _ => ?_) | split

theorem s_part47 {c : Dev nD} {R : sProp 𝕄} {B : Bufs} (H : Mem (F := F) c R B) (i : grid0.Coords) (v2448 v2462 v2476 v2490 v2504 v2712 v2725 v2738 v2899 v2902 v2903 v2906 v2907 cst_976) :
    Safe c R (k0_part47 i B.a2 B.w2 B.a3 B.w3 B.a4 B.w4 B.a5 B.w5 B.a6 B.w6 B.a7 B.w7 B.a8 B.w8 B.a9 B.w9 B.a10 B.w10 B.a11 B.w11 B.a12 B.w12 B.a13 B.w13 v2448 v2462 v2476 v2490 v2504 v2712 v2725 v2738 v2899 v2902 v2903 v2906 v2907 cst_976) := by
  rw [k0_part47_eq_skeleton]; unfold k0_part47_skel; try dsimp only
  repeat' first | (with_reducible first | exact Safe.pure _ | refine Safe.bind ?_ fun _ => ?_) | split

theorem s_part48 {c : Dev nD} {R : sProp 𝕄} {B : Bufs} (H : Mem (F := F) c R B) (i : grid0.Coords) (v2504 v2518 v2532 v2546 v2751 v2764 v2777 v2790 v2955 v2957) :
    Safe c R (k0_part48 i B.a2 B.w2 B.a3 B.w3 B.a4 B.w4 B.a5 B.w5 B.a6 B.w6 B.a7 B.w7 B.a8 B.w8 B.a9 B.w9 B.a10 B.w10 B.a11 B.w11 B.a12 B.w12 B.a13 B.w13 v2504 v2518 v2532 v2546 v2751 v2764 v2777 v2790 v2955 v2957) := by
  rw [k0_part48_eq_skeleton]; unfold k0_part48_skel; try dsimp only
  repeat' first | (with_reducible first | exact Safe.pure _ | refine Safe.bind ?_ fun _ => ?_) | split

theorem s_part49 {c : Dev nD} {R : sProp 𝕄} {B : Bufs} (H : Mem (F := F) c R B) (i : grid0.Coords) (v2546 v2560 v2574 v2588 v2602 v2803 v2816 v2829 v3000 v3001 v3005 v3006) :
    Safe c R (k0_part49 i B.a2 B.w2 B.a3 B.w3 B.a4 B.w4 B.a5 B.w5 B.a6 B.w6 B.a7 B.w7 B.a8 B.w8 B.a9 B.w9 B.a10 B.w10 B.a11 B.w11 B.a12 B.w12 B.a13 B.w13 v2546 v2560 v2574 v2588 v2602 v2803 v2816 v2829 v3000 v3001 v3005 v3006) := by
  rw [k0_part49_eq_skeleton]; unfold k0_part49_skel; try dsimp only
  repeat' first | (with_reducible first | exact Safe.pure _ | refine Safe.bind ?_ fun _ => ?_) | split

theorem s_part50 {c : Dev nD} {R : sProp 𝕄} {B : Bufs} (H : Mem (F := F) c R B) (i : grid0.Coords) (v734 v1136 v1142 v1148 v1154 v1160 v1166 v1172 v1178 v1184 v1190 v1196 v1202 v1208 v1214 v1220 v2602 v2842 v3053 v3056) :
    Safe c R (k0_part50 i B.a2 B.w2 B.a3 B.w3 B.a4 B.w4 B.a5 B.w5 B.a6 B.w6 B.a7 B.w7 B.a8 B.w8 B.a9 B.w9 B.a10 B.w10 B.a11 B.w11 B.a12 B.w12 B.a13 B.w13 v734 v1136 v1142 v1148 v1154 v1160 v1166 v1172 v1178 v1184 v1190 v1196 v1202 v1208 v1214 v1220 v2602 v2842 v3053 v3056) := by
  rw [k0_part50_eq_skeleton]; unfold k0_part50_skel; try dsimp only
  repeat' first | (with_reducible first | exact Safe.pure _ | refine Safe.bind ?_ fun _ => ?_) | split

theorem s_part51 {c : Dev nD} {R : sProp 𝕄} {B : Bufs} (H : Mem (F := F) c R B) (i : grid0.Coords) (v734 v1226 v2856 v2870 v2884 v2898 v3068 v3070 v3072 v3074 v3097) :
    Safe c R (k0_part51 i B.a2 B.w2 B.a3 B.w3 B.a4 B.w4 B.a5 B.w5 B.a6 B.w6 B.a7 B.w7 B.a8 B.w8 B.a9 B.w9 B.a10 B.w10 B.a11 B.w11 B.a12 B.w12 B.a13 B.w13 v734 v1226 v2856 v2870 v2884 v2898 v3068 v3070 v3072 v3074 v3097) := by
  rw [k0_part51_eq_skeleton]; unfold k0_part51_skel; try dsimp only
  repeat' first | (with_reducible first | exact Safe.pure _ | refine Safe.bind ?_ fun _ => ?_) | split

theorem s_part52 {c : Dev nD} {R : sProp 𝕄} {B : Bufs} (H : Mem (F := F) c R B) (i : grid0.Coords) (v2912 v2926 v2940 v2954 v3076 v3078 v3080 v3082 v3138 v3141 v3142 v3145 v3146 cst_1037) :
    Safe c R (k0_part52 i B.a2 B.w2 B.a3 B.w3 B.a4 B.w4 B.a5 B.w5 B.a6 B.w6 B.a7 B.w7 B.a8 B.w8 B.a9 B.w9 B.a10 B.w10 B.a11 B.w11 B.a12 B.w12 B.a13 B.w13 v2912 v2926 v2940 v2954 v3076 v3078 v3080 v3082 v3138 v3141 v3142 v3145 v3146 cst_1037) := by
  rw [k0_part52_eq_skeleton]; unfold k0_part52_skel; try dsimp only
  repeat' first | (with_reducible first | exact Safe.pure _ | refine Safe.bind ?_ fun _ => ?_) | split

theorem s_part53 {c : Dev nD} {R : sProp 𝕄} {B : Bufs} (H : Mem (F := F) c R B) (i : grid0.Coords) (v2968 v2982 v2996 v3084 v3086 v3088 v3090 v3190 v3193 v3194 v3196) :
    Safe c R (k0_part53 i B.a2 B.w2 B.a3 B.w3 B.a4 B.w4 B.a5 B.w5 B.a6 B.w6 B.a7 B.w7 B.a8 B.w8 B.a9 B.w9 B.a10 B.w10 B.a11 B.w11 B.a12 B.w12 B.a13 B.w13 v2968 v2982 v2996 v3084 v3086 v3088 v3090 v3190 v3193 v3194 v3196) := by
  rw [k0_part53_eq_skeleton]; unfold k0_part53_skel; try dsimp only
  repeat' first | (with_reducible first | exact Safe.pure _ | refine Safe.bind ?_ fun _ => ?_) | split

theorem s_part54 {c : Dev nD} {R : sProp 𝕄} {B : Bufs} (H : Mem (F := F) c R B) (i : grid0.Coords) (v3010 v3024 v3038 v3052 v3092 v3094 v3096 v3242 v3244) :
    Safe c R (k0_part54 i B.a2 B.w2 B.a3 B.w3 B.a4 B.w4 B.a5 B.w5 B.a6 B.w6 B.a7 B.w7 B.a8 B.w8 B.a9 B.w9 B.a10 B.w10 B.a11 B.w11 B.a12 B.w12 B.a13 B.w13 v3010 v3024 v3038 v3052 v3092 v3094 v3096 v3242 v3244) := by
  rw [k0_part54_eq_skeleton]; unfold k0_part54_skel; try dsimp only
  repeat' first | (with_reducible first | exact Safe.pure _ | refine Safe.bind ?_ fun _ => ?_) | split

theorem s_part55 {c : Dev nD} {R : sProp 𝕄} {B : Bufs} (H : Mem (F := F) c R B) (i : grid0.Coords) (v2856 v2870 v2884 v3066 v3098 v3111 v3124 v3137 v3289 v3292) :
    Safe c R (k0_part55 i B.a2 B.w2 B.a3 B.w3 B.a4 B.w4 B.a5 B.w5 B.a6 B.w6 B.a7 B.w7 B.a8 B.w8 B.a9 B.w9 B.a10 B.w10 B.a11 B.w11 B.a12 B.w12 B.a13 B.w13 v2856 v2870 v2884 v3066 v3098 v3111 v3124 v3137 v3289 v3292) := by
  rw [k0_part55_eq_skeleton]; unfold k0_part55_skel; try dsimp only
  repeat' first | (with_reducible first | exact Safe.pure _ | refine Safe.bind ?_ fun _ => ?_) | split

theorem s_part56 {c : Dev nD} {R : sProp 𝕄} {B : Bufs} (H : Mem (F := F) c R B) (i : grid0.Coords) (v2884 v2898 v2912 v2926 v2940 v3150 v3163 v3176 v3335 v3338 v3339 v3342 cst_1081) :
    Safe c R (k0_part56 i B.a2 B.w2 B.a3 B.w3 B.a4 B.w4 B.a5 B.w5 B.a6 B.w6 B.a7 B.w7 B.a8 B.w8 B.a9 B.w9 B.a10 B.w10 B.a11 B.w11 B.a12 B.w12 B.a13 B.w13 v2884 v2898 v2912 v2926 v2940 v3150 v3163 v3176 v3335 v3338 v3339 v3342 cst_1081) := by
  rw [k0_part56_eq_skeleton]; unfold k0_part56_skel; try dsimp only
  repeat' first | (with_reducible first | exact Safe.pure _ | refine Safe.bind ?_ fun _ => ?_) | split

theorem s_part57 {c : Dev nD} {R : sProp 𝕄} {B : Bufs} (H : Mem (F := F) c R B) (i : grid0.Coords) (v2940 v2954 v2968 v2982 v3189 v3202 v3215 v3228 v3391) :
    Safe c R (k0_part57 i B.a2 B.w2 B.a3 B.w3 B.a4 B.w4 B.a5 B.w5 B.a6 B.w6 B.a7 B.w7 B.a8 B.w8 B.a9 B.w9 B.a10 B.w10 B.a11 B.w11 B.a12 B.w12 B.a13 B.w13 v2940 v2954 v2968 v2982 v3189 v3202 v3215 v3228 v3391) := by
  rw [k0_part57_eq_skeleton]; unfold k0_part57_skel; try dsimp only
  repeat' first | (with_reducible first | exact Safe.pure _ | refine Safe.bind ?_ fun _ => ?_) | split

theorem s_part58 {c : Dev nD} {R : sProp 𝕄} {B : Bufs} (H : Mem (F := F) c R B) (i : grid0.Coords) (v2982 v2996 v3010 v3024 v3038 v3241 v3254 v3267 v3433 v3436 v3437 v3440 v3441) :
    Safe c R (k0_part58 i B.a2 B.w2 B.a3 B.w3 B.a4 B.w4 B.a5 B.w5 B.a6 B.w6 B.a7 B.w7 B.a8 B.w8 B.a9 B.w9 B.a10 B.w10 B.a11 B.w11 B.a12 B.w12 B.a13 B.w13 v2982 v2996 v3010 v3024 v3038 v3241 v3254 v3267 v3433 v3436 v3437 v3440 v3441) := by
  rw [k0_part58_eq_skeleton]; unfold k0_part58_skel; try dsimp only
  repeat' first | (with_reducible first | exact Safe.pure _ | refine Safe.bind ?_ fun _ => ?_) | split

theorem s_part59 {c : Dev nD} {R : sProp 𝕄} {B : Bufs} (H : Mem (F := F) c R B) (i : grid0.Coords) (v1100 v1102 v1104 v3038 v3052 v3066 v3280 v3293 v3306 v3320 v3334 v3348 v3489 v3490) :
    Safe c R (k0_part59 i B.a2 B.w2 B.a3 B.w3 B.a4 B.w4 B.a5 B.w5 B.a6 B.w6 B.a7 B.w7 B.a8 B.w8 B.a9 B.w9 B.a10 B.w10 B.a11 B.w11 B.a12 B.w12 B.a13 B.w13 v1100 v1102 v1104 v3038 v3052 v3066 v3280 v3293 v3306 v3320 v3334 v3348 v3489 v3490) := by
  rw [k0_part59_eq_skeleton]; unfold k0_part59_skel; try dsimp only
  repeat' first | (with_reducible first | exact Safe.pure _ | refine Safe.bind ?_ fun _ => ?_) | split

theorem s_part60 {c : Dev nD} {R : sProp 𝕄} {B : Bufs} (H : Mem (F := F) c R B) (i : grid0.Coords) (v939 v1068 v1106 v1108 v1110 v1112 v1114 v1116 v1118 v1120 v1122 v1124 v1126 v1128 v1130 v3320 v3362 v3376 v3390 v3404 v3418 v3432 v3446 v3460 v3474 v3488 v3502 v3516 v3530 v3537 v3538 cst_1125) :
    Safe c R (k0_part60 i B.a2 B.w2 B.a3 B.w3 B.a4 B.w4 B.a5 B.w5 B.a6 B.w6 B.a7 B.w7 B.a8 B.w8 B.a9 B.w9 B.a10 B.w10 B.a11 B.w11 B.a12 B.w12 B.a13 B.w13 v939 v1068 v1106 v1108 v1110 v1112 v1114 v1116 v1118 v1120 v1122 v1124 v1126 v1128 v1130 v3320 v3362 v3376 v3390 v3404 v3418 v3432 v3446 v3460 v3474 v3488 v3502 v3516 v3530 v3537 v3538 cst_1125) := by
  rw [k0_part60_eq_skeleton]; unfold k0_part60_skel; try dsimp only
  repeat' first | (with_reducible first | exact Safe.pure _ | refine Safe.bind ?_ fun _ => ?_) | split

theorem s_part81 {c : Dev nD} {R : sProp 𝕄} {B : Bufs} (H : Mem (F := F) c R B) (i : grid0.Coords) (v380 v381 v385 v434 v534 v634 v734 c0_i32_341 c1_i32_342 k0_t1) :
    Safe c R (k0_part81 i B.a2 B.w2 B.a3 B.w3 B.a4 B.w4 B.a5 B.w5 B.a6 B.w6 B.a7 B.w7 B.a8 B.w8 B.a9 B.w9 B.a10 B.w10 B.a11 B.w11 B.a12 B.w12 B.a13 B.w13 v380 v381 v385 v434 v534 v634 v734 c0_i32_341 c1_i32_342 k0_t1) := by
  rw [k0_part81_eq_skeleton]; unfold k0_part81_skel; try dsimp only
  repeat' first | (with_reducible first | exact Safe.pure _ | refine Safe.bind ?_ fun _ => ?_ | exact s_part1 H .. | exact s_part2 H .. | exact s_part3 H .. | exact s_part4 H .. | exact s_part5 H .. | exact s_part6 H .. | exact s_part7 H .. | exact s_part8 H .. | exact s_part9 H .. | exact s_part10 H .. | exact s_part11 H .. | exact s_part12 H .. | exact s_part13 H .. | exact s_part14 H .. | exact s_part15 H .. | exact s_part16 H .. | exact s_part17 H .. | exact s_part18 H .. | exact s_part19 H .. | exact s_part20 H .. | exact s_part21 H .. | exact s_part22 H .. | exact s_part23 H .. | exact s_part24 H .. | exact s_part25 H .. | exact s_part26 H .. | exact s_part27 H .. | exact s_part28 H .. | exact s_part29 H .. | exact s_part30 H .. | exact s_part31 H .. | exact s_part32 H .. | exact s_part33 H .. | exact s_part34 H .. | exact s_part35 H .. | exact s_part36 H .. | exact s_part37 H .. | exact s_part38 H .. | exact s_part39 H .. | exact s_part40 H .. | exact s_part41 H .. | exact s_part42 H .. | exact s_part43 H .. | exact s_part44 H .. | exact s_part45 H .. | exact s_part46 H .. | exact s_part47 H .. | exact s_part48 H .. | exact s_part49 H .. | exact s_part50 H .. | exact s_part51 H .. | exact s_part52 H .. | exact s_part53 H .. | exact s_part54 H .. | exact s_part55 H .. | exact s_part56 H .. | exact s_part57 H .. | exact s_part58 H .. | exact s_part59 H .. | exact s_part60 H ..) | split

theorem s_part61 {c : Dev nD} {R : sProp 𝕄} {B : Bufs} (H : Mem (F := F) c R B) (i : grid0.Coords) (v940 v941 v942 v943 v944 v945 v946 v947 v948 v1070 v1072 v1074 v1076 v1078 v1080 v1082 v1084 v1086 v3334 v3348 v3362 v3376 v3390 v3404 v3418 v3432 v3446) :
    Safe c R (k0_part61 i B.a2 B.w2 B.a3 B.w3 B.a4 B.w4 B.a5 B.w5 B.a6 B.w6 B.a7 B.w7 B.a8 B.w8 B.a9 B.w9 B.a10 B.w10 B.a11 B.w11 B.a12 B.w12 B.a13 B.w13 v940 v941 v942 v943 v944 v945 v946 v947 v948 v1070 v1072 v1074 v1076 v1078 v1080 v1082 v1084 v1086 v3334 v3348 v3362 v3376 v3390 v3404 v3418 v3432 v3446) := by
  rw [k0_part61_eq_skeleton]; unfold k0_part61_skel; try dsimp only
  repeat' first | (with_reducible first | exact Safe.pure _ | refine Safe.bind ?_ fun _ => ?_) | split

theorem s_part62 {c : Dev nD} {R : sProp 𝕄} {B : Bufs} (H : Mem (F := F) c R B) (i : grid0.Coords) (v765 v768 v771 v813 v816 v819 v949 v950 v951 v952 v953 v954 v976 v982 v988 v1088 v1090 v1092 v1094 v1096 v1098 v3460 v3474 v3488 v3502 v3516 v3530 v3635 v3636) :
    Safe c R (k0_part62 i B.a2 B.w2 B.a3 B.w3 B.a4 B.w4 B.a5 B.w5 B.a6 B.w6 B.a7 B.w7 B.a8 B.w8 B.a9 B.w9 B.a10 B.w10 B.a11 B.w11 B.a12 B.w12 B.a13 B.w13 v765 v768 v771 v813 v816 v819 v949 v950 v951 v952 v953 v954 v976 v982 v988 v1088 v1090 v1092 v1094 v1096 v1098 v3460 v3474 v3488 v3502 v3516 v3530 v3635 v3636) := by
  rw [k0_part62_eq_skeleton]; unfold k0_part62_skel; try dsimp only
  repeat' first | (with_reducible first | exact Safe.pure _ | refine Safe.bind ?_ fun _ => ?_) | split

theorem s_part63 {c : Dev nD} {R : sProp 𝕄} {B : Bufs} (H : Mem (F := F) c R B) (i : grid0.Coords) (v774 v777 v780 v783 v786 v789 v792 v795 v798 v801 v804 v807 v822 v825 v828 v831 v834 v837 v840 v843 v846 v849 v852 v855 v994 v1000 v1006 v1012 v1018 v1024 v1030 v1036 v1042 v1048 v1054 v1060) :
    Safe c R (k0_part63 i B.a2 B.w2 B.a3 B.w3 B.a4 B.w4 B.a5 B.w5 B.a6 B.w6 B.a7 B.w7 B.a8 B.w8 B.a9 B.w9 B.a10 B.w10 B.a11 B.w11 B.a12 B.w12 B.a13 B.w13 v774 v777 v780 v783 v786 v789 v792 v795 v798 v801 v804 v807 v822 v825 v828 v831 v834 v837 v840 v843 v846 v849 v852 v855 v994 v1000 v1006 v1012 v1018 v1024 v1030 v1036 v1042 v1048 v1054 v1060) := by
  rw [k0_part63_eq_skeleton]; unfold k0_part63_skel; try dsimp only
  repeat' first | (with_reducible first | exact Safe.pure _ | refine Safe.bind ?_ fun _ => ?_) | split

theorem s_part64 {c : Dev nD} {R : sProp 𝕄} {B : Bufs} (H : Mem (F := F) c R B) (i : grid0.Coords) (v765 v768 v771 v774 v777 v780 v783 v786 v789 v792 v795 v798 v801 v804 v807 v810 v858 v923 v924 v925 v926 v927 v928 v929 v939 v940 v941 v942 v943 v944 v945 v946 v947 v948 v949 v950 v951 v952 v953 v954 v1066) :
    Safe c R (k0_part64 i B.a2 B.w2 B.a3 B.w3 B.a4 B.w4 B.a5 B.w5 B.a6 B.w6 B.a7 B.w7 B.a8 B.w8 B.a9 B.w9 B.a10 B.w10 B.a11 B.w11 B.a12 B.w12 B.a13 B.w13 v765 v768 v771 v774 v777 v780 v783 v786 v789 v792 v795 v798 v801 v804 v807 v810 v858 v923 v924 v925 v926 v927 v928 v929 v939 v940 v941 v942 v943 v944 v945 v946 v947 v948 v949 v950 v951 v952 v953 v954 v1066) := by
  rw [k0_part64_eq_skeleton]; unfold k0_part64_skel; try dsimp only
  repeat' first | (with_reducible first | exact Safe.pure _ | refine Safe.bind ?_ fun _ => ?_) | split

theorem s_part65 {c : Dev nD} {R : sProp 𝕄} {B : Bufs} (H : Mem (F := F) c R B) (i : grid0.Coords) (v813 v816 v819 v822 v825 v828 v831 v834 v930 v931 v932 v933 v934 v935 v936 v937 v938 v939 v940 v941 v942 v943 v944 v945 v946 v947 v3787 v3788 v3789 v3790 v3791 v3792 v3793) :
    Safe c R (k0_part65 i B.a2 B.w2 B.a3 B.w3 B.a4 B.w4 B.a5 B.w5 B.a6 B.w6 B.a7 B.w7 B.a8 B.w8 B.a9 B.w9 B.a10 B.w10 B.a11 B.w11 B.a12 B.w12 B.a13 B.w13 v813 v816 v819 v822 v825 v828 v831 v834 v930 v931 v932 v933 v934 v935 v936 v937 v938 v939 v940 v941 v942 v943 v944 v945 v946 v947 v3787 v3788 v3789 v3790 v3791 v3792 v3793) := by
  rw [k0_part65_eq_skeleton]; unfold k0_part65_skel; try dsimp only
  repeat' first | (with_reducible first | exact Safe.pure _ | refine Safe.bind ?_ fun _ => ?_) | split

theorem s_part66 {c : Dev nD} {R : sProp 𝕄} {B : Bufs} (H : Mem (F := F) c R B) (i : grid0.Coords) (v837 v840 v843 v846 v849 v852 v855 v858 v948 v949 v950 v951 v952 v953 v954 v3796 v3797 v3798 v3799 v3800 v3801 v3802 v3853) :
    Safe c R (k0_part66 i B.a2 B.w2 B.a3 B.w3 B.a4 B.w4 B.a5 B.w5 B.a6 B.w6 B.a7 B.w7 B.a8 B.w8 B.a9 B.w9 B.a10 B.w10 B.a11 B.w11 B.a12 B.w12 B.a13 B.w13 v837 v840 v843 v846 v849 v852 v855 v858 v948 v949 v950 v951 v952 v953 v954 v3796 v3797 v3798 v3799 v3800 v3801 v3802 v3853) := by
  rw [k0_part66_eq_skeleton]; unfold k0_part66_skel; try dsimp only
  repeat' first | (with_reducible first | exact Safe.pure _ | refine Safe.bind ?_ fun _ => ?_ | exact Safe.load H.h10.lends) | split

theorem s_part67 {c : Dev nD} {R : sProp 𝕄} {B : Bufs} (H : Mem (F := F) c R B) (i : grid0.Coords) (v3533 v3536 v3539 v3542 v3545 v3548 v3551 v3584 v3590 v3596 v3602 v3608 v3614 v3620 v3900 v3902 v3904) :
    Safe c R (k0_part67 i B.a2 B.w2 B.a3 B.w3 B.a4 B.w4 B.a5 B.w5 B.a6 B.w6 B.a7 B.w7 B.a8 B.w8 B.a9 B.w9 B.a10 B.w10 B.a11 B.w11 B.a12 B.w12 B.a13 B.w13 v3533 v3536 v3539 v3542 v3545 v3548 v3551 v3584 v3590 v3596 v3602 v3608 v3614 v3620 v3900 v3902 v3904) := by
  rw [k0_part67_eq_skeleton]; unfold k0_part67_skel; try dsimp only
  repeat' first | (with_reducible first | exact Safe.pure _ | refine Safe.bind ?_ fun _ => ?_ | exact Safe.load H.h10.lends) | split

theorem s_part68 {c : Dev nD} {R : sProp 𝕄} {B : Bufs} (H : Mem (F := F) c R B) (i : grid0.Coords) (v3554 v3626 v3678 v3682 v3686 v3690 v3694 v3698 v3741 v3744 v3747 v3750 v3753 v3756 v3759 v3900 v3902 v3904 v3906 v3908 v3910 v3914 v3918 v3922 v3926 v3930 v3934 v3938) :
    Safe c R (k0_part68 i B.a2 B.w2 B.a3 B.w3 B.a4 B.w4 B.a5 B.w5 B.a6 B.w6 B.a7 B.w7 B.a8 B.w8 B.a9 B.w9 B.a10 B.w10 B.a11 B.w11 B.a12 B.w12 B.a13 B.w13 v3554 v3626 v3678 v3682 v3686 v3690 v3694 v3698 v3741 v3744 v3747 v3750 v3753 v3756 v3759 v3900 v3902 v3904 v3906 v3908 v3910 v3914 v3918 v3922 v3926 v3930 v3934 v3938) := by
  rw [k0_part68_eq_skeleton]; unfold k0_part68_skel; try dsimp only
  repeat' first | (with_reducible first | exact Safe.pure _ | refine Safe.bind ?_ fun _ => ?_) | split

theorem s_part69 {c : Dev nD} {R : sProp 𝕄} {B : Bufs} (H : Mem (F := F) c R B) (i : grid0.Coords) (v3702 v3706 v3762 v3787 v3788 v3789 v3790 v3791 v3792 v3808 v3814 v3820 v3826 v3832 v3900 v3902 v3904 v3906 v3908 v3910 v3912 v3914 v3918 v3922 v3926 v3930 v3934 v3942 v3946 v3989) :
    Safe c R (k0_part69 i B.a2 B.w2 B.a3 B.w3 B.a4 B.w4 B.a5 B.w5 B.a6 B.w6 B.a7 B.w7 B.a8 B.w8 B.a9 B.w9 B.a10 B.w10 B.a11 B.w11 B.a12 B.w12 B.a13 B.w13 v3702 v3706 v3762 v3787 v3788 v3789 v3790 v3791 v3792 v3808 v3814 v3820 v3826 v3832 v3900 v3902 v3904 v3906 v3908 v3910 v3912 v3914 v3918 v3922 v3926 v3930 v3934 v3942 v3946 v3989) := by
  rw [k0_part69_eq_skeleton]; unfold k0_part69_skel; try dsimp only
  repeat' first | (with_reducible first | exact Safe.pure _ | refine Safe.bind ?_ fun _ => ?_) | split

theorem s_part70 {c : Dev nD} {R : sProp 𝕄} {B : Bufs} (H : Mem (F := F) c R B) (i : grid0.Coords) (k0_t1 v760 v3793 v3794 v3838 v3844 v3850 v3912 v3914 v3938 v3942 v3946 v3953 v3960 v4040) :
    Safe c R (k0_part70 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v760 v3793 v3794 v3838 v3844 v3850 v3912 v3914 v3938 v3942 v3946 v3953 v3960 v4040) := by
  rw [k0_part70_eq_skeleton]; unfold k0_part70_skel; try dsimp only
  repeat' first | (with_reducible first | exact Safe.pure _ | refine Safe.bind ?_ fun _ => ?_ | exact Safe.load H.h8 | exact Safe.load H.h13.lends | exact Safe.store H.h13) | split

theorem s_part71 {c : Dev nD} {R : sProp 𝕄} {B : Bufs} (H : Mem (F := F) c R B) (i : grid0.Coords) (k0_t1 v760 v3967 v3974 v4086) :
    Safe c R (k0_part71 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v760 v3967 v3974 v4086) := by
  rw [k0_part71_eq_skeleton]; unfold k0_part71_skel; try dsimp only
  repeat' first | (with_reducible first | exact Safe.pure _ | refine Safe.bind ?_ fun _ => ?_ | exact Safe.load H.h8 | exact Safe.load H.h13.lends | exact Safe.store H.h13) | split

theorem s_part72 {c : Dev nD} {R : sProp 𝕄} {B : Bufs} (H : Mem (F := F) c R B) (i : grid0.Coords) (k0_t1 v760 v3981 v3988 v3995 v4126) :
    Safe c R (k0_part72 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v760 v3981 v3988 v3995 v4126) := by
  rw [k0_part72_eq_skeleton]; unfold k0_part72_skel; try dsimp only
  repeat' first | (with_reducible first | exact Safe.pure _ | refine Safe.bind ?_ fun _ => ?_ | exact Safe.load H.h8 | exact Safe.load H.h13.lends | exact Safe.store H.h13) | split

theorem s_part73 {c : Dev nD} {R : sProp 𝕄} {B : Bufs} (H : Mem (F := F) c R B) (i : grid0.Coords) (k0_t1 v760 v3557 v3560 v3632 v3638 v3644 v3995 v4002 v4009 v4016 v4168) :
    Safe c R (k0_part73 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v760 v3557 v3560 v3632 v3638 v3644 v3995 v4002 v4009 v4016 v4168) := by
  rw [k0_part73_eq_skeleton]; unfold k0_part73_skel; try dsimp only
  repeat' first | (with_reducible first | exact Safe.pure _ | refine Safe.bind ?_ fun _ => ?_ | exact Safe.load H.h8 | exact Safe.load H.h13.lends | exact Safe.store H.h13) | split

theorem s_part74 {c : Dev nD} {R : sProp 𝕄} {B : Bufs} (H : Mem (F := F) c R B) (i : grid0.Coords) (v3563 v3566 v3569 v3572 v3575 v3578 v3650 v3656 v3662 v3668 v3674 v3710 v3714 v3718 v3765 v3768 v3771 v3774 v4009 v4016 v4023 v4030 v4037 v4044 v4051 v4058 v4206 v4210 v4211) :
    Safe c R (k0_part74 i B.a2 B.w2 B.a3 B.w3 B.a4 B.w4 B.a5 B.w5 B.a6 B.w6 B.a7 B.w7 B.a8 B.w8 B.a9 B.w9 B.a10 B.w10 B.a11 B.w11 B.a12 B.w12 B.a13 B.w13 v3563 v3566 v3569 v3572 v3575 v3578 v3650 v3656 v3662 v3668 v3674 v3710 v3714 v3718 v3765 v3768 v3771 v3774 v4009 v4016 v4023 v4030 v4037 v4044 v4051 v4058 v4206 v4210 v4211) := by
  rw [k0_part74_eq_skeleton]; unfold k0_part74_skel; try dsimp only
  repeat' first | (with_reducible first | exact Safe.pure _ | refine Safe.bind ?_ fun _ => ?_) | split

theorem s_part75 {c : Dev nD} {R : sProp 𝕄} {B : Bufs} (H : Mem (F := F) c R B) (i : grid0.Coords) (v3722 v3726 v3730 v3734 v3738 v3777 v3780 v3783 v3786 v3795 v3796 v3797 v3856 v3862 v4009 v4016 v4023 v4037 v4044 v4051 v4058 v4206 v4210 v4218 v4222 v4226 v4230 v4234 v4258) :
    Safe c R (k0_part75 i B.a2 B.w2 B.a3 B.w3 B.a4 B.w4 B.a5 B.w5 B.a6 B.w6 B.a7 B.w7 B.a8 B.w8 B.a9 B.w9 B.a10 B.w10 B.a11 B.w11 B.a12 B.w12 B.a13 B.w13 v3722 v3726 v3730 v3734 v3738 v3777 v3780 v3783 v3786 v3795 v3796 v3797 v3856 v3862 v4009 v4016 v4023 v4037 v4044 v4051 v4058 v4206 v4210 v4218 v4222 v4226 v4230 v4234 v4258) := by
  rw [k0_part75_eq_skeleton]; unfold k0_part75_skel; try dsimp only
  repeat' first | (with_reducible first | exact Safe.pure _ | refine Safe.bind ?_ fun _ => ?_) | split

theorem s_part76 {c : Dev nD} {R : sProp 𝕄} {B : Bufs} (H : Mem (F := F) c R B) (i : grid0.Coords) (v3798 v3799 v3800 v3801 v3802 v3868 v3874 v3880 v3886 v3892 v3898 v4030 v4037 v4044 v4051 v4058 v4214 v4218 v4222 v4226 v4230 v4234 v4241 v4307) :
    Safe c R (k0_part76 i B.a2 B.w2 B.a3 B.w3 B.a4 B.w4 B.a5 B.w5 B.a6 B.w6 B.a7 B.w7 B.a8 B.w8 B.a9 B.w9 B.a10 B.w10 B.a11 B.w11 B.a12 B.w12 B.a13 B.w13 v3798 v3799 v3800 v3801 v3802 v3868 v3874 v3880 v3886 v3892 v3898 v4030 v4037 v4044 v4051 v4058 v4214 v4218 v4222 v4226 v4230 v4234 v4241 v4307) := by
  rw [k0_part76_eq_skeleton]; unfold k0_part76_skel; try dsimp only
  repeat' first | (with_reducible first | exact Safe.pure _ | refine Safe.bind ?_ fun _ => ?_) | split

theorem s_part77 {c : Dev nD} {R : sProp 𝕄} {B : Bufs} (H : Mem (F := F) c R B) (i : grid0.Coords) (k0_t1 v762 v4248 v4255 v4356) :
    Safe c R (k0_part77 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v762 v4248 v4255 v4356) := by
  rw [k0_part77_eq_skeleton]; unfold k0_part77_skel; try dsimp only
  repeat' first | (with_reducible first | exact Safe.pure _ | refine Safe.bind ?_ fun _ => ?_ | exact Safe.load H.h8 | exact Safe.load H.h13.lends | exact Safe.store H.h13) | split

theorem s_part78 {c : Dev nD} {R : sProp 𝕄} {B : Bufs} (H : Mem (F := F) c R B) (i : grid0.Coords) (k0_t1 v762 v4262 v4269 v4276 v4396 v4398) :
    Safe c R (k0_part78 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v762 v4262 v4269 v4276 v4396 v4398) := by
  rw [k0_part78_eq_skeleton]; unfold k0_part78_skel; try dsimp only
  repeat' first | (with_reducible first | exact Safe.pure _ | refine Safe.bind ?_ fun _ => ?_ | exact Safe.load H.h8 | exact Safe.load H.h13.lends | exact Safe.store H.h13) | split

theorem s_part79 {c : Dev nD} {R : sProp 𝕄} {B : Bufs} (H : Mem (F := F) c R B) (i : grid0.Coords) (k0_t1 v762 v4276 v4283 v4290 v4439 cst_1351) :
    Safe c R (k0_part79 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v762 v4276 v4283 v4290 v4439 cst_1351) := by
  rw [k0_part79_eq_skeleton]; unfold k0_part79_skel; try dsimp only
  repeat' first | (with_reducible first | exact Safe.pure _ | refine Safe.bind ?_ fun _ => ?_ | exact Safe.load H.h8 | exact Safe.load H.h13.lends | exact Safe.store H.h13) | split

theorem s_part80 {c : Dev nD} {R : sProp 𝕄} {B : Bufs} (H : Mem (F := F) c R B) (i : grid0.Coords) (k0_t1 v762 v4297 v4304 v4311 v4318 v4325 v4332 v4482) :
    Safe c R (k0_part80 i B.a2 B.w2 B.a3 B.w3 B.a4 B.w4 B.a5 B.w5 B.a6 B.w6 B.a7 B.w7 B.a8 B.w8 B.a9 B.w9 B.a10 B.w10 B.a11 B.w11 B.a12 B.w12 B.a13 B.w13 k0_t1 v762 v4297 v4304 v4311 v4318 v4325 v4332 v4482) := by
  rw [k0_part80_eq_skeleton]; unfold k0_part80_skel; try dsimp only
  repeat' first | (with_reducible first | exact Safe.pure _ | refine Safe.bind ?_ fun _ => ?_ | exact Safe.load H.h8 | exact Safe.load H.h10.lends | exact Safe.store H.h10 | exact Safe.load H.h13.lends | exact Safe.store H.h13) | split

theorem s_t1 {c : Dev nD} {R : sProp 𝕄} {B : Bufs} (H : Mem (F := F) c R B) (i : grid0.Coords) (v378 v379 v380 v381 v385 v434 v534 v634 v683 c32_i32_326 v685 v692 v698) :
    ∀ k acc, Safe c R (k0_t1_body i B.a2 B.w2 B.a3 B.w3 B.a4 B.w4 B.a5 B.w5 B.a6 B.w6 B.a7 B.w7 B.a8 B.w8 B.a9 B.w9 B.a10 B.w10 B.a11 B.w11 B.a12 B.w12 B.a13 B.w13 v378 v379 v380 v381 v385 v434 v534 v634 v683 c32_i32_326 v685 v692 v698 k acc) := by
  intro k acc; unfold k0_t1_body; try dsimp only
  repeat' first | (with_reducible first | exact Safe.pure _ | refine Safe.bind ?_ fun _ => ?_ | exact Safe.load H.h10.lends | exact Safe.store H.h10 | exact s_part81 H .. | exact s_part61 H .. | exact s_part62 H .. | exact s_part63 H .. | exact s_part64 H .. | exact s_part65 H .. | exact s_part66 H .. | exact s_part67 H .. | exact s_part68 H .. | exact s_part69 H .. | exact s_part70 H .. | exact s_part71 H .. | exact s_part72 H .. | exact s_part73 H .. | exact s_part74 H .. | exact s_part75 H .. | exact s_part76 H .. | exact s_part77 H .. | exact s_part78 H .. | exact s_part79 H .. | exact s_part80 H ..) | split

theorem s_part100 {c : Dev nD} {R : sProp 𝕄} {B : Bufs} (H : Mem (F := F) c R B) (i : grid0.Coords) (v378 v379 v380 v381 v385 v434 v534 v634 v683 c32_i32_326 v685 v692 v698) :
    Safe c R (k0_part100 i B.a2 B.w2 B.a3 B.w3 B.a4 B.w4 B.a5 B.w5 B.a6 B.w6 B.a7 B.w7 B.a8 B.w8 B.a9 B.w9 B.a10 B.w10 B.a11 B.w11 B.a12 B.w12 B.a13 B.w13 v378 v379 v380 v381 v385 v434 v534 v634 v683 c32_i32_326 v685 v692 v698) := by
  rw [k0_part100_eq_skeleton]; unfold k0_part100_skel; try dsimp only
  repeat' first | (with_reducible first | exact Safe.pure _ | refine Safe.bind ?_ fun _ => ?_ | exact Safe.load H.h13.lends | exact Safe.loop fun _ _ => s_t1 H ..) | split

theorem s_cc0_gated_delta_rule {c : Dev nD} {R : sProp 𝕄} {B : Bufs} (H : Mem (F := F) c R B) (i : grid0.Coords) :
    Safe c R (cc0_gated_delta_rule i B.a2 B.w2 B.a3 B.w3 B.a4 B.w4 B.a5 B.w5 B.a6 B.w6 B.a7 B.w7 B.a8 B.w8 B.a9 B.w9 B.a10 B.w10 B.a11 B.w11 B.a12 B.w12 B.a13 B.w13) := by
  rw [cc0_gated_delta_rule_eq_skeleton]; unfold cc0_gated_delta_rule_skel; try dsimp only
  repeat' first | (with_reducible first | exact Safe.pure _ | refine Safe.bind ?_ fun _ => ?_ | exact Safe.load H.h9.lends | exact Safe.store H.h9 | exact Safe.load H.h13.lends | exact s_part82 H .. | exact s_part83 H .. | exact s_part84 H .. | exact s_part85 H .. | exact s_part86 H .. | exact s_part87 H .. | exact s_part88 H .. | exact s_part89 H .. | exact s_part90 H .. | exact s_part91 H .. | exact s_part92 H .. | exact s_part93 H .. | exact s_part94 H .. | exact s_part95 H .. | exact s_part96 H .. | exact s_part97 H .. | exact s_part98 H .. | exact s_part99 H .. | exact s_part100 H ..) | split

end Cert.Proof.DeltaIdeal

end
-- ==== Proof.DeltaIdealFrame.lean ====
module

public import proofs.«01_k».proof.Proof.DeltaIdealSafe
public import Idealize.ShloMosaic.Lib.Pipeline.Value

@[expose] public section

noncomputable section

namespace Cert.Proof.DeltaIdeal

open Cert.DeltaIdeal Cert.DeltaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

local notation "𝕄" => MT nD τ sig Unit (Elt F) ℕ (UR sig nD τ) ℕ

/-! ## Lending out of a conjunction -/

theorem Lends.left {c : Dev nD} {A B : sProp 𝕄} {sp : Space} {S : Shape} {e : EltTy} {M : Memref sig .tc sp S e}
    (h : Lends (F := F) c A M) : Lends (F := F) c iprop(A ∗ B) M := by
  unfold Lends at *
  refine (sep_mono h .rfl).trans ?_
  iintro ⟨⟨%f, H, Hk⟩, Ho⟩
  iexists f
  isplitl [H]; · iexact H
  iintro H
  isplitl [Hk H]
  · iapply Hk; iexact H
  iexact Ho

theorem Lends.right {c : Dev nD} {A B : sProp 𝕄} {sp : Space} {S : Shape} {e : EltTy} {M : Memref sig .tc sp S e}
    (h : Lends (F := F) c B M) : Lends (F := F) c iprop(A ∗ B) M := by
  unfold Lends at *
  refine (sep_mono .rfl h).trans ?_
  iintro ⟨Ho, ⟨%f, H, Hk⟩⟩
  iexists f
  isplitl [H]; · iexact H
  iintro H
  isplitl [Ho]; · iexact Ho
  iapply Hk; iexact H

theorem Gives.left {c : Dev nD} {A B : sProp 𝕄} {sp : Space} {S : Shape} {e : EltTy} {M : Memref sig .tc sp S e}
    (h : Gives (F := F) c A M) : Gives (F := F) c iprop(A ∗ B) M := by
  unfold Gives at *
  refine (sep_mono h .rfl).trans ?_
  iintro ⟨⟨%f, H, Hk⟩, Ho⟩
  iexists f
  isplitl [H]; · iexact H
  iintro %g H
  isplitl [Hk H]
  · iapply Hk; iexact H
  iexact Ho

theorem Gives.right {c : Dev nD} {A B : sProp 𝕄} {sp : Space} {S : Shape} {e : EltTy} {M : Memref sig .tc sp S e}
    (h : Gives (F := F) c B M) : Gives (F := F) c iprop(A ∗ B) M := by
  unfold Gives at *
  refine (sep_mono .rfl h).trans ?_
  iintro ⟨Ho, ⟨%f, H, Hk⟩⟩
  iexists f
  isplitl [H]; · iexact H
  iintro %g H
  isplitl [Ho]; · iexact Ho
  iapply Hk; iexact H

theorem lends_owns (c : Dev nD) {sp : Space} {S : Shape} {e : EltTy} (M : Memref sig .tc sp S e) (x : S.Idx → Elt F e) :
    Lends (F := F) c (owns (c : Thread nD τ) M fullShare x) M := by
  unfold Lends owns
  iintro ⟨%f, %hf, H⟩
  iexists f
  isplitl [H]; · iexact H
  iintro H
  iexists f
  isplitr; · ipureintro; exact hf
  iexact H

theorem gives_owns (c : Dev nD) {sp : Space} {S : Shape} {e : EltTy} (M : Memref sig .tc sp S e) :
    Gives (F := F) c iprop(∃ X, owns (c : Thread nD τ) M fullShare X) M := by
  unfold Gives owns
  iintro ⟨%X, %f, -, H⟩
  iexists f
  isplitl [H]; · iexact H
  iintro %g H
  iexists (M.view.read (Elt F) g); iexists g
  isplitr; · ipureintro; rfl
  iexact H

theorem gives_scratch0 (c : Dev nD) :
    Gives (F := F) c iprop(∃ f : Buf (Elt F) ((c : Thread nD τ).loc cc0_scratch0), ((c : Thread nD τ).loc cc0_scratch0) ↦{fullShare} f) (Memref.whole cc0_scratch0) := by
  unfold Gives pt
  rw [show (Memref.whole cc0_scratch0).view.set = Finset.univ from View.set_whole _]
  iintro ⟨%f, H⟩
  iexists f
  isplitl [H]; · iexact H
  iintro %g H
  iexists g; iexact H

theorem gives_scratch1 (c : Dev nD) :
    Gives (F := F) c iprop(∃ f : Buf (Elt F) ((c : Thread nD τ).loc cc0_scratch1), ((c : Thread nD τ).loc cc0_scratch1) ↦{fullShare} f) (Memref.whole cc0_scratch1) := by
  unfold Gives pt
  rw [show (Memref.whole cc0_scratch1).view.set = Finset.univ from View.set_whole _]
  iintro ⟨%f, H⟩
  iexists f
  isplitl [H]; · iexact H
  iintro %g H
  iexists g; iexact H

theorem gives_scratch2 (c : Dev nD) :
    Gives (F := F) c iprop(∃ f : Buf (Elt F) ((c : Thread nD τ).loc cc0_scratch2), ((c : Thread nD τ).loc cc0_scratch2) ↦{fullShare} f) (Memref.whole cc0_scratch2) := by
  unfold Gives pt
  rw [show (Memref.whole cc0_scratch2).view.set = Finset.univ from View.set_whole _]
  iintro ⟨%f, H⟩
  iexists f
  isplitl [H]; · iexact H
  iintro %g H
  iexists g; iexact H

theorem gives_scratch3 (c : Dev nD) :
    Gives (F := F) c iprop(∃ f : Buf (Elt F) ((c : Thread nD τ).loc cc0_scratch3), ((c : Thread nD τ).loc cc0_scratch3) ↦{fullShare} f) (Memref.whole cc0_scratch3) := by
  unfold Gives pt
  rw [show (Memref.whole cc0_scratch3).view.set = Finset.univ from View.set_whole _]
  iintro ⟨%f, H⟩
  iexists f
  isplitl [H]; · iexact H
  iintro %g H
  iexists g; iexact H

/-! ## The body -/

/-- What the body is called with and returns: its own scratch at some contents, two things it leaves alone, the inputs at
    what they hold, the output at some contents. -/
def held (c : Dev nD) (P O : sProp 𝕄)
    (M2 : Memref sig .tc .vmem S1x512x512 .f32)
    (M3 : Memref sig .tc .vmem S1x512x512 .f32)
    (M4 : Memref sig .tc .vmem S1x512x512 .f32)
    (M5 : Memref sig .tc .vmem S3x4x512 .f32)
    (M6 : Memref sig .tc .vmem S1x8x8x64 .f32)
    (M7 : Memref sig .tc .vmem S1x8x8x64 .f32)
    (M8 : Memref sig .tc .vmem S1x64 .f32)
    (M9 : Memref sig .tc .vmem S1x512x512 .f32)
    (x2 : Vec F S1x512x512 .f32) (x3 : Vec F S1x512x512 .f32) (x4 : Vec F S1x512x512 .f32) (x5 : Vec F S3x4x512 .f32) (x6 : Vec F S1x8x8x64 .f32) (x7 : Vec F S1x8x8x64 .f32) (x8 : Vec F S1x64 .f32) : sProp 𝕄 :=
  iprop((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)) ∗ P) ∗ O
    ∗ owns (c : Thread nD τ) M2 fullShare x2
    ∗ owns (c : Thread nD τ) M3 fullShare x3
    ∗ owns (c : Thread nD τ) M4 fullShare x4
    ∗ owns (c : Thread nD τ) M5 fullShare x5
    ∗ owns (c : Thread nD τ) M6 fullShare x6
    ∗ owns (c : Thread nD τ) M7 fullShare x7
    ∗ owns (c : Thread nD τ) M8 fullShare x8
    ∗ (∃ X, owns (c : Thread nD τ) M9 fullShare X))

/-- The body runs without fault on them and returns the same. -/
theorem sound (c : Dev nD) (i : grid0.Coords) (P O : sProp 𝕄)
    (M2 : Memref sig .tc .vmem S1x512x512 .f32) (h2 : M2.IsWhole)
    (M3 : Memref sig .tc .vmem S1x512x512 .f32) (h3 : M3.IsWhole)
    (M4 : Memref sig .tc .vmem S1x512x512 .f32) (h4 : M4.IsWhole)
    (M5 : Memref sig .tc .vmem S3x4x512 .f32) (h5 : M5.IsWhole)
    (M6 : Memref sig .tc .vmem S1x8x8x64 .f32) (h6 : M6.IsWhole)
    (M7 : Memref sig .tc .vmem S1x8x8x64 .f32) (h7 : M7.IsWhole)
    (M8 : Memref sig .tc .vmem S1x64 .f32) (h8 : M8.IsWhole)
    (M9 : Memref sig .tc .vmem S1x512x512 .f32) (h9 : M9.IsWhole)
    (x2 : Vec F S1x512x512 .f32) (x3 : Vec F S1x512x512 .f32) (x4 : Vec F S1x512x512 .f32) (x5 : Vec F S3x4x512 .f32) (x6 : Vec F S1x8x8x64 .f32) (x7 : Vec F S1x8x8x64 .f32) (x8 : Vec F S1x64 .f32) :
    Safe (F := F) c (held c P O M2 M3 M4 M5 M6 M7 M8 M9 x2 x3 x4 x5 x6 x7 x8)
      (cc0_gated_delta_rule i M2 h2 M3 h3 M4 h4 M5 h5 M6 h6 M7 h7 M8 h8 M9 h9 (Memref.whole cc0_scratch0) (Memref.isWhole_whole _) (Memref.whole cc0_scratch1) (Memref.isWhole_whole _) (Memref.whole cc0_scratch2) (Memref.isWhole_whole _) (Memref.whole cc0_scratch3) (Memref.isWhole_whole _)) := by
  unfold held
  exact s_cc0_gated_delta_rule (B := ⟨M2, h2, M3, h3, M4, h4, M5, h5, M6, h6, M7, h7, M8, h8, M9, h9, Memref.whole cc0_scratch0, Memref.isWhole_whole _, Memref.whole cc0_scratch1, Memref.isWhole_whole _, Memref.whole cc0_scratch2, Memref.isWhole_whole _, Memref.whole cc0_scratch3, Memref.isWhole_whole _⟩)
    ⟨.right (.right (.left (lends_owns c M2 x2))),
      .right (.right (.right (.left (lends_owns c M3 x3)))),
      .right (.right (.right (.right (.left (lends_owns c M4 x4))))),
      .right (.right (.right (.right (.right (.left (lends_owns c M5 x5)))))),
      .right (.right (.right (.right (.right (.right (.left (lends_owns c M6 x6))))))),
      .right (.right (.right (.right (.right (.right (.right (.left (lends_owns c M7 x7)))))))),
      .right (.right (.right (.right (.right (.right (.right (.right (.left (lends_owns c M8 x8))))))))),
      .right (.right (.right (.right (.right (.right (.right (.right (.right (gives_owns c M9))))))))),
      .left (.left (.left (gives_scratch0 c))),
      .left (.left (.right (.left (gives_scratch1 c)))),
      .left (.left (.right (.right (.left (gives_scratch2 c))))),
      .left (.left (.right (.right (.right (gives_scratch3 c)))))⟩ i

/-! ## The pipeline's proof data -/

variable (m : (ℓ : Loc nD τ sig) → Buf (Elt F) ℓ) (ρ : Dev nD → PrngReg)

/-- Each input's buffer keeps its block; of the output nothing is said (`fgt`), the value here being read by no one. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q w := Pipeline.shareOf spec0 w
  owed _ := 0

/-- The output window is forgotten. -/
def fgt : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

/-- What the body holds at point `t`. -/
def heldAt (c : Dev nD) (t : Fin cfg0.N) : sProp 𝕄 :=
  held c iprop(∃ r, prngReg c r) ((dats m 0 c).owesAt () t.castSucc)
    (st0_0 t) (st0_1 t) (st0_2 t) (st0_3 t) (st0_4 t) (st0_5 t) (st0_6 t) (st0_7 t)
    (iblk m c 0 t) (iblk m c 1 t) (iblk m c 2 t) (iblk m c 3 t) (iblk m c 4 t) (iblk m c 5 t) (iblk m c 6 t)

theorem post_eq (c : Dev nD) (t : Fin cfg0.N) : bodyPost m c t = heldAt m c t := by
  unfold bodyPost heldAt held
  rw [show (dats m 0 c).Φ t.succ = Pipeline.ΦA spec0 c from rfl,
    show (dats m 0 c).owesAt () t.succ = (dats m 0 c).owesAt () t.castSucc from rfl,
    after_0, after_1, after_2, after_3, after_4, after_5, after_6]
  unfold Pipeline.ΦA
  rw [scopedRest0_eq]
  rfl

theorem pre_le (c : Dev nD) (t : Fin cfg0.N) : bodyPre m c t ⊢ heldAt m c t := by
  rw [← post_eq]
  unfold bodyPre bodyPost
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨Hp, Ho, ⟨%d0, H0⟩, ⟨%d1, H1⟩, ⟨%d2, H2⟩, ⟨%d3, H3⟩, ⟨%d4, H4⟩, ⟨%d5, H5⟩, ⟨%d6, H6⟩, HX⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HX

/-- The body at any point. -/
theorem sound_body (c : Dev nD) (t : Fin cfg0.N) :
    bodyPre m c t ⊢ wp frame (wpE (defs₀ (F := F)) Variants.none c none) Set.univ (bodyAt0 t) (fun _ => bodyPost m c t) := by
  rw [post_eq]
  exact (pre_le m c t).trans (sound c (grid0.coords t) _ _ _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7))
    (iblk m c 0 t) (iblk m c 1 t) (iblk m c 2 t) (iblk m c 3 t) (iblk m c 4 t) (iblk m c 5 t) (iblk m c 6 t))

theorem defs₀_row (t : Fin cfg0.N) : defs₀ (F := F) .tc cfg0.body (cfg0.bodyArgs t (cfg0.slots t)) = bodyAt0 t := by
  unfold defs₀; rw [Defs.onTc_tc]

/-- The library's body obligation at every point, the output window forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution ends, with the input arrays and those no window stages as launched and every counter at zero. -/
theorem run_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- THE FRAME: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨?_, h.2⟩) (run_quiescent m ρ)
  exact fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩

end Cert.Proof.DeltaIdeal

end
-- ==== Proof.AttnSafe.lean ====
module

public import proofs.«01_k».proof.Defs
public import proofs.«01_k».proof.Proof.Gen.Attn
public import proofs.«01_k».proof.Proof.Gen.Attn.Skeleton
public import Idealize.ShloMosaic.Lib.Tactic
public import proofs.«01_k».proof.Proof.Gen.Attn.Frame

@[expose] public section

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-! ## Programs that keep what they are given -/

/-- From `R` the program ends without fault and hands `R` back. -/
def Safe (c : Dev nD) (R : sProp 𝕄) {α : Type} (p : Prog (TpuEff nD τ sig (Elt F) Λ₀ .tc) α) : Prop :=
  R ⊢ wp frame (wpE (defs₀ (F := F)) Variants.none c none) Set.univ p (fun _ => R)

/-- `R` holds the buffer at some contents and takes it back at the same. -/
def Lends (c : Dev nD) (R : sProp 𝕄) {sp : Space} {S : Shape} {e : EltTy} (M : Memref sig .tc sp S e) : Prop :=
  R ⊢ iprop(∃ f, pt c M f ∗ (pt c M f -∗ R))

/-- `R` holds the buffer at some contents and takes it back at any. -/
def Gives (c : Dev nD) (R : sProp 𝕄) {sp : Space} {S : Shape} {e : EltTy} (M : Memref sig .tc sp S e) : Prop :=
  R ⊢ iprop(∃ f, pt c M f ∗ (∀ g, pt c M g -∗ R))

theorem Gives.lends {c : Dev nD} {R : sProp 𝕄} {sp : Space} {S : Shape} {e : EltTy} {M : Memref sig .tc sp S e} (h : Gives (F := F) c R M) : Lends (F := F) c R M := by
  refine h.trans ?_
  iintro ⟨%f, H, Hk⟩
  iexists f
  isplitl [H]; · iexact H
  iintro H
  iapply Hk; iexact H

theorem Safe.pure {c : Dev nD} {R : sProp 𝕄} {α : Type} (a : α) : Safe (F := F) c R (Pure.pure a) := by
  unfold Safe
  rw [wp_pure]
  iintro H
  imodintro
  iexact H

theorem Safe.bind {c : Dev nD} {R : sProp 𝕄} {α β : Type} {p : Prog (TpuEff nD τ sig (Elt F) Λ₀ .tc) α} {k : α → Prog (TpuEff nD τ sig (Elt F) Λ₀ .tc) β}
    (h : Safe c R p) (hk : ∀ a, Safe c R (k a)) : Safe c R (p >>= k) := by
  unfold Safe at *
  rw [wp_bind]
  exact h.trans (wp_mono _ _ _ hk)

theorem Safe.loop {c : Dev nD} {R : sProp 𝕄} {σ : Type} {l : Scf.Loop 32} {ok : l.OK} {init : σ} {body : Fin l.trips → σ → Prog (TpuEff nD τ sig (Elt F) Λ₀ .tc) σ}
    (h : ∀ k acc, Safe c R (body k acc)) : Safe c R (Scf.Loop.for l ok init body) := by
  unfold Safe at *
  refine BIBase.Entails.trans ?_ (Scf.wp_for frame (wpE (defs₀ (F := F)) Variants.none c none) Set.univ l.lb l.ub l.st ok init body
    (fun _ _ => R) (fun k acc => h k acc))
  iintro H
  isplitl [H]; · iexact H
  iintro %acc H
  iexact H

theorem Safe.load {c : Dev nD} {R : sProp 𝕄} {sp : CoreSpace} {S : Shape} {e : EltTy} {M : Memref sig .tc sp S e} (h : Lends (F := F) c R M) {r : Rect S}
    {hl : M.view.LoadsAt r.toLoadRect} : Safe (F := F) c R (Prog.lift (.load M r.toLoadRect hl)) := by
  unfold Safe
  refine h.trans ?_
  iintro ⟨%f, H, Hk⟩
  iapply (wp_load_rect Variants.none (c : Thread nD τ) none Set.univ (m := M) (r := r) (View.set_slice_subset _ _)) $$ H
  iintro H
  rw [wp_ret]
  imodintro
  iapply Hk; iexact H

theorem Safe.store {c : Dev nD} {R : sProp 𝕄} {sp : CoreSpace} {S : Shape} {e : EltTy} {M : Memref sig .tc sp S e} (h : Gives (F := F) c R M) {r : Rect S}
    {w : r.shape.Idx → Elt F e} {K : Finset r.shape.Idx} {hx : (M.access r).Stores K} {hm : K = Finset.univ ∨ ∀ a, r.stride a = 1} :
    Safe (F := F) c R (Prog.lift (.store M r w K hx hm)) := by
  unfold Safe
  refine h.trans ?_
  iintro ⟨%f, H, Hk⟩
  iapply (wp_store Variants.none (c : Thread nD τ) none Set.univ (m := M) (r := r)
    (((M.access r).setOn_subset_set K).trans (View.set_slice_subset _ _))) $$ H
  iintro H
  rw [wp_ret]
  imodintro
  iapply Hk; iexact H

/-! ## The kernel's parts -/

/-- The buffers the body is called on, each whole. -/
structure Bufs where
  a2 : Memref sig .tc .vmem S1x16x64x256 .bf16
  w2 : a2.IsWhole
  a3 : Memref sig .tc .vmem S1x16x256 .f32
  w3 : a3.IsWhole
  a4 : Memref sig .tc .vmem S1x8x64x256 .bf16
  w4 : a4.IsWhole
  a5 : Memref sig .tc .vmem S1x16x256x64 .bf16
  w5 : a5.IsWhole
  a6 : Memref sig .tc .vmem S1x2x16x256x64 .bf16
  w6 : a6.IsWhole
  a7 : Memref sig .tc .vmem S1x2x16x64x256 .bf16
  w7 : a7.IsWhole
  a8 : Memref sig .tc .vmem S1x8x64x256 .f32
  w8 : a8.IsWhole
  a9 : Memref sig .tc .vmem S17x256x256 .i32
  w9 : a9.IsWhole
  a10 : Memref sig .tc .vmem S17x256x256 .i16
  w10 : a10.IsWhole
  a11 : Memref sig .tc .vmem S17x256x256 .i16
  w11 : a11.IsWhole

/-- Every buffer the body touches is at hand in `R`: the inputs for reading, the others for writing too. -/
structure Mem (c : Dev nD) (R : sProp 𝕄) (B : Bufs) : Prop where
  h2 : Lends (F := F) c R B.a2
  h3 : Lends (F := F) c R B.a3
  h4 : Lends (F := F) c R B.a4
  h5 : Lends (F := F) c R B.a5
  h6 : Lends (F := F) c R B.a6
  h7 : Lends (F := F) c R B.a7
  h8 : Gives (F := F) c R B.a8
  h9 : Gives (F := F) c R B.a9
  h10 : Gives (F := F) c R B.a10
  h11 : Gives (F := F) c R B.a11

theorem s_part1 {c : Dev nD} {R : sProp 𝕄} {B : Bufs} (H : Mem (F := F) c R B) (i : grid0.Coords) (c0_i32_0 c1_i32_2 k0_t1) :
    Safe c R (k0_part1 i B.a2 B.w2 B.a3 B.w3 B.a4 B.w4 B.a5 B.w5 B.a6 B.w6 B.a7 B.w7 B.a8 B.w8 B.a9 B.w9 B.a10 B.w10 B.a11 B.w11 c0_i32_0 c1_i32_2 k0_t1) := by
  rw [k0_part1_eq_skeleton]; unfold k0_part1_skel; try dsimp only
  repeat' first | (with_reducible first | exact Safe.pure _ | refine Safe.bind ?_ fun _ => ?_ | exact Safe.load H.h2 | exact Safe.load H.h3 | exact Safe.load H.h5) | split

theorem s_part2 {c : Dev nD} {R : sProp 𝕄} {B : Bufs} (H : Mem (F := F) c R B) (i : grid0.Coords) (v223 v244 v247 v249) :
    Safe c R (k0_part2 i B.a2 B.w2 B.a3 B.w3 B.a4 B.w4 B.a5 B.w5 B.a6 B.w6 B.a7 B.w7 B.a8 B.w8 B.a9 B.w9 B.a10 B.w10 B.a11 B.w11 v223 v244 v247 v249) := by
  rw [k0_part2_eq_skeleton]; unfold k0_part2_skel; try dsimp only
  repeat' first | (with_reducible first | exact Safe.pure _ | refine Safe.bind ?_ fun _ => ?_ | exact Safe.load H.h2 | exact Safe.load H.h3) | split

theorem s_part3 {c : Dev nD} {R : sProp 𝕄} {B : Bufs} (H : Mem (F := F) c R B) (i : grid0.Coords) (v223 v274 v279 v281) :
    Safe c R (k0_part3 i B.a2 B.w2 B.a3 B.w3 B.a4 B.w4 B.a5 B.w5 B.a6 B.w6 B.a7 B.w7 B.a8 B.w8 B.a9 B.w9 B.a10 B.w10 B.a11 B.w11 v223 v274 v279 v281) := by
  rw [k0_part3_eq_skeleton]; unfold k0_part3_skel; try dsimp only
  repeat' first | (with_reducible first | exact Safe.pure _ | refine Safe.bind ?_ fun _ => ?_ | exact Safe.load H.h2 | exact Safe.load H.h3) | split

theorem s_part4 {c : Dev nD} {R : sProp 𝕄} {B : Bufs} (H : Mem (F := F) c R B) (i : grid0.Coords) (v223 v314) :
    Safe c R (k0_part4 i B.a2 B.w2 B.a3 B.w3 B.a4 B.w4 B.a5 B.w5 B.a6 B.w6 B.a7 B.w7 B.a8 B.w8 B.a9 B.w9 B.a10 B.w10 B.a11 B.w11 v223 v314) := by
  rw [k0_part4_eq_skeleton]; unfold k0_part4_skel; try dsimp only
  repeat' first | (with_reducible first | exact Safe.pure _ | refine Safe.bind ?_ fun _ => ?_ | exact Safe.load H.h2 | exact Safe.load H.h3) | split

theorem s_part5 {c : Dev nD} {R : sProp 𝕄} {B : Bufs} (H : Mem (F := F) c R B) (i : grid0.Coords) (v223 v344) :
    Safe c R (k0_part5 i B.a2 B.w2 B.a3 B.w3 B.a4 B.w4 B.a5 B.w5 B.a6 B.w6 B.a7 B.w7 B.a8 B.w8 B.a9 B.w9 B.a10 B.w10 B.a11 B.w11 v223 v344) := by
  rw [k0_part5_eq_skeleton]; unfold k0_part5_skel; try dsimp only
  repeat' first | (with_reducible first | exact Safe.pure _ | refine Safe.bind ?_ fun _ => ?_ | exact Safe.load H.h2 | exact Safe.load H.h3) | split

theorem s_t1 {c : Dev nD} {R : sProp 𝕄} {B : Bufs} (H : Mem (F := F) c R B) (i : grid0.Coords) :
    ∀ k acc, Safe c R (k0_t1_body i B.a2 B.w2 B.a3 B.w3 B.a4 B.w4 B.a5 B.w5 B.a6 B.w6 B.a7 B.w7 B.a8 B.w8 B.a9 B.w9 B.a10 B.w10 B.a11 B.w11 k acc) := by
  intro k acc; unfold k0_t1_body; try dsimp only
  repeat' first | (with_reducible first | exact Safe.pure _ | refine Safe.bind ?_ fun _ => ?_ | exact Safe.load H.h3 | exact Safe.load H.h9.lends | exact Safe.store H.h9 | exact Safe.load H.h10.lends | exact Safe.store H.h10 | exact s_part1 H .. | exact s_part2 H .. | exact s_part3 H .. | exact s_part4 H .. | exact s_part5 H ..) | split

theorem s_part6 {c : Dev nD} {R : sProp 𝕄} {B : Bufs} (H : Mem (F := F) c R B) (i : grid0.Coords) (v10 c1_i32_3 k0_t2) :
    Safe c R (k0_part6 i B.a2 B.w2 B.a3 B.w3 B.a4 B.w4 B.a5 B.w5 B.a6 B.w6 B.a7 B.w7 B.a8 B.w8 B.a9 B.w9 B.a10 B.w10 B.a11 B.w11 v10 c1_i32_3 k0_t2) := by
  rw [k0_part6_eq_skeleton]; unfold k0_part6_skel; try dsimp only
  repeat' first | (with_reducible first | exact Safe.pure _ | refine Safe.bind ?_ fun _ => ?_ | exact Safe.load H.h2 | exact Safe.load H.h3 | exact Safe.load H.h5) | split

theorem s_part7 {c : Dev nD} {R : sProp 𝕄} {B : Bufs} (H : Mem (F := F) c R B) (i : grid0.Coords) (v223 v244 v247 v249) :
    Safe c R (k0_part7 i B.a2 B.w2 B.a3 B.w3 B.a4 B.w4 B.a5 B.w5 B.a6 B.w6 B.a7 B.w7 B.a8 B.w8 B.a9 B.w9 B.a10 B.w10 B.a11 B.w11 v223 v244 v247 v249) := by
  rw [k0_part7_eq_skeleton]; unfold k0_part7_skel; try dsimp only
  repeat' first | (with_reducible first | exact Safe.pure _ | refine Safe.bind ?_ fun _ => ?_ | exact Safe.load H.h2 | exact Safe.load H.h3) | split

theorem s_part8 {c : Dev nD} {R : sProp 𝕄} {B : Bufs} (H : Mem (F := F) c R B) (i : grid0.Coords) (v223 v274 v279 v281) :
    Safe c R (k0_part8 i B.a2 B.w2 B.a3 B.w3 B.a4 B.w4 B.a5 B.w5 B.a6 B.w6 B.a7 B.w7 B.a8 B.w8 B.a9 B.w9 B.a10 B.w10 B.a11 B.w11 v223 v274 v279 v281) := by
  rw [k0_part8_eq_skeleton]; unfold k0_part8_skel; try dsimp only
  repeat' first | (with_reducible first | exact Safe.pure _ | refine Safe.bind ?_ fun _ => ?_ | exact Safe.load H.h2 | exact Safe.load H.h3) | split

theorem s_part9 {c : Dev nD} {R : sProp 𝕄} {B : Bufs} (H : Mem (F := F) c R B) (i : grid0.Coords) (v223 v314) :
    Safe c R (k0_part9 i B.a2 B.w2 B.a3 B.w3 B.a4 B.w4 B.a5 B.w5 B.a6 B.w6 B.a7 B.w7 B.a8 B.w8 B.a9 B.w9 B.a10 B.w10 B.a11 B.w11 v223 v314) := by
  rw [k0_part9_eq_skeleton]; unfold k0_part9_skel; try dsimp only
  repeat' first | (with_reducible first | exact Safe.pure _ | refine Safe.bind ?_ fun _ => ?_ | exact Safe.load H.h2 | exact Safe.load H.h3) | split

theorem s_part10 {c : Dev nD} {R : sProp 𝕄} {B : Bufs} (H : Mem (F := F) c R B) (i : grid0.Coords) (v223 v344) :
    Safe c R (k0_part10 i B.a2 B.w2 B.a3 B.w3 B.a4 B.w4 B.a5 B.w5 B.a6 B.w6 B.a7 B.w7 B.a8 B.w8 B.a9 B.w9 B.a10 B.w10 B.a11 B.w11 v223 v344) := by
  rw [k0_part10_eq_skeleton]; unfold k0_part10_skel; try dsimp only
  repeat' first | (with_reducible first | exact Safe.pure _ | refine Safe.bind ?_ fun _ => ?_ | exact Safe.load H.h2 | exact Safe.load H.h3) | split

theorem s_t2 {c : Dev nD} {R : sProp 𝕄} {B : Bufs} (H : Mem (F := F) c R B) (i : grid0.Coords) (v10) :
    ∀ k acc, Safe c R (k0_t2_body i B.a2 B.w2 B.a3 B.w3 B.a4 B.w4 B.a5 B.w5 B.a6 B.w6 B.a7 B.w7 B.a8 B.w8 B.a9 B.w9 B.a10 B.w10 B.a11 B.w11 v10 k acc) := by
  intro k acc; unfold k0_t2_body; try dsimp only
  repeat' first | (with_reducible first | exact Safe.pure _ | refine Safe.bind ?_ fun _ => ?_ | exact Safe.load H.h3 | exact Safe.load H.h9.lends | exact Safe.store H.h9 | exact Safe.load H.h10.lends | exact Safe.store H.h10 | exact s_part6 H .. | exact s_part7 H .. | exact s_part8 H .. | exact s_part9 H .. | exact s_part10 H ..) | split

theorem s_part11 {c : Dev nD} {R : sProp 𝕄} {B : Bufs} (H : Mem (F := F) c R B) (i : grid0.Coords) (v227 c0_i32_140 c1_i32_142 k0_t4) :
    Safe c R (k0_part11 i B.a2 B.w2 B.a3 B.w3 B.a4 B.w4 B.a5 B.w5 B.a6 B.w6 B.a7 B.w7 B.a8 B.w8 B.a9 B.w9 B.a10 B.w10 B.a11 B.w11 v227 c0_i32_140 c1_i32_142 k0_t4) := by
  rw [k0_part11_eq_skeleton]; unfold k0_part11_skel; try dsimp only
  repeat' first | (with_reducible first | exact Safe.pure _ | refine Safe.bind ?_ fun _ => ?_ | exact Safe.load H.h10.lends) | split

theorem s_part12 {c : Dev nD} {R : sProp 𝕄} {B : Bufs} (H : Mem (F := F) c R B) (i : grid0.Coords) (v227 k0_t4 arg15 v262 v271 v309 v311) :
    Safe c R (k0_part12 i B.a2 B.w2 B.a3 B.w3 B.a4 B.w4 B.a5 B.w5 B.a6 B.w6 B.a7 B.w7 B.a8 B.w8 B.a9 B.w9 B.a10 B.w10 B.a11 B.w11 v227 k0_t4 arg15 v262 v271 v309 v311) := by
  rw [k0_part12_eq_skeleton]; unfold k0_part12_skel; try dsimp only
  repeat' first | (with_reducible first | exact Safe.pure _ | refine Safe.bind ?_ fun _ => ?_ | exact Safe.load H.h10.lends) | split

theorem s_t4 {c : Dev nD} {R : sProp 𝕄} {B : Bufs} (H : Mem (F := F) c R B) (i : grid0.Coords) (k0_t3 arg13) :
    ∀ k acc, Safe c R (k0_t4_body i B.a2 B.w2 B.a3 B.w3 B.a4 B.w4 B.a5 B.w5 B.a6 B.w6 B.a7 B.w7 B.a8 B.w8 B.a9 B.w9 B.a10 B.w10 B.a11 B.w11 k0_t3 arg13 k acc) := by
  intro k acc; unfold k0_t4_body; try dsimp only
  repeat' first | (with_reducible first | exact Safe.pure _ | refine Safe.bind ?_ fun _ => ?_ | exact s_part11 H .. | exact s_part12 H ..) | split

theorem s_part13 {c : Dev nD} {R : sProp 𝕄} {B : Bufs} (H : Mem (F := F) c R B) (i : grid0.Coords) (v227 v251 c1_i32_143 k0_t5) :
    Safe c R (k0_part13 i B.a2 B.w2 B.a3 B.w3 B.a4 B.w4 B.a5 B.w5 B.a6 B.w6 B.a7 B.w7 B.a8 B.w8 B.a9 B.w9 B.a10 B.w10 B.a11 B.w11 v227 v251 c1_i32_143 k0_t5) := by
  rw [k0_part13_eq_skeleton]; unfold k0_part13_skel; try dsimp only
  repeat' first | (with_reducible first | exact Safe.pure _ | refine Safe.bind ?_ fun _ => ?_ | exact Safe.load H.h10.lends) | split

theorem s_part14 {c : Dev nD} {R : sProp 𝕄} {B : Bufs} (H : Mem (F := F) c R B) (i : grid0.Coords) (v227 k0_t5 arg15 v262 v271 v309 v311) :
    Safe c R (k0_part14 i B.a2 B.w2 B.a3 B.w3 B.a4 B.w4 B.a5 B.w5 B.a6 B.w6 B.a7 B.w7 B.a8 B.w8 B.a9 B.w9 B.a10 B.w10 B.a11 B.w11 v227 k0_t5 arg15 v262 v271 v309 v311) := by
  rw [k0_part14_eq_skeleton]; unfold k0_part14_skel; try dsimp only
  repeat' first | (with_reducible first | exact Safe.pure _ | refine Safe.bind ?_ fun _ => ?_ | exact Safe.load H.h10.lends) | split

theorem s_t5 {c : Dev nD} {R : sProp 𝕄} {B : Bufs} (H : Mem (F := F) c R B) (i : grid0.Coords) (k0_t3 arg13 v251) :
    ∀ k acc, Safe c R (k0_t5_body i B.a2 B.w2 B.a3 B.w3 B.a4 B.w4 B.a5 B.w5 B.a6 B.w6 B.a7 B.w7 B.a8 B.w8 B.a9 B.w9 B.a10 B.w10 B.a11 B.w11 k0_t3 arg13 v251 k acc) := by
  intro k acc; unfold k0_t5_body; try dsimp only
  repeat' first | (with_reducible first | exact Safe.pure _ | refine Safe.bind ?_ fun _ => ?_ | exact s_part13 H .. | exact s_part14 H ..) | split

theorem s_t3 {c : Dev nD} {R : sProp 𝕄} {B : Bufs} (H : Mem (F := F) c R B) (i : grid0.Coords) (v0) :
    ∀ k acc, Safe c R (k0_t3_body i B.a2 B.w2 B.a3 B.w3 B.a4 B.w4 B.a5 B.w5 B.a6 B.w6 B.a7 B.w7 B.a8 B.w8 B.a9 B.w9 B.a10 B.w10 B.a11 B.w11 v0 k acc) := by
  intro k acc; unfold k0_t3_body; try dsimp only
  repeat' first | (with_reducible first | exact Safe.pure _ | refine Safe.bind ?_ fun _ => ?_ | exact Safe.loop fun _ _ => s_t4 H .. | exact Safe.loop fun _ _ => s_t5 H ..) | split

theorem s_part31 {c : Dev nD} {R : sProp 𝕄} {B : Bufs} (H : Mem (F := F) c R B) (i : grid0.Coords) :
    Safe c R (k0_part31 i B.a2 B.w2 B.a3 B.w3 B.a4 B.w4 B.a5 B.w5 B.a6 B.w6 B.a7 B.w7 B.a8 B.w8 B.a9 B.w9 B.a10 B.w10 B.a11 B.w11) := by
  rw [k0_part31_eq_skeleton]; unfold k0_part31_skel; try dsimp only
  repeat' first | (with_reducible first | exact Safe.pure _ | refine Safe.bind ?_ fun _ => ?_ | exact Safe.load H.h9.lends | exact Safe.store H.h9 | exact Safe.load H.h10.lends | exact Safe.store H.h10 | exact Safe.load H.h11.lends | exact Safe.store H.h11 | exact Safe.loop fun _ _ => s_t1 H .. | exact Safe.loop fun _ _ => s_t2 H .. | exact Safe.loop fun _ _ => s_t3 H ..) | split

theorem s_part15 {c : Dev nD} {R : sProp 𝕄} {B : Bufs} (H : Mem (F := F) c R B) (i : grid0.Coords) (v32 c0_i32_23 c1_i32_25 k0_t6) :
    Safe c R (k0_part15 i B.a2 B.w2 B.a3 B.w3 B.a4 B.w4 B.a5 B.w5 B.a6 B.w6 B.a7 B.w7 B.a8 B.w8 B.a9 B.w9 B.a10 B.w10 B.a11 B.w11 v32 c0_i32_23 c1_i32_25 k0_t6) := by
  rw [k0_part15_eq_skeleton]; unfold k0_part15_skel; try dsimp only
  repeat' first | (with_reducible first | exact Safe.pure _ | refine Safe.bind ?_ fun _ => ?_ | exact Safe.load H.h10.lends) | split

theorem s_part16 {c : Dev nD} {R : sProp 𝕄} {B : Bufs} (H : Mem (F := F) c R B) (i : grid0.Coords) (v32 k0_t6 arg13 v223 v232 v270 v272) :
    Safe c R (k0_part16 i B.a2 B.w2 B.a3 B.w3 B.a4 B.w4 B.a5 B.w5 B.a6 B.w6 B.a7 B.w7 B.a8 B.w8 B.a9 B.w9 B.a10 B.w10 B.a11 B.w11 v32 k0_t6 arg13 v223 v232 v270 v272) := by
  rw [k0_part16_eq_skeleton]; unfold k0_part16_skel; try dsimp only
  repeat' first | (with_reducible first | exact Safe.pure _ | refine Safe.bind ?_ fun _ => ?_ | exact Safe.load H.h10.lends) | split

theorem s_t6 {c : Dev nD} {R : sProp 𝕄} {B : Bufs} (H : Mem (F := F) c R B) (i : grid0.Coords) (v0 v29) :
    ∀ k acc, Safe c R (k0_t6_body i B.a2 B.w2 B.a3 B.w3 B.a4 B.w4 B.a5 B.w5 B.a6 B.w6 B.a7 B.w7 B.a8 B.w8 B.a9 B.w9 B.a10 B.w10 B.a11 B.w11 v0 v29 k acc) := by
  intro k acc; unfold k0_t6_body; try dsimp only
  repeat' first | (with_reducible first | exact Safe.pure _ | refine Safe.bind ?_ fun _ => ?_ | exact s_part15 H .. | exact s_part16 H ..) | split

theorem s_part17 {c : Dev nD} {R : sProp 𝕄} {B : Bufs} (H : Mem (F := F) c R B) (i : grid0.Coords) (v32 v56 c1_i32_26 k0_t7) :
    Safe c R (k0_part17 i B.a2 B.w2 B.a3 B.w3 B.a4 B.w4 B.a5 B.w5 B.a6 B.w6 B.a7 B.w7 B.a8 B.w8 B.a9 B.w9 B.a10 B.w10 B.a11 B.w11 v32 v56 c1_i32_26 k0_t7) := by
  rw [k0_part17_eq_skeleton]; unfold k0_part17_skel; try dsimp only
  repeat' first | (with_reducible first | exact Safe.pure _ | refine Safe.bind ?_ fun _ => ?_ | exact Safe.load H.h10.lends) | split

theorem s_part18 {c : Dev nD} {R : sProp 𝕄} {B : Bufs} (H : Mem (F := F) c R B) (i : grid0.Coords) (v32 k0_t7 arg13 v223 v232 v270 v272) :
    Safe c R (k0_part18 i B.a2 B.w2 B.a3 B.w3 B.a4 B.w4 B.a5 B.w5 B.a6 B.w6 B.a7 B.w7 B.a8 B.w8 B.a9 B.w9 B.a10 B.w10 B.a11 B.w11 v32 k0_t7 arg13 v223 v232 v270 v272) := by
  rw [k0_part18_eq_skeleton]; unfold k0_part18_skel; try dsimp only
  repeat' first | (with_reducible first | exact Safe.pure _ | refine Safe.bind ?_ fun _ => ?_ | exact Safe.load H.h10.lends) | split

theorem s_t7 {c : Dev nD} {R : sProp 𝕄} {B : Bufs} (H : Mem (F := F) c R B) (i : grid0.Coords) (v0 v29 v56) :
    ∀ k acc, Safe c R (k0_t7_body i B.a2 B.w2 B.a3 B.w3 B.a4 B.w4 B.a5 B.w5 B.a6 B.w6 B.a7 B.w7 B.a8 B.w8 B.a9 B.w9 B.a10 B.w10 B.a11 B.w11 v0 v29 v56 k acc) := by
  intro k acc; unfold k0_t7_body; try dsimp only
  repeat' first | (with_reducible first | exact Safe.pure _ | refine Safe.bind ?_ fun _ => ?_ | exact s_part17 H .. | exact s_part18 H ..) | split

theorem s_t8 {c : Dev nD} {R : sProp 𝕄} {B : Bufs} (H : Mem (F := F) c R B) (i : grid0.Coords) (v0 v29) :
    ∀ k acc, Safe c R (k0_t8_body i B.a2 B.w2 B.a3 B.w3 B.a4 B.w4 B.a5 B.w5 B.a6 B.w6 B.a7 B.w7 B.a8 B.w8 B.a9 B.w9 B.a10 B.w10 B.a11 B.w11 v0 v29 k acc) := by
  intro k acc; unfold k0_t8_body; try dsimp only
  repeat' first | (with_reducible first | exact Safe.pure _ | refine Safe.bind ?_ fun _ => ?_ | exact Safe.load H.h9.lends | exact Safe.load H.h10.lends | exact Safe.load H.h11.lends | exact Safe.store H.h11) | split

theorem s_t9 {c : Dev nD} {R : sProp 𝕄} {B : Bufs} (H : Mem (F := F) c R B) (i : grid0.Coords) (v0 v29) :
    ∀ k acc, Safe c R (k0_t9_body i B.a2 B.w2 B.a3 B.w3 B.a4 B.w4 B.a5 B.w5 B.a6 B.w6 B.a7 B.w7 B.a8 B.w8 B.a9 B.w9 B.a10 B.w10 B.a11 B.w11 v0 v29 k acc) := by
  intro k acc; unfold k0_t9_body; try dsimp only
  repeat' first | (with_reducible first | exact Safe.pure _ | refine Safe.bind ?_ fun _ => ?_ | exact Safe.load H.h9.lends | exact Safe.load H.h10.lends | exact Safe.load H.h11.lends | exact Safe.store H.h11) | split

theorem s_part32 {c : Dev nD} {R : sProp 𝕄} {B : Bufs} (H : Mem (F := F) c R B) (i : grid0.Coords) (v0 v29) :
    Safe c R (k0_part32 i B.a2 B.w2 B.a3 B.w3 B.a4 B.w4 B.a5 B.w5 B.a6 B.w6 B.a7 B.w7 B.a8 B.w8 B.a9 B.w9 B.a10 B.w10 B.a11 B.w11 v0 v29) := by
  rw [k0_part32_eq_skeleton]; unfold k0_part32_skel; try dsimp only
  repeat' first | (with_reducible first | exact Safe.pure _ | refine Safe.bind ?_ fun _ => ?_ | exact Safe.loop fun _ _ => s_t6 H .. | exact Safe.loop fun _ _ => s_t7 H .. | exact Safe.loop fun _ _ => s_t8 H .. | exact Safe.loop fun _ _ => s_t9 H ..) | split

theorem s_part19 {c : Dev nD} {R : sProp 𝕄} {B : Bufs} (H : Mem (F := F) c R B) (i : grid0.Coords) (v227 c0_i32_140 c1_i32_142 k0_t11) :
    Safe c R (k0_part19 i B.a2 B.w2 B.a3 B.w3 B.a4 B.w4 B.a5 B.w5 B.a6 B.w6 B.a7 B.w7 B.a8 B.w8 B.a9 B.w9 B.a10 B.w10 B.a11 B.w11 v227 c0_i32_140 c1_i32_142 k0_t11) := by
  rw [k0_part19_eq_skeleton]; unfold k0_part19_skel; try dsimp only
  repeat' first | (with_reducible first | exact Safe.pure _ | refine Safe.bind ?_ fun _ => ?_ | exact Safe.load H.h11.lends) | split

theorem s_part20 {c : Dev nD} {R : sProp 𝕄} {B : Bufs} (H : Mem (F := F) c R B) (i : grid0.Coords) (v227 k0_t11 arg15 v262 v271 v309 v311) :
    Safe c R (k0_part20 i B.a2 B.w2 B.a3 B.w3 B.a4 B.w4 B.a5 B.w5 B.a6 B.w6 B.a7 B.w7 B.a8 B.w8 B.a9 B.w9 B.a10 B.w10 B.a11 B.w11 v227 k0_t11 arg15 v262 v271 v309 v311) := by
  rw [k0_part20_eq_skeleton]; unfold k0_part20_skel; try dsimp only
  repeat' first | (with_reducible first | exact Safe.pure _ | refine Safe.bind ?_ fun _ => ?_ | exact Safe.load H.h11.lends) | split

theorem s_t11 {c : Dev nD} {R : sProp 𝕄} {B : Bufs} (H : Mem (F := F) c R B) (i : grid0.Coords) (v0 v5 v31 v60 v66 k0_t10 arg13) :
    ∀ k acc, Safe c R (k0_t11_body i B.a2 B.w2 B.a3 B.w3 B.a4 B.w4 B.a5 B.w5 B.a6 B.w6 B.a7 B.w7 B.a8 B.w8 B.a9 B.w9 B.a10 B.w10 B.a11 B.w11 v0 v5 v31 v60 v66 k0_t10 arg13 k acc) := by
  intro k acc; unfold k0_t11_body; try dsimp only
  repeat' first | (with_reducible first | exact Safe.pure _ | refine Safe.bind ?_ fun _ => ?_ | exact s_part19 H .. | exact s_part20 H ..) | split

theorem s_part21 {c : Dev nD} {R : sProp 𝕄} {B : Bufs} (H : Mem (F := F) c R B) (i : grid0.Coords) (v227 v251 c1_i32_143 k0_t12) :
    Safe c R (k0_part21 i B.a2 B.w2 B.a3 B.w3 B.a4 B.w4 B.a5 B.w5 B.a6 B.w6 B.a7 B.w7 B.a8 B.w8 B.a9 B.w9 B.a10 B.w10 B.a11 B.w11 v227 v251 c1_i32_143 k0_t12) := by
  rw [k0_part21_eq_skeleton]; unfold k0_part21_skel; try dsimp only
  repeat' first | (with_reducible first | exact Safe.pure _ | refine Safe.bind ?_ fun _ => ?_ | exact Safe.load H.h11.lends) | split

theorem s_part22 {c : Dev nD} {R : sProp 𝕄} {B : Bufs} (H : Mem (F := F) c R B) (i : grid0.Coords) (v227 k0_t12 arg15 v262 v271 v309 v311) :
    Safe c R (k0_part22 i B.a2 B.w2 B.a3 B.w3 B.a4 B.w4 B.a5 B.w5 B.a6 B.w6 B.a7 B.w7 B.a8 B.w8 B.a9 B.w9 B.a10 B.w10 B.a11 B.w11 v227 k0_t12 arg15 v262 v271 v309 v311) := by
  rw [k0_part22_eq_skeleton]; unfold k0_part22_skel; try dsimp only
  repeat' first | (with_reducible first | exact Safe.pure _ | refine Safe.bind ?_ fun _ => ?_ | exact Safe.load H.h11.lends) | split

theorem s_t12 {c : Dev nD} {R : sProp 𝕄} {B : Bufs} (H : Mem (F := F) c R B) (i : grid0.Coords) (v0 v5 v31 v60 v66 k0_t10 arg13 v251) :
    ∀ k acc, Safe c R (k0_t12_body i B.a2 B.w2 B.a3 B.w3 B.a4 B.w4 B.a5 B.w5 B.a6 B.w6 B.a7 B.w7 B.a8 B.w8 B.a9 B.w9 B.a10 B.w10 B.a11 B.w11 v0 v5 v31 v60 v66 k0_t10 arg13 v251 k acc) := by
  intro k acc; unfold k0_t12_body; try dsimp only
  repeat' first | (with_reducible first | exact Safe.pure _ | refine Safe.bind ?_ fun _ => ?_ | exact s_part21 H .. | exact s_part22 H ..) | split

theorem s_t10 {c : Dev nD} {R : sProp 𝕄} {B : Bufs} (H : Mem (F := F) c R B) (i : grid0.Coords) (v0 v5 v31 v60 v66) :
    ∀ k acc, Safe c R (k0_t10_body i B.a2 B.w2 B.a3 B.w3 B.a4 B.w4 B.a5 B.w5 B.a6 B.w6 B.a7 B.w7 B.a8 B.w8 B.a9 B.w9 B.a10 B.w10 B.a11 B.w11 v0 v5 v31 v60 v66 k acc) := by
  intro k acc; unfold k0_t10_body; try dsimp only
  repeat' first | (with_reducible first | exact Safe.pure _ | refine Safe.bind ?_ fun _ => ?_ | exact Safe.loop fun _ _ => s_t11 H .. | exact Safe.loop fun _ _ => s_t12 H ..) | split

theorem s_t13 {c : Dev nD} {R : sProp 𝕄} {B : Bufs} (H : Mem (F := F) c R B) (i : grid0.Coords) (v0 v5 v31 v60 v66 v68) :
    ∀ k acc, Safe c R (k0_t13_body i B.a2 B.w2 B.a3 B.w3 B.a4 B.w4 B.a5 B.w5 B.a6 B.w6 B.a7 B.w7 B.a8 B.w8 B.a9 B.w9 B.a10 B.w10 B.a11 B.w11 v0 v5 v31 v60 v66 v68 k acc) := by
  intro k acc; unfold k0_t13_body; try dsimp only
  repeat' first | (with_reducible first | exact Safe.pure _ | refine Safe.bind ?_ fun _ => ?_ | exact Safe.load H.h9.lends) | split

theorem s_t14 {c : Dev nD} {R : sProp 𝕄} {B : Bufs} (H : Mem (F := F) c R B) (i : grid0.Coords) (v0 v5 v31 v60 v66 v68) :
    ∀ k acc, Safe c R (k0_t14_body i B.a2 B.w2 B.a3 B.w3 B.a4 B.w4 B.a5 B.w5 B.a6 B.w6 B.a7 B.w7 B.a8 B.w8 B.a9 B.w9 B.a10 B.w10 B.a11 B.w11 v0 v5 v31 v60 v66 v68 k acc) := by
  intro k acc; unfold k0_t14_body; try dsimp only
  repeat' first | (with_reducible first | exact Safe.pure _ | refine Safe.bind ?_ fun _ => ?_ | exact Safe.load H.h9.lends) | split

theorem s_part33 {c : Dev nD} {R : sProp 𝕄} {B : Bufs} (H : Mem (F := F) c R B) (i : grid0.Coords) (v0 v5 v31 v60 v66) :
    Safe c R (k0_part33 i B.a2 B.w2 B.a3 B.w3 B.a4 B.w4 B.a5 B.w5 B.a6 B.w6 B.a7 B.w7 B.a8 B.w8 B.a9 B.w9 B.a10 B.w10 B.a11 B.w11 v0 v5 v31 v60 v66) := by
  rw [k0_part33_eq_skeleton]; unfold k0_part33_skel; try dsimp only
  repeat' first | (with_reducible first | exact Safe.pure _ | refine Safe.bind ?_ fun _ => ?_ | exact Safe.loop fun _ _ => s_t10 H .. | exact Safe.loop fun _ _ => s_t13 H .. | exact Safe.loop fun _ _ => s_t14 H ..) | split

theorem s_t15 {c : Dev nD} {R : sProp 𝕄} {B : Bufs} (H : Mem (F := F) c R B) (i : grid0.Coords) (v5 v71 v99 v100 c2_i32_54 v101 v103) :
    ∀ k acc, Safe c R (k0_t15_body i B.a2 B.w2 B.a3 B.w3 B.a4 B.w4 B.a5 B.w5 B.a6 B.w6 B.a7 B.w7 B.a8 B.w8 B.a9 B.w9 B.a10 B.w10 B.a11 B.w11 v5 v71 v99 v100 c2_i32_54 v101 v103 k acc) := by
  intro k acc; unfold k0_t15_body; try dsimp only
  repeat' first | (with_reducible first | exact Safe.pure _ | refine Safe.bind ?_ fun _ => ?_ | exact Safe.load H.h9.lends) | split

theorem s_t16 {c : Dev nD} {R : sProp 𝕄} {B : Bufs} (H : Mem (F := F) c R B) (i : grid0.Coords) (v5 v71 v99 v100 c2_i32_54 v101 v103) :
    ∀ k acc, Safe c R (k0_t16_body i B.a2 B.w2 B.a3 B.w3 B.a4 B.w4 B.a5 B.w5 B.a6 B.w6 B.a7 B.w7 B.a8 B.w8 B.a9 B.w9 B.a10 B.w10 B.a11 B.w11 v5 v71 v99 v100 c2_i32_54 v101 v103 k acc) := by
  intro k acc; unfold k0_t16_body; try dsimp only
  repeat' first | (with_reducible first | exact Safe.pure _ | refine Safe.bind ?_ fun _ => ?_ | exact Safe.load H.h9.lends) | split

theorem s_part34 {c : Dev nD} {R : sProp 𝕄} {B : Bufs} (H : Mem (F := F) c R B) (i : grid0.Coords) (v5 v71 v99 v100 c2_i32_54 v101 v103) :
    Safe c R (k0_part34 i B.a2 B.w2 B.a3 B.w3 B.a4 B.w4 B.a5 B.w5 B.a6 B.w6 B.a7 B.w7 B.a8 B.w8 B.a9 B.w9 B.a10 B.w10 B.a11 B.w11 v5 v71 v99 v100 c2_i32_54 v101 v103) := by
  rw [k0_part34_eq_skeleton]; unfold k0_part34_skel; try dsimp only
  repeat' first | (with_reducible first | exact Safe.pure _ | refine Safe.bind ?_ fun _ => ?_ | exact Safe.loop fun _ _ => s_t15 H .. | exact Safe.loop fun _ _ => s_t16 H ..) | split

theorem s_t18 {c : Dev nD} {R : sProp 𝕄} {B : Bufs} (H : Mem (F := F) c R B) (i : grid0.Coords) (v0 v5 v71 v129 v132 v134 v143 k0_t17 arg13) :
    ∀ k acc, Safe c R (k0_t18_body i B.a2 B.w2 B.a3 B.w3 B.a4 B.w4 B.a5 B.w5 B.a6 B.w6 B.a7 B.w7 B.a8 B.w8 B.a9 B.w9 B.a10 B.w10 B.a11 B.w11 v0 v5 v71 v129 v132 v134 v143 k0_t17 arg13 k acc) := by
  intro k acc; unfold k0_t18_body; try dsimp only
  repeat' first | (with_reducible first | exact Safe.pure _ | refine Safe.bind ?_ fun _ => ?_ | exact Safe.load H.h9.lends) | split

theorem s_t19 {c : Dev nD} {R : sProp 𝕄} {B : Bufs} (H : Mem (F := F) c R B) (i : grid0.Coords) (v0 v5 v71 v129 v132 v134 v143 k0_t17 arg13) :
    ∀ k acc, Safe c R (k0_t19_body i B.a2 B.w2 B.a3 B.w3 B.a4 B.w4 B.a5 B.w5 B.a6 B.w6 B.a7 B.w7 B.a8 B.w8 B.a9 B.w9 B.a10 B.w10 B.a11 B.w11 v0 v5 v71 v129 v132 v134 v143 k0_t17 arg13 k acc) := by
  intro k acc; unfold k0_t19_body; try dsimp only
  repeat' first | (with_reducible first | exact Safe.pure _ | refine Safe.bind ?_ fun _ => ?_ | exact Safe.load H.h9.lends) | split

theorem s_t17 {c : Dev nD} {R : sProp 𝕄} {B : Bufs} (H : Mem (F := F) c R B) (i : grid0.Coords) (v0 v5 v71 v129 v132 v134 v143) :
    ∀ k acc, Safe c R (k0_t17_body i B.a2 B.w2 B.a3 B.w3 B.a4 B.w4 B.a5 B.w5 B.a6 B.w6 B.a7 B.w7 B.a8 B.w8 B.a9 B.w9 B.a10 B.w10 B.a11 B.w11 v0 v5 v71 v129 v132 v134 v143 k acc) := by
  intro k acc; unfold k0_t17_body; try dsimp only
  repeat' first | (with_reducible first | exact Safe.pure _ | refine Safe.bind ?_ fun _ => ?_ | exact Safe.loop fun _ _ => s_t18 H .. | exact Safe.loop fun _ _ => s_t19 H ..) | split

theorem s_part35 {c : Dev nD} {R : sProp 𝕄} {B : Bufs} (H : Mem (F := F) c R B) (i : grid0.Coords) (v0 v5 v71 v129 v132 v134 v143) :
    Safe c R (k0_part35 i B.a2 B.w2 B.a3 B.w3 B.a4 B.w4 B.a5 B.w5 B.a6 B.w6 B.a7 B.w7 B.a8 B.w8 B.a9 B.w9 B.a10 B.w10 B.a11 B.w11 v0 v5 v71 v129 v132 v134 v143) := by
  rw [k0_part35_eq_skeleton]; unfold k0_part35_skel; try dsimp only
  repeat' first | (with_reducible first | exact Safe.pure _ | refine Safe.bind ?_ fun _ => ?_ | exact Safe.loop fun _ _ => s_t17 H ..) | split

theorem s_part23 {c : Dev nD} {R : sProp 𝕄} {B : Bufs} (H : Mem (F := F) c R B) (i : grid0.Coords) (v5 v71 v149 c0_i32_100 c1_i32_102 k0_t20) :
    Safe c R (k0_part23 i B.a2 B.w2 B.a3 B.w3 B.a4 B.w4 B.a5 B.w5 B.a6 B.w6 B.a7 B.w7 B.a8 B.w8 B.a9 B.w9 B.a10 B.w10 B.a11 B.w11 v5 v71 v149 c0_i32_100 c1_i32_102 k0_t20) := by
  rw [k0_part23_eq_skeleton]; unfold k0_part23_skel; try dsimp only
  repeat' first | (with_reducible first | exact Safe.pure _ | refine Safe.bind ?_ fun _ => ?_ | exact Safe.load H.h4 | exact Safe.load H.h6 | exact Safe.load H.h7 | exact Safe.load H.h9.lends) | split

theorem s_part24 {c : Dev nD} {R : sProp 𝕄} {B : Bufs} (H : Mem (F := F) c R B) (i : grid0.Coords) (v235 v238 v241) :
    Safe c R (k0_part24 i B.a2 B.w2 B.a3 B.w3 B.a4 B.w4 B.a5 B.w5 B.a6 B.w6 B.a7 B.w7 B.a8 B.w8 B.a9 B.w9 B.a10 B.w10 B.a11 B.w11 v235 v238 v241) := by
  rw [k0_part24_eq_skeleton]; unfold k0_part24_skel; try dsimp only
  repeat' first | (with_reducible first | exact Safe.pure _ | refine Safe.bind ?_ fun _ => ?_ | exact Safe.load H.h4) | split

theorem s_part25 {c : Dev nD} {R : sProp 𝕄} {B : Bufs} (H : Mem (F := F) c R B) (i : grid0.Coords) (arg13 arg14 arg15 arg16 arg17 arg18 arg19 arg20 v235 v241 v252 v257 v262 v267 v272 v277 v279 cst_188) :
    Safe c R (k0_part25 i B.a2 B.w2 B.a3 B.w3 B.a4 B.w4 B.a5 B.w5 B.a6 B.w6 B.a7 B.w7 B.a8 B.w8 B.a9 B.w9 B.a10 B.w10 B.a11 B.w11 arg13 arg14 arg15 arg16 arg17 arg18 arg19 arg20 v235 v241 v252 v257 v262 v267 v272 v277 v279 cst_188) := by
  rw [k0_part25_eq_skeleton]; unfold k0_part25_skel; try dsimp only
  repeat' first | (with_reducible first | exact Safe.pure _ | refine Safe.bind ?_ fun _ => ?_ | exact Safe.load H.h4) | split

theorem s_part26 {c : Dev nD} {R : sProp 𝕄} {B : Bufs} (H : Mem (F := F) c R B) (i : grid0.Coords) (arg20 arg21 arg22 arg23 arg24 arg25 arg26 arg27 v252 v257 v262 v267 v272 v277 v282 v287 v290 v293 v296 v299 v302 v305 v308 v311 v313 v315 v317 v319 v321 v323 v324) :
    Safe c R (k0_part26 i B.a2 B.w2 B.a3 B.w3 B.a4 B.w4 B.a5 B.w5 B.a6 B.w6 B.a7 B.w7 B.a8 B.w8 B.a9 B.w9 B.a10 B.w10 B.a11 B.w11 arg20 arg21 arg22 arg23 arg24 arg25 arg26 arg27 v252 v257 v262 v267 v272 v277 v282 v287 v290 v293 v296 v299 v302 v305 v308 v311 v313 v315 v317 v319 v321 v323 v324) := by
  rw [k0_part26_eq_skeleton]; unfold k0_part26_skel; try dsimp only
  repeat' first | (with_reducible first | exact Safe.pure _ | refine Safe.bind ?_ fun _ => ?_) | split

theorem s_t20 {c : Dev nD} {R : sProp 𝕄} {B : Bufs} (H : Mem (F := F) c R B) (i : grid0.Coords) (v5 v71 v149 v150 v151 v152 v153 v154 v155 v156 v157 v158 v159 v160 v161 v162 v163 v164 v165 v166 v167 v168 v169 v170 v171 v172 v173 c0_i32_100 v174 c1_i32_101) :
    ∀ k acc, Safe c R (k0_t20_body i B.a2 B.w2 B.a3 B.w3 B.a4 B.w4 B.a5 B.w5 B.a6 B.w6 B.a7 B.w7 B.a8 B.w8 B.a9 B.w9 B.a10 B.w10 B.a11 B.w11 v5 v71 v149 v150 v151 v152 v153 v154 v155 v156 v157 v158 v159 v160 v161 v162 v163 v164 v165 v166 v167 v168 v169 v170 v171 v172 v173 c0_i32_100 v174 c1_i32_101 k acc) := by
  intro k acc; unfold k0_t20_body; try dsimp only
  repeat' first | (with_reducible first | exact Safe.pure _ | refine Safe.bind ?_ fun _ => ?_ | exact s_part23 H .. | exact s_part24 H .. | exact s_part25 H .. | exact s_part26 H ..) | split

theorem s_part27 {c : Dev nD} {R : sProp 𝕄} {B : Bufs} (H : Mem (F := F) c R B) (i : grid0.Coords) (v5 v71 v149 v178 c1_i32_103 k0_t21) :
    Safe c R (k0_part27 i B.a2 B.w2 B.a3 B.w3 B.a4 B.w4 B.a5 B.w5 B.a6 B.w6 B.a7 B.w7 B.a8 B.w8 B.a9 B.w9 B.a10 B.w10 B.a11 B.w11 v5 v71 v149 v178 c1_i32_103 k0_t21) := by
  rw [k0_part27_eq_skeleton]; unfold k0_part27_skel; try dsimp only
  repeat' first | (with_reducible first | exact Safe.pure _ | refine Safe.bind ?_ fun _ => ?_ | exact Safe.load H.h4 | exact Safe.load H.h6 | exact Safe.load H.h7 | exact Safe.load H.h9.lends) | split

theorem s_part28 {c : Dev nD} {R : sProp 𝕄} {B : Bufs} (H : Mem (F := F) c R B) (i : grid0.Coords) (v235 v238 v241) :
    Safe c R (k0_part28 i B.a2 B.w2 B.a3 B.w3 B.a4 B.w4 B.a5 B.w5 B.a6 B.w6 B.a7 B.w7 B.a8 B.w8 B.a9 B.w9 B.a10 B.w10 B.a11 B.w11 v235 v238 v241) := by
  rw [k0_part28_eq_skeleton]; unfold k0_part28_skel; try dsimp only
  repeat' first | (with_reducible first | exact Safe.pure _ | refine Safe.bind ?_ fun _ => ?_ | exact Safe.load H.h4) | split

theorem s_part29 {c : Dev nD} {R : sProp 𝕄} {B : Bufs} (H : Mem (F := F) c R B) (i : grid0.Coords) (arg13 arg14 arg15 arg16 arg17 arg18 arg19 arg20 v235 v241 v252 v257 v262 v267 v272 v277 v279 cst_188) :
    Safe c R (k0_part29 i B.a2 B.w2 B.a3 B.w3 B.a4 B.w4 B.a5 B.w5 B.a6 B.w6 B.a7 B.w7 B.a8 B.w8 B.a9 B.w9 B.a10 B.w10 B.a11 B.w11 arg13 arg14 arg15 arg16 arg17 arg18 arg19 arg20 v235 v241 v252 v257 v262 v267 v272 v277 v279 cst_188) := by
  rw [k0_part29_eq_skeleton]; unfold k0_part29_skel; try dsimp only
  repeat' first | (with_reducible first | exact Safe.pure _ | refine Safe.bind ?_ fun _ => ?_ | exact Safe.load H.h4) | split

theorem s_part30 {c : Dev nD} {R : sProp 𝕄} {B : Bufs} (H : Mem (F := F) c R B) (i : grid0.Coords) (arg20 arg21 arg22 arg23 arg24 arg25 arg26 arg27 v252 v257 v262 v267 v272 v277 v282 v287 v290 v293 v296 v299 v302 v305 v308 v311 v313 v315 v317 v319 v321 v323 v324) :
    Safe c R (k0_part30 i B.a2 B.w2 B.a3 B.w3 B.a4 B.w4 B.a5 B.w5 B.a6 B.w6 B.a7 B.w7 B.a8 B.w8 B.a9 B.w9 B.a10 B.w10 B.a11 B.w11 arg20 arg21 arg22 arg23 arg24 arg25 arg26 arg27 v252 v257 v262 v267 v272 v277 v282 v287 v290 v293 v296 v299 v302 v305 v308 v311 v313 v315 v317 v319 v321 v323 v324) := by
  rw [k0_part30_eq_skeleton]; unfold k0_part30_skel; try dsimp only
  repeat' first | (with_reducible first | exact Safe.pure _ | refine Safe.bind ?_ fun _ => ?_) | split

theorem s_t21 {c : Dev nD} {R : sProp 𝕄} {B : Bufs} (H : Mem (F := F) c R B) (i : grid0.Coords) (v5 v71 v149 v150 v151 v152 v153 v154 v155 v156 v157 v158 v159 v160 v161 v162 v163 v164 v165 v166 v167 v168 v169 v170 v171 v172 v173 c0_i32_100 v174 c1_i32_101 v178) :
    ∀ k acc, Safe c R (k0_t21_body i B.a2 B.w2 B.a3 B.w3 B.a4 B.w4 B.a5 B.w5 B.a6 B.w6 B.a7 B.w7 B.a8 B.w8 B.a9 B.w9 B.a10 B.w10 B.a11 B.w11 v5 v71 v149 v150 v151 v152 v153 v154 v155 v156 v157 v158 v159 v160 v161 v162 v163 v164 v165 v166 v167 v168 v169 v170 v171 v172 v173 c0_i32_100 v174 c1_i32_101 v178 k acc) := by
  intro k acc; unfold k0_t21_body; try dsimp only
  repeat' first | (with_reducible first | exact Safe.pure _ | refine Safe.bind ?_ fun _ => ?_ | exact s_part27 H .. | exact s_part28 H .. | exact s_part29 H .. | exact s_part30 H ..) | split

theorem s_part36 {c : Dev nD} {R : sProp 𝕄} {B : Bufs} (H : Mem (F := F) c R B) (i : grid0.Coords) (v5 v71 v149 v150 v151 v152 v153 v154 v155 v156 v157 v158 v159 v160 v161 v162 v163 v164 v165 v166 v167 v168 v169 v170 v171 v172 v173 c0_i32_100 v174 c1_i32_101) :
    Safe c R (k0_part36 i B.a2 B.w2 B.a3 B.w3 B.a4 B.w4 B.a5 B.w5 B.a6 B.w6 B.a7 B.w7 B.a8 B.w8 B.a9 B.w9 B.a10 B.w10 B.a11 B.w11 v5 v71 v149 v150 v151 v152 v153 v154 v155 v156 v157 v158 v159 v160 v161 v162 v163 v164 v165 v166 v167 v168 v169 v170 v171 v172 v173 c0_i32_100 v174 c1_i32_101) := by
  rw [k0_part36_eq_skeleton]; unfold k0_part36_skel; try dsimp only
  repeat' first | (with_reducible first | exact Safe.pure _ | refine Safe.bind ?_ fun _ => ?_ | exact Safe.load H.h8.lends | exact Safe.store H.h8 | exact Safe.loop fun _ _ => s_t20 H .. | exact Safe.loop fun _ _ => s_t21 H ..) | split

theorem s_cc0_dsa_attention {c : Dev nD} {R : sProp 𝕄} {B : Bufs} (H : Mem (F := F) c R B) (i : grid0.Coords) :
    Safe c R (cc0_dsa_attention i B.a2 B.w2 B.a3 B.w3 B.a4 B.w4 B.a5 B.w5 B.a6 B.w6 B.a7 B.w7 B.a8 B.w8 B.a9 B.w9 B.a10 B.w10 B.a11 B.w11) := by
  rw [cc0_dsa_attention_eq_skeleton]; unfold cc0_dsa_attention_skel; try dsimp only
  repeat' first | (with_reducible first | exact Safe.pure _ | refine Safe.bind ?_ fun _ => ?_ | exact Safe.load H.h8.lends | exact Safe.store H.h8 | exact s_part31 H .. | exact s_part32 H .. | exact s_part33 H .. | exact s_part34 H .. | exact s_part35 H .. | exact s_part36 H ..) | split

end Cert.Proof.Attn

end
-- ==== Proof.AttnFrame.lean ====
module

public import proofs.«01_k».proof.Proof.AttnSafe
public import Idealize.ShloMosaic.Lib.Pipeline.Value

@[expose] public section

noncomputable section

namespace Cert.Proof.Attn

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [BitOps F]

local notation "𝕄" => MT nD τ sig Unit (Elt F) ℕ (UR sig nD τ) ℕ

/-! ## Lending out of a conjunction -/

theorem Lends.left {c : Dev nD} {A B : sProp 𝕄} {sp : Space} {S : Shape} {e : EltTy} {M : Memref sig .tc sp S e}
    (h : Lends (F := F) c A M) : Lends (F := F) c iprop(A ∗ B) M := by
  unfold Lends at *
  refine (sep_mono h .rfl).trans ?_
  iintro ⟨⟨%f, H, Hk⟩, Ho⟩
  iexists f
  isplitl [H]; · iexact H
  iintro H
  isplitl [Hk H]
  · iapply Hk; iexact H
  iexact Ho

theorem Lends.right {c : Dev nD} {A B : sProp 𝕄} {sp : Space} {S : Shape} {e : EltTy} {M : Memref sig .tc sp S e}
    (h : Lends (F := F) c B M) : Lends (F := F) c iprop(A ∗ B) M := by
  unfold Lends at *
  refine (sep_mono .rfl h).trans ?_
  iintro ⟨Ho, ⟨%f, H, Hk⟩⟩
  iexists f
  isplitl [H]; · iexact H
  iintro H
  isplitl [Ho]; · iexact Ho
  iapply Hk; iexact H

theorem Gives.left {c : Dev nD} {A B : sProp 𝕄} {sp : Space} {S : Shape} {e : EltTy} {M : Memref sig .tc sp S e}
    (h : Gives (F := F) c A M) : Gives (F := F) c iprop(A ∗ B) M := by
  unfold Gives at *
  refine (sep_mono h .rfl).trans ?_
  iintro ⟨⟨%f, H, Hk⟩, Ho⟩
  iexists f
  isplitl [H]; · iexact H
  iintro %g H
  isplitl [Hk H]
  · iapply Hk; iexact H
  iexact Ho

theorem Gives.right {c : Dev nD} {A B : sProp 𝕄} {sp : Space} {S : Shape} {e : EltTy} {M : Memref sig .tc sp S e}
    (h : Gives (F := F) c B M) : Gives (F := F) c iprop(A ∗ B) M := by
  unfold Gives at *
  refine (sep_mono .rfl h).trans ?_
  iintro ⟨Ho, ⟨%f, H, Hk⟩⟩
  iexists f
  isplitl [H]; · iexact H
  iintro %g H
  isplitl [Ho]; · iexact Ho
  iapply Hk; iexact H

theorem lends_owns (c : Dev nD) {sp : Space} {S : Shape} {e : EltTy} (M : Memref sig .tc sp S e) (x : S.Idx → Elt F e) :
    Lends (F := F) c (owns (c : Thread nD τ) M fullShare x) M := by
  unfold Lends owns
  iintro ⟨%f, %hf, H⟩
  iexists f
  isplitl [H]; · iexact H
  iintro H
  iexists f
  isplitr; · ipureintro; exact hf
  iexact H

theorem gives_owns (c : Dev nD) {sp : Space} {S : Shape} {e : EltTy} (M : Memref sig .tc sp S e) :
    Gives (F := F) c iprop(∃ X, owns (c : Thread nD τ) M fullShare X) M := by
  unfold Gives owns
  iintro ⟨%X, %f, -, H⟩
  iexists f
  isplitl [H]; · iexact H
  iintro %g H
  iexists (M.view.read (Elt F) g); iexists g
  isplitr; · ipureintro; rfl
  iexact H

theorem gives_scratch0 (c : Dev nD) :
    Gives (F := F) c iprop(∃ f : Buf (Elt F) ((c : Thread nD τ).loc cc0_scratch0), ((c : Thread nD τ).loc cc0_scratch0) ↦{fullShare} f) (Memref.whole cc0_scratch0) := by
  unfold Gives pt
  rw [show (Memref.whole cc0_scratch0).view.set = Finset.univ from View.set_whole _]
  iintro ⟨%f, H⟩
  iexists f
  isplitl [H]; · iexact H
  iintro %g H
  iexists g; iexact H

theorem gives_scratch1 (c : Dev nD) :
    Gives (F := F) c iprop(∃ f : Buf (Elt F) ((c : Thread nD τ).loc cc0_scratch1), ((c : Thread nD τ).loc cc0_scratch1) ↦{fullShare} f) (Memref.whole cc0_scratch1) := by
  unfold Gives pt
  rw [show (Memref.whole cc0_scratch1).view.set = Finset.univ from View.set_whole _]
  iintro ⟨%f, H⟩
  iexists f
  isplitl [H]; · iexact H
  iintro %g H
  iexists g; iexact H

theorem gives_scratch2 (c : Dev nD) :
    Gives (F := F) c iprop(∃ f : Buf (Elt F) ((c : Thread nD τ).loc cc0_scratch2), ((c : Thread nD τ).loc cc0_scratch2) ↦{fullShare} f) (Memref.whole cc0_scratch2) := by
  unfold Gives pt
  rw [show (Memref.whole cc0_scratch2).view.set = Finset.univ from View.set_whole _]
  iintro ⟨%f, H⟩
  iexists f
  isplitl [H]; · iexact H
  iintro %g H
  iexists g; iexact H

/-! ## The body -/

/-- What the body is called with and returns: its own scratch at some contents, two things it leaves alone, the inputs at
    what they hold, the output at some contents. -/
def held (c : Dev nD) (P O : sProp 𝕄)
    (M2 : Memref sig .tc .vmem S1x16x64x256 .bf16)
    (M3 : Memref sig .tc .vmem S1x16x256 .f32)
    (M4 : Memref sig .tc .vmem S1x8x64x256 .bf16)
    (M5 : Memref sig .tc .vmem S1x16x256x64 .bf16)
    (M6 : Memref sig .tc .vmem S1x2x16x256x64 .bf16)
    (M7 : Memref sig .tc .vmem S1x2x16x64x256 .bf16)
    (M8 : Memref sig .tc .vmem S1x8x64x256 .f32)
    (x2 : Vec F S1x16x64x256 .bf16) (x3 : Vec F S1x16x256 .f32) (x4 : Vec F S1x8x64x256 .bf16) (x5 : Vec F S1x16x256x64 .bf16) (x6 : Vec F S1x2x16x256x64 .bf16) (x7 : Vec F S1x2x16x64x256 .bf16) : sProp 𝕄 :=
  iprop((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f)) ∗ P) ∗ O
    ∗ owns (c : Thread nD τ) M2 fullShare x2
    ∗ owns (c : Thread nD τ) M3 fullShare x3
    ∗ owns (c : Thread nD τ) M4 fullShare x4
    ∗ owns (c : Thread nD τ) M5 fullShare x5
    ∗ owns (c : Thread nD τ) M6 fullShare x6
    ∗ owns (c : Thread nD τ) M7 fullShare x7
    ∗ (∃ X, owns (c : Thread nD τ) M8 fullShare X))

/-- The body runs without fault on them and returns the same. -/
theorem sound (c : Dev nD) (i : grid0.Coords) (P O : sProp 𝕄)
    (M2 : Memref sig .tc .vmem S1x16x64x256 .bf16) (h2 : M2.IsWhole)
    (M3 : Memref sig .tc .vmem S1x16x256 .f32) (h3 : M3.IsWhole)
    (M4 : Memref sig .tc .vmem S1x8x64x256 .bf16) (h4 : M4.IsWhole)
    (M5 : Memref sig .tc .vmem S1x16x256x64 .bf16) (h5 : M5.IsWhole)
    (M6 : Memref sig .tc .vmem S1x2x16x256x64 .bf16) (h6 : M6.IsWhole)
    (M7 : Memref sig .tc .vmem S1x2x16x64x256 .bf16) (h7 : M7.IsWhole)
    (M8 : Memref sig .tc .vmem S1x8x64x256 .f32) (h8 : M8.IsWhole)
    (x2 : Vec F S1x16x64x256 .bf16) (x3 : Vec F S1x16x256 .f32) (x4 : Vec F S1x8x64x256 .bf16) (x5 : Vec F S1x16x256x64 .bf16) (x6 : Vec F S1x2x16x256x64 .bf16) (x7 : Vec F S1x2x16x64x256 .bf16) :
    Safe (F := F) c (held c P O M2 M3 M4 M5 M6 M7 M8 x2 x3 x4 x5 x6 x7)
      (cc0_dsa_attention i M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _)) := by
  unfold held
  exact s_cc0_dsa_attention (B := ⟨M2, h2, M3, h3, M4, h4, M5, h5, M6, h6, M7, h7, M8, h8, Memref.whole cc0_scratch0, Memref.isWhole_whole _, Memref.whole cc0_scratch1, Memref.isWhole_whole _, Memref.whole cc0_scratch2, Memref.isWhole_whole _⟩)
    ⟨.right (.right (.left (lends_owns c M2 x2))),
      .right (.right (.right (.left (lends_owns c M3 x3)))),
      .right (.right (.right (.right (.left (lends_owns c M4 x4))))),
      .right (.right (.right (.right (.right (.left (lends_owns c M5 x5)))))),
      .right (.right (.right (.right (.right (.right (.left (lends_owns c M6 x6))))))),
      .right (.right (.right (.right (.right (.right (.right (.left (lends_owns c M7 x7)))))))),
      .right (.right (.right (.right (.right (.right (.right (.right (gives_owns c M8)))))))),
      .left (.left (.left (gives_scratch0 c))),
      .left (.left (.right (.left (gives_scratch1 c)))),
      .left (.left (.right (.right (gives_scratch2 c))))⟩ i

/-! ## The pipeline's proof data -/

variable (m : (ℓ : Loc nD τ sig) → Buf (Elt F) ℓ) (ρ : Dev nD → PrngReg)

/-- Each input's buffer keeps its block; of the output nothing is said (`fgt`), the value here being read by no one. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- The output window is forgotten. -/
def fgt : Fin 7 → Bool
  | ⟨0, _⟩ => false
  | ⟨1, _⟩ => false
  | ⟨2, _⟩ => false
  | ⟨3, _⟩ => false
  | ⟨4, _⟩ => false
  | ⟨5, _⟩ => false
  | ⟨6, _⟩ => true

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

/-- What the body holds at point `t`. -/
def heldAt (c : Dev nD) (t : Fin cfg0.N) : sProp 𝕄 :=
  held c iprop(∃ r, prngReg c r) ((dats m 0 c).owesAt () t.castSucc)
    (st0_0 t) (st0_1 t) (st0_2 t) (st0_3 t) (st0_4 t) (st0_5 t) (st0_6 t)
    (iblk m c 0 t) (iblk m c 1 t) (iblk m c 2 t) (iblk m c 3 t) (iblk m c 4 t) (iblk m c 5 t)

theorem post_eq (c : Dev nD) (t : Fin cfg0.N) : bodyPost m c t = heldAt m c t := by
  unfold bodyPost heldAt held
  rw [show (dats m 0 c).Φ t.succ = Pipeline.ΦA spec0 c from rfl,
    show (dats m 0 c).owesAt () t.succ = (dats m 0 c).owesAt () t.castSucc from rfl,
    after_0, after_1, after_2, after_3, after_4, after_5]
  unfold Pipeline.ΦA
  rw [scopedRest0_eq]
  rfl

theorem pre_le (c : Dev nD) (t : Fin cfg0.N) : bodyPre m c t ⊢ heldAt m c t := by
  rw [← post_eq]
  unfold bodyPre bodyPost
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨Hp, Ho, ⟨%d0, H0⟩, ⟨%d1, H1⟩, ⟨%d2, H2⟩, ⟨%d3, H3⟩, ⟨%d4, H4⟩, ⟨%d5, H5⟩, HX⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact HX

/-- The body at any point. -/
theorem sound_body (c : Dev nD) (t : Fin cfg0.N) :
    bodyPre m c t ⊢ wp frame (wpE (defs₀ (F := F)) Variants.none c none) Set.univ (bodyAt0 t) (fun _ => bodyPost m c t) := by
  rw [post_eq]
  exact (pre_le m c t).trans (sound c (grid0.coords t) _ _ _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
    (iblk m c 0 t) (iblk m c 1 t) (iblk m c 2 t) (iblk m c 3 t) (iblk m c 4 t) (iblk m c 5 t))

theorem defs₀_row (t : Fin cfg0.N) : defs₀ (F := F) .tc cfg0.body (cfg0.bodyArgs t (cfg0.slots t)) = bodyAt0 t := by
  unfold defs₀; rw [Defs.onTc_tc]

/-- The library's body obligation at every point, the output window forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution ends, with the input arrays and those no window stages as launched and every counter at zero. -/
theorem run_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨?_, h.2⟩) (run_quiescent m ρ)
  exact fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c))⟩

end Cert.Proof.Attn

end
-- ==== Proof.lean ====
module

public import proofs.«01_k».proof.Defs
public import proofs.«01_k».proof.Proof.GatherValue
public import proofs.«01_k».proof.Proof.WordGatherPre
public import proofs.«01_k».proof.Proof.MergeValue
public import proofs.«01_k».proof.Proof.FinalValue
public import proofs.«01_k».proof.Proof.InProjValue
public import proofs.«01_k».proof.Proof.Gen.Merge.Frame
public import proofs.«01_k».proof.Proof.Gen.Final.Frame
public import proofs.«01_k».proof.Proof.Gen.InProj.Frame
public import proofs.«01_k».proof.Proof.Gen.InProjIdeal.Frame
public import proofs.«01_k».proof.Proof.Gen.InProjRefIdeal.Run
public import proofs.«01_k».proof.Proof.AdaValue
public import proofs.«01_k».proof.Proof.Gen.Ada.Frame
public import proofs.«01_k».proof.Proof.Gen.AdaIdeal.Frame
public import proofs.«01_k».proof.Proof.Gen.Route.Frame
public import proofs.«01_k».proof.Proof.Gen.RouteIdeal.Frame
public import proofs.«01_k».proof.Proof.ScoreValue
public import proofs.«01_k».proof.Proof.WordScorePre
public import proofs.«01_k».proof.Proof.DeltaFrame
public import proofs.«01_k».proof.Proof.DeltaIdealFrame
public import proofs.«01_k».proof.Proof.AttnFrame
public import Idealize.ShloMosaic.Lib.Quiescent

@[expose] public section

noncomputable section

namespace Cert.Proof

open Idealize.ShloMosaic Idealize.SL.Sem

/-- The table-mixing reference's frame, whatever its inputs are. -/
theorem referenceFrame : Cert.quiescent_ReferenceIdeal (hReferenceIdeal := Cert.ReferenceIdeal.Gen.facts) :=
  fun m g _ => θ_run_mono (Cert.ReferenceIdeal.Value.run m g) fun _ h => ⟨fun c => (h c).2, sem_eq_zero_of_no_sems rfl _⟩

/-- The frame of the merge's reference. -/
theorem mergeRefFrame : Cert.quiescent_MergeRefIdeal (hMergeRefIdeal := Cert.MergeRefIdeal.Gen.facts) :=
  fun m g _ => θ_run_mono (Cert.MergeRefIdeal.Value.run m g) fun _ h => ⟨fun c => (h c).2.2, sem_eq_zero_of_no_sems rfl _⟩

/-- The frame of the closing norm's reference. -/
theorem finalRefFrame : Cert.quiescent_FinalRefIdeal (hFinalRefIdeal := Cert.FinalRefIdeal.Gen.facts) :=
  fun m g _ => θ_run_mono (Cert.FinalRefIdeal.Value.run m g) fun _ h => ⟨fun c => (h c).2, sem_eq_zero_of_no_sems rfl _⟩

/-- The frame of the projection's reference. -/
theorem inProjRefFrame : Cert.quiescent_InProjRefIdeal (hInProjRefIdeal := Cert.InProjRefIdeal.Gen.facts) :=
  fun m g _ => θ_run_mono (Cert.InProjRefIdeal.Value.run m g) fun _ h => ⟨fun c => (h c).2.2.2.2.2.2.2.2, sem_eq_zero_of_no_sems rfl _⟩

/-- The frame of the modulation's reference. -/
theorem adaRefFrame : Cert.quiescent_AdaRefIdeal (hAdaRefIdeal := Cert.AdaRefIdeal.Gen.facts) :=
  fun m g _ => θ_run_mono (Cert.AdaRefIdeal.Value.run m g) fun _ h => ⟨fun c => (h c).2, sem_eq_zero_of_no_sems rfl _⟩

/-- The frame of the scores' reference. -/
theorem scoresRefFrame : Cert.quiescent_ScoresRefIdeal (hScoresRefIdeal := Cert.ScoresRefIdeal.Gen.facts) :=
  fun m g _ => θ_run_mono (Cert.ScoresRefIdeal.Value.run m g) fun _ h => ⟨fun c => (h c).2, sem_eq_zero_of_no_sems rfl _⟩

/-- Every claim of the certificate. -/
theorem claim : Cert.Claim :=
  ⟨Cert.Kernel.Gen.facts, Cert.KernelIdeal.Gen.facts, Cert.ReferenceIdeal.Gen.facts, Cert.Merge.Gen.facts, Cert.MergeIdeal.Gen.facts, Cert.MergeRefIdeal.Gen.facts, Cert.Final.Gen.facts, Cert.FinalIdeal.Gen.facts, Cert.FinalRefIdeal.Gen.facts, Cert.InProj.Gen.facts, Cert.InProjIdeal.Gen.facts, Cert.InProjRefIdeal.Gen.facts, Cert.Ada.Gen.facts, Cert.AdaIdeal.Gen.facts, Cert.AdaRefIdeal.Gen.facts, Cert.Route.Gen.facts, Cert.RouteIdeal.Gen.facts, Cert.Scores.Gen.facts, Cert.ScoresIdeal.Gen.facts, Cert.ScoresRefIdeal.Gen.facts, Cert.Delta.Gen.facts, Cert.DeltaIdeal.Gen.facts, Cert.Attn.Gen.facts, Cert.Pre_in_table.Gen.facts, Cert.Pre_words_in_table.Gen.facts,
    fun m g hpre => Cert.Proof.Kernel.frame m g (Cert.Proof.Kernel.allInTab m hpre),
    fun m g hpre => Cert.Proof.KernelIdeal.frame m g (Cert.Proof.KernelIdeal.allInTab m (Cert.Proof.KernelIdeal.inTab_of_pre m hpre)),
    referenceFrame,
    fun m g _ => referenceFrame m g trivial,
    fun m g _ => Cert.Merge.Gen.frame m g,
    fun m g _ => Cert.MergeIdeal.Gen.frame m g,
    mergeRefFrame,
    fun m g _ => Cert.Final.Gen.frame m g,
    fun m g _ => Cert.FinalIdeal.Gen.frame m g,
    finalRefFrame,
    fun m g _ => Cert.InProj.Gen.frame m g,
    fun m g _ => Cert.InProjIdeal.Gen.frame m g,
    inProjRefFrame,
    fun m g _ => Cert.Ada.Gen.frame m g,
    fun m g _ => Cert.AdaIdeal.Gen.frame m g,
    adaRefFrame,
    fun m g _ => Cert.Route.Gen.frame m g,
    fun m g _ => Cert.RouteIdeal.Gen.frame m g,
    fun m g hpre => Cert.Proof.Scores.frame m g (Cert.Proof.Scores.allInTab m hpre),
    fun m g hpre => Cert.Proof.ScoresIdeal.frame m g (Cert.Proof.ScoresIdeal.allInTab m (Cert.Proof.ScoresIdeal.isRow_of_pre m hpre)),
    scoresRefFrame,
    fun m g _ => scoresRefFrame m g trivial,
    fun m g _ => Cert.Proof.Delta.frame m g,
    fun m g _ => Cert.Proof.DeltaIdeal.frame m g,
    fun m g _ => Cert.Proof.Attn.frame m g,
    trivial, algebraic_KernelIdeal_ReferenceIdeal,
    trivial, algebraic_MergeIdeal_MergeRefIdeal,
    trivial, algebraic_FinalIdeal_FinalRefIdeal,
    trivial, algebraic_InProjIdeal_InProjRefIdeal,
    trivial, algebraic_AdaIdeal_AdaRefIdeal,
    trivial,
    trivial, algebraic_ScoresIdeal_ScoresRefIdeal,
    trivial⟩

end Cert.Proof

end
